-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_GateUpGrad (m : (ℓ : Loc Cert.GateUpGrad.nD Cert.GateUpGrad.τ Cert.GateUpGrad.sig) → Buf (Elt Bits) ℓ) : Prop :=
  True

def Pre_GateUpGradIdeal (m : (ℓ : Loc Cert.GateUpGradIdeal.nD Cert.GateUpGradIdeal.τ Cert.GateUpGradIdeal.sig) → Buf (Elt Ideal) ℓ) : Prop :=
  True

def Pre_GateUpGradIdeal_finite_cotangent [hPre_finite_cotangent : Cert.Pre_finite_cotangent.Facts] (m : (ℓ : Loc Cert.GateUpGradIdeal.nD Cert.GateUpGradIdeal.τ Cert.GateUpGradIdeal.sig) → Buf (Elt Ideal) ℓ) : Prop :=
  ∀ c : Dev Cert.GateUpGradIdeal.nD,
    (Cert.Pre_finite_cotangent.fn (F := Ideal) (m ((c.tc : Thread Cert.GateUpGradIdeal.nD Cert.GateUpGradIdeal.τ).loc Cert.GateUpGradIdeal.main_arg0)) (m ((c.tc : Thread Cert.GateUpGradIdeal.nD Cert.GateUpGradIdeal.τ).loc Cert.GateUpGradIdeal.main_arg1)) (m ((c.tc : Thread Cert.GateUpGradIdeal.nD Cert.GateUpGradIdeal.τ).loc Cert.GateUpGradIdeal.main_arg2)) (m ((c.tc : Thread Cert.GateUpGradIdeal.nD Cert.GateUpGradIdeal.τ).loc Cert.GateUpGradIdeal.main_arg3))) = (fun _ => 1#1)

def Pre_GateUpGradRefIdeal (m : (ℓ : Loc Cert.GateUpGradRefIdeal.nD Cert.GateUpGradRefIdeal.τ Cert.GateUpGradRefIdeal.sig) → Buf (Elt Ideal) ℓ) : Prop :=
  True

def Pre_GateUpGradRefIdeal_finite_cotangent [hPre_finite_cotangent : Cert.Pre_finite_cotangent.Facts] (m : (ℓ : Loc Cert.GateUpGradRefIdeal.nD Cert.GateUpGradRefIdeal.τ Cert.GateUpGradRefIdeal.sig) → Buf (Elt Ideal) ℓ) : Prop :=
  ∀ c : Dev Cert.GateUpGradRefIdeal.nD,
    (Cert.Pre_finite_cotangent.fn (F := Ideal) (m ((c.tc : Thread Cert.GateUpGradRefIdeal.nD Cert.GateUpGradRefIdeal.τ).loc Cert.GateUpGradRefIdeal.main_arg0)) (m ((c.tc : Thread Cert.GateUpGradRefIdeal.nD Cert.GateUpGradRefIdeal.τ).loc Cert.GateUpGradRefIdeal.main_arg1)) (m ((c.tc : Thread Cert.GateUpGradRefIdeal.nD Cert.GateUpGradRefIdeal.τ).loc Cert.GateUpGradRefIdeal.main_arg2)) (m ((c.tc : Thread Cert.GateUpGradRefIdeal.nD Cert.GateUpGradRefIdeal.τ).loc Cert.GateUpGradRefIdeal.main_arg3))) = (fun _ => 1#1)

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainRefIdeal (m : (ℓ : Loc Cert.ProjMainRefIdeal.nD Cert.ProjMainRefIdeal.τ Cert.ProjMainRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_NormMixOut (m : (ℓ : Loc Cert.NormMixOut.nD Cert.NormMixOut.τ Cert.NormMixOut.sig) → Buf (Elt Bits) ℓ) : Prop :=
  True

def Pre_NormMixOutIdeal (m : (ℓ : Loc Cert.NormMixOutIdeal.nD Cert.NormMixOutIdeal.τ Cert.NormMixOutIdeal.sig) → Buf (Elt Ideal) ℓ) : Prop :=
  True

def Pre_NormMixOutRefIdeal (m : (ℓ : Loc Cert.NormMixOutRefIdeal.nD Cert.NormMixOutRefIdeal.τ Cert.NormMixOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_NormOutGate (m : (ℓ : Loc Cert.NormOutGate.nD Cert.NormOutGate.τ Cert.NormOutGate.sig) → Buf (Elt Bits) ℓ) : Prop :=
  True

def Pre_NormOutGateIdeal (m : (ℓ : Loc Cert.NormOutGateIdeal.nD Cert.NormOutGateIdeal.τ Cert.NormOutGateIdeal.sig) → Buf (Elt Ideal) ℓ) : Prop :=
  True

def Pre_NormOutGateRefIdeal (m : (ℓ : Loc Cert.NormOutGateRefIdeal.nD Cert.NormOutGateRefIdeal.τ Cert.NormOutGateRefIdeal.sig) → Buf (Elt Ideal) ℓ) : Prop :=
  True

def Pre_NormOutUp (m : (ℓ : Loc Cert.NormOutUp.nD Cert.NormOutUp.τ Cert.NormOutUp.sig) → Buf (Elt Bits) ℓ) : Prop :=
  True

def Pre_NormOutUpIdeal (m : (ℓ : Loc Cert.NormOutUpIdeal.nD Cert.NormOutUpIdeal.τ Cert.NormOutUpIdeal.sig) → Buf (Elt Ideal) ℓ) : Prop :=
  True

def Pre_NormOutUpRefIdeal (m : (ℓ : Loc Cert.NormOutUpRefIdeal.nD Cert.NormOutUpRefIdeal.τ Cert.NormOutUpRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_NormMixGrad (m : (ℓ : Loc Cert.NormMixGrad.nD Cert.NormMixGrad.τ Cert.NormMixGrad.sig) → Buf (Elt Bits) ℓ) : Prop :=
  True

def Pre_NormMixGradIdeal (m : (ℓ : Loc Cert.NormMixGradIdeal.nD Cert.NormMixGradIdeal.τ Cert.NormMixGradIdeal.sig) → Buf (Elt Ideal) ℓ) : Prop :=
  True

def Pre_NormMixGradRefIdeal (m : (ℓ : Loc Cert.NormMixGradRefIdeal.nD Cert.NormMixGradRefIdeal.τ Cert.NormMixGradRefIdeal.sig) → Buf (Elt Ideal) ℓ) : Prop :=
  True

def Pre_NormFfnGrad (m : (ℓ : Loc Cert.NormFfnGrad.nD Cert.NormFfnGrad.τ Cert.NormFfnGrad.sig) → Buf (Elt Bits) ℓ) : Prop :=
  True

def Pre_NormFfnGradIdeal (m : (ℓ : Loc Cert.NormFfnGradIdeal.nD Cert.NormFfnGradIdeal.τ Cert.NormFfnGradIdeal.sig) → Buf (Elt Ideal) ℓ) : Prop :=
  True

def Pre_NormFfnGradRefIdeal (m : (ℓ : Loc Cert.NormFfnGradRefIdeal.nD Cert.NormFfnGradRefIdeal.τ Cert.NormFfnGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_InDtGrad (m : (ℓ : Loc Cert.InDtGrad.nD Cert.InDtGrad.τ Cert.InDtGrad.sig) → Buf (Elt Bits) ℓ) : Prop :=
  True

def Pre_InDtGradIdeal (m : (ℓ : Loc Cert.InDtGradIdeal.nD Cert.InDtGradIdeal.τ Cert.InDtGradIdeal.sig) → Buf (Elt Ideal) ℓ) : Prop :=
  True

def Pre_InDtGradRefIdeal (m : (ℓ : Loc Cert.InDtGradRefIdeal.nD Cert.InDtGradRefIdeal.τ Cert.InDtGradRefIdeal.sig) → Buf (Elt Ideal) ℓ) : Prop :=
  True

def Pre_NormMixOutDt (m : (ℓ : Loc Cert.NormMixOutDt.nD Cert.NormMixOutDt.τ Cert.NormMixOutDt.sig) → Buf (Elt Bits) ℓ) : Prop :=
  True

def Pre_NormMixOutDtIdeal (m : (ℓ : Loc Cert.NormMixOutDtIdeal.nD Cert.NormMixOutDtIdeal.τ Cert.NormMixOutDtIdeal.sig) → Buf (Elt Ideal) ℓ) : Prop :=
  True

def Pre_NormMixOutDtRefIdeal (m : (ℓ : Loc Cert.NormMixOutDtRefIdeal.nD Cert.NormMixOutDtRefIdeal.τ Cert.NormMixOutDtRefIdeal.sig) → Buf (Elt Ideal) ℓ) : Prop :=
  True

def Pre_SsmConv (m : (ℓ : Loc Cert.SsmConv.nD Cert.SsmConv.τ Cert.SsmConv.sig) → Buf (Elt Bits) ℓ) : Prop :=
  True

def Pre_SsmConvIdeal (m : (ℓ : Loc Cert.SsmConvIdeal.nD Cert.SsmConvIdeal.τ Cert.SsmConvIdeal.sig) → Buf (Elt Ideal) ℓ) : Prop :=
  True

def Pre_SsmConvRefIdeal (m : (ℓ : Loc Cert.SsmConvRefIdeal.nD Cert.SsmConvRefIdeal.τ Cert.SsmConvRefIdeal.sig) → Buf (Elt Ideal) ℓ) : Prop :=
  True

def Pre_ShortConvFwd (m : (ℓ : Loc Cert.ShortConvFwd.nD Cert.ShortConvFwd.τ Cert.ShortConvFwd.sig) → Buf (Elt Bits) ℓ) : Prop :=
  True

def Pre_ShortConvFwdIdeal (m : (ℓ : Loc Cert.ShortConvFwdIdeal.nD Cert.ShortConvFwdIdeal.τ Cert.ShortConvFwdIdeal.sig) → Buf (Elt Ideal) ℓ) : Prop :=
  True

def Pre_ShortConvFwdRefIdeal (m : (ℓ : Loc Cert.ShortConvFwdRefIdeal.nD Cert.ShortConvFwdRefIdeal.τ Cert.ShortConvFwdRefIdeal.sig) → Buf (Elt Ideal) ℓ) : Prop :=
  True

def Pre_ConvGradX (m : (ℓ : Loc Cert.ConvGradX.nD Cert.ConvGradX.τ Cert.ConvGradX.sig) → Buf (Elt Bits) ℓ) : Prop :=
  True

def Pre_ConvGradXIdeal (m : (ℓ : Loc Cert.ConvGradXIdeal.nD Cert.ConvGradXIdeal.τ Cert.ConvGradXIdeal.sig) → Buf (Elt Ideal) ℓ) : Prop :=
  True

def Pre_ConvGradXIdeal_finite_ct [hPre_finite_ct : Cert.Pre_finite_ct.Facts] (m : (ℓ : Loc Cert.ConvGradXIdeal.nD Cert.ConvGradXIdeal.τ Cert.ConvGradXIdeal.sig) → Buf (Elt Ideal) ℓ) : Prop :=
  ∀ c : Dev Cert.ConvGradXIdeal.nD,
    (Cert.Pre_finite_ct.fn (F := Ideal) (m ((c.tc : Thread Cert.ConvGradXIdeal.nD Cert.ConvGradXIdeal.τ).loc Cert.ConvGradXIdeal.main_arg0)) (m ((c.tc : Thread Cert.ConvGradXIdeal.nD Cert.ConvGradXIdeal.τ).loc Cert.ConvGradXIdeal.main_arg1)) (m ((c.tc : Thread Cert.ConvGradXIdeal.nD Cert.ConvGradXIdeal.τ).loc Cert.ConvGradXIdeal.main_arg2)) (m ((c.tc : Thread Cert.ConvGradXIdeal.nD Cert.ConvGradXIdeal.τ).loc Cert.ConvGradXIdeal.main_arg3)) (m ((c.tc : Thread Cert.ConvGradXIdeal.nD Cert.ConvGradXIdeal.τ).loc Cert.ConvGradXIdeal.main_arg4))) = (fun _ => 1#1)

def Pre_ConvGradXRefIdeal (m : (ℓ : Loc Cert.ConvGradXRefIdeal.nD Cert.ConvGradXRefIdeal.τ Cert.ConvGradXRefIdeal.sig) → Buf (Elt Ideal) ℓ) : Prop :=
  True

def Pre_ConvGradXRefIdeal_finite_ct [hPre_finite_ct : Cert.Pre_finite_ct.Facts] (m : (ℓ : Loc Cert.ConvGradXRefIdeal.nD Cert.ConvGradXRefIdeal.τ Cert.ConvGradXRefIdeal.sig) → Buf (Elt Ideal) ℓ) : Prop :=
  ∀ c : Dev Cert.ConvGradXRefIdeal.nD,
    (Cert.Pre_finite_ct.fn (F := Ideal) (m ((c.tc : Thread Cert.ConvGradXRefIdeal.nD Cert.ConvGradXRefIdeal.τ).loc Cert.ConvGradXRefIdeal.main_arg0)) (m ((c.tc : Thread Cert.ConvGradXRefIdeal.nD Cert.ConvGradXRefIdeal.τ).loc Cert.ConvGradXRefIdeal.main_arg1)) (m ((c.tc : Thread Cert.ConvGradXRefIdeal.nD Cert.ConvGradXRefIdeal.τ).loc Cert.ConvGradXRefIdeal.main_arg2)) (m ((c.tc : Thread Cert.ConvGradXRefIdeal.nD Cert.ConvGradXRefIdeal.τ).loc Cert.ConvGradXRefIdeal.main_arg3)) (m ((c.tc : Thread Cert.ConvGradXRefIdeal.nD Cert.ConvGradXRefIdeal.τ).loc Cert.ConvGradXRefIdeal.main_arg4))) = (fun _ => 1#1)

def Pre_ConvGradB (m : (ℓ : Loc Cert.ConvGradB.nD Cert.ConvGradB.τ Cert.ConvGradB.sig) → Buf (Elt Bits) ℓ) : Prop :=
  True

def Pre_ConvGradBIdeal (m : (ℓ : Loc Cert.ConvGradBIdeal.nD Cert.ConvGradBIdeal.τ Cert.ConvGradBIdeal.sig) → Buf (Elt Ideal) ℓ) : Prop :=
  True

def Pre_ConvGradBIdeal_finite_ct_bc [hPre_finite_ct_bc : Cert.Pre_finite_ct_bc.Facts] (m : (ℓ : Loc Cert.ConvGradBIdeal.nD Cert.ConvGradBIdeal.τ Cert.ConvGradBIdeal.sig) → Buf (Elt Ideal) ℓ) : Prop :=
  ∀ c : Dev Cert.ConvGradBIdeal.nD,
    (Cert.Pre_finite_ct_bc.fn (F := Ideal) (m ((c.tc : Thread Cert.ConvGradBIdeal.nD Cert.ConvGradBIdeal.τ).loc Cert.ConvGradBIdeal.main_arg0)) (m ((c.tc : Thread Cert.ConvGradBIdeal.nD Cert.ConvGradBIdeal.τ).loc Cert.ConvGradBIdeal.main_arg1)) (m ((c.tc : Thread Cert.ConvGradBIdeal.nD Cert.ConvGradBIdeal.τ).loc Cert.ConvGradBIdeal.main_arg2)) (m ((c.tc : Thread Cert.ConvGradBIdeal.nD Cert.ConvGradBIdeal.τ).loc Cert.ConvGradBIdeal.main_arg3)) (m ((c.tc : Thread Cert.ConvGradBIdeal.nD Cert.ConvGradBIdeal.τ).loc Cert.ConvGradBIdeal.main_arg4))) = (fun _ => 1#1)

def Pre_ConvGradBRefIdeal (m : (ℓ : Loc Cert.ConvGradBRefIdeal.nD Cert.ConvGradBRefIdeal.τ Cert.ConvGradBRefIdeal.sig) → Buf (Elt Ideal) ℓ) : Prop :=
  True

def Pre_ConvGradBRefIdeal_finite_ct_bc [hPre_finite_ct_bc : Cert.Pre_finite_ct_bc.Facts] (m : (ℓ : Loc Cert.ConvGradBRefIdeal.nD Cert.ConvGradBRefIdeal.τ Cert.ConvGradBRefIdeal.sig) → Buf (Elt Ideal) ℓ) : Prop :=
  ∀ c : Dev Cert.ConvGradBRefIdeal.nD,
    (Cert.Pre_finite_ct_bc.fn (F := Ideal) (m ((c.tc : Thread Cert.ConvGradBRefIdeal.nD Cert.ConvGradBRefIdeal.τ).loc Cert.ConvGradBRefIdeal.main_arg0)) (m ((c.tc : Thread Cert.ConvGradBRefIdeal.nD Cert.ConvGradBRefIdeal.τ).loc Cert.ConvGradBRefIdeal.main_arg1)) (m ((c.tc : Thread Cert.ConvGradBRefIdeal.nD Cert.ConvGradBRefIdeal.τ).loc Cert.ConvGradBRefIdeal.main_arg2)) (m ((c.tc : Thread Cert.ConvGradBRefIdeal.nD Cert.ConvGradBRefIdeal.τ).loc Cert.ConvGradBRefIdeal.main_arg3)) (m ((c.tc : Thread Cert.ConvGradBRefIdeal.nD Cert.ConvGradBRefIdeal.τ).loc Cert.ConvGradBRefIdeal.main_arg4))) = (fun _ => 1#1)

def Pre_ConvGradC (m : (ℓ : Loc Cert.ConvGradC.nD Cert.ConvGradC.τ Cert.ConvGradC.sig) → Buf (Elt Bits) ℓ) : Prop :=
  True

def Pre_ConvGradCIdeal (m : (ℓ : Loc Cert.ConvGradCIdeal.nD Cert.ConvGradCIdeal.τ Cert.ConvGradCIdeal.sig) → Buf (Elt Ideal) ℓ) : Prop :=
  True

def Pre_ConvGradCIdeal_finite_ct_bc [hPre_finite_ct_bc : Cert.Pre_finite_ct_bc.Facts] (m : (ℓ : Loc Cert.ConvGradCIdeal.nD Cert.ConvGradCIdeal.τ Cert.ConvGradCIdeal.sig) → Buf (Elt Ideal) ℓ) : Prop :=
  ∀ c : Dev Cert.ConvGradCIdeal.nD,
    (Cert.Pre_finite_ct_bc.fn (F := Ideal) (m ((c.tc : Thread Cert.ConvGradCIdeal.nD Cert.ConvGradCIdeal.τ).loc Cert.ConvGradCIdeal.main_arg0)) (m ((c.tc : Thread Cert.ConvGradCIdeal.nD Cert.ConvGradCIdeal.τ).loc Cert.ConvGradCIdeal.main_arg1)) (m ((c.tc : Thread Cert.ConvGradCIdeal.nD Cert.ConvGradCIdeal.τ).loc Cert.ConvGradCIdeal.main_arg2)) (m ((c.tc : Thread Cert.ConvGradCIdeal.nD Cert.ConvGradCIdeal.τ).loc Cert.ConvGradCIdeal.main_arg3)) (m ((c.tc : Thread Cert.ConvGradCIdeal.nD Cert.ConvGradCIdeal.τ).loc Cert.ConvGradCIdeal.main_arg4))) = (fun _ => 1#1)

def Pre_ConvGradCRefIdeal (m : (ℓ : Loc Cert.ConvGradCRefIdeal.nD Cert.ConvGradCRefIdeal.τ Cert.ConvGradCRefIdeal.sig) → Buf (Elt Ideal) ℓ) : Prop :=
  True

def Pre_ConvGradCRefIdeal_finite_ct_bc [hPre_finite_ct_bc : Cert.Pre_finite_ct_bc.Facts] (m : (ℓ : Loc Cert.ConvGradCRefIdeal.nD Cert.ConvGradCRefIdeal.τ Cert.ConvGradCRefIdeal.sig) → Buf (Elt Ideal) ℓ) : Prop :=
  ∀ c : Dev Cert.ConvGradCRefIdeal.nD,
    (Cert.Pre_finite_ct_bc.fn (F := Ideal) (m ((c.tc : Thread Cert.ConvGradCRefIdeal.nD Cert.ConvGradCRefIdeal.τ).loc Cert.ConvGradCRefIdeal.main_arg0)) (m ((c.tc : Thread Cert.ConvGradCRefIdeal.nD Cert.ConvGradCRefIdeal.τ).loc Cert.ConvGradCRefIdeal.main_arg1)) (m ((c.tc : Thread Cert.ConvGradCRefIdeal.nD Cert.ConvGradCRefIdeal.τ).loc Cert.ConvGradCRefIdeal.main_arg2)) (m ((c.tc : Thread Cert.ConvGradCRefIdeal.nD Cert.ConvGradCRefIdeal.τ).loc Cert.ConvGradCRefIdeal.main_arg3)) (m ((c.tc : Thread Cert.ConvGradCRefIdeal.nD Cert.ConvGradCRefIdeal.τ).loc Cert.ConvGradCRefIdeal.main_arg4))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_GateNormGrad (m : (ℓ : Loc Cert.GateNormGrad.nD Cert.GateNormGrad.τ Cert.GateNormGrad.sig) → Buf (Elt Bits) ℓ) : Prop :=
  True

def Pre_GateNormGradIdeal (m : (ℓ : Loc Cert.GateNormGradIdeal.nD Cert.GateNormGradIdeal.τ Cert.GateNormGradIdeal.sig) → Buf (Elt Ideal) ℓ) : Prop :=
  True

def Pre_GateNormGradRefIdeal (m : (ℓ : Loc Cert.GateNormGradRefIdeal.nD Cert.GateNormGradRefIdeal.τ Cert.GateNormGradRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdBwd (m : (ℓ : Loc Cert.SsdBwd.nD Cert.SsdBwd.τ Cert.SsdBwd.sig) → Buf (Elt Bits) ℓ) : Prop :=
  True

def Pre_SsdBwdIdeal (m : (ℓ : Loc Cert.SsdBwdIdeal.nD Cert.SsdBwdIdeal.τ Cert.SsdBwdIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtIdeal_finite_steps [hPre_finite_steps : Cert.Pre_finite_steps.Facts] (m : (ℓ : Loc Cert.SsdDtIdeal.nD Cert.SsdDtIdeal.τ Cert.SsdDtIdeal.sig) → Buf (Elt Ideal) ℓ) : Prop :=
  ∀ c : Dev Cert.SsdDtIdeal.nD,
    (Cert.Pre_finite_steps.fn (F := Ideal) (m ((c.tc : Thread Cert.SsdDtIdeal.nD Cert.SsdDtIdeal.τ).loc Cert.SsdDtIdeal.main_arg0)) (m ((c.tc : Thread Cert.SsdDtIdeal.nD Cert.SsdDtIdeal.τ).loc Cert.SsdDtIdeal.main_arg1)) (m ((c.tc : Thread Cert.SsdDtIdeal.nD Cert.SsdDtIdeal.τ).loc Cert.SsdDtIdeal.main_arg2))) = (fun _ => 1#1)

def Pre_SsdDtRefIdeal (m : (ℓ : Loc Cert.SsdDtRefIdeal.nD Cert.SsdDtRefIdeal.τ Cert.SsdDtRefIdeal.sig) → Buf (Elt Ideal) ℓ) : Prop :=
  True

def Pre_SsdDtRefIdeal_finite_steps [hPre_finite_steps : Cert.Pre_finite_steps.Facts] (m : (ℓ : Loc Cert.SsdDtRefIdeal.nD Cert.SsdDtRefIdeal.τ Cert.SsdDtRefIdeal.sig) → Buf (Elt Ideal) ℓ) : Prop :=
  ∀ c : Dev Cert.SsdDtRefIdeal.nD,
    (Cert.Pre_finite_steps.fn (F := Ideal) (m ((c.tc : Thread Cert.SsdDtRefIdeal.nD Cert.SsdDtRefIdeal.τ).loc Cert.SsdDtRefIdeal.main_arg0)) (m ((c.tc : Thread Cert.SsdDtRefIdeal.nD Cert.SsdDtRefIdeal.τ).loc Cert.SsdDtRefIdeal.main_arg1)) (m ((c.tc : Thread Cert.SsdDtRefIdeal.nD Cert.SsdDtRefIdeal.τ).loc Cert.SsdDtRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_GateUpGrad [hGateUpGrad : Cert.GateUpGrad.Facts] : Prop :=
  ∀ (m : (ℓ : Loc Cert.GateUpGrad.nD Cert.GateUpGrad.τ Cert.GateUpGrad.sig) → Buf (Elt Bits) ℓ) (g : Dev Cert.GateUpGrad.nD → PrngReg), Pre_GateUpGrad m →
    θ_run (Cert.GateUpGrad.defs (F := Bits)) (onTc (τ := Cert.GateUpGrad.τ) (Cert.GateUpGrad.main (F := Bits))) ⟨m, fun _ => 0, g⟩ (fun r => (∀ c : Dev Cert.GateUpGrad.nD,
      r.2.mem ((c.tc : Thread Cert.GateUpGrad.nD Cert.GateUpGrad.τ).loc Cert.GateUpGrad.main_arg0) = m ((c.tc : Thread Cert.GateUpGrad.nD Cert.GateUpGrad.τ).loc Cert.GateUpGrad.main_arg0)
      ∧ r.2.mem ((c.tc : Thread Cert.GateUpGrad.nD Cert.GateUpGrad.τ).loc Cert.GateUpGrad.main_arg1) = m ((c.tc : Thread Cert.GateUpGrad.nD Cert.GateUpGrad.τ).loc Cert.GateUpGrad.main_arg1)
      ∧ r.2.mem ((c.tc : Thread Cert.GateUpGrad.nD Cert.GateUpGrad.τ).loc Cert.GateUpGrad.main_arg2) = m ((c.tc : Thread Cert.GateUpGrad.nD Cert.GateUpGrad.τ).loc Cert.GateUpGrad.main_arg2)
      ∧ r.2.mem ((c.tc : Thread Cert.GateUpGrad.nD Cert.GateUpGrad.τ).loc Cert.GateUpGrad.main_arg3) = m ((c.tc : Thread Cert.GateUpGrad.nD Cert.GateUpGrad.τ).loc Cert.GateUpGrad.main_arg3))
      ∧ r.2.sem = fun _ => 0)

def quiescent_GateUpGradIdeal [hGateUpGradIdeal : Cert.GateUpGradIdeal.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg), Pre_GateUpGradIdeal m →
    θ_run (Cert.GateUpGradIdeal.defs (F := Ideal)) (onTc (τ := Cert.GateUpGradIdeal.τ) (Cert.GateUpGradIdeal.main (F := Ideal))) ⟨m, fun _ => 0, g⟩ (fun r => (∀ c : Dev Cert.GateUpGradIdeal.nD,
      r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
      ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1)
      ∧ r.2.mem ((c.tc : Thread Cert.GateUpGradIdeal.nD Cert.GateUpGradIdeal.τ).loc Cert.GateUpGradIdeal.main_arg2) = m ((c.tc : Thread Cert.GateUpGradIdeal.nD Cert.GateUpGradIdeal.τ).loc Cert.GateUpGradIdeal.main_arg2)
      ∧ r.2.mem ((c.tc : Thread Cert.GateUpGradIdeal.nD Cert.GateUpGradIdeal.τ).loc Cert.GateUpGradIdeal.main_arg3) = m ((c.tc : Thread Cert.GateUpGradIdeal.nD Cert.GateUpGradIdeal.τ).loc Cert.GateUpGradIdeal.main_arg3))
      ∧ r.2.sem = fun _ => 0)

def quiescent_GateUpGradIdeal_pre_finite_cotangent [hGateUpGradIdeal : Cert.GateUpGradIdeal.Facts] [hPre_finite_cotangent : Cert.Pre_finite_cotangent.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg), Pre_GateUpGradIdeal_finite_cotangent m →
    θ_run (Cert.GateUpGradIdeal.defs (F := Ideal)) (onTc (τ := Cert.GateUpGradIdeal.τ) (Cert.GateUpGradIdeal.main (F := Ideal))) ⟨m, fun _ => 0, g⟩ (fun r => (∀ c : Dev Cert.GateUpGradIdeal.nD,
      r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
      ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1)
      ∧ r.2.mem ((c.tc : Thread Cert.GateUpGradIdeal.nD Cert.GateUpGradIdeal.τ).loc Cert.GateUpGradIdeal.main_arg2) = m ((c.tc : Thread Cert.GateUpGradIdeal.nD Cert.GateUpGradIdeal.τ).loc Cert.GateUpGradIdeal.main_arg2)
      ∧ r.2.mem ((c.tc : Thread Cert.GateUpGradIdeal.nD Cert.GateUpGradIdeal.τ).loc Cert.GateUpGradIdeal.main_arg3) = m ((c.tc : Thread Cert.GateUpGradIdeal.nD Cert.GateUpGradIdeal.τ).loc Cert.GateUpGradIdeal.main_arg3))
      ∧ r.2.sem = fun _ => 0)

def quiescent_GateUpGradRefIdeal [hGateUpGradRefIdeal : Cert.GateUpGradRefIdeal.Facts] : Prop :=
  ∀ (m : (ℓ : Loc Cert.GateUpGradRefIdeal.nD Cert.GateUpGradRefIdeal.τ Cert.GateUpGradRefIdeal.sig) → Buf (Elt Ideal) ℓ) (g : Dev Cert.GateUpGradRefIdeal.nD → PrngReg), Pre_GateUpGradRefIdeal m →
    θ_run (Cert.GateUpGradRefIdeal.defs (F := Ideal)) (onTc (τ := Cert.GateUpGradRefIdeal.τ) (Cert.GateUpGradRefIdeal.main (F := Ideal))) ⟨m, fun _ => 0, g⟩ (fun r => (∀ c : Dev Cert.GateUpGradRefIdeal.nD,
      r.2.mem ((c.tc : Thread Cert.GateUpGradRefIdeal.nD Cert.GateUpGradRefIdeal.τ).loc Cert.GateUpGradRefIdeal.main_arg0) = m ((c.tc : Thread Cert.GateUpGradRefIdeal.nD Cert.GateUpGradRefIdeal.τ).loc Cert.GateUpGradRefIdeal.main_arg0)
      ∧ r.2.mem ((c.tc : Thread Cert.GateUpGradRefIdeal.nD Cert.GateUpGradRefIdeal.τ).loc Cert.GateUpGradRefIdeal.main_arg1) = m ((c.tc : Thread Cert.GateUpGradRefIdeal.nD Cert.GateUpGradRefIdeal.τ).loc Cert.GateUpGradRefIdeal.main_arg1)
      ∧ r.2.mem ((c.tc : Thread Cert.GateUpGradRefIdeal.nD Cert.GateUpGradRefIdeal.τ).loc Cert.GateUpGradRefIdeal.main_arg2) = m ((c.tc : Thread Cert.GateUpGradRefIdeal.nD Cert.GateUpGradRefIdeal.τ).loc Cert.GateUpGradRefIdeal.main_arg2)
      ∧ r.2.mem ((c.tc : Thread Cert.GateUpGradRefIdeal.nD Cert.GateUpGradRefIdeal.τ).loc Cert.GateUpGradRefIdeal.main_arg3) = m ((c.tc : Thread Cert.GateUpGradRefIdeal.nD Cert.GateUpGradRefIdeal.τ).loc Cert.GateUpGradRefIdeal.main_arg3))
      ∧ r.2.sem = fun _ => 0)

def quiescent_GateUpGradRefIdeal_pre_finite_cotangent [hGateUpGradRefIdeal : Cert.GateUpGradRefIdeal.Facts] [hPre_finite_cotangent : Cert.Pre_finite_cotangent.Facts] : Prop :=
  ∀ (m : (ℓ : Loc Cert.GateUpGradRefIdeal.nD Cert.GateUpGradRefIdeal.τ Cert.GateUpGradRefIdeal.sig) → Buf (Elt Ideal) ℓ) (g : Dev Cert.GateUpGradRefIdeal.nD → PrngReg), Pre_GateUpGradRefIdeal_finite_cotangent m →
    θ_run (Cert.GateUpGradRefIdeal.defs (F := Ideal)) (onTc (τ := Cert.GateUpGradRefIdeal.τ) (Cert.GateUpGradRefIdeal.main (F := Ideal))) ⟨m, fun _ => 0, g⟩ (fun r => (∀ c : Dev Cert.GateUpGradRefIdeal.nD,
      r.2.mem ((c.tc : Thread Cert.GateUpGradRefIdeal.nD Cert.GateUpGradRefIdeal.τ).loc Cert.GateUpGradRefIdeal.main_arg0) = m ((c.tc : Thread Cert.GateUpGradRefIdeal.nD Cert.GateUpGradRefIdeal.τ).loc Cert.GateUpGradRefIdeal.main_arg0)
      ∧ r.2.mem ((c.tc : Thread Cert.GateUpGradRefIdeal.nD Cert.GateUpGradRefIdeal.τ).loc Cert.GateUpGradRefIdeal.main_arg1) = m ((c.tc : Thread Cert.GateUpGradRefIdeal.nD Cert.GateUpGradRefIdeal.τ).loc Cert.GateUpGradRefIdeal.main_arg1)
      ∧ r.2.mem ((c.tc : Thread Cert.GateUpGradRefIdeal.nD Cert.GateUpGradRefIdeal.τ).loc Cert.GateUpGradRefIdeal.main_arg2) = m ((c.tc : Thread Cert.GateUpGradRefIdeal.nD Cert.GateUpGradRefIdeal.τ).loc Cert.GateUpGradRefIdeal.main_arg2)
      ∧ r.2.mem ((c.tc : Thread Cert.GateUpGradRefIdeal.nD Cert.GateUpGradRefIdeal.τ).loc Cert.GateUpGradRefIdeal.main_arg3) = m ((c.tc : Thread Cert.GateUpGradRefIdeal.nD Cert.GateUpGradRefIdeal.τ).loc Cert.GateUpGradRefIdeal.main_arg3))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainRefIdeal [hProjMainRefIdeal : Cert.ProjMainRefIdeal.Facts] : Prop :=
  ∀ (m : (ℓ : Loc Cert.ProjMainRefIdeal.nD Cert.ProjMainRefIdeal.τ Cert.ProjMainRefIdeal.sig) → Buf (Elt Ideal) ℓ) (g : Dev Cert.ProjMainRefIdeal.nD → PrngReg), Pre_ProjMainRefIdeal m →
    θ_run (Cert.ProjMainRefIdeal.defs (F := Ideal)) (onTc (τ := Cert.ProjMainRefIdeal.τ) (Cert.ProjMainRefIdeal.main (F := Ideal))) ⟨m, fun _ => 0, g⟩ (fun r => (∀ c : Dev Cert.ProjMainRefIdeal.nD,
      r.2.mem ((c.tc : Thread Cert.ProjMainRefIdeal.nD Cert.ProjMainRefIdeal.τ).loc Cert.ProjMainRefIdeal.main_arg0) = m ((c.tc : Thread Cert.ProjMainRefIdeal.nD Cert.ProjMainRefIdeal.τ).loc Cert.ProjMainRefIdeal.main_arg0)
      ∧ r.2.mem ((c.tc : Thread Cert.ProjMainRefIdeal.nD Cert.ProjMainRefIdeal.τ).loc Cert.ProjMainRefIdeal.main_arg1) = m ((c.tc : Thread Cert.ProjMainRefIdeal.nD Cert.ProjMainRefIdeal.τ).loc Cert.ProjMainRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_NormMixOut [hNormMixOut : Cert.NormMixOut.Facts] : Prop :=
  ∀ (m : (ℓ : Loc Cert.NormMixOut.nD Cert.NormMixOut.τ Cert.NormMixOut.sig) → Buf (Elt Bits) ℓ) (g : Dev Cert.NormMixOut.nD → PrngReg), Pre_NormMixOut m →
    θ_run (Cert.NormMixOut.defs (F := Bits)) (onTc (τ := Cert.NormMixOut.τ) (Cert.NormMixOut.main (F := Bits))) ⟨m, fun _ => 0, g⟩ (fun r => (∀ c : Dev Cert.NormMixOut.nD,
      r.2.mem ((c.tc : Thread Cert.NormMixOut.nD Cert.NormMixOut.τ).loc Cert.NormMixOut.main_arg0) = m ((c.tc : Thread Cert.NormMixOut.nD Cert.NormMixOut.τ).loc Cert.NormMixOut.main_arg0)
      ∧ r.2.mem ((c.tc : Thread Cert.NormMixOut.nD Cert.NormMixOut.τ).loc Cert.NormMixOut.main_arg1) = m ((c.tc : Thread Cert.NormMixOut.nD Cert.NormMixOut.τ).loc Cert.NormMixOut.main_arg1)
      ∧ r.2.mem ((c.tc : Thread Cert.NormMixOut.nD Cert.NormMixOut.τ).loc Cert.NormMixOut.main_arg2) = m ((c.tc : Thread Cert.NormMixOut.nD Cert.NormMixOut.τ).loc Cert.NormMixOut.main_arg2))
      ∧ r.2.sem = fun _ => 0)

def quiescent_NormMixOutIdeal [hNormMixOutIdeal : Cert.NormMixOutIdeal.Facts] : Prop :=
  ∀ (m : (ℓ : Loc Cert.NormMixOutIdeal.nD Cert.NormMixOutIdeal.τ Cert.NormMixOutIdeal.sig) → Buf (Elt Ideal) ℓ) (g : Dev Cert.NormMixOutIdeal.nD → PrngReg), Pre_NormMixOutIdeal m →
    θ_run (Cert.NormMixOutIdeal.defs (F := Ideal)) (onTc (τ := Cert.NormMixOutIdeal.τ) (Cert.NormMixOutIdeal.main (F := Ideal))) ⟨m, fun _ => 0, g⟩ (fun r => (∀ c : Dev Cert.NormMixOutIdeal.nD,
      r.2.mem ((c.tc : Thread Cert.NormMixOutIdeal.nD Cert.NormMixOutIdeal.τ).loc Cert.NormMixOutIdeal.main_arg0) = m ((c.tc : Thread Cert.NormMixOutIdeal.nD Cert.NormMixOutIdeal.τ).loc Cert.NormMixOutIdeal.main_arg0)
      ∧ r.2.mem ((c.tc : Thread Cert.NormMixOutIdeal.nD Cert.NormMixOutIdeal.τ).loc Cert.NormMixOutIdeal.main_arg1) = m ((c.tc : Thread Cert.NormMixOutIdeal.nD Cert.NormMixOutIdeal.τ).loc Cert.NormMixOutIdeal.main_arg1)
      ∧ r.2.mem ((c.tc : Thread Cert.NormMixOutIdeal.nD Cert.NormMixOutIdeal.τ).loc Cert.NormMixOutIdeal.main_arg2) = m ((c.tc : Thread Cert.NormMixOutIdeal.nD Cert.NormMixOutIdeal.τ).loc Cert.NormMixOutIdeal.main_arg2))
      ∧ r.2.sem = fun _ => 0)

def quiescent_NormMixOutRefIdeal [hNormMixOutRefIdeal : Cert.NormMixOutRefIdeal.Facts] : Prop :=
  ∀ (m : (ℓ : Loc Cert.NormMixOutRefIdeal.nD Cert.NormMixOutRefIdeal.τ Cert.NormMixOutRefIdeal.sig) → Buf (Elt Ideal) ℓ) (g : Dev Cert.NormMixOutRefIdeal.nD → PrngReg), Pre_NormMixOutRefIdeal m →
    θ_run (Cert.NormMixOutRefIdeal.defs (F := Ideal)) (onTc (τ := Cert.NormMixOutRefIdeal.τ) (Cert.NormMixOutRefIdeal.main (F := Ideal))) ⟨m, fun _ => 0, g⟩ (fun r => (∀ c : Dev Cert.NormMixOutRefIdeal.nD,
      r.2.mem ((c.tc : Thread Cert.NormMixOutRefIdeal.nD Cert.NormMixOutRefIdeal.τ).loc Cert.NormMixOutRefIdeal.main_arg0) = m ((c.tc : Thread Cert.NormMixOutRefIdeal.nD Cert.NormMixOutRefIdeal.τ).loc Cert.NormMixOutRefIdeal.main_arg0)
      ∧ r.2.mem ((c.tc : Thread Cert.NormMixOutRefIdeal.nD Cert.NormMixOutRefIdeal.τ).loc Cert.NormMixOutRefIdeal.main_arg1) = m ((c.tc : Thread Cert.NormMixOutRefIdeal.nD Cert.NormMixOutRefIdeal.τ).loc Cert.NormMixOutRefIdeal.main_arg1)
      ∧ r.2.mem ((c.tc : Thread Cert.NormMixOutRefIdeal.nD Cert.NormMixOutRefIdeal.τ).loc Cert.NormMixOutRefIdeal.main_arg2) = m ((c.tc : Thread Cert.NormMixOutRefIdeal.nD Cert.NormMixOutRefIdeal.τ).loc Cert.NormMixOutRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_NormOutGate [hNormOutGate : Cert.NormOutGate.Facts] : Prop :=
  ∀ (m : (ℓ : Loc Cert.NormOutGate.nD Cert.NormOutGate.τ Cert.NormOutGate.sig) → Buf (Elt Bits) ℓ) (g : Dev Cert.NormOutGate.nD → PrngReg), Pre_NormOutGate m →
    θ_run (Cert.NormOutGate.defs (F := Bits)) (onTc (τ := Cert.NormOutGate.τ) (Cert.NormOutGate.main (F := Bits))) ⟨m, fun _ => 0, g⟩ (fun r => (∀ c : Dev Cert.NormOutGate.nD,
      r.2.mem ((c.tc : Thread Cert.NormOutGate.nD Cert.NormOutGate.τ).loc Cert.NormOutGate.main_arg0) = m ((c.tc : Thread Cert.NormOutGate.nD Cert.NormOutGate.τ).loc Cert.NormOutGate.main_arg0)
      ∧ r.2.mem ((c.tc : Thread Cert.NormOutGate.nD Cert.NormOutGate.τ).loc Cert.NormOutGate.main_arg1) = m ((c.tc : Thread Cert.NormOutGate.nD Cert.NormOutGate.τ).loc Cert.NormOutGate.main_arg1))
      ∧ r.2.sem = fun _ => 0)

def quiescent_NormOutGateIdeal [hNormOutGateIdeal : Cert.NormOutGateIdeal.Facts] : Prop :=
  ∀ (m : (ℓ : Loc Cert.NormOutGateIdeal.nD Cert.NormOutGateIdeal.τ Cert.NormOutGateIdeal.sig) → Buf (Elt Ideal) ℓ) (g : Dev Cert.NormOutGateIdeal.nD → PrngReg), Pre_NormOutGateIdeal m →
    θ_run (Cert.NormOutGateIdeal.defs (F := Ideal)) (onTc (τ := Cert.NormOutGateIdeal.τ) (Cert.NormOutGateIdeal.main (F := Ideal))) ⟨m, fun _ => 0, g⟩ (fun r => (∀ c : Dev Cert.NormOutGateIdeal.nD,
      r.2.mem ((c.tc : Thread Cert.NormOutGateIdeal.nD Cert.NormOutGateIdeal.τ).loc Cert.NormOutGateIdeal.main_arg0) = m ((c.tc : Thread Cert.NormOutGateIdeal.nD Cert.NormOutGateIdeal.τ).loc Cert.NormOutGateIdeal.main_arg0)
      ∧ r.2.mem ((c.tc : Thread Cert.NormOutGateIdeal.nD Cert.NormOutGateIdeal.τ).loc Cert.NormOutGateIdeal.main_arg1) = m ((c.tc : Thread Cert.NormOutGateIdeal.nD Cert.NormOutGateIdeal.τ).loc Cert.NormOutGateIdeal.main_arg1))
      ∧ r.2.sem = fun _ => 0)

def quiescent_NormOutGateRefIdeal [hNormOutGateRefIdeal : Cert.NormOutGateRefIdeal.Facts] : Prop :=
  ∀ (m : (ℓ : Loc Cert.NormOutGateRefIdeal.nD Cert.NormOutGateRefIdeal.τ Cert.NormOutGateRefIdeal.sig) → Buf (Elt Ideal) ℓ) (g : Dev Cert.NormOutGateRefIdeal.nD → PrngReg), Pre_NormOutGateRefIdeal m →
    θ_run (Cert.NormOutGateRefIdeal.defs (F := Ideal)) (onTc (τ := Cert.NormOutGateRefIdeal.τ) (Cert.NormOutGateRefIdeal.main (F := Ideal))) ⟨m, fun _ => 0, g⟩ (fun r => (∀ c : Dev Cert.NormOutGateRefIdeal.nD,
      r.2.mem ((c.tc : Thread Cert.NormOutGateRefIdeal.nD Cert.NormOutGateRefIdeal.τ).loc Cert.NormOutGateRefIdeal.main_arg0) = m ((c.tc : Thread Cert.NormOutGateRefIdeal.nD Cert.NormOutGateRefIdeal.τ).loc Cert.NormOutGateRefIdeal.main_arg0)
      ∧ r.2.mem ((c.tc : Thread Cert.NormOutGateRefIdeal.nD Cert.NormOutGateRefIdeal.τ).loc Cert.NormOutGateRefIdeal.main_arg1) = m ((c.tc : Thread Cert.NormOutGateRefIdeal.nD Cert.NormOutGateRefIdeal.τ).loc Cert.NormOutGateRefIdeal.main_arg1))
      ∧ r.2.sem = fun _ => 0)

def quiescent_NormOutUp [hNormOutUp : Cert.NormOutUp.Facts] : Prop :=
  ∀ (m : (ℓ : Loc Cert.NormOutUp.nD Cert.NormOutUp.τ Cert.NormOutUp.sig) → Buf (Elt Bits) ℓ) (g : Dev Cert.NormOutUp.nD → PrngReg), Pre_NormOutUp m →
    θ_run (Cert.NormOutUp.defs (F := Bits)) (onTc (τ := Cert.NormOutUp.τ) (Cert.NormOutUp.main (F := Bits))) ⟨m, fun _ => 0, g⟩ (fun r => (∀ c : Dev Cert.NormOutUp.nD,
      r.2.mem ((c.tc : Thread Cert.NormOutUp.nD Cert.NormOutUp.τ).loc Cert.NormOutUp.main_arg0) = m ((c.tc : Thread Cert.NormOutUp.nD Cert.NormOutUp.τ).loc Cert.NormOutUp.main_arg0)
      ∧ r.2.mem ((c.tc : Thread Cert.NormOutUp.nD Cert.NormOutUp.τ).loc Cert.NormOutUp.main_arg1) = m ((c.tc : Thread Cert.NormOutUp.nD Cert.NormOutUp.τ).loc Cert.NormOutUp.main_arg1)
      ∧ r.2.mem ((c.tc : Thread Cert.NormOutUp.nD Cert.NormOutUp.τ).loc Cert.NormOutUp.main_arg2) = m ((c.tc : Thread Cert.NormOutUp.nD Cert.NormOutUp.τ).loc Cert.NormOutUp.main_arg2))
      ∧ r.2.sem = fun _ => 0)

def quiescent_NormOutUpIdeal [hNormOutUpIdeal : Cert.NormOutUpIdeal.Facts] : Prop :=
  ∀ (m : (ℓ : Loc Cert.NormOutUpIdeal.nD Cert.NormOutUpIdeal.τ Cert.NormOutUpIdeal.sig) → Buf (Elt Ideal) ℓ) (g : Dev Cert.NormOutUpIdeal.nD → PrngReg), Pre_NormOutUpIdeal m →
    θ_run (Cert.NormOutUpIdeal.defs (F := Ideal)) (onTc (τ := Cert.NormOutUpIdeal.τ) (Cert.NormOutUpIdeal.main (F := Ideal))) ⟨m, fun _ => 0, g⟩ (fun r => (∀ c : Dev Cert.NormOutUpIdeal.nD,
      r.2.mem ((c.tc : Thread Cert.NormOutUpIdeal.nD Cert.NormOutUpIdeal.τ).loc Cert.NormOutUpIdeal.main_arg0) = m ((c.tc : Thread Cert.NormOutUpIdeal.nD Cert.NormOutUpIdeal.τ).loc Cert.NormOutUpIdeal.main_arg0)
      ∧ r.2.mem ((c.tc : Thread Cert.NormOutUpIdeal.nD Cert.NormOutUpIdeal.τ).loc Cert.NormOutUpIdeal.main_arg1) = m ((c.tc : Thread Cert.NormOutUpIdeal.nD Cert.NormOutUpIdeal.τ).loc Cert.NormOutUpIdeal.main_arg1)
      ∧ r.2.mem ((c.tc : Thread Cert.NormOutUpIdeal.nD Cert.NormOutUpIdeal.τ).loc Cert.NormOutUpIdeal.main_arg2) = m ((c.tc : Thread Cert.NormOutUpIdeal.nD Cert.NormOutUpIdeal.τ).loc Cert.NormOutUpIdeal.main_arg2))
      ∧ r.2.sem = fun _ => 0)

def quiescent_NormOutUpRefIdeal [hNormOutUpRefIdeal : Cert.NormOutUpRefIdeal.Facts] : Prop :=
  ∀ (m : (ℓ : Loc Cert.NormOutUpRefIdeal.nD Cert.NormOutUpRefIdeal.τ Cert.NormOutUpRefIdeal.sig) → Buf (Elt Ideal) ℓ) (g : Dev Cert.NormOutUpRefIdeal.nD → PrngReg), Pre_NormOutUpRefIdeal m →
    θ_run (Cert.NormOutUpRefIdeal.defs (F := Ideal)) (onTc (τ := Cert.NormOutUpRefIdeal.τ) (Cert.NormOutUpRefIdeal.main (F := Ideal))) ⟨m, fun _ => 0, g⟩ (fun r => (∀ c : Dev Cert.NormOutUpRefIdeal.nD,
      r.2.mem ((c.tc : Thread Cert.NormOutUpRefIdeal.nD Cert.NormOutUpRefIdeal.τ).loc Cert.NormOutUpRefIdeal.main_arg0) = m ((c.tc : Thread Cert.NormOutUpRefIdeal.nD Cert.NormOutUpRefIdeal.τ).loc Cert.NormOutUpRefIdeal.main_arg0)
      ∧ r.2.mem ((c.tc : Thread Cert.NormOutUpRefIdeal.nD Cert.NormOutUpRefIdeal.τ).loc Cert.NormOutUpRefIdeal.main_arg1) = m ((c.tc : Thread Cert.NormOutUpRefIdeal.nD Cert.NormOutUpRefIdeal.τ).loc Cert.NormOutUpRefIdeal.main_arg1)
      ∧ r.2.mem ((c.tc : Thread Cert.NormOutUpRefIdeal.nD Cert.NormOutUpRefIdeal.τ).loc Cert.NormOutUpRefIdeal.main_arg2) = m ((c.tc : Thread Cert.NormOutUpRefIdeal.nD Cert.NormOutUpRefIdeal.τ).loc Cert.NormOutUpRefIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1))
      ∧ r.2.sem = fun _ => 0)

def quiescent_NormMixGrad [hNormMixGrad : Cert.NormMixGrad.Facts] : Prop :=
  ∀ (m : (ℓ : Loc Cert.NormMixGrad.nD Cert.NormMixGrad.τ Cert.NormMixGrad.sig) → Buf (Elt Bits) ℓ) (g : Dev Cert.NormMixGrad.nD → PrngReg), Pre_NormMixGrad m →
    θ_run (Cert.NormMixGrad.defs (F := Bits)) (onTc (τ := Cert.NormMixGrad.τ) (Cert.NormMixGrad.main (F := Bits))) ⟨m, fun _ => 0, g⟩ (fun r => (∀ c : Dev Cert.NormMixGrad.nD,
      r.2.mem ((c.tc : Thread Cert.NormMixGrad.nD Cert.NormMixGrad.τ).loc Cert.NormMixGrad.main_arg0) = m ((c.tc : Thread Cert.NormMixGrad.nD Cert.NormMixGrad.τ).loc Cert.NormMixGrad.main_arg0)
      ∧ r.2.mem ((c.tc : Thread Cert.NormMixGrad.nD Cert.NormMixGrad.τ).loc Cert.NormMixGrad.main_arg1) = m ((c.tc : Thread Cert.NormMixGrad.nD Cert.NormMixGrad.τ).loc Cert.NormMixGrad.main_arg1)
      ∧ r.2.mem ((c.tc : Thread Cert.NormMixGrad.nD Cert.NormMixGrad.τ).loc Cert.NormMixGrad.main_arg2) = m ((c.tc : Thread Cert.NormMixGrad.nD Cert.NormMixGrad.τ).loc Cert.NormMixGrad.main_arg2)
      ∧ r.2.mem ((c.tc : Thread Cert.NormMixGrad.nD Cert.NormMixGrad.τ).loc Cert.NormMixGrad.main_arg3) = m ((c.tc : Thread Cert.NormMixGrad.nD Cert.NormMixGrad.τ).loc Cert.NormMixGrad.main_arg3))
      ∧ r.2.sem = fun _ => 0)

def quiescent_NormMixGradIdeal [hNormMixGradIdeal : Cert.NormMixGradIdeal.Facts] : Prop :=
  ∀ (m : (ℓ : Loc Cert.NormMixGradIdeal.nD Cert.NormMixGradIdeal.τ Cert.NormMixGradIdeal.sig) → Buf (Elt Ideal) ℓ) (g : Dev Cert.NormMixGradIdeal.nD → PrngReg), Pre_NormMixGradIdeal m →
    θ_run (Cert.NormMixGradIdeal.defs (F := Ideal)) (onTc (τ := Cert.NormMixGradIdeal.τ) (Cert.NormMixGradIdeal.main (F := Ideal))) ⟨m, fun _ => 0, g⟩ (fun r => (∀ c : Dev Cert.NormMixGradIdeal.nD,
      r.2.mem ((c.tc : Thread Cert.NormMixGradIdeal.nD Cert.NormMixGradIdeal.τ).loc Cert.NormMixGradIdeal.main_arg0) = m ((c.tc : Thread Cert.NormMixGradIdeal.nD Cert.NormMixGradIdeal.τ).loc Cert.NormMixGradIdeal.main_arg0)
      ∧ r.2.mem ((c.tc : Thread Cert.NormMixGradIdeal.nD Cert.NormMixGradIdeal.τ).loc Cert.NormMixGradIdeal.main_arg1) = m ((c.tc : Thread Cert.NormMixGradIdeal.nD Cert.NormMixGradIdeal.τ).loc Cert.NormMixGradIdeal.main_arg1)
      ∧ r.2.mem ((c.tc : Thread Cert.NormMixGradIdeal.nD Cert.NormMixGradIdeal.τ).loc Cert.NormMixGradIdeal.main_arg2) = m ((c.tc : Thread Cert.NormMixGradIdeal.nD Cert.NormMixGradIdeal.τ).loc Cert.NormMixGradIdeal.main_arg2)
      ∧ r.2.mem ((c.tc : Thread Cert.NormMixGradIdeal.nD Cert.NormMixGradIdeal.τ).loc Cert.NormMixGradIdeal.main_arg3) = m ((c.tc : Thread Cert.NormMixGradIdeal.nD Cert.NormMixGradIdeal.τ).loc Cert.NormMixGradIdeal.main_arg3))
      ∧ r.2.sem = fun _ => 0)

def quiescent_NormMixGradRefIdeal [hNormMixGradRefIdeal : Cert.NormMixGradRefIdeal.Facts] : Prop :=
  ∀ (m : (ℓ : Loc Cert.NormMixGradRefIdeal.nD Cert.NormMixGradRefIdeal.τ Cert.NormMixGradRefIdeal.sig) → Buf (Elt Ideal) ℓ) (g : Dev Cert.NormMixGradRefIdeal.nD → PrngReg), Pre_NormMixGradRefIdeal m →
    θ_run (Cert.NormMixGradRefIdeal.defs (F := Ideal)) (onTc (τ := Cert.NormMixGradRefIdeal.τ) (Cert.NormMixGradRefIdeal.main (F := Ideal))) ⟨m, fun _ => 0, g⟩ (fun r => (∀ c : Dev Cert.NormMixGradRefIdeal.nD,
      r.2.mem ((c.tc : Thread Cert.NormMixGradRefIdeal.nD Cert.NormMixGradRefIdeal.τ).loc Cert.NormMixGradRefIdeal.main_arg0) = m ((c.tc : Thread Cert.NormMixGradRefIdeal.nD Cert.NormMixGradRefIdeal.τ).loc Cert.NormMixGradRefIdeal.main_arg0)
      ∧ r.2.mem ((c.tc : Thread Cert.NormMixGradRefIdeal.nD Cert.NormMixGradRefIdeal.τ).loc Cert.NormMixGradRefIdeal.main_arg1) = m ((c.tc : Thread Cert.NormMixGradRefIdeal.nD Cert.NormMixGradRefIdeal.τ).loc Cert.NormMixGradRefIdeal.main_arg1)
      ∧ r.2.mem ((c.tc : Thread Cert.NormMixGradRefIdeal.nD Cert.NormMixGradRefIdeal.τ).loc Cert.NormMixGradRefIdeal.main_arg2) = m ((c.tc : Thread Cert.NormMixGradRefIdeal.nD Cert.NormMixGradRefIdeal.τ).loc Cert.NormMixGradRefIdeal.main_arg2)
      ∧ r.2.mem ((c.tc : Thread Cert.NormMixGradRefIdeal.nD Cert.NormMixGradRefIdeal.τ).loc Cert.NormMixGradRefIdeal.main_arg3) = m ((c.tc : Thread Cert.NormMixGradRefIdeal.nD Cert.NormMixGradRefIdeal.τ).loc Cert.NormMixGradRefIdeal.main_arg3))
      ∧ r.2.sem = fun _ => 0)

def quiescent_NormFfnGrad [hNormFfnGrad : Cert.NormFfnGrad.Facts] : Prop :=
  ∀ (m : (ℓ : Loc Cert.NormFfnGrad.nD Cert.NormFfnGrad.τ Cert.NormFfnGrad.sig) → Buf (Elt Bits) ℓ) (g : Dev Cert.NormFfnGrad.nD → PrngReg), Pre_NormFfnGrad m →
    θ_run (Cert.NormFfnGrad.defs (F := Bits)) (onTc (τ := Cert.NormFfnGrad.τ) (Cert.NormFfnGrad.main (F := Bits))) ⟨m, fun _ => 0, g⟩ (fun r => (∀ c : Dev Cert.NormFfnGrad.nD,
      r.2.mem ((c.tc : Thread Cert.NormFfnGrad.nD Cert.NormFfnGrad.τ).loc Cert.NormFfnGrad.main_arg0) = m ((c.tc : Thread Cert.NormFfnGrad.nD Cert.NormFfnGrad.τ).loc Cert.NormFfnGrad.main_arg0)
      ∧ r.2.mem ((c.tc : Thread Cert.NormFfnGrad.nD Cert.NormFfnGrad.τ).loc Cert.NormFfnGrad.main_arg1) = m ((c.tc : Thread Cert.NormFfnGrad.nD Cert.NormFfnGrad.τ).loc Cert.NormFfnGrad.main_arg1)
      ∧ r.2.mem ((c.tc : Thread Cert.NormFfnGrad.nD Cert.NormFfnGrad.τ).loc Cert.NormFfnGrad.main_arg2) = m ((c.tc : Thread Cert.NormFfnGrad.nD Cert.NormFfnGrad.τ).loc Cert.NormFfnGrad.main_arg2)
      ∧ r.2.mem ((c.tc : Thread Cert.NormFfnGrad.nD Cert.NormFfnGrad.τ).loc Cert.NormFfnGrad.main_arg3) = m ((c.tc : Thread Cert.NormFfnGrad.nD Cert.NormFfnGrad.τ).loc Cert.NormFfnGrad.main_arg3))
      ∧ r.2.sem = fun _ => 0)

def quiescent_NormFfnGradIdeal [hNormFfnGradIdeal : Cert.NormFfnGradIdeal.Facts] : Prop :=
  ∀ (m : (ℓ : Loc Cert.NormFfnGradIdeal.nD Cert.NormFfnGradIdeal.τ Cert.NormFfnGradIdeal.sig) → Buf (Elt Ideal) ℓ) (g : Dev Cert.NormFfnGradIdeal.nD → PrngReg), Pre_NormFfnGradIdeal m →
    θ_run (Cert.NormFfnGradIdeal.defs (F := Ideal)) (onTc (τ := Cert.NormFfnGradIdeal.τ) (Cert.NormFfnGradIdeal.main (F := Ideal))) ⟨m, fun _ => 0, g⟩ (fun r => (∀ c : Dev Cert.NormFfnGradIdeal.nD,
      r.2.mem ((c.tc : Thread Cert.NormFfnGradIdeal.nD Cert.NormFfnGradIdeal.τ).loc Cert.NormFfnGradIdeal.main_arg0) = m ((c.tc : Thread Cert.NormFfnGradIdeal.nD Cert.NormFfnGradIdeal.τ).loc Cert.NormFfnGradIdeal.main_arg0)
      ∧ r.2.mem ((c.tc : Thread Cert.NormFfnGradIdeal.nD Cert.NormFfnGradIdeal.τ).loc Cert.NormFfnGradIdeal.main_arg1) = m ((c.tc : Thread Cert.NormFfnGradIdeal.nD Cert.NormFfnGradIdeal.τ).loc Cert.NormFfnGradIdeal.main_arg1)
      ∧ r.2.mem ((c.tc : Thread Cert.NormFfnGradIdeal.nD Cert.NormFfnGradIdeal.τ).loc Cert.NormFfnGradIdeal.main_arg2) = m ((c.tc : Thread Cert.NormFfnGradIdeal.nD Cert.NormFfnGradIdeal.τ).loc Cert.NormFfnGradIdeal.main_arg2)
      ∧ r.2.mem ((c.tc : Thread Cert.NormFfnGradIdeal.nD Cert.NormFfnGradIdeal.τ).loc Cert.NormFfnGradIdeal.main_arg3) = m ((c.tc : Thread Cert.NormFfnGradIdeal.nD Cert.NormFfnGradIdeal.τ).loc Cert.NormFfnGradIdeal.main_arg3))
      ∧ r.2.sem = fun _ => 0)

def quiescent_NormFfnGradRefIdeal [hNormFfnGradRefIdeal : Cert.NormFfnGradRefIdeal.Facts] : Prop :=
  ∀ (m : (ℓ : Loc Cert.NormFfnGradRefIdeal.nD Cert.NormFfnGradRefIdeal.τ Cert.NormFfnGradRefIdeal.sig) → Buf (Elt Ideal) ℓ) (g : Dev Cert.NormFfnGradRefIdeal.nD → PrngReg), Pre_NormFfnGradRefIdeal m →
    θ_run (Cert.NormFfnGradRefIdeal.defs (F := Ideal)) (onTc (τ := Cert.NormFfnGradRefIdeal.τ) (Cert.NormFfnGradRefIdeal.main (F := Ideal))) ⟨m, fun _ => 0, g⟩ (fun r => (∀ c : Dev Cert.NormFfnGradRefIdeal.nD,
      r.2.mem ((c.tc : Thread Cert.NormFfnGradRefIdeal.nD Cert.NormFfnGradRefIdeal.τ).loc Cert.NormFfnGradRefIdeal.main_arg0) = m ((c.tc : Thread Cert.NormFfnGradRefIdeal.nD Cert.NormFfnGradRefIdeal.τ).loc Cert.NormFfnGradRefIdeal.main_arg0)
      ∧ r.2.mem ((c.tc : Thread Cert.NormFfnGradRefIdeal.nD Cert.NormFfnGradRefIdeal.τ).loc Cert.NormFfnGradRefIdeal.main_arg1) = m ((c.tc : Thread Cert.NormFfnGradRefIdeal.nD Cert.NormFfnGradRefIdeal.τ).loc Cert.NormFfnGradRefIdeal.main_arg1)
      ∧ r.2.mem ((c.tc : Thread Cert.NormFfnGradRefIdeal.nD Cert.NormFfnGradRefIdeal.τ).loc Cert.NormFfnGradRefIdeal.main_arg2) = m ((c.tc : Thread Cert.NormFfnGradRefIdeal.nD Cert.NormFfnGradRefIdeal.τ).loc Cert.NormFfnGradRefIdeal.main_arg2)
      ∧ r.2.mem ((c.tc : Thread Cert.NormFfnGradRefIdeal.nD Cert.NormFfnGradRefIdeal.τ).loc Cert.NormFfnGradRefIdeal.main_arg3) = m ((c.tc : Thread Cert.NormFfnGradRefIdeal.nD Cert.NormFfnGradRefIdeal.τ).loc Cert.NormFfnGradRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1))
      ∧ r.2.sem = fun _ => 0)

def quiescent_InDtGrad [hInDtGrad : Cert.InDtGrad.Facts] : Prop :=
  ∀ (m : (ℓ : Loc Cert.InDtGrad.nD Cert.InDtGrad.τ Cert.InDtGrad.sig) → Buf (Elt Bits) ℓ) (g : Dev Cert.InDtGrad.nD → PrngReg), Pre_InDtGrad m →
    θ_run (Cert.InDtGrad.defs (F := Bits)) (onTc (τ := Cert.InDtGrad.τ) (Cert.InDtGrad.main (F := Bits))) ⟨m, fun _ => 0, g⟩ (fun r => (∀ c : Dev Cert.InDtGrad.nD,
      r.2.mem ((c.tc : Thread Cert.InDtGrad.nD Cert.InDtGrad.τ).loc Cert.InDtGrad.main_arg0) = m ((c.tc : Thread Cert.InDtGrad.nD Cert.InDtGrad.τ).loc Cert.InDtGrad.main_arg0)
      ∧ r.2.mem ((c.tc : Thread Cert.InDtGrad.nD Cert.InDtGrad.τ).loc Cert.InDtGrad.main_arg1) = m ((c.tc : Thread Cert.InDtGrad.nD Cert.InDtGrad.τ).loc Cert.InDtGrad.main_arg1))
      ∧ r.2.sem = fun _ => 0)

def quiescent_InDtGradIdeal [hInDtGradIdeal : Cert.InDtGradIdeal.Facts] : Prop :=
  ∀ (m : (ℓ : Loc Cert.InDtGradIdeal.nD Cert.InDtGradIdeal.τ Cert.InDtGradIdeal.sig) → Buf (Elt Ideal) ℓ) (g : Dev Cert.InDtGradIdeal.nD → PrngReg), Pre_InDtGradIdeal m →
    θ_run (Cert.InDtGradIdeal.defs (F := Ideal)) (onTc (τ := Cert.InDtGradIdeal.τ) (Cert.InDtGradIdeal.main (F := Ideal))) ⟨m, fun _ => 0, g⟩ (fun r => (∀ c : Dev Cert.InDtGradIdeal.nD,
      r.2.mem ((c.tc : Thread Cert.InDtGradIdeal.nD Cert.InDtGradIdeal.τ).loc Cert.InDtGradIdeal.main_arg0) = m ((c.tc : Thread Cert.InDtGradIdeal.nD Cert.InDtGradIdeal.τ).loc Cert.InDtGradIdeal.main_arg0)
      ∧ r.2.mem ((c.tc : Thread Cert.InDtGradIdeal.nD Cert.InDtGradIdeal.τ).loc Cert.InDtGradIdeal.main_arg1) = m ((c.tc : Thread Cert.InDtGradIdeal.nD Cert.InDtGradIdeal.τ).loc Cert.InDtGradIdeal.main_arg1))
      ∧ r.2.sem = fun _ => 0)

def quiescent_InDtGradRefIdeal [hInDtGradRefIdeal : Cert.InDtGradRefIdeal.Facts] : Prop :=
  ∀ (m : (ℓ : Loc Cert.InDtGradRefIdeal.nD Cert.InDtGradRefIdeal.τ Cert.InDtGradRefIdeal.sig) → Buf (Elt Ideal) ℓ) (g : Dev Cert.InDtGradRefIdeal.nD → PrngReg), Pre_InDtGradRefIdeal m →
    θ_run (Cert.InDtGradRefIdeal.defs (F := Ideal)) (onTc (τ := Cert.InDtGradRefIdeal.τ) (Cert.InDtGradRefIdeal.main (F := Ideal))) ⟨m, fun _ => 0, g⟩ (fun r => (∀ c : Dev Cert.InDtGradRefIdeal.nD,
      r.2.mem ((c.tc : Thread Cert.InDtGradRefIdeal.nD Cert.InDtGradRefIdeal.τ).loc Cert.InDtGradRefIdeal.main_arg0) = m ((c.tc : Thread Cert.InDtGradRefIdeal.nD Cert.InDtGradRefIdeal.τ).loc Cert.InDtGradRefIdeal.main_arg0)
      ∧ r.2.mem ((c.tc : Thread Cert.InDtGradRefIdeal.nD Cert.InDtGradRefIdeal.τ).loc Cert.InDtGradRefIdeal.main_arg1) = m ((c.tc : Thread Cert.InDtGradRefIdeal.nD Cert.InDtGradRefIdeal.τ).loc Cert.InDtGradRefIdeal.main_arg1))
      ∧ r.2.sem = fun _ => 0)

def quiescent_NormMixOutDt [hNormMixOutDt : Cert.NormMixOutDt.Facts] : Prop :=
  ∀ (m : (ℓ : Loc Cert.NormMixOutDt.nD Cert.NormMixOutDt.τ Cert.NormMixOutDt.sig) → Buf (Elt Bits) ℓ) (g : Dev Cert.NormMixOutDt.nD → PrngReg), Pre_NormMixOutDt m →
    θ_run (Cert.NormMixOutDt.defs (F := Bits)) (onTc (τ := Cert.NormMixOutDt.τ) (Cert.NormMixOutDt.main (F := Bits))) ⟨m, fun _ => 0, g⟩ (fun r => (∀ c : Dev Cert.NormMixOutDt.nD,
      r.2.mem ((c.tc : Thread Cert.NormMixOutDt.nD Cert.NormMixOutDt.τ).loc Cert.NormMixOutDt.main_arg0) = m ((c.tc : Thread Cert.NormMixOutDt.nD Cert.NormMixOutDt.τ).loc Cert.NormMixOutDt.main_arg0)
      ∧ r.2.mem ((c.tc : Thread Cert.NormMixOutDt.nD Cert.NormMixOutDt.τ).loc Cert.NormMixOutDt.main_arg1) = m ((c.tc : Thread Cert.NormMixOutDt.nD Cert.NormMixOutDt.τ).loc Cert.NormMixOutDt.main_arg1))
      ∧ r.2.sem = fun _ => 0)

def quiescent_NormMixOutDtIdeal [hNormMixOutDtIdeal : Cert.NormMixOutDtIdeal.Facts] : Prop :=
  ∀ (m : (ℓ : Loc Cert.NormMixOutDtIdeal.nD Cert.NormMixOutDtIdeal.τ Cert.NormMixOutDtIdeal.sig) → Buf (Elt Ideal) ℓ) (g : Dev Cert.NormMixOutDtIdeal.nD → PrngReg), Pre_NormMixOutDtIdeal m →
    θ_run (Cert.NormMixOutDtIdeal.defs (F := Ideal)) (onTc (τ := Cert.NormMixOutDtIdeal.τ) (Cert.NormMixOutDtIdeal.main (F := Ideal))) ⟨m, fun _ => 0, g⟩ (fun r => (∀ c : Dev Cert.NormMixOutDtIdeal.nD,
      r.2.mem ((c.tc : Thread Cert.NormMixOutDtIdeal.nD Cert.NormMixOutDtIdeal.τ).loc Cert.NormMixOutDtIdeal.main_arg0) = m ((c.tc : Thread Cert.NormMixOutDtIdeal.nD Cert.NormMixOutDtIdeal.τ).loc Cert.NormMixOutDtIdeal.main_arg0)
      ∧ r.2.mem ((c.tc : Thread Cert.NormMixOutDtIdeal.nD Cert.NormMixOutDtIdeal.τ).loc Cert.NormMixOutDtIdeal.main_arg1) = m ((c.tc : Thread Cert.NormMixOutDtIdeal.nD Cert.NormMixOutDtIdeal.τ).loc Cert.NormMixOutDtIdeal.main_arg1))
      ∧ r.2.sem = fun _ => 0)

def quiescent_NormMixOutDtRefIdeal [hNormMixOutDtRefIdeal : Cert.NormMixOutDtRefIdeal.Facts] : Prop :=
  ∀ (m : (ℓ : Loc Cert.NormMixOutDtRefIdeal.nD Cert.NormMixOutDtRefIdeal.τ Cert.NormMixOutDtRefIdeal.sig) → Buf (Elt Ideal) ℓ) (g : Dev Cert.NormMixOutDtRefIdeal.nD → PrngReg), Pre_NormMixOutDtRefIdeal m →
    θ_run (Cert.NormMixOutDtRefIdeal.defs (F := Ideal)) (onTc (τ := Cert.NormMixOutDtRefIdeal.τ) (Cert.NormMixOutDtRefIdeal.main (F := Ideal))) ⟨m, fun _ => 0, g⟩ (fun r => (∀ c : Dev Cert.NormMixOutDtRefIdeal.nD,
      r.2.mem ((c.tc : Thread Cert.NormMixOutDtRefIdeal.nD Cert.NormMixOutDtRefIdeal.τ).loc Cert.NormMixOutDtRefIdeal.main_arg0) = m ((c.tc : Thread Cert.NormMixOutDtRefIdeal.nD Cert.NormMixOutDtRefIdeal.τ).loc Cert.NormMixOutDtRefIdeal.main_arg0)
      ∧ r.2.mem ((c.tc : Thread Cert.NormMixOutDtRefIdeal.nD Cert.NormMixOutDtRefIdeal.τ).loc Cert.NormMixOutDtRefIdeal.main_arg1) = m ((c.tc : Thread Cert.NormMixOutDtRefIdeal.nD Cert.NormMixOutDtRefIdeal.τ).loc Cert.NormMixOutDtRefIdeal.main_arg1))
      ∧ r.2.sem = fun _ => 0)

def quiescent_SsmConv [hSsmConv : Cert.SsmConv.Facts] : Prop :=
  ∀ (m : (ℓ : Loc Cert.SsmConv.nD Cert.SsmConv.τ Cert.SsmConv.sig) → Buf (Elt Bits) ℓ) (g : Dev Cert.SsmConv.nD → PrngReg), Pre_SsmConv m →
    θ_run (Cert.SsmConv.defs (F := Bits)) (onTc (τ := Cert.SsmConv.τ) (Cert.SsmConv.main (F := Bits))) ⟨m, fun _ => 0, g⟩ (fun r => (∀ c : Dev Cert.SsmConv.nD,
      r.2.mem ((c.tc : Thread Cert.SsmConv.nD Cert.SsmConv.τ).loc Cert.SsmConv.main_arg0) = m ((c.tc : Thread Cert.SsmConv.nD Cert.SsmConv.τ).loc Cert.SsmConv.main_arg0)
      ∧ r.2.mem ((c.tc : Thread Cert.SsmConv.nD Cert.SsmConv.τ).loc Cert.SsmConv.main_arg1) = m ((c.tc : Thread Cert.SsmConv.nD Cert.SsmConv.τ).loc Cert.SsmConv.main_arg1)
      ∧ r.2.mem ((c.tc : Thread Cert.SsmConv.nD Cert.SsmConv.τ).loc Cert.SsmConv.main_arg2) = m ((c.tc : Thread Cert.SsmConv.nD Cert.SsmConv.τ).loc Cert.SsmConv.main_arg2))
      ∧ r.2.sem = fun _ => 0)

def quiescent_SsmConvIdeal [hSsmConvIdeal : Cert.SsmConvIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg), Pre_SsmConvIdeal m →
    θ_run (Cert.SsmConvIdeal.defs (F := Ideal)) (onTc (τ := Cert.SsmConvIdeal.τ) (Cert.SsmConvIdeal.main (F := Ideal))) ⟨m, fun _ => 0, g⟩ (fun r => (∀ c : Dev Cert.SsmConvIdeal.nD,
      r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
      ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
      ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ r.2.sem = fun _ => 0)

def quiescent_SsmConvRefIdeal [hSsmConvRefIdeal : Cert.SsmConvRefIdeal.Facts] : Prop :=
  ∀ (m : (ℓ : Loc Cert.SsmConvRefIdeal.nD Cert.SsmConvRefIdeal.τ Cert.SsmConvRefIdeal.sig) → Buf (Elt Ideal) ℓ) (g : Dev Cert.SsmConvRefIdeal.nD → PrngReg), Pre_SsmConvRefIdeal m →
    θ_run (Cert.SsmConvRefIdeal.defs (F := Ideal)) (onTc (τ := Cert.SsmConvRefIdeal.τ) (Cert.SsmConvRefIdeal.main (F := Ideal))) ⟨m, fun _ => 0, g⟩ (fun r => (∀ c : Dev Cert.SsmConvRefIdeal.nD,
      r.2.mem ((c.tc : Thread Cert.SsmConvRefIdeal.nD Cert.SsmConvRefIdeal.τ).loc Cert.SsmConvRefIdeal.main_arg0) = m ((c.tc : Thread Cert.SsmConvRefIdeal.nD Cert.SsmConvRefIdeal.τ).loc Cert.SsmConvRefIdeal.main_arg0)
      ∧ r.2.mem ((c.tc : Thread Cert.SsmConvRefIdeal.nD Cert.SsmConvRefIdeal.τ).loc Cert.SsmConvRefIdeal.main_arg1) = m ((c.tc : Thread Cert.SsmConvRefIdeal.nD Cert.SsmConvRefIdeal.τ).loc Cert.SsmConvRefIdeal.main_arg1)
      ∧ r.2.mem ((c.tc : Thread Cert.SsmConvRefIdeal.nD Cert.SsmConvRefIdeal.τ).loc Cert.SsmConvRefIdeal.main_arg2) = m ((c.tc : Thread Cert.SsmConvRefIdeal.nD Cert.SsmConvRefIdeal.τ).loc Cert.SsmConvRefIdeal.main_arg2))
      ∧ r.2.sem = fun _ => 0)

def quiescent_ShortConvFwd [hShortConvFwd : Cert.ShortConvFwd.Facts] : Prop :=
  ∀ (m : (ℓ : Loc Cert.ShortConvFwd.nD Cert.ShortConvFwd.τ Cert.ShortConvFwd.sig) → Buf (Elt Bits) ℓ) (g : Dev Cert.ShortConvFwd.nD → PrngReg), Pre_ShortConvFwd m →
    θ_run (Cert.ShortConvFwd.defs (F := Bits)) (onTc (τ := Cert.ShortConvFwd.τ) (Cert.ShortConvFwd.main (F := Bits))) ⟨m, fun _ => 0, g⟩ (fun r => (∀ c : Dev Cert.ShortConvFwd.nD,
      r.2.mem ((c.tc : Thread Cert.ShortConvFwd.nD Cert.ShortConvFwd.τ).loc Cert.ShortConvFwd.main_arg0) = m ((c.tc : Thread Cert.ShortConvFwd.nD Cert.ShortConvFwd.τ).loc Cert.ShortConvFwd.main_arg0)
      ∧ r.2.mem ((c.tc : Thread Cert.ShortConvFwd.nD Cert.ShortConvFwd.τ).loc Cert.ShortConvFwd.main_arg1) = m ((c.tc : Thread Cert.ShortConvFwd.nD Cert.ShortConvFwd.τ).loc Cert.ShortConvFwd.main_arg1)
      ∧ r.2.mem ((c.tc : Thread Cert.ShortConvFwd.nD Cert.ShortConvFwd.τ).loc Cert.ShortConvFwd.main_arg2) = m ((c.tc : Thread Cert.ShortConvFwd.nD Cert.ShortConvFwd.τ).loc Cert.ShortConvFwd.main_arg2))
      ∧ r.2.sem = fun _ => 0)

def quiescent_ShortConvFwdIdeal [hShortConvFwdIdeal : Cert.ShortConvFwdIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg), Pre_ShortConvFwdIdeal m →
    θ_run (Cert.ShortConvFwdIdeal.defs (F := Ideal)) (onTc (τ := Cert.ShortConvFwdIdeal.τ) (Cert.ShortConvFwdIdeal.main (F := Ideal))) ⟨m, fun _ => 0, g⟩ (fun r => (∀ c : Dev Cert.ShortConvFwdIdeal.nD,
      r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
      ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1)
      ∧ r.2.mem ((c.tc : Thread Cert.ShortConvFwdIdeal.nD Cert.ShortConvFwdIdeal.τ).loc Cert.ShortConvFwdIdeal.main_arg2) = m ((c.tc : Thread Cert.ShortConvFwdIdeal.nD Cert.ShortConvFwdIdeal.τ).loc Cert.ShortConvFwdIdeal.main_arg2))
      ∧ r.2.sem = fun _ => 0)

def quiescent_ShortConvFwdRefIdeal [hShortConvFwdRefIdeal : Cert.ShortConvFwdRefIdeal.Facts] : Prop :=
  ∀ (m : (ℓ : Loc Cert.ShortConvFwdRefIdeal.nD Cert.ShortConvFwdRefIdeal.τ Cert.ShortConvFwdRefIdeal.sig) → Buf (Elt Ideal) ℓ) (g : Dev Cert.ShortConvFwdRefIdeal.nD → PrngReg), Pre_ShortConvFwdRefIdeal m →
    θ_run (Cert.ShortConvFwdRefIdeal.defs (F := Ideal)) (onTc (τ := Cert.ShortConvFwdRefIdeal.τ) (Cert.ShortConvFwdRefIdeal.main (F := Ideal))) ⟨m, fun _ => 0, g⟩ (fun r => (∀ c : Dev Cert.ShortConvFwdRefIdeal.nD,
      r.2.mem ((c.tc : Thread Cert.ShortConvFwdRefIdeal.nD Cert.ShortConvFwdRefIdeal.τ).loc Cert.ShortConvFwdRefIdeal.main_arg0) = m ((c.tc : Thread Cert.ShortConvFwdRefIdeal.nD Cert.ShortConvFwdRefIdeal.τ).loc Cert.ShortConvFwdRefIdeal.main_arg0)
      ∧ r.2.mem ((c.tc : Thread Cert.ShortConvFwdRefIdeal.nD Cert.ShortConvFwdRefIdeal.τ).loc Cert.ShortConvFwdRefIdeal.main_arg1) = m ((c.tc : Thread Cert.ShortConvFwdRefIdeal.nD Cert.ShortConvFwdRefIdeal.τ).loc Cert.ShortConvFwdRefIdeal.main_arg1)
      ∧ r.2.mem ((c.tc : Thread Cert.ShortConvFwdRefIdeal.nD Cert.ShortConvFwdRefIdeal.τ).loc Cert.ShortConvFwdRefIdeal.main_arg2) = m ((c.tc : Thread Cert.ShortConvFwdRefIdeal.nD Cert.ShortConvFwdRefIdeal.τ).loc Cert.ShortConvFwdRefIdeal.main_arg2))
      ∧ r.2.sem = fun _ => 0)

def quiescent_ConvGradX [hConvGradX : Cert.ConvGradX.Facts] : Prop :=
  ∀ (m : (ℓ : Loc Cert.ConvGradX.nD Cert.ConvGradX.τ Cert.ConvGradX.sig) → Buf (Elt Bits) ℓ) (g : Dev Cert.ConvGradX.nD → PrngReg), Pre_ConvGradX m →
    θ_run (Cert.ConvGradX.defs (F := Bits)) (onTc (τ := Cert.ConvGradX.τ) (Cert.ConvGradX.main (F := Bits))) ⟨m, fun _ => 0, g⟩ (fun r => (∀ c : Dev Cert.ConvGradX.nD,
      r.2.mem ((c.tc : Thread Cert.ConvGradX.nD Cert.ConvGradX.τ).loc Cert.ConvGradX.main_arg0) = m ((c.tc : Thread Cert.ConvGradX.nD Cert.ConvGradX.τ).loc Cert.ConvGradX.main_arg0)
      ∧ r.2.mem ((c.tc : Thread Cert.ConvGradX.nD Cert.ConvGradX.τ).loc Cert.ConvGradX.main_arg1) = m ((c.tc : Thread Cert.ConvGradX.nD Cert.ConvGradX.τ).loc Cert.ConvGradX.main_arg1)
      ∧ r.2.mem ((c.tc : Thread Cert.ConvGradX.nD Cert.ConvGradX.τ).loc Cert.ConvGradX.main_arg2) = m ((c.tc : Thread Cert.ConvGradX.nD Cert.ConvGradX.τ).loc Cert.ConvGradX.main_arg2)
      ∧ r.2.mem ((c.tc : Thread Cert.ConvGradX.nD Cert.ConvGradX.τ).loc Cert.ConvGradX.main_arg3) = m ((c.tc : Thread Cert.ConvGradX.nD Cert.ConvGradX.τ).loc Cert.ConvGradX.main_arg3)
      ∧ r.2.mem ((c.tc : Thread Cert.ConvGradX.nD Cert.ConvGradX.τ).loc Cert.ConvGradX.main_arg4) = m ((c.tc : Thread Cert.ConvGradX.nD Cert.ConvGradX.τ).loc Cert.ConvGradX.main_arg4))
      ∧ r.2.sem = fun _ => 0)

def quiescent_ConvGradXIdeal [hConvGradXIdeal : Cert.ConvGradXIdeal.Facts] : Prop :=
  ∀ (m : (ℓ : Loc Cert.ConvGradXIdeal.nD Cert.ConvGradXIdeal.τ Cert.ConvGradXIdeal.sig) → Buf (Elt Ideal) ℓ) (g : Dev Cert.ConvGradXIdeal.nD → PrngReg), Pre_ConvGradXIdeal m →
    θ_run (Cert.ConvGradXIdeal.defs (F := Ideal)) (onTc (τ := Cert.ConvGradXIdeal.τ) (Cert.ConvGradXIdeal.main (F := Ideal))) ⟨m, fun _ => 0, g⟩ (fun r => (∀ c : Dev Cert.ConvGradXIdeal.nD,
      r.2.mem ((c.tc : Thread Cert.ConvGradXIdeal.nD Cert.ConvGradXIdeal.τ).loc Cert.ConvGradXIdeal.main_arg0) = m ((c.tc : Thread Cert.ConvGradXIdeal.nD Cert.ConvGradXIdeal.τ).loc Cert.ConvGradXIdeal.main_arg0)
      ∧ r.2.mem ((c.tc : Thread Cert.ConvGradXIdeal.nD Cert.ConvGradXIdeal.τ).loc Cert.ConvGradXIdeal.main_arg1) = m ((c.tc : Thread Cert.ConvGradXIdeal.nD Cert.ConvGradXIdeal.τ).loc Cert.ConvGradXIdeal.main_arg1)
      ∧ r.2.mem ((c.tc : Thread Cert.ConvGradXIdeal.nD Cert.ConvGradXIdeal.τ).loc Cert.ConvGradXIdeal.main_arg2) = m ((c.tc : Thread Cert.ConvGradXIdeal.nD Cert.ConvGradXIdeal.τ).loc Cert.ConvGradXIdeal.main_arg2)
      ∧ r.2.mem ((c.tc : Thread Cert.ConvGradXIdeal.nD Cert.ConvGradXIdeal.τ).loc Cert.ConvGradXIdeal.main_arg3) = m ((c.tc : Thread Cert.ConvGradXIdeal.nD Cert.ConvGradXIdeal.τ).loc Cert.ConvGradXIdeal.main_arg3)
      ∧ r.2.mem ((c.tc : Thread Cert.ConvGradXIdeal.nD Cert.ConvGradXIdeal.τ).loc Cert.ConvGradXIdeal.main_arg4) = m ((c.tc : Thread Cert.ConvGradXIdeal.nD Cert.ConvGradXIdeal.τ).loc Cert.ConvGradXIdeal.main_arg4))
      ∧ r.2.sem = fun _ => 0)

def quiescent_ConvGradXIdeal_pre_finite_ct [hConvGradXIdeal : Cert.ConvGradXIdeal.Facts] [hPre_finite_ct : Cert.Pre_finite_ct.Facts] : Prop :=
  ∀ (m : (ℓ : Loc Cert.ConvGradXIdeal.nD Cert.ConvGradXIdeal.τ Cert.ConvGradXIdeal.sig) → Buf (Elt Ideal) ℓ) (g : Dev Cert.ConvGradXIdeal.nD → PrngReg), Pre_ConvGradXIdeal_finite_ct m →
    θ_run (Cert.ConvGradXIdeal.defs (F := Ideal)) (onTc (τ := Cert.ConvGradXIdeal.τ) (Cert.ConvGradXIdeal.main (F := Ideal))) ⟨m, fun _ => 0, g⟩ (fun r => (∀ c : Dev Cert.ConvGradXIdeal.nD,
      r.2.mem ((c.tc : Thread Cert.ConvGradXIdeal.nD Cert.ConvGradXIdeal.τ).loc Cert.ConvGradXIdeal.main_arg0) = m ((c.tc : Thread Cert.ConvGradXIdeal.nD Cert.ConvGradXIdeal.τ).loc Cert.ConvGradXIdeal.main_arg0)
      ∧ r.2.mem ((c.tc : Thread Cert.ConvGradXIdeal.nD Cert.ConvGradXIdeal.τ).loc Cert.ConvGradXIdeal.main_arg1) = m ((c.tc : Thread Cert.ConvGradXIdeal.nD Cert.ConvGradXIdeal.τ).loc Cert.ConvGradXIdeal.main_arg1)
      ∧ r.2.mem ((c.tc : Thread Cert.ConvGradXIdeal.nD Cert.ConvGradXIdeal.τ).loc Cert.ConvGradXIdeal.main_arg2) = m ((c.tc : Thread Cert.ConvGradXIdeal.nD Cert.ConvGradXIdeal.τ).loc Cert.ConvGradXIdeal.main_arg2)
      ∧ r.2.mem ((c.tc : Thread Cert.ConvGradXIdeal.nD Cert.ConvGradXIdeal.τ).loc Cert.ConvGradXIdeal.main_arg3) = m ((c.tc : Thread Cert.ConvGradXIdeal.nD Cert.ConvGradXIdeal.τ).loc Cert.ConvGradXIdeal.main_arg3)
      ∧ r.2.mem ((c.tc : Thread Cert.ConvGradXIdeal.nD Cert.ConvGradXIdeal.τ).loc Cert.ConvGradXIdeal.main_arg4) = m ((c.tc : Thread Cert.ConvGradXIdeal.nD Cert.ConvGradXIdeal.τ).loc Cert.ConvGradXIdeal.main_arg4))
      ∧ r.2.sem = fun _ => 0)

def quiescent_ConvGradXRefIdeal [hConvGradXRefIdeal : Cert.ConvGradXRefIdeal.Facts] : Prop :=
  ∀ (m : (ℓ : Loc Cert.ConvGradXRefIdeal.nD Cert.ConvGradXRefIdeal.τ Cert.ConvGradXRefIdeal.sig) → Buf (Elt Ideal) ℓ) (g : Dev Cert.ConvGradXRefIdeal.nD → PrngReg), Pre_ConvGradXRefIdeal m →
    θ_run (Cert.ConvGradXRefIdeal.defs (F := Ideal)) (onTc (τ := Cert.ConvGradXRefIdeal.τ) (Cert.ConvGradXRefIdeal.main (F := Ideal))) ⟨m, fun _ => 0, g⟩ (fun r => (∀ c : Dev Cert.ConvGradXRefIdeal.nD,
      r.2.mem ((c.tc : Thread Cert.ConvGradXRefIdeal.nD Cert.ConvGradXRefIdeal.τ).loc Cert.ConvGradXRefIdeal.main_arg0) = m ((c.tc : Thread Cert.ConvGradXRefIdeal.nD Cert.ConvGradXRefIdeal.τ).loc Cert.ConvGradXRefIdeal.main_arg0)
      ∧ r.2.mem ((c.tc : Thread Cert.ConvGradXRefIdeal.nD Cert.ConvGradXRefIdeal.τ).loc Cert.ConvGradXRefIdeal.main_arg1) = m ((c.tc : Thread Cert.ConvGradXRefIdeal.nD Cert.ConvGradXRefIdeal.τ).loc Cert.ConvGradXRefIdeal.main_arg1)
      ∧ r.2.mem ((c.tc : Thread Cert.ConvGradXRefIdeal.nD Cert.ConvGradXRefIdeal.τ).loc Cert.ConvGradXRefIdeal.main_arg2) = m ((c.tc : Thread Cert.ConvGradXRefIdeal.nD Cert.ConvGradXRefIdeal.τ).loc Cert.ConvGradXRefIdeal.main_arg2)
      ∧ r.2.mem ((c.tc : Thread Cert.ConvGradXRefIdeal.nD Cert.ConvGradXRefIdeal.τ).loc Cert.ConvGradXRefIdeal.main_arg3) = m ((c.tc : Thread Cert.ConvGradXRefIdeal.nD Cert.ConvGradXRefIdeal.τ).loc Cert.ConvGradXRefIdeal.main_arg3)
      ∧ r.2.mem ((c.tc : Thread Cert.ConvGradXRefIdeal.nD Cert.ConvGradXRefIdeal.τ).loc Cert.ConvGradXRefIdeal.main_arg4) = m ((c.tc : Thread Cert.ConvGradXRefIdeal.nD Cert.ConvGradXRefIdeal.τ).loc Cert.ConvGradXRefIdeal.main_arg4))
      ∧ r.2.sem = fun _ => 0)

def quiescent_ConvGradXRefIdeal_pre_finite_ct [hConvGradXRefIdeal : Cert.ConvGradXRefIdeal.Facts] [hPre_finite_ct : Cert.Pre_finite_ct.Facts] : Prop :=
  ∀ (m : (ℓ : Loc Cert.ConvGradXRefIdeal.nD Cert.ConvGradXRefIdeal.τ Cert.ConvGradXRefIdeal.sig) → Buf (Elt Ideal) ℓ) (g : Dev Cert.ConvGradXRefIdeal.nD → PrngReg), Pre_ConvGradXRefIdeal_finite_ct m →
    θ_run (Cert.ConvGradXRefIdeal.defs (F := Ideal)) (onTc (τ := Cert.ConvGradXRefIdeal.τ) (Cert.ConvGradXRefIdeal.main (F := Ideal))) ⟨m, fun _ => 0, g⟩ (fun r => (∀ c : Dev Cert.ConvGradXRefIdeal.nD,
      r.2.mem ((c.tc : Thread Cert.ConvGradXRefIdeal.nD Cert.ConvGradXRefIdeal.τ).loc Cert.ConvGradXRefIdeal.main_arg0) = m ((c.tc : Thread Cert.ConvGradXRefIdeal.nD Cert.ConvGradXRefIdeal.τ).loc Cert.ConvGradXRefIdeal.main_arg0)
      ∧ r.2.mem ((c.tc : Thread Cert.ConvGradXRefIdeal.nD Cert.ConvGradXRefIdeal.τ).loc Cert.ConvGradXRefIdeal.main_arg1) = m ((c.tc : Thread Cert.ConvGradXRefIdeal.nD Cert.ConvGradXRefIdeal.τ).loc Cert.ConvGradXRefIdeal.main_arg1)
      ∧ r.2.mem ((c.tc : Thread Cert.ConvGradXRefIdeal.nD Cert.ConvGradXRefIdeal.τ).loc Cert.ConvGradXRefIdeal.main_arg2) = m ((c.tc : Thread Cert.ConvGradXRefIdeal.nD Cert.ConvGradXRefIdeal.τ).loc Cert.ConvGradXRefIdeal.main_arg2)
      ∧ r.2.mem ((c.tc : Thread Cert.ConvGradXRefIdeal.nD Cert.ConvGradXRefIdeal.τ).loc Cert.ConvGradXRefIdeal.main_arg3) = m ((c.tc : Thread Cert.ConvGradXRefIdeal.nD Cert.ConvGradXRefIdeal.τ).loc Cert.ConvGradXRefIdeal.main_arg3)
      ∧ r.2.mem ((c.tc : Thread Cert.ConvGradXRefIdeal.nD Cert.ConvGradXRefIdeal.τ).loc Cert.ConvGradXRefIdeal.main_arg4) = m ((c.tc : Thread Cert.ConvGradXRefIdeal.nD Cert.ConvGradXRefIdeal.τ).loc Cert.ConvGradXRefIdeal.main_arg4))
      ∧ r.2.sem = fun _ => 0)

def quiescent_ConvGradB [hConvGradB : Cert.ConvGradB.Facts] : Prop :=
  ∀ (m : (ℓ : Loc Cert.ConvGradB.nD Cert.ConvGradB.τ Cert.ConvGradB.sig) → Buf (Elt Bits) ℓ) (g : Dev Cert.ConvGradB.nD → PrngReg), Pre_ConvGradB m →
    θ_run (Cert.ConvGradB.defs (F := Bits)) (onTc (τ := Cert.ConvGradB.τ) (Cert.ConvGradB.main (F := Bits))) ⟨m, fun _ => 0, g⟩ (fun r => (∀ c : Dev Cert.ConvGradB.nD,
      r.2.mem ((c.tc : Thread Cert.ConvGradB.nD Cert.ConvGradB.τ).loc Cert.ConvGradB.main_arg0) = m ((c.tc : Thread Cert.ConvGradB.nD Cert.ConvGradB.τ).loc Cert.ConvGradB.main_arg0)
      ∧ r.2.mem ((c.tc : Thread Cert.ConvGradB.nD Cert.ConvGradB.τ).loc Cert.ConvGradB.main_arg1) = m ((c.tc : Thread Cert.ConvGradB.nD Cert.ConvGradB.τ).loc Cert.ConvGradB.main_arg1)
      ∧ r.2.mem ((c.tc : Thread Cert.ConvGradB.nD Cert.ConvGradB.τ).loc Cert.ConvGradB.main_arg2) = m ((c.tc : Thread Cert.ConvGradB.nD Cert.ConvGradB.τ).loc Cert.ConvGradB.main_arg2)
      ∧ r.2.mem ((c.tc : Thread Cert.ConvGradB.nD Cert.ConvGradB.τ).loc Cert.ConvGradB.main_arg3) = m ((c.tc : Thread Cert.ConvGradB.nD Cert.ConvGradB.τ).loc Cert.ConvGradB.main_arg3)
      ∧ r.2.mem ((c.tc : Thread Cert.ConvGradB.nD Cert.ConvGradB.τ).loc Cert.ConvGradB.main_arg4) = m ((c.tc : Thread Cert.ConvGradB.nD Cert.ConvGradB.τ).loc Cert.ConvGradB.main_arg4))
      ∧ r.2.sem = fun _ => 0)

def quiescent_ConvGradBIdeal [hConvGradBIdeal : Cert.ConvGradBIdeal.Facts] : Prop :=
  ∀ (m : (ℓ : Loc Cert.ConvGradBIdeal.nD Cert.ConvGradBIdeal.τ Cert.ConvGradBIdeal.sig) → Buf (Elt Ideal) ℓ) (g : Dev Cert.ConvGradBIdeal.nD → PrngReg), Pre_ConvGradBIdeal m →
    θ_run (Cert.ConvGradBIdeal.defs (F := Ideal)) (onTc (τ := Cert.ConvGradBIdeal.τ) (Cert.ConvGradBIdeal.main (F := Ideal))) ⟨m, fun _ => 0, g⟩ (fun r => (∀ c : Dev Cert.ConvGradBIdeal.nD,
      r.2.mem ((c.tc : Thread Cert.ConvGradBIdeal.nD Cert.ConvGradBIdeal.τ).loc Cert.ConvGradBIdeal.main_arg0) = m ((c.tc : Thread Cert.ConvGradBIdeal.nD Cert.ConvGradBIdeal.τ).loc Cert.ConvGradBIdeal.main_arg0)
      ∧ r.2.mem ((c.tc : Thread Cert.ConvGradBIdeal.nD Cert.ConvGradBIdeal.τ).loc Cert.ConvGradBIdeal.main_arg1) = m ((c.tc : Thread Cert.ConvGradBIdeal.nD Cert.ConvGradBIdeal.τ).loc Cert.ConvGradBIdeal.main_arg1)
      ∧ r.2.mem ((c.tc : Thread Cert.ConvGradBIdeal.nD Cert.ConvGradBIdeal.τ).loc Cert.ConvGradBIdeal.main_arg2) = m ((c.tc : Thread Cert.ConvGradBIdeal.nD Cert.ConvGradBIdeal.τ).loc Cert.ConvGradBIdeal.main_arg2)
      ∧ r.2.mem ((c.tc : Thread Cert.ConvGradBIdeal.nD Cert.ConvGradBIdeal.τ).loc Cert.ConvGradBIdeal.main_arg3) = m ((c.tc : Thread Cert.ConvGradBIdeal.nD Cert.ConvGradBIdeal.τ).loc Cert.ConvGradBIdeal.main_arg3)
      ∧ r.2.mem ((c.tc : Thread Cert.ConvGradBIdeal.nD Cert.ConvGradBIdeal.τ).loc Cert.ConvGradBIdeal.main_arg4) = m ((c.tc : Thread Cert.ConvGradBIdeal.nD Cert.ConvGradBIdeal.τ).loc Cert.ConvGradBIdeal.main_arg4))
      ∧ r.2.sem = fun _ => 0)

def quiescent_ConvGradBIdeal_pre_finite_ct_bc [hConvGradBIdeal : Cert.ConvGradBIdeal.Facts] [hPre_finite_ct_bc : Cert.Pre_finite_ct_bc.Facts] : Prop :=
  ∀ (m : (ℓ : Loc Cert.ConvGradBIdeal.nD Cert.ConvGradBIdeal.τ Cert.ConvGradBIdeal.sig) → Buf (Elt Ideal) ℓ) (g : Dev Cert.ConvGradBIdeal.nD → PrngReg), Pre_ConvGradBIdeal_finite_ct_bc m →
    θ_run (Cert.ConvGradBIdeal.defs (F := Ideal)) (onTc (τ := Cert.ConvGradBIdeal.τ) (Cert.ConvGradBIdeal.main (F := Ideal))) ⟨m, fun _ => 0, g⟩ (fun r => (∀ c : Dev Cert.ConvGradBIdeal.nD,
      r.2.mem ((c.tc : Thread Cert.ConvGradBIdeal.nD Cert.ConvGradBIdeal.τ).loc Cert.ConvGradBIdeal.main_arg0) = m ((c.tc : Thread Cert.ConvGradBIdeal.nD Cert.ConvGradBIdeal.τ).loc Cert.ConvGradBIdeal.main_arg0)
      ∧ r.2.mem ((c.tc : Thread Cert.ConvGradBIdeal.nD Cert.ConvGradBIdeal.τ).loc Cert.ConvGradBIdeal.main_arg1) = m ((c.tc : Thread Cert.ConvGradBIdeal.nD Cert.ConvGradBIdeal.τ).loc Cert.ConvGradBIdeal.main_arg1)
      ∧ r.2.mem ((c.tc : Thread Cert.ConvGradBIdeal.nD Cert.ConvGradBIdeal.τ).loc Cert.ConvGradBIdeal.main_arg2) = m ((c.tc : Thread Cert.ConvGradBIdeal.nD Cert.ConvGradBIdeal.τ).loc Cert.ConvGradBIdeal.main_arg2)
      ∧ r.2.mem ((c.tc : Thread Cert.ConvGradBIdeal.nD Cert.ConvGradBIdeal.τ).loc Cert.ConvGradBIdeal.main_arg3) = m ((c.tc : Thread Cert.ConvGradBIdeal.nD Cert.ConvGradBIdeal.τ).loc Cert.ConvGradBIdeal.main_arg3)
      ∧ r.2.mem ((c.tc : Thread Cert.ConvGradBIdeal.nD Cert.ConvGradBIdeal.τ).loc Cert.ConvGradBIdeal.main_arg4) = m ((c.tc : Thread Cert.ConvGradBIdeal.nD Cert.ConvGradBIdeal.τ).loc Cert.ConvGradBIdeal.main_arg4))
      ∧ r.2.sem = fun _ => 0)

def quiescent_ConvGradBRefIdeal [hConvGradBRefIdeal : Cert.ConvGradBRefIdeal.Facts] : Prop :=
  ∀ (m : (ℓ : Loc Cert.ConvGradBRefIdeal.nD Cert.ConvGradBRefIdeal.τ Cert.ConvGradBRefIdeal.sig) → Buf (Elt Ideal) ℓ) (g : Dev Cert.ConvGradBRefIdeal.nD → PrngReg), Pre_ConvGradBRefIdeal m →
    θ_run (Cert.ConvGradBRefIdeal.defs (F := Ideal)) (onTc (τ := Cert.ConvGradBRefIdeal.τ) (Cert.ConvGradBRefIdeal.main (F := Ideal))) ⟨m, fun _ => 0, g⟩ (fun r => (∀ c : Dev Cert.ConvGradBRefIdeal.nD,
      r.2.mem ((c.tc : Thread Cert.ConvGradBRefIdeal.nD Cert.ConvGradBRefIdeal.τ).loc Cert.ConvGradBRefIdeal.main_arg0) = m ((c.tc : Thread Cert.ConvGradBRefIdeal.nD Cert.ConvGradBRefIdeal.τ).loc Cert.ConvGradBRefIdeal.main_arg0)
      ∧ r.2.mem ((c.tc : Thread Cert.ConvGradBRefIdeal.nD Cert.ConvGradBRefIdeal.τ).loc Cert.ConvGradBRefIdeal.main_arg1) = m ((c.tc : Thread Cert.ConvGradBRefIdeal.nD Cert.ConvGradBRefIdeal.τ).loc Cert.ConvGradBRefIdeal.main_arg1)
      ∧ r.2.mem ((c.tc : Thread Cert.ConvGradBRefIdeal.nD Cert.ConvGradBRefIdeal.τ).loc Cert.ConvGradBRefIdeal.main_arg2) = m ((c.tc : Thread Cert.ConvGradBRefIdeal.nD Cert.ConvGradBRefIdeal.τ).loc Cert.ConvGradBRefIdeal.main_arg2)
      ∧ r.2.mem ((c.tc : Thread Cert.ConvGradBRefIdeal.nD Cert.ConvGradBRefIdeal.τ).loc Cert.ConvGradBRefIdeal.main_arg3) = m ((c.tc : Thread Cert.ConvGradBRefIdeal.nD Cert.ConvGradBRefIdeal.τ).loc Cert.ConvGradBRefIdeal.main_arg3)
      ∧ r.2.mem ((c.tc : Thread Cert.ConvGradBRefIdeal.nD Cert.ConvGradBRefIdeal.τ).loc Cert.ConvGradBRefIdeal.main_arg4) = m ((c.tc : Thread Cert.ConvGradBRefIdeal.nD Cert.ConvGradBRefIdeal.τ).loc Cert.ConvGradBRefIdeal.main_arg4))
      ∧ r.2.sem = fun _ => 0)

def quiescent_ConvGradBRefIdeal_pre_finite_ct_bc [hConvGradBRefIdeal : Cert.ConvGradBRefIdeal.Facts] [hPre_finite_ct_bc : Cert.Pre_finite_ct_bc.Facts] : Prop :=
  ∀ (m : (ℓ : Loc Cert.ConvGradBRefIdeal.nD Cert.ConvGradBRefIdeal.τ Cert.ConvGradBRefIdeal.sig) → Buf (Elt Ideal) ℓ) (g : Dev Cert.ConvGradBRefIdeal.nD → PrngReg), Pre_ConvGradBRefIdeal_finite_ct_bc m →
    θ_run (Cert.ConvGradBRefIdeal.defs (F := Ideal)) (onTc (τ := Cert.ConvGradBRefIdeal.τ) (Cert.ConvGradBRefIdeal.main (F := Ideal))) ⟨m, fun _ => 0, g⟩ (fun r => (∀ c : Dev Cert.ConvGradBRefIdeal.nD,
      r.2.mem ((c.tc : Thread Cert.ConvGradBRefIdeal.nD Cert.ConvGradBRefIdeal.τ).loc Cert.ConvGradBRefIdeal.main_arg0) = m ((c.tc : Thread Cert.ConvGradBRefIdeal.nD Cert.ConvGradBRefIdeal.τ).loc Cert.ConvGradBRefIdeal.main_arg0)
      ∧ r.2.mem ((c.tc : Thread Cert.ConvGradBRefIdeal.nD Cert.ConvGradBRefIdeal.τ).loc Cert.ConvGradBRefIdeal.main_arg1) = m ((c.tc : Thread Cert.ConvGradBRefIdeal.nD Cert.ConvGradBRefIdeal.τ).loc Cert.ConvGradBRefIdeal.main_arg1)
      ∧ r.2.mem ((c.tc : Thread Cert.ConvGradBRefIdeal.nD Cert.ConvGradBRefIdeal.τ).loc Cert.ConvGradBRefIdeal.main_arg2) = m ((c.tc : Thread Cert.ConvGradBRefIdeal.nD Cert.ConvGradBRefIdeal.τ).loc Cert.ConvGradBRefIdeal.main_arg2)
      ∧ r.2.mem ((c.tc : Thread Cert.ConvGradBRefIdeal.nD Cert.ConvGradBRefIdeal.τ).loc Cert.ConvGradBRefIdeal.main_arg3) = m ((c.tc : Thread Cert.ConvGradBRefIdeal.nD Cert.ConvGradBRefIdeal.τ).loc Cert.ConvGradBRefIdeal.main_arg3)
      ∧ r.2.mem ((c.tc : Thread Cert.ConvGradBRefIdeal.nD Cert.ConvGradBRefIdeal.τ).loc Cert.ConvGradBRefIdeal.main_arg4) = m ((c.tc : Thread Cert.ConvGradBRefIdeal.nD Cert.ConvGradBRefIdeal.τ).loc Cert.ConvGradBRefIdeal.main_arg4))
      ∧ r.2.sem = fun _ => 0)

def quiescent_ConvGradC [hConvGradC : Cert.ConvGradC.Facts] : Prop :=
  ∀ (m : (ℓ : Loc Cert.ConvGradC.nD Cert.ConvGradC.τ Cert.ConvGradC.sig) → Buf (Elt Bits) ℓ) (g : Dev Cert.ConvGradC.nD → PrngReg), Pre_ConvGradC m →
    θ_run (Cert.ConvGradC.defs (F := Bits)) (onTc (τ := Cert.ConvGradC.τ) (Cert.ConvGradC.main (F := Bits))) ⟨m, fun _ => 0, g⟩ (fun r => (∀ c : Dev Cert.ConvGradC.nD,
      r.2.mem ((c.tc : Thread Cert.ConvGradC.nD Cert.ConvGradC.τ).loc Cert.ConvGradC.main_arg0) = m ((c.tc : Thread Cert.ConvGradC.nD Cert.ConvGradC.τ).loc Cert.ConvGradC.main_arg0)
      ∧ r.2.mem ((c.tc : Thread Cert.ConvGradC.nD Cert.ConvGradC.τ).loc Cert.ConvGradC.main_arg1) = m ((c.tc : Thread Cert.ConvGradC.nD Cert.ConvGradC.τ).loc Cert.ConvGradC.main_arg1)
      ∧ r.2.mem ((c.tc : Thread Cert.ConvGradC.nD Cert.ConvGradC.τ).loc Cert.ConvGradC.main_arg2) = m ((c.tc : Thread Cert.ConvGradC.nD Cert.ConvGradC.τ).loc Cert.ConvGradC.main_arg2)
      ∧ r.2.mem ((c.tc : Thread Cert.ConvGradC.nD Cert.ConvGradC.τ).loc Cert.ConvGradC.main_arg3) = m ((c.tc : Thread Cert.ConvGradC.nD Cert.ConvGradC.τ).loc Cert.ConvGradC.main_arg3)
      ∧ r.2.mem ((c.tc : Thread Cert.ConvGradC.nD Cert.ConvGradC.τ).loc Cert.ConvGradC.main_arg4) = m ((c.tc : Thread Cert.ConvGradC.nD Cert.ConvGradC.τ).loc Cert.ConvGradC.main_arg4))
      ∧ r.2.sem = fun _ => 0)

def quiescent_ConvGradCIdeal [hConvGradCIdeal : Cert.ConvGradCIdeal.Facts] : Prop :=
  ∀ (m : (ℓ : Loc Cert.ConvGradCIdeal.nD Cert.ConvGradCIdeal.τ Cert.ConvGradCIdeal.sig) → Buf (Elt Ideal) ℓ) (g : Dev Cert.ConvGradCIdeal.nD → PrngReg), Pre_ConvGradCIdeal m →
    θ_run (Cert.ConvGradCIdeal.defs (F := Ideal)) (onTc (τ := Cert.ConvGradCIdeal.τ) (Cert.ConvGradCIdeal.main (F := Ideal))) ⟨m, fun _ => 0, g⟩ (fun r => (∀ c : Dev Cert.ConvGradCIdeal.nD,
      r.2.mem ((c.tc : Thread Cert.ConvGradCIdeal.nD Cert.ConvGradCIdeal.τ).loc Cert.ConvGradCIdeal.main_arg0) = m ((c.tc : Thread Cert.ConvGradCIdeal.nD Cert.ConvGradCIdeal.τ).loc Cert.ConvGradCIdeal.main_arg0)
      ∧ r.2.mem ((c.tc : Thread Cert.ConvGradCIdeal.nD Cert.ConvGradCIdeal.τ).loc Cert.ConvGradCIdeal.main_arg1) = m ((c.tc : Thread Cert.ConvGradCIdeal.nD Cert.ConvGradCIdeal.τ).loc Cert.ConvGradCIdeal.main_arg1)
      ∧ r.2.mem ((c.tc : Thread Cert.ConvGradCIdeal.nD Cert.ConvGradCIdeal.τ).loc Cert.ConvGradCIdeal.main_arg2) = m ((c.tc : Thread Cert.ConvGradCIdeal.nD Cert.ConvGradCIdeal.τ).loc Cert.ConvGradCIdeal.main_arg2)
      ∧ r.2.mem ((c.tc : Thread Cert.ConvGradCIdeal.nD Cert.ConvGradCIdeal.τ).loc Cert.ConvGradCIdeal.main_arg3) = m ((c.tc : Thread Cert.ConvGradCIdeal.nD Cert.ConvGradCIdeal.τ).loc Cert.ConvGradCIdeal.main_arg3)
      ∧ r.2.mem ((c.tc : Thread Cert.ConvGradCIdeal.nD Cert.ConvGradCIdeal.τ).loc Cert.ConvGradCIdeal.main_arg4) = m ((c.tc : Thread Cert.ConvGradCIdeal.nD Cert.ConvGradCIdeal.τ).loc Cert.ConvGradCIdeal.main_arg4))
      ∧ r.2.sem = fun _ => 0)

def quiescent_ConvGradCIdeal_pre_finite_ct_bc [hConvGradCIdeal : Cert.ConvGradCIdeal.Facts] [hPre_finite_ct_bc : Cert.Pre_finite_ct_bc.Facts] : Prop :=
  ∀ (m : (ℓ : Loc Cert.ConvGradCIdeal.nD Cert.ConvGradCIdeal.τ Cert.ConvGradCIdeal.sig) → Buf (Elt Ideal) ℓ) (g : Dev Cert.ConvGradCIdeal.nD → PrngReg), Pre_ConvGradCIdeal_finite_ct_bc m →
    θ_run (Cert.ConvGradCIdeal.defs (F := Ideal)) (onTc (τ := Cert.ConvGradCIdeal.τ) (Cert.ConvGradCIdeal.main (F := Ideal))) ⟨m, fun _ => 0, g⟩ (fun r => (∀ c : Dev Cert.ConvGradCIdeal.nD,
      r.2.mem ((c.tc : Thread Cert.ConvGradCIdeal.nD Cert.ConvGradCIdeal.τ).loc Cert.ConvGradCIdeal.main_arg0) = m ((c.tc : Thread Cert.ConvGradCIdeal.nD Cert.ConvGradCIdeal.τ).loc Cert.ConvGradCIdeal.main_arg0)
      ∧ r.2.mem ((c.tc : Thread Cert.ConvGradCIdeal.nD Cert.ConvGradCIdeal.τ).loc Cert.ConvGradCIdeal.main_arg1) = m ((c.tc : Thread Cert.ConvGradCIdeal.nD Cert.ConvGradCIdeal.τ).loc Cert.ConvGradCIdeal.main_arg1)
      ∧ r.2.mem ((c.tc : Thread Cert.ConvGradCIdeal.nD Cert.ConvGradCIdeal.τ).loc Cert.ConvGradCIdeal.main_arg2) = m ((c.tc : Thread Cert.ConvGradCIdeal.nD Cert.ConvGradCIdeal.τ).loc Cert.ConvGradCIdeal.main_arg2)
      ∧ r.2.mem ((c.tc : Thread Cert.ConvGradCIdeal.nD Cert.ConvGradCIdeal.τ).loc Cert.ConvGradCIdeal.main_arg3) = m ((c.tc : Thread Cert.ConvGradCIdeal.nD Cert.ConvGradCIdeal.τ).loc Cert.ConvGradCIdeal.main_arg3)
      ∧ r.2.mem ((c.tc : Thread Cert.ConvGradCIdeal.nD Cert.ConvGradCIdeal.τ).loc Cert.ConvGradCIdeal.main_arg4) = m ((c.tc : Thread Cert.ConvGradCIdeal.nD Cert.ConvGradCIdeal.τ).loc Cert.ConvGradCIdeal.main_arg4))
      ∧ r.2.sem = fun _ => 0)

def quiescent_ConvGradCRefIdeal [hConvGradCRefIdeal : Cert.ConvGradCRefIdeal.Facts] : Prop :=
  ∀ (m : (ℓ : Loc Cert.ConvGradCRefIdeal.nD Cert.ConvGradCRefIdeal.τ Cert.ConvGradCRefIdeal.sig) → Buf (Elt Ideal) ℓ) (g : Dev Cert.ConvGradCRefIdeal.nD → PrngReg), Pre_ConvGradCRefIdeal m →
    θ_run (Cert.ConvGradCRefIdeal.defs (F := Ideal)) (onTc (τ := Cert.ConvGradCRefIdeal.τ) (Cert.ConvGradCRefIdeal.main (F := Ideal))) ⟨m, fun _ => 0, g⟩ (fun r => (∀ c : Dev Cert.ConvGradCRefIdeal.nD,
      r.2.mem ((c.tc : Thread Cert.ConvGradCRefIdeal.nD Cert.ConvGradCRefIdeal.τ).loc Cert.ConvGradCRefIdeal.main_arg0) = m ((c.tc : Thread Cert.ConvGradCRefIdeal.nD Cert.ConvGradCRefIdeal.τ).loc Cert.ConvGradCRefIdeal.main_arg0)
      ∧ r.2.mem ((c.tc : Thread Cert.ConvGradCRefIdeal.nD Cert.ConvGradCRefIdeal.τ).loc Cert.ConvGradCRefIdeal.main_arg1) = m ((c.tc : Thread Cert.ConvGradCRefIdeal.nD Cert.ConvGradCRefIdeal.τ).loc Cert.ConvGradCRefIdeal.main_arg1)
      ∧ r.2.mem ((c.tc : Thread Cert.ConvGradCRefIdeal.nD Cert.ConvGradCRefIdeal.τ).loc Cert.ConvGradCRefIdeal.main_arg2) = m ((c.tc : Thread Cert.ConvGradCRefIdeal.nD Cert.ConvGradCRefIdeal.τ).loc Cert.ConvGradCRefIdeal.main_arg2)
      ∧ r.2.mem ((c.tc : Thread Cert.ConvGradCRefIdeal.nD Cert.ConvGradCRefIdeal.τ).loc Cert.ConvGradCRefIdeal.main_arg3) = m ((c.tc : Thread Cert.ConvGradCRefIdeal.nD Cert.ConvGradCRefIdeal.τ).loc Cert.ConvGradCRefIdeal.main_arg3)
      ∧ r.2.mem ((c.tc : Thread Cert.ConvGradCRefIdeal.nD Cert.ConvGradCRefIdeal.τ).loc Cert.ConvGradCRefIdeal.main_arg4) = m ((c.tc : Thread Cert.ConvGradCRefIdeal.nD Cert.ConvGradCRefIdeal.τ).loc Cert.ConvGradCRefIdeal.main_arg4))
      ∧ r.2.sem = fun _ => 0)

def quiescent_ConvGradCRefIdeal_pre_finite_ct_bc [hConvGradCRefIdeal : Cert.ConvGradCRefIdeal.Facts] [hPre_finite_ct_bc : Cert.Pre_finite_ct_bc.Facts] : Prop :=
  ∀ (m : (ℓ : Loc Cert.ConvGradCRefIdeal.nD Cert.ConvGradCRefIdeal.τ Cert.ConvGradCRefIdeal.sig) → Buf (Elt Ideal) ℓ) (g : Dev Cert.ConvGradCRefIdeal.nD → PrngReg), Pre_ConvGradCRefIdeal_finite_ct_bc m →
    θ_run (Cert.ConvGradCRefIdeal.defs (F := Ideal)) (onTc (τ := Cert.ConvGradCRefIdeal.τ) (Cert.ConvGradCRefIdeal.main (F := Ideal))) ⟨m, fun _ => 0, g⟩ (fun r => (∀ c : Dev Cert.ConvGradCRefIdeal.nD,
      r.2.mem ((c.tc : Thread Cert.ConvGradCRefIdeal.nD Cert.ConvGradCRefIdeal.τ).loc Cert.ConvGradCRefIdeal.main_arg0) = m ((c.tc : Thread Cert.ConvGradCRefIdeal.nD Cert.ConvGradCRefIdeal.τ).loc Cert.ConvGradCRefIdeal.main_arg0)
      ∧ r.2.mem ((c.tc : Thread Cert.ConvGradCRefIdeal.nD Cert.ConvGradCRefIdeal.τ).loc Cert.ConvGradCRefIdeal.main_arg1) = m ((c.tc : Thread Cert.ConvGradCRefIdeal.nD Cert.ConvGradCRefIdeal.τ).loc Cert.ConvGradCRefIdeal.main_arg1)
      ∧ r.2.mem ((c.tc : Thread Cert.ConvGradCRefIdeal.nD Cert.ConvGradCRefIdeal.τ).loc Cert.ConvGradCRefIdeal.main_arg2) = m ((c.tc : Thread Cert.ConvGradCRefIdeal.nD Cert.ConvGradCRefIdeal.τ).loc Cert.ConvGradCRefIdeal.main_arg2)
      ∧ r.2.mem ((c.tc : Thread Cert.ConvGradCRefIdeal.nD Cert.ConvGradCRefIdeal.τ).loc Cert.ConvGradCRefIdeal.main_arg3) = m ((c.tc : Thread Cert.ConvGradCRefIdeal.nD Cert.ConvGradCRefIdeal.τ).loc Cert.ConvGradCRefIdeal.main_arg3)
      ∧ r.2.mem ((c.tc : Thread Cert.ConvGradCRefIdeal.nD Cert.ConvGradCRefIdeal.τ).loc Cert.ConvGradCRefIdeal.main_arg4) = m ((c.tc : Thread Cert.ConvGradCRefIdeal.nD Cert.ConvGradCRefIdeal.τ).loc Cert.ConvGradCRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2))
      ∧ r.2.sem = fun _ => 0)

def quiescent_GateNormGrad [hGateNormGrad : Cert.GateNormGrad.Facts] : Prop :=
  ∀ (m : (ℓ : Loc Cert.GateNormGrad.nD Cert.GateNormGrad.τ Cert.GateNormGrad.sig) → Buf (Elt Bits) ℓ) (g : Dev Cert.GateNormGrad.nD → PrngReg), Pre_GateNormGrad m →
    θ_run (Cert.GateNormGrad.defs (F := Bits)) (onTc (τ := Cert.GateNormGrad.τ) (Cert.GateNormGrad.main (F := Bits))) ⟨m, fun _ => 0, g⟩ (fun r => (∀ c : Dev Cert.GateNormGrad.nD,
      r.2.mem ((c.tc : Thread Cert.GateNormGrad.nD Cert.GateNormGrad.τ).loc Cert.GateNormGrad.main_arg0) = m ((c.tc : Thread Cert.GateNormGrad.nD Cert.GateNormGrad.τ).loc Cert.GateNormGrad.main_arg0)
      ∧ r.2.mem ((c.tc : Thread Cert.GateNormGrad.nD Cert.GateNormGrad.τ).loc Cert.GateNormGrad.main_arg1) = m ((c.tc : Thread Cert.GateNormGrad.nD Cert.GateNormGrad.τ).loc Cert.GateNormGrad.main_arg1)
      ∧ r.2.mem ((c.tc : Thread Cert.GateNormGrad.nD Cert.GateNormGrad.τ).loc Cert.GateNormGrad.main_arg2) = m ((c.tc : Thread Cert.GateNormGrad.nD Cert.GateNormGrad.τ).loc Cert.GateNormGrad.main_arg2)
      ∧ r.2.mem ((c.tc : Thread Cert.GateNormGrad.nD Cert.GateNormGrad.τ).loc Cert.GateNormGrad.main_arg3) = m ((c.tc : Thread Cert.GateNormGrad.nD Cert.GateNormGrad.τ).loc Cert.GateNormGrad.main_arg3))
      ∧ r.2.sem = fun _ => 0)

def quiescent_GateNormGradIdeal [hGateNormGradIdeal : Cert.GateNormGradIdeal.Facts] : Prop :=
  ∀ (m : (ℓ : Loc Cert.GateNormGradIdeal.nD Cert.GateNormGradIdeal.τ Cert.GateNormGradIdeal.sig) → Buf (Elt Ideal) ℓ) (g : Dev Cert.GateNormGradIdeal.nD → PrngReg), Pre_GateNormGradIdeal m →
    θ_run (Cert.GateNormGradIdeal.defs (F := Ideal)) (onTc (τ := Cert.GateNormGradIdeal.τ) (Cert.GateNormGradIdeal.main (F := Ideal))) ⟨m, fun _ => 0, g⟩ (fun r => (∀ c : Dev Cert.GateNormGradIdeal.nD,
      r.2.mem ((c.tc : Thread Cert.GateNormGradIdeal.nD Cert.GateNormGradIdeal.τ).loc Cert.GateNormGradIdeal.main_arg0) = m ((c.tc : Thread Cert.GateNormGradIdeal.nD Cert.GateNormGradIdeal.τ).loc Cert.GateNormGradIdeal.main_arg0)
      ∧ r.2.mem ((c.tc : Thread Cert.GateNormGradIdeal.nD Cert.GateNormGradIdeal.τ).loc Cert.GateNormGradIdeal.main_arg1) = m ((c.tc : Thread Cert.GateNormGradIdeal.nD Cert.GateNormGradIdeal.τ).loc Cert.GateNormGradIdeal.main_arg1)
      ∧ r.2.mem ((c.tc : Thread Cert.GateNormGradIdeal.nD Cert.GateNormGradIdeal.τ).loc Cert.GateNormGradIdeal.main_arg2) = m ((c.tc : Thread Cert.GateNormGradIdeal.nD Cert.GateNormGradIdeal.τ).loc Cert.GateNormGradIdeal.main_arg2)
      ∧ r.2.mem ((c.tc : Thread Cert.GateNormGradIdeal.nD Cert.GateNormGradIdeal.τ).loc Cert.GateNormGradIdeal.main_arg3) = m ((c.tc : Thread Cert.GateNormGradIdeal.nD Cert.GateNormGradIdeal.τ).loc Cert.GateNormGradIdeal.main_arg3))
      ∧ r.2.sem = fun _ => 0)

def quiescent_GateNormGradRefIdeal [hGateNormGradRefIdeal : Cert.GateNormGradRefIdeal.Facts] : Prop :=
  ∀ (m : (ℓ : Loc Cert.GateNormGradRefIdeal.nD Cert.GateNormGradRefIdeal.τ Cert.GateNormGradRefIdeal.sig) → Buf (Elt Ideal) ℓ) (g : Dev Cert.GateNormGradRefIdeal.nD → PrngReg), Pre_GateNormGradRefIdeal m →
    θ_run (Cert.GateNormGradRefIdeal.defs (F := Ideal)) (onTc (τ := Cert.GateNormGradRefIdeal.τ) (Cert.GateNormGradRefIdeal.main (F := Ideal))) ⟨m, fun _ => 0, g⟩ (fun r => (∀ c : Dev Cert.GateNormGradRefIdeal.nD,
      r.2.mem ((c.tc : Thread Cert.GateNormGradRefIdeal.nD Cert.GateNormGradRefIdeal.τ).loc Cert.GateNormGradRefIdeal.main_arg0) = m ((c.tc : Thread Cert.GateNormGradRefIdeal.nD Cert.GateNormGradRefIdeal.τ).loc Cert.GateNormGradRefIdeal.main_arg0)
      ∧ r.2.mem ((c.tc : Thread Cert.GateNormGradRefIdeal.nD Cert.GateNormGradRefIdeal.τ).loc Cert.GateNormGradRefIdeal.main_arg1) = m ((c.tc : Thread Cert.GateNormGradRefIdeal.nD Cert.GateNormGradRefIdeal.τ).loc Cert.GateNormGradRefIdeal.main_arg1)
      ∧ r.2.mem ((c.tc : Thread Cert.GateNormGradRefIdeal.nD Cert.GateNormGradRefIdeal.τ).loc Cert.GateNormGradRefIdeal.main_arg2) = m ((c.tc : Thread Cert.GateNormGradRefIdeal.nD Cert.GateNormGradRefIdeal.τ).loc Cert.GateNormGradRefIdeal.main_arg2)
      ∧ r.2.mem ((c.tc : Thread Cert.GateNormGradRefIdeal.nD Cert.GateNormGradRefIdeal.τ).loc Cert.GateNormGradRefIdeal.main_arg3) = m ((c.tc : Thread Cert.GateNormGradRefIdeal.nD Cert.GateNormGradRefIdeal.τ).loc Cert.GateNormGradRefIdeal.main_arg3))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3))
      ∧ r.2.sem = fun _ => 0)

def quiescent_SsdBwd [hSsdBwd : Cert.SsdBwd.Facts] : Prop :=
  ∀ (m : (ℓ : Loc Cert.SsdBwd.nD Cert.SsdBwd.τ Cert.SsdBwd.sig) → Buf (Elt Bits) ℓ) (g : Dev Cert.SsdBwd.nD → PrngReg), Pre_SsdBwd m →
    θ_run (Cert.SsdBwd.defs (F := Bits)) (onTc (τ := Cert.SsdBwd.τ) (Cert.SsdBwd.main (F := Bits))) ⟨m, fun _ => 0, g⟩ (fun r => (∀ c : Dev Cert.SsdBwd.nD,
      r.2.mem ((c.tc : Thread Cert.SsdBwd.nD Cert.SsdBwd.τ).loc Cert.SsdBwd.main_arg0) = m ((c.tc : Thread Cert.SsdBwd.nD Cert.SsdBwd.τ).loc Cert.SsdBwd.main_arg0)
      ∧ r.2.mem ((c.tc : Thread Cert.SsdBwd.nD Cert.SsdBwd.τ).loc Cert.SsdBwd.main_arg1) = m ((c.tc : Thread Cert.SsdBwd.nD Cert.SsdBwd.τ).loc Cert.SsdBwd.main_arg1)
      ∧ r.2.mem ((c.tc : Thread Cert.SsdBwd.nD Cert.SsdBwd.τ).loc Cert.SsdBwd.main_arg2) = m ((c.tc : Thread Cert.SsdBwd.nD Cert.SsdBwd.τ).loc Cert.SsdBwd.main_arg2)
      ∧ r.2.mem ((c.tc : Thread Cert.SsdBwd.nD Cert.SsdBwd.τ).loc Cert.SsdBwd.main_arg3) = m ((c.tc : Thread Cert.SsdBwd.nD Cert.SsdBwd.τ).loc Cert.SsdBwd.main_arg3)
      ∧ r.2.mem ((c.tc : Thread Cert.SsdBwd.nD Cert.SsdBwd.τ).loc Cert.SsdBwd.main_arg4) = m ((c.tc : Thread Cert.SsdBwd.nD Cert.SsdBwd.τ).loc Cert.SsdBwd.main_arg4)
      ∧ r.2.mem ((c.tc : Thread Cert.SsdBwd.nD Cert.SsdBwd.τ).loc Cert.SsdBwd.main_arg5) = m ((c.tc : Thread Cert.SsdBwd.nD Cert.SsdBwd.τ).loc Cert.SsdBwd.main_arg5))
      ∧ r.2.sem = fun _ => 0)

def quiescent_SsdBwdIdeal [hSsdBwdIdeal : Cert.SsdBwdIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg), Pre_SsdBwdIdeal m →
    θ_run (Cert.SsdBwdIdeal.defs (F := Ideal)) (onTc (τ := Cert.SsdBwdIdeal.τ) (Cert.SsdBwdIdeal.main (F := Ideal))) ⟨m, fun _ => 0, g⟩ (fun r => (∀ c : Dev Cert.SsdBwdIdeal.nD,
      r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
      ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
      ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
      ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
      ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
      ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1)
      ∧ r.2.mem ((c.tc : Thread Cert.SsdDt.nD Cert.SsdDt.τ).loc Cert.SsdDt.main_arg2) = m ((c.tc : Thread Cert.SsdDt.nD Cert.SsdDt.τ).loc Cert.SsdDt.main_arg2))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ r.2.sem = fun _ => 0)

def quiescent_SsdDtIdeal_pre_finite_steps [hSsdDtIdeal : Cert.SsdDtIdeal.Facts] [hPre_finite_steps : Cert.Pre_finite_steps.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal_finite_steps m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2))
      ∧ r.2.sem = fun _ => 0)

def quiescent_SsdDtRefIdeal_pre_finite_steps [hSsdDtRefIdeal : Cert.SsdDtRefIdeal.Facts] [hPre_finite_steps : Cert.Pre_finite_steps.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal_finite_steps m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_GateUpGrad_GateUpGradIdeal : Prop :=
  True

def algebraic_GateUpGradIdeal_GateUpGradRefIdeal_pre_finite_cotangent [hGateUpGradIdeal : Cert.GateUpGradIdeal.Facts] [hGateUpGradRefIdeal : Cert.GateUpGradRefIdeal.Facts] [hPre_finite_cotangent : Cert.Pre_finite_cotangent.Facts] : Prop :=
  ∀ (m : (ℓ : Loc Cert.GateUpGradIdeal.nD Cert.GateUpGradIdeal.τ Cert.GateUpGradIdeal.sig) → Buf (Elt Ideal) ℓ) (g : Dev Cert.GateUpGradIdeal.nD → PrngReg)
    (m' : (ℓ : Loc Cert.GateUpGradRefIdeal.nD Cert.GateUpGradRefIdeal.τ Cert.GateUpGradRefIdeal.sig) → Buf (Elt Ideal) ℓ) (g' : Dev Cert.GateUpGradRefIdeal.nD → PrngReg), Pre_GateUpGradIdeal_finite_cotangent m →
    (∀ c : Dev Cert.GateUpGradIdeal.nD,
      m' ((c.tc : Thread Cert.GateUpGradRefIdeal.nD Cert.GateUpGradRefIdeal.τ).loc Cert.GateUpGradRefIdeal.main_arg0) = m ((c.tc : Thread Cert.GateUpGradIdeal.nD Cert.GateUpGradIdeal.τ).loc Cert.GateUpGradIdeal.main_arg0)
      ∧ m' ((c.tc : Thread Cert.GateUpGradRefIdeal.nD Cert.GateUpGradRefIdeal.τ).loc Cert.GateUpGradRefIdeal.main_arg1) = m ((c.tc : Thread Cert.GateUpGradIdeal.nD Cert.GateUpGradIdeal.τ).loc Cert.GateUpGradIdeal.main_arg1)
      ∧ m' ((c.tc : Thread Cert.GateUpGradRefIdeal.nD Cert.GateUpGradRefIdeal.τ).loc Cert.GateUpGradRefIdeal.main_arg2) = m ((c.tc : Thread Cert.GateUpGradIdeal.nD Cert.GateUpGradIdeal.τ).loc Cert.GateUpGradIdeal.main_arg2)
      ∧ m' ((c.tc : Thread Cert.GateUpGradRefIdeal.nD Cert.GateUpGradRefIdeal.τ).loc Cert.GateUpGradRefIdeal.main_arg3) = m ((c.tc : Thread Cert.GateUpGradIdeal.nD Cert.GateUpGradIdeal.τ).loc Cert.GateUpGradIdeal.main_arg3)) →
    ∃ (v0 : (c : Dev Cert.GateUpGradIdeal.nD) → Buf (Elt Ideal) ((c.tc : Thread Cert.GateUpGradIdeal.nD Cert.GateUpGradIdeal.τ).loc Cert.GateUpGradIdeal.main_v1_0)) (v1 : (c : Dev Cert.GateUpGradIdeal.nD) → Buf (Elt Ideal) ((c.tc : Thread Cert.GateUpGradIdeal.nD Cert.GateUpGradIdeal.τ).loc Cert.GateUpGradIdeal.main_v1_1)),
      θ_run (Cert.GateUpGradIdeal.defs (F := Ideal)) (onTc (τ := Cert.GateUpGradIdeal.τ) (Cert.GateUpGradIdeal.main (F := Ideal))) ⟨m, fun _ => 0, g⟩ (fun r => ∀ c : Dev Cert.GateUpGradIdeal.nD,
          r.2.mem ((c.tc : Thread Cert.GateUpGradIdeal.nD Cert.GateUpGradIdeal.τ).loc Cert.GateUpGradIdeal.main_v1_0) = v0 c
          ∧ r.2.mem ((c.tc : Thread Cert.GateUpGradIdeal.nD Cert.GateUpGradIdeal.τ).loc Cert.GateUpGradIdeal.main_v1_1) = v1 c
          ∧ r.2.mem ((c.tc : Thread Cert.GateUpGradIdeal.nD Cert.GateUpGradIdeal.τ).loc Cert.GateUpGradIdeal.main_arg0) = m ((c.tc : Thread Cert.GateUpGradIdeal.nD Cert.GateUpGradIdeal.τ).loc Cert.GateUpGradIdeal.main_arg0)
          ∧ r.2.mem ((c.tc : Thread Cert.GateUpGradIdeal.nD Cert.GateUpGradIdeal.τ).loc Cert.GateUpGradIdeal.main_arg1) = m ((c.tc : Thread Cert.GateUpGradIdeal.nD Cert.GateUpGradIdeal.τ).loc Cert.GateUpGradIdeal.main_arg1)
          ∧ r.2.mem ((c.tc : Thread Cert.GateUpGradIdeal.nD Cert.GateUpGradIdeal.τ).loc Cert.GateUpGradIdeal.main_arg2) = m ((c.tc : Thread Cert.GateUpGradIdeal.nD Cert.GateUpGradIdeal.τ).loc Cert.GateUpGradIdeal.main_arg2)
          ∧ r.2.mem ((c.tc : Thread Cert.GateUpGradIdeal.nD Cert.GateUpGradIdeal.τ).loc Cert.GateUpGradIdeal.main_arg3) = m ((c.tc : Thread Cert.GateUpGradIdeal.nD Cert.GateUpGradIdeal.τ).loc Cert.GateUpGradIdeal.main_arg3))
      ∧ θ_run (Cert.GateUpGradRefIdeal.defs (F := Ideal)) (onTc (τ := Cert.GateUpGradRefIdeal.τ) (Cert.GateUpGradRefIdeal.main (F := Ideal))) ⟨m', fun _ => 0, g'⟩ (fun r => ∀ c : Dev Cert.GateUpGradRefIdeal.nD,
          r.2.mem ((c.tc : Thread Cert.GateUpGradRefIdeal.nD Cert.GateUpGradRefIdeal.τ).loc Cert.GateUpGradRefIdeal.main_v10) = v0 c
          ∧ r.2.mem ((c.tc : Thread Cert.GateUpGradRefIdeal.nD Cert.GateUpGradRefIdeal.τ).loc Cert.GateUpGradRefIdeal.main_v11) = v1 c
          ∧ r.2.mem ((c.tc : Thread Cert.GateUpGradRefIdeal.nD Cert.GateUpGradRefIdeal.τ).loc Cert.GateUpGradRefIdeal.main_arg0) = m' ((c.tc : Thread Cert.GateUpGradRefIdeal.nD Cert.GateUpGradRefIdeal.τ).loc Cert.GateUpGradRefIdeal.main_arg0)
          ∧ r.2.mem ((c.tc : Thread Cert.GateUpGradRefIdeal.nD Cert.GateUpGradRefIdeal.τ).loc Cert.GateUpGradRefIdeal.main_arg1) = m' ((c.tc : Thread Cert.GateUpGradRefIdeal.nD Cert.GateUpGradRefIdeal.τ).loc Cert.GateUpGradRefIdeal.main_arg1)
          ∧ r.2.mem ((c.tc : Thread Cert.GateUpGradRefIdeal.nD Cert.GateUpGradRefIdeal.τ).loc Cert.GateUpGradRefIdeal.main_arg2) = m' ((c.tc : Thread Cert.GateUpGradRefIdeal.nD Cert.GateUpGradRefIdeal.τ).loc Cert.GateUpGradRefIdeal.main_arg2)
          ∧ r.2.mem ((c.tc : Thread Cert.GateUpGradRefIdeal.nD Cert.GateUpGradRefIdeal.τ).loc Cert.GateUpGradRefIdeal.main_arg3) = m' ((c.tc : Thread Cert.GateUpGradRefIdeal.nD Cert.GateUpGradRefIdeal.τ).loc Cert.GateUpGradRefIdeal.main_arg3))

def preserves_ProjMain_ProjMainIdeal : Prop :=
  True

def algebraic_ProjMainIdeal_ProjMainRefIdeal [hProjMainIdeal : Cert.ProjMainIdeal.Facts] [hProjMainRefIdeal : Cert.ProjMainRefIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainRefIdeal.nD Cert.ProjMainRefIdeal.τ Cert.ProjMainRefIdeal.sig) → Buf (Elt Ideal) ℓ) (g' : Dev Cert.ProjMainRefIdeal.nD → PrngReg), Pre_ProjMainIdeal m →
    (∀ c : Dev Cert.ProjMainIdeal.nD,
      m' ((c.tc : Thread Cert.ProjMainRefIdeal.nD Cert.ProjMainRefIdeal.τ).loc Cert.ProjMainRefIdeal.main_arg0) = m ((c.tc : Thread Cert.ProjMainIdeal.nD Cert.ProjMainIdeal.τ).loc Cert.ProjMainIdeal.main_arg0)
      ∧ m' ((c.tc : Thread Cert.ProjMainRefIdeal.nD Cert.ProjMainRefIdeal.τ).loc Cert.ProjMainRefIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v2)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v2) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainRefIdeal.defs (F := Ideal)) (onTc (τ := Cert.ProjMainRefIdeal.τ) (Cert.ProjMainRefIdeal.main (F := Ideal))) ⟨m', fun _ => 0, g'⟩ (fun r => ∀ c : Dev Cert.ProjMainRefIdeal.nD,
          r.2.mem ((c.tc : Thread Cert.ProjMainRefIdeal.nD Cert.ProjMainRefIdeal.τ).loc Cert.ProjMainRefIdeal.main_v2) = v0 c
          ∧ r.2.mem ((c.tc : Thread Cert.ProjMainRefIdeal.nD Cert.ProjMainRefIdeal.τ).loc Cert.ProjMainRefIdeal.main_arg0) = m' ((c.tc : Thread Cert.ProjMainRefIdeal.nD Cert.ProjMainRefIdeal.τ).loc Cert.ProjMainRefIdeal.main_arg0)
          ∧ r.2.mem ((c.tc : Thread Cert.ProjMainRefIdeal.nD Cert.ProjMainRefIdeal.τ).loc Cert.ProjMainRefIdeal.main_arg1) = m' ((c.tc : Thread Cert.ProjMainRefIdeal.nD Cert.ProjMainRefIdeal.τ).loc Cert.ProjMainRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v7) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_NormMixOut_NormMixOutIdeal : Prop :=
  True

def algebraic_NormMixOutIdeal_NormMixOutRefIdeal [hNormMixOutIdeal : Cert.NormMixOutIdeal.Facts] [hNormMixOutRefIdeal : Cert.NormMixOutRefIdeal.Facts] : Prop :=
  ∀ (m : (ℓ : Loc Cert.NormMixOutIdeal.nD Cert.NormMixOutIdeal.τ Cert.NormMixOutIdeal.sig) → Buf (Elt Ideal) ℓ) (g : Dev Cert.NormMixOutIdeal.nD → PrngReg)
    (m' : (ℓ : Loc Cert.NormMixOutRefIdeal.nD Cert.NormMixOutRefIdeal.τ Cert.NormMixOutRefIdeal.sig) → Buf (Elt Ideal) ℓ) (g' : Dev Cert.NormMixOutRefIdeal.nD → PrngReg), Pre_NormMixOutIdeal m →
    (∀ c : Dev Cert.NormMixOutIdeal.nD,
      m' ((c.tc : Thread Cert.NormMixOutRefIdeal.nD Cert.NormMixOutRefIdeal.τ).loc Cert.NormMixOutRefIdeal.main_arg0) = m ((c.tc : Thread Cert.NormMixOutIdeal.nD Cert.NormMixOutIdeal.τ).loc Cert.NormMixOutIdeal.main_arg0)
      ∧ m' ((c.tc : Thread Cert.NormMixOutRefIdeal.nD Cert.NormMixOutRefIdeal.τ).loc Cert.NormMixOutRefIdeal.main_arg1) = m ((c.tc : Thread Cert.NormMixOutIdeal.nD Cert.NormMixOutIdeal.τ).loc Cert.NormMixOutIdeal.main_arg1)
      ∧ m' ((c.tc : Thread Cert.NormMixOutRefIdeal.nD Cert.NormMixOutRefIdeal.τ).loc Cert.NormMixOutRefIdeal.main_arg2) = m ((c.tc : Thread Cert.NormMixOutIdeal.nD Cert.NormMixOutIdeal.τ).loc Cert.NormMixOutIdeal.main_arg2)) →
    ∃ (v0 : (c : Dev Cert.NormMixOutIdeal.nD) → Buf (Elt Ideal) ((c.tc : Thread Cert.NormMixOutIdeal.nD Cert.NormMixOutIdeal.τ).loc Cert.NormMixOutIdeal.main_v2)),
      θ_run (Cert.NormMixOutIdeal.defs (F := Ideal)) (onTc (τ := Cert.NormMixOutIdeal.τ) (Cert.NormMixOutIdeal.main (F := Ideal))) ⟨m, fun _ => 0, g⟩ (fun r => ∀ c : Dev Cert.NormMixOutIdeal.nD,
          r.2.mem ((c.tc : Thread Cert.NormMixOutIdeal.nD Cert.NormMixOutIdeal.τ).loc Cert.NormMixOutIdeal.main_v2) = v0 c
          ∧ r.2.mem ((c.tc : Thread Cert.NormMixOutIdeal.nD Cert.NormMixOutIdeal.τ).loc Cert.NormMixOutIdeal.main_arg0) = m ((c.tc : Thread Cert.NormMixOutIdeal.nD Cert.NormMixOutIdeal.τ).loc Cert.NormMixOutIdeal.main_arg0)
          ∧ r.2.mem ((c.tc : Thread Cert.NormMixOutIdeal.nD Cert.NormMixOutIdeal.τ).loc Cert.NormMixOutIdeal.main_arg1) = m ((c.tc : Thread Cert.NormMixOutIdeal.nD Cert.NormMixOutIdeal.τ).loc Cert.NormMixOutIdeal.main_arg1)
          ∧ r.2.mem ((c.tc : Thread Cert.NormMixOutIdeal.nD Cert.NormMixOutIdeal.τ).loc Cert.NormMixOutIdeal.main_arg2) = m ((c.tc : Thread Cert.NormMixOutIdeal.nD Cert.NormMixOutIdeal.τ).loc Cert.NormMixOutIdeal.main_arg2))
      ∧ θ_run (Cert.NormMixOutRefIdeal.defs (F := Ideal)) (onTc (τ := Cert.NormMixOutRefIdeal.τ) (Cert.NormMixOutRefIdeal.main (F := Ideal))) ⟨m', fun _ => 0, g'⟩ (fun r => ∀ c : Dev Cert.NormMixOutRefIdeal.nD,
          r.2.mem ((c.tc : Thread Cert.NormMixOutRefIdeal.nD Cert.NormMixOutRefIdeal.τ).loc Cert.NormMixOutRefIdeal.main_v4) = v0 c
          ∧ r.2.mem ((c.tc : Thread Cert.NormMixOutRefIdeal.nD Cert.NormMixOutRefIdeal.τ).loc Cert.NormMixOutRefIdeal.main_arg0) = m' ((c.tc : Thread Cert.NormMixOutRefIdeal.nD Cert.NormMixOutRefIdeal.τ).loc Cert.NormMixOutRefIdeal.main_arg0)
          ∧ r.2.mem ((c.tc : Thread Cert.NormMixOutRefIdeal.nD Cert.NormMixOutRefIdeal.τ).loc Cert.NormMixOutRefIdeal.main_arg1) = m' ((c.tc : Thread Cert.NormMixOutRefIdeal.nD Cert.NormMixOutRefIdeal.τ).loc Cert.NormMixOutRefIdeal.main_arg1)
          ∧ r.2.mem ((c.tc : Thread Cert.NormMixOutRefIdeal.nD Cert.NormMixOutRefIdeal.τ).loc Cert.NormMixOutRefIdeal.main_arg2) = m' ((c.tc : Thread Cert.NormMixOutRefIdeal.nD Cert.NormMixOutRefIdeal.τ).loc Cert.NormMixOutRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)) →
    ∃ (v0 : (c : Dev Cert.MixGradIdeal.nD) → Buf (Elt Ideal) ((c.tc : Thread Cert.MixGradIdeal.nD Cert.MixGradIdeal.τ).loc Cert.MixGradIdeal.main_v1)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v1) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v4) = v0 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v2)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v2) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v2) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_NormOutGate_NormOutGateIdeal : Prop :=
  True

def algebraic_NormOutGateIdeal_NormOutGateRefIdeal [hNormOutGateIdeal : Cert.NormOutGateIdeal.Facts] [hNormOutGateRefIdeal : Cert.NormOutGateRefIdeal.Facts] : Prop :=
  ∀ (m : (ℓ : Loc Cert.NormOutGateIdeal.nD Cert.NormOutGateIdeal.τ Cert.NormOutGateIdeal.sig) → Buf (Elt Ideal) ℓ) (g : Dev Cert.NormOutGateIdeal.nD → PrngReg)
    (m' : (ℓ : Loc Cert.NormOutGateRefIdeal.nD Cert.NormOutGateRefIdeal.τ Cert.NormOutGateRefIdeal.sig) → Buf (Elt Ideal) ℓ) (g' : Dev Cert.NormOutGateRefIdeal.nD → PrngReg), Pre_NormOutGateIdeal m →
    (∀ c : Dev Cert.NormOutGateIdeal.nD,
      m' ((c.tc : Thread Cert.NormOutGateRefIdeal.nD Cert.NormOutGateRefIdeal.τ).loc Cert.NormOutGateRefIdeal.main_arg0) = m ((c.tc : Thread Cert.NormOutGateIdeal.nD Cert.NormOutGateIdeal.τ).loc Cert.NormOutGateIdeal.main_arg0)
      ∧ m' ((c.tc : Thread Cert.NormOutGateRefIdeal.nD Cert.NormOutGateRefIdeal.τ).loc Cert.NormOutGateRefIdeal.main_arg1) = m ((c.tc : Thread Cert.NormOutGateIdeal.nD Cert.NormOutGateIdeal.τ).loc Cert.NormOutGateIdeal.main_arg1)) →
    ∃ (v0 : (c : Dev Cert.NormOutGateIdeal.nD) → Buf (Elt Ideal) ((c.tc : Thread Cert.NormOutGateIdeal.nD Cert.NormOutGateIdeal.τ).loc Cert.NormOutGateIdeal.main_v2)),
      θ_run (Cert.NormOutGateIdeal.defs (F := Ideal)) (onTc (τ := Cert.NormOutGateIdeal.τ) (Cert.NormOutGateIdeal.main (F := Ideal))) ⟨m, fun _ => 0, g⟩ (fun r => ∀ c : Dev Cert.NormOutGateIdeal.nD,
          r.2.mem ((c.tc : Thread Cert.NormOutGateIdeal.nD Cert.NormOutGateIdeal.τ).loc Cert.NormOutGateIdeal.main_v2) = v0 c
          ∧ r.2.mem ((c.tc : Thread Cert.NormOutGateIdeal.nD Cert.NormOutGateIdeal.τ).loc Cert.NormOutGateIdeal.main_arg0) = m ((c.tc : Thread Cert.NormOutGateIdeal.nD Cert.NormOutGateIdeal.τ).loc Cert.NormOutGateIdeal.main_arg0)
          ∧ r.2.mem ((c.tc : Thread Cert.NormOutGateIdeal.nD Cert.NormOutGateIdeal.τ).loc Cert.NormOutGateIdeal.main_arg1) = m ((c.tc : Thread Cert.NormOutGateIdeal.nD Cert.NormOutGateIdeal.τ).loc Cert.NormOutGateIdeal.main_arg1))
      ∧ θ_run (Cert.NormOutGateRefIdeal.defs (F := Ideal)) (onTc (τ := Cert.NormOutGateRefIdeal.τ) (Cert.NormOutGateRefIdeal.main (F := Ideal))) ⟨m', fun _ => 0, g'⟩ (fun r => ∀ c : Dev Cert.NormOutGateRefIdeal.nD,
          r.2.mem ((c.tc : Thread Cert.NormOutGateRefIdeal.nD Cert.NormOutGateRefIdeal.τ).loc Cert.NormOutGateRefIdeal.main_v3) = v0 c
          ∧ r.2.mem ((c.tc : Thread Cert.NormOutGateRefIdeal.nD Cert.NormOutGateRefIdeal.τ).loc Cert.NormOutGateRefIdeal.main_arg0) = m' ((c.tc : Thread Cert.NormOutGateRefIdeal.nD Cert.NormOutGateRefIdeal.τ).loc Cert.NormOutGateRefIdeal.main_arg0)
          ∧ r.2.mem ((c.tc : Thread Cert.NormOutGateRefIdeal.nD Cert.NormOutGateRefIdeal.τ).loc Cert.NormOutGateRefIdeal.main_arg1) = m' ((c.tc : Thread Cert.NormOutGateRefIdeal.nD Cert.NormOutGateRefIdeal.τ).loc Cert.NormOutGateRefIdeal.main_arg1))

def preserves_NormOutUp_NormOutUpIdeal : Prop :=
  True

def algebraic_NormOutUpIdeal_NormOutUpRefIdeal [hNormOutUpIdeal : Cert.NormOutUpIdeal.Facts] [hNormOutUpRefIdeal : Cert.NormOutUpRefIdeal.Facts] : Prop :=
  ∀ (m : (ℓ : Loc Cert.NormOutUpIdeal.nD Cert.NormOutUpIdeal.τ Cert.NormOutUpIdeal.sig) → Buf (Elt Ideal) ℓ) (g : Dev Cert.NormOutUpIdeal.nD → PrngReg)
    (m' : (ℓ : Loc Cert.NormOutUpRefIdeal.nD Cert.NormOutUpRefIdeal.τ Cert.NormOutUpRefIdeal.sig) → Buf (Elt Ideal) ℓ) (g' : Dev Cert.NormOutUpRefIdeal.nD → PrngReg), Pre_NormOutUpIdeal m →
    (∀ c : Dev Cert.NormOutUpIdeal.nD,
      m' ((c.tc : Thread Cert.NormOutUpRefIdeal.nD Cert.NormOutUpRefIdeal.τ).loc Cert.NormOutUpRefIdeal.main_arg0) = m ((c.tc : Thread Cert.NormOutUpIdeal.nD Cert.NormOutUpIdeal.τ).loc Cert.NormOutUpIdeal.main_arg0)
      ∧ m' ((c.tc : Thread Cert.NormOutUpRefIdeal.nD Cert.NormOutUpRefIdeal.τ).loc Cert.NormOutUpRefIdeal.main_arg1) = m ((c.tc : Thread Cert.NormOutUpIdeal.nD Cert.NormOutUpIdeal.τ).loc Cert.NormOutUpIdeal.main_arg1)
      ∧ m' ((c.tc : Thread Cert.NormOutUpRefIdeal.nD Cert.NormOutUpRefIdeal.τ).loc Cert.NormOutUpRefIdeal.main_arg2) = m ((c.tc : Thread Cert.NormOutUpIdeal.nD Cert.NormOutUpIdeal.τ).loc Cert.NormOutUpIdeal.main_arg2)) →
    ∃ (v0 : (c : Dev Cert.NormOutUpIdeal.nD) → Buf (Elt Ideal) ((c.tc : Thread Cert.NormOutUpIdeal.nD Cert.NormOutUpIdeal.τ).loc Cert.NormOutUpIdeal.main_v2)),
      θ_run (Cert.NormOutUpIdeal.defs (F := Ideal)) (onTc (τ := Cert.NormOutUpIdeal.τ) (Cert.NormOutUpIdeal.main (F := Ideal))) ⟨m, fun _ => 0, g⟩ (fun r => ∀ c : Dev Cert.NormOutUpIdeal.nD,
          r.2.mem ((c.tc : Thread Cert.NormOutUpIdeal.nD Cert.NormOutUpIdeal.τ).loc Cert.NormOutUpIdeal.main_v2) = v0 c
          ∧ r.2.mem ((c.tc : Thread Cert.NormOutUpIdeal.nD Cert.NormOutUpIdeal.τ).loc Cert.NormOutUpIdeal.main_arg0) = m ((c.tc : Thread Cert.NormOutUpIdeal.nD Cert.NormOutUpIdeal.τ).loc Cert.NormOutUpIdeal.main_arg0)
          ∧ r.2.mem ((c.tc : Thread Cert.NormOutUpIdeal.nD Cert.NormOutUpIdeal.τ).loc Cert.NormOutUpIdeal.main_arg1) = m ((c.tc : Thread Cert.NormOutUpIdeal.nD Cert.NormOutUpIdeal.τ).loc Cert.NormOutUpIdeal.main_arg1)
          ∧ r.2.mem ((c.tc : Thread Cert.NormOutUpIdeal.nD Cert.NormOutUpIdeal.τ).loc Cert.NormOutUpIdeal.main_arg2) = m ((c.tc : Thread Cert.NormOutUpIdeal.nD Cert.NormOutUpIdeal.τ).loc Cert.NormOutUpIdeal.main_arg2))
      ∧ θ_run (Cert.NormOutUpRefIdeal.defs (F := Ideal)) (onTc (τ := Cert.NormOutUpRefIdeal.τ) (Cert.NormOutUpRefIdeal.main (F := Ideal))) ⟨m', fun _ => 0, g'⟩ (fun r => ∀ c : Dev Cert.NormOutUpRefIdeal.nD,
          r.2.mem ((c.tc : Thread Cert.NormOutUpRefIdeal.nD Cert.NormOutUpRefIdeal.τ).loc Cert.NormOutUpRefIdeal.main_v4) = v0 c
          ∧ r.2.mem ((c.tc : Thread Cert.NormOutUpRefIdeal.nD Cert.NormOutUpRefIdeal.τ).loc Cert.NormOutUpRefIdeal.main_arg0) = m' ((c.tc : Thread Cert.NormOutUpRefIdeal.nD Cert.NormOutUpRefIdeal.τ).loc Cert.NormOutUpRefIdeal.main_arg0)
          ∧ r.2.mem ((c.tc : Thread Cert.NormOutUpRefIdeal.nD Cert.NormOutUpRefIdeal.τ).loc Cert.NormOutUpRefIdeal.main_arg1) = m' ((c.tc : Thread Cert.NormOutUpRefIdeal.nD Cert.NormOutUpRefIdeal.τ).loc Cert.NormOutUpRefIdeal.main_arg1)
          ∧ r.2.mem ((c.tc : Thread Cert.NormOutUpRefIdeal.nD Cert.NormOutUpRefIdeal.τ).loc Cert.NormOutUpRefIdeal.main_arg2) = m' ((c.tc : Thread Cert.NormOutUpRefIdeal.nD Cert.NormOutUpRefIdeal.τ).loc Cert.NormOutUpRefIdeal.main_arg2))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v7) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v7) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v14) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)) →
    ∃ (v0 : (c : Dev Cert.NormFfnIdeal.nD) → Buf (Elt Ideal) ((c.tc : Thread Cert.NormFfnIdeal.nD Cert.NormFfnIdeal.τ).loc Cert.NormFfnIdeal.main_v0)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v14) = v0 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1))

def preserves_NormMixGrad_NormMixGradIdeal : Prop :=
  True

def algebraic_NormMixGradIdeal_NormMixGradRefIdeal [hNormMixGradIdeal : Cert.NormMixGradIdeal.Facts] [hNormMixGradRefIdeal : Cert.NormMixGradRefIdeal.Facts] : Prop :=
  ∀ (m : (ℓ : Loc Cert.NormMixGradIdeal.nD Cert.NormMixGradIdeal.τ Cert.NormMixGradIdeal.sig) → Buf (Elt Ideal) ℓ) (g : Dev Cert.NormMixGradIdeal.nD → PrngReg)
    (m' : (ℓ : Loc Cert.NormMixGradRefIdeal.nD Cert.NormMixGradRefIdeal.τ Cert.NormMixGradRefIdeal.sig) → Buf (Elt Ideal) ℓ) (g' : Dev Cert.NormMixGradRefIdeal.nD → PrngReg), Pre_NormMixGradIdeal m →
    (∀ c : Dev Cert.NormMixGradIdeal.nD,
      m' ((c.tc : Thread Cert.NormMixGradRefIdeal.nD Cert.NormMixGradRefIdeal.τ).loc Cert.NormMixGradRefIdeal.main_arg0) = m ((c.tc : Thread Cert.NormMixGradIdeal.nD Cert.NormMixGradIdeal.τ).loc Cert.NormMixGradIdeal.main_arg0)
      ∧ m' ((c.tc : Thread Cert.NormMixGradRefIdeal.nD Cert.NormMixGradRefIdeal.τ).loc Cert.NormMixGradRefIdeal.main_arg1) = m ((c.tc : Thread Cert.NormMixGradIdeal.nD Cert.NormMixGradIdeal.τ).loc Cert.NormMixGradIdeal.main_arg1)
      ∧ m' ((c.tc : Thread Cert.NormMixGradRefIdeal.nD Cert.NormMixGradRefIdeal.τ).loc Cert.NormMixGradRefIdeal.main_arg2) = m ((c.tc : Thread Cert.NormMixGradIdeal.nD Cert.NormMixGradIdeal.τ).loc Cert.NormMixGradIdeal.main_arg2)
      ∧ m' ((c.tc : Thread Cert.NormMixGradRefIdeal.nD Cert.NormMixGradRefIdeal.τ).loc Cert.NormMixGradRefIdeal.main_arg3) = m ((c.tc : Thread Cert.NormMixGradIdeal.nD Cert.NormMixGradIdeal.τ).loc Cert.NormMixGradIdeal.main_arg3)) →
    ∃ (v0 : (c : Dev Cert.NormMixGradIdeal.nD) → Buf (Elt Ideal) ((c.tc : Thread Cert.NormMixGradIdeal.nD Cert.NormMixGradIdeal.τ).loc Cert.NormMixGradIdeal.main_v0_0)) (v1 : (c : Dev Cert.NormMixGradIdeal.nD) → Buf (Elt Ideal) ((c.tc : Thread Cert.NormMixGradIdeal.nD Cert.NormMixGradIdeal.τ).loc Cert.NormMixGradIdeal.main_v0_1)),
      θ_run (Cert.NormMixGradIdeal.defs (F := Ideal)) (onTc (τ := Cert.NormMixGradIdeal.τ) (Cert.NormMixGradIdeal.main (F := Ideal))) ⟨m, fun _ => 0, g⟩ (fun r => ∀ c : Dev Cert.NormMixGradIdeal.nD,
          r.2.mem ((c.tc : Thread Cert.NormMixGradIdeal.nD Cert.NormMixGradIdeal.τ).loc Cert.NormMixGradIdeal.main_v0_0) = v0 c
          ∧ r.2.mem ((c.tc : Thread Cert.NormMixGradIdeal.nD Cert.NormMixGradIdeal.τ).loc Cert.NormMixGradIdeal.main_v0_1) = v1 c
          ∧ r.2.mem ((c.tc : Thread Cert.NormMixGradIdeal.nD Cert.NormMixGradIdeal.τ).loc Cert.NormMixGradIdeal.main_arg0) = m ((c.tc : Thread Cert.NormMixGradIdeal.nD Cert.NormMixGradIdeal.τ).loc Cert.NormMixGradIdeal.main_arg0)
          ∧ r.2.mem ((c.tc : Thread Cert.NormMixGradIdeal.nD Cert.NormMixGradIdeal.τ).loc Cert.NormMixGradIdeal.main_arg1) = m ((c.tc : Thread Cert.NormMixGradIdeal.nD Cert.NormMixGradIdeal.τ).loc Cert.NormMixGradIdeal.main_arg1)
          ∧ r.2.mem ((c.tc : Thread Cert.NormMixGradIdeal.nD Cert.NormMixGradIdeal.τ).loc Cert.NormMixGradIdeal.main_arg2) = m ((c.tc : Thread Cert.NormMixGradIdeal.nD Cert.NormMixGradIdeal.τ).loc Cert.NormMixGradIdeal.main_arg2)
          ∧ r.2.mem ((c.tc : Thread Cert.NormMixGradIdeal.nD Cert.NormMixGradIdeal.τ).loc Cert.NormMixGradIdeal.main_arg3) = m ((c.tc : Thread Cert.NormMixGradIdeal.nD Cert.NormMixGradIdeal.τ).loc Cert.NormMixGradIdeal.main_arg3))
      ∧ θ_run (Cert.NormMixGradRefIdeal.defs (F := Ideal)) (onTc (τ := Cert.NormMixGradRefIdeal.τ) (Cert.NormMixGradRefIdeal.main (F := Ideal))) ⟨m', fun _ => 0, g'⟩ (fun r => ∀ c : Dev Cert.NormMixGradRefIdeal.nD,
          r.2.mem ((c.tc : Thread Cert.NormMixGradRefIdeal.nD Cert.NormMixGradRefIdeal.τ).loc Cert.NormMixGradRefIdeal.main_v37) = v0 c
          ∧ r.2.mem ((c.tc : Thread Cert.NormMixGradRefIdeal.nD Cert.NormMixGradRefIdeal.τ).loc Cert.NormMixGradRefIdeal.main_v38) = v1 c
          ∧ r.2.mem ((c.tc : Thread Cert.NormMixGradRefIdeal.nD Cert.NormMixGradRefIdeal.τ).loc Cert.NormMixGradRefIdeal.main_arg0) = m' ((c.tc : Thread Cert.NormMixGradRefIdeal.nD Cert.NormMixGradRefIdeal.τ).loc Cert.NormMixGradRefIdeal.main_arg0)
          ∧ r.2.mem ((c.tc : Thread Cert.NormMixGradRefIdeal.nD Cert.NormMixGradRefIdeal.τ).loc Cert.NormMixGradRefIdeal.main_arg1) = m' ((c.tc : Thread Cert.NormMixGradRefIdeal.nD Cert.NormMixGradRefIdeal.τ).loc Cert.NormMixGradRefIdeal.main_arg1)
          ∧ r.2.mem ((c.tc : Thread Cert.NormMixGradRefIdeal.nD Cert.NormMixGradRefIdeal.τ).loc Cert.NormMixGradRefIdeal.main_arg2) = m' ((c.tc : Thread Cert.NormMixGradRefIdeal.nD Cert.NormMixGradRefIdeal.τ).loc Cert.NormMixGradRefIdeal.main_arg2)
          ∧ r.2.mem ((c.tc : Thread Cert.NormMixGradRefIdeal.nD Cert.NormMixGradRefIdeal.τ).loc Cert.NormMixGradRefIdeal.main_arg3) = m' ((c.tc : Thread Cert.NormMixGradRefIdeal.nD Cert.NormMixGradRefIdeal.τ).loc Cert.NormMixGradRefIdeal.main_arg3))

def preserves_NormFfnGrad_NormFfnGradIdeal : Prop :=
  True

def algebraic_NormFfnGradIdeal_NormFfnGradRefIdeal [hNormFfnGradIdeal : Cert.NormFfnGradIdeal.Facts] [hNormFfnGradRefIdeal : Cert.NormFfnGradRefIdeal.Facts] : Prop :=
  ∀ (m : (ℓ : Loc Cert.NormFfnGradIdeal.nD Cert.NormFfnGradIdeal.τ Cert.NormFfnGradIdeal.sig) → Buf (Elt Ideal) ℓ) (g : Dev Cert.NormFfnGradIdeal.nD → PrngReg)
    (m' : (ℓ : Loc Cert.NormFfnGradRefIdeal.nD Cert.NormFfnGradRefIdeal.τ Cert.NormFfnGradRefIdeal.sig) → Buf (Elt Ideal) ℓ) (g' : Dev Cert.NormFfnGradRefIdeal.nD → PrngReg), Pre_NormFfnGradIdeal m →
    (∀ c : Dev Cert.NormFfnGradIdeal.nD,
      m' ((c.tc : Thread Cert.NormFfnGradRefIdeal.nD Cert.NormFfnGradRefIdeal.τ).loc Cert.NormFfnGradRefIdeal.main_arg0) = m ((c.tc : Thread Cert.NormFfnGradIdeal.nD Cert.NormFfnGradIdeal.τ).loc Cert.NormFfnGradIdeal.main_arg0)
      ∧ m' ((c.tc : Thread Cert.NormFfnGradRefIdeal.nD Cert.NormFfnGradRefIdeal.τ).loc Cert.NormFfnGradRefIdeal.main_arg1) = m ((c.tc : Thread Cert.NormFfnGradIdeal.nD Cert.NormFfnGradIdeal.τ).loc Cert.NormFfnGradIdeal.main_arg1)
      ∧ m' ((c.tc : Thread Cert.NormFfnGradRefIdeal.nD Cert.NormFfnGradRefIdeal.τ).loc Cert.NormFfnGradRefIdeal.main_arg2) = m ((c.tc : Thread Cert.NormFfnGradIdeal.nD Cert.NormFfnGradIdeal.τ).loc Cert.NormFfnGradIdeal.main_arg2)
      ∧ m' ((c.tc : Thread Cert.NormFfnGradRefIdeal.nD Cert.NormFfnGradRefIdeal.τ).loc Cert.NormFfnGradRefIdeal.main_arg3) = m ((c.tc : Thread Cert.NormFfnGradIdeal.nD Cert.NormFfnGradIdeal.τ).loc Cert.NormFfnGradIdeal.main_arg3)) →
    ∃ (v0 : (c : Dev Cert.NormFfnGradIdeal.nD) → Buf (Elt Ideal) ((c.tc : Thread Cert.NormFfnGradIdeal.nD Cert.NormFfnGradIdeal.τ).loc Cert.NormFfnGradIdeal.main_v0_0)) (v1 : (c : Dev Cert.NormFfnGradIdeal.nD) → Buf (Elt Ideal) ((c.tc : Thread Cert.NormFfnGradIdeal.nD Cert.NormFfnGradIdeal.τ).loc Cert.NormFfnGradIdeal.main_v0_1)) (v2 : (c : Dev Cert.NormFfnGradIdeal.nD) → Buf (Elt Ideal) ((c.tc : Thread Cert.NormFfnGradIdeal.nD Cert.NormFfnGradIdeal.τ).loc Cert.NormFfnGradIdeal.main_v0_2)),
      θ_run (Cert.NormFfnGradIdeal.defs (F := Ideal)) (onTc (τ := Cert.NormFfnGradIdeal.τ) (Cert.NormFfnGradIdeal.main (F := Ideal))) ⟨m, fun _ => 0, g⟩ (fun r => ∀ c : Dev Cert.NormFfnGradIdeal.nD,
          r.2.mem ((c.tc : Thread Cert.NormFfnGradIdeal.nD Cert.NormFfnGradIdeal.τ).loc Cert.NormFfnGradIdeal.main_v0_0) = v0 c
          ∧ r.2.mem ((c.tc : Thread Cert.NormFfnGradIdeal.nD Cert.NormFfnGradIdeal.τ).loc Cert.NormFfnGradIdeal.main_v0_1) = v1 c
          ∧ r.2.mem ((c.tc : Thread Cert.NormFfnGradIdeal.nD Cert.NormFfnGradIdeal.τ).loc Cert.NormFfnGradIdeal.main_v0_2) = v2 c
          ∧ r.2.mem ((c.tc : Thread Cert.NormFfnGradIdeal.nD Cert.NormFfnGradIdeal.τ).loc Cert.NormFfnGradIdeal.main_arg0) = m ((c.tc : Thread Cert.NormFfnGradIdeal.nD Cert.NormFfnGradIdeal.τ).loc Cert.NormFfnGradIdeal.main_arg0)
          ∧ r.2.mem ((c.tc : Thread Cert.NormFfnGradIdeal.nD Cert.NormFfnGradIdeal.τ).loc Cert.NormFfnGradIdeal.main_arg1) = m ((c.tc : Thread Cert.NormFfnGradIdeal.nD Cert.NormFfnGradIdeal.τ).loc Cert.NormFfnGradIdeal.main_arg1)
          ∧ r.2.mem ((c.tc : Thread Cert.NormFfnGradIdeal.nD Cert.NormFfnGradIdeal.τ).loc Cert.NormFfnGradIdeal.main_arg2) = m ((c.tc : Thread Cert.NormFfnGradIdeal.nD Cert.NormFfnGradIdeal.τ).loc Cert.NormFfnGradIdeal.main_arg2)
          ∧ r.2.mem ((c.tc : Thread Cert.NormFfnGradIdeal.nD Cert.NormFfnGradIdeal.τ).loc Cert.NormFfnGradIdeal.main_arg3) = m ((c.tc : Thread Cert.NormFfnGradIdeal.nD Cert.NormFfnGradIdeal.τ).loc Cert.NormFfnGradIdeal.main_arg3))
      ∧ θ_run (Cert.NormFfnGradRefIdeal.defs (F := Ideal)) (onTc (τ := Cert.NormFfnGradRefIdeal.τ) (Cert.NormFfnGradRefIdeal.main (F := Ideal))) ⟨m', fun _ => 0, g'⟩ (fun r => ∀ c : Dev Cert.NormFfnGradRefIdeal.nD,
          r.2.mem ((c.tc : Thread Cert.NormFfnGradRefIdeal.nD Cert.NormFfnGradRefIdeal.τ).loc Cert.NormFfnGradRefIdeal.main_v37) = v0 c
          ∧ r.2.mem ((c.tc : Thread Cert.NormFfnGradRefIdeal.nD Cert.NormFfnGradRefIdeal.τ).loc Cert.NormFfnGradRefIdeal.main_v39) = v1 c
          ∧ r.2.mem ((c.tc : Thread Cert.NormFfnGradRefIdeal.nD Cert.NormFfnGradRefIdeal.τ).loc Cert.NormFfnGradRefIdeal.main_v38) = v2 c
          ∧ r.2.mem ((c.tc : Thread Cert.NormFfnGradRefIdeal.nD Cert.NormFfnGradRefIdeal.τ).loc Cert.NormFfnGradRefIdeal.main_arg0) = m' ((c.tc : Thread Cert.NormFfnGradRefIdeal.nD Cert.NormFfnGradRefIdeal.τ).loc Cert.NormFfnGradRefIdeal.main_arg0)
          ∧ r.2.mem ((c.tc : Thread Cert.NormFfnGradRefIdeal.nD Cert.NormFfnGradRefIdeal.τ).loc Cert.NormFfnGradRefIdeal.main_arg1) = m' ((c.tc : Thread Cert.NormFfnGradRefIdeal.nD Cert.NormFfnGradRefIdeal.τ).loc Cert.NormFfnGradRefIdeal.main_arg1)
          ∧ r.2.mem ((c.tc : Thread Cert.NormFfnGradRefIdeal.nD Cert.NormFfnGradRefIdeal.τ).loc Cert.NormFfnGradRefIdeal.main_arg2) = m' ((c.tc : Thread Cert.NormFfnGradRefIdeal.nD Cert.NormFfnGradRefIdeal.τ).loc Cert.NormFfnGradRefIdeal.main_arg2)
          ∧ r.2.mem ((c.tc : Thread Cert.NormFfnGradRefIdeal.nD Cert.NormFfnGradRefIdeal.τ).loc Cert.NormFfnGradRefIdeal.main_arg3) = m' ((c.tc : Thread Cert.NormFfnGradRefIdeal.nD Cert.NormFfnGradRefIdeal.τ).loc Cert.NormFfnGradRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v52) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v1)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v1) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v1) = v0 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1))

def preserves_InDtGrad_InDtGradIdeal : Prop :=
  True

def algebraic_InDtGradIdeal_InDtGradRefIdeal [hInDtGradIdeal : Cert.InDtGradIdeal.Facts] [hInDtGradRefIdeal : Cert.InDtGradRefIdeal.Facts] : Prop :=
  ∀ (m : (ℓ : Loc Cert.InDtGradIdeal.nD Cert.InDtGradIdeal.τ Cert.InDtGradIdeal.sig) → Buf (Elt Ideal) ℓ) (g : Dev Cert.InDtGradIdeal.nD → PrngReg)
    (m' : (ℓ : Loc Cert.InDtGradRefIdeal.nD Cert.InDtGradRefIdeal.τ Cert.InDtGradRefIdeal.sig) → Buf (Elt Ideal) ℓ) (g' : Dev Cert.InDtGradRefIdeal.nD → PrngReg), Pre_InDtGradIdeal m →
    (∀ c : Dev Cert.InDtGradIdeal.nD,
      m' ((c.tc : Thread Cert.InDtGradRefIdeal.nD Cert.InDtGradRefIdeal.τ).loc Cert.InDtGradRefIdeal.main_arg0) = m ((c.tc : Thread Cert.InDtGradIdeal.nD Cert.InDtGradIdeal.τ).loc Cert.InDtGradIdeal.main_arg0)
      ∧ m' ((c.tc : Thread Cert.InDtGradRefIdeal.nD Cert.InDtGradRefIdeal.τ).loc Cert.InDtGradRefIdeal.main_arg1) = m ((c.tc : Thread Cert.InDtGradIdeal.nD Cert.InDtGradIdeal.τ).loc Cert.InDtGradIdeal.main_arg1)) →
    ∃ (v0 : (c : Dev Cert.InDtGradIdeal.nD) → Buf (Elt Ideal) ((c.tc : Thread Cert.InDtGradIdeal.nD Cert.InDtGradIdeal.τ).loc Cert.InDtGradIdeal.main_v0)),
      θ_run (Cert.InDtGradIdeal.defs (F := Ideal)) (onTc (τ := Cert.InDtGradIdeal.τ) (Cert.InDtGradIdeal.main (F := Ideal))) ⟨m, fun _ => 0, g⟩ (fun r => ∀ c : Dev Cert.InDtGradIdeal.nD,
          r.2.mem ((c.tc : Thread Cert.InDtGradIdeal.nD Cert.InDtGradIdeal.τ).loc Cert.InDtGradIdeal.main_v0) = v0 c
          ∧ r.2.mem ((c.tc : Thread Cert.InDtGradIdeal.nD Cert.InDtGradIdeal.τ).loc Cert.InDtGradIdeal.main_arg0) = m ((c.tc : Thread Cert.InDtGradIdeal.nD Cert.InDtGradIdeal.τ).loc Cert.InDtGradIdeal.main_arg0)
          ∧ r.2.mem ((c.tc : Thread Cert.InDtGradIdeal.nD Cert.InDtGradIdeal.τ).loc Cert.InDtGradIdeal.main_arg1) = m ((c.tc : Thread Cert.InDtGradIdeal.nD Cert.InDtGradIdeal.τ).loc Cert.InDtGradIdeal.main_arg1))
      ∧ θ_run (Cert.InDtGradRefIdeal.defs (F := Ideal)) (onTc (τ := Cert.InDtGradRefIdeal.τ) (Cert.InDtGradRefIdeal.main (F := Ideal))) ⟨m', fun _ => 0, g'⟩ (fun r => ∀ c : Dev Cert.InDtGradRefIdeal.nD,
          r.2.mem ((c.tc : Thread Cert.InDtGradRefIdeal.nD Cert.InDtGradRefIdeal.τ).loc Cert.InDtGradRefIdeal.main_v4) = v0 c
          ∧ r.2.mem ((c.tc : Thread Cert.InDtGradRefIdeal.nD Cert.InDtGradRefIdeal.τ).loc Cert.InDtGradRefIdeal.main_arg0) = m' ((c.tc : Thread Cert.InDtGradRefIdeal.nD Cert.InDtGradRefIdeal.τ).loc Cert.InDtGradRefIdeal.main_arg0)
          ∧ r.2.mem ((c.tc : Thread Cert.InDtGradRefIdeal.nD Cert.InDtGradRefIdeal.τ).loc Cert.InDtGradRefIdeal.main_arg1) = m' ((c.tc : Thread Cert.InDtGradRefIdeal.nD Cert.InDtGradRefIdeal.τ).loc Cert.InDtGradRefIdeal.main_arg1))

def preserves_NormMixOutDt_NormMixOutDtIdeal : Prop :=
  True

def algebraic_NormMixOutDtIdeal_NormMixOutDtRefIdeal [hNormMixOutDtIdeal : Cert.NormMixOutDtIdeal.Facts] [hNormMixOutDtRefIdeal : Cert.NormMixOutDtRefIdeal.Facts] : Prop :=
  ∀ (m : (ℓ : Loc Cert.NormMixOutDtIdeal.nD Cert.NormMixOutDtIdeal.τ Cert.NormMixOutDtIdeal.sig) → Buf (Elt Ideal) ℓ) (g : Dev Cert.NormMixOutDtIdeal.nD → PrngReg)
    (m' : (ℓ : Loc Cert.NormMixOutDtRefIdeal.nD Cert.NormMixOutDtRefIdeal.τ Cert.NormMixOutDtRefIdeal.sig) → Buf (Elt Ideal) ℓ) (g' : Dev Cert.NormMixOutDtRefIdeal.nD → PrngReg), Pre_NormMixOutDtIdeal m →
    (∀ c : Dev Cert.NormMixOutDtIdeal.nD,
      m' ((c.tc : Thread Cert.NormMixOutDtRefIdeal.nD Cert.NormMixOutDtRefIdeal.τ).loc Cert.NormMixOutDtRefIdeal.main_arg0) = m ((c.tc : Thread Cert.NormMixOutDtIdeal.nD Cert.NormMixOutDtIdeal.τ).loc Cert.NormMixOutDtIdeal.main_arg0)
      ∧ m' ((c.tc : Thread Cert.NormMixOutDtRefIdeal.nD Cert.NormMixOutDtRefIdeal.τ).loc Cert.NormMixOutDtRefIdeal.main_arg1) = m ((c.tc : Thread Cert.NormMixOutDtIdeal.nD Cert.NormMixOutDtIdeal.τ).loc Cert.NormMixOutDtIdeal.main_arg1)) →
    ∃ (v0 : (c : Dev Cert.NormMixOutDtIdeal.nD) → Buf (Elt Ideal) ((c.tc : Thread Cert.NormMixOutDtIdeal.nD Cert.NormMixOutDtIdeal.τ).loc Cert.NormMixOutDtIdeal.main_v1)),
      θ_run (Cert.NormMixOutDtIdeal.defs (F := Ideal)) (onTc (τ := Cert.NormMixOutDtIdeal.τ) (Cert.NormMixOutDtIdeal.main (F := Ideal))) ⟨m, fun _ => 0, g⟩ (fun r => ∀ c : Dev Cert.NormMixOutDtIdeal.nD,
          r.2.mem ((c.tc : Thread Cert.NormMixOutDtIdeal.nD Cert.NormMixOutDtIdeal.τ).loc Cert.NormMixOutDtIdeal.main_v1) = v0 c
          ∧ r.2.mem ((c.tc : Thread Cert.NormMixOutDtIdeal.nD Cert.NormMixOutDtIdeal.τ).loc Cert.NormMixOutDtIdeal.main_arg0) = m ((c.tc : Thread Cert.NormMixOutDtIdeal.nD Cert.NormMixOutDtIdeal.τ).loc Cert.NormMixOutDtIdeal.main_arg0)
          ∧ r.2.mem ((c.tc : Thread Cert.NormMixOutDtIdeal.nD Cert.NormMixOutDtIdeal.τ).loc Cert.NormMixOutDtIdeal.main_arg1) = m ((c.tc : Thread Cert.NormMixOutDtIdeal.nD Cert.NormMixOutDtIdeal.τ).loc Cert.NormMixOutDtIdeal.main_arg1))
      ∧ θ_run (Cert.NormMixOutDtRefIdeal.defs (F := Ideal)) (onTc (τ := Cert.NormMixOutDtRefIdeal.τ) (Cert.NormMixOutDtRefIdeal.main (F := Ideal))) ⟨m', fun _ => 0, g'⟩ (fun r => ∀ c : Dev Cert.NormMixOutDtRefIdeal.nD,
          r.2.mem ((c.tc : Thread Cert.NormMixOutDtRefIdeal.nD Cert.NormMixOutDtRefIdeal.τ).loc Cert.NormMixOutDtRefIdeal.main_v2) = v0 c
          ∧ r.2.mem ((c.tc : Thread Cert.NormMixOutDtRefIdeal.nD Cert.NormMixOutDtRefIdeal.τ).loc Cert.NormMixOutDtRefIdeal.main_arg0) = m' ((c.tc : Thread Cert.NormMixOutDtRefIdeal.nD Cert.NormMixOutDtRefIdeal.τ).loc Cert.NormMixOutDtRefIdeal.main_arg0)
          ∧ r.2.mem ((c.tc : Thread Cert.NormMixOutDtRefIdeal.nD Cert.NormMixOutDtRefIdeal.τ).loc Cert.NormMixOutDtRefIdeal.main_arg1) = m' ((c.tc : Thread Cert.NormMixOutDtRefIdeal.nD Cert.NormMixOutDtRefIdeal.τ).loc Cert.NormMixOutDtRefIdeal.main_arg1))

def preserves_SsmConv_SsmConvIdeal : Prop :=
  True

def algebraic_SsmConvIdeal_SsmConvRefIdeal [hSsmConvIdeal : Cert.SsmConvIdeal.Facts] [hSsmConvRefIdeal : Cert.SsmConvRefIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg)
    (m' : (ℓ : Loc Cert.SsmConvRefIdeal.nD Cert.SsmConvRefIdeal.τ Cert.SsmConvRefIdeal.sig) → Buf (Elt Ideal) ℓ) (g' : Dev Cert.SsmConvRefIdeal.nD → PrngReg), Pre_SsmConvIdeal m →
    (∀ c : Dev Cert.SsmConvIdeal.nD,
      m' ((c.tc : Thread Cert.SsmConvRefIdeal.nD Cert.SsmConvRefIdeal.τ).loc Cert.SsmConvRefIdeal.main_arg0) = m ((c.tc : Thread Cert.SsmConvIdeal.nD Cert.SsmConvIdeal.τ).loc Cert.SsmConvIdeal.main_arg0)
      ∧ m' ((c.tc : Thread Cert.SsmConvRefIdeal.nD Cert.SsmConvRefIdeal.τ).loc Cert.SsmConvRefIdeal.main_arg1) = m ((c.tc : Thread Cert.SsmConvIdeal.nD Cert.SsmConvIdeal.τ).loc Cert.SsmConvIdeal.main_arg1)
      ∧ m' ((c.tc : Thread Cert.SsmConvRefIdeal.nD Cert.SsmConvRefIdeal.τ).loc Cert.SsmConvRefIdeal.main_arg2) = m ((c.tc : Thread Cert.SsmConvIdeal.nD Cert.SsmConvIdeal.τ).loc Cert.SsmConvIdeal.main_arg2)) →
    ∃ (v0 : (c : Dev Cert.SsmConvIdeal.nD) → Buf (Elt Ideal) ((c.tc : Thread Cert.SsmConvIdeal.nD Cert.SsmConvIdeal.τ).loc Cert.SsmConvIdeal.main_v0)),
      θ_run (Cert.SsmConvIdeal.defs (F := Ideal)) (onTc (τ := Cert.SsmConvIdeal.τ) (Cert.SsmConvIdeal.main (F := Ideal))) ⟨m, fun _ => 0, g⟩ (fun r => ∀ c : Dev Cert.SsmConvIdeal.nD,
          r.2.mem ((c.tc : Thread Cert.SsmConvIdeal.nD Cert.SsmConvIdeal.τ).loc Cert.SsmConvIdeal.main_v0) = v0 c
          ∧ r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
          ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
          ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ θ_run (Cert.SsmConvRefIdeal.defs (F := Ideal)) (onTc (τ := Cert.SsmConvRefIdeal.τ) (Cert.SsmConvRefIdeal.main (F := Ideal))) ⟨m', fun _ => 0, g'⟩ (fun r => ∀ c : Dev Cert.SsmConvRefIdeal.nD,
          r.2.mem ((c.tc : Thread Cert.SsmConvRefIdeal.nD Cert.SsmConvRefIdeal.τ).loc Cert.SsmConvRefIdeal.main_v37) = v0 c
          ∧ r.2.mem ((c.tc : Thread Cert.SsmConvRefIdeal.nD Cert.SsmConvRefIdeal.τ).loc Cert.SsmConvRefIdeal.main_arg0) = m' ((c.tc : Thread Cert.SsmConvRefIdeal.nD Cert.SsmConvRefIdeal.τ).loc Cert.SsmConvRefIdeal.main_arg0)
          ∧ r.2.mem ((c.tc : Thread Cert.SsmConvRefIdeal.nD Cert.SsmConvRefIdeal.τ).loc Cert.SsmConvRefIdeal.main_arg1) = m' ((c.tc : Thread Cert.SsmConvRefIdeal.nD Cert.SsmConvRefIdeal.τ).loc Cert.SsmConvRefIdeal.main_arg1)
          ∧ r.2.mem ((c.tc : Thread Cert.SsmConvRefIdeal.nD Cert.SsmConvRefIdeal.τ).loc Cert.SsmConvRefIdeal.main_arg2) = m' ((c.tc : Thread Cert.SsmConvRefIdeal.nD Cert.SsmConvRefIdeal.τ).loc Cert.SsmConvRefIdeal.main_arg2))

def preserves_ShortConvFwd_ShortConvFwdIdeal : Prop :=
  True

def algebraic_ShortConvFwdIdeal_ShortConvFwdRefIdeal [hShortConvFwdIdeal : Cert.ShortConvFwdIdeal.Facts] [hShortConvFwdRefIdeal : Cert.ShortConvFwdRefIdeal.Facts] : Prop :=
  ∀ (m : (ℓ : Loc Cert.ShortConvFwdIdeal.nD Cert.ShortConvFwdIdeal.τ Cert.ShortConvFwdIdeal.sig) → Buf (Elt Ideal) ℓ) (g : Dev Cert.ShortConvFwdIdeal.nD → PrngReg)
    (m' : (ℓ : Loc Cert.ShortConvFwdRefIdeal.nD Cert.ShortConvFwdRefIdeal.τ Cert.ShortConvFwdRefIdeal.sig) → Buf (Elt Ideal) ℓ) (g' : Dev Cert.ShortConvFwdRefIdeal.nD → PrngReg), Pre_ShortConvFwdIdeal m →
    (∀ c : Dev Cert.ShortConvFwdIdeal.nD,
      m' ((c.tc : Thread Cert.ShortConvFwdRefIdeal.nD Cert.ShortConvFwdRefIdeal.τ).loc Cert.ShortConvFwdRefIdeal.main_arg0) = m ((c.tc : Thread Cert.ShortConvFwdIdeal.nD Cert.ShortConvFwdIdeal.τ).loc Cert.ShortConvFwdIdeal.main_arg0)
      ∧ m' ((c.tc : Thread Cert.ShortConvFwdRefIdeal.nD Cert.ShortConvFwdRefIdeal.τ).loc Cert.ShortConvFwdRefIdeal.main_arg1) = m ((c.tc : Thread Cert.ShortConvFwdIdeal.nD Cert.ShortConvFwdIdeal.τ).loc Cert.ShortConvFwdIdeal.main_arg1)
      ∧ m' ((c.tc : Thread Cert.ShortConvFwdRefIdeal.nD Cert.ShortConvFwdRefIdeal.τ).loc Cert.ShortConvFwdRefIdeal.main_arg2) = m ((c.tc : Thread Cert.ShortConvFwdIdeal.nD Cert.ShortConvFwdIdeal.τ).loc Cert.ShortConvFwdIdeal.main_arg2)) →
    ∃ (v0 : (c : Dev Cert.ShortConvFwdIdeal.nD) → Buf (Elt Ideal) ((c.tc : Thread Cert.ShortConvFwdIdeal.nD Cert.ShortConvFwdIdeal.τ).loc Cert.ShortConvFwdIdeal.main_v0)),
      θ_run (Cert.ShortConvFwdIdeal.defs (F := Ideal)) (onTc (τ := Cert.ShortConvFwdIdeal.τ) (Cert.ShortConvFwdIdeal.main (F := Ideal))) ⟨m, fun _ => 0, g⟩ (fun r => ∀ c : Dev Cert.ShortConvFwdIdeal.nD,
          r.2.mem ((c.tc : Thread Cert.ShortConvFwdIdeal.nD Cert.ShortConvFwdIdeal.τ).loc Cert.ShortConvFwdIdeal.main_v0) = v0 c
          ∧ r.2.mem ((c.tc : Thread Cert.ShortConvFwdIdeal.nD Cert.ShortConvFwdIdeal.τ).loc Cert.ShortConvFwdIdeal.main_arg0) = m ((c.tc : Thread Cert.ShortConvFwdIdeal.nD Cert.ShortConvFwdIdeal.τ).loc Cert.ShortConvFwdIdeal.main_arg0)
          ∧ r.2.mem ((c.tc : Thread Cert.ShortConvFwdIdeal.nD Cert.ShortConvFwdIdeal.τ).loc Cert.ShortConvFwdIdeal.main_arg1) = m ((c.tc : Thread Cert.ShortConvFwdIdeal.nD Cert.ShortConvFwdIdeal.τ).loc Cert.ShortConvFwdIdeal.main_arg1)
          ∧ r.2.mem ((c.tc : Thread Cert.ShortConvFwdIdeal.nD Cert.ShortConvFwdIdeal.τ).loc Cert.ShortConvFwdIdeal.main_arg2) = m ((c.tc : Thread Cert.ShortConvFwdIdeal.nD Cert.ShortConvFwdIdeal.τ).loc Cert.ShortConvFwdIdeal.main_arg2))
      ∧ θ_run (Cert.ShortConvFwdRefIdeal.defs (F := Ideal)) (onTc (τ := Cert.ShortConvFwdRefIdeal.τ) (Cert.ShortConvFwdRefIdeal.main (F := Ideal))) ⟨m', fun _ => 0, g'⟩ (fun r => ∀ c : Dev Cert.ShortConvFwdRefIdeal.nD,
          r.2.mem ((c.tc : Thread Cert.ShortConvFwdRefIdeal.nD Cert.ShortConvFwdRefIdeal.τ).loc Cert.ShortConvFwdRefIdeal.main_v35) = v0 c
          ∧ r.2.mem ((c.tc : Thread Cert.ShortConvFwdRefIdeal.nD Cert.ShortConvFwdRefIdeal.τ).loc Cert.ShortConvFwdRefIdeal.main_arg0) = m' ((c.tc : Thread Cert.ShortConvFwdRefIdeal.nD Cert.ShortConvFwdRefIdeal.τ).loc Cert.ShortConvFwdRefIdeal.main_arg0)
          ∧ r.2.mem ((c.tc : Thread Cert.ShortConvFwdRefIdeal.nD Cert.ShortConvFwdRefIdeal.τ).loc Cert.ShortConvFwdRefIdeal.main_arg1) = m' ((c.tc : Thread Cert.ShortConvFwdRefIdeal.nD Cert.ShortConvFwdRefIdeal.τ).loc Cert.ShortConvFwdRefIdeal.main_arg1)
          ∧ r.2.mem ((c.tc : Thread Cert.ShortConvFwdRefIdeal.nD Cert.ShortConvFwdRefIdeal.τ).loc Cert.ShortConvFwdRefIdeal.main_arg2) = m' ((c.tc : Thread Cert.ShortConvFwdRefIdeal.nD Cert.ShortConvFwdRefIdeal.τ).loc Cert.ShortConvFwdRefIdeal.main_arg2))

def preserves_ConvGradX_ConvGradXIdeal : Prop :=
  True

def algebraic_ConvGradXIdeal_ConvGradXRefIdeal_pre_finite_ct [hConvGradXIdeal : Cert.ConvGradXIdeal.Facts] [hConvGradXRefIdeal : Cert.ConvGradXRefIdeal.Facts] [hPre_finite_ct : Cert.Pre_finite_ct.Facts] : Prop :=
  ∀ (m : (ℓ : Loc Cert.ConvGradXIdeal.nD Cert.ConvGradXIdeal.τ Cert.ConvGradXIdeal.sig) → Buf (Elt Ideal) ℓ) (g : Dev Cert.ConvGradXIdeal.nD → PrngReg)
    (m' : (ℓ : Loc Cert.ConvGradXRefIdeal.nD Cert.ConvGradXRefIdeal.τ Cert.ConvGradXRefIdeal.sig) → Buf (Elt Ideal) ℓ) (g' : Dev Cert.ConvGradXRefIdeal.nD → PrngReg), Pre_ConvGradXIdeal_finite_ct m →
    (∀ c : Dev Cert.ConvGradXIdeal.nD,
      m' ((c.tc : Thread Cert.ConvGradXRefIdeal.nD Cert.ConvGradXRefIdeal.τ).loc Cert.ConvGradXRefIdeal.main_arg0) = m ((c.tc : Thread Cert.ConvGradXIdeal.nD Cert.ConvGradXIdeal.τ).loc Cert.ConvGradXIdeal.main_arg0)
      ∧ m' ((c.tc : Thread Cert.ConvGradXRefIdeal.nD Cert.ConvGradXRefIdeal.τ).loc Cert.ConvGradXRefIdeal.main_arg1) = m ((c.tc : Thread Cert.ConvGradXIdeal.nD Cert.ConvGradXIdeal.τ).loc Cert.ConvGradXIdeal.main_arg1)
      ∧ m' ((c.tc : Thread Cert.ConvGradXRefIdeal.nD Cert.ConvGradXRefIdeal.τ).loc Cert.ConvGradXRefIdeal.main_arg2) = m ((c.tc : Thread Cert.ConvGradXIdeal.nD Cert.ConvGradXIdeal.τ).loc Cert.ConvGradXIdeal.main_arg2)
      ∧ m' ((c.tc : Thread Cert.ConvGradXRefIdeal.nD Cert.ConvGradXRefIdeal.τ).loc Cert.ConvGradXRefIdeal.main_arg3) = m ((c.tc : Thread Cert.ConvGradXIdeal.nD Cert.ConvGradXIdeal.τ).loc Cert.ConvGradXIdeal.main_arg3)
      ∧ m' ((c.tc : Thread Cert.ConvGradXRefIdeal.nD Cert.ConvGradXRefIdeal.τ).loc Cert.ConvGradXRefIdeal.main_arg4) = m ((c.tc : Thread Cert.ConvGradXIdeal.nD Cert.ConvGradXIdeal.τ).loc Cert.ConvGradXIdeal.main_arg4)) →
    ∃ (v0 : (c : Dev Cert.ConvGradXIdeal.nD) → Buf (Elt Ideal) ((c.tc : Thread Cert.ConvGradXIdeal.nD Cert.ConvGradXIdeal.τ).loc Cert.ConvGradXIdeal.main_v0_0)) (v1 : (c : Dev Cert.ConvGradXIdeal.nD) → Buf (Elt Ideal) ((c.tc : Thread Cert.ConvGradXIdeal.nD Cert.ConvGradXIdeal.τ).loc Cert.ConvGradXIdeal.main_v0_1)) (v2 : (c : Dev Cert.ConvGradXIdeal.nD) → Buf (Elt Ideal) ((c.tc : Thread Cert.ConvGradXIdeal.nD Cert.ConvGradXIdeal.τ).loc Cert.ConvGradXIdeal.main_v0_2)),
      θ_run (Cert.ConvGradXIdeal.defs (F := Ideal)) (onTc (τ := Cert.ConvGradXIdeal.τ) (Cert.ConvGradXIdeal.main (F := Ideal))) ⟨m, fun _ => 0, g⟩ (fun r => ∀ c : Dev Cert.ConvGradXIdeal.nD,
          r.2.mem ((c.tc : Thread Cert.ConvGradXIdeal.nD Cert.ConvGradXIdeal.τ).loc Cert.ConvGradXIdeal.main_v0_0) = v0 c
          ∧ r.2.mem ((c.tc : Thread Cert.ConvGradXIdeal.nD Cert.ConvGradXIdeal.τ).loc Cert.ConvGradXIdeal.main_v0_1) = v1 c
          ∧ r.2.mem ((c.tc : Thread Cert.ConvGradXIdeal.nD Cert.ConvGradXIdeal.τ).loc Cert.ConvGradXIdeal.main_v0_2) = v2 c
          ∧ r.2.mem ((c.tc : Thread Cert.ConvGradXIdeal.nD Cert.ConvGradXIdeal.τ).loc Cert.ConvGradXIdeal.main_arg0) = m ((c.tc : Thread Cert.ConvGradXIdeal.nD Cert.ConvGradXIdeal.τ).loc Cert.ConvGradXIdeal.main_arg0)
          ∧ r.2.mem ((c.tc : Thread Cert.ConvGradXIdeal.nD Cert.ConvGradXIdeal.τ).loc Cert.ConvGradXIdeal.main_arg1) = m ((c.tc : Thread Cert.ConvGradXIdeal.nD Cert.ConvGradXIdeal.τ).loc Cert.ConvGradXIdeal.main_arg1)
          ∧ r.2.mem ((c.tc : Thread Cert.ConvGradXIdeal.nD Cert.ConvGradXIdeal.τ).loc Cert.ConvGradXIdeal.main_arg2) = m ((c.tc : Thread Cert.ConvGradXIdeal.nD Cert.ConvGradXIdeal.τ).loc Cert.ConvGradXIdeal.main_arg2)
          ∧ r.2.mem ((c.tc : Thread Cert.ConvGradXIdeal.nD Cert.ConvGradXIdeal.τ).loc Cert.ConvGradXIdeal.main_arg3) = m ((c.tc : Thread Cert.ConvGradXIdeal.nD Cert.ConvGradXIdeal.τ).loc Cert.ConvGradXIdeal.main_arg3)
          ∧ r.2.mem ((c.tc : Thread Cert.ConvGradXIdeal.nD Cert.ConvGradXIdeal.τ).loc Cert.ConvGradXIdeal.main_arg4) = m ((c.tc : Thread Cert.ConvGradXIdeal.nD Cert.ConvGradXIdeal.τ).loc Cert.ConvGradXIdeal.main_arg4))
      ∧ θ_run (Cert.ConvGradXRefIdeal.defs (F := Ideal)) (onTc (τ := Cert.ConvGradXRefIdeal.τ) (Cert.ConvGradXRefIdeal.main (F := Ideal))) ⟨m', fun _ => 0, g'⟩ (fun r => ∀ c : Dev Cert.ConvGradXRefIdeal.nD,
          r.2.mem ((c.tc : Thread Cert.ConvGradXRefIdeal.nD Cert.ConvGradXRefIdeal.τ).loc Cert.ConvGradXRefIdeal.main_v92) = v0 c
          ∧ r.2.mem ((c.tc : Thread Cert.ConvGradXRefIdeal.nD Cert.ConvGradXRefIdeal.τ).loc Cert.ConvGradXRefIdeal.main_v85) = v1 c
          ∧ r.2.mem ((c.tc : Thread Cert.ConvGradXRefIdeal.nD Cert.ConvGradXRefIdeal.τ).loc Cert.ConvGradXRefIdeal.main_v45) = v2 c
          ∧ r.2.mem ((c.tc : Thread Cert.ConvGradXRefIdeal.nD Cert.ConvGradXRefIdeal.τ).loc Cert.ConvGradXRefIdeal.main_arg0) = m' ((c.tc : Thread Cert.ConvGradXRefIdeal.nD Cert.ConvGradXRefIdeal.τ).loc Cert.ConvGradXRefIdeal.main_arg0)
          ∧ r.2.mem ((c.tc : Thread Cert.ConvGradXRefIdeal.nD Cert.ConvGradXRefIdeal.τ).loc Cert.ConvGradXRefIdeal.main_arg1) = m' ((c.tc : Thread Cert.ConvGradXRefIdeal.nD Cert.ConvGradXRefIdeal.τ).loc Cert.ConvGradXRefIdeal.main_arg1)
          ∧ r.2.mem ((c.tc : Thread Cert.ConvGradXRefIdeal.nD Cert.ConvGradXRefIdeal.τ).loc Cert.ConvGradXRefIdeal.main_arg2) = m' ((c.tc : Thread Cert.ConvGradXRefIdeal.nD Cert.ConvGradXRefIdeal.τ).loc Cert.ConvGradXRefIdeal.main_arg2)
          ∧ r.2.mem ((c.tc : Thread Cert.ConvGradXRefIdeal.nD Cert.ConvGradXRefIdeal.τ).loc Cert.ConvGradXRefIdeal.main_arg3) = m' ((c.tc : Thread Cert.ConvGradXRefIdeal.nD Cert.ConvGradXRefIdeal.τ).loc Cert.ConvGradXRefIdeal.main_arg3)
          ∧ r.2.mem ((c.tc : Thread Cert.ConvGradXRefIdeal.nD Cert.ConvGradXRefIdeal.τ).loc Cert.ConvGradXRefIdeal.main_arg4) = m' ((c.tc : Thread Cert.ConvGradXRefIdeal.nD Cert.ConvGradXRefIdeal.τ).loc Cert.ConvGradXRefIdeal.main_arg4))

def preserves_ConvGradB_ConvGradBIdeal : Prop :=
  True

def algebraic_ConvGradBIdeal_ConvGradBRefIdeal_pre_finite_ct_bc [hConvGradBIdeal : Cert.ConvGradBIdeal.Facts] [hConvGradBRefIdeal : Cert.ConvGradBRefIdeal.Facts] [hPre_finite_ct_bc : Cert.Pre_finite_ct_bc.Facts] : Prop :=
  ∀ (m : (ℓ : Loc Cert.ConvGradBIdeal.nD Cert.ConvGradBIdeal.τ Cert.ConvGradBIdeal.sig) → Buf (Elt Ideal) ℓ) (g : Dev Cert.ConvGradBIdeal.nD → PrngReg)
    (m' : (ℓ : Loc Cert.ConvGradBRefIdeal.nD Cert.ConvGradBRefIdeal.τ Cert.ConvGradBRefIdeal.sig) → Buf (Elt Ideal) ℓ) (g' : Dev Cert.ConvGradBRefIdeal.nD → PrngReg), Pre_ConvGradBIdeal_finite_ct_bc m →
    (∀ c : Dev Cert.ConvGradBIdeal.nD,
      m' ((c.tc : Thread Cert.ConvGradBRefIdeal.nD Cert.ConvGradBRefIdeal.τ).loc Cert.ConvGradBRefIdeal.main_arg0) = m ((c.tc : Thread Cert.ConvGradBIdeal.nD Cert.ConvGradBIdeal.τ).loc Cert.ConvGradBIdeal.main_arg0)
      ∧ m' ((c.tc : Thread Cert.ConvGradBRefIdeal.nD Cert.ConvGradBRefIdeal.τ).loc Cert.ConvGradBRefIdeal.main_arg1) = m ((c.tc : Thread Cert.ConvGradBIdeal.nD Cert.ConvGradBIdeal.τ).loc Cert.ConvGradBIdeal.main_arg1)
      ∧ m' ((c.tc : Thread Cert.ConvGradBRefIdeal.nD Cert.ConvGradBRefIdeal.τ).loc Cert.ConvGradBRefIdeal.main_arg2) = m ((c.tc : Thread Cert.ConvGradBIdeal.nD Cert.ConvGradBIdeal.τ).loc Cert.ConvGradBIdeal.main_arg2)
      ∧ m' ((c.tc : Thread Cert.ConvGradBRefIdeal.nD Cert.ConvGradBRefIdeal.τ).loc Cert.ConvGradBRefIdeal.main_arg3) = m ((c.tc : Thread Cert.ConvGradBIdeal.nD Cert.ConvGradBIdeal.τ).loc Cert.ConvGradBIdeal.main_arg3)
      ∧ m' ((c.tc : Thread Cert.ConvGradBRefIdeal.nD Cert.ConvGradBRefIdeal.τ).loc Cert.ConvGradBRefIdeal.main_arg4) = m ((c.tc : Thread Cert.ConvGradBIdeal.nD Cert.ConvGradBIdeal.τ).loc Cert.ConvGradBIdeal.main_arg4)) →
    ∃ (v0 : (c : Dev Cert.ConvGradBIdeal.nD) → Buf (Elt Ideal) ((c.tc : Thread Cert.ConvGradBIdeal.nD Cert.ConvGradBIdeal.τ).loc Cert.ConvGradBIdeal.main_v0_0)) (v1 : (c : Dev Cert.ConvGradBIdeal.nD) → Buf (Elt Ideal) ((c.tc : Thread Cert.ConvGradBIdeal.nD Cert.ConvGradBIdeal.τ).loc Cert.ConvGradBIdeal.main_v0_1)) (v2 : (c : Dev Cert.ConvGradBIdeal.nD) → Buf (Elt Ideal) ((c.tc : Thread Cert.ConvGradBIdeal.nD Cert.ConvGradBIdeal.τ).loc Cert.ConvGradBIdeal.main_v0_2)),
      θ_run (Cert.ConvGradBIdeal.defs (F := Ideal)) (onTc (τ := Cert.ConvGradBIdeal.τ) (Cert.ConvGradBIdeal.main (F := Ideal))) ⟨m, fun _ => 0, g⟩ (fun r => ∀ c : Dev Cert.ConvGradBIdeal.nD,
          r.2.mem ((c.tc : Thread Cert.ConvGradBIdeal.nD Cert.ConvGradBIdeal.τ).loc Cert.ConvGradBIdeal.main_v0_0) = v0 c
          ∧ r.2.mem ((c.tc : Thread Cert.ConvGradBIdeal.nD Cert.ConvGradBIdeal.τ).loc Cert.ConvGradBIdeal.main_v0_1) = v1 c
          ∧ r.2.mem ((c.tc : Thread Cert.ConvGradBIdeal.nD Cert.ConvGradBIdeal.τ).loc Cert.ConvGradBIdeal.main_v0_2) = v2 c
          ∧ r.2.mem ((c.tc : Thread Cert.ConvGradBIdeal.nD Cert.ConvGradBIdeal.τ).loc Cert.ConvGradBIdeal.main_arg0) = m ((c.tc : Thread Cert.ConvGradBIdeal.nD Cert.ConvGradBIdeal.τ).loc Cert.ConvGradBIdeal.main_arg0)
          ∧ r.2.mem ((c.tc : Thread Cert.ConvGradBIdeal.nD Cert.ConvGradBIdeal.τ).loc Cert.ConvGradBIdeal.main_arg1) = m ((c.tc : Thread Cert.ConvGradBIdeal.nD Cert.ConvGradBIdeal.τ).loc Cert.ConvGradBIdeal.main_arg1)
          ∧ r.2.mem ((c.tc : Thread Cert.ConvGradBIdeal.nD Cert.ConvGradBIdeal.τ).loc Cert.ConvGradBIdeal.main_arg2) = m ((c.tc : Thread Cert.ConvGradBIdeal.nD Cert.ConvGradBIdeal.τ).loc Cert.ConvGradBIdeal.main_arg2)
          ∧ r.2.mem ((c.tc : Thread Cert.ConvGradBIdeal.nD Cert.ConvGradBIdeal.τ).loc Cert.ConvGradBIdeal.main_arg3) = m ((c.tc : Thread Cert.ConvGradBIdeal.nD Cert.ConvGradBIdeal.τ).loc Cert.ConvGradBIdeal.main_arg3)
          ∧ r.2.mem ((c.tc : Thread Cert.ConvGradBIdeal.nD Cert.ConvGradBIdeal.τ).loc Cert.ConvGradBIdeal.main_arg4) = m ((c.tc : Thread Cert.ConvGradBIdeal.nD Cert.ConvGradBIdeal.τ).loc Cert.ConvGradBIdeal.main_arg4))
      ∧ θ_run (Cert.ConvGradBRefIdeal.defs (F := Ideal)) (onTc (τ := Cert.ConvGradBRefIdeal.τ) (Cert.ConvGradBRefIdeal.main (F := Ideal))) ⟨m', fun _ => 0, g'⟩ (fun r => ∀ c : Dev Cert.ConvGradBRefIdeal.nD,
          r.2.mem ((c.tc : Thread Cert.ConvGradBRefIdeal.nD Cert.ConvGradBRefIdeal.τ).loc Cert.ConvGradBRefIdeal.main_v92) = v0 c
          ∧ r.2.mem ((c.tc : Thread Cert.ConvGradBRefIdeal.nD Cert.ConvGradBRefIdeal.τ).loc Cert.ConvGradBRefIdeal.main_v85) = v1 c
          ∧ r.2.mem ((c.tc : Thread Cert.ConvGradBRefIdeal.nD Cert.ConvGradBRefIdeal.τ).loc Cert.ConvGradBRefIdeal.main_v45) = v2 c
          ∧ r.2.mem ((c.tc : Thread Cert.ConvGradBRefIdeal.nD Cert.ConvGradBRefIdeal.τ).loc Cert.ConvGradBRefIdeal.main_arg0) = m' ((c.tc : Thread Cert.ConvGradBRefIdeal.nD Cert.ConvGradBRefIdeal.τ).loc Cert.ConvGradBRefIdeal.main_arg0)
          ∧ r.2.mem ((c.tc : Thread Cert.ConvGradBRefIdeal.nD Cert.ConvGradBRefIdeal.τ).loc Cert.ConvGradBRefIdeal.main_arg1) = m' ((c.tc : Thread Cert.ConvGradBRefIdeal.nD Cert.ConvGradBRefIdeal.τ).loc Cert.ConvGradBRefIdeal.main_arg1)
          ∧ r.2.mem ((c.tc : Thread Cert.ConvGradBRefIdeal.nD Cert.ConvGradBRefIdeal.τ).loc Cert.ConvGradBRefIdeal.main_arg2) = m' ((c.tc : Thread Cert.ConvGradBRefIdeal.nD Cert.ConvGradBRefIdeal.τ).loc Cert.ConvGradBRefIdeal.main_arg2)
          ∧ r.2.mem ((c.tc : Thread Cert.ConvGradBRefIdeal.nD Cert.ConvGradBRefIdeal.τ).loc Cert.ConvGradBRefIdeal.main_arg3) = m' ((c.tc : Thread Cert.ConvGradBRefIdeal.nD Cert.ConvGradBRefIdeal.τ).loc Cert.ConvGradBRefIdeal.main_arg3)
          ∧ r.2.mem ((c.tc : Thread Cert.ConvGradBRefIdeal.nD Cert.ConvGradBRefIdeal.τ).loc Cert.ConvGradBRefIdeal.main_arg4) = m' ((c.tc : Thread Cert.ConvGradBRefIdeal.nD Cert.ConvGradBRefIdeal.τ).loc Cert.ConvGradBRefIdeal.main_arg4))

def preserves_ConvGradC_ConvGradCIdeal : Prop :=
  True

def algebraic_ConvGradCIdeal_ConvGradCRefIdeal_pre_finite_ct_bc [hConvGradCIdeal : Cert.ConvGradCIdeal.Facts] [hConvGradCRefIdeal : Cert.ConvGradCRefIdeal.Facts] [hPre_finite_ct_bc : Cert.Pre_finite_ct_bc.Facts] : Prop :=
  ∀ (m : (ℓ : Loc Cert.ConvGradCIdeal.nD Cert.ConvGradCIdeal.τ Cert.ConvGradCIdeal.sig) → Buf (Elt Ideal) ℓ) (g : Dev Cert.ConvGradCIdeal.nD → PrngReg)
    (m' : (ℓ : Loc Cert.ConvGradCRefIdeal.nD Cert.ConvGradCRefIdeal.τ Cert.ConvGradCRefIdeal.sig) → Buf (Elt Ideal) ℓ) (g' : Dev Cert.ConvGradCRefIdeal.nD → PrngReg), Pre_ConvGradCIdeal_finite_ct_bc m →
    (∀ c : Dev Cert.ConvGradCIdeal.nD,
      m' ((c.tc : Thread Cert.ConvGradCRefIdeal.nD Cert.ConvGradCRefIdeal.τ).loc Cert.ConvGradCRefIdeal.main_arg0) = m ((c.tc : Thread Cert.ConvGradCIdeal.nD Cert.ConvGradCIdeal.τ).loc Cert.ConvGradCIdeal.main_arg0)
      ∧ m' ((c.tc : Thread Cert.ConvGradCRefIdeal.nD Cert.ConvGradCRefIdeal.τ).loc Cert.ConvGradCRefIdeal.main_arg1) = m ((c.tc : Thread Cert.ConvGradCIdeal.nD Cert.ConvGradCIdeal.τ).loc Cert.ConvGradCIdeal.main_arg1)
      ∧ m' ((c.tc : Thread Cert.ConvGradCRefIdeal.nD Cert.ConvGradCRefIdeal.τ).loc Cert.ConvGradCRefIdeal.main_arg2) = m ((c.tc : Thread Cert.ConvGradCIdeal.nD Cert.ConvGradCIdeal.τ).loc Cert.ConvGradCIdeal.main_arg2)
      ∧ m' ((c.tc : Thread Cert.ConvGradCRefIdeal.nD Cert.ConvGradCRefIdeal.τ).loc Cert.ConvGradCRefIdeal.main_arg3) = m ((c.tc : Thread Cert.ConvGradCIdeal.nD Cert.ConvGradCIdeal.τ).loc Cert.ConvGradCIdeal.main_arg3)
      ∧ m' ((c.tc : Thread Cert.ConvGradCRefIdeal.nD Cert.ConvGradCRefIdeal.τ).loc Cert.ConvGradCRefIdeal.main_arg4) = m ((c.tc : Thread Cert.ConvGradCIdeal.nD Cert.ConvGradCIdeal.τ).loc Cert.ConvGradCIdeal.main_arg4)) →
    ∃ (v0 : (c : Dev Cert.ConvGradCIdeal.nD) → Buf (Elt Ideal) ((c.tc : Thread Cert.ConvGradCIdeal.nD Cert.ConvGradCIdeal.τ).loc Cert.ConvGradCIdeal.main_v0_0)) (v1 : (c : Dev Cert.ConvGradCIdeal.nD) → Buf (Elt Ideal) ((c.tc : Thread Cert.ConvGradCIdeal.nD Cert.ConvGradCIdeal.τ).loc Cert.ConvGradCIdeal.main_v0_1)) (v2 : (c : Dev Cert.ConvGradCIdeal.nD) → Buf (Elt Ideal) ((c.tc : Thread Cert.ConvGradCIdeal.nD Cert.ConvGradCIdeal.τ).loc Cert.ConvGradCIdeal.main_v0_2)),
      θ_run (Cert.ConvGradCIdeal.defs (F := Ideal)) (onTc (τ := Cert.ConvGradCIdeal.τ) (Cert.ConvGradCIdeal.main (F := Ideal))) ⟨m, fun _ => 0, g⟩ (fun r => ∀ c : Dev Cert.ConvGradCIdeal.nD,
          r.2.mem ((c.tc : Thread Cert.ConvGradCIdeal.nD Cert.ConvGradCIdeal.τ).loc Cert.ConvGradCIdeal.main_v0_0) = v0 c
          ∧ r.2.mem ((c.tc : Thread Cert.ConvGradCIdeal.nD Cert.ConvGradCIdeal.τ).loc Cert.ConvGradCIdeal.main_v0_1) = v1 c
          ∧ r.2.mem ((c.tc : Thread Cert.ConvGradCIdeal.nD Cert.ConvGradCIdeal.τ).loc Cert.ConvGradCIdeal.main_v0_2) = v2 c
          ∧ r.2.mem ((c.tc : Thread Cert.ConvGradCIdeal.nD Cert.ConvGradCIdeal.τ).loc Cert.ConvGradCIdeal.main_arg0) = m ((c.tc : Thread Cert.ConvGradCIdeal.nD Cert.ConvGradCIdeal.τ).loc Cert.ConvGradCIdeal.main_arg0)
          ∧ r.2.mem ((c.tc : Thread Cert.ConvGradCIdeal.nD Cert.ConvGradCIdeal.τ).loc Cert.ConvGradCIdeal.main_arg1) = m ((c.tc : Thread Cert.ConvGradCIdeal.nD Cert.ConvGradCIdeal.τ).loc Cert.ConvGradCIdeal.main_arg1)
          ∧ r.2.mem ((c.tc : Thread Cert.ConvGradCIdeal.nD Cert.ConvGradCIdeal.τ).loc Cert.ConvGradCIdeal.main_arg2) = m ((c.tc : Thread Cert.ConvGradCIdeal.nD Cert.ConvGradCIdeal.τ).loc Cert.ConvGradCIdeal.main_arg2)
          ∧ r.2.mem ((c.tc : Thread Cert.ConvGradCIdeal.nD Cert.ConvGradCIdeal.τ).loc Cert.ConvGradCIdeal.main_arg3) = m ((c.tc : Thread Cert.ConvGradCIdeal.nD Cert.ConvGradCIdeal.τ).loc Cert.ConvGradCIdeal.main_arg3)
          ∧ r.2.mem ((c.tc : Thread Cert.ConvGradCIdeal.nD Cert.ConvGradCIdeal.τ).loc Cert.ConvGradCIdeal.main_arg4) = m ((c.tc : Thread Cert.ConvGradCIdeal.nD Cert.ConvGradCIdeal.τ).loc Cert.ConvGradCIdeal.main_arg4))
      ∧ θ_run (Cert.ConvGradCRefIdeal.defs (F := Ideal)) (onTc (τ := Cert.ConvGradCRefIdeal.τ) (Cert.ConvGradCRefIdeal.main (F := Ideal))) ⟨m', fun _ => 0, g'⟩ (fun r => ∀ c : Dev Cert.ConvGradCRefIdeal.nD,
          r.2.mem ((c.tc : Thread Cert.ConvGradCRefIdeal.nD Cert.ConvGradCRefIdeal.τ).loc Cert.ConvGradCRefIdeal.main_v92) = v0 c
          ∧ r.2.mem ((c.tc : Thread Cert.ConvGradCRefIdeal.nD Cert.ConvGradCRefIdeal.τ).loc Cert.ConvGradCRefIdeal.main_v85) = v1 c
          ∧ r.2.mem ((c.tc : Thread Cert.ConvGradCRefIdeal.nD Cert.ConvGradCRefIdeal.τ).loc Cert.ConvGradCRefIdeal.main_v45) = v2 c
          ∧ r.2.mem ((c.tc : Thread Cert.ConvGradCRefIdeal.nD Cert.ConvGradCRefIdeal.τ).loc Cert.ConvGradCRefIdeal.main_arg0) = m' ((c.tc : Thread Cert.ConvGradCRefIdeal.nD Cert.ConvGradCRefIdeal.τ).loc Cert.ConvGradCRefIdeal.main_arg0)
          ∧ r.2.mem ((c.tc : Thread Cert.ConvGradCRefIdeal.nD Cert.ConvGradCRefIdeal.τ).loc Cert.ConvGradCRefIdeal.main_arg1) = m' ((c.tc : Thread Cert.ConvGradCRefIdeal.nD Cert.ConvGradCRefIdeal.τ).loc Cert.ConvGradCRefIdeal.main_arg1)
          ∧ r.2.mem ((c.tc : Thread Cert.ConvGradCRefIdeal.nD Cert.ConvGradCRefIdeal.τ).loc Cert.ConvGradCRefIdeal.main_arg2) = m' ((c.tc : Thread Cert.ConvGradCRefIdeal.nD Cert.ConvGradCRefIdeal.τ).loc Cert.ConvGradCRefIdeal.main_arg2)
          ∧ r.2.mem ((c.tc : Thread Cert.ConvGradCRefIdeal.nD Cert.ConvGradCRefIdeal.τ).loc Cert.ConvGradCRefIdeal.main_arg3) = m' ((c.tc : Thread Cert.ConvGradCRefIdeal.nD Cert.ConvGradCRefIdeal.τ).loc Cert.ConvGradCRefIdeal.main_arg3)
          ∧ r.2.mem ((c.tc : Thread Cert.ConvGradCRefIdeal.nD Cert.ConvGradCRefIdeal.τ).loc Cert.ConvGradCRefIdeal.main_arg4) = m' ((c.tc : Thread Cert.ConvGradCRefIdeal.nD Cert.ConvGradCRefIdeal.τ).loc Cert.ConvGradCRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v1) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v18) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2))

def preserves_GateNormGrad_GateNormGradIdeal : Prop :=
  True

def algebraic_GateNormGradIdeal_GateNormGradRefIdeal [hGateNormGradIdeal : Cert.GateNormGradIdeal.Facts] [hGateNormGradRefIdeal : Cert.GateNormGradRefIdeal.Facts] : Prop :=
  ∀ (m : (ℓ : Loc Cert.GateNormGradIdeal.nD Cert.GateNormGradIdeal.τ Cert.GateNormGradIdeal.sig) → Buf (Elt Ideal) ℓ) (g : Dev Cert.GateNormGradIdeal.nD → PrngReg)
    (m' : (ℓ : Loc Cert.GateNormGradRefIdeal.nD Cert.GateNormGradRefIdeal.τ Cert.GateNormGradRefIdeal.sig) → Buf (Elt Ideal) ℓ) (g' : Dev Cert.GateNormGradRefIdeal.nD → PrngReg), Pre_GateNormGradIdeal m →
    (∀ c : Dev Cert.GateNormGradIdeal.nD,
      m' ((c.tc : Thread Cert.GateNormGradRefIdeal.nD Cert.GateNormGradRefIdeal.τ).loc Cert.GateNormGradRefIdeal.main_arg0) = m ((c.tc : Thread Cert.GateNormGradIdeal.nD Cert.GateNormGradIdeal.τ).loc Cert.GateNormGradIdeal.main_arg0)
      ∧ m' ((c.tc : Thread Cert.GateNormGradRefIdeal.nD Cert.GateNormGradRefIdeal.τ).loc Cert.GateNormGradRefIdeal.main_arg1) = m ((c.tc : Thread Cert.GateNormGradIdeal.nD Cert.GateNormGradIdeal.τ).loc Cert.GateNormGradIdeal.main_arg1)
      ∧ m' ((c.tc : Thread Cert.GateNormGradRefIdeal.nD Cert.GateNormGradRefIdeal.τ).loc Cert.GateNormGradRefIdeal.main_arg2) = m ((c.tc : Thread Cert.GateNormGradIdeal.nD Cert.GateNormGradIdeal.τ).loc Cert.GateNormGradIdeal.main_arg2)
      ∧ m' ((c.tc : Thread Cert.GateNormGradRefIdeal.nD Cert.GateNormGradRefIdeal.τ).loc Cert.GateNormGradRefIdeal.main_arg3) = m ((c.tc : Thread Cert.GateNormGradIdeal.nD Cert.GateNormGradIdeal.τ).loc Cert.GateNormGradIdeal.main_arg3)) →
    ∃ (v0 : (c : Dev Cert.GateNormGradIdeal.nD) → Buf (Elt Ideal) ((c.tc : Thread Cert.GateNormGradIdeal.nD Cert.GateNormGradIdeal.τ).loc Cert.GateNormGradIdeal.main_v0_0)) (v1 : (c : Dev Cert.GateNormGradIdeal.nD) → Buf (Elt Ideal) ((c.tc : Thread Cert.GateNormGradIdeal.nD Cert.GateNormGradIdeal.τ).loc Cert.GateNormGradIdeal.main_v1)) (v2 : (c : Dev Cert.GateNormGradIdeal.nD) → Buf (Elt Ideal) ((c.tc : Thread Cert.GateNormGradIdeal.nD Cert.GateNormGradIdeal.τ).loc Cert.GateNormGradIdeal.main_v0_2)),
      θ_run (Cert.GateNormGradIdeal.defs (F := Ideal)) (onTc (τ := Cert.GateNormGradIdeal.τ) (Cert.GateNormGradIdeal.main (F := Ideal))) ⟨m, fun _ => 0, g⟩ (fun r => ∀ c : Dev Cert.GateNormGradIdeal.nD,
          r.2.mem ((c.tc : Thread Cert.GateNormGradIdeal.nD Cert.GateNormGradIdeal.τ).loc Cert.GateNormGradIdeal.main_v0_0) = v0 c
          ∧ r.2.mem ((c.tc : Thread Cert.GateNormGradIdeal.nD Cert.GateNormGradIdeal.τ).loc Cert.GateNormGradIdeal.main_v1) = v1 c
          ∧ r.2.mem ((c.tc : Thread Cert.GateNormGradIdeal.nD Cert.GateNormGradIdeal.τ).loc Cert.GateNormGradIdeal.main_v0_2) = v2 c
          ∧ r.2.mem ((c.tc : Thread Cert.GateNormGradIdeal.nD Cert.GateNormGradIdeal.τ).loc Cert.GateNormGradIdeal.main_arg0) = m ((c.tc : Thread Cert.GateNormGradIdeal.nD Cert.GateNormGradIdeal.τ).loc Cert.GateNormGradIdeal.main_arg0)
          ∧ r.2.mem ((c.tc : Thread Cert.GateNormGradIdeal.nD Cert.GateNormGradIdeal.τ).loc Cert.GateNormGradIdeal.main_arg1) = m ((c.tc : Thread Cert.GateNormGradIdeal.nD Cert.GateNormGradIdeal.τ).loc Cert.GateNormGradIdeal.main_arg1)
          ∧ r.2.mem ((c.tc : Thread Cert.GateNormGradIdeal.nD Cert.GateNormGradIdeal.τ).loc Cert.GateNormGradIdeal.main_arg2) = m ((c.tc : Thread Cert.GateNormGradIdeal.nD Cert.GateNormGradIdeal.τ).loc Cert.GateNormGradIdeal.main_arg2)
          ∧ r.2.mem ((c.tc : Thread Cert.GateNormGradIdeal.nD Cert.GateNormGradIdeal.τ).loc Cert.GateNormGradIdeal.main_arg3) = m ((c.tc : Thread Cert.GateNormGradIdeal.nD Cert.GateNormGradIdeal.τ).loc Cert.GateNormGradIdeal.main_arg3))
      ∧ θ_run (Cert.GateNormGradRefIdeal.defs (F := Ideal)) (onTc (τ := Cert.GateNormGradRefIdeal.τ) (Cert.GateNormGradRefIdeal.main (F := Ideal))) ⟨m', fun _ => 0, g'⟩ (fun r => ∀ c : Dev Cert.GateNormGradRefIdeal.nD,
          r.2.mem ((c.tc : Thread Cert.GateNormGradRefIdeal.nD Cert.GateNormGradRefIdeal.τ).loc Cert.GateNormGradRefIdeal.main_v45) = v0 c
          ∧ r.2.mem ((c.tc : Thread Cert.GateNormGradRefIdeal.nD Cert.GateNormGradRefIdeal.τ).loc Cert.GateNormGradRefIdeal.main_v47) = v1 c
          ∧ r.2.mem ((c.tc : Thread Cert.GateNormGradRefIdeal.nD Cert.GateNormGradRefIdeal.τ).loc Cert.GateNormGradRefIdeal.main_v43) = v2 c
          ∧ r.2.mem ((c.tc : Thread Cert.GateNormGradRefIdeal.nD Cert.GateNormGradRefIdeal.τ).loc Cert.GateNormGradRefIdeal.main_arg0) = m' ((c.tc : Thread Cert.GateNormGradRefIdeal.nD Cert.GateNormGradRefIdeal.τ).loc Cert.GateNormGradRefIdeal.main_arg0)
          ∧ r.2.mem ((c.tc : Thread Cert.GateNormGradRefIdeal.nD Cert.GateNormGradRefIdeal.τ).loc Cert.GateNormGradRefIdeal.main_arg1) = m' ((c.tc : Thread Cert.GateNormGradRefIdeal.nD Cert.GateNormGradRefIdeal.τ).loc Cert.GateNormGradRefIdeal.main_arg1)
          ∧ r.2.mem ((c.tc : Thread Cert.GateNormGradRefIdeal.nD Cert.GateNormGradRefIdeal.τ).loc Cert.GateNormGradRefIdeal.main_arg2) = m' ((c.tc : Thread Cert.GateNormGradRefIdeal.nD Cert.GateNormGradRefIdeal.τ).loc Cert.GateNormGradRefIdeal.main_arg2)
          ∧ r.2.mem ((c.tc : Thread Cert.GateNormGradRefIdeal.nD Cert.GateNormGradRefIdeal.τ).loc Cert.GateNormGradRefIdeal.main_arg3) = m' ((c.tc : Thread Cert.GateNormGradRefIdeal.nD Cert.GateNormGradRefIdeal.τ).loc Cert.GateNormGradRefIdeal.main_arg3))

def preserves_SsdFwd_SsdFwdIdeal : Prop :=
  IdealRules.named_const.Statement Cert.SsdFwdIdeal.κ "mask" .f32 0xF149F2CA#32 ⊥

def preserves_SsdBwd_SsdBwdIdeal : Prop :=
  IdealRules.named_const.Statement Cert.SsdBwdIdeal.κ "mask" .f32 0xF149F2CA#32 ⊥

def preserves_SsdDt_SsdDtIdeal : Prop :=
  True

def algebraic_SsdDtIdeal_SsdDtRefIdeal_pre_finite_steps [hSsdDtIdeal : Cert.SsdDtIdeal.Facts] [hSsdDtRefIdeal : Cert.SsdDtRefIdeal.Facts] [hPre_finite_steps : Cert.Pre_finite_steps.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal_finite_steps m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)
      ∧ m' ((c.tc : Thread Cert.SsdDtRefIdeal.nD Cert.SsdDtRefIdeal.τ).loc Cert.SsdDtRefIdeal.main_arg2) = m ((c.tc : Thread Cert.SsdDtIdeal.nD Cert.SsdDtIdeal.τ).loc Cert.SsdDtIdeal.main_arg2)) →
    ∃ (v0 : (c : Dev Cert.SsdDtIdeal.nD) → Buf (Elt Ideal) ((c.tc : Thread Cert.SsdDtIdeal.nD Cert.SsdDtIdeal.τ).loc Cert.SsdDtIdeal.main_v6_0)) (v1 : (c : Dev Cert.SsdDtIdeal.nD) → Buf (Elt Ideal) ((c.tc : Thread Cert.SsdDtIdeal.nD Cert.SsdDtIdeal.τ).loc Cert.SsdDtIdeal.main_v6_1)) (v2 : (c : Dev Cert.SsdDtIdeal.nD) → Buf (Elt Ideal) ((c.tc : Thread Cert.SsdDtIdeal.nD Cert.SsdDtIdeal.τ).loc Cert.SsdDtIdeal.main_v6_2)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v6_0) = v0 c
          ∧ r.2.mem ((c.tc : Thread Cert.SsdDtIdeal.nD Cert.SsdDtIdeal.τ).loc Cert.SsdDtIdeal.main_v6_1) = v1 c
          ∧ r.2.mem ((c.tc : Thread Cert.SsdDtIdeal.nD Cert.SsdDtIdeal.τ).loc Cert.SsdDtIdeal.main_v6_2) = v2 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
          ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v4) = v0 c
          ∧ r.2.mem ((c.tc : Thread Cert.SsdDtRefIdeal.nD Cert.SsdDtRefIdeal.τ).loc Cert.SsdDtRefIdeal.main_v16) = v1 c
          ∧ r.2.mem ((c.tc : Thread Cert.SsdDtRefIdeal.nD Cert.SsdDtRefIdeal.τ).loc Cert.SsdDtRefIdeal.main_v18) = v2 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1)
          ∧ r.2.mem ((c.tc : Thread Cert.SsdDtRefIdeal.nD Cert.SsdDtRefIdeal.τ).loc Cert.SsdDtRefIdeal.main_arg2) = m' ((c.tc : Thread Cert.SsdDtRefIdeal.nD Cert.SsdDtRefIdeal.τ).loc Cert.SsdDtRefIdeal.main_arg2))

def Claim : Prop :=
  ∃ (hKernel : Cert.Kernel.Facts) (hKernelIdeal : Cert.KernelIdeal.Facts) (hReferenceIdeal : Cert.ReferenceIdeal.Facts) (hDownGrad : Cert.DownGrad.Facts) (hDownGradIdeal : Cert.DownGradIdeal.Facts) (hDownGradRefIdeal : Cert.DownGradRefIdeal.Facts) (hGateUpGrad : Cert.GateUpGrad.Facts) (hGateUpGradIdeal : Cert.GateUpGradIdeal.Facts) (hGateUpGradRefIdeal : Cert.GateUpGradRefIdeal.Facts) (hProjMain : Cert.ProjMain.Facts) (hProjMainIdeal : Cert.ProjMainIdeal.Facts) (hProjMainRefIdeal : Cert.ProjMainRefIdeal.Facts) (hInGrad : Cert.InGrad.Facts) (hInGradIdeal : Cert.InGradIdeal.Facts) (hInGradRefIdeal : Cert.InGradRefIdeal.Facts) (hNormMixOut : Cert.NormMixOut.Facts) (hNormMixOutIdeal : Cert.NormMixOutIdeal.Facts) (hNormMixOutRefIdeal : Cert.NormMixOutRefIdeal.Facts) (hOutProj : Cert.OutProj.Facts) (hOutProjIdeal : Cert.OutProjIdeal.Facts) (hOutProjRefIdeal : Cert.OutProjRefIdeal.Facts) (hMixGrad : Cert.MixGrad.Facts) (hMixGradIdeal : Cert.MixGradIdeal.Facts) (hMixGradRefIdeal : Cert.MixGradRefIdeal.Facts) (hOutGrad : Cert.OutGrad.Facts) (hOutGradIdeal : Cert.OutGradIdeal.Facts) (hOutGradRefIdeal : Cert.OutGradRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hNormOutGate : Cert.NormOutGate.Facts) (hNormOutGateIdeal : Cert.NormOutGateIdeal.Facts) (hNormOutGateRefIdeal : Cert.NormOutGateRefIdeal.Facts) (hNormOutUp : Cert.NormOutUp.Facts) (hNormOutUpIdeal : Cert.NormOutUpIdeal.Facts) (hNormOutUpRefIdeal : Cert.NormOutUpRefIdeal.Facts) (hGateGrad : Cert.GateGrad.Facts) (hGateGradIdeal : Cert.GateGradIdeal.Facts) (hGateGradRefIdeal : Cert.GateGradRefIdeal.Facts) (hUpGrad : Cert.UpGrad.Facts) (hUpGradIdeal : Cert.UpGradIdeal.Facts) (hUpGradRefIdeal : Cert.UpGradRefIdeal.Facts) (hNormMix : Cert.NormMix.Facts) (hNormMixIdeal : Cert.NormMixIdeal.Facts) (hNormMixRefIdeal : Cert.NormMixRefIdeal.Facts) (hNormFfn : Cert.NormFfn.Facts) (hNormFfnIdeal : Cert.NormFfnIdeal.Facts) (hNormFfnRefIdeal : Cert.NormFfnRefIdeal.Facts) (hNormMixGrad : Cert.NormMixGrad.Facts) (hNormMixGradIdeal : Cert.NormMixGradIdeal.Facts) (hNormMixGradRefIdeal : Cert.NormMixGradRefIdeal.Facts) (hNormFfnGrad : Cert.NormFfnGrad.Facts) (hNormFfnGradIdeal : Cert.NormFfnGradIdeal.Facts) (hNormFfnGradRefIdeal : Cert.NormFfnGradRefIdeal.Facts) (hLossHead : Cert.LossHead.Facts) (hLossHeadIdeal : Cert.LossHeadIdeal.Facts) (hLossHeadRefIdeal : Cert.LossHeadRefIdeal.Facts) (hProjDt : Cert.ProjDt.Facts) (hProjDtIdeal : Cert.ProjDtIdeal.Facts) (hProjDtRefIdeal : Cert.ProjDtRefIdeal.Facts) (hInDtGrad : Cert.InDtGrad.Facts) (hInDtGradIdeal : Cert.InDtGradIdeal.Facts) (hInDtGradRefIdeal : Cert.InDtGradRefIdeal.Facts) (hNormMixOutDt : Cert.NormMixOutDt.Facts) (hNormMixOutDtIdeal : Cert.NormMixOutDtIdeal.Facts) (hNormMixOutDtRefIdeal : Cert.NormMixOutDtRefIdeal.Facts) (hSsmConv : Cert.SsmConv.Facts) (hSsmConvIdeal : Cert.SsmConvIdeal.Facts) (hSsmConvRefIdeal : Cert.SsmConvRefIdeal.Facts) (hShortConvFwd : Cert.ShortConvFwd.Facts) (hShortConvFwdIdeal : Cert.ShortConvFwdIdeal.Facts) (hShortConvFwdRefIdeal : Cert.ShortConvFwdRefIdeal.Facts) (hConvGradX : Cert.ConvGradX.Facts) (hConvGradXIdeal : Cert.ConvGradXIdeal.Facts) (hConvGradXRefIdeal : Cert.ConvGradXRefIdeal.Facts) (hConvGradB : Cert.ConvGradB.Facts) (hConvGradBIdeal : Cert.ConvGradBIdeal.Facts) (hConvGradBRefIdeal : Cert.ConvGradBRefIdeal.Facts) (hConvGradC : Cert.ConvGradC.Facts) (hConvGradCIdeal : Cert.ConvGradCIdeal.Facts) (hConvGradCRefIdeal : Cert.ConvGradCRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFfn : Cert.AdamFfn.Facts) (hAdamFfnIdeal : Cert.AdamFfnIdeal.Facts) (hAdamFfnRefIdeal : Cert.AdamFfnRefIdeal.Facts) (hAdamSmall : Cert.AdamSmall.Facts) (hAdamSmallIdeal : Cert.AdamSmallIdeal.Facts) (hAdamSmallRefIdeal : Cert.AdamSmallRefIdeal.Facts) (hGateNorm : Cert.GateNorm.Facts) (hGateNormIdeal : Cert.GateNormIdeal.Facts) (hGateNormRefIdeal : Cert.GateNormRefIdeal.Facts) (hGateNormGrad : Cert.GateNormGrad.Facts) (hGateNormGradIdeal : Cert.GateNormGradIdeal.Facts) (hGateNormGradRefIdeal : Cert.GateNormGradRefIdeal.Facts) (hSsdFwd : Cert.SsdFwd.Facts) (hSsdFwdIdeal : Cert.SsdFwdIdeal.Facts) (hSsdBwd : Cert.SsdBwd.Facts) (hSsdBwdIdeal : Cert.SsdBwdIdeal.Facts) (hSsdDt : Cert.SsdDt.Facts) (hSsdDtIdeal : Cert.SsdDtIdeal.Facts) (hSsdDtRefIdeal : Cert.SsdDtRefIdeal.Facts) (hPre_finite_cotangent : Cert.Pre_finite_cotangent.Facts) (hPre_finite_ct : Cert.Pre_finite_ct.Facts) (hPre_finite_ct_bc : Cert.Pre_finite_ct_bc.Facts) (hPre_finite_steps : Cert.Pre_finite_steps.Facts),
    quiescent_Kernel (hKernel := hKernel)
    ∧ quiescent_KernelIdeal (hKernelIdeal := hKernelIdeal)
    ∧ quiescent_ReferenceIdeal (hReferenceIdeal := hReferenceIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_GateUpGrad (hGateUpGrad := hGateUpGrad)
    ∧ quiescent_GateUpGradIdeal (hGateUpGradIdeal := hGateUpGradIdeal)
    ∧ quiescent_GateUpGradIdeal_pre_finite_cotangent (hGateUpGradIdeal := hGateUpGradIdeal) (hPre_finite_cotangent := hPre_finite_cotangent)
    ∧ quiescent_GateUpGradRefIdeal (hGateUpGradRefIdeal := hGateUpGradRefIdeal)
    ∧ quiescent_GateUpGradRefIdeal_pre_finite_cotangent (hGateUpGradRefIdeal := hGateUpGradRefIdeal) (hPre_finite_cotangent := hPre_finite_cotangent)
    ∧ quiescent_ProjMain (hProjMain := hProjMain)
    ∧ quiescent_ProjMainIdeal (hProjMainIdeal := hProjMainIdeal)
    ∧ quiescent_ProjMainRefIdeal (hProjMainRefIdeal := hProjMainRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_NormMixOut (hNormMixOut := hNormMixOut)
    ∧ quiescent_NormMixOutIdeal (hNormMixOutIdeal := hNormMixOutIdeal)
    ∧ quiescent_NormMixOutRefIdeal (hNormMixOutRefIdeal := hNormMixOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_NormOutGate (hNormOutGate := hNormOutGate)
    ∧ quiescent_NormOutGateIdeal (hNormOutGateIdeal := hNormOutGateIdeal)
    ∧ quiescent_NormOutGateRefIdeal (hNormOutGateRefIdeal := hNormOutGateRefIdeal)
    ∧ quiescent_NormOutUp (hNormOutUp := hNormOutUp)
    ∧ quiescent_NormOutUpIdeal (hNormOutUpIdeal := hNormOutUpIdeal)
    ∧ quiescent_NormOutUpRefIdeal (hNormOutUpRefIdeal := hNormOutUpRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_NormMixGrad (hNormMixGrad := hNormMixGrad)
    ∧ quiescent_NormMixGradIdeal (hNormMixGradIdeal := hNormMixGradIdeal)
    ∧ quiescent_NormMixGradRefIdeal (hNormMixGradRefIdeal := hNormMixGradRefIdeal)
    ∧ quiescent_NormFfnGrad (hNormFfnGrad := hNormFfnGrad)
    ∧ quiescent_NormFfnGradIdeal (hNormFfnGradIdeal := hNormFfnGradIdeal)
    ∧ quiescent_NormFfnGradRefIdeal (hNormFfnGradRefIdeal := hNormFfnGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_InDtGrad (hInDtGrad := hInDtGrad)
    ∧ quiescent_InDtGradIdeal (hInDtGradIdeal := hInDtGradIdeal)
    ∧ quiescent_InDtGradRefIdeal (hInDtGradRefIdeal := hInDtGradRefIdeal)
    ∧ quiescent_NormMixOutDt (hNormMixOutDt := hNormMixOutDt)
    ∧ quiescent_NormMixOutDtIdeal (hNormMixOutDtIdeal := hNormMixOutDtIdeal)
    ∧ quiescent_NormMixOutDtRefIdeal (hNormMixOutDtRefIdeal := hNormMixOutDtRefIdeal)
    ∧ quiescent_SsmConv (hSsmConv := hSsmConv)
    ∧ quiescent_SsmConvIdeal (hSsmConvIdeal := hSsmConvIdeal)
    ∧ quiescent_SsmConvRefIdeal (hSsmConvRefIdeal := hSsmConvRefIdeal)
    ∧ quiescent_ShortConvFwd (hShortConvFwd := hShortConvFwd)
    ∧ quiescent_ShortConvFwdIdeal (hShortConvFwdIdeal := hShortConvFwdIdeal)
    ∧ quiescent_ShortConvFwdRefIdeal (hShortConvFwdRefIdeal := hShortConvFwdRefIdeal)
    ∧ quiescent_ConvGradX (hConvGradX := hConvGradX)
    ∧ quiescent_ConvGradXIdeal (hConvGradXIdeal := hConvGradXIdeal)
    ∧ quiescent_ConvGradXIdeal_pre_finite_ct (hConvGradXIdeal := hConvGradXIdeal) (hPre_finite_ct := hPre_finite_ct)
    ∧ quiescent_ConvGradXRefIdeal (hConvGradXRefIdeal := hConvGradXRefIdeal)
    ∧ quiescent_ConvGradXRefIdeal_pre_finite_ct (hConvGradXRefIdeal := hConvGradXRefIdeal) (hPre_finite_ct := hPre_finite_ct)
    ∧ quiescent_ConvGradB (hConvGradB := hConvGradB)
    ∧ quiescent_ConvGradBIdeal (hConvGradBIdeal := hConvGradBIdeal)
    ∧ quiescent_ConvGradBIdeal_pre_finite_ct_bc (hConvGradBIdeal := hConvGradBIdeal) (hPre_finite_ct_bc := hPre_finite_ct_bc)
    ∧ quiescent_ConvGradBRefIdeal (hConvGradBRefIdeal := hConvGradBRefIdeal)
    ∧ quiescent_ConvGradBRefIdeal_pre_finite_ct_bc (hConvGradBRefIdeal := hConvGradBRefIdeal) (hPre_finite_ct_bc := hPre_finite_ct_bc)
    ∧ quiescent_ConvGradC (hConvGradC := hConvGradC)
    ∧ quiescent_ConvGradCIdeal (hConvGradCIdeal := hConvGradCIdeal)
    ∧ quiescent_ConvGradCIdeal_pre_finite_ct_bc (hConvGradCIdeal := hConvGradCIdeal) (hPre_finite_ct_bc := hPre_finite_ct_bc)
    ∧ quiescent_ConvGradCRefIdeal (hConvGradCRefIdeal := hConvGradCRefIdeal)
    ∧ quiescent_ConvGradCRefIdeal_pre_finite_ct_bc (hConvGradCRefIdeal := hConvGradCRefIdeal) (hPre_finite_ct_bc := hPre_finite_ct_bc)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_GateNormGrad (hGateNormGrad := hGateNormGrad)
    ∧ quiescent_GateNormGradIdeal (hGateNormGradIdeal := hGateNormGradIdeal)
    ∧ quiescent_GateNormGradRefIdeal (hGateNormGradRefIdeal := hGateNormGradRefIdeal)
    ∧ quiescent_SsdFwd (hSsdFwd := hSsdFwd)
    ∧ quiescent_SsdFwdIdeal (hSsdFwdIdeal := hSsdFwdIdeal)
    ∧ quiescent_SsdBwd (hSsdBwd := hSsdBwd)
    ∧ quiescent_SsdBwdIdeal (hSsdBwdIdeal := hSsdBwdIdeal)
    ∧ quiescent_SsdDt (hSsdDt := hSsdDt)
    ∧ quiescent_SsdDtIdeal (hSsdDtIdeal := hSsdDtIdeal)
    ∧ quiescent_SsdDtIdeal_pre_finite_steps (hSsdDtIdeal := hSsdDtIdeal) (hPre_finite_steps := hPre_finite_steps)
    ∧ quiescent_SsdDtRefIdeal (hSsdDtRefIdeal := hSsdDtRefIdeal)
    ∧ quiescent_SsdDtRefIdeal_pre_finite_steps (hSsdDtRefIdeal := hSsdDtRefIdeal) (hPre_finite_steps := hPre_finite_steps)
    ∧ preserves_Kernel_KernelIdeal
    ∧ algebraic_KernelIdeal_ReferenceIdeal (hKernelIdeal := hKernelIdeal) (hReferenceIdeal := hReferenceIdeal)
    ∧ preserves_DownGrad_DownGradIdeal
    ∧ algebraic_DownGradIdeal_DownGradRefIdeal (hDownGradIdeal := hDownGradIdeal) (hDownGradRefIdeal := hDownGradRefIdeal)
    ∧ preserves_GateUpGrad_GateUpGradIdeal
    ∧ algebraic_GateUpGradIdeal_GateUpGradRefIdeal_pre_finite_cotangent (hGateUpGradIdeal := hGateUpGradIdeal) (hGateUpGradRefIdeal := hGateUpGradRefIdeal) (hPre_finite_cotangent := hPre_finite_cotangent)
    ∧ preserves_ProjMain_ProjMainIdeal
    ∧ algebraic_ProjMainIdeal_ProjMainRefIdeal (hProjMainIdeal := hProjMainIdeal) (hProjMainRefIdeal := hProjMainRefIdeal)
    ∧ preserves_InGrad_InGradIdeal
    ∧ algebraic_InGradIdeal_InGradRefIdeal (hInGradIdeal := hInGradIdeal) (hInGradRefIdeal := hInGradRefIdeal)
    ∧ preserves_NormMixOut_NormMixOutIdeal
    ∧ algebraic_NormMixOutIdeal_NormMixOutRefIdeal (hNormMixOutIdeal := hNormMixOutIdeal) (hNormMixOutRefIdeal := hNormMixOutRefIdeal)
    ∧ preserves_OutProj_OutProjIdeal
    ∧ algebraic_OutProjIdeal_OutProjRefIdeal (hOutProjIdeal := hOutProjIdeal) (hOutProjRefIdeal := hOutProjRefIdeal)
    ∧ preserves_MixGrad_MixGradIdeal
    ∧ algebraic_MixGradIdeal_MixGradRefIdeal (hMixGradIdeal := hMixGradIdeal) (hMixGradRefIdeal := hMixGradRefIdeal)
    ∧ preserves_OutGrad_OutGradIdeal
    ∧ algebraic_OutGradIdeal_OutGradRefIdeal (hOutGradIdeal := hOutGradIdeal) (hOutGradRefIdeal := hOutGradRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_NormOutGate_NormOutGateIdeal
    ∧ algebraic_NormOutGateIdeal_NormOutGateRefIdeal (hNormOutGateIdeal := hNormOutGateIdeal) (hNormOutGateRefIdeal := hNormOutGateRefIdeal)
    ∧ preserves_NormOutUp_NormOutUpIdeal
    ∧ algebraic_NormOutUpIdeal_NormOutUpRefIdeal (hNormOutUpIdeal := hNormOutUpIdeal) (hNormOutUpRefIdeal := hNormOutUpRefIdeal)
    ∧ preserves_GateGrad_GateGradIdeal
    ∧ algebraic_GateGradIdeal_GateGradRefIdeal (hGateGradIdeal := hGateGradIdeal) (hGateGradRefIdeal := hGateGradRefIdeal)
    ∧ preserves_UpGrad_UpGradIdeal
    ∧ algebraic_UpGradIdeal_UpGradRefIdeal (hUpGradIdeal := hUpGradIdeal) (hUpGradRefIdeal := hUpGradRefIdeal)
    ∧ preserves_NormMix_NormMixIdeal
    ∧ algebraic_NormMixIdeal_NormMixRefIdeal (hNormMixIdeal := hNormMixIdeal) (hNormMixRefIdeal := hNormMixRefIdeal)
    ∧ preserves_NormFfn_NormFfnIdeal
    ∧ algebraic_NormFfnIdeal_NormFfnRefIdeal (hNormFfnIdeal := hNormFfnIdeal) (hNormFfnRefIdeal := hNormFfnRefIdeal)
    ∧ preserves_NormMixGrad_NormMixGradIdeal
    ∧ algebraic_NormMixGradIdeal_NormMixGradRefIdeal (hNormMixGradIdeal := hNormMixGradIdeal) (hNormMixGradRefIdeal := hNormMixGradRefIdeal)
    ∧ preserves_NormFfnGrad_NormFfnGradIdeal
    ∧ algebraic_NormFfnGradIdeal_NormFfnGradRefIdeal (hNormFfnGradIdeal := hNormFfnGradIdeal) (hNormFfnGradRefIdeal := hNormFfnGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_ProjDt_ProjDtIdeal
    ∧ algebraic_ProjDtIdeal_ProjDtRefIdeal (hProjDtIdeal := hProjDtIdeal) (hProjDtRefIdeal := hProjDtRefIdeal)
    ∧ preserves_InDtGrad_InDtGradIdeal
    ∧ algebraic_InDtGradIdeal_InDtGradRefIdeal (hInDtGradIdeal := hInDtGradIdeal) (hInDtGradRefIdeal := hInDtGradRefIdeal)
    ∧ preserves_NormMixOutDt_NormMixOutDtIdeal
    ∧ algebraic_NormMixOutDtIdeal_NormMixOutDtRefIdeal (hNormMixOutDtIdeal := hNormMixOutDtIdeal) (hNormMixOutDtRefIdeal := hNormMixOutDtRefIdeal)
    ∧ preserves_SsmConv_SsmConvIdeal
    ∧ algebraic_SsmConvIdeal_SsmConvRefIdeal (hSsmConvIdeal := hSsmConvIdeal) (hSsmConvRefIdeal := hSsmConvRefIdeal)
    ∧ preserves_ShortConvFwd_ShortConvFwdIdeal
    ∧ algebraic_ShortConvFwdIdeal_ShortConvFwdRefIdeal (hShortConvFwdIdeal := hShortConvFwdIdeal) (hShortConvFwdRefIdeal := hShortConvFwdRefIdeal)
    ∧ preserves_ConvGradX_ConvGradXIdeal
    ∧ algebraic_ConvGradXIdeal_ConvGradXRefIdeal_pre_finite_ct (hConvGradXIdeal := hConvGradXIdeal) (hConvGradXRefIdeal := hConvGradXRefIdeal) (hPre_finite_ct := hPre_finite_ct)
    ∧ preserves_ConvGradB_ConvGradBIdeal
    ∧ algebraic_ConvGradBIdeal_ConvGradBRefIdeal_pre_finite_ct_bc (hConvGradBIdeal := hConvGradBIdeal) (hConvGradBRefIdeal := hConvGradBRefIdeal) (hPre_finite_ct_bc := hPre_finite_ct_bc)
    ∧ preserves_ConvGradC_ConvGradCIdeal
    ∧ algebraic_ConvGradCIdeal_ConvGradCRefIdeal_pre_finite_ct_bc (hConvGradCIdeal := hConvGradCIdeal) (hConvGradCRefIdeal := hConvGradCRefIdeal) (hPre_finite_ct_bc := hPre_finite_ct_bc)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GateNorm_GateNormIdeal
    ∧ algebraic_GateNormIdeal_GateNormRefIdeal (hGateNormIdeal := hGateNormIdeal) (hGateNormRefIdeal := hGateNormRefIdeal)
    ∧ preserves_GateNormGrad_GateNormGradIdeal
    ∧ algebraic_GateNormGradIdeal_GateNormGradRefIdeal (hGateNormGradIdeal := hGateNormGradIdeal) (hGateNormGradRefIdeal := hGateNormGradRefIdeal)
    ∧ preserves_SsdFwd_SsdFwdIdeal
    ∧ preserves_SsdBwd_SsdBwdIdeal
    ∧ preserves_SsdDt_SsdDtIdeal
    ∧ algebraic_SsdDtIdeal_SsdDtRefIdeal_pre_finite_steps (hSsdDtIdeal := hSsdDtIdeal) (hSsdDtRefIdeal := hSsdDtRefIdeal) (hPre_finite_steps := hPre_finite_steps)
-- ==== Pre_finite_cotangent.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .f32) (main_arg2 : FVec F S4096x5632 .bf16) (main_arg3 : FVec F S4096x5632 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := Host.absf main_arg1
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v4 main_v8
  let main_v10 : FVec F S4096x5632 .f32 := (extf .f32 · bitsLt_bf16_f32) main_arg3
  let main_v11 : FVec F S4096x5632 .f32 := Host.absf main_v10
  let main_cst_2 : FVec F S_ .f32 := constant S_ .f32 0x7F800000#32
  let main_v12 : FVec F S4096x5632 .f32 := broadcastInDim S4096x5632 ![] bcast_S_S4096x5632 main_cst_2
  let main_v13 : IVec S4096x5632 1 := cmpf .olt main_v11 main_v12
  let main_c_3 : IVec S_ 1 := constantI S_ 1 1#1
  let main_v14 : IVec S_ 1 := (fun x v => Host.reduce IntOp.andi x v reducesTo_S4096x5632_S_d0_1 h_S_) main_v13 main_c_3
  let main_v15 : IVec S_ 1 := andi main_v9 main_v14
  main_v15
-- ==== Pre_finite_ct.lean ====
abbrev S4096x12288 : Shape := ⟨2, ![4096, 12288]⟩
abbrev S4096x2048 : Shape := ⟨2, ![4096, 2048]⟩
abbrev S4x4096 : Shape := ⟨2, ![4, 4096]⟩
abbrev S1x4096 : Shape := ⟨2, ![1, 4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x12288 .bf16) (main_arg1 : FVec F S4096x2048 .bf16) (main_arg2 : FVec F S4x4096 .f32) (main_arg3 : FVec F S1x4096 .f32) (main_arg4 : FVec F S4096x12288 .bf16) : IVec S4096x2048 1 :=
  let main_v0 : FVec F S4096x2048 .f32 := (extf .f32 · bitsLt_bf16_f32) main_arg1
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  main_v3
-- ==== Pre_finite_ct_bc.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x12288 .bf16) (main_arg1 : FVec F S4096x1024 .bf16) (main_arg2 : FVec F S4x4096 .f32) (main_arg3 : FVec F S1x4096 .f32) (main_arg4 : FVec F S4096x12288 .bf16) : IVec S4096x1024 1 :=
  let main_v0 : FVec F S4096x1024 .f32 := (extf .f32 · bitsLt_bf16_f32) main_arg1
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Pre_finite_steps.lean ====
abbrev S4096x128 : Shape := ⟨2, ![4096, 128]⟩
abbrev S1x32 : Shape := ⟨2, ![1, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S4096x128 .f32) (main_arg1 : FVec F S1x32 .f32) (main_arg2 : FVec F S1x32 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Kernel.lean ====
abbrev S4096x12288 : Shape := ⟨2, ![4096, 12288]⟩
abbrev S4096x4096 : Shape := ⟨2, ![4096, 4096]⟩
abbrev S3x2048 : Shape := ⟨2, ![3, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 8
  | .vmem => 18
  | .smem => 0
  | _ => 0

abbrev bufTy : (tb : Table) → Fin (tcTables nBuf tb) → BufTy
  | .hbm, ⟨0, _⟩ => ⟨S4096x12288, .bf16⟩
  | .hbm, ⟨1, _⟩ => ⟨S4096x4096, .bf16⟩
  | .hbm, ⟨2, _⟩ => ⟨S3x2048, .f32⟩
  | .hbm, ⟨3, _⟩ => ⟨S4096x12288, .bf16⟩
  | .hbm, ⟨4, _⟩ => ⟨S4096x12288, .bf16⟩
  | .hbm, ⟨5, _⟩ => ⟨S4096x2048, .bf16⟩
  | .hbm, ⟨6, _⟩ => ⟨S4096x2048, .bf16⟩
  | .hbm, ⟨7, _⟩ => ⟨S3x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x12288 : Shape := ⟨2, ![4096, 12288]⟩
abbrev S4096x4096 : Shape := ⟨2, ![4096, 4096]⟩
abbrev S3x2048 : Shape := ⟨2, ![3, 2048]⟩
abbrev S4096x2048 : Shape := ⟨2, ![4096, 2048]⟩
abbrev S1x4096x2048 : Shape := ⟨3, ![1, 4096, 2048]⟩
abbrev S_ : Shape := ⟨0, ![]⟩
abbrev S1x2x2048 : Shape := ⟨3, ![1, 2, 2048]⟩
abbrev S1x4098x2048 : Shape := ⟨3, ![1, 4098, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 101
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x4096, .bf16⟩
  | .hbm, ⟨2, _⟩ => ⟨S3x2048, .f32⟩
  | .hbm, ⟨3, _⟩ => ⟨S4096x12288, .bf16⟩
  | .hbm, ⟨4, _⟩ => ⟨S4096x2048, .bf16⟩
  | .hbm, ⟨5, _⟩ => ⟨S4096x2048, .f32⟩
  | .hbm, ⟨6, _⟩ => ⟨S1x4096x2048, .f32⟩
  | .hbm, ⟨7, _⟩ => ⟨S4096x2048, .bf16⟩
  | .hbm, ⟨8, _⟩ => ⟨S4096x2048, .f32⟩
  | .hbm, ⟨9, _⟩ => ⟨S1x4096x2048, .f32⟩
  | .hbm, ⟨10, _⟩ => ⟨S4096x2048, .bf16⟩
  | .hbm, ⟨11, _⟩ => ⟨S4096x2048, .f32⟩
  | .hbm, ⟨12, _⟩ => ⟨S1x4096x2048, .f32⟩
  | .hbm, ⟨13, _⟩ => ⟨S1x4096x2048, .f32⟩
  | .hbm, ⟨14, _⟩ => ⟨S_, .f32⟩
  | .hbm, ⟨15, _⟩ => ⟨S1x2x2048, .f32⟩
  | .hbm, ⟨16, _⟩ => ⟨S1x4098x2048, .f32⟩
  | .hbm, ⟨17, _⟩ => ⟨S_, .f32⟩
  | .hbm, ⟨18, _⟩ => ⟨S1x2x2048, .f32⟩
  | .hbm, ⟨19, _⟩ => ⟨S1x4096x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S1x4096x2048, .f32⟩
  | .hbm, ⟨24, _⟩ => ⟨S1x4096x2048, .f32⟩
  | .hbm, ⟨25, _⟩ => ⟨S1x4096x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S1x4096x2048, .f32⟩
  | .hbm, ⟨30, _⟩ => ⟨S1x4096x2048, .f32⟩
  | .hbm, ⟨31, _⟩ => ⟨S1x4096x2048, .f32⟩
  | .hbm, ⟨32, _⟩ => ⟨S1x4096x2048, .f32⟩
  | .hbm, ⟨33, _⟩ => ⟨S1x2048, .f32⟩
  | .hbm, ⟨34, _⟩ => ⟨S2048, .f32⟩
  | .hbm, ⟨35, _⟩ => ⟨S1x1x2048, .f32⟩
  | .hbm, ⟨36, _⟩ => ⟨S1x4096x2048, .f32⟩
  | .hbm, ⟨37, _⟩ => ⟨S1x4096x2048, .f32⟩
  | .hbm, ⟨38, _⟩ => ⟨S1x4096x2048, .f32⟩
  | .hbm, ⟨39, _⟩ => ⟨S1x4096x2048, .f32⟩
  | .hbm, ⟨40, _⟩ => ⟨S4096x2048, .bf16⟩
  | .hbm, ⟨41, _⟩ => ⟨S4096x2048, .f32⟩
  | .hbm, ⟨42, _⟩ => ⟨S1x4096x2048, .f32⟩
  | .hbm, ⟨43, _⟩ => ⟨S1x4096x2048, .f32⟩
  | .hbm, ⟨44, _⟩ => ⟨S1x4096x2048, .f32⟩
  | .hbm, ⟨45, _⟩ => ⟨S1x4096x2048, .f32⟩
  | .hbm, ⟨46, _⟩ => ⟨S_, .f32⟩
  | .hbm, ⟨47, _⟩ => ⟨S1x2048, .f32⟩
  | .hbm, ⟨48, _⟩ => ⟨S1x1x2048, .f32⟩
  | .hbm, ⟨49, _⟩ => ⟨S1x4096x2048, .f32⟩
  | .hbm, ⟨50, _⟩ => ⟨S1x4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S3x2048, .f32⟩
  | .hbm, ⟨56, _⟩ => ⟨S_, .f32⟩
  | .hbm, ⟨57, _⟩ => ⟨S1x4098x2048, .f32⟩
  | .hbm, ⟨58, _⟩ => ⟨S1x4096x2048, .f32⟩
  | .hbm, ⟨59, _⟩ => ⟨S_, .f32⟩
  | .hbm, ⟨60, _⟩ => ⟨S1x2048, .f32⟩
  | .hbm, ⟨61, _⟩ => ⟨S1x1x2048, .f32⟩
  | .hbm, ⟨62, _⟩ => ⟨S1x4096x2048, .f32⟩
  | .hbm, ⟨63, _⟩ => ⟨S1x4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S_, .f32⟩
  | .hbm, ⟨68, _⟩ => ⟨S3x2048, .f32⟩
  | .hbm, ⟨69, _⟩ => ⟨S3x2048, .f32⟩
  | .hbm, ⟨70, _⟩ => ⟨S_, .f32⟩
  | .hbm, ⟨71, _⟩ => ⟨S1x4098x2048, .f32⟩
  | .hbm, ⟨72, _⟩ => ⟨S1x4098x2048, .f32⟩
  | .hbm, ⟨73, _⟩ => ⟨S1x4096x2048, .f32⟩
  | .hbm, ⟨74, _⟩ => ⟨S_, .f32⟩
  | .hbm, ⟨75, _⟩ => ⟨S1x2048, .f32⟩
  | .hbm, ⟨76, _⟩ => ⟨S1x1x2048, .f32⟩
  | .hbm, ⟨77, _⟩ => ⟨S1x4096x2048, .f32⟩
  | .hbm, ⟨78, _⟩ => ⟨S1x4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S3x2048, .f32⟩
  | .hbm, ⟨84, _⟩ => ⟨S3x2048, .f32⟩
  | .hbm, ⟨85, _⟩ => ⟨S_, .f32⟩
  | .hbm, ⟨86, _⟩ => ⟨S1x4098x2048, .f32⟩
  | .hbm, ⟨87, _⟩ => ⟨S1x4098x2048, .f32⟩
  | .hbm, ⟨88, _⟩ => ⟨S1x2x2048, .f32⟩
  | .hbm, ⟨89, _⟩ => ⟨S1x4096x2048, .f32⟩
  | .hbm, ⟨90, _⟩ => ⟨S1x4096x2048, .f32⟩
  | .hbm, ⟨91, _⟩ => ⟨S1x4096x2048, .f32⟩
  | .hbm, ⟨92, _⟩ => ⟨S4096x2048, .f32⟩
  | .hbm, ⟨93, _⟩ => ⟨S4096x2048, .bf16⟩
  | .hbm, ⟨94, _⟩ => ⟨S_, .i32⟩
  | .hbm, ⟨95, _⟩ => ⟨S_, .i32⟩
  | .hbm, ⟨96, _⟩ => ⟨S4096x12288, .bf16⟩
  | .hbm, ⟨97, _⟩ => ⟨S4096x2048, .f32⟩
  | .hbm, ⟨98, _⟩ => ⟨S4096x2048, .bf16⟩
  | .hbm, ⟨99, _⟩ => ⟨S4096x2048, .f32⟩
  | .hbm, ⟨100, _⟩ => ⟨S4096x2048, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c : Ref sig .tc := ⟨.hbm, 94, rfl⟩
abbrev main_c_13 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== DownGrad.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateUpGrad.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S5632x2048, .bf16⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateUpGradRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== ProjMain.lean ====
abbrev S4096x2048 : Shape := ⟨2, ![4096, 2048]⟩
abbrev S2048x12288 : Shape := ⟨2, ![2048, 12288]⟩
abbrev S12288x2048 : Shape := ⟨2, ![12288, 2048]⟩
abbrev S4096x12288 : Shape := ⟨2, ![4096, 12288]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .f32⟩
  | .hbm, ⟨2, _⟩ => ⟨S12288x2048, .f32⟩
  | .hbm, ⟨3, _⟩ => ⟨S12288x2048, .bf16⟩
  | .hbm, ⟨4, _⟩ => ⟨S4096x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainRefIdeal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .f32⟩
  | .hbm, ⟨2, _⟩ => ⟨S4096x2048, .f32⟩
  | .hbm, ⟨3, _⟩ => ⟨S4096x12288, .f32⟩
  | .hbm, ⟨4, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGrad.lean ====
abbrev S4096x12288 : Shape := ⟨2, ![4096, 12288]⟩
abbrev S4096x2048 : Shape := ⟨2, ![4096, 2048]⟩
abbrev S12288x2048 : Shape := ⟨2, ![12288, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S12288x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S4096x12288 : Shape := ⟨2, ![4096, 12288]⟩
abbrev S4096x2048 : Shape := ⟨2, ![4096, 2048]⟩
abbrev S_ : Shape := ⟨0, ![]⟩
abbrev S2048x12288 : Shape := ⟨2, ![2048, 12288]⟩
abbrev S12288x2048 : Shape := ⟨2, ![12288, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S_, .f32⟩
  | .hbm, ⟨3, _⟩ => ⟨S2048x12288, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S12288x2048, .f32⟩
  | .hbm, ⟨8, _⟩ => ⟨S2048x12288, .f32⟩
  | .hbm, ⟨9, _⟩ => ⟨S12288x2048, .f32⟩
  | .hbm, ⟨10, _⟩ => ⟨S12288x2048, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NormMixOut.lean ====
abbrev S4096x12288 : Shape := ⟨2, ![4096, 12288]⟩
abbrev S2048x12288 : Shape := ⟨2, ![2048, 12288]⟩
abbrev S4096x2048 : Shape := ⟨2, ![4096, 2048]⟩
abbrev S12288x2048 : Shape := ⟨2, ![12288, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .f32⟩
  | .hbm, ⟨2, _⟩ => ⟨S4096x2048, .f32⟩
  | .hbm, ⟨3, _⟩ => ⟨S12288x2048, .f32⟩
  | .hbm, ⟨4, _⟩ => ⟨S12288x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 6], ![false, false, false]⟩

def k0_cond3 (i : grid0.Coords) : BitVec 1 :=
  let arg2 : BitVec 32 := BitVec.ofNat 32 (i 2).val
  let c5_i32_6 : BitVec 32 := 5#32
  let v12 : BitVec 1 := Scalar.cmpi .eq arg2 c5_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NormMixOutRefIdeal.lean ====
abbrev S4096x12288 : Shape := ⟨2, ![4096, 12288]⟩
abbrev S2048x12288 : Shape := ⟨2, ![2048, 12288]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S2048x12288, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S4096x2048, .f32⟩
  | .hbm, ⟨8, _⟩ => ⟨S4096x2048, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutProj.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixGrad.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .bf16⟩
  | .hbm, ⟨3, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x4096, .f32⟩
  | .hbm, ⟨7, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutGrad.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnGate.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S5632x2048, .f32⟩
  | .hbm, ⟨3, _⟩ => ⟨S5632x2048, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x2048, .f32⟩
  | .hbm, ⟨3, _⟩ => ⟨S4096x5632, .f32⟩
  | .hbm, ⟨4, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S4096x2048 : Shape := ⟨2, ![4096, 2048]⟩
abbrev S2048x5632 : Shape := ⟨2, ![2048, 5632]⟩
abbrev S4096x5632 : Shape := ⟨2, ![4096, 5632]⟩
abbrev S5632x2048 : Shape := ⟨2, ![5632, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x5632, .bf16⟩
  | .hbm, ⟨3, _⟩ => ⟨S5632x2048, .f32⟩
  | .hbm, ⟨4, _⟩ => ⟨S5632x2048, .bf16⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x5632, .bf16⟩
  | .hbm, ⟨3, _⟩ => ⟨S4096x2048, .f32⟩
  | .hbm, ⟨4, _⟩ => ⟨S4096x5632, .f32⟩
  | .hbm, ⟨5, _⟩ => ⟨S4096x5632, .bf16⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S5632x2048, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S4096x5632, .f32⟩
  | .hbm, ⟨4, _⟩ => ⟨S4096x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== NormOutGate.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S5632x2048, .f32⟩
  | .hbm, ⟨3, _⟩ => ⟨S5632x2048, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NormOutGateRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S_, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormOutUp.lean ====
abbrev S4096x5632 : Shape := ⟨2, ![4096, 5632]⟩
abbrev S2048x5632 : Shape := ⟨2, ![2048, 5632]⟩
abbrev S4096x2048 : Shape := ⟨2, ![4096, 2048]⟩
abbrev S5632x2048 : Shape := ⟨2, ![5632, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S5632x2048, .f32⟩
  | .hbm, ⟨4, _⟩ => ⟨S5632x2048, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NormOutUpRefIdeal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x2048, .f32⟩
  | .hbm, ⟨8, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateGrad.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateGradRefIdeal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpGrad.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NormMix.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormFfn.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFfnRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormMixGrad.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixGradRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormFfnGrad.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFfnGradRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S1x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x128, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S4096x2048, .bf16⟩
  | .hbm, ⟨74, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== ProjDt.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .f32⟩
  | .hbm, ⟨2, _⟩ => ⟨S128x2048, .bf16⟩
  | .hbm, ⟨3, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtRefIdeal.lean ====
abbrev S4096x2048 : Shape := ⟨2, ![4096, 2048]⟩
abbrev S128x2048 : Shape := ⟨2, ![128, 2048]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .f32⟩
  | .hbm, ⟨2, _⟩ => ⟨S4096x2048, .f32⟩
  | .hbm, ⟨3, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDtGrad.lean ====
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x2048, .bf16⟩
  | .hbm, ⟨2, _⟩ => ⟨S128x2048, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDtGradRefIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S4096x128, .f32⟩
  | .hbm, ⟨6, _⟩ => ⟨S128x2048, .f32⟩
  | .hbm, ⟨7, _⟩ => ⟨S128x2048, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormMixOutDt.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S128x2048, .bf16⟩
  | .hbm, ⟨3, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NormMixOutDtRefIdeal.lean ====
abbrev S4096x128 : Shape := ⟨2, ![4096, 128]⟩
abbrev S128x2048 : Shape := ⟨2, ![128, 2048]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S_, .f32⟩
  | .hbm, ⟨3, _⟩ => ⟨S4096x2048, .f32⟩
  | .hbm, ⟨4, _⟩ => ⟨S4096x128, .f32⟩
  | .hbm, ⟨5, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsmConv.lean ====
abbrev S4096x12288 : Shape := ⟨2, ![4096, 12288]⟩
abbrev S4x4096 : Shape := ⟨2, ![4, 4096]⟩
abbrev S1x4096 : Shape := ⟨2, ![1, 4096]⟩
abbrev S4096x4096 : Shape := ⟨2, ![4096, 4096]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x12288, .bf16⟩
  | .hbm, ⟨1, _⟩ => ⟨S4x4096, .f32⟩
  | .hbm, ⟨2, _⟩ => ⟨S1x4096, .f32⟩
  | .hbm, ⟨3, _⟩ => ⟨S4096x4096, .bf16⟩
  | .local _ .vmem, ⟨0, _⟩ => ⟨S4096x128, .bf16⟩
  | .local _ .vmem, ⟨1, _⟩ => ⟨S4096x128, .bf16⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .bf16⟩
  | .local _ .vmem, ⟨7, _⟩ => ⟨S4096x128, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmConvRefIdeal.lean ====
abbrev S4096x12288 : Shape := ⟨2, ![4096, 12288]⟩
abbrev S4x4096 : Shape := ⟨2, ![4, 4096]⟩
abbrev S1x4096 : Shape := ⟨2, ![1, 4096]⟩
abbrev S4096x4096 : Shape := ⟨2, ![4096, 4096]⟩
abbrev S1x4096x4096 : Shape := ⟨3, ![1, 4096, 4096]⟩
abbrev S_ : Shape := ⟨0, ![]⟩
abbrev S1x3x4096 : Shape := ⟨3, ![1, 3, 4096]⟩
abbrev S1x4099x4096 : Shape := ⟨3, ![1, 4099, 4096]⟩
abbrev S4096 : Shape := ⟨1, ![4096]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4x4096, .f32⟩
  | .hbm, ⟨2, _⟩ => ⟨S1x4096, .f32⟩
  | .hbm, ⟨3, _⟩ => ⟨S4096x4096, .bf16⟩
  | .hbm, ⟨4, _⟩ => ⟨S1x4096x4096, .bf16⟩
  | .hbm, ⟨5, _⟩ => ⟨S1x4096x4096, .f32⟩
  | .hbm, ⟨6, _⟩ => ⟨S_, .f32⟩
  | .hbm, ⟨7, _⟩ => ⟨S1x3x4096, .f32⟩
  | .hbm, ⟨8, _⟩ => ⟨S1x4099x4096, .f32⟩
  | .hbm, ⟨9, _⟩ => ⟨S1x4096x4096, .f32⟩
  | .hbm, ⟨10, _⟩ => ⟨S1x4096, .f32⟩
  | .hbm, ⟨11, _⟩ => ⟨S4096, .f32⟩
  | .hbm, ⟨12, _⟩ => ⟨S1x1x4096, .f32⟩
  | .hbm, ⟨13, _⟩ => ⟨S1x4096x4096, .f32⟩
  | .hbm, ⟨14, _⟩ => ⟨S1x4096x4096, .f32⟩
  | .hbm, ⟨15, _⟩ => ⟨S1x4096x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S1x4096x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S1x4096x4096, .f32⟩
  | .hbm, ⟨27, _⟩ => ⟨S1x4096x4096, .f32⟩
  | .hbm, ⟨28, _⟩ => ⟨S1x4096x4096, .f32⟩
  | .hbm, ⟨29, _⟩ => ⟨S1x4096x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S1x4096x4096, .f32⟩
  | .hbm, ⟨34, _⟩ => ⟨S1x4096x4096, .f32⟩
  | .hbm, ⟨35, _⟩ => ⟨S1x4096x4096, .f32⟩
  | .hbm, ⟨36, _⟩ => ⟨S1x1x4096, .f32⟩
  | .hbm, ⟨37, _⟩ => ⟨S1x4096x4096, .f32⟩
  | .hbm, ⟨38, _⟩ => ⟨S1x4096x4096, .f32⟩
  | .hbm, ⟨39, _⟩ => ⟨S1x4096x4096, .f32⟩
  | .hbm, ⟨40, _⟩ => ⟨S1x4096x4096, .f32⟩
  | .hbm, ⟨41, _⟩ => ⟨S_, .f32⟩
  | .hbm, ⟨42, _⟩ => ⟨S1x4096x4096, .f32⟩
  | .hbm, ⟨43, _⟩ => ⟨S1x4096x4096, .f32⟩
  | .hbm, ⟨44, _⟩ => ⟨S_, .f32⟩
  | .hbm, ⟨45, _⟩ => ⟨S1x4096x4096, .f32⟩
  | .hbm, ⟨46, _⟩ => ⟨S1x4096x4096, .f32⟩
  | .hbm, ⟨47, _⟩ => ⟨S1x4096x4096, .f32⟩
  | .hbm, ⟨48, _⟩ => ⟨S4096x4096, .f32⟩
  | .hbm, ⟨49, _⟩ => ⟨S4096x4096, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== ShortConvFwd.lean ====
abbrev S4096x12288 : Shape := ⟨2, ![4096, 12288]⟩
abbrev S3x2048 : Shape := ⟨2, ![3, 2048]⟩
abbrev S4096x4096 : Shape := ⟨2, ![4096, 4096]⟩
abbrev S4096x128 : Shape := ⟨2, ![4096, 128]⟩
abbrev S3x128 : Shape := ⟨2, ![3, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S4096x12288, .bf16⟩
  | .hbm, ⟨1, _⟩ => ⟨S3x2048, .f32⟩
  | .hbm, ⟨2, _⟩ => ⟨S4096x4096, .bf16⟩
  | .hbm, ⟨3, _⟩ => ⟨S4096x4096, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShortConvFwdRefIdeal.lean ====
abbrev S4096x12288 : Shape := ⟨2, ![4096, 12288]⟩
abbrev S3x2048 : Shape := ⟨2, ![3, 2048]⟩
abbrev S4096x4096 : Shape := ⟨2, ![4096, 4096]⟩
abbrev S4096x2048 : Shape := ⟨2, ![4096, 2048]⟩
abbrev S1x4096x2048 : Shape := ⟨3, ![1, 4096, 2048]⟩
abbrev S_ : Shape := ⟨0, ![]⟩
abbrev S1x2x2048 : Shape := ⟨3, ![1, 2, 2048]⟩
abbrev S1x4098x2048 : Shape := ⟨3, ![1, 4098, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S3x2048, .f32⟩
  | .hbm, ⟨2, _⟩ => ⟨S4096x4096, .bf16⟩
  | .hbm, ⟨3, _⟩ => ⟨S4096x2048, .bf16⟩
  | .hbm, ⟨4, _⟩ => ⟨S1x4096x2048, .bf16⟩
  | .hbm, ⟨5, _⟩ => ⟨S1x4096x2048, .f32⟩
  | .hbm, ⟨6, _⟩ => ⟨S4096x2048, .bf16⟩
  | .hbm, ⟨7, _⟩ => ⟨S1x4096x2048, .bf16⟩
  | .hbm, ⟨8, _⟩ => ⟨S1x4096x2048, .f32⟩
  | .hbm, ⟨9, _⟩ => ⟨S4096x2048, .bf16⟩
  | .hbm, ⟨10, _⟩ => ⟨S1x4096x2048, .bf16⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x2x2048, .f32⟩
  | .hbm, ⟨15, _⟩ => ⟨S1x4098x2048, .f32⟩
  | .hbm, ⟨16, _⟩ => ⟨S1x4096x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S1x4096x2048, .f32⟩
  | .hbm, ⟨21, _⟩ => ⟨S1x4096x2048, .f32⟩
  | .hbm, ⟨22, _⟩ => ⟨S1x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S1x4096x2048, .f32⟩
  | .hbm, ⟨29, _⟩ => ⟨S1x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S1x4096x2048, .f32⟩
  | .hbm, ⟨34, _⟩ => ⟨S1x4096x2048, .f32⟩
  | .hbm, ⟨35, _⟩ => ⟨S1x4096x2048, .f32⟩
  | .hbm, ⟨36, _⟩ => ⟨S1x4096x2048, .f32⟩
  | .hbm, ⟨37, _⟩ => ⟨S4096x2048, .f32⟩
  | .hbm, ⟨38, _⟩ => ⟨S4096x2048, .bf16⟩
  | .hbm, ⟨39, _⟩ => ⟨S_, .i32⟩
  | .hbm, ⟨40, _⟩ => ⟨S_, .i32⟩
  | .hbm, ⟨41, _⟩ => ⟨S4096x4096, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c : Ref sig .tc := ⟨.hbm, 39, rfl⟩
abbrev main_c_0 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== ConvGradX.lean ====
abbrev S4096x12288 : Shape := ⟨2, ![4096, 12288]⟩
abbrev S4096x2048 : Shape := ⟨2, ![4096, 2048]⟩
abbrev S4x4096 : Shape := ⟨2, ![4, 4096]⟩
abbrev S1x4096 : Shape := ⟨2, ![1, 4096]⟩
abbrev S4x2048 : Shape := ⟨2, ![4, 2048]⟩
abbrev S1x2048 : Shape := ⟨2, ![1, 2048]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S4x4096, .f32⟩
  | .hbm, ⟨3, _⟩ => ⟨S1x4096, .f32⟩
  | .hbm, ⟨4, _⟩ => ⟨S4096x12288, .bf16⟩
  | .hbm, ⟨5, _⟩ => ⟨S4096x12288, .bf16⟩
  | .hbm, ⟨6, _⟩ => ⟨S4x2048, .f32⟩
  | .hbm, ⟨7, _⟩ => ⟨S1x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGradXIdeal.lean ====
abbrev S4096x12288 : Shape := ⟨2, ![4096, 12288]⟩
abbrev S4096x2048 : Shape := ⟨2, ![4096, 2048]⟩
abbrev S4x4096 : Shape := ⟨2, ![4, 4096]⟩
abbrev S1x4096 : Shape := ⟨2, ![1, 4096]⟩
abbrev S4x2048 : Shape := ⟨2, ![4, 2048]⟩
abbrev S1x2048 : Shape := ⟨2, ![1, 2048]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S4x4096, .f32⟩
  | .hbm, ⟨3, _⟩ => ⟨S1x4096, .f32⟩
  | .hbm, ⟨4, _⟩ => ⟨S4096x12288, .bf16⟩
  | .hbm, ⟨5, _⟩ => ⟨S4096x12288, .bf16⟩
  | .hbm, ⟨6, _⟩ => ⟨S4x2048, .f32⟩
  | .hbm, ⟨7, _⟩ => ⟨S1x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGradXRefIdeal.lean ====
abbrev S4096x12288 : Shape := ⟨2, ![4096, 12288]⟩
abbrev S4096x2048 : Shape := ⟨2, ![4096, 2048]⟩
abbrev S4x4096 : Shape := ⟨2, ![4, 4096]⟩
abbrev S1x4096 : Shape := ⟨2, ![1, 4096]⟩
abbrev S1x4096x2048 : Shape := ⟨3, ![1, 4096, 2048]⟩
abbrev S4x2048 : Shape := ⟨2, ![4, 2048]⟩
abbrev S1x2048 : Shape := ⟨2, ![1, 2048]⟩
abbrev S_ : Shape := ⟨0, ![]⟩
abbrev S1x3x2048 : Shape := ⟨3, ![1, 3, 2048]⟩
abbrev S1x4099x2048 : Shape := ⟨3, ![1, 4099, 2048]⟩
abbrev S2048 : Shape := ⟨1, ![2048]⟩
abbrev S1x1x2048 : Shape := ⟨3, ![1, 1, 2048]⟩

abbrev nBuf : Space → Nat
  | .hbm => 135
  | .vmem => 0
  | .smem => 0
  | _ => 0

abbrev hbmTy0_0 (i : Nat) : BufTy := match i % 128 with
  | 0 => ⟨S4096x12288, .bf16⟩
  | 1 => ⟨S4096x2048, .bf16⟩
  | 2 => ⟨S4x4096, .f32⟩
  | 3 => ⟨S1x4096, .f32⟩
  | 4 => ⟨S4096x12288, .bf16⟩
  | 5 => ⟨S4096x2048, .bf16⟩
  | 6 => ⟨S1x4096x2048, .bf16⟩
  | 7 => ⟨S1x4096x2048, .f32⟩
  | 8 => ⟨S4x2048, .f32⟩
  | 9 => ⟨S1x2048, .f32⟩
  | 10 => ⟨S_, .f32⟩
  | 11 => ⟨S1x3x2048, .f32⟩
  | 12 => ⟨S1x4099x2048, .f32⟩
  | 13 => ⟨S_, .f32⟩
  | 14 => ⟨S1x3x2048, .f32⟩
  | 15 => ⟨S1x4096x2048, .f32⟩
  | 16 => ⟨S1x2048, .f32⟩
  | 17 => ⟨S2048, .f32⟩
  | 18 => ⟨S1x1x2048, .f32⟩
  | 19 => ⟨S1x4096x2048, .f32⟩
  | 20 => ⟨S1x4096x2048, .f32⟩
  | 21 => ⟨S1x4096x2048, .f32⟩
  | 22 => ⟨S1x2048, .f32⟩
  | 23 => ⟨S2048, .f32⟩
  | 24 => ⟨S1x1x2048, .f32⟩
  | 25 => ⟨S1x4096x2048, .f32⟩
  | 26 => ⟨S1x4096x2048, .f32⟩
  | 27 => ⟨S1x4096x2048, .f32⟩
  | 28 => ⟨S1x4096x2048, .f32⟩
  | 29 => ⟨S1x2048, .f32⟩
  | 30 => ⟨S2048, .f32⟩
  | 31 => ⟨S1x1x2048, .f32⟩
  | 32 => ⟨S1x4096x2048, .f32⟩
  | 33 => ⟨S1x4096x2048, .f32⟩
  | 34 => ⟨S1x4096x2048, .f32⟩
  | 35 => ⟨S1x4096x2048, .f32⟩
  | 36 => ⟨S1x2048, .f32⟩
  | 37 => ⟨S2048, .f32⟩
  | 38 => ⟨S1x1x2048, .f32⟩
  | 39 => ⟨S1x4096x2048, .f32⟩
  | 40 => ⟨S1x4096x2048, .f32⟩
  | 41 => ⟨S1x4096x2048, .f32⟩
  | 42 => ⟨S1x1x2048, .f32⟩
  | 43 => ⟨S1x4096x2048, .f32⟩
  | 44 => ⟨S1x4096x2048, .f32⟩
  | 45 => ⟨S1x4096x2048, .f32⟩
  | 46 => ⟨S1x4096x2048, .f32⟩
  | 47 => ⟨S_, .f32⟩
  | 48 => ⟨S1x4096x2048, .f32⟩
  | 49 => ⟨S1x4096x2048, .f32⟩
  | 50 => ⟨S_, .f32⟩
  | 51 => ⟨S1x4096x2048, .f32⟩
  | 52 => ⟨S1x4096x2048, .f32⟩
  | 53 => ⟨S_, .f32⟩
  | 54 => ⟨S1x4096x2048, .f32⟩
  | 55 => ⟨S1x4096x2048, .f32⟩
  | 56 => ⟨S1x4096x2048, .f32⟩
  | 57 => ⟨S1x4096x2048, .f32⟩
  | 58 => ⟨S1x4096x2048, .bf16⟩
  | 59 => ⟨S1x4096x2048, .f32⟩
  | 60 => ⟨S1x4096x2048, .f32⟩
  | 61 => ⟨S1x4096x2048, .f32⟩
  | 62 => ⟨S1x4096x2048, .f32⟩
  | 63 => ⟨S1x4096x2048, .f32⟩
  | 64 => ⟨S_, .f32⟩
  | 65 => ⟨S1x2048, .f32⟩
  | 66 => ⟨S1x1x2048, .f32⟩
  | 67 => ⟨S_, .f32⟩
  | 68 => ⟨S2048, .f32⟩
  | 69 => ⟨S1x2048, .f32⟩
  | 70 => ⟨S1x4096x2048, .f32⟩
  | 71 => ⟨S_, .f32⟩
  | 72 => ⟨S1x2048, .f32⟩
  | 73 => ⟨S1x1x2048, .f32⟩
  | 74 => ⟨S1x4096x2048, .f32⟩
  | 75 => ⟨S1x4096x2048, .f32⟩
  | 76 => ⟨S_, .f32⟩
  | 77 => ⟨S2048, .f32⟩
  | 78 => ⟨S1x2048, .f32⟩
  | 79 => ⟨S_, .f32⟩
  | 80 => ⟨S4x2048, .f32⟩
  | 81 => ⟨S_, .f32⟩
  | 82 => ⟨S1x4099x2048, .f32⟩
  | 83 => ⟨S1x4096x2048, .f32⟩
  | 84 => ⟨S_, .f32⟩
  | 85 => ⟨S1x2048, .f32⟩
  | 86 => ⟨S1x1x2048, .f32⟩
  | 87 => ⟨S1x4096x2048, .f32⟩
  | 88 => ⟨S1x4096x2048, .f32⟩
  | 89 => ⟨S_, .f32⟩
  | 90 => ⟨S2048, .f32⟩
  | 91 => ⟨S1x2048, .f32⟩
  | 92 => ⟨S_, .f32⟩
  | 93 => ⟨S4x2048, .f32⟩
  | 94 => ⟨S4x2048, .f32⟩
  | 95 => ⟨S_, .f32⟩
  | 96 => ⟨S1x4099x2048, .f32⟩
  | 97 => ⟨S1x4099x2048, .f32⟩
  | 98 => ⟨S1x4096x2048, .f32⟩
  | 99 => ⟨S_, .f32⟩
  | 100 => ⟨S1x2048, .f32⟩
  | 101 => ⟨S1x1x2048, .f32⟩
  | 102 => ⟨S1x4096x2048, .f32⟩
  | 103 => ⟨S1x4096x2048, .f32⟩
  | 104 => ⟨S_, .f32⟩
  | 105 => ⟨S2048, .f32⟩
  | 106 => ⟨S1x2048, .f32⟩
  | 107 => ⟨S_, .f32⟩
  | 108 => ⟨S4x2048, .f32⟩
  | 109 => ⟨S4x2048, .f32⟩
  | 110 => ⟨S_, .f32⟩
  | 111 => ⟨S1x4099x2048, .f32⟩
  | 112 => ⟨S1x4099x2048, .f32⟩
  | 113 => ⟨S1x4096x2048, .f32⟩
  | 114 => ⟨S_, .f32⟩
  | 115 => ⟨S1x2048, .f32⟩
  | 116 => ⟨S1x1x2048, .f32⟩
  | 117 => ⟨S1x4096x2048, .f32⟩
  | 118 => ⟨S1x4096x2048, .f32⟩
  | 119 => ⟨S_, .f32⟩
  | 120 => ⟨S2048, .f32⟩
  | 121 => ⟨S1x2048, .f32⟩
  | 122 => ⟨S_, .f32⟩
  | 123 => ⟨S4x2048, .f32⟩
  | 124 => ⟨S4x2048, .f32⟩
  | 125 => ⟨S_, .f32⟩
  | 126 => ⟨S1x4099x2048, .f32⟩
  | 127 => ⟨S1x4099x2048, .f32⟩
  | _ => ⟨S4096x12288, .bf16⟩

abbrev hbmTy0_1 (i : Nat) : BufTy := match i % 128 with
  | 0 => ⟨S1x3x2048, .f32⟩
  | 1 => ⟨S1x4096x2048, .f32⟩
  | 2 => ⟨S4096x2048, .f32⟩
  | 3 => ⟨S4096x2048, .bf16⟩
  | 4 => ⟨S_, .i32⟩
  | 5 => ⟨S_, .i32⟩
  | 6 => ⟨S4096x12288, .bf16⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v38_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v38_1 : Ref sig .tc := ⟨.hbm, 56, rfl⟩
abbrev main_v38_0 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c : Ref sig .tc := ⟨.hbm, 132, rfl⟩
abbrev main_c_19 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== ConvGradB.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S4x1024 : Shape := ⟨2, ![4, 1024]⟩
abbrev S1x1024 : Shape := ⟨2, ![1, 1024]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S4x4096, .f32⟩
  | .hbm, ⟨3, _⟩ => ⟨S1x4096, .f32⟩
  | .hbm, ⟨4, _⟩ => ⟨S4096x12288, .bf16⟩
  | .hbm, ⟨5, _⟩ => ⟨S4096x12288, .bf16⟩
  | .hbm, ⟨6, _⟩ => ⟨S4x1024, .f32⟩
  | .hbm, ⟨7, _⟩ => ⟨S1x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGradBIdeal.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S4x1024 : Shape := ⟨2, ![4, 1024]⟩
abbrev S1x1024 : Shape := ⟨2, ![1, 1024]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S4x4096, .f32⟩
  | .hbm, ⟨3, _⟩ => ⟨S1x4096, .f32⟩
  | .hbm, ⟨4, _⟩ => ⟨S4096x12288, .bf16⟩
  | .hbm, ⟨5, _⟩ => ⟨S4096x12288, .bf16⟩
  | .hbm, ⟨6, _⟩ => ⟨S4x1024, .f32⟩
  | .hbm, ⟨7, _⟩ => ⟨S1x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGradBRefIdeal.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S1x4096x1024 : Shape := ⟨3, ![1, 4096, 1024]⟩
abbrev S4x1024 : Shape := ⟨2, ![4, 1024]⟩
abbrev S1x1024 : Shape := ⟨2, ![1, 1024]⟩
abbrev S_ : Shape := ⟨0, ![]⟩
abbrev S1x3x1024 : Shape := ⟨3, ![1, 3, 1024]⟩
abbrev S1x4099x1024 : Shape := ⟨3, ![1, 4099, 1024]⟩
abbrev S1024 : Shape := ⟨1, ![1024]⟩
abbrev S1x1x1024 : Shape := ⟨3, ![1, 1, 1024]⟩

abbrev nBuf : Space → Nat
  | .hbm => 135
  | .vmem => 0
  | .smem => 0
  | _ => 0

abbrev hbmTy0_0 (i : Nat) : BufTy := match i % 128 with
  | 0 => ⟨S4096x12288, .bf16⟩
  | 1 => ⟨S4096x1024, .bf16⟩
  | 2 => ⟨S4x4096, .f32⟩
  | 3 => ⟨S1x4096, .f32⟩
  | 4 => ⟨S4096x12288, .bf16⟩
  | 5 => ⟨S4096x1024, .bf16⟩
  | 6 => ⟨S1x4096x1024, .bf16⟩
  | 7 => ⟨S1x4096x1024, .f32⟩
  | 8 => ⟨S4x1024, .f32⟩
  | 9 => ⟨S1x1024, .f32⟩
  | 10 => ⟨S_, .f32⟩
  | 11 => ⟨S1x3x1024, .f32⟩
  | 12 => ⟨S1x4099x1024, .f32⟩
  | 13 => ⟨S_, .f32⟩
  | 14 => ⟨S1x3x1024, .f32⟩
  | 15 => ⟨S1x4096x1024, .f32⟩
  | 16 => ⟨S1x1024, .f32⟩
  | 17 => ⟨S1024, .f32⟩
  | 18 => ⟨S1x1x1024, .f32⟩
  | 19 => ⟨S1x4096x1024, .f32⟩
  | 20 => ⟨S1x4096x1024, .f32⟩
  | 21 => ⟨S1x4096x1024, .f32⟩
  | 22 => ⟨S1x1024, .f32⟩
  | 23 => ⟨S1024, .f32⟩
  | 24 => ⟨S1x1x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x1024, .f32⟩
  | 30 => ⟨S1024, .f32⟩
  | 31 => ⟨S1x1x1024, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x1024, .f32⟩
  | 37 => ⟨S1024, .f32⟩
  | 38 => ⟨S1x1x1024, .f32⟩
  | 39 => ⟨S1x4096x1024, .f32⟩
  | 40 => ⟨S1x4096x1024, .f32⟩
  | 41 => ⟨S1x4096x1024, .f32⟩
  | 42 => ⟨S1x1x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .bf16⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S_, .f32⟩
  | 65 => ⟨S1x1024, .f32⟩
  | 66 => ⟨S1x1x1024, .f32⟩
  | 67 => ⟨S_, .f32⟩
  | 68 => ⟨S1024, .f32⟩
  | 69 => ⟨S1x1024, .f32⟩
  | 70 => ⟨S1x4096x1024, .f32⟩
  | 71 => ⟨S_, .f32⟩
  | 72 => ⟨S1x1024, .f32⟩
  | 73 => ⟨S1x1x1024, .f32⟩
  | 74 => ⟨S1x4096x1024, .f32⟩
  | 75 => ⟨S1x4096x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S_, .f32⟩
  | 82 => ⟨S1x4099x1024, .f32⟩
  | 83 => ⟨S1x4096x1024, .f32⟩
  | 84 => ⟨S_, .f32⟩
  | 85 => ⟨S1x1024, .f32⟩
  | 86 => ⟨S1x1x1024, .f32⟩
  | 87 => ⟨S1x4096x1024, .f32⟩
  | 88 => ⟨S1x4096x1024, .f32⟩
  | 89 => ⟨S_, .f32⟩
  | 90 => ⟨S1024, .f32⟩
  | 91 => ⟨S1x1024, .f32⟩
  | 92 => ⟨S_, .f32⟩
  | 93 => ⟨S4x1024, .f32⟩
  | 94 => ⟨S4x1024, .f32⟩
  | 95 => ⟨S_, .f32⟩
  | 96 => ⟨S1x4099x1024, .f32⟩
  | 97 => ⟨S1x4099x1024, .f32⟩
  | 98 => ⟨S1x4096x1024, .f32⟩
  | 99 => ⟨S_, .f32⟩
  | 100 => ⟨S1x1024, .f32⟩
  | 101 => ⟨S1x1x1024, .f32⟩
  | 102 => ⟨S1x4096x1024, .f32⟩
  | 103 => ⟨S1x4096x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S1x4099x1024, .f32⟩
  | 112 => ⟨S1x4099x1024, .f32⟩
  | 113 => ⟨S1x4096x1024, .f32⟩
  | 114 => ⟨S_, .f32⟩
  | 115 => ⟨S1x1024, .f32⟩
  | 116 => ⟨S1x1x1024, .f32⟩
  | 117 => ⟨S1x4096x1024, .f32⟩
  | 118 => ⟨S1x4096x1024, .f32⟩
  | 119 => ⟨S_, .f32⟩
  | 120 => ⟨S1024, .f32⟩
  | 121 => ⟨S1x1024, .f32⟩
  | 122 => ⟨S_, .f32⟩
  | 123 => ⟨S4x1024, .f32⟩
  | 124 => ⟨S4x1024, .f32⟩
  | 125 => ⟨S_, .f32⟩
  | 126 => ⟨S1x4099x1024, .f32⟩
  | 127 => ⟨S1x4099x1024, .f32⟩
  | _ => ⟨S4096x12288, .bf16⟩

abbrev hbmTy0_1 (i : Nat) : BufTy := match i % 128 with
  | 0 => ⟨S1x3x1024, .f32⟩
  | 1 => ⟨S1x4096x1024, .f32⟩
  | 2 => ⟨S4096x1024, .f32⟩
  | 3 => ⟨S4096x1024, .bf16⟩
  | 4 => ⟨S_, .i32⟩
  | 5 => ⟨S_, .i32⟩
  | 6 => ⟨S4096x12288, .bf16⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v38_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v38_1 : Ref sig .tc := ⟨.hbm, 56, rfl⟩
abbrev main_v38_0 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c : Ref sig .tc := ⟨.hbm, 132, rfl⟩
abbrev main_c_19 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== ConvGradC.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S4x1024 : Shape := ⟨2, ![4, 1024]⟩
abbrev S1x1024 : Shape := ⟨2, ![1, 1024]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S4x4096, .f32⟩
  | .hbm, ⟨3, _⟩ => ⟨S1x4096, .f32⟩
  | .hbm, ⟨4, _⟩ => ⟨S4096x12288, .bf16⟩
  | .hbm, ⟨5, _⟩ => ⟨S4096x12288, .bf16⟩
  | .hbm, ⟨6, _⟩ => ⟨S4x1024, .f32⟩
  | .hbm, ⟨7, _⟩ => ⟨S1x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGradCRefIdeal.lean ====
abbrev S4096x12288 : Shape := ⟨2, ![4096, 12288]⟩
abbrev S4096x1024 : Shape := ⟨2, ![4096, 1024]⟩
abbrev S4x4096 : Shape := ⟨2, ![4, 4096]⟩
abbrev S1x4096 : Shape := ⟨2, ![1, 4096]⟩
abbrev S1x4096x1024 : Shape := ⟨3, ![1, 4096, 1024]⟩
abbrev S4x1024 : Shape := ⟨2, ![4, 1024]⟩
abbrev S1x1024 : Shape := ⟨2, ![1, 1024]⟩
abbrev S_ : Shape := ⟨0, ![]⟩
abbrev S1x3x1024 : Shape := ⟨3, ![1, 3, 1024]⟩
abbrev S1x4099x1024 : Shape := ⟨3, ![1, 4099, 1024]⟩
abbrev S1024 : Shape := ⟨1, ![1024]⟩
abbrev S1x1x1024 : Shape := ⟨3, ![1, 1, 1024]⟩

abbrev nBuf : Space → Nat
  | .hbm => 135
  | .vmem => 0
  | .smem => 0
  | _ => 0

abbrev hbmTy0_0 (i : Nat) : BufTy := match i % 128 with
  | 0 => ⟨S4096x12288, .bf16⟩
  | 1 => ⟨S4096x1024, .bf16⟩
  | 2 => ⟨S4x4096, .f32⟩
  | 3 => ⟨S1x4096, .f32⟩
  | 4 => ⟨S4096x12288, .bf16⟩
  | 5 => ⟨S4096x1024, .bf16⟩
  | 6 => ⟨S1x4096x1024, .bf16⟩
  | 7 => ⟨S1x4096x1024, .f32⟩
  | 8 => ⟨S4x1024, .f32⟩
  | 9 => ⟨S1x1024, .f32⟩
  | 10 => ⟨S_, .f32⟩
  | 11 => ⟨S1x3x1024, .f32⟩
  | 12 => ⟨S1x4099x1024, .f32⟩
  | 13 => ⟨S_, .f32⟩
  | 14 => ⟨S1x3x1024, .f32⟩
  | 15 => ⟨S1x4096x1024, .f32⟩
  | 16 => ⟨S1x1024, .f32⟩
  | 17 => ⟨S1024, .f32⟩
  | 18 => ⟨S1x1x1024, .f32⟩
  | 19 => ⟨S1x4096x1024, .f32⟩
  | 20 => ⟨S1x4096x1024, .f32⟩
  | 21 => ⟨S1x4096x1024, .f32⟩
  | 22 => ⟨S1x1024, .f32⟩
  | 23 => ⟨S1024, .f32⟩
  | 24 => ⟨S1x1x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x1024, .f32⟩
  | 30 => ⟨S1024, .f32⟩
  | 31 => ⟨S1x1x1024, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x1024, .f32⟩
  | 37 => ⟨S1024, .f32⟩
  | 38 => ⟨S1x1x1024, .f32⟩
  | 39 => ⟨S1x4096x1024, .f32⟩
  | 40 => ⟨S1x4096x1024, .f32⟩
  | 41 => ⟨S1x4096x1024, .f32⟩
  | 42 => ⟨S1x1x1024, .f32⟩
  | 43 => ⟨S1x4096x1024, .f32⟩
  | 44 => ⟨S1x4096x1024, .f32⟩
  | 45 => ⟨S1x4096x1024, .f32⟩
  | 46 => ⟨S1x4096x1024, .f32⟩
  | 47 => ⟨S_, .f32⟩
  | 48 => ⟨S1x4096x1024, .f32⟩
  | 49 => ⟨S1x4096x1024, .f32⟩
  | 50 => ⟨S_, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .bf16⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S_, .f32⟩
  | 65 => ⟨S1x1024, .f32⟩
  | 66 => ⟨S1x1x1024, .f32⟩
  | 67 => ⟨S_, .f32⟩
  | 68 => ⟨S1024, .f32⟩
  | 69 => ⟨S1x1024, .f32⟩
  | 70 => ⟨S1x4096x1024, .f32⟩
  | 71 => ⟨S_, .f32⟩
  | 72 => ⟨S1x1024, .f32⟩
  | 73 => ⟨S1x1x1024, .f32⟩
  | 74 => ⟨S1x4096x1024, .f32⟩
  | 75 => ⟨S1x4096x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S_, .f32⟩
  | 82 => ⟨S1x4099x1024, .f32⟩
  | 83 => ⟨S1x4096x1024, .f32⟩
  | 84 => ⟨S_, .f32⟩
  | 85 => ⟨S1x1024, .f32⟩
  | 86 => ⟨S1x1x1024, .f32⟩
  | 87 => ⟨S1x4096x1024, .f32⟩
  | 88 => ⟨S1x4096x1024, .f32⟩
  | 89 => ⟨S_, .f32⟩
  | 90 => ⟨S1024, .f32⟩
  | 91 => ⟨S1x1024, .f32⟩
  | 92 => ⟨S_, .f32⟩
  | 93 => ⟨S4x1024, .f32⟩
  | 94 => ⟨S4x1024, .f32⟩
  | 95 => ⟨S_, .f32⟩
  | 96 => ⟨S1x4099x1024, .f32⟩
  | 97 => ⟨S1x4099x1024, .f32⟩
  | 98 => ⟨S1x4096x1024, .f32⟩
  | 99 => ⟨S_, .f32⟩
  | 100 => ⟨S1x1024, .f32⟩
  | 101 => ⟨S1x1x1024, .f32⟩
  | 102 => ⟨S1x4096x1024, .f32⟩
  | 103 => ⟨S1x4096x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S1x4099x1024, .f32⟩
  | 112 => ⟨S1x4099x1024, .f32⟩
  | 113 => ⟨S1x4096x1024, .f32⟩
  | 114 => ⟨S_, .f32⟩
  | 115 => ⟨S1x1024, .f32⟩
  | 116 => ⟨S1x1x1024, .f32⟩
  | 117 => ⟨S1x4096x1024, .f32⟩
  | 118 => ⟨S1x4096x1024, .f32⟩
  | 119 => ⟨S_, .f32⟩
  | 120 => ⟨S1024, .f32⟩
  | 121 => ⟨S1x1024, .f32⟩
  | 122 => ⟨S_, .f32⟩
  | 123 => ⟨S4x1024, .f32⟩
  | 124 => ⟨S4x1024, .f32⟩
  | 125 => ⟨S_, .f32⟩
  | 126 => ⟨S1x4099x1024, .f32⟩
  | 127 => ⟨S1x4099x1024, .f32⟩
  | _ => ⟨S4096x12288, .bf16⟩

abbrev hbmTy0_1 (i : Nat) : BufTy := match i % 128 with
  | 0 => ⟨S1x3x1024, .f32⟩
  | 1 => ⟨S1x4096x1024, .f32⟩
  | 2 => ⟨S4096x1024, .f32⟩
  | 3 => ⟨S4096x1024, .bf16⟩
  | 4 => ⟨S_, .i32⟩
  | 5 => ⟨S_, .i32⟩
  | 6 => ⟨S4096x12288, .bf16⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v38_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v38_1 : Ref sig .tc := ⟨.hbm, 56, rfl⟩
abbrev main_v38_0 : Ref sig .tc := ⟨.hbm, 57, rfl⟩
abbrev main_v39 : Ref sig .tc := ⟨.hbm, 58, rfl⟩
abbrev main_v40 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_cst_17 : Ref sig .tc := ⟨.hbm, 122, rfl⟩
abbrev main_v84 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c : Ref sig .tc := ⟨.hbm, 132, rfl⟩
abbrev main_c_19 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== AdamIn.lean ====
abbrev S4x1568x2048 : Shape := ⟨3, ![4, 1568, 2048]⟩
abbrev S1568x2048 : Shape := ⟨2, ![1568, 2048]⟩
abbrev S4x112x2048 : Shape := ⟨3, ![4, 112, 2048]⟩
abbrev S112x2048 : Shape := ⟨2, ![112, 2048]⟩
abbrev S1x112x2048 : Shape := ⟨3, ![1, 112, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1568x2048, .bf16⟩
  | .hbm, ⟨1, _⟩ => ⟨S1568x2048, .f32⟩
  | .hbm, ⟨2, _⟩ => ⟨S1568x2048, .f32⟩
  | .hbm, ⟨3, _⟩ => ⟨S1568x2048, .f32⟩
  | .hbm, ⟨4, _⟩ => ⟨S1568x2048, .f32⟩
  | .hbm, ⟨5, _⟩ => ⟨S1568x2048, .f32⟩
  | .hbm, ⟨6, _⟩ => ⟨S1568x2048, .f32⟩
  | .hbm, ⟨7, _⟩ => ⟨S1568x2048, .f32⟩
  | .local _ .vmem, ⟨0, _⟩ => ⟨S4x112x2048, .bf16⟩
  | .local _ .vmem, ⟨1, _⟩ => ⟨S4x112x2048, .bf16⟩
  | .local _ .vmem, ⟨2, _⟩ => ⟨S112x2048, .f32⟩
  | .local _ .vmem, ⟨3, _⟩ => ⟨S112x2048, .f32⟩
  | .local _ .vmem, ⟨4, _⟩ => ⟨S112x2048, .f32⟩
  | .local _ .vmem, ⟨5, _⟩ => ⟨S112x2048, .f32⟩
  | .local _ .vmem, ⟨6, _⟩ => ⟨S112x2048, .f32⟩
  | .local _ .vmem, ⟨7, _⟩ => ⟨S112x2048, .f32⟩
  | .local _ .vmem, ⟨8, _⟩ => ⟨S112x2048, .f32⟩
  | .local _ .vmem, ⟨9, _⟩ => ⟨S112x2048, .f32⟩
  | .local _ .vmem, ⟨10, _⟩ => ⟨S112x2048, .f32⟩
  | .local _ .vmem, ⟨11, _⟩ => ⟨S112x2048, .f32⟩
  | .local _ .vmem, ⟨12, _⟩ => ⟨S112x2048, .f32⟩
  | .local _ .vmem, ⟨13, _⟩ => ⟨S112x2048, .f32⟩
  | .local _ .vmem, ⟨14, _⟩ => ⟨S112x2048, .f32⟩
  | .local _ .vmem, ⟨15, _⟩ => ⟨S112x2048, .f32⟩
  | _, _ => ⟨S4x1568x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x1568x2048 : Shape := ⟨3, ![4, 1568, 2048]⟩
abbrev S1568x2048 : Shape := ⟨2, ![1568, 2048]⟩
abbrev S4x112x2048 : Shape := ⟨3, ![4, 112, 2048]⟩
abbrev S112x2048 : Shape := ⟨2, ![112, 2048]⟩
abbrev S1x112x2048 : Shape := ⟨3, ![1, 112, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1568x2048, .bf16⟩
  | .hbm, ⟨1, _⟩ => ⟨S1568x2048, .f32⟩
  | .hbm, ⟨2, _⟩ => ⟨S1568x2048, .f32⟩
  | .hbm, ⟨3, _⟩ => ⟨S1568x2048, .f32⟩
  | .hbm, ⟨4, _⟩ => ⟨S1568x2048, .f32⟩
  | .hbm, ⟨5, _⟩ => ⟨S1568x2048, .f32⟩
  | .hbm, ⟨6, _⟩ => ⟨S1568x2048, .f32⟩
  | .hbm, ⟨7, _⟩ => ⟨S1568x2048, .f32⟩
  | .local _ .vmem, ⟨0, _⟩ => ⟨S4x112x2048, .bf16⟩
  | .local _ .vmem, ⟨1, _⟩ => ⟨S4x112x2048, .bf16⟩
  | .local _ .vmem, ⟨2, _⟩ => ⟨S112x2048, .f32⟩
  | .local _ .vmem, ⟨3, _⟩ => ⟨S112x2048, .f32⟩
  | .local _ .vmem, ⟨4, _⟩ => ⟨S112x2048, .f32⟩
  | .local _ .vmem, ⟨5, _⟩ => ⟨S112x2048, .f32⟩
  | .local _ .vmem, ⟨6, _⟩ => ⟨S112x2048, .f32⟩
  | .local _ .vmem, ⟨7, _⟩ => ⟨S112x2048, .f32⟩
  | .local _ .vmem, ⟨8, _⟩ => ⟨S112x2048, .f32⟩
  | .local _ .vmem, ⟨9, _⟩ => ⟨S112x2048, .f32⟩
  | .local _ .vmem, ⟨10, _⟩ => ⟨S112x2048, .f32⟩
  | .local _ .vmem, ⟨11, _⟩ => ⟨S112x2048, .f32⟩
  | .local _ .vmem, ⟨12, _⟩ => ⟨S112x2048, .f32⟩
  | .local _ .vmem, ⟨13, _⟩ => ⟨S112x2048, .f32⟩
  | .local _ .vmem, ⟨14, _⟩ => ⟨S112x2048, .f32⟩
  | .local _ .vmem, ⟨15, _⟩ => ⟨S112x2048, .f32⟩
  | _, _ => ⟨S4x1568x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x1568x2048 : Shape := ⟨3, ![4, 1568, 2048]⟩
abbrev S1568x2048 : Shape := ⟨2, ![1568, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1568x2048, .bf16⟩
  | .hbm, ⟨1, _⟩ => ⟨S1568x2048, .f32⟩
  | .hbm, ⟨2, _⟩ => ⟨S1568x2048, .f32⟩
  | .hbm, ⟨3, _⟩ => ⟨S1568x2048, .f32⟩
  | .hbm, ⟨4, _⟩ => ⟨S4x1568x2048, .f32⟩
  | .hbm, ⟨5, _⟩ => ⟨S_, .f32⟩
  | .hbm, ⟨6, _⟩ => ⟨S1568x2048, .f32⟩
  | .hbm, ⟨7, _⟩ => ⟨S_, .f32⟩
  | .hbm, ⟨8, _⟩ => ⟨S1568x2048, .f32⟩
  | .hbm, ⟨9, _⟩ => ⟨S1568x2048, .f32⟩
  | .hbm, ⟨10, _⟩ => ⟨S_, .f32⟩
  | .hbm, ⟨11, _⟩ => ⟨S1568x2048, .f32⟩
  | .hbm, ⟨12, _⟩ => ⟨S1568x2048, .f32⟩
  | .hbm, ⟨13, _⟩ => ⟨S1568x2048, .f32⟩
  | .hbm, ⟨14, _⟩ => ⟨S_, .f32⟩
  | .hbm, ⟨15, _⟩ => ⟨S1568x2048, .f32⟩
  | .hbm, ⟨16, _⟩ => ⟨S1568x2048, .f32⟩
  | .hbm, ⟨17, _⟩ => ⟨S1568x2048, .f32⟩
  | .hbm, ⟨18, _⟩ => ⟨S_, .f32⟩
  | .hbm, ⟨19, _⟩ => ⟨S1568x2048, .f32⟩
  | .hbm, ⟨20, _⟩ => ⟨S1568x2048, .f32⟩
  | .hbm, ⟨21, _⟩ => ⟨S1568x2048, .f32⟩
  | .hbm, ⟨22, _⟩ => ⟨S_, .f32⟩
  | .hbm, ⟨23, _⟩ => ⟨S1568x2048, .f32⟩
  | .hbm, ⟨24, _⟩ => ⟨S1568x2048, .f32⟩
  | .hbm, ⟨25, _⟩ => ⟨S_, .f32⟩
  | .hbm, ⟨26, _⟩ => ⟨S1568x2048, .f32⟩
  | .hbm, ⟨27, _⟩ => ⟨S1568x2048, .f32⟩
  | .hbm, ⟨28, _⟩ => ⟨S1568x2048, .f32⟩
  | .hbm, ⟨29, _⟩ => ⟨S_, .f32⟩
  | .hbm, ⟨30, _⟩ => ⟨S1568x2048, .f32⟩
  | .hbm, ⟨31, _⟩ => ⟨S1568x2048, .f32⟩
  | .hbm, ⟨32, _⟩ => ⟨S1568x2048, .f32⟩
  | .hbm, ⟨33, _⟩ => ⟨S_, .f32⟩
  | .hbm, ⟨34, _⟩ => ⟨S1568x2048, .f32⟩
  | .hbm, ⟨35, _⟩ => ⟨S1568x2048, .f32⟩
  | .hbm, ⟨36, _⟩ => ⟨S1568x2048, .f32⟩
  | .hbm, ⟨37, _⟩ => ⟨S_, .f32⟩
  | .hbm, ⟨38, _⟩ => ⟨S1568x2048, .f32⟩
  | .hbm, ⟨39, _⟩ => ⟨S1568x2048, .f32⟩
  | _, _ => ⟨S4x1568x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x512x2048 : Shape := ⟨3, ![4, 512, 2048]⟩
abbrev S512x2048 : Shape := ⟨2, ![512, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S4x512x2048 : Shape := ⟨3, ![4, 512, 2048]⟩
abbrev S512x2048 : Shape := ⟨2, ![512, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x512x2048 : Shape := ⟨3, ![4, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S4x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfn.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S4x704x2048 : Shape := ⟨3, ![4, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x16x4096 : Shape := ⟨3, ![8, 16, 4096]⟩
abbrev S16x4096 : Shape := ⟨2, ![16, 4096]⟩
abbrev S1x16x4096 : Shape := ⟨3, ![1, 16, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8x16x4096, .f32⟩
  | .hbm, ⟨1, _⟩ => ⟨S16x4096, .f32⟩
  | .hbm, ⟨2, _⟩ => ⟨S16x4096, .f32⟩
  | .hbm, ⟨3, _⟩ => ⟨S16x4096, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .local _ .vmem, ⟨0, _⟩ => ⟨S8x16x4096, .f32⟩
  | .local _ .vmem, ⟨1, _⟩ => ⟨S16x4096, .f32⟩
  | .local _ .vmem, ⟨2, _⟩ => ⟨S16x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x16x4096 : Shape := ⟨3, ![8, 16, 4096]⟩
abbrev S16x4096 : Shape := ⟨2, ![16, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S16x4096, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S_, .f32⟩
  | .hbm, ⟨14, _⟩ => ⟨S16x4096, .f32⟩
  | .hbm, ⟨15, _⟩ => ⟨S16x4096, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096, .f32⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .f32⟩
  | .hbm, ⟨35, _⟩ => ⟨S16x4096, .f32⟩
  | .hbm, ⟨36, _⟩ => ⟨S_, .f32⟩
  | .hbm, ⟨37, _⟩ => ⟨S16x4096, .f32⟩
  | .hbm, ⟨38, _⟩ => ⟨S16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== GateNorm.lean ====
abbrev S4096x2048 : Shape := ⟨2, ![4096, 2048]⟩
abbrev S4096x12288 : Shape := ⟨2, ![4096, 12288]⟩
abbrev S1x2048 : Shape := ⟨2, ![1, 2048]⟩
abbrev S4096x4096 : Shape := ⟨2, ![4096, 4096]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x12288, .bf16⟩
  | .hbm, ⟨2, _⟩ => ⟨S1x2048, .f32⟩
  | .hbm, ⟨3, _⟩ => ⟨S4096x4096, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateNormRefIdeal.lean ====
abbrev S4096x2048 : Shape := ⟨2, ![4096, 2048]⟩
abbrev S4096x12288 : Shape := ⟨2, ![4096, 12288]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x12288, .bf16⟩
  | .hbm, ⟨2, _⟩ => ⟨S1x2048, .f32⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== GateNormGrad.lean ====
abbrev S4096x2048 : Shape := ⟨2, ![4096, 2048]⟩
abbrev S4096x12288 : Shape := ⟨2, ![4096, 12288]⟩
abbrev S4096x4096 : Shape := ⟨2, ![4096, 4096]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x12288, .bf16⟩
  | .hbm, ⟨2, _⟩ => ⟨S4096x4096, .bf16⟩
  | .hbm, ⟨3, _⟩ => ⟨S1x2048, .f32⟩
  | .hbm, ⟨4, _⟩ => ⟨S4096x2048, .f32⟩
  | .hbm, ⟨5, _⟩ => ⟨S4096x12288, .bf16⟩
  | .hbm, ⟨6, _⟩ => ⟨S1x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateNormGradRefIdeal.lean ====
abbrev S4096x2048 : Shape := ⟨2, ![4096, 2048]⟩
abbrev S4096x12288 : Shape := ⟨2, ![4096, 12288]⟩
abbrev S4096x4096 : Shape := ⟨2, ![4096, 4096]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x12288, .bf16⟩
  | .hbm, ⟨2, _⟩ => ⟨S4096x4096, .bf16⟩
  | .hbm, ⟨3, _⟩ => ⟨S1x2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== SsdFwd.lean ====
abbrev S4096x4096 : Shape := ⟨2, ![4096, 4096]⟩
abbrev S4096x32 : Shape := ⟨2, ![4096, 32]⟩
abbrev S1x32 : Shape := ⟨2, ![1, 32]⟩
abbrev S128x2048 : Shape := ⟨2, ![128, 2048]⟩
abbrev S_ : Shape := ⟨0, ![]⟩
abbrev S4096x128 : Shape := ⟨2, ![4096, 128]⟩
abbrev S32x4096 : Shape := ⟨2, ![32, 4096]⟩
abbrev S8x4x4096 : Shape := ⟨3, ![8, 4, 4096]⟩
abbrev S1x32x64 : Shape := ⟨3, ![1, 32, 64]⟩
abbrev S1x2048 : Shape := ⟨2, ![1, 2048]⟩
abbrev S4096x2048 : Shape := ⟨2, ![4096, 2048]⟩
abbrev S32x8x128x256 : Shape := ⟨4, ![32, 8, 128, 256]⟩
abbrev S512x1024 : Shape := ⟨2, ![512, 1024]⟩
abbrev S512x512 : Shape := ⟨2, ![512, 512]⟩
abbrev S512x128 : Shape := ⟨2, ![512, 128]⟩
abbrev S4x4x512 : Shape := ⟨3, ![4, 4, 512]⟩
abbrev S128x1024 : Shape := ⟨2, ![128, 1024]⟩
abbrev S1x1024 : Shape := ⟨2, ![1, 1024]⟩
abbrev S4x4x128x256 : Shape := ⟨4, ![4, 4, 128, 256]⟩
abbrev S8x128x256 : Shape := ⟨3, ![8, 128, 256]⟩
abbrev S128x256 : Shape := ⟨2, ![128, 256]⟩
abbrev S1x128x256 : Shape := ⟨3, ![1, 128, 256]⟩
abbrev S1x1x128x256 : Shape := ⟨4, ![1, 1, 128, 256]⟩
abbrev S128x128 : Shape := ⟨2, ![128, 128]⟩
abbrev S1x4x128 : Shape := ⟨3, ![1, 4, 128]⟩
abbrev S4x128 : Shape := ⟨2, ![4, 128]⟩
abbrev S1x256 : Shape := ⟨2, ![1, 256]⟩
abbrev S128x1 : Shape := ⟨2, ![128, 1]⟩
abbrev S1x128 : Shape := ⟨2, ![1, 128]⟩
abbrev S128x512 : Shape := ⟨2, ![128, 512]⟩
abbrev S512x256 : Shape := ⟨2, ![512, 256]⟩

abbrev nBuf : Space → Nat
  | .hbm => 38
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S4096x32, .f32⟩
  | .hbm, ⟨2, _⟩ => ⟨S4096x32, .f32⟩
  | .hbm, ⟨3, _⟩ => ⟨S1x32, .f32⟩
  | .hbm, ⟨4, _⟩ => ⟨S128x2048, .i32⟩
  | .hbm, ⟨5, _⟩ => ⟨S_, .i32⟩
  | .hbm, ⟨6, _⟩ => ⟨S_, .i32⟩
  | .hbm, ⟨7, _⟩ => ⟨S128x2048, .i32⟩
  | .hbm, ⟨8, _⟩ => ⟨S128x2048, .i32⟩
  | .hbm, ⟨9, _⟩ => ⟨S128x2048, .i32⟩
  | .hbm, ⟨10, _⟩ => ⟨S_, .i32⟩
  | .hbm, ⟨11, _⟩ => ⟨S128x2048, .i32⟩
  | .hbm, ⟨12, _⟩ => ⟨S128x2048, .i1⟩
  | .hbm, ⟨13, _⟩ => ⟨S128x2048, .i32⟩
  | .hbm, ⟨14, _⟩ => ⟨S128x2048, .i32⟩
  | .hbm, ⟨15, _⟩ => ⟨S_, .i32⟩
  | .hbm, ⟨16, _⟩ => ⟨S128x2048, .i32⟩
  | .hbm, ⟨17, _⟩ => ⟨S128x2048, .i1⟩
  | .hbm, ⟨18, _⟩ => ⟨S128x2048, .i1⟩
  | .hbm, ⟨19, _⟩ => ⟨S_, .i32⟩
  | .hbm, ⟨20, _⟩ => ⟨S128x2048, .i32⟩
  | .hbm, ⟨21, _⟩ => ⟨S128x2048, .i32⟩
  | .hbm, ⟨22, _⟩ => ⟨S128x2048, .i32⟩
  | .hbm, ⟨23, _⟩ => ⟨S128x2048, .i32⟩
  | .hbm, ⟨24, _⟩ => ⟨S128x2048, .i1⟩
  | .hbm, ⟨25, _⟩ => ⟨S128x2048, .bf16⟩
  | .hbm, ⟨26, _⟩ => ⟨S_, .i32⟩
  | .hbm, ⟨27, _⟩ => ⟨S_, .f32⟩
  | .hbm, ⟨28, _⟩ => ⟨S4096x128, .f32⟩
  | .hbm, ⟨29, _⟩ => ⟨S_, .i32⟩
  | .hbm, ⟨30, _⟩ => ⟨S_, .f32⟩
  | .hbm, ⟨31, _⟩ => ⟨S4096x128, .f32⟩
  | .hbm, ⟨32, _⟩ => ⟨S32x4096, .f32⟩
  | .hbm, ⟨33, _⟩ => ⟨S8x4x4096, .f32⟩
  | .hbm, ⟨34, _⟩ => ⟨S1x32x64, .f32⟩
  | .hbm, ⟨35, _⟩ => ⟨S1x2048, .f32⟩
  | .hbm, ⟨36, _⟩ => ⟨S4096x2048, .f32⟩
  | .hbm, ⟨37, _⟩ => ⟨S32x8x128x256, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x4x512, .f32⟩
  | .local _ .vmem, ⟨11, _⟩ => ⟨S4x4x512, .f32⟩
  | .local _ .vmem, ⟨12, _⟩ => ⟨S128x1024, .bf16⟩
  | .local _ .vmem, ⟨13, _⟩ => ⟨S128x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S4x4x128x256, .f32⟩
  | .local _ .vmem, ⟨19, _⟩ => ⟨S4x4x128x256, .f32⟩
  | .local _ .vmem, ⟨20, _⟩ => ⟨S8x128x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_v5 : Ref sig .tc := ⟨.hbm, 28, rfl⟩
abbrev main_c_1 : Ref sig .tc := ⟨.hbm, 29, rfl⟩
abbrev main_call2_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11_0 : Ref sig .tc := ⟨.hbm, 36, rfl⟩
abbrev main_v11_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32_3 : BitVec 32 := 0#32
  let v8 : BitVec 1 := Scalar.cmpi .eq arg0 c0_i32_3
  let v9 : BitVec 32 := Scalar.extui v8
  let c0_i32_4 : BitVec 32 := 0#32
  let v10 : BitVec 1 := Scalar.cmpi .ne v9 c0_i32_4
  v10

def k0_off1 (i : grid0.Coords) (c0_i32 : BitVec 32) : Fin 3 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2728 : Index := Scalar.indexCast v1
  let c0_843 : Index := 0#32
  let c0_844 : Index := 0#32
  ![v2728.toNat, 0, 0]
def k0_off2 (i : grid0.Coords) (c0_i32 : BitVec 32) : Fin 3 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v11 : Index := Scalar.indexCast v1
  let c0 : Index := 0#32
  let c0_5 : Index := 0#32
  ![v11.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdFwdIdeal.lean ====
variable {F : FTy → Type} [FloatOps F] [Named F]
def κ : String → Option EReal := fun
  | "mask" => some ⊥
  | _ => none
-- ==== SsdBwd.lean ====
abbrev S4096x4096 : Shape := ⟨2, ![4096, 4096]⟩
abbrev S4096x32 : Shape := ⟨2, ![4096, 32]⟩
abbrev S1x32 : Shape := ⟨2, ![1, 32]⟩
abbrev S32x8x128x256 : Shape := ⟨4, ![32, 8, 128, 256]⟩
abbrev S4096x2048 : Shape := ⟨2, ![4096, 2048]⟩
abbrev S128x2048 : Shape := ⟨2, ![128, 2048]⟩
abbrev S_ : Shape := ⟨0, ![]⟩
abbrev S4096x128 : Shape := ⟨2, ![4096, 128]⟩
abbrev S32x4096 : Shape := ⟨2, ![32, 4096]⟩
abbrev S8x4x4096 : Shape := ⟨3, ![8, 4, 4096]⟩
abbrev S1x32x64 : Shape := ⟨3, ![1, 32, 64]⟩
abbrev S1x2048 : Shape := ⟨2, ![1, 2048]⟩
abbrev S4096x1024 : Shape := ⟨2, ![4096, 1024]⟩
abbrev S32x1x2048 : Shape := ⟨3, ![32, 1, 2048]⟩
abbrev S512x1024 : Shape := ⟨2, ![512, 1024]⟩
abbrev S512x512 : Shape := ⟨2, ![512, 512]⟩
abbrev S512x128 : Shape := ⟨2, ![512, 128]⟩
abbrev S4x4x512 : Shape := ⟨3, ![4, 4, 512]⟩
abbrev S128x1024 : Shape := ⟨2, ![128, 1024]⟩
abbrev S1x1024 : Shape := ⟨2, ![1, 1024]⟩
abbrev S4x4x128x256 : Shape := ⟨4, ![4, 4, 128, 256]⟩
abbrev S4x1x1024 : Shape := ⟨3, ![4, 1, 1024]⟩
abbrev S8x128x256 : Shape := ⟨3, ![8, 128, 256]⟩
abbrev S128x256 : Shape := ⟨2, ![128, 256]⟩
abbrev S1x128x256 : Shape := ⟨3, ![1, 128, 256]⟩
abbrev S128x128 : Shape := ⟨2, ![128, 128]⟩
abbrev S1x4x128 : Shape := ⟨3, ![1, 4, 128]⟩
abbrev S4x128 : Shape := ⟨2, ![4, 128]⟩
abbrev S1x256 : Shape := ⟨2, ![1, 256]⟩
abbrev S1x1x128x256 : Shape := ⟨4, ![1, 1, 128, 256]⟩
abbrev S128x1 : Shape := ⟨2, ![128, 1]⟩
abbrev S1x128 : Shape := ⟨2, ![1, 128]⟩
abbrev S128x512 : Shape := ⟨2, ![128, 512]⟩
abbrev S512x256 : Shape := ⟨2, ![512, 256]⟩
abbrev S256 : Shape := ⟨1, ![256]⟩
abbrev S128 : Shape := ⟨1, ![128]⟩
abbrev S3x128 : Shape := ⟨2, ![3, 128]⟩
abbrev S128x192 : Shape := ⟨2, ![128, 192]⟩
abbrev S128x193 : Shape := ⟨2, ![128, 193]⟩
abbrev S128x63 : Shape := ⟨2, ![128, 63]⟩
abbrev S2x128 : Shape := ⟨2, ![2, 128]⟩
abbrev S128x129 : Shape := ⟨2, ![128, 129]⟩
abbrev S128x127 : Shape := ⟨2, ![128, 127]⟩
abbrev S128x64 : Shape := ⟨2, ![128, 64]⟩
abbrev S128x65 : Shape := ⟨2, ![128, 65]⟩
abbrev S128x191 : Shape := ⟨2, ![128, 191]⟩
abbrev S128x255 : Shape := ⟨2, ![128, 255]⟩
abbrev S127x256 : Shape := ⟨2, ![127, 256]⟩
abbrev S1x1x256 : Shape := ⟨3, ![1, 1, 256]⟩

abbrev nBuf : Space → Nat
  | .hbm => 45
  | .vmem => 35
  | .smem => 0
  | _ => 0

abbrev bufTy : (tb : Table) → Fin (tcTables nBuf tb) → BufTy
  | .hbm, ⟨0, _⟩ => ⟨S4096x4096, .bf16⟩
  | .hbm, ⟨1, _⟩ => ⟨S4096x32, .f32⟩
  | .hbm, ⟨2, _⟩ => ⟨S4096x32, .f32⟩
  | .hbm, ⟨3, _⟩ => ⟨S1x32, .f32⟩
  | .hbm, ⟨4, _⟩ => ⟨S32x8x128x256, .f32⟩
  | .hbm, ⟨5, _⟩ => ⟨S4096x2048, .f32⟩
  | .hbm, ⟨6, _⟩ => ⟨S128x2048, .i32⟩
  | .hbm, ⟨7, _⟩ => ⟨S_, .i32⟩
  | .hbm, ⟨8, _⟩ => ⟨S_, .i32⟩
  | .hbm, ⟨9, _⟩ => ⟨S128x2048, .i32⟩
  | .hbm, ⟨10, _⟩ => ⟨S128x2048, .i32⟩
  | .hbm, ⟨11, _⟩ => ⟨S128x2048, .i32⟩
  | .hbm, ⟨12, _⟩ => ⟨S_, .i32⟩
  | .hbm, ⟨13, _⟩ => ⟨S128x2048, .i32⟩
  | .hbm, ⟨14, _⟩ => ⟨S128x2048, .i1⟩
  | .hbm, ⟨15, _⟩ => ⟨S128x2048, .i32⟩
  | .hbm, ⟨16, _⟩ => ⟨S128x2048, .i32⟩
  | .hbm, ⟨17, _⟩ => ⟨S_, .i32⟩
  | .hbm, ⟨18, _⟩ => ⟨S128x2048, .i32⟩
  | .hbm, ⟨19, _⟩ => ⟨S128x2048, .i1⟩
  | .hbm, ⟨20, _⟩ => ⟨S128x2048, .i1⟩
  | .hbm, ⟨21, _⟩ => ⟨S_, .i32⟩
  | .hbm, ⟨22, _⟩ => ⟨S128x2048, .i32⟩
  | .hbm, ⟨23, _⟩ => ⟨S128x2048, .i32⟩
  | .hbm, ⟨24, _⟩ => ⟨S128x2048, .i32⟩
  | .hbm, ⟨25, _⟩ => ⟨S128x2048, .i32⟩
  | .hbm, ⟨26, _⟩ => ⟨S128x2048, .i1⟩
  | .hbm, ⟨27, _⟩ => ⟨S128x2048, .bf16⟩
  | .hbm, ⟨28, _⟩ => ⟨S_, .i32⟩
  | .hbm, ⟨29, _⟩ => ⟨S_, .f32⟩
  | .hbm, ⟨30, _⟩ => ⟨S4096x128, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S32x4096, .f32⟩
  | .hbm, ⟨35, _⟩ => ⟨S8x4x4096, .f32⟩
  | .hbm, ⟨36, _⟩ => ⟨S1x32x64, .f32⟩
  | .hbm, ⟨37, _⟩ => ⟨S1x2048, .f32⟩
  | .hbm, ⟨38, _⟩ => ⟨S4096x2048, .bf16⟩
  | .hbm, ⟨39, _⟩ => ⟨S4096x1024, .bf16⟩
  | .hbm, ⟨40, _⟩ => ⟨S4096x1024, .bf16⟩
  | .hbm, ⟨41, _⟩ => ⟨S4096x128, .f32⟩
  | .hbm, ⟨42, _⟩ => ⟨S4096x128, .f32⟩
  | .hbm, ⟨43, _⟩ => ⟨S8x4x4096, .f32⟩
  | .hbm, ⟨44, _⟩ => ⟨S32x1x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x4x512, .f32⟩
  | .local _ .vmem, ⟨11, _⟩ => ⟨S4x4x512, .f32⟩
  | .local _ .vmem, ⟨12, _⟩ => ⟨S128x1024, .bf16⟩
  | .local _ .vmem, ⟨13, _⟩ => ⟨S128x1024, .bf16⟩
  | .local _ .vmem, ⟨14, _⟩ => ⟨S1x1024, .f32⟩
  | .local _ .vmem, ⟨15, _⟩ => ⟨S1x1024, .f32⟩
  | .local _ .vmem, ⟨16, _⟩ => ⟨S4x4x128x256, .f32⟩
  | .local _ .vmem, ⟨17, _⟩ => ⟨S4x4x128x256, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S4x4x512, .f32⟩
  | .local _ .vmem, ⟨31, _⟩ => ⟨S4x4x512, .f32⟩
  | .local _ .vmem, ⟨32, _⟩ => ⟨S4x1x1024, .f32⟩
  | .local _ .vmem, ⟨33, _⟩ => ⟨S4x1x1024, .f32⟩
  | .local _ .vmem, ⟨34, _⟩ => ⟨S8x128x256, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_v5 : Ref sig .tc := ⟨.hbm, 30, rfl⟩
abbrev main_c_1 : Ref sig .tc := ⟨.hbm, 31, rfl⟩
abbrev main_call2_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev main_v11_2 : Ref sig .tc := ⟨.hbm, 40, rfl⟩
abbrev main_v11_3 : Ref sig .tc := ⟨.hbm, 41, rfl⟩
abbrev main_v11_4 : Ref sig .tc := ⟨.hbm, 42, rfl⟩
abbrev main_v11_5 : Ref sig .tc := ⟨.hbm, 43, rfl⟩
abbrev main_v11_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c0_i32_5 : BitVec 32 := 0#32
  let v11 : BitVec 1 := Scalar.cmpi .eq arg0 c0_i32_5
  let v12 : BitVec 32 := Scalar.extui v11
  let c0_i32_6 : BitVec 32 := 0#32
  let v13 : BitVec 1 := Scalar.cmpi .ne v12 c0_i32_6
  v13

def k0_off1 (i : grid0.Coords) (c0_i32 : BitVec 32) : Fin 3 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v5755 : Index := Scalar.indexCast v1
  let c0_1789 : Index := 0#32
  let c0_1790 : Index := 0#32
  ![v5755.toNat, 0, 0]
def k0_off2 (i : grid0.Coords) (c0_i32 : BitVec 32) : Fin 3 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v14 : Index := Scalar.indexCast v1
  let c0 : Index := 0#32
  let c0_7 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c4_i32 : BitVec 32 := 4#32
  let v1 : BitVec 32 := Scalar.addi c4_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c6_i32 : BitVec 32 := 6#32
  let v1 : BitVec 32 := Scalar.addi c6_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![arg1.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  ![v0.toNat, arg1.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![arg1.toNat, c0_i32.toNat, v0.toNat]

def cc0_transform_16 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![v0.toNat, c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S4x4x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SsdBwdIdeal.lean ====
variable {F : FTy → Type} [FloatOps F] [Named F]
def κ : String → Option EReal := fun
  | "mask" => some ⊥
  | _ => none
-- ==== SsdDt.lean ====
abbrev S4096x128 : Shape := ⟨2, ![4096, 128]⟩
abbrev S1x32 : Shape := ⟨2, ![1, 32]⟩
abbrev S_ : Shape := ⟨0, ![]⟩
abbrev S1x128 : Shape := ⟨2, ![1, 128]⟩
abbrev S32x1 : Shape := ⟨2, ![32, 1]⟩
abbrev S4096x32 : Shape := ⟨2, ![4096, 32]⟩
abbrev S32x4096 : Shape := ⟨2, ![32, 4096]⟩
abbrev S128x128 : Shape := ⟨2, ![128, 128]⟩
abbrev S32x128 : Shape := ⟨2, ![32, 128]⟩

abbrev nBuf : Space → Nat
  | .hbm => 16
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S1x32, .f32⟩
  | .hbm, ⟨2, _⟩ => ⟨S1x32, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S32x1, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S32x1, .f32⟩
  | .hbm, ⟨11, _⟩ => ⟨S4096x32, .f32⟩
  | .hbm, ⟨12, _⟩ => ⟨S32x4096, .f32⟩
  | .hbm, ⟨13, _⟩ => ⟨S4096x128, .f32⟩
  | .hbm, ⟨14, _⟩ => ⟨S4096x128, .f32⟩
  | .hbm, ⟨15, _⟩ => ⟨S32x4096, .f32⟩
  | .local _ .vmem, ⟨0, _⟩ => ⟨S128x128, .f32⟩
  | .local _ .vmem, ⟨1, _⟩ => ⟨S128x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S32x1, .f32⟩
  | .local _ .vmem, ⟨6, _⟩ => ⟨S1x128, .f32⟩
  | .local _ .vmem, ⟨7, _⟩ => ⟨S32x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S32x128, .f32⟩
  | .local _ .vmem, ⟨13, _⟩ => ⟨S32x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsdDtRefIdeal.lean ====
abbrev S4096x128 : Shape := ⟨2, ![4096, 128]⟩
abbrev S1x32 : Shape := ⟨2, ![1, 32]⟩
abbrev S_ : Shape := ⟨0, ![]⟩
abbrev S1x96 : Shape := ⟨2, ![1, 96]⟩
abbrev S1x128 : Shape := ⟨2, ![1, 128]⟩
abbrev S32x128x128 : Shape := ⟨3, ![32, 128, 128]⟩
abbrev S128x128 : Shape := ⟨2, ![128, 128]⟩
abbrev S4096x32 : Shape := ⟨2, ![4096, 32]⟩
abbrev S32x4096 : Shape := ⟨2, ![32, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x32, .f32⟩
  | .hbm, ⟨2, _⟩ => ⟨S1x32, .f32⟩
  | .hbm, ⟨3, _⟩ => ⟨S_, .f32⟩
  | .hbm, ⟨4, _⟩ => ⟨S1x96, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .i1⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S1x96, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S32x128x128, .f32⟩
  | .hbm, ⟨30, _⟩ => ⟨S_, .f32⟩
  | .hbm, ⟨31, _⟩ => ⟨S128x128, .f32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .i32⟩
  | .hbm, ⟨37, _⟩ => ⟨S128x128, .i1⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S32x128x128, .f32⟩
  | .hbm, ⟨42, _⟩ => ⟨S32x128x128, .f32⟩
  | .hbm, ⟨43, _⟩ => ⟨S4096x128, .f32⟩
  | .hbm, ⟨44, _⟩ => ⟨S4096x32, .f32⟩
  | .hbm, ⟨45, _⟩ => ⟨S32x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_cst : Ref sig .tc := ⟨.hbm, 38, rfl⟩
abbrev main_call1_v5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩

abbrev nD : Nat := 1
abbrev τ : Topo := Topo.v7x

variable {F : FTy → Type} [FloatOps F]
-- ==== Proof.SsdFwdIdealFrame.lean ====
/-
  The frame of the idealised scan over the chunks of the sequence: every point of the grid runs to its end with the inputs as they were. The state
  carried between points is held at some contents throughout, and nothing is said here of what the outputs hold.
-/
module

public import proofs.«01_k».proof.Proof.Gen.SsdFwdIdeal.Skeleton
public import proofs.«01_k».proof.Proof.Gen.SsdFwdIdeal.Frame
public import Idealize.ShloMosaic.Lib.Claim

@[expose] public section

set_option maxRecDepth 16384

noncomputable section

namespace Cert.SsdFwdIdealFrame

open Cert.SsdFwdIdeal Cert.SsdFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs and hands its memrefs back, the inputs unchanged. -/
theorem point_runs (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x4x512 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S4x4x128x256 .f32) (harg11 : arg11.IsWhole) (arg12 : Memref sig .tc .vmem S8x128x256 .f32) (harg12 : arg12.IsWhole)
    (x0 : Vec F S512x1024 .bf16) (x1 : Vec F S512x512 .bf16) (x2 : Vec F S512x512 .bf16) (x3 : Vec F S512x128 .f32) (x4 : Vec F S512x128 .f32) (x5 : Vec F S4x4x512 .f32) (x6 : Vec F S128x1024 .bf16) (x7 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_ssd_fwd i arg2 harg2 arg3 harg3 arg4 harg4 arg5 harg5 arg6 harg6 arg7 harg7 arg8 harg8 arg9 harg9 arg10 harg10 arg11 harg11 arg12 harg12) K := by
  simp only [cc0_ssd_fwd_eq_skeleton]; unfold cc0_ssd_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases h1 : k0_cond1 i = 1#1
  all_goals
    sl_exec (disch := first | sl_exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexists _; isplitr
      swap
      · iexact H8
      ipureintro; rfl
    isplitl [H9]
    · iexists _; iexists _; isplitr
      swap
      · iexact H9
      ipureintro; rfl
    iexists _; iexists _; isplitr
    swap
    · iexact H10
    ipureintro; rfl

/-- The outputs, of which nothing is named. -/
def unnamed : Fin 10 → Bool := fun w => w.val == 8 || w.val == 9

/-- The arrays as the call finds them, each input's block left in place, the invariant the launch's own. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem data_arrays (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem before_0 (c : Dev nD) (t : Fin cfg0.N) (d) : (data m 0 c).before 0 t d = iblk m c 0 t :=
  before0_0_of m (data m 0 c) (data_arrays m c 0) (after_0 m c) t d
theorem before_1 (c : Dev nD) (t : Fin cfg0.N) (d) : (data m 0 c).before 1 t d = iblk m c 1 t :=
  before0_1_of m (data m 0 c) (data_arrays m c 1) (after_1 m c) t d
theorem before_2 (c : Dev nD) (t : Fin cfg0.N) (d) : (data m 0 c).before 2 t d = iblk m c 2 t :=
  before0_2_of m (data m 0 c) (data_arrays m c 2) (after_2 m c) t d
theorem before_3 (c : Dev nD) (t : Fin cfg0.N) (d) : (data m 0 c).before 3 t d = iblk m c 3 t :=
  before0_3_of m (data m 0 c) (data_arrays m c 3) (after_3 m c) t d
theorem before_4 (c : Dev nD) (t : Fin cfg0.N) (d) : (data m 0 c).before 4 t d = iblk m c 4 t :=
  before0_4_of m (data m 0 c) (data_arrays m c 4) (after_4 m c) t d
theorem before_5 (c : Dev nD) (t : Fin cfg0.N) (d) : (data m 0 c).before 5 t d = iblk m c 5 t :=
  before0_5_of m (data m 0 c) (data_arrays m c 5) (after_5 m c) t d
theorem before_6 (c : Dev nD) (t : Fin cfg0.N) (d) : (data m 0 c).before 6 t d = iblk m c 6 t :=
  before0_6_of m (data m 0 c) (data_arrays m c 6) (after_6 m c) t d
theorem before_7 (c : Dev nD) (t : Fin cfg0.N) (d) : (data m 0 c).before 7 t d = iblk m c 7 t :=
  before0_7_of m (data m 0 c) (data_arrays m c 7) (after_7 m c) t d

theorem launch_state (c : Dev nD) :
    (Pipeline.ΦA spec0 c : sProp 𝕄)
      = iprop(iprop((∃ d, owns (c : Thread nD τ) (Memref.whole cc0_scratch0 : Memref sig .tc .vmem S8x128x256 .f32) fullShare d)) ∗ (∃ r, prngReg c r)) := by
  unfold Pipeline.ΦA; rw [scopedRest0_eq]; simp only [owns_whole]; try rfl

set_option maxHeartbeats 6400000 in
/-- The body at a point of the grid. -/
theorem point (c : Dev nD) (t : Fin cfg0.N) :
    iprop((data m 0 c).Φ t.castSucc ∗ (data m 0 c).owesAt () t.castSucc ∗ (∃ d, owns (c : Thread nD τ) (win0_0.stage (cfg0.slots t 0)) fullShare ((data m 0 c).before 0 t d)) ∗ (∃ d, owns (c : Thread nD τ) (win0_1.stage (cfg0.slots t 1)) fullShare ((data m 0 c).before 1 t d)) ∗ (∃ d, owns (c : Thread nD τ) (win0_2.stage (cfg0.slots t 2)) fullShare ((data m 0 c).before 2 t d)) ∗ (∃ d, owns (c : Thread nD τ) (win0_3.stage (cfg0.slots t 3)) fullShare ((data m 0 c).before 3 t d)) ∗ (∃ d, owns (c : Thread nD τ) (win0_4.stage (cfg0.slots t 4)) fullShare ((data m 0 c).before 4 t d)) ∗ (∃ d, owns (c : Thread nD τ) (win0_5.stage (cfg0.slots t 5)) fullShare ((data m 0 c).before 5 t d)) ∗ (∃ d, owns (c : Thread nD τ) (win0_6.stage (cfg0.slots t 6)) fullShare ((data m 0 c).before 6 t d)) ∗ (∃ d, owns (c : Thread nD τ) (win0_7.stage (cfg0.slots t 7)) fullShare ((data m 0 c).before 7 t d)) ∗ (∃ d, owns (c : Thread nD τ) (win0_8.stage (cfg0.slots t 8)) fullShare d) ∗ (∃ d, owns (c : Thread nD τ) (win0_9.stage (cfg0.slots t 9)) fullShare d))
      ⊢ wp frame (wpE (defs₀ (F := F)) Variants.none c none) Set.univ (bodyAt0 t)
        (fun _ => iprop((data m 0 c).Φ t.succ ∗ (data m 0 c).owesAt () t.succ ∗ owns (c : Thread nD τ) (win0_0.stage (cfg0.slots t 0)) fullShare ((data m 0 c).after 0 t) ∗ owns (c : Thread nD τ) (win0_1.stage (cfg0.slots t 1)) fullShare ((data m 0 c).after 1 t) ∗ owns (c : Thread nD τ) (win0_2.stage (cfg0.slots t 2)) fullShare ((data m 0 c).after 2 t) ∗ owns (c : Thread nD τ) (win0_3.stage (cfg0.slots t 3)) fullShare ((data m 0 c).after 3 t) ∗ owns (c : Thread nD τ) (win0_4.stage (cfg0.slots t 4)) fullShare ((data m 0 c).after 4 t) ∗ owns (c : Thread nD τ) (win0_5.stage (cfg0.slots t 5)) fullShare ((data m 0 c).after 5 t) ∗ owns (c : Thread nD τ) (win0_6.stage (cfg0.slots t 6)) fullShare ((data m 0 c).after 6 t) ∗ owns (c : Thread nD τ) (win0_7.stage (cfg0.slots t 7)) fullShare ((data m 0 c).after 7 t) ∗ (∃ d, owns (c : Thread nD τ) (win0_8.stage (cfg0.slots t 8)) fullShare d) ∗ (∃ d, owns (c : Thread nD τ) (win0_9.stage (cfg0.slots t 9)) fullShare d))) := by
  unfold bodyAt0
  simp only [before_0, before_1, before_2, before_3, before_4, before_5, before_6, before_7]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl,
    after_0, after_1, after_2, after_3, after_4, after_5, after_6, after_7, launch_state]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply (point_runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation (c : Dev nD) : BodyObligation (data (F := F) m 0 c) (defs₀ (F := F)) Variants.none () Set.univ unnamed := fun t => by
  rw [bigSep_W0, bigSep_W0, show defs₀ (F := F) .tc cfg0.body (cfg0.bodyArgs t (cfg0.slots t)) = bodyAt0 t by
    unfold defs₀; rw [Defs.onTc_tc]]
  exact triple_restated (point m c t) rfl .rfl fun _ => .rfl

set_option backward.isDefEq.respectTransparency.types false in
/-- Every run of the program ends, with the inputs' arrays unchanged and every semaphore at zero. -/
theorem runs : θ_run defs (onTc (τ := τ) (main (F := F))) (s₀ m ρ)
    (fun r => (Pipeline.RDat.FramePost (cfgs 0) (fun c => (data m 0 c).toRForget unnamed) (V m)) r ∧ r.2.sem = fun _ => 0) :=
  Pipeline.θ_run_frame_track_forget_shared (Q' := _) cfgs (data m) (0 : Fin 1) launch₀0 defs₀ Variants.none unnamed m ρ main
    (hbody := fun c => (obligation m c).loose) (hq := fun _ _ _ => rfl) (howed := fun _ _ => rfl) (V := V m)
    (hmain := hmain m Variants.none) (hA := data_arrays m) (hin := fun _ => Idealize.SL.BI.Entails.refl _)
    (hout := fun _ => Idealize.SL.BI.Entails.refl _)

/-- The frame: the arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => by
    replace h := h.1
    exact ⟨(Pipeline.RDat.FramePost.arr_in h c 2 rfl).trans ((data_arrays m c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (runs m ρ)) ((θ_run defs _ _).mono (fun _ h => h.2) (runs m ρ))

end Cert.SsdFwdIdealFrame

end
-- ==== Proof.SsdBwdIdealFrame.lean ====
/-
  The frame of the idealised gradient of the scan over the chunks of the sequence: every point of the grid runs to its end with the inputs as they were. The state
  carried between points is held at some contents throughout, and nothing is said here of what the outputs hold.
-/
module

public import proofs.«01_k».proof.Proof.Gen.SsdBwdIdeal.Skeleton
public import proofs.«01_k».proof.Proof.Gen.SsdBwdIdeal.Frame
public import Idealize.ShloMosaic.Lib.Claim

@[expose] public section

set_option maxRecDepth 16384

noncomputable section

namespace Cert.SsdBwdIdealFrame

open Cert.SsdBwdIdeal Cert.SsdBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body runs and hands its memrefs back, the inputs unchanged. -/
theorem point_runs (c : Dev nD) (i : grid0.Coords) (arg2 : Memref sig .tc .vmem S512x1024 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x4x512 .f32) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S4x4x128x256 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S4x4x512 .f32) (harg17 : arg17.IsWhole) (arg18 : Memref sig .tc .vmem S4x1x1024 .f32) (harg18 : arg18.IsWhole) (arg19 : Memref sig .tc .vmem S8x128x256 .f32) (harg19 : arg19.IsWhole)
    (x0 : Vec F S512x1024 .bf16) (x1 : Vec F S512x512 .bf16) (x2 : Vec F S512x512 .bf16) (x3 : Vec F S512x128 .f32) (x4 : Vec F S512x128 .f32) (x5 : Vec F S4x4x512 .f32) (x6 : Vec F S128x1024 .bf16) (x7 : Vec F S1x1024 .f32) (x8 : Vec F S4x4x128x256 .f32) (x9 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_ssd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ssd_bwd_eq_skeleton]; unfold cc0_ssd_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  by_cases h1 : (Scalar.cmpi .ne (Scalar.extui (Scalar.cmpi .eq (BitVec.ofNat 32 (i 1).val) 0#32) : BitVec 32) 0#32) = 1#1
  all_goals by_cases h2 : k0_cond2 i = 1#1
  all_goals
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexists _; isplitr
      swap
      · iexact H10
      ipureintro; rfl
    isplitl [H11]
    · iexists _; iexists _; isplitr
      swap
      · iexact H11
      ipureintro; rfl
    isplitl [H12]
    · iexists _; iexists _; isplitr
      swap
      · iexact H12
      ipureintro; rfl
    isplitl [H13]
    · iexists _; iexists _; isplitr
      swap
      · iexact H13
      ipureintro; rfl
    isplitl [H14]
    · iexists _; iexists _; isplitr
      swap
      · iexact H14
      ipureintro; rfl
    isplitl [H15]
    · iexists _; iexists _; isplitr
      swap
      · iexact H15
      ipureintro; rfl
    isplitl [H16]
    · iexists _; iexists _; isplitr
      swap
      · iexact H16
      ipureintro; rfl
    iexists _; iexists _; isplitr
    swap
    · iexact H17
    ipureintro; rfl

/-- The outputs, of which nothing is named. -/
def unnamed : Fin 17 → Bool := fun w => w.val == 10 || w.val == 11 || w.val == 12 || w.val == 13 || w.val == 14 || w.val == 15 || w.val == 16

/-- The arrays as the call finds them, each input's block left in place, the invariant the launch's own. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨n + 17, h⟩ => absurd (show n + 17 < 17 from h) (by omega)
  Φ _ := Pipeline.ΦA spec0 c
  q w := Pipeline.shareOf spec0 w
  owed _ := 0

theorem data_arrays (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]
theorem after_9 (c : Dev nD) (t : Fin cfg0.N) : (data m 0 c).after 9 t = iblk m c 9 t := by dsimp only [data]
theorem before_0 (c : Dev nD) (t : Fin cfg0.N) (d) : (data m 0 c).before 0 t d = iblk m c 0 t :=
  before0_0_of m (data m 0 c) (data_arrays m c 0) (after_0 m c) t d
theorem before_1 (c : Dev nD) (t : Fin cfg0.N) (d) : (data m 0 c).before 1 t d = iblk m c 1 t :=
  before0_1_of m (data m 0 c) (data_arrays m c 1) (after_1 m c) t d
theorem before_2 (c : Dev nD) (t : Fin cfg0.N) (d) : (data m 0 c).before 2 t d = iblk m c 2 t :=
  before0_2_of m (data m 0 c) (data_arrays m c 2) (after_2 m c) t d
theorem before_3 (c : Dev nD) (t : Fin cfg0.N) (d) : (data m 0 c).before 3 t d = iblk m c 3 t :=
  before0_3_of m (data m 0 c) (data_arrays m c 3) (after_3 m c) t d
theorem before_4 (c : Dev nD) (t : Fin cfg0.N) (d) : (data m 0 c).before 4 t d = iblk m c 4 t :=
  before0_4_of m (data m 0 c) (data_arrays m c 4) (after_4 m c) t d
theorem before_5 (c : Dev nD) (t : Fin cfg0.N) (d) : (data m 0 c).before 5 t d = iblk m c 5 t :=
  before0_5_of m (data m 0 c) (data_arrays m c 5) (after_5 m c) t d
theorem before_6 (c : Dev nD) (t : Fin cfg0.N) (d) : (data m 0 c).before 6 t d = iblk m c 6 t :=
  before0_6_of m (data m 0 c) (data_arrays m c 6) (after_6 m c) t d
theorem before_7 (c : Dev nD) (t : Fin cfg0.N) (d) : (data m 0 c).before 7 t d = iblk m c 7 t :=
  before0_7_of m (data m 0 c) (data_arrays m c 7) (after_7 m c) t d
theorem before_8 (c : Dev nD) (t : Fin cfg0.N) (d) : (data m 0 c).before 8 t d = iblk m c 8 t :=
  before0_8_of m (data m 0 c) (data_arrays m c 8) (after_8 m c) t d
theorem before_9 (c : Dev nD) (t : Fin cfg0.N) (d) : (data m 0 c).before 9 t d = iblk m c 9 t :=
  before0_9_of m (data m 0 c) (data_arrays m c 9) (after_9 m c) t d

theorem launch_state (c : Dev nD) :
    (Pipeline.ΦA spec0 c : sProp 𝕄)
      = iprop(iprop((∃ d, owns (c : Thread nD τ) (Memref.whole cc0_scratch0 : Memref sig .tc .vmem S8x128x256 .f32) fullShare d)) ∗ (∃ r, prngReg c r)) := by
  unfold Pipeline.ΦA; rw [scopedRest0_eq]; simp only [owns_whole]; try rfl

set_option maxHeartbeats 6400000 in
/-- The body at a point of the grid. -/
theorem point (c : Dev nD) (t : Fin cfg0.N) :
    iprop((data m 0 c).Φ t.castSucc ∗ (data m 0 c).owesAt () t.castSucc ∗ (∃ d, owns (c : Thread nD τ) (win0_0.stage (cfg0.slots t 0)) fullShare ((data m 0 c).before 0 t d)) ∗ (∃ d, owns (c : Thread nD τ) (win0_1.stage (cfg0.slots t 1)) fullShare ((data m 0 c).before 1 t d)) ∗ (∃ d, owns (c : Thread nD τ) (win0_2.stage (cfg0.slots t 2)) fullShare ((data m 0 c).before 2 t d)) ∗ (∃ d, owns (c : Thread nD τ) (win0_3.stage (cfg0.slots t 3)) fullShare ((data m 0 c).before 3 t d)) ∗ (∃ d, owns (c : Thread nD τ) (win0_4.stage (cfg0.slots t 4)) fullShare ((data m 0 c).before 4 t d)) ∗ (∃ d, owns (c : Thread nD τ) (win0_5.stage (cfg0.slots t 5)) fullShare ((data m 0 c).before 5 t d)) ∗ (∃ d, owns (c : Thread nD τ) (win0_6.stage (cfg0.slots t 6)) fullShare ((data m 0 c).before 6 t d)) ∗ (∃ d, owns (c : Thread nD τ) (win0_7.stage (cfg0.slots t 7)) fullShare ((data m 0 c).before 7 t d)) ∗ (∃ d, owns (c : Thread nD τ) (win0_8.stage (cfg0.slots t 8)) fullShare ((data m 0 c).before 8 t d)) ∗ (∃ d, owns (c : Thread nD τ) (win0_9.stage (cfg0.slots t 9)) fullShare ((data m 0 c).before 9 t d)) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))
      ⊢ wp frame (wpE (defs₀ (F := F)) Variants.none c none) Set.univ (bodyAt0 t)
        (fun _ => iprop((data m 0 c).Φ t.succ ∗ (data m 0 c).owesAt () t.succ ∗ owns (c : Thread nD τ) (win0_0.stage (cfg0.slots t 0)) fullShare ((data m 0 c).after 0 t) ∗ owns (c : Thread nD τ) (win0_1.stage (cfg0.slots t 1)) fullShare ((data m 0 c).after 1 t) ∗ owns (c : Thread nD τ) (win0_2.stage (cfg0.slots t 2)) fullShare ((data m 0 c).after 2 t) ∗ owns (c : Thread nD τ) (win0_3.stage (cfg0.slots t 3)) fullShare ((data m 0 c).after 3 t) ∗ owns (c : Thread nD τ) (win0_4.stage (cfg0.slots t 4)) fullShare ((data m 0 c).after 4 t) ∗ owns (c : Thread nD τ) (win0_5.stage (cfg0.slots t 5)) fullShare ((data m 0 c).after 5 t) ∗ owns (c : Thread nD τ) (win0_6.stage (cfg0.slots t 6)) fullShare ((data m 0 c).after 6 t) ∗ owns (c : Thread nD τ) (win0_7.stage (cfg0.slots t 7)) fullShare ((data m 0 c).after 7 t) ∗ owns (c : Thread nD τ) (win0_8.stage (cfg0.slots t 8)) fullShare ((data m 0 c).after 8 t) ∗ owns (c : Thread nD τ) (win0_9.stage (cfg0.slots t 9)) fullShare ((data m 0 c).after 9 t) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d))) := by
  unfold bodyAt0
  simp only [before_0, before_1, before_2, before_3, before_4, before_5, before_6, before_7, before_8, before_9]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl,
    after_0, after_1, after_2, after_3, after_4, after_5, after_6, after_7, after_8, after_9, launch_state]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15, H16⟩
  iapply (point_runs c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem obligation (c : Dev nD) : BodyObligation (data (F := F) m 0 c) (defs₀ (F := F)) Variants.none () Set.univ unnamed := fun t => by
  rw [bigSep_W0, bigSep_W0, show defs₀ (F := F) .tc cfg0.body (cfg0.bodyArgs t (cfg0.slots t)) = bodyAt0 t by
    unfold defs₀; rw [Defs.onTc_tc]]
  exact triple_restated (point m c t) rfl .rfl fun _ => .rfl

set_option backward.isDefEq.respectTransparency.types false in
/-- Every run of the program ends, with the inputs' arrays unchanged and every semaphore at zero. -/
theorem runs : θ_run defs (onTc (τ := τ) (main (F := F))) (s₀ m ρ)
    (fun r => (Pipeline.RDat.FramePost (cfgs 0) (fun c => (data m 0 c).toRForget unnamed) (V m)) r ∧ r.2.sem = fun _ => 0) :=
  Pipeline.θ_run_frame_track_forget_shared (Q' := _) cfgs (data m) (0 : Fin 1) launch₀0 defs₀ Variants.none unnamed m ρ main
    (hbody := fun c => (obligation m c).loose) (hq := fun _ _ _ => rfl) (howed := fun _ _ => rfl) (V := V m)
    (hmain := hmain m Variants.none) (hA := data_arrays m) (hin := fun _ => Idealize.SL.BI.Entails.refl _)
    (hout := fun _ => Idealize.SL.BI.Entails.refl _)

/-- The frame: the arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => by
    replace h := h.1
    exact ⟨(Pipeline.RDat.FramePost.arr_in h c 2 rfl).trans ((data_arrays m c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 8 rfl).trans ((data_arrays m c 8).trans (V_main_arg4 m c)),
      (Pipeline.RDat.FramePost.arr_in h c 9 rfl).trans ((data_arrays m c 9).trans (V_main_arg5 m c))⟩) (runs m ρ)) ((θ_run defs _ _).mono (fun _ h => h.2) (runs m ρ))

end Cert.SsdBwdIdealFrame

end
-- ==== Proof.Adam.lean ====
/-
AdamW's update of one number: the two moments and the step of the weight, with the constants as single-precision words.
-/
module

public import Idealize.ShloMosaic.Lib.Pointwise

@[expose] public section

noncomputable section

open Idealize.ShloMosaic

namespace Cert.Adam

/-- The extended real that a single-precision word denotes. -/
abbrev word (b : BitVec 32) : EReal := (Scalar.ofBits (F := Ideal) .f32 b : Ideal .f32)

/-- The new first moment. -/
def first (mo g : EReal) : EReal := word 0x3F666666#32 * mo + word 0x3DCCCCCD#32 * g

/-- The new second moment. -/
def second (v g : EReal) : EReal := word 0x3F7FBE77#32 * v + word 0x3A83126F#32 * (g * g)

/-- The step of the weight `w`, from the new moments. -/
def step (w mo v : EReal) : EReal :=
  word 0xBA83126F#32 * (Ideal.div (Ideal.div mo (word 0x3F26BD02#32))
    (Ideal.sqrt (Ideal.div v (word 0x3C231ACC#32)) + word 0x322BCC77#32) + word 0x3C23D70A#32 * w)

end Cert.Adam

end
-- ==== Proof.AdamFfn.lean ====
/-
AdamW's update of the slice of a feed-forward weight that one device holds: four partial gradients of one device
are added up, and the moments and the step are computed from the sum, block of rows by block of rows.
-/
module

public import proofs.«01_k».proof.Proof.Gen.AdamFfnIdeal.Value
public import proofs.«01_k».proof.Proof.Gen.AdamFfnRefIdeal.Run
public import proofs.«01_k».proof.Proof.Adam
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.AdamFfnProof

/-- The summed gradient at row `r` and column `l`. -/
def grad (A0 : (⟨3, ![4, 704, 2048]⟩ : Shape).Idx → EReal) (r : Fin 704) (l : Fin 2048) : EReal := ∑ k : Fin 4, A0 (ix3 k r l)

/-- The step of the weight at row `r` and column `l`. -/
def delta (A0 : (⟨3, ![4, 704, 2048]⟩ : Shape).Idx → EReal) (A1 A2 A3 : (⟨2, ![704, 2048]⟩ : Shape).Idx → EReal) (r : Fin 704) (l : Fin 2048) : EReal :=
  Adam.step (A1 (ix2 r l)) (Adam.first (A2 (ix2 r l)) (grad A0 r l)) (Adam.second (A3 (ix2 r l)) (grad A0 r l))

/-- The new first moment at row `r` and column `l`. -/
def firstAt (A0 : (⟨3, ![4, 704, 2048]⟩ : Shape).Idx → EReal) (A2 : (⟨2, ![704, 2048]⟩ : Shape).Idx → EReal)
    (r : Fin 704) (l : Fin 2048) : EReal := Adam.first (A2 (ix2 r l)) (grad A0 r l)

/-- The new second moment at row `r` and column `l`. -/
def secondAt (A0 : (⟨3, ![4, 704, 2048]⟩ : Shape).Idx → EReal) (A3 : (⟨2, ![704, 2048]⟩ : Shape).Idx → EReal)
    (r : Fin 704) (l : Fin 2048) : EReal := Adam.second (A3 (ix2 r l)) (grad A0 r l)

section kernel
open Cert.AdamFfnIdeal Cert.AdamFfnIdeal.Gen

variable (m : (ℓ : Loc nD τ sig) → Buf (Elt Ideal) ℓ) (ρ : Dev nD → PrngReg)

/-! ## What one block step computes -/

theorem grad_apply (x0 x1 x2 x3 : Vec Ideal S1x64x2048 .bf16) (r : Fin 64) (l : Fin 2048) :
    k0_pay2 x0 x1 x2 x3 (ix2 r l) = x0 (ix3 0 r l) + x1 (ix3 0 r l) + x2 (ix3 0 r l) + x3 (ix3 0 r l) := by
  pointwise [k0_pay2]

theorem first_apply (x0 x1 x2 x3 : Vec Ideal S1x64x2048 .bf16) (y : Vec Ideal S64x2048 .f32) (r : Fin 64) (l : Fin 2048) :
    k0_pay3 x0 x1 x2 x3 y (ix2 r l) = Adam.first (y (ix2 r l)) (k0_pay2 x0 x1 x2 x3 (ix2 r l)) := by
  unfold k0_pay3
  generalize k0_pay2 x0 x1 x2 x3 = g
  pointwise
  rfl

theorem second_apply (x0 x1 x2 x3 : Vec Ideal S1x64x2048 .bf16) (y : Vec Ideal S64x2048 .f32) (r : Fin 64) (l : Fin 2048) :
    k0_pay4 x0 x1 x2 x3 y (ix2 r l) = Adam.second (y (ix2 r l)) (k0_pay2 x0 x1 x2 x3 (ix2 r l)) := by
  unfold k0_pay4
  generalize k0_pay2 x0 x1 x2 x3 = g
  pointwise
  rfl

theorem step_apply (x0 x1 x2 x3 : Vec Ideal S1x64x2048 .bf16) (y v w : Vec Ideal S64x2048 .f32) (r : Fin 64) (l : Fin 2048) :
    k0_pay1 w (k0_pay5 x0 x1 x2 x3 y) (k0_pay6 x0 x1 x2 x3 v) (Scalar.ofBits .f32 0x322BCC77#32) (ix2 r l)
      = Adam.step (w (ix2 r l)) (k0_pay3 x0 x1 x2 x3 y (ix2 r l)) (k0_pay4 x0 x1 x2 x3 v (ix2 r l)) := by
  unfold k0_pay1 k0_pay5 k0_pay6
  generalize k0_pay3 x0 x1 x2 x3 y = a
  generalize k0_pay4 x0 x1 x2 x3 v = b
  pointwise
  rfl

/-! ## The blocks of each grid point -/

theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem blk0 (c : Dev nD) (t : Fin cfg0.N) (k : Fin 4) (r : Fin 64) (l : Fin 2048) :
    iblk m c 0 t (ix3 k r l) = m (c.tc.loc main_arg0) (ix3 k ⟨t.val * 64 + r.val, by have := lt_of_lt_of_eq t.isLt N_0; omega⟩ l) := by
  blk_ext [iblk, V, idx t]

theorem blk1 (c : Dev nD) (t : Fin cfg0.N) (r : Fin 64) (l : Fin 2048) :
    iblk m c 1 t (ix2 r l) = m (c.tc.loc main_arg1) (ix2 ⟨t.val * 64 + r.val, by have := lt_of_lt_of_eq t.isLt N_0; omega⟩ l) := by
  blk_ext [iblk, V, idx t]

theorem blk2 (c : Dev nD) (t : Fin cfg0.N) (r : Fin 64) (l : Fin 2048) :
    iblk m c 2 t (ix2 r l) = m (c.tc.loc main_arg2) (ix2 ⟨t.val * 64 + r.val, by have := lt_of_lt_of_eq t.isLt N_0; omega⟩ l) := by
  blk_ext [iblk, V, idx t]

theorem blk3 (c : Dev nD) (t : Fin cfg0.N) (r : Fin 64) (l : Fin 2048) :
    iblk m c 3 t (ix2 r l) = m (c.tc.loc main_arg3) (ix2 ⟨t.val * 64 + r.val, by have := lt_of_lt_of_eq t.isLt N_0; omega⟩ l) := by
  blk_ext [iblk, V, idx t]

theorem slab0 (c : Dev nD) (t : Fin cfg0.N) (r : Fin 64) (l : Fin 2048) :
    View.ld (iblk m c 0 t) r0_0 (ix3 0 r l) = m (c.tc.loc main_arg0) (ix3 0 ⟨t.val * 64 + r.val, by have := lt_of_lt_of_eq t.isLt N_0; omega⟩ l) := by
  rw [← blk0 m c t 0 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab1 (c : Dev nD) (t : Fin cfg0.N) (r : Fin 64) (l : Fin 2048) :
    View.ld (iblk m c 0 t) r0_1 (ix3 0 r l) = m (c.tc.loc main_arg0) (ix3 1 ⟨t.val * 64 + r.val, by have := lt_of_lt_of_eq t.isLt N_0; omega⟩ l) := by
  rw [← blk0 m c t 1 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab2 (c : Dev nD) (t : Fin cfg0.N) (r : Fin 64) (l : Fin 2048) :
    View.ld (iblk m c 0 t) r0_2 (ix3 0 r l) = m (c.tc.loc main_arg0) (ix3 2 ⟨t.val * 64 + r.val, by have := lt_of_lt_of_eq t.isLt N_0; omega⟩ l) := by
  rw [← blk0 m c t 2 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab3 (c : Dev nD) (t : Fin cfg0.N) (r : Fin 64) (l : Fin 2048) :
    View.ld (iblk m c 0 t) r0_3 (ix3 0 r l) = m (c.tc.loc main_arg0) (ix3 3 ⟨t.val * 64 + r.val, by have := lt_of_lt_of_eq t.isLt N_0; omega⟩ l) := by
  rw [← blk0 m c t 3 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

/-! ## The results -/

theorem point4 (c : Dev nD) (t : Fin cfg0.N) (r : Fin 64) (l : Fin 2048) :
    k0_pay2 (F := Ideal) (View.ld (iblk m c 0 t) r0_0) (View.ld (iblk m c 0 t) r0_1) (View.ld (iblk m c 0 t) r0_2) (View.ld (iblk m c 0 t) r0_3) (ix2 r l) = grad (m (c.tc.loc main_arg0)) ⟨t.val * 64 + r.val, by have := lt_of_lt_of_eq t.isLt N_0; omega⟩ l := by
  rw [grad_apply, slab0 m c t r l, slab1 m c t r l, slab2 m c t r l, slab3 m c t r l]
  unfold grad
  rw [Fin.sum_univ_four]

theorem point6 (c : Dev nD) (t : Fin cfg0.N) (r : Fin 64) (l : Fin 2048) :
    k0_pay3 (F := Ideal) (View.ld (iblk m c 0 t) r0_0) (View.ld (iblk m c 0 t) r0_1) (View.ld (iblk m c 0 t) r0_2) (View.ld (iblk m c 0 t) r0_3) (iblk m c 2 t) (ix2 r l) = firstAt (m (c.tc.loc main_arg0)) (m (c.tc.loc main_arg2)) ⟨t.val * 64 + r.val, by have := lt_of_lt_of_eq t.isLt N_0; omega⟩ l := by
  rw [first_apply, point4 m c t r l, blk2 m c t r l]
  rfl

theorem point7 (c : Dev nD) (t : Fin cfg0.N) (r : Fin 64) (l : Fin 2048) :
    k0_pay4 (F := Ideal) (View.ld (iblk m c 0 t) r0_0) (View.ld (iblk m c 0 t) r0_1) (View.ld (iblk m c 0 t) r0_2) (View.ld (iblk m c 0 t) r0_3) (iblk m c 3 t) (ix2 r l) = secondAt (m (c.tc.loc main_arg0)) (m (c.tc.loc main_arg3)) ⟨t.val * 64 + r.val, by have := lt_of_lt_of_eq t.isLt N_0; omega⟩ l := by
  rw [second_apply, point4 m c t r l, blk3 m c t r l]
  rfl

theorem point5 (c : Dev nD) (t : Fin cfg0.N) (r : Fin 64) (l : Fin 2048) :
    k0_pay1 (F := Ideal) (iblk m c 1 t) (k0_pay5 (View.ld (iblk m c 0 t) r0_0) (View.ld (iblk m c 0 t) r0_1) (View.ld (iblk m c 0 t) r0_2) (View.ld (iblk m c 0 t) r0_3) (iblk m c 2 t)) (k0_pay6 (View.ld (iblk m c 0 t) r0_0) (View.ld (iblk m c 0 t) r0_1) (View.ld (iblk m c 0 t) r0_2) (View.ld (iblk m c 0 t) r0_3) (iblk m c 3 t)) (Scalar.ofBits .f32 0x322BCC77#32) (ix2 r l) = delta (m (c.tc.loc main_arg0)) (m (c.tc.loc main_arg1)) (m (c.tc.loc main_arg2)) (m (c.tc.loc main_arg3)) ⟨t.val * 64 + r.val, by have := lt_of_lt_of_eq t.isLt N_0; omega⟩ l := by
  rw [step_apply, point6 m c t r l, point7 m c t r l, blk1 m c t r l]
  rfl

theorem final4 (c : Dev nD) : (dats m 0 c).arrAt 4 cfg0.N = fun i => grad (m (c.tc.loc main_arg0)) (i 0) (i 1) := by
  refine (dats m 0 c).arrAt_eq_of_covers 4 _ (by decide +kernel) fun t hf y => ?_
  have hN : t.val < 11 := lt_of_lt_of_eq t.isLt N_0
  blk_simp
  rw [after0_4]
  frame_out
  idx_vars y
  refine (point4 m c t y0 y1).trans (congrArg₂ _ (Fin.ext ?_) (Fin.ext ?_)) <;> blk_simp [idx t]

theorem final5 (c : Dev nD) : (dats m 0 c).arrAt 5 cfg0.N = fun i => delta (m (c.tc.loc main_arg0)) (m (c.tc.loc main_arg1)) (m (c.tc.loc main_arg2)) (m (c.tc.loc main_arg3)) (i 0) (i 1) := by
  refine (dats m 0 c).arrAt_eq_of_covers 5 _ (by decide +kernel) fun t hf y => ?_
  have hN : t.val < 11 := lt_of_lt_of_eq t.isLt N_0
  blk_simp
  rw [after0_5]
  frame_out
  idx_vars y
  refine (point5 m c t y0 y1).trans (congrArg₂ _ (Fin.ext ?_) (Fin.ext ?_)) <;> blk_simp [idx t]

theorem final6 (c : Dev nD) : (dats m 0 c).arrAt 6 cfg0.N = fun i => firstAt (m (c.tc.loc main_arg0)) (m (c.tc.loc main_arg2)) (i 0) (i 1) := by
  refine (dats m 0 c).arrAt_eq_of_covers 6 _ (by decide +kernel) fun t hf y => ?_
  have hN : t.val < 11 := lt_of_lt_of_eq t.isLt N_0
  blk_simp
  rw [after0_6]
  frame_out
  idx_vars y
  refine (point6 m c t y0 y1).trans (congrArg₂ _ (Fin.ext ?_) (Fin.ext ?_)) <;> blk_simp [idx t]

theorem final7 (c : Dev nD) : (dats m 0 c).arrAt 7 cfg0.N = fun i => secondAt (m (c.tc.loc main_arg0)) (m (c.tc.loc main_arg3)) (i 0) (i 1) := by
  refine (dats m 0 c).arrAt_eq_of_covers 7 _ (by decide +kernel) fun t hf y => ?_
  have hN : t.val < 11 := lt_of_lt_of_eq t.isLt N_0
  blk_simp
  rw [after0_7]
  frame_out
  idx_vars y
  refine (point7 m c t y0 y1).trans (congrArg₂ _ (Fin.ext ?_) (Fin.ext ?_)) <;> blk_simp [idx t]

/-- The kernel's run: its results are the summed gradient, the step and the new moments, and it keeps its arguments. -/
theorem kernel_run : θ_run defs (onTc (τ := τ) (main (F := Ideal))) ⟨m, fun _ => 0, ρ⟩ fun r => ∀ c : Dev nD,
      r.2.mem (c.tc.loc main_v0_0) = (fun i => grad (m (c.tc.loc main_arg0)) (i 0) (i 1))
      ∧ r.2.mem (c.tc.loc main_v0_1) = (fun i => delta (m (c.tc.loc main_arg0)) (m (c.tc.loc main_arg1)) (m (c.tc.loc main_arg2)) (m (c.tc.loc main_arg3)) (i 0) (i 1))
      ∧ r.2.mem (c.tc.loc main_v0_2) = (fun i => firstAt (m (c.tc.loc main_arg0)) (m (c.tc.loc main_arg2)) (i 0) (i 1))
      ∧ r.2.mem (c.tc.loc main_v0_3) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c),
      (h c).2.2.1.trans (final6 m c), (h c).2.2.2.1.trans (final7 m c), (h c).2.2.2.2⟩)
    (Cert.AdamFfnIdeal.Value.run_blocks (F := Ideal) m ρ)

end kernel

/-! ## The reference -/

section reference
open Cert.AdamFfnRefIdeal Cert.AdamFfnRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v1) = (fun i => grad (m (c.tc.loc main_arg0)) (i 0) (i 1))
      ∧ r.2.mem (c.tc.loc main_v25) = (fun i => delta (m (c.tc.loc main_arg0)) (m (c.tc.loc main_arg1)) (m (c.tc.loc main_arg2)) (m (c.tc.loc main_arg3)) (i 0) (i 1))
      ∧ r.2.mem (c.tc.loc main_v6) = (fun i => firstAt (m (c.tc.loc main_arg0)) (m (c.tc.loc main_arg2)) (i 0) (i 1))
      ∧ r.2.mem (c.tc.loc main_v12) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_,
      (h c).2.2.2.1.trans ?_, (h c).2.2.2.2⟩) (Cert.AdamFfnRefIdeal.Value.run (F := Ideal) m ρ)
  · clear h; funext i; idx_vars i; clean_types; pointwise
    rfl
  · clear h; funext i; idx_vars i; clean_types; pointwise
    rfl
  · clear h; funext i; idx_vars i; clean_types; pointwise
    rfl
  · clear h; funext i; idx_vars i; clean_types; pointwise
    rfl

end reference

/-! ## The claims -/

/-- The reference runs to its end and keeps its arguments. -/
theorem frame_ref : Cert.quiescent_AdamFfnRefIdeal := fun m ρ _ =>
  (θ_run Cert.AdamFfnRefIdeal.defs _ _).mono (fun r h => ⟨fun c => (h c).2.2.2.2,
      Idealize.ShloMosaic.sem_eq_zero_of_no_sems (by decide) r.2⟩)
    (Cert.AdamFfnRefIdeal.Value.run (F := Ideal) m ρ)

/-- Kernel and reference end with equal results. -/
theorem algebraic : Cert.algebraic_AdamFfnIdeal_AdamFfnRefIdeal := by
  intro m g m' g' _ hargs
  refine ⟨_, _, _, _, kernel_run m g, ?_⟩
  refine (θ_run _ _ _).mono (fun r h c => ?_) (ref_run m' g')
  obtain ⟨a0, a1, a2, a3⟩ := hargs c
  obtain ⟨h0, h1, h2, h3, hk⟩ := h c
  rw [a0] at h0
  rw [a0, a1, a2, a3] at h1
  rw [a0, a2] at h2
  rw [a0, a3] at h3
  exact ⟨h0, h1, h2, h3, hk⟩

end Cert.AdamFfnProof

end
-- ==== Proof.AdamIn.lean ====
/-
AdamW's update of the slice of the transposed input projection that one device holds: four partial gradients of one device
are added up, and the moments and the step are computed from the sum, block of rows by block of rows.
-/
module

public import proofs.«01_k».proof.Proof.Gen.AdamInIdeal.Value
public import proofs.«01_k».proof.Proof.Gen.AdamInRefIdeal.Run
public import proofs.«01_k».proof.Proof.Adam
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.AdamInProof

/-- The summed gradient at row `r` and column `l`. -/
def grad (A0 : (⟨3, ![4, 1568, 2048]⟩ : Shape).Idx → EReal) (r : Fin 1568) (l : Fin 2048) : EReal := ∑ k : Fin 4, A0 (ix3 k r l)

/-- The step of the weight at row `r` and column `l`. -/
def delta (A0 : (⟨3, ![4, 1568, 2048]⟩ : Shape).Idx → EReal) (A1 A2 A3 : (⟨2, ![1568, 2048]⟩ : Shape).Idx → EReal) (r : Fin 1568) (l : Fin 2048) : EReal :=
  Adam.step (A1 (ix2 r l)) (Adam.first (A2 (ix2 r l)) (grad A0 r l)) (Adam.second (A3 (ix2 r l)) (grad A0 r l))

/-- The new first moment at row `r` and column `l`. -/
def firstAt (A0 : (⟨3, ![4, 1568, 2048]⟩ : Shape).Idx → EReal) (A2 : (⟨2, ![1568, 2048]⟩ : Shape).Idx → EReal)
    (r : Fin 1568) (l : Fin 2048) : EReal := Adam.first (A2 (ix2 r l)) (grad A0 r l)

/-- The new second moment at row `r` and column `l`. -/
def secondAt (A0 : (⟨3, ![4, 1568, 2048]⟩ : Shape).Idx → EReal) (A3 : (⟨2, ![1568, 2048]⟩ : Shape).Idx → EReal)
    (r : Fin 1568) (l : Fin 2048) : EReal := Adam.second (A3 (ix2 r l)) (grad A0 r l)

section kernel
open Cert.AdamInIdeal Cert.AdamInIdeal.Gen

variable (m : (ℓ : Loc nD τ sig) → Buf (Elt Ideal) ℓ) (ρ : Dev nD → PrngReg)

/-! ## What one block step computes -/

theorem grad_apply (x0 x1 x2 x3 : Vec Ideal S1x112x2048 .bf16) (r : Fin 112) (l : Fin 2048) :
    k0_pay2 x0 x1 x2 x3 (ix2 r l) = x0 (ix3 0 r l) + x1 (ix3 0 r l) + x2 (ix3 0 r l) + x3 (ix3 0 r l) := by
  pointwise [k0_pay2]

theorem first_apply (x0 x1 x2 x3 : Vec Ideal S1x112x2048 .bf16) (y : Vec Ideal S112x2048 .f32) (r : Fin 112) (l : Fin 2048) :
    k0_pay3 x0 x1 x2 x3 y (ix2 r l) = Adam.first (y (ix2 r l)) (k0_pay2 x0 x1 x2 x3 (ix2 r l)) := by
  unfold k0_pay3
  generalize k0_pay2 x0 x1 x2 x3 = g
  pointwise
  rfl

theorem second_apply (x0 x1 x2 x3 : Vec Ideal S1x112x2048 .bf16) (y : Vec Ideal S112x2048 .f32) (r : Fin 112) (l : Fin 2048) :
    k0_pay4 x0 x1 x2 x3 y (ix2 r l) = Adam.second (y (ix2 r l)) (k0_pay2 x0 x1 x2 x3 (ix2 r l)) := by
  unfold k0_pay4
  generalize k0_pay2 x0 x1 x2 x3 = g
  pointwise
  rfl

theorem step_apply (x0 x1 x2 x3 : Vec Ideal S1x112x2048 .bf16) (y v w : Vec Ideal S112x2048 .f32) (r : Fin 112) (l : Fin 2048) :
    k0_pay1 w (k0_pay5 x0 x1 x2 x3 y) (k0_pay6 x0 x1 x2 x3 v) (Scalar.ofBits .f32 0x322BCC77#32) (ix2 r l)
      = Adam.step (w (ix2 r l)) (k0_pay3 x0 x1 x2 x3 y (ix2 r l)) (k0_pay4 x0 x1 x2 x3 v (ix2 r l)) := by
  unfold k0_pay1 k0_pay5 k0_pay6
  generalize k0_pay3 x0 x1 x2 x3 y = a
  generalize k0_pay4 x0 x1 x2 x3 v = b
  pointwise
  rfl

/-! ## The blocks of each grid point -/

theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem blk0 (c : Dev nD) (t : Fin cfg0.N) (k : Fin 4) (r : Fin 112) (l : Fin 2048) :
    iblk m c 0 t (ix3 k r l) = m (c.tc.loc main_arg0) (ix3 k ⟨t.val * 112 + r.val, by have := lt_of_lt_of_eq t.isLt N_0; omega⟩ l) := by
  blk_ext [iblk, V, idx t]

theorem blk1 (c : Dev nD) (t : Fin cfg0.N) (r : Fin 112) (l : Fin 2048) :
    iblk m c 1 t (ix2 r l) = m (c.tc.loc main_arg1) (ix2 ⟨t.val * 112 + r.val, by have := lt_of_lt_of_eq t.isLt N_0; omega⟩ l) := by
  blk_ext [iblk, V, idx t]

theorem blk2 (c : Dev nD) (t : Fin cfg0.N) (r : Fin 112) (l : Fin 2048) :
    iblk m c 2 t (ix2 r l) = m (c.tc.loc main_arg2) (ix2 ⟨t.val * 112 + r.val, by have := lt_of_lt_of_eq t.isLt N_0; omega⟩ l) := by
  blk_ext [iblk, V, idx t]

theorem blk3 (c : Dev nD) (t : Fin cfg0.N) (r : Fin 112) (l : Fin 2048) :
    iblk m c 3 t (ix2 r l) = m (c.tc.loc main_arg3) (ix2 ⟨t.val * 112 + r.val, by have := lt_of_lt_of_eq t.isLt N_0; omega⟩ l) := by
  blk_ext [iblk, V, idx t]

theorem slab0 (c : Dev nD) (t : Fin cfg0.N) (r : Fin 112) (l : Fin 2048) :
    View.ld (iblk m c 0 t) r0_0 (ix3 0 r l) = m (c.tc.loc main_arg0) (ix3 0 ⟨t.val * 112 + r.val, by have := lt_of_lt_of_eq t.isLt N_0; omega⟩ l) := by
  rw [← blk0 m c t 0 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab1 (c : Dev nD) (t : Fin cfg0.N) (r : Fin 112) (l : Fin 2048) :
    View.ld (iblk m c 0 t) r0_1 (ix3 0 r l) = m (c.tc.loc main_arg0) (ix3 1 ⟨t.val * 112 + r.val, by have := lt_of_lt_of_eq t.isLt N_0; omega⟩ l) := by
  rw [← blk0 m c t 1 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab2 (c : Dev nD) (t : Fin cfg0.N) (r : Fin 112) (l : Fin 2048) :
    View.ld (iblk m c 0 t) r0_2 (ix3 0 r l) = m (c.tc.loc main_arg0) (ix3 2 ⟨t.val * 112 + r.val, by have := lt_of_lt_of_eq t.isLt N_0; omega⟩ l) := by
  rw [← blk0 m c t 2 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab3 (c : Dev nD) (t : Fin cfg0.N) (r : Fin 112) (l : Fin 2048) :
    View.ld (iblk m c 0 t) r0_3 (ix3 0 r l) = m (c.tc.loc main_arg0) (ix3 3 ⟨t.val * 112 + r.val, by have := lt_of_lt_of_eq t.isLt N_0; omega⟩ l) := by
  rw [← blk0 m c t 3 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

/-! ## The results -/

theorem point4 (c : Dev nD) (t : Fin cfg0.N) (r : Fin 112) (l : Fin 2048) :
    k0_pay2 (F := Ideal) (View.ld (iblk m c 0 t) r0_0) (View.ld (iblk m c 0 t) r0_1) (View.ld (iblk m c 0 t) r0_2) (View.ld (iblk m c 0 t) r0_3) (ix2 r l) = grad (m (c.tc.loc main_arg0)) ⟨t.val * 112 + r.val, by have := lt_of_lt_of_eq t.isLt N_0; omega⟩ l := by
  rw [grad_apply, slab0 m c t r l, slab1 m c t r l, slab2 m c t r l, slab3 m c t r l]
  unfold grad
  rw [Fin.sum_univ_four]

theorem point6 (c : Dev nD) (t : Fin cfg0.N) (r : Fin 112) (l : Fin 2048) :
    k0_pay3 (F := Ideal) (View.ld (iblk m c 0 t) r0_0) (View.ld (iblk m c 0 t) r0_1) (View.ld (iblk m c 0 t) r0_2) (View.ld (iblk m c 0 t) r0_3) (iblk m c 2 t) (ix2 r l) = firstAt (m (c.tc.loc main_arg0)) (m (c.tc.loc main_arg2)) ⟨t.val * 112 + r.val, by have := lt_of_lt_of_eq t.isLt N_0; omega⟩ l := by
  rw [first_apply, point4 m c t r l, blk2 m c t r l]
  rfl

theorem point7 (c : Dev nD) (t : Fin cfg0.N) (r : Fin 112) (l : Fin 2048) :
    k0_pay4 (F := Ideal) (View.ld (iblk m c 0 t) r0_0) (View.ld (iblk m c 0 t) r0_1) (View.ld (iblk m c 0 t) r0_2) (View.ld (iblk m c 0 t) r0_3) (iblk m c 3 t) (ix2 r l) = secondAt (m (c.tc.loc main_arg0)) (m (c.tc.loc main_arg3)) ⟨t.val * 112 + r.val, by have := lt_of_lt_of_eq t.isLt N_0; omega⟩ l := by
  rw [second_apply, point4 m c t r l, blk3 m c t r l]
  rfl

theorem point5 (c : Dev nD) (t : Fin cfg0.N) (r : Fin 112) (l : Fin 2048) :
    k0_pay1 (F := Ideal) (iblk m c 1 t) (k0_pay5 (View.ld (iblk m c 0 t) r0_0) (View.ld (iblk m c 0 t) r0_1) (View.ld (iblk m c 0 t) r0_2) (View.ld (iblk m c 0 t) r0_3) (iblk m c 2 t)) (k0_pay6 (View.ld (iblk m c 0 t) r0_0) (View.ld (iblk m c 0 t) r0_1) (View.ld (iblk m c 0 t) r0_2) (View.ld (iblk m c 0 t) r0_3) (iblk m c 3 t)) (Scalar.ofBits .f32 0x322BCC77#32) (ix2 r l) = delta (m (c.tc.loc main_arg0)) (m (c.tc.loc main_arg1)) (m (c.tc.loc main_arg2)) (m (c.tc.loc main_arg3)) ⟨t.val * 112 + r.val, by have := lt_of_lt_of_eq t.isLt N_0; omega⟩ l := by
  rw [step_apply, point6 m c t r l, point7 m c t r l, blk1 m c t r l]
  rfl

theorem final4 (c : Dev nD) : (dats m 0 c).arrAt 4 cfg0.N = fun i => grad (m (c.tc.loc main_arg0)) (i 0) (i 1) := by
  refine (dats m 0 c).arrAt_eq_of_covers 4 _ (by decide +kernel) fun t hf y => ?_
  have hN : t.val < 14 := lt_of_lt_of_eq t.isLt N_0
  blk_simp
  rw [after0_4]
  frame_out
  idx_vars y
  refine (point4 m c t y0 y1).trans (congrArg₂ _ (Fin.ext ?_) (Fin.ext ?_)) <;> blk_simp [idx t]

theorem final5 (c : Dev nD) : (dats m 0 c).arrAt 5 cfg0.N = fun i => delta (m (c.tc.loc main_arg0)) (m (c.tc.loc main_arg1)) (m (c.tc.loc main_arg2)) (m (c.tc.loc main_arg3)) (i 0) (i 1) := by
  refine (dats m 0 c).arrAt_eq_of_covers 5 _ (by decide +kernel) fun t hf y => ?_
  have hN : t.val < 14 := lt_of_lt_of_eq t.isLt N_0
  blk_simp
  rw [after0_5]
  frame_out
  idx_vars y
  refine (point5 m c t y0 y1).trans (congrArg₂ _ (Fin.ext ?_) (Fin.ext ?_)) <;> blk_simp [idx t]

theorem final6 (c : Dev nD) : (dats m 0 c).arrAt 6 cfg0.N = fun i => firstAt (m (c.tc.loc main_arg0)) (m (c.tc.loc main_arg2)) (i 0) (i 1) := by
  refine (dats m 0 c).arrAt_eq_of_covers 6 _ (by decide +kernel) fun t hf y => ?_
  have hN : t.val < 14 := lt_of_lt_of_eq t.isLt N_0
  blk_simp
  rw [after0_6]
  frame_out
  idx_vars y
  refine (point6 m c t y0 y1).trans (congrArg₂ _ (Fin.ext ?_) (Fin.ext ?_)) <;> blk_simp [idx t]

theorem final7 (c : Dev nD) : (dats m 0 c).arrAt 7 cfg0.N = fun i => secondAt (m (c.tc.loc main_arg0)) (m (c.tc.loc main_arg3)) (i 0) (i 1) := by
  refine (dats m 0 c).arrAt_eq_of_covers 7 _ (by decide +kernel) fun t hf y => ?_
  have hN : t.val < 14 := lt_of_lt_of_eq t.isLt N_0
  blk_simp
  rw [after0_7]
  frame_out
  idx_vars y
  refine (point7 m c t y0 y1).trans (congrArg₂ _ (Fin.ext ?_) (Fin.ext ?_)) <;> blk_simp [idx t]

/-- The kernel's run: its results are the summed gradient, the step and the new moments, and it keeps its arguments. -/
theorem kernel_run : θ_run defs (onTc (τ := τ) (main (F := Ideal))) ⟨m, fun _ => 0, ρ⟩ fun r => ∀ c : Dev nD,
      r.2.mem (c.tc.loc main_v0_0) = (fun i => grad (m (c.tc.loc main_arg0)) (i 0) (i 1))
      ∧ r.2.mem (c.tc.loc main_v0_1) = (fun i => delta (m (c.tc.loc main_arg0)) (m (c.tc.loc main_arg1)) (m (c.tc.loc main_arg2)) (m (c.tc.loc main_arg3)) (i 0) (i 1))
      ∧ r.2.mem (c.tc.loc main_v0_2) = (fun i => firstAt (m (c.tc.loc main_arg0)) (m (c.tc.loc main_arg2)) (i 0) (i 1))
      ∧ r.2.mem (c.tc.loc main_v0_3) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c),
      (h c).2.2.1.trans (final6 m c), (h c).2.2.2.1.trans (final7 m c), (h c).2.2.2.2⟩)
    (Cert.AdamInIdeal.Value.run_blocks (F := Ideal) m ρ)

end kernel

/-! ## The reference -/

section reference
open Cert.AdamInRefIdeal Cert.AdamInRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v1) = (fun i => grad (m (c.tc.loc main_arg0)) (i 0) (i 1))
      ∧ r.2.mem (c.tc.loc main_v25) = (fun i => delta (m (c.tc.loc main_arg0)) (m (c.tc.loc main_arg1)) (m (c.tc.loc main_arg2)) (m (c.tc.loc main_arg3)) (i 0) (i 1))
      ∧ r.2.mem (c.tc.loc main_v6) = (fun i => firstAt (m (c.tc.loc main_arg0)) (m (c.tc.loc main_arg2)) (i 0) (i 1))
      ∧ r.2.mem (c.tc.loc main_v12) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_,
      (h c).2.2.2.1.trans ?_, (h c).2.2.2.2⟩) (Cert.AdamInRefIdeal.Value.run (F := Ideal) m ρ)
  · clear h; funext i; idx_vars i; clean_types; pointwise
    rfl
  · clear h; funext i; idx_vars i; clean_types; pointwise
    rfl
  · clear h; funext i; idx_vars i; clean_types; pointwise
    rfl
  · clear h; funext i; idx_vars i; clean_types; pointwise
    rfl

end reference

/-! ## The claims -/

/-- The reference runs to its end and keeps its arguments. -/
theorem frame_ref : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

/-- Kernel and reference end with equal results. -/
theorem algebraic : Cert.algebraic_AdamInIdeal_AdamInRefIdeal := by
  intro m g m' g' _ hargs
  refine ⟨_, _, _, _, kernel_run m g, ?_⟩
  refine (θ_run _ _ _).mono (fun r h c => ?_) (ref_run m' g')
  obtain ⟨a0, a1, a2, a3⟩ := hargs c
  obtain ⟨h0, h1, h2, h3, hk⟩ := h c
  rw [a0] at h0
  rw [a0, a1, a2, a3] at h1
  rw [a0, a2] at h2
  rw [a0, a3] at h3
  exact ⟨h0, h1, h2, h3, hk⟩

end Cert.AdamInProof

end
-- ==== Proof.AdamOut.lean ====
/-
AdamW's update of the slice of the output projection that one device holds: four partial gradients of one device
are added up, and the moments and the step are computed from the sum, block of rows by block of rows.
-/
module

public import proofs.«01_k».proof.Proof.Gen.AdamOutIdeal.Value
public import proofs.«01_k».proof.Proof.Gen.AdamOutRefIdeal.Run
public import proofs.«01_k».proof.Proof.Adam
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.AdamOutProof

/-- The summed gradient at row `r` and column `l`. -/
def grad (A0 : (⟨3, ![4, 512, 2048]⟩ : Shape).Idx → EReal) (r : Fin 512) (l : Fin 2048) : EReal := ∑ k : Fin 4, A0 (ix3 k r l)

/-- The step of the weight at row `r` and column `l`. -/
def delta (A0 : (⟨3, ![4, 512, 2048]⟩ : Shape).Idx → EReal) (A1 A2 A3 : (⟨2, ![512, 2048]⟩ : Shape).Idx → EReal) (r : Fin 512) (l : Fin 2048) : EReal :=
  Adam.step (A1 (ix2 r l)) (Adam.first (A2 (ix2 r l)) (grad A0 r l)) (Adam.second (A3 (ix2 r l)) (grad A0 r l))

/-- The new first moment at row `r` and column `l`. -/
def firstAt (A0 : (⟨3, ![4, 512, 2048]⟩ : Shape).Idx → EReal) (A2 : (⟨2, ![512, 2048]⟩ : Shape).Idx → EReal)
    (r : Fin 512) (l : Fin 2048) : EReal := Adam.first (A2 (ix2 r l)) (grad A0 r l)

/-- The new second moment at row `r` and column `l`. -/
def secondAt (A0 : (⟨3, ![4, 512, 2048]⟩ : Shape).Idx → EReal) (A3 : (⟨2, ![512, 2048]⟩ : Shape).Idx → EReal)
    (r : Fin 512) (l : Fin 2048) : EReal := Adam.second (A3 (ix2 r l)) (grad A0 r l)

section kernel
open Cert.AdamOutIdeal Cert.AdamOutIdeal.Gen

variable (m : (ℓ : Loc nD τ sig) → Buf (Elt Ideal) ℓ) (ρ : Dev nD → PrngReg)

/-! ## What one block step computes -/

theorem grad_apply (x0 x1 x2 x3 : Vec Ideal S1x128x2048 .bf16) (r : Fin 128) (l : Fin 2048) :
    k0_pay2 x0 x1 x2 x3 (ix2 r l) = x0 (ix3 0 r l) + x1 (ix3 0 r l) + x2 (ix3 0 r l) + x3 (ix3 0 r l) := by
  pointwise [k0_pay2]

theorem first_apply (x0 x1 x2 x3 : Vec Ideal S1x128x2048 .bf16) (y : Vec Ideal S128x2048 .f32) (r : Fin 128) (l : Fin 2048) :
    k0_pay3 x0 x1 x2 x3 y (ix2 r l) = Adam.first (y (ix2 r l)) (k0_pay2 x0 x1 x2 x3 (ix2 r l)) := by
  unfold k0_pay3
  generalize k0_pay2 x0 x1 x2 x3 = g
  pointwise
  rfl

theorem second_apply (x0 x1 x2 x3 : Vec Ideal S1x128x2048 .bf16) (y : Vec Ideal S128x2048 .f32) (r : Fin 128) (l : Fin 2048) :
    k0_pay4 x0 x1 x2 x3 y (ix2 r l) = Adam.second (y (ix2 r l)) (k0_pay2 x0 x1 x2 x3 (ix2 r l)) := by
  unfold k0_pay4
  generalize k0_pay2 x0 x1 x2 x3 = g
  pointwise
  rfl

theorem step_apply (x0 x1 x2 x3 : Vec Ideal S1x128x2048 .bf16) (y v w : Vec Ideal S128x2048 .f32) (r : Fin 128) (l : Fin 2048) :
    k0_pay1 w (k0_pay5 x0 x1 x2 x3 y) (k0_pay6 x0 x1 x2 x3 v) (Scalar.ofBits .f32 0x322BCC77#32) (ix2 r l)
      = Adam.step (w (ix2 r l)) (k0_pay3 x0 x1 x2 x3 y (ix2 r l)) (k0_pay4 x0 x1 x2 x3 v (ix2 r l)) := by
  unfold k0_pay1 k0_pay5 k0_pay6
  generalize k0_pay3 x0 x1 x2 x3 y = a
  generalize k0_pay4 x0 x1 x2 x3 v = b
  pointwise
  rfl

/-! ## The blocks of each grid point -/

theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem blk0 (c : Dev nD) (t : Fin cfg0.N) (k : Fin 4) (r : Fin 128) (l : Fin 2048) :
    iblk m c 0 t (ix3 k r l) = m (c.tc.loc main_arg0) (ix3 k ⟨t.val * 128 + r.val, by have := lt_of_lt_of_eq t.isLt N_0; omega⟩ l) := by
  blk_ext [iblk, V, idx t]

theorem blk1 (c : Dev nD) (t : Fin cfg0.N) (r : Fin 128) (l : Fin 2048) :
    iblk m c 1 t (ix2 r l) = m (c.tc.loc main_arg1) (ix2 ⟨t.val * 128 + r.val, by have := lt_of_lt_of_eq t.isLt N_0; omega⟩ l) := by
  blk_ext [iblk, V, idx t]

theorem blk2 (c : Dev nD) (t : Fin cfg0.N) (r : Fin 128) (l : Fin 2048) :
    iblk m c 2 t (ix2 r l) = m (c.tc.loc main_arg2) (ix2 ⟨t.val * 128 + r.val, by have := lt_of_lt_of_eq t.isLt N_0; omega⟩ l) := by
  blk_ext [iblk, V, idx t]

theorem blk3 (c : Dev nD) (t : Fin cfg0.N) (r : Fin 128) (l : Fin 2048) :
    iblk m c 3 t (ix2 r l) = m (c.tc.loc main_arg3) (ix2 ⟨t.val * 128 + r.val, by have := lt_of_lt_of_eq t.isLt N_0; omega⟩ l) := by
  blk_ext [iblk, V, idx t]

theorem slab0 (c : Dev nD) (t : Fin cfg0.N) (r : Fin 128) (l : Fin 2048) :
    View.ld (iblk m c 0 t) r0_0 (ix3 0 r l) = m (c.tc.loc main_arg0) (ix3 0 ⟨t.val * 128 + r.val, by have := lt_of_lt_of_eq t.isLt N_0; omega⟩ l) := by
  rw [← blk0 m c t 0 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab1 (c : Dev nD) (t : Fin cfg0.N) (r : Fin 128) (l : Fin 2048) :
    View.ld (iblk m c 0 t) r0_1 (ix3 0 r l) = m (c.tc.loc main_arg0) (ix3 1 ⟨t.val * 128 + r.val, by have := lt_of_lt_of_eq t.isLt N_0; omega⟩ l) := by
  rw [← blk0 m c t 1 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab2 (c : Dev nD) (t : Fin cfg0.N) (r : Fin 128) (l : Fin 2048) :
    View.ld (iblk m c 0 t) r0_2 (ix3 0 r l) = m (c.tc.loc main_arg0) (ix3 2 ⟨t.val * 128 + r.val, by have := lt_of_lt_of_eq t.isLt N_0; omega⟩ l) := by
  rw [← blk0 m c t 2 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab3 (c : Dev nD) (t : Fin cfg0.N) (r : Fin 128) (l : Fin 2048) :
    View.ld (iblk m c 0 t) r0_3 (ix3 0 r l) = m (c.tc.loc main_arg0) (ix3 3 ⟨t.val * 128 + r.val, by have := lt_of_lt_of_eq t.isLt N_0; omega⟩ l) := by
  rw [← blk0 m c t 3 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

/-! ## The results -/

theorem point4 (c : Dev nD) (t : Fin cfg0.N) (r : Fin 128) (l : Fin 2048) :
    k0_pay2 (F := Ideal) (View.ld (iblk m c 0 t) r0_0) (View.ld (iblk m c 0 t) r0_1) (View.ld (iblk m c 0 t) r0_2) (View.ld (iblk m c 0 t) r0_3) (ix2 r l) = grad (m (c.tc.loc main_arg0)) ⟨t.val * 128 + r.val, by have := lt_of_lt_of_eq t.isLt N_0; omega⟩ l := by
  rw [grad_apply, slab0 m c t r l, slab1 m c t r l, slab2 m c t r l, slab3 m c t r l]
  unfold grad
  rw [Fin.sum_univ_four]

theorem point6 (c : Dev nD) (t : Fin cfg0.N) (r : Fin 128) (l : Fin 2048) :
    k0_pay3 (F := Ideal) (View.ld (iblk m c 0 t) r0_0) (View.ld (iblk m c 0 t) r0_1) (View.ld (iblk m c 0 t) r0_2) (View.ld (iblk m c 0 t) r0_3) (iblk m c 2 t) (ix2 r l) = firstAt (m (c.tc.loc main_arg0)) (m (c.tc.loc main_arg2)) ⟨t.val * 128 + r.val, by have := lt_of_lt_of_eq t.isLt N_0; omega⟩ l := by
  rw [first_apply, point4 m c t r l, blk2 m c t r l]
  rfl

theorem point7 (c : Dev nD) (t : Fin cfg0.N) (r : Fin 128) (l : Fin 2048) :
    k0_pay4 (F := Ideal) (View.ld (iblk m c 0 t) r0_0) (View.ld (iblk m c 0 t) r0_1) (View.ld (iblk m c 0 t) r0_2) (View.ld (iblk m c 0 t) r0_3) (iblk m c 3 t) (ix2 r l) = secondAt (m (c.tc.loc main_arg0)) (m (c.tc.loc main_arg3)) ⟨t.val * 128 + r.val, by have := lt_of_lt_of_eq t.isLt N_0; omega⟩ l := by
  rw [second_apply, point4 m c t r l, blk3 m c t r l]
  rfl

theorem point5 (c : Dev nD) (t : Fin cfg0.N) (r : Fin 128) (l : Fin 2048) :
    k0_pay1 (F := Ideal) (iblk m c 1 t) (k0_pay5 (View.ld (iblk m c 0 t) r0_0) (View.ld (iblk m c 0 t) r0_1) (View.ld (iblk m c 0 t) r0_2) (View.ld (iblk m c 0 t) r0_3) (iblk m c 2 t)) (k0_pay6 (View.ld (iblk m c 0 t) r0_0) (View.ld (iblk m c 0 t) r0_1) (View.ld (iblk m c 0 t) r0_2) (View.ld (iblk m c 0 t) r0_3) (iblk m c 3 t)) (Scalar.ofBits .f32 0x322BCC77#32) (ix2 r l) = delta (m (c.tc.loc main_arg0)) (m (c.tc.loc main_arg1)) (m (c.tc.loc main_arg2)) (m (c.tc.loc main_arg3)) ⟨t.val * 128 + r.val, by have := lt_of_lt_of_eq t.isLt N_0; omega⟩ l := by
  rw [step_apply, point6 m c t r l, point7 m c t r l, blk1 m c t r l]
  rfl

theorem final4 (c : Dev nD) : (dats m 0 c).arrAt 4 cfg0.N = fun i => grad (m (c.tc.loc main_arg0)) (i 0) (i 1) := by
  refine (dats m 0 c).arrAt_eq_of_covers 4 _ (by decide +kernel) fun t hf y => ?_
  have hN : t.val < 4 := lt_of_lt_of_eq t.isLt N_0
  blk_simp
  rw [after0_4]
  frame_out
  idx_vars y
  refine (point4 m c t y0 y1).trans (congrArg₂ _ (Fin.ext ?_) (Fin.ext ?_)) <;> blk_simp [idx t]

theorem final5 (c : Dev nD) : (dats m 0 c).arrAt 5 cfg0.N = fun i => delta (m (c.tc.loc main_arg0)) (m (c.tc.loc main_arg1)) (m (c.tc.loc main_arg2)) (m (c.tc.loc main_arg3)) (i 0) (i 1) := by
  refine (dats m 0 c).arrAt_eq_of_covers 5 _ (by decide +kernel) fun t hf y => ?_
  have hN : t.val < 4 := lt_of_lt_of_eq t.isLt N_0
  blk_simp
  rw [after0_5]
  frame_out
  idx_vars y
  refine (point5 m c t y0 y1).trans (congrArg₂ _ (Fin.ext ?_) (Fin.ext ?_)) <;> blk_simp [idx t]

theorem final6 (c : Dev nD) : (dats m 0 c).arrAt 6 cfg0.N = fun i => firstAt (m (c.tc.loc main_arg0)) (m (c.tc.loc main_arg2)) (i 0) (i 1) := by
  refine (dats m 0 c).arrAt_eq_of_covers 6 _ (by decide +kernel) fun t hf y => ?_
  have hN : t.val < 4 := lt_of_lt_of_eq t.isLt N_0
  blk_simp
  rw [after0_6]
  frame_out
  idx_vars y
  refine (point6 m c t y0 y1).trans (congrArg₂ _ (Fin.ext ?_) (Fin.ext ?_)) <;> blk_simp [idx t]

theorem final7 (c : Dev nD) : (dats m 0 c).arrAt 7 cfg0.N = fun i => secondAt (m (c.tc.loc main_arg0)) (m (c.tc.loc main_arg3)) (i 0) (i 1) := by
  refine (dats m 0 c).arrAt_eq_of_covers 7 _ (by decide +kernel) fun t hf y => ?_
  have hN : t.val < 4 := lt_of_lt_of_eq t.isLt N_0
  blk_simp
  rw [after0_7]
  frame_out
  idx_vars y
  refine (point7 m c t y0 y1).trans (congrArg₂ _ (Fin.ext ?_) (Fin.ext ?_)) <;> blk_simp [idx t]

/-- The kernel's run: its results are the summed gradient, the step and the new moments, and it keeps its arguments. -/
theorem kernel_run : θ_run defs (onTc (τ := τ) (main (F := Ideal))) ⟨m, fun _ => 0, ρ⟩ fun r => ∀ c : Dev nD,
      r.2.mem (c.tc.loc main_v0_0) = (fun i => grad (m (c.tc.loc main_arg0)) (i 0) (i 1))
      ∧ r.2.mem (c.tc.loc main_v0_1) = (fun i => delta (m (c.tc.loc main_arg0)) (m (c.tc.loc main_arg1)) (m (c.tc.loc main_arg2)) (m (c.tc.loc main_arg3)) (i 0) (i 1))
      ∧ r.2.mem (c.tc.loc main_v0_2) = (fun i => firstAt (m (c.tc.loc main_arg0)) (m (c.tc.loc main_arg2)) (i 0) (i 1))
      ∧ r.2.mem (c.tc.loc main_v0_3) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c),
      (h c).2.2.1.trans (final6 m c), (h c).2.2.2.1.trans (final7 m c), (h c).2.2.2.2⟩)
    (Cert.AdamOutIdeal.Value.run_blocks (F := Ideal) m ρ)

end kernel

/-! ## The reference -/

section reference
open Cert.AdamOutRefIdeal Cert.AdamOutRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v1) = (fun i => grad (m (c.tc.loc main_arg0)) (i 0) (i 1))
      ∧ r.2.mem (c.tc.loc main_v25) = (fun i => delta (m (c.tc.loc main_arg0)) (m (c.tc.loc main_arg1)) (m (c.tc.loc main_arg2)) (m (c.tc.loc main_arg3)) (i 0) (i 1))
      ∧ r.2.mem (c.tc.loc main_v6) = (fun i => firstAt (m (c.tc.loc main_arg0)) (m (c.tc.loc main_arg2)) (i 0) (i 1))
      ∧ r.2.mem (c.tc.loc main_v12) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_,
      (h c).2.2.2.1.trans ?_, (h c).2.2.2.2⟩) (Cert.AdamOutRefIdeal.Value.run (F := Ideal) m ρ)
  · clear h; funext i; idx_vars i; clean_types; pointwise
    rfl
  · clear h; funext i; idx_vars i; clean_types; pointwise
    rfl
  · clear h; funext i; idx_vars i; clean_types; pointwise
    rfl
  · clear h; funext i; idx_vars i; clean_types; pointwise
    rfl

end reference

/-! ## The claims -/

/-- The reference runs to its end and keeps its arguments. -/
theorem frame_ref : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

/-- Kernel and reference end with equal results. -/
theorem algebraic : Cert.algebraic_AdamOutIdeal_AdamOutRefIdeal := by
  intro m g m' g' _ hargs
  refine ⟨_, _, _, _, kernel_run m g, ?_⟩
  refine (θ_run _ _ _).mono (fun r h c => ?_) (ref_run m' g')
  obtain ⟨a0, a1, a2, a3⟩ := hargs c
  obtain ⟨h0, h1, h2, h3, hk⟩ := h c
  rw [a0] at h0
  rw [a0, a1, a2, a3] at h1
  rw [a0, a2] at h2
  rw [a0, a3] at h3
  exact ⟨h0, h1, h2, h3, hk⟩

end Cert.AdamOutProof

end
-- ==== Proof.AdamSmall.lean ====
/-
AdamW's update of the small parameters, packed as rows of one array: eight partial gradients of one device
are added up, and the moments and the step are computed from the sum, block of rows by block of rows.
-/
module

public import proofs.«01_k».proof.Proof.Gen.AdamSmallIdeal.Value
public import proofs.«01_k».proof.Proof.Gen.AdamSmallRefIdeal.Run
public import proofs.«01_k».proof.Proof.Adam
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.AdamSmallProof

/-- The summed gradient at row `r` and column `l`. -/
def grad (A0 : (⟨3, ![8, 16, 4096]⟩ : Shape).Idx → EReal) (r : Fin 16) (l : Fin 4096) : EReal := ∑ k : Fin 8, A0 (ix3 k r l)

/-- The step of the weight at row `r` and column `l`. -/
def delta (A0 : (⟨3, ![8, 16, 4096]⟩ : Shape).Idx → EReal) (A1 A2 A3 : (⟨2, ![16, 4096]⟩ : Shape).Idx → EReal) (r : Fin 16) (l : Fin 4096) : EReal :=
  Adam.step (A1 (ix2 r l)) (Adam.first (A2 (ix2 r l)) (grad A0 r l)) (Adam.second (A3 (ix2 r l)) (grad A0 r l))

/-- The new first moment at row `r` and column `l`. -/
def firstAt (A0 : (⟨3, ![8, 16, 4096]⟩ : Shape).Idx → EReal) (A2 : (⟨2, ![16, 4096]⟩ : Shape).Idx → EReal)
    (r : Fin 16) (l : Fin 4096) : EReal := Adam.first (A2 (ix2 r l)) (grad A0 r l)

/-- The new second moment at row `r` and column `l`. -/
def secondAt (A0 : (⟨3, ![8, 16, 4096]⟩ : Shape).Idx → EReal) (A3 : (⟨2, ![16, 4096]⟩ : Shape).Idx → EReal)
    (r : Fin 16) (l : Fin 4096) : EReal := Adam.second (A3 (ix2 r l)) (grad A0 r l)

section kernel
open Cert.AdamSmallIdeal Cert.AdamSmallIdeal.Gen

variable (m : (ℓ : Loc nD τ sig) → Buf (Elt Ideal) ℓ) (ρ : Dev nD → PrngReg)

/-! ## What one block step computes -/

theorem grad_apply (x0 x1 x2 x3 x4 x5 x6 x7 : Vec Ideal S1x16x4096 .f32) (r : Fin 16) (l : Fin 4096) :
    k0_pay4 x0 x1 x2 x3 x4 x5 x6 x7 (ix2 r l) = x0 (ix3 0 r l) + x1 (ix3 0 r l) + x2 (ix3 0 r l) + x3 (ix3 0 r l) + x4 (ix3 0 r l) + x5 (ix3 0 r l) + x6 (ix3 0 r l) + x7 (ix3 0 r l) := by
  pointwise [k0_pay4]

theorem first_apply (g y : Vec Ideal S16x4096 .f32) (r : Fin 16) (l : Fin 4096) :
    k0_pay1 g (k0_pay5 y) (ix2 r l) = Adam.first (y (ix2 r l)) (g (ix2 r l)) := by
  pointwise [k0_pay1, k0_pay5]
  rfl

theorem second_apply (g y : Vec Ideal S16x4096 .f32) (r : Fin 16) (l : Fin 4096) :
    k0_pay2 g y (ix2 r l) = Adam.second (y (ix2 r l)) (g (ix2 r l)) := by
  pointwise [k0_pay2]
  rfl

theorem step_apply (g w v z : Vec Ideal S16x4096 .f32) (r : Fin 16) (l : Fin 4096) :
    k0_pay3 g w v z (ix2 r l) = Adam.step (w (ix2 r l)) ((k0_pay1 (F := Ideal) g z : Vec Ideal S16x4096 .f32) (ix2 r l)) ((k0_pay2 g v : Vec Ideal S16x4096 .f32) (ix2 r l)) := by
  unfold k0_pay3
  generalize (k0_pay1 (F := Ideal) g z : Vec Ideal S16x4096 .f32) = a
  generalize k0_pay2 g v = b
  pointwise
  rfl

/-! ## The blocks of each grid point -/

theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem blk0 (c : Dev nD) (t : Fin cfg0.N) (k : Fin 8) (r : Fin 16) (l : Fin 4096) :
    iblk m c 0 t (ix3 k r l) = m (c.tc.loc main_arg0) (ix3 k ⟨t.val * 16 + r.val, by have := lt_of_lt_of_eq t.isLt N_0; omega⟩ l) := by
  blk_ext [iblk, V, idx t]

theorem blk1 (c : Dev nD) (t : Fin cfg0.N) (r : Fin 16) (l : Fin 4096) :
    iblk m c 1 t (ix2 r l) = m (c.tc.loc main_arg1) (ix2 ⟨t.val * 16 + r.val, by have := lt_of_lt_of_eq t.isLt N_0; omega⟩ l) := by
  blk_ext [iblk, V, idx t]

theorem blk2 (c : Dev nD) (t : Fin cfg0.N) (r : Fin 16) (l : Fin 4096) :
    iblk m c 2 t (ix2 r l) = m (c.tc.loc main_arg2) (ix2 ⟨t.val * 16 + r.val, by have := lt_of_lt_of_eq t.isLt N_0; omega⟩ l) := by
  blk_ext [iblk, V, idx t]

theorem blk3 (c : Dev nD) (t : Fin cfg0.N) (r : Fin 16) (l : Fin 4096) :
    iblk m c 3 t (ix2 r l) = m (c.tc.loc main_arg3) (ix2 ⟨t.val * 16 + r.val, by have := lt_of_lt_of_eq t.isLt N_0; omega⟩ l) := by
  blk_ext [iblk, V, idx t]

theorem slab0 (c : Dev nD) (t : Fin cfg0.N) (r : Fin 16) (l : Fin 4096) :
    View.ld (iblk m c 0 t) r0_0 (ix3 0 r l) = m (c.tc.loc main_arg0) (ix3 0 ⟨t.val * 16 + r.val, by have := lt_of_lt_of_eq t.isLt N_0; omega⟩ l) := by
  rw [← blk0 m c t 0 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab1 (c : Dev nD) (t : Fin cfg0.N) (r : Fin 16) (l : Fin 4096) :
    View.ld (iblk m c 0 t) r0_1 (ix3 0 r l) = m (c.tc.loc main_arg0) (ix3 1 ⟨t.val * 16 + r.val, by have := lt_of_lt_of_eq t.isLt N_0; omega⟩ l) := by
  rw [← blk0 m c t 1 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab2 (c : Dev nD) (t : Fin cfg0.N) (r : Fin 16) (l : Fin 4096) :
    View.ld (iblk m c 0 t) r0_2 (ix3 0 r l) = m (c.tc.loc main_arg0) (ix3 2 ⟨t.val * 16 + r.val, by have := lt_of_lt_of_eq t.isLt N_0; omega⟩ l) := by
  rw [← blk0 m c t 2 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab3 (c : Dev nD) (t : Fin cfg0.N) (r : Fin 16) (l : Fin 4096) :
    View.ld (iblk m c 0 t) r0_3 (ix3 0 r l) = m (c.tc.loc main_arg0) (ix3 3 ⟨t.val * 16 + r.val, by have := lt_of_lt_of_eq t.isLt N_0; omega⟩ l) := by
  rw [← blk0 m c t 3 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab4 (c : Dev nD) (t : Fin cfg0.N) (r : Fin 16) (l : Fin 4096) :
    View.ld (iblk m c 0 t) r0_4 (ix3 0 r l) = m (c.tc.loc main_arg0) (ix3 4 ⟨t.val * 16 + r.val, by have := lt_of_lt_of_eq t.isLt N_0; omega⟩ l) := by
  rw [← blk0 m c t 4 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab5 (c : Dev nD) (t : Fin cfg0.N) (r : Fin 16) (l : Fin 4096) :
    View.ld (iblk m c 0 t) r0_5 (ix3 0 r l) = m (c.tc.loc main_arg0) (ix3 5 ⟨t.val * 16 + r.val, by have := lt_of_lt_of_eq t.isLt N_0; omega⟩ l) := by
  rw [← blk0 m c t 5 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab6 (c : Dev nD) (t : Fin cfg0.N) (r : Fin 16) (l : Fin 4096) :
    View.ld (iblk m c 0 t) r0_6 (ix3 0 r l) = m (c.tc.loc main_arg0) (ix3 6 ⟨t.val * 16 + r.val, by have := lt_of_lt_of_eq t.isLt N_0; omega⟩ l) := by
  rw [← blk0 m c t 6 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

theorem slab7 (c : Dev nD) (t : Fin cfg0.N) (r : Fin 16) (l : Fin 4096) :
    View.ld (iblk m c 0 t) r0_7 (ix3 0 r l) = m (c.tc.loc main_arg0) (ix3 7 ⟨t.val * 16 + r.val, by have := lt_of_lt_of_eq t.isLt N_0; omega⟩ l) := by
  rw [← blk0 m c t 7 r l]
  exact congrArg (iblk m c 0 t) (funext fun b => Fin.ext (by match b with | ⟨0, _⟩ => rfl | ⟨1, _⟩ => (show 0 + 1 * r.val = r.val; omega) | ⟨2, _⟩ => (show 0 + 1 * l.val = l.val; omega)))

/-! ## The results -/

theorem point4 (c : Dev nD) (t : Fin cfg0.N) (r : Fin 16) (l : Fin 4096) :
    k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 r l) = grad (m (c.tc.loc main_arg0)) ⟨t.val * 16 + r.val, by have := lt_of_lt_of_eq t.isLt N_0; omega⟩ l := by
  rw [grad_apply, slab0 m c t r l, slab1 m c t r l, slab2 m c t r l, slab3 m c t r l, slab4 m c t r l, slab5 m c t r l, slab6 m c t r l, slab7 m c t r l]
  unfold grad
  rw [Fin.sum_univ_eight]

theorem point6 (c : Dev nD) (t : Fin cfg0.N) (r : Fin 16) (l : Fin 4096) :
    k0_pay1 (F := Ideal) (k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 2 t)) (ix2 r l) = firstAt (m (c.tc.loc main_arg0)) (m (c.tc.loc main_arg2)) ⟨t.val * 16 + r.val, by have := lt_of_lt_of_eq t.isLt N_0; omega⟩ l := by
  rw [first_apply, point4 m c t r l, blk2 m c t r l]
  rfl

theorem point7 (c : Dev nD) (t : Fin cfg0.N) (r : Fin 16) (l : Fin 4096) :
    k0_pay2 (F := Ideal) (k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) (ix2 r l) = secondAt (m (c.tc.loc main_arg0)) (m (c.tc.loc main_arg3)) ⟨t.val * 16 + r.val, by have := lt_of_lt_of_eq t.isLt N_0; omega⟩ l := by
  rw [second_apply, point4 m c t r l, blk3 m c t r l]
  rfl

theorem point5 (c : Dev nD) (t : Fin cfg0.N) (r : Fin 16) (l : Fin 4096) :
    k0_pay3 (F := Ideal) (k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 3 t) (k0_pay5 (iblk m c 2 t)) (ix2 r l) = delta (m (c.tc.loc main_arg0)) (m (c.tc.loc main_arg1)) (m (c.tc.loc main_arg2)) (m (c.tc.loc main_arg3)) ⟨t.val * 16 + r.val, by have := lt_of_lt_of_eq t.isLt N_0; omega⟩ l := by
  rw [step_apply, point6 m c t r l, point7 m c t r l, blk1 m c t r l]
  rfl

/-- The summed gradient as the block step reads it. -/
theorem pay6_eq (c : Dev nD) (t : Fin cfg0.N) :
    k0_pay6 (F := Ideal) (iblk m c 0 t) (iblk m c 1 t) (iblk m c 2 t) (iblk m c 3 t) = k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := rfl

/-- The old first moment's share as the block step reads it. -/
theorem pay7_eq (c : Dev nD) (t : Fin cfg0.N) :
    k0_pay7 (F := Ideal) (iblk m c 0 t) (iblk m c 1 t) (iblk m c 2 t) (iblk m c 3 t) = k0_pay5 (iblk m c 2 t) := by
  unfold k0_pay7
  frame_out

theorem final4 (c : Dev nD) : (dats m 0 c).arrAt 4 cfg0.N = fun i => grad (m (c.tc.loc main_arg0)) (i 0) (i 1) := by
  refine (dats m 0 c).arrAt_eq_of_covers 4 _ (by decide +kernel) fun t hf y => ?_
  have hN : t.val < 1 := lt_of_lt_of_eq t.isLt N_0
  blk_simp
  rw [after0_4]
  frame_out
  idx_vars y
  refine (point4 m c t y0 y1).trans (congrArg₂ _ (Fin.ext ?_) (Fin.ext ?_)) <;> blk_simp [idx t]

theorem final5 (c : Dev nD) : (dats m 0 c).arrAt 5 cfg0.N = fun i => delta (m (c.tc.loc main_arg0)) (m (c.tc.loc main_arg1)) (m (c.tc.loc main_arg2)) (m (c.tc.loc main_arg3)) (i 0) (i 1) := by
  refine (dats m 0 c).arrAt_eq_of_covers 5 _ (by decide +kernel) fun t hf y => ?_
  have hN : t.val < 1 := lt_of_lt_of_eq t.isLt N_0
  blk_simp
  rw [after0_5]
  frame_out
  rw [pay6_eq m c t, pay7_eq m c t]
  idx_vars y
  refine (point5 m c t y0 y1).trans (congrArg₂ _ (Fin.ext ?_) (Fin.ext ?_)) <;> blk_simp [idx t]

theorem final6 (c : Dev nD) : (dats m 0 c).arrAt 6 cfg0.N = fun i => firstAt (m (c.tc.loc main_arg0)) (m (c.tc.loc main_arg2)) (i 0) (i 1) := by
  refine (dats m 0 c).arrAt_eq_of_covers 6 _ (by decide +kernel) fun t hf y => ?_
  have hN : t.val < 1 := lt_of_lt_of_eq t.isLt N_0
  blk_simp
  rw [after0_6]
  frame_out
  rw [pay6_eq m c t, pay7_eq m c t]
  idx_vars y
  refine (point6 m c t y0 y1).trans (congrArg₂ _ (Fin.ext ?_) (Fin.ext ?_)) <;> blk_simp [idx t]

theorem final7 (c : Dev nD) : (dats m 0 c).arrAt 7 cfg0.N = fun i => secondAt (m (c.tc.loc main_arg0)) (m (c.tc.loc main_arg3)) (i 0) (i 1) := by
  refine (dats m 0 c).arrAt_eq_of_covers 7 _ (by decide +kernel) fun t hf y => ?_
  have hN : t.val < 1 := lt_of_lt_of_eq t.isLt N_0
  blk_simp
  rw [after0_7]
  frame_out
  idx_vars y
  refine (point7 m c t y0 y1).trans (congrArg₂ _ (Fin.ext ?_) (Fin.ext ?_)) <;> blk_simp [idx t]

/-- The kernel's run: its results are the summed gradient, the step and the new moments, and it keeps its arguments. -/
theorem kernel_run : θ_run defs (onTc (τ := τ) (main (F := Ideal))) ⟨m, fun _ => 0, ρ⟩ fun r => ∀ c : Dev nD,
      r.2.mem (c.tc.loc main_v0_0) = (fun i => grad (m (c.tc.loc main_arg0)) (i 0) (i 1))
      ∧ r.2.mem (c.tc.loc main_v0_1) = (fun i => delta (m (c.tc.loc main_arg0)) (m (c.tc.loc main_arg1)) (m (c.tc.loc main_arg2)) (m (c.tc.loc main_arg3)) (i 0) (i 1))
      ∧ r.2.mem (c.tc.loc main_v0_2) = (fun i => firstAt (m (c.tc.loc main_arg0)) (m (c.tc.loc main_arg2)) (i 0) (i 1))
      ∧ r.2.mem (c.tc.loc main_v0_3) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c),
      (h c).2.2.1.trans (final6 m c), (h c).2.2.2.1.trans (final7 m c), (h c).2.2.2.2⟩)
    (Cert.AdamSmallIdeal.Value.run_blocks (F := Ideal) m ρ)

end kernel

/-! ## The reference -/

section reference
open Cert.AdamSmallRefIdeal Cert.AdamSmallRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v0) = (fun i => grad (m (c.tc.loc main_arg0)) (i 0) (i 1))
      ∧ r.2.mem (c.tc.loc main_v24) = (fun i => delta (m (c.tc.loc main_arg0)) (m (c.tc.loc main_arg1)) (m (c.tc.loc main_arg2)) (m (c.tc.loc main_arg3)) (i 0) (i 1))
      ∧ r.2.mem (c.tc.loc main_v5) = (fun i => firstAt (m (c.tc.loc main_arg0)) (m (c.tc.loc main_arg2)) (i 0) (i 1))
      ∧ r.2.mem (c.tc.loc main_v11) = (fun i => secondAt (m (c.tc.loc main_arg0)) (m (c.tc.loc main_arg3)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_,
      (h c).2.2.2.1.trans ?_, (h c).2.2.2.2⟩) (Cert.AdamSmallRefIdeal.Value.run (F := Ideal) m ρ)
  · clear h; funext i; idx_vars i; clean_types; pointwise
    rfl
  · clear h; funext i; idx_vars i; clean_types; pointwise
    rfl
  · clear h; funext i; idx_vars i; clean_types; pointwise
    rfl
  · clear h; funext i; idx_vars i; clean_types; pointwise
    rfl

end reference

/-! ## The claims -/

/-- The reference runs to its end and keeps its arguments. -/
theorem frame_ref : Cert.quiescent_AdamSmallRefIdeal := fun m ρ _ =>
  (θ_run Cert.AdamSmallRefIdeal.defs _ _).mono (fun r h => ⟨fun c => (h c).2.2.2.2,
      Idealize.ShloMosaic.sem_eq_zero_of_no_sems (by decide) r.2⟩)
    (Cert.AdamSmallRefIdeal.Value.run (F := Ideal) m ρ)

/-- Kernel and reference end with equal results. -/
theorem algebraic : Cert.algebraic_AdamSmallIdeal_AdamSmallRefIdeal := by
  intro m g m' g' _ hargs
  refine ⟨_, _, _, _, kernel_run m g, ?_⟩
  refine (θ_run _ _ _).mono (fun r h c => ?_) (ref_run m' g')
  obtain ⟨a0, a1, a2, a3⟩ := hargs c
  obtain ⟨h0, h1, h2, h3, hk⟩ := h c
  rw [a0] at h0
  rw [a0, a1, a2, a3] at h1
  rw [a0, a2] at h2
  rw [a0, a3] at h3
  exact ⟨h0, h1, h2, h3, hk⟩

end Cert.AdamSmallProof

end
-- ==== Proof.ShortConv.lean ====
/-
  The gradient of the short convolution `y = gb * conv(gc * u, w)` along the sequence, three taps: what the kernel
  `d_shortconv` writes, block of 128 columns by block, is what differentiating the plain text gives on the whole arrays.

  `Conv` below writes the mathematics on ONE column of 4096 positions; `Kernel` reads the kernel's blocks, `Reference`
  the reference's composed terms, each against it. Nothing here asks that a value be finite: the two sides are the same
  sums of the same products, up to the order in which terms are added.
-/
module

public import proofs.«01_k».proof.Proof.Gen.KernelIdeal.Value
public import proofs.«01_k».proof.Proof.Gen.ReferenceIdeal.Run
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

/-! ## One column -/

namespace Cert.ShortConv

/-- The column moved `k` positions later, zeros in front. -/
def later (k : Nat) (p : Fin 4096 → EReal) (r : Fin 4096) : EReal :=
  if k ≤ r.val then p ⟨r.val - k, by omega⟩ else 0

/-- The column moved `k` positions earlier, zeros behind. -/
def earlier (k : Nat) (q : Fin 4096 → EReal) (r : Fin 4096) : EReal :=
  if h : r.val + k < 4096 then q ⟨r.val + k, h⟩ else 0

/-- The causal convolution of a column with three taps; tap 2 is the present one. -/
def conv (p : Fin 4096 → EReal) (w : Fin 3 → EReal) (r : Fin 4096) : EReal :=
  p r * w 2 + later 2 p r * w 0 + later 1 p r * w 1

/-- Its transpose in the column. -/
def convT (q : Fin 4096 → EReal) (w : Fin 3 → EReal) (r : Fin 4096) : EReal :=
  q r * w 2 + earlier 2 q r * w 0 + earlier 1 q r * w 1

/-- Its transpose in tap `k`. -/
def tapGrad (p q : Fin 4096 → EReal) (k : Fin 3) : EReal := ∑ r, q r * later (2 - k.val) p r

/-! The four gradients at a position and a column, from the arrays: `A0` the projections (columns 6144 on hold `gb`, 8192
   on `gc`, 10240 on `u`), `A1` the cotangent (columns 2048 on), `A2` the taps. -/

section arrays

variable (A0 : (⟨2, ![4096, 12288]⟩ : Shape).Idx → EReal) (A1 : (⟨2, ![4096, 4096]⟩ : Shape).Idx → EReal)
  (A2 : (⟨2, ![3, 2048]⟩ : Shape).Idx → EReal)

/-- The gate. -/
def gateB (l : Fin 2048) (r : Fin 4096) : EReal := A0 (ix2 r ⟨6144 + l.val, by omega⟩)
/-- The second gate. -/
def gateC (l : Fin 2048) (r : Fin 4096) : EReal := A0 (ix2 r ⟨8192 + l.val, by omega⟩)
/-- The input. -/
def inp (l : Fin 2048) (r : Fin 4096) : EReal := A0 (ix2 r ⟨10240 + l.val, by omega⟩)
/-- The cotangent. -/
def cot (l : Fin 2048) (r : Fin 4096) : EReal := A1 (ix2 r ⟨2048 + l.val, by omega⟩)
/-- The taps of column `l`. -/
def taps (l : Fin 2048) (k : Fin 3) : EReal := A2 (ix2 k l)
/-- What is convolved. -/
def prod (l : Fin 2048) (r : Fin 4096) : EReal := gateC A0 l r * inp A0 l r
/-- The cotangent of the convolution's result. -/
def cotConv (l : Fin 2048) (r : Fin 4096) : EReal := cot A1 l r * gateB A0 l r

/-- The gradient of the gate. -/
def dGateB (l : Fin 2048) (r : Fin 4096) : EReal := cot A1 l r * conv (prod A0 l) (taps A2 l) r
/-- The gradient of the second gate. -/
def dGateC (l : Fin 2048) (r : Fin 4096) : EReal := convT (cotConv A0 A1 l) (taps A2 l) r * inp A0 l r
/-- The gradient of the input. -/
def dInp (l : Fin 2048) (r : Fin 4096) : EReal := convT (cotConv A0 A1 l) (taps A2 l) r * gateC A0 l r
/-- The gradient of the taps. -/
def dTaps (l : Fin 2048) (k : Fin 3) : EReal := tapGrad (prod A0 l) (cotConv A0 A1 l) k

end arrays

/-! ## Words compared -/

/-- A small number as a word, read as a signed integer. -/
theorem toInt_small (n : Nat) (h : n < 4100) : (BitVec.ofNat 32 n).toInt = n := by
  have e : (BitVec.ofNat 32 n).toNat = n := by rw [BitVec.toNat_ofNat]; omega
  rw [BitVec.toInt_eq_toNat_cond, e, if_pos (by omega)]

theorem select_ge {α : Type} (n k : Nat) (hn : n < 4100) (hk : k < 4100) (a b : α) :
    Scalar.select (IntOp.cmpi .sge (BitVec.ofNat 32 n) (BitVec.ofNat 32 k)) a b = if k ≤ n then a else b := by
  have e : (IntOp.cmpi .sge (BitVec.ofNat 32 n) (BitVec.ofNat 32 k) = 1) ↔ k ≤ n :=
    IntOp.cmpi_sge.trans (by rw [toInt_small n hn, toInt_small k hk]; omega)
  simp only [Scalar.select, e]

theorem select_lt {α : Type} (n k : Nat) (hn : n < 4100) (hk : k < 4100) (a b : α) :
    Scalar.select (IntOp.cmpi .slt (BitVec.ofNat 32 n) (BitVec.ofNat 32 k)) a b = if n < k then a else b := by
  have e : (IntOp.cmpi .slt (BitVec.ofNat 32 n) (BitVec.ofNat 32 k) = 1) ↔ n < k :=
    IntOp.cmpi_slt.trans (by rw [toInt_small n hn, toInt_small k hk]; omega)
  simp only [Scalar.select, e]

theorem select_eq {α : Type} (n k : Nat) (hn : n < 4100) (hk : k < 4100) (a b : α) :
    Scalar.select (IntOp.cmpi .eq (BitVec.ofNat 32 n) (BitVec.ofNat 32 k)) a b = if n = k then a else b := by
  have e : (IntOp.cmpi .eq (BitVec.ofNat 32 n) (BitVec.ofNat 32 k) = 1) ↔ n = k :=
    IntOp.cmpi_eq.trans ⟨fun h => by
      have := congrArg BitVec.toInt h
      rw [toInt_small n hn, toInt_small k hk] at this; omega, fun h => by rw [h]⟩
  simp only [Scalar.select, e]

/-! ## The kernel's blocks -/

section kernel

open Cert.KernelIdeal Cert.KernelIdeal.Gen

variable (x0 x1 x2 x3 : Vec Ideal S4096x128 .bf16) (w : Vec Ideal S3x128 .f32)

/-- A column of a block. -/
abbrev col (x : Vec Ideal S4096x128 .bf16) (l : Fin 128) (r : Fin 4096) : EReal := x (ix2 r l)

theorem pay9_apply (r : Fin 4096) (l : Fin 128) : k0_pay9 x1 x2 x3 w (ix2 r l)
    = x3 (ix2 r l) * conv (fun r => x1 (ix2 r l) * x2 (ix2 r l)) (fun k => w (ix2 k l)) r := by
  have hr := r.isLt
  pointwise [k0_pay9, k0_pay8, k0_pay5, k0_pay6, k0_pay7]
  rw [select_ge r 2 (by omega) (by omega), select_ge r 1 (by omega) (by omega)]
  have e (k : Nat) (hk : k ≤ r.val) (hk' : k ≤ 2) : (⟨(r.val + 4096 - k) % 4096, Nat.mod_lt _ (by decide)⟩ : Fin 4096) = ⟨r.val - k, by omega⟩ := by
    apply Fin.ext; show (r.val + 4096 - k) % 4096 = r.val - k; omega
  unfold conv later
  split_ifs with h2 h1 h1 <;> simp only [zero_mul] <;> first | rw [e 2 h2 (by omega), e 1 h1 (by omega)] | rw [e 1 h1 (by omega)] | skip
  exact absurd h2 (by omega)

theorem pay10_apply (r : Fin 4096) (l : Fin 128) : k0_pay10 x0 x3 (ix2 r l) = x3 (ix2 r l) * x0 (ix2 r l) := by
  pointwise [k0_pay10, k0_pay7]

/-- A rotation by `4096 - k` reads `k` positions later. -/
theorem rot_apply (n : BitVec 32) (k : Nat) (hk : k ≤ 2) (hn : n.toNat = 4096 - k) (q : FVec Ideal S4096x128 .f32) (r : Fin 4096) (l : Fin 128)
    (h : r.val + k < 4096) : dynamicRotate 0 n none q rotates_S4096x128_d0 (ix2 r l) = q (ix2 ⟨r.val + k, h⟩ l) := by
  rw [Pointwise.dynamicRotate_apply]
  refine congrArg q (funext fun b => Fin.ext ?_)
  match b with
  | ⟨0, _⟩ => show (r.val + 4096 - (n.toNat + 0) % 4096) % 4096 = r.val + k; omega
  | ⟨1, _⟩ => rfl

/-- Where the row is early enough the rotated row, elsewhere zero: the block moved `k` rows earlier. -/
theorem up_apply (n y : BitVec 32) (k : Nat) (hk : k ≤ 2) (hk0 : 0 < k) (hn : n.toNat = 4096 - k) (hy : y.toInt = ((4096 - k : Nat) : Int))
    (q : FVec Ideal S4096x128 .f32) (r : Fin 4096) (l : Fin 128) :
    Scalar.select (IntOp.cmpi .slt (BitVec.ofNat 32 r.val) y) (dynamicRotate 0 n none q rotates_S4096x128_d0 (ix2 r l)) (0 : EReal)
      = earlier k (fun r => q (ix2 r l)) r := by
  have hr := r.isLt
  unfold earlier
  have e : (IntOp.cmpi .slt (BitVec.ofNat 32 r.val) y = 1) ↔ r.val + k < 4096 :=
    IntOp.cmpi_slt.trans (by rw [toInt_small r.val (by omega), hy]; omega)
  by_cases h : r.val + k < 4096
  · rw [dif_pos h, Scalar.select, if_pos (e.mpr h)]
    exact rot_apply n k hk hn q r l h
  · rw [dif_neg h, Scalar.select, if_neg (fun h' => h (e.mp h'))]

theorem pay15_apply (q p : FVec Ideal S4096x128 .f32) (r : Fin 4096) (l : Fin 128) :
    k0_pay15 w (iota .tc S4096x128 32 [0] iota_S4096x128_d0_w32) q p (ix2 r l)
    = p (ix2 r l) + earlier 2 (fun r => q (ix2 r l)) r * w (ix2 0 l) + earlier 1 (fun r => q (ix2 r l)) r * w (ix2 1 l) := by
  rw [← up_apply 4094#32 4094#32 2 (by decide) (by decide) rfl rfl, ← up_apply 4095#32 4095#32 1 (by decide) (by decide) rfl rfl]
  unfold k0_pay15
  generalize hA : dynamicRotate 0 4094#32 none q rotates_S4096x128_d0 = A
  generalize hB : dynamicRotate 0 4095#32 none q rotates_S4096x128_d0 = B
  generalize 4094#32 = a
  generalize 4095#32 = b
  pointwise

theorem pay11_apply (r : Fin 4096) (l : Fin 128) : k0_pay11 x0 x3 w (ix2 r l) = x3 (ix2 r l) * x0 (ix2 r l) * w (ix2 2 l) := by
  pointwise [k0_pay11, k0_pay10, k0_pay7]

/-- What the first and third block's rows give the convolution's input gradient. -/
theorem convT_apply (r : Fin 4096) (l : Fin 128) :
    k0_pay15 w (iota .tc S4096x128 32 [0] iota_S4096x128_d0_w32) (k0_pay10 x0 x3) (k0_pay11 x0 x3 w) (ix2 r l)
      = convT (fun r => x3 (ix2 r l) * x0 (ix2 r l)) (fun k => w (ix2 k l)) r := by
  rw [pay15_apply, pay11_apply]
  unfold convT
  rw [show (fun r => k0_pay10 x0 x3 (ix2 r l)) = fun r => x3 (ix2 r l) * x0 (ix2 r l) from funext fun r => pay10_apply x0 x3 r l]

/-- The taps' gradient of a block. -/
theorem taps_apply (k : Fin 3) (l : Fin 128) :
    k0_pay1 (k0_pay10 x0 x3)
      (k0_pay14 (iota .tc S4096x128 32 [0] iota_S4096x128_d0_w32) (k0_pay8 x1 x2) (k0_pay10 x0 x3)
        (iota .tc S3x128 32 [0] iota_S3x128_d0_w32) k0_pay12 (k0_pay13 x0 x1 x2 x3))
      (k0_pay16 (iota .tc S3x128 32 [0] iota_S3x128_d0_w32)) (k0_pay17 (iota .tc S4096x128 32 [0] iota_S4096x128_d0_w32))
      (k0_pay18 (k0_pay8 x1 x2)) (ix2 k l)
      = tapGrad (fun r => x1 (ix2 r l) * x2 (ix2 r l)) (fun r => x3 (ix2 r l) * x0 (ix2 r l)) k := by
  pointwise [k0_pay1, k0_pay14, k0_pay10, k0_pay8, k0_pay12, k0_pay13, k0_pay16, k0_pay17, k0_pay18, k0_pay5, k0_pay6, k0_pay7]
  have hk := k.isLt
  have h1 (x : Fin 4096) := select_ge x.val 1 (by omega) (by omega) (α := EReal)
  have h2 (x : Fin 4096) := select_ge x.val 2 (by omega) (by omega) (α := EReal)
  simp only [h1, h2]
  rw [select_eq k.val 2 (by omega) (by omega), select_eq k.val 0 (by omega) (by omega), select_eq k.val 1 (by omega) (by omega)]
  have e (x : Fin 4096) (j : Nat) (hk : j ≤ x.val) (hk' : j ≤ 2) : (⟨(x.val + 4096 - j) % 4096, Nat.mod_lt _ (by decide)⟩ : Fin 4096) = ⟨x.val - j, by omega⟩ := by
    apply Fin.ext; show (x.val + 4096 - j) % 4096 = x.val - j; omega
  have g (j : Nat) (hj : j ≤ 2) : (∑ x : Fin 4096, if j ≤ x.val then x3 (ix2 x l) * x0 (ix2 x l)
        * (x1 (ix2 ⟨(x.val + 4096 - j) % 4096, Nat.mod_lt _ (by decide)⟩ l) * x2 (ix2 ⟨(x.val + 4096 - j) % 4096, Nat.mod_lt _ (by decide)⟩ l)) else 0)
      = ∑ x : Fin 4096, x3 (ix2 x l) * x0 (ix2 x l) * later j (fun r => x1 (ix2 r l) * x2 (ix2 r l)) x := by
    refine Finset.sum_congr rfl fun x _ => ?_
    unfold later
    by_cases h : j ≤ x.val
    · rw [if_pos h, if_pos h, e x j h hj]
    · rw [if_neg h, if_neg h, mul_zero]
  rw [g 2 (by omega), g 1 (by omega)]
  unfold tapGrad
  match k with
  | ⟨0, _⟩ => simp
  | ⟨1, _⟩ => simp
  | ⟨2, _⟩ => simp [later]

/-! ### The blocks against the arrays -/

variable (m : (ℓ : Loc nD τ sig) → Buf (Elt Ideal) ℓ)

theorem idx0 : ∀ t : Fin cfg0.N, win0_0.index t = ![0, 48 + t.val] := (by decide +kernel : ∀ t : Fin grid0.N, _)
theorem idx1 : ∀ t : Fin cfg0.N, win0_1.index t = ![0, 64 + t.val] := (by decide +kernel : ∀ t : Fin grid0.N, _)
theorem idx2 : ∀ t : Fin cfg0.N, win0_2.index t = ![0, 80 + t.val] := (by decide +kernel : ∀ t : Fin grid0.N, _)
theorem idx3 : ∀ t : Fin cfg0.N, win0_3.index t = ![0, 16 + t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 48 + t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)

/-- The column of the whole arrays that column `l` of point `t`'s blocks is. -/
def colAt (t : Fin cfg0.N) (l : Fin 128) : Fin 2048 := ⟨t.val * 128 + l.val, by have := t.isLt; have : cfg0.N = 16 := N_0; omega⟩

section blocks
variable (c : Dev nD) (t : Fin cfg0.N) (l : Fin 128) (r : Fin 4096) (k : Fin 3)

theorem blk0 : iblk m c 0 t (ix2 r l) = gateB (m (c.tc.loc main_arg0)) (colAt t l) r := by
  unfold gateB colAt; blk_ext [iblk, V, idx0 t]
theorem blk1 : iblk m c 1 t (ix2 r l) = gateC (m (c.tc.loc main_arg0)) (colAt t l) r := by
  unfold gateC colAt; blk_ext [iblk, V, idx1 t]
theorem blk2 : iblk m c 2 t (ix2 r l) = inp (m (c.tc.loc main_arg0)) (colAt t l) r := by
  unfold inp colAt; blk_ext [iblk, V, idx2 t]
theorem blk3 : iblk m c 3 t (ix2 r l) = cot (m (c.tc.loc main_arg1)) (colAt t l) r := by
  unfold cot colAt; blk_ext [iblk, V, idx3 t]
theorem blk4 : iblk m c 4 t (ix2 k l) = taps (m (c.tc.loc main_arg2)) (colAt t l) k := by
  unfold taps colAt; blk_ext [iblk, V, idx4 t]

end blocks

theorem pay3_apply (r : Fin 4096) (l : Fin 128) (z : FVec Ideal S4096x128 .f32) : k0_pay3 (k0_pay6 x2) z (ix2 r l) = z (ix2 r l) * x2 (ix2 r l) := by
  pointwise [k0_pay3, k0_pay6]
theorem pay4_apply (r : Fin 4096) (l : Fin 128) (z : FVec Ideal S4096x128 .f32) : k0_pay4 (k0_pay5 x1) z (ix2 r l) = z (ix2 r l) * x1 (ix2 r l) := by
  pointwise [k0_pay4, k0_pay5]
theorem pay2_apply (r : Fin 4096) (l : Fin 128) (z : FVec Ideal S4096x128 .f32) : k0_pay2 z (ix2 r l) = z (ix2 r l) := by
  pointwise [k0_pay2]

section point
variable (c : Dev nD) (t : Fin cfg0.N) (l : Fin 128) (r : Fin 4096) (k : Fin 3)

theorem point5 : k0_pay2 (k0_pay9 (iblk m c 1 t) (iblk m c 2 t) (iblk m c 3 t) (iblk m c 4 t)) (ix2 r l)
    = dGateB (m (c.tc.loc main_arg0)) (m (c.tc.loc main_arg1)) (m (c.tc.loc main_arg2)) (colAt t l) r := by
  rw [pay2_apply, pay9_apply]
  simp only [blk0, blk1, blk2, blk3, blk4]
  rfl

theorem point6 : k0_pay3 (k0_pay6 (iblk m c 2 t))
      (k0_pay15 (iblk m c 4 t) (iota Kind.tc S4096x128 32 [0] iota_S4096x128_d0_w32)
        (k0_pay10 (iblk m c 0 t) (iblk m c 3 t)) (k0_pay11 (iblk m c 0 t) (iblk m c 3 t) (iblk m c 4 t))) (ix2 r l)
    = dGateC (m (c.tc.loc main_arg0)) (m (c.tc.loc main_arg1)) (m (c.tc.loc main_arg2)) (colAt t l) r := by
  rw [pay3_apply, convT_apply]
  simp only [blk0, blk1, blk2, blk3, blk4]
  rfl

theorem point7 : k0_pay4 (k0_pay5 (iblk m c 1 t))
      (k0_pay15 (iblk m c 4 t) (iota Kind.tc S4096x128 32 [0] iota_S4096x128_d0_w32)
        (k0_pay10 (iblk m c 0 t) (iblk m c 3 t)) (k0_pay11 (iblk m c 0 t) (iblk m c 3 t) (iblk m c 4 t))) (ix2 r l)
    = dInp (m (c.tc.loc main_arg0)) (m (c.tc.loc main_arg1)) (m (c.tc.loc main_arg2)) (colAt t l) r := by
  rw [pay4_apply, convT_apply]
  simp only [blk0, blk1, blk2, blk3, blk4]
  rfl

theorem point8 : k0_pay1 (k0_pay10 (iblk m c 0 t) (iblk m c 3 t))
      (k0_pay14 (iota Kind.tc S4096x128 32 [0] iota_S4096x128_d0_w32) (k0_pay8 (iblk m c 1 t) (iblk m c 2 t))
        (k0_pay10 (iblk m c 0 t) (iblk m c 3 t)) (iota Kind.tc S3x128 32 [0] iota_S3x128_d0_w32) k0_pay12
        (k0_pay13 (iblk m c 0 t) (iblk m c 1 t) (iblk m c 2 t) (iblk m c 3 t)))
      (k0_pay16 (iota Kind.tc S3x128 32 [0] iota_S3x128_d0_w32))
      (k0_pay17 (iota Kind.tc S4096x128 32 [0] iota_S4096x128_d0_w32))
      (k0_pay18 (k0_pay8 (iblk m c 1 t) (iblk m c 2 t))) (ix2 k l)
    = dTaps (m (c.tc.loc main_arg0)) (m (c.tc.loc main_arg1)) (colAt t l) k := by
  rw [taps_apply]
  simp only [blk0, blk1, blk2, blk3, blk4]
  rfl

end point

theorem final6 (c : Dev nD) : (dats m 0 c).arrAt 6 cfg0.N
    = fun i => dGateC (m (c.tc.loc main_arg0)) (m (c.tc.loc main_arg1)) (m (c.tc.loc main_arg2)) (i 1) (i 0) := by
  refine (dats m 0 c).arrAt_eq_of_covers 6 _ (by decide +kernel) fun t hf y => ?_
  blk_simp
  rw [after0_6]
  frame_out
  idx_vars y
  refine (point6 m c t y1 y0).trans (congrArg₂ _ (Fin.ext ?_) (Fin.ext ?_)) <;> (try unfold colAt) <;> blk_simp [idx6 t]
  all_goals (try dsimp only)
  all_goals omega

theorem final7 (c : Dev nD) : (dats m 0 c).arrAt 7 cfg0.N
    = fun i => dInp (m (c.tc.loc main_arg0)) (m (c.tc.loc main_arg1)) (m (c.tc.loc main_arg2)) (i 1) (i 0) := by
  refine (dats m 0 c).arrAt_eq_of_covers 7 _ (by decide +kernel) fun t hf y => ?_
  blk_simp
  rw [after0_7]
  frame_out
  idx_vars y
  refine (point7 m c t y1 y0).trans (congrArg₂ _ (Fin.ext ?_) (Fin.ext ?_)) <;> (try unfold colAt) <;> blk_simp [idx7 t]
  all_goals (try dsimp only)
  all_goals omega

theorem final8 (c : Dev nD) : (dats m 0 c).arrAt 8 cfg0.N
    = fun i => dTaps (m (c.tc.loc main_arg0)) (m (c.tc.loc main_arg1)) (i 1) (i 0) := by
  refine (dats m 0 c).arrAt_eq_of_covers 8 _ (by decide +kernel) fun t hf y => ?_
  blk_simp
  rw [after0_8]
  frame_out
  idx_vars y
  refine (point8 m c t y1 y0).trans (congrArg₂ _ (Fin.ext ?_) (Fin.ext ?_)) <;> (try unfold colAt) <;> blk_simp [idx8 t]
  all_goals (try dsimp only)
  all_goals omega

theorem entry5 (c : Dev nD) : V m c main_v0_0 = m (c.tc.loc main_arg3) := by
  unfold V; after_results; try rfl

/-- The column of the gate's cotangent that column `j` of the whole cotangent is. -/
def gateCol (j : Fin 12288) : Fin 2048 := ⟨(j.val - 6144) % 2048, by omega⟩

theorem colAt_eq_gateCol (t : Fin cfg0.N) (l : Fin 128) (x : Fin 12288) (h : x.val = (48 + t.val) * 128 + l.val) : colAt t l = gateCol x := by
  have ht : t.val < 16 := lt_of_lt_of_eq t.isLt N_0
  apply Fin.ext
  show t.val * 128 + l.val = (x.val - 6144) % 2048
  omega

/-- Columns 6144 to 8191 are the blocks 48 to 63. -/
theorem iff_128 (n : Nat) : 6144 ≤ n ∧ n < 8192 ↔ 48 ≤ n / 128 ∧ n / 128 < 64 := by omega

theorem final5 (c : Dev nD) : (dats m 0 c).arrAt 5 cfg0.N
    = fun i => if 6144 ≤ (i 1).val ∧ (i 1).val < 8192 then
        dGateB (m (c.tc.loc main_arg0)) (m (c.tc.loc main_arg1)) (m (c.tc.loc main_arg2)) (gateCol (i 1)) (i 0)
      else V m c main_v0_0 i := by
  refine (dats m 0 c).arrAt_eq_of_coversWhere 5 _ (fun β => 48 ≤ β 1 ∧ β 1 < 64) (by decide +kernel) (fun t hf y => ?_)
    (fun j => by blk_simp [Pipeline.Window.cell_apply]; exact iff_128 _)
  blk_simp
  rw [after0_5]
  simp only [outsAt0]
  frame_out
  idx_vars y
  refine (point5 m c t y1 y0).trans (congrArg₂ _ (colAt_eq_gateCol t y1 _ ?_) (Fin.ext ?_)) <;> blk_simp [idx5 t]

end kernel

end Cert.ShortConv
-- ==== Proof.ShortConvRef.lean ====
/-
  The short convolution's gradient, the reference's side: differentiating `y = gb * conv(gc * u, w)` as plain text gives
  the four functions `ShortConv.lean` names, and so the claim that the kernel and the reference end equal.
-/
module

public import proofs.«01_k».proof.Defs
public import proofs.«01_k».proof.Proof.ShortConv
public import Idealize.ShloMosaic.Lib.Quiescent

@[expose] public section

set_option maxRecDepth 16384

noncomputable section

open Idealize.ShloMosaic Idealize.ShloMosaic.TcCoe Idealize.SL.Sem Idealize.ShloMosaic.Pointwise

namespace Cert.ShortConv

section reference
open Cert.ReferenceIdeal Cert.ReferenceIdeal.Gen

variable (m : (ℓ : Loc nD τ sig) → Buf (Elt Ideal) ℓ) (ρ : Dev nD → PrngReg)

/-- A column moved two places later, from its two cases. -/
theorem later_two (p : Fin 4096 → EReal) (r : Fin 4096) : (if h : r.val < 2 then 0 else p ⟨r.val - 2, by omega⟩) = later 2 p r := by
  unfold later
  by_cases h : r.val < 2
  · rw [dif_pos h, if_neg (by omega)]
  · rw [dif_neg h, if_pos (by omega)]

/-- A column moved one place later, from its two cases. -/
theorem later_one (p : Fin 4096 → EReal) (r : Fin 4096) : (if h : 1 + r.val < 2 then 0 else p ⟨1 + r.val - 2, by omega⟩) = later 1 p r := by
  unfold later
  by_cases h : 1 + r.val < 2
  · rw [dif_pos h, if_neg (by omega)]
  · rw [dif_neg h, if_pos (by omega)]
    exact congrArg p (Fin.ext (by show 1 + r.val - 2 = r.val - 1; omega))

/-- A column moved two places earlier, from its two cases. -/
theorem earlier_two (q : Fin 4096 → EReal) (r : Fin 4096) : (if h : 2 + r.val < 4096 then q ⟨2 + r.val, h⟩ else 0) = earlier 2 q r := by
  unfold earlier
  by_cases h : 2 + r.val < 4096
  · rw [dif_pos h, dif_pos (by omega)]
    exact congrArg q (Fin.ext (by show 2 + r.val = r.val + 2; omega))
  · rw [dif_neg h, dif_neg (by omega)]

/-- A column moved one place earlier, from its two cases. -/
theorem earlier_one (q : Fin 4096 → EReal) (r : Fin 4096) :
    (if h : 1 ≤ 2 + r.val ∧ 2 + r.val - 1 < 4096 then q ⟨2 + r.val - 1, h.2⟩ else 0) = earlier 1 q r := by
  unfold earlier
  by_cases h : r.val + 1 < 4096
  · rw [dif_pos h, dif_pos (by omega)]
    exact congrArg q (Fin.ext (by show 2 + r.val - 1 = r.val + 1; omega))
  · rw [dif_neg h, dif_neg (by omega)]

/-- `earlier` and a factor that does not move. -/
theorem earlier_mul (k : Nat) (q : Fin 4096 → EReal) (a : EReal) (r : Fin 4096) : earlier k (fun r => q r * a) r = earlier k q r * a := by
  unfold earlier
  by_cases h : r.val + k < 4096
  · rw [dif_pos h, dif_pos h]
  · rw [dif_neg h, dif_neg h, zero_mul]

/-- The transposed convolution in the order the reference adds it, the taps multiplied in before the moves. -/
theorem convT_ref (q : Fin 4096 → EReal) (w : Fin 3 → EReal) (r : Fin 4096) :
    (if h : 1 ≤ 2 + r.val ∧ 2 + r.val - 1 < 4096 then q ⟨2 + r.val - 1, h.2⟩ * w 1 else 0)
      + (if h : 2 + r.val < 4096 then q ⟨2 + r.val, h⟩ * w 0 else 0) + q r * w 2 = convT q w r := by
  rw [earlier_one (fun r => q r * w 1) r, earlier_two (fun r => q r * w 0) r, earlier_mul, earlier_mul]
  unfold convT
  ac_rfl

/-- The earliest tap's gradient: the two positions that see only zeros, then the others. -/
theorem tap0_ref (p q : Fin 4096 → EReal) :
    ∑ x : Fin 2, 0 * q ⟨x.val, by omega⟩ + ∑ x : Fin 4094, p ⟨x.val, by omega⟩ * q ⟨2 + x.val, by omega⟩ = tapGrad p q 0 := by
  have e := Fin.sum_univ_add (a := 2) (b := 4094) (fun r : Fin (2 + 4094) => q r * later 2 p r)
  refine Eq.trans ?_ e.symm
  refine congrArg₂ _ (Finset.sum_congr rfl fun x _ => ?_) (Finset.sum_congr rfl fun x _ => ?_)
  · unfold later
    rw [if_neg (by show ¬ 2 ≤ x.val; omega), mul_zero, zero_mul]
  · unfold later
    rw [if_pos (by show 2 ≤ 2 + x.val; omega), mul_comm]
    exact congrArg₂ _ rfl (congrArg p (Fin.ext (by show x.val = 2 + x.val - 2; omega)))

/-- The middle tap's gradient as the reference sums it. -/
theorem tap1_ref (p q : Fin 4096 → EReal) :
    ∑ x : Fin 4096, (if h : 1 + x.val < 2 then 0 else p ⟨1 + x.val - 2, by omega⟩) * q x = tapGrad p q 1 := by
  refine Finset.sum_congr rfl fun x _ => ?_
  rw [later_one, mul_comm]
  rfl

/-- The present tap's gradient as the reference sums it. -/
theorem tap2_ref (p q : Fin 4096 → EReal) : ∑ x : Fin 4096, p x * q x = tapGrad p q 2 := by
  refine Finset.sum_congr rfl fun x _ => ?_
  rw [mul_comm]
  rfl

/-- The gate's gradient as the reference adds it. -/
theorem gateB_ref (d : EReal) (p : Fin 4096 → EReal) (w : Fin 3 → EReal) (r : Fin 4096) :
    d * (p r * w 2 + (if h : r.val < 2 then 0 else p ⟨r.val - 2, by omega⟩) * w 0
      + (if h : 1 + r.val < 2 then 0 else p ⟨1 + r.val - 2, by omega⟩) * w 1) = d * conv p w r := by
  rw [later_two, later_one]
  rfl

/-- A sum over two axes of one element each is that element. -/
theorem reduce_ones (h : (⟨3, ![1, 1, 2048]⟩ : Shape).ReducesTo [0, 1] (⟨1, ![2048]⟩ : Shape)) (v : (⟨3, ![1, 1, 2048]⟩ : Shape).Idx → EReal)
    (init : EReal) (l : Fin 2048) : Ideal.hostReduceAdd h v init (ix1 l) = init + v (ix3 0 0 l) := by
  unfold Ideal.hostReduceAdd
  refine congrArg (init + ·) ?_
  refine Finset.sum_eq_single (ix3 0 0 l) (fun i hi hne => (hne ?_).elim) (fun hne => (hne ?_).elim)
  · have e := congrArg Fin.val (congrFun (Finset.mem_filter.mp hi).2 0)
    rw [Shape.ReducesTo.drop_apply_val_of_eq h i 0 2] at e
    funext a
    match a with
    | ⟨0, _⟩ => exact Fin.ext (by have := (i 0).isLt; change (i 0).val < 1 at this; show (i 0).val = 0; omega)
    | ⟨1, _⟩ => exact Fin.ext (by have := (i 1).isLt; change (i 1).val < 1 at this; show (i 1).val = 0; omega)
    | ⟨2, _⟩ => exact Fin.ext e
  · refine Finset.mem_filter.mpr ⟨Finset.mem_univ _, funext fun b => Fin.ext ?_⟩
    match b with
    | ⟨0, _⟩ => exact Shape.ReducesTo.drop_apply_val_of_eq h (ix3 0 0 l) 0 2

/-- The columns 6144 to 8191 replaced. -/
theorem update_apply (X : (⟨2, ![4096, 12288]⟩ : Shape).Idx → EReal) (U : (⟨2, ![4096, 2048]⟩ : Shape).Idx → EReal) (start : Fin 2 → Int)
    (h0 : start 0 = 0) (h1 : start 1 = 6144) (h) (i0 : Fin 4096) (i1 : Fin 12288) :
    Host.dynamicUpdateSlice X U start h (ix2 i0 i1) = if 6144 ≤ i1.val ∧ i1.val < 8192 then U (ix2 i0 (gateCol i1)) else X (ix2 i0 i1) := by
  have c0 : Host.clampedStart (⟨2, ![4096, 12288]⟩ : Shape) (⟨2, ![4096, 2048]⟩ : Shape) h.1 start 0 = 0 := by
    unfold Host.clampedStart; rw [h0]; rfl
  have c1 : Host.clampedStart (⟨2, ![4096, 12288]⟩ : Shape) (⟨2, ![4096, 2048]⟩ : Shape) h.1 start 1 = 6144 := by
    unfold Host.clampedStart; rw [h1]; rfl
  rw [Host.dynamicUpdateSlice_apply]
  have key : (∀ a : Fin 2, Host.clampedStart (⟨2, ![4096, 12288]⟩ : Shape) (⟨2, ![4096, 2048]⟩ : Shape) h.1 start a ≤ (ix2 i0 i1 a).val
      ∧ (ix2 i0 i1 a).val < Host.clampedStart (⟨2, ![4096, 12288]⟩ : Shape) (⟨2, ![4096, 2048]⟩ : Shape) h.1 start a + ![4096, 2048] a)
      ↔ 6144 ≤ i1.val ∧ i1.val < 8192 := by
    rw [Fin.forall_fin_two, c0, c1]
    have := i0.isLt
    show (0 ≤ i0.val ∧ i0.val < 0 + 4096) ∧ (6144 ≤ i1.val ∧ i1.val < 6144 + 2048) ↔ _
    omega
  by_cases hin : 6144 ≤ i1.val ∧ i1.val < 8192
  · rw [if_pos hin]
    refine (dif_pos (key.mpr hin)).trans (congrArg U (funext fun b => Fin.ext ?_))
    match b with
    | ⟨0, _⟩ =>
      show i0.val - Host.clampedStart (⟨2, ![4096, 12288]⟩ : Shape) (⟨2, ![4096, 2048]⟩ : Shape) h.1 start 0 = i0.val
      rw [c0]; rfl
    | ⟨1, _⟩ =>
      show i1.val - Host.clampedStart (⟨2, ![4096, 12288]⟩ : Shape) (⟨2, ![4096, 2048]⟩ : Shape) h.1 start 1 = (i1.val - 6144) % 2048
      rw [c1]; omega
  · rw [if_neg hin]
    exact dif_neg (fun h' => hin (key.mp h'))

theorem cotConv_comm (A0 : (⟨2, ![4096, 12288]⟩ : Shape).Idx → EReal) (A1 : (⟨2, ![4096, 4096]⟩ : Shape).Idx → EReal) (l : Fin 2048) :
    (fun r => gateB A0 l r * cot A1 l r) = cotConv A0 A1 l := funext fun _ => mul_comm _ _

/-- The reference's run: its four results are the four gradients. -/
theorem ref_run : θ_run defs (onTc (τ := τ) (main (F := Ideal))) ⟨m, fun _ => 0, ρ⟩ fun r => ∀ c : Dev nD,
      (r.2.mem (c.tc.loc main_v76) : (⟨2, ![4096, 12288]⟩ : Shape).Idx → EReal)
        = (fun i => if 6144 ≤ (i 1).val ∧ (i 1).val < 8192 then
        dGateB (m (c.tc.loc main_arg0)) (m (c.tc.loc main_arg1)) (m (c.tc.loc main_arg2)) (gateCol (i 1)) (i 0)
      else m (c.tc.loc main_arg3) i)
      ∧ (r.2.mem (c.tc.loc main_v78) : (⟨2, ![4096, 2048]⟩ : Shape).Idx → EReal)
        = (fun i => dGateC (m (c.tc.loc main_arg0)) (m (c.tc.loc main_arg1)) (m (c.tc.loc main_arg2)) (i 1) (i 0))
      ∧ (r.2.mem (c.tc.loc main_v80) : (⟨2, ![4096, 2048]⟩ : Shape).Idx → EReal)
        = (fun i => dInp (m (c.tc.loc main_arg0)) (m (c.tc.loc main_arg1)) (m (c.tc.loc main_arg2)) (i 1) (i 0))
      ∧ (r.2.mem (c.tc.loc main_v67) : (⟨2, ![3, 2048]⟩ : Shape).Idx → EReal)
        = (fun i => dTaps (m (c.tc.loc main_arg0)) (m (c.tc.loc main_arg1)) (i 1) (i 0))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_, (h c).2.2.2.1.trans ?_, (h c).2.2.2.2⟩)
    (Cert.ReferenceIdeal.Value.run (F := Ideal) m ρ)
  · clear h; funext i; idx_vars i
    rw [update_apply _ _ _ rfl rfl]
    refine if_congr Iff.rfl ?_ rfl
    show _ = dGateB _ _ _ (gateCol i1) i0
    generalize gateCol i1 = l
    clean_types; pointwise
    exact gateB_ref (cot (m (c.tc.loc main_arg1)) l i0) (prod (m (c.tc.loc main_arg0)) l) (taps (m (c.tc.loc main_arg2)) l) i0
  · clear h; funext i; idx_vars i; clean_types; pointwise
    exact congrArg₂ (· * ·) ((convT_ref (fun r => gateB (m (c.tc.loc main_arg0)) i1 r * cot (m (c.tc.loc main_arg1)) i1 r) (taps (m (c.tc.loc main_arg2)) i1) i0).trans
      (congrArg (convT · (taps (m (c.tc.loc main_arg2)) i1) i0) (cotConv_comm (m (c.tc.loc main_arg0)) (m (c.tc.loc main_arg1)) i1))) rfl
  · clear h; funext i; idx_vars i; clean_types; pointwise
    refine (mul_comm _ _).trans ?_
    exact congrArg₂ (· * ·) ((convT_ref (fun r => gateB (m (c.tc.loc main_arg0)) i1 r * cot (m (c.tc.loc main_arg1)) i1 r) (taps (m (c.tc.loc main_arg2)) i1) i0).trans
      (congrArg (convT · (taps (m (c.tc.loc main_arg2)) i1) i0) (cotConv_comm (m (c.tc.loc main_arg0)) (m (c.tc.loc main_arg1)) i1))) rfl
  · clear h; funext i; idx_vars i; clean_types; unfold Value.res_main_v67; clean_types; pointwise [reduce_ones]
    match i0 with
    | ⟨0, _⟩ =>
      rw [dif_neg (by simp), dif_pos (by simp), dif_neg (by simp), add_zero, zero_add]
      exact (tap0_ref (prod (m (c.tc.loc main_arg0)) i1) (fun r => gateB (m (c.tc.loc main_arg0)) i1 r * cot (m (c.tc.loc main_arg1)) i1 r)).trans
        (congrArg (tapGrad (prod (m (c.tc.loc main_arg0)) i1) · 0) (cotConv_comm (m (c.tc.loc main_arg0)) (m (c.tc.loc main_arg1)) i1))
    | ⟨1, _⟩ =>
      rw [dif_pos (by simp), dif_neg (by simp), dif_neg (by simp), add_zero, add_zero]
      exact (tap1_ref (prod (m (c.tc.loc main_arg0)) i1) (fun r => gateB (m (c.tc.loc main_arg0)) i1 r * cot (m (c.tc.loc main_arg1)) i1 r)).trans
        (congrArg (tapGrad (prod (m (c.tc.loc main_arg0)) i1) · 1) (cotConv_comm (m (c.tc.loc main_arg0)) (m (c.tc.loc main_arg1)) i1))
    | ⟨2, _⟩ =>
      rw [dif_neg (by simp), dif_neg (by simp), dif_pos (by simp), zero_add, zero_add]
      exact (tap2_ref (prod (m (c.tc.loc main_arg0)) i1) (fun r => gateB (m (c.tc.loc main_arg0)) i1 r * cot (m (c.tc.loc main_arg1)) i1 r)).trans
        (congrArg (tapGrad (prod (m (c.tc.loc main_arg0)) i1) · 2) (cotConv_comm (m (c.tc.loc main_arg0)) (m (c.tc.loc main_arg1)) i1))

end reference

/-! ## The kernel's run, and the claims -/

section kernel
open Cert.KernelIdeal Cert.KernelIdeal.Gen

variable (m : (ℓ : Loc nD τ sig) → Buf (Elt Ideal) ℓ) (ρ : Dev nD → PrngReg)

/-- The kernel's run: its four results are the four gradients. -/
theorem kernel_run : θ_run defs (onTc (τ := τ) (main (F := Ideal))) ⟨m, fun _ => 0, ρ⟩ fun r => ∀ c : Dev nD,
      r.2.mem (c.tc.loc main_v0_0)
        = (fun i => if 6144 ≤ (i 1).val ∧ (i 1).val < 8192 then
        dGateB (m (c.tc.loc main_arg0)) (m (c.tc.loc main_arg1)) (m (c.tc.loc main_arg2)) (gateCol (i 1)) (i 0)
      else m (c.tc.loc main_arg3) i)
      ∧ r.2.mem (c.tc.loc main_v0_1)
        = (fun i => dGateC (m (c.tc.loc main_arg0)) (m (c.tc.loc main_arg1)) (m (c.tc.loc main_arg2)) (i 1) (i 0))
      ∧ r.2.mem (c.tc.loc main_v0_2)
        = (fun i => dInp (m (c.tc.loc main_arg0)) (m (c.tc.loc main_arg1)) (m (c.tc.loc main_arg2)) (i 1) (i 0))
      ∧ r.2.mem (c.tc.loc main_v0_3)
        = (fun i => dTaps (m (c.tc.loc main_arg0)) (m (c.tc.loc main_arg1)) (i 1) (i 0))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans (final6 m c), (h c).2.2.1.trans (final7 m c),
    (h c).2.2.2.1.trans (final8 m c), (h c).2.2.2.2⟩) (Cert.KernelIdeal.Value.run_blocks (F := Ideal) m ρ)
  rw [final5 m c, entry5 m c]
  rfl

end kernel

/-- The reference runs to its end and keeps its arguments. -/
theorem frame_ref : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Kernel and reference end with equal results. -/
theorem algebraic : Cert.algebraic_KernelIdeal_ReferenceIdeal := by
  intro m g m' g' _ hargs
  refine ⟨_, _, _, _, kernel_run m g, ?_⟩
  refine (θ_run _ _ _).mono (fun r h c => ?_) (ref_run m' g')
  obtain ⟨a0, a1, a2, a3⟩ := hargs c
  obtain ⟨h0, h1, h2, h3, hk⟩ := h c
  rw [a0, a1, a2, a3] at h0
  rw [a0, a1, a2] at h1 h2
  rw [a0, a1] at h3
  exact ⟨h0, h1, h2, h3, hk⟩

end Cert.ShortConv
-- ==== Proof.Finite.lean ====
/-
Finite extended reals: what a whole-array test against infinity says of each element, and the step at which the gate's
derivative is rearranged.
-/
module

public import Idealize.ShloMosaic.PureOps
public import Idealize.ShloMosaic.PureOps.Ideal
public import Idealize.ShloMosaic.Lib.Pointwise

@[expose] public section

noncomputable section

open Idealize.ShloMosaic Idealize.ShloMosaic.Pointwise

namespace Cert.Finite

theorem andi_left {a b : BitVec 1} (h : IntOp.andi a b = 1#1) : a = 1#1 := by
  revert a b; decide

theorem andi_right {a b : BitVec 1} (h : IntOp.andi a b = 1#1) : b = 1#1 := by
  revert a b; decide

/-- A conjunction folded over a list holds at each of its members. -/
theorem foldl_andi {ι : Type} (p : ι → BitVec 1) : ∀ (l : List ι) (b : BitVec 1),
    l.foldl (fun r n => IntOp.andi r (p n)) b = 1#1 → b = 1#1 ∧ ∀ n ∈ l, p n = 1#1
  | [], _, h => ⟨h, fun n hn => absurd hn (List.not_mem_nil)⟩
  | a :: l, b, h => by
    obtain ⟨h1, h2⟩ := foldl_andi p l _ h
    refine ⟨andi_left h1, fun n hn => ?_⟩
    rcases List.mem_cons.mp hn with rfl | hn
    · exact andi_right h1
    · exact h2 n hn

/-- A conjunction over a whole array, when it holds, holds at every element. -/
theorem all_apply {s u : Shape} {axes : List (Fin s.rank)} (x : IVec s 1) (init : u.Idx → BitVec 1)
    (h : s.ReducesTo axes ⟨0, ![]⟩) (hu : 0 < u.numel) (j : (⟨0, ![]⟩ : Shape).Idx)
    (hj : Host.reduce IntOp.andi x init h hu j = 1#1) (i : s.Idx) : x i = 1#1 := by
  have hm := (foldl_andi (fun n => x (s.rowMajor.symm n)) _ _ hj).2 (s.rowMajor i)
    (List.mem_filter.mpr ⟨List.mem_finRange _, by simpa using Subsingleton.elim _ _⟩)
  rwa [Equiv.symm_apply_apply] at hm

/-- A real number: neither infinity. -/
def IsReal (x : EReal) : Prop := x ≠ ⊤ ∧ x ≠ ⊥

/-- The element of an array that passes the test against infinity is a real number. -/
theorem isReal_of_test {x : EReal} (h : BitVec.ofBool (decide (max x (-x) < Ideal.ofBits FTy.f32 0x7F800000#32)) = 1#1) :
    IsReal x := by
  have e : Ideal.ofBits FTy.f32 0x7F800000#32 = ⊤ := by simp [Ideal.ofBits, Ideal.ieee]
  rw [e] at h
  constructor
  · rintro rfl; simp at h
  · rintro rfl; simp at h

theorem IsReal.exists {x : EReal} (h : IsReal x) : ∃ a : ℝ, x = a := ⟨x.toReal, (EReal.coe_toReal h.1 h.2).symm⟩

theorem IsReal.coe (a : ℝ) : IsReal (a : EReal) := ⟨EReal.coe_ne_top a, EReal.coe_ne_bot a⟩

theorem IsReal.mul {x y : EReal} (hx : IsReal x) (hy : IsReal y) : IsReal (x * y) := by
  obtain ⟨a, rfl⟩ := hx.exists; obtain ⟨b, rfl⟩ := hy.exists
  rw [← EReal.coe_mul]; exact IsReal.coe _

theorem IsReal.add {x y : EReal} (hx : IsReal x) (hy : IsReal y) : IsReal (x + y) := by
  obtain ⟨a, rfl⟩ := hx.exists; obtain ⟨b, rfl⟩ := hy.exists
  rw [← EReal.coe_add]; exact IsReal.coe _

theorem IsReal.sum {ι : Type} (s : Finset ι) (f : ι → EReal) (h : ∀ i ∈ s, IsReal (f i)) : IsReal (∑ i ∈ s, f i) :=
  Finset.sum_induction f IsReal (fun _ _ => IsReal.add) (by exact_mod_cast IsReal.coe 0) h

/-- The logistic function as the programs compute it. -/
def logistic (g : EReal) : EReal := Ideal.div 1 (1 + Ideal.exp (-g))

theorem logistic_coe (g : ℝ) : logistic (g : EReal) = ((1 / (1 + Real.exp (-g)) : ℝ) : EReal) := by
  have h : (1 : ℝ) + Real.exp (-g) ≠ 0 := by positivity
  have e : (1 : EReal) + Ideal.exp (-(g : EReal)) = ((1 + Real.exp (-g) : ℝ) : EReal) := by
    rw [← EReal.coe_neg]; rfl
  unfold logistic Ideal.div
  rw [e, if_neg (by exact_mod_cast h), ← EReal.coe_inv, ← EReal.coe_one, ← EReal.coe_mul, one_div, one_mul]

theorem logistic_top : logistic ⊤ = 1 := by
  have e : (1 : EReal) + Ideal.exp (-⊤) = 1 := by rw [EReal.neg_top]; exact add_zero _
  unfold logistic Ideal.div
  rw [e, if_neg one_ne_zero, ← EReal.coe_one, ← EReal.coe_inv, ← EReal.coe_mul]; norm_num

theorem logistic_bot : logistic ⊥ = 0 := by
  have e : (1 : EReal) + Ideal.exp (-⊥) = ⊤ := by rw [EReal.neg_bot]; exact EReal.add_top_of_ne_bot (by decide)
  unfold logistic Ideal.div
  rw [e, if_neg EReal.top_ne_zero, EReal.inv_top, mul_zero]

/-- The gate's derivative, factored and in two terms, agree at a real cotangent and any gate. -/
theorem gate_deriv {x : EReal} (hx : IsReal x) (g : EReal) :
    x * (logistic g * (1 + g * (1 - logistic g)))
      = x * logistic g + g * x * (logistic g * (1 - logistic g)) := by
  obtain ⟨a, rfl⟩ := hx.exists
  have h1 : (1 : EReal) - 1 = 0 := by rw [← EReal.coe_one, ← EReal.coe_sub]; norm_num
  induction g using EReal.rec with
  | bot => rw [logistic_bot, zero_mul, zero_mul, mul_zero, mul_zero, add_zero]
  | top => rw [logistic_top, h1, mul_zero, mul_zero, mul_zero, add_zero, add_zero, mul_one]
  | coe g =>
    rw [logistic_coe, ← EReal.coe_one]
    norm_cast
    ring

end Cert.Finite

end
-- ==== Proof.Conv4.lean ====
/-
  The causal convolution with four taps and a bias that the state-space branch applies to its channels, on one column of
  4096 positions: what the kernels compute of it by rotations of a block and masks, and what the plain text computes of it
  by a column padded with three zeros in front. The moved columns are `ShortConv.later` and `ShortConv.earlier`.
-/
module

public import proofs.«01_k».proof.Proof.ShortConvRef
public import proofs.«01_k».proof.Proof.Finite

@[expose] public section

set_option maxRecDepth 16384

noncomputable section

open Idealize.ShloMosaic Idealize.ShloMosaic.TcCoe Idealize.SL.Sem Idealize.ShloMosaic.Pointwise
open Cert.ShortConv (later earlier)

namespace Cert.Conv4

variable (p q : Fin 4096 → EReal) (w : Fin 4 → EReal) (b : EReal)

/-- The convolution of a column; tap 3 is the present position. -/
def conv (r : Fin 4096) : EReal := p r * w 3 + later 3 p r * w 0 + later 2 p r * w 1 + later 1 p r * w 2 + b

/-- Its transpose in the column. -/
def convT (r : Fin 4096) : EReal := q r * w 3 + earlier 3 q r * w 0 + earlier 2 q r * w 1 + earlier 1 q r * w 2

/-- Its transpose in tap `k`. -/
def tapGrad (k : Fin 4) : EReal := ∑ r, q r * later (3 - k.val) p r

/-- The gate a convolved channel passes. -/
def silu (g : EReal) : EReal := g * Finite.logistic g

/-- A cotangent taken back through the gate. -/
def dSilu (c g : EReal) : EReal := c * (Finite.logistic g * (1 + g * (1 - Finite.logistic g)))

/-! ## As the kernels compute it -/

theorem rot_val (k : Nat) (r : Fin 4096) (hk : k ≤ r.val) (hk' : k ≤ 3) :
    (⟨(r.val + 4096 - k) % 4096, Nat.mod_lt _ (by decide)⟩ : Fin 4096) = ⟨r.val - k, by omega⟩ := by
  have := r.isLt
  apply Fin.ext; show (r.val + 4096 - k) % 4096 = r.val - k; omega

/-- Where the row is late enough the rotated row times a factor, elsewhere zero. -/
theorem down_mul (k : Nat) (hk : k ≤ 3) (a : EReal) (r : Fin 4096) :
    Scalar.select (IntOp.cmpi .sge (BitVec.ofNat 32 r.val) (BitVec.ofNat 32 k))
      (p ⟨(r.val + 4096 - k) % 4096, Nat.mod_lt _ (by decide)⟩ * a) (0 : EReal) = later k p r * a := by
  have := r.isLt
  rw [ShortConv.select_ge r.val k (by omega) (by omega)]
  unfold later
  by_cases h : k ≤ r.val
  · rw [if_pos h, if_pos h, rot_val k r h hk]
  · rw [if_neg h, if_neg h, zero_mul]

/-- The same, the factor in front. -/
theorem mul_down (k : Nat) (hk : k ≤ 3) (a : EReal) (r : Fin 4096) :
    Scalar.select (IntOp.cmpi .sge (BitVec.ofNat 32 r.val) (BitVec.ofNat 32 k))
      (a * p ⟨(r.val + 4096 - k) % 4096, Nat.mod_lt _ (by decide)⟩) (0 : EReal) = a * later k p r := by
  rw [mul_comm a, down_mul p k hk, mul_comm]

/-- A rotation of a block by `4096 - k` rows, kept where the row is early enough: the block moved `k` rows earlier. -/
theorem up_apply (n y : BitVec 32) (k : Nat) (hk : k ≤ 3) (hk0 : 0 < k) (hn : n.toNat = 4096 - k) (hy : y.toInt = ((4096 - k : Nat) : Int))
    (hrot : (⟨2, ![4096, 128]⟩ : Shape).Rotates 0 none) (x : FVec Ideal ⟨2, ![4096, 128]⟩ .f32) (r : Fin 4096) (l : Fin 128) :
    Scalar.select (IntOp.cmpi .slt (BitVec.ofNat 32 r.val) y) (dynamicRotate 0 n none x hrot (ix2 r l)) (0 : EReal)
      = earlier k (fun r => x (ix2 r l)) r := by
  have hr := r.isLt
  unfold earlier
  have e : (IntOp.cmpi .slt (BitVec.ofNat 32 r.val) y = 1) ↔ r.val + k < 4096 :=
    IntOp.cmpi_slt.trans (by rw [ShortConv.toInt_small r.val (by omega), hy]; omega)
  by_cases h : r.val + k < 4096
  · rw [dif_pos h, Scalar.select, if_pos (e.mpr h), Pointwise.dynamicRotate_apply]
    refine congrArg x (funext fun b => Fin.ext ?_)
    match b with
    | ⟨0, _⟩ => show (r.val + 4096 - (n.toNat + 0) % 4096) % 4096 = r.val + k; omega
    | ⟨1, _⟩ => rfl
  · rw [dif_neg h, Scalar.select, if_neg (fun h' => h (e.mp h'))]

/-! ## As the plain text computes it -/

/-- The padded column `j` positions on: the column moved `3 - j` later. -/
theorem padded (j : Nat) (hj : j ≤ 3) (r : Fin 4096) : (if h : j + r.val < 3 then 0 else p ⟨j + r.val - 3, by omega⟩) = later (3 - j) p r := by
  unfold later
  by_cases h : j + r.val < 3
  · rw [dif_pos h, if_neg (by omega)]
  · rw [dif_neg h, if_pos (by omega)]
    exact congrArg p (Fin.ext (by show j + r.val - 3 = r.val - (3 - j); omega))

/-- Position `3 + r` of a column padded with `lo` zeros in front: the column moved `3 - lo` earlier. -/
theorem behind (lo : Nat) (hlo : lo ≤ 3) (r : Fin 4096) :
    (if h : lo ≤ 3 + r.val ∧ 3 + r.val - lo < 4096 then q ⟨3 + r.val - lo, h.2⟩ else 0) = earlier (3 - lo) q r := by
  unfold earlier
  by_cases h : r.val + (3 - lo) < 4096
  · rw [dif_pos h, dif_pos (by omega)]
    exact congrArg q (Fin.ext (by show 3 + r.val - lo = r.val + (3 - lo); omega))
  · rw [dif_neg h, dif_neg (by omega)]

/-- The same where no zeros are in front: three positions earlier. -/
theorem behind_zero (r : Fin 4096) : (if h : 3 + r.val < 4096 then q ⟨3 + r.val, h⟩ else 0) = earlier 3 q r := by
  unfold earlier
  by_cases h : r.val + 3 < 4096
  · rw [dif_pos h, dif_pos (by omega)]
    exact congrArg q (Fin.ext (by show 3 + r.val = r.val + 3; omega))
  · rw [dif_neg h, dif_neg (by omega)]

/-- The transposed convolution in the order the plain text adds it, the taps multiplied in before the moves. -/
theorem convT_ref (r : Fin 4096) :
    (if h : 2 ≤ 3 + r.val ∧ 3 + r.val - 2 < 4096 then q ⟨3 + r.val - 2, h.2⟩ * w 2 else 0)
      + (if h : 1 ≤ 3 + r.val ∧ 3 + r.val - 1 < 4096 then q ⟨3 + r.val - 1, h.2⟩ * w 1 else 0)
      + (if h : 3 + r.val < 4096 then q ⟨3 + r.val, h⟩ * w 0 else 0) + q r * w 3 = convT q w r := by
  rw [behind (fun r => q r * w 2) 2 (by omega) r, behind (fun r => q r * w 1) 1 (by omega) r, behind_zero (fun r => q r * w 0) r,
    ShortConv.earlier_mul, ShortConv.earlier_mul, ShortConv.earlier_mul]
  unfold convT
  show earlier 1 q r * w 2 + earlier 2 q r * w 1 + earlier 3 q r * w 0 + q r * w 3 = _
  ac_rfl

theorem earlier_zero (r : Fin 4096) : earlier 0 q r = q r := by
  unfold earlier; rw [dif_pos (by have := r.isLt; omega)]; rfl

theorem later_zero (r : Fin 4096) : later 0 p r = p r := by
  unfold later; rw [if_pos (by omega)]; rfl

/-- The columns `s` to `s + n - 1` replaced. -/
theorem update_apply (C n s : Nat) (X : (⟨2, ![4096, C]⟩ : Shape).Idx → EReal) (U : (⟨2, ![4096, n]⟩ : Shape).Idx → EReal) (start : Fin 2 → Int)
    (h0 : start 0 = 0) (h1 : start 1 = (s : Int)) (hs : s + n ≤ C) (h) (hn : 0 < n) (i0 : Fin 4096) (i1 : Fin C) :
    Host.dynamicUpdateSlice X U start h (ix2 i0 i1)
      = if s ≤ i1.val ∧ i1.val < s + n then U (ix2 i0 ⟨(i1.val - s) % n, Nat.mod_lt _ hn⟩) else X (ix2 i0 i1) := by
  have c0 : Host.clampedStart (⟨2, ![4096, C]⟩ : Shape) (⟨2, ![4096, n]⟩ : Shape) h.1 start 0 = 0 := by
    unfold Host.clampedStart; rw [h0]; rfl
  have c1 : Host.clampedStart (⟨2, ![4096, C]⟩ : Shape) (⟨2, ![4096, n]⟩ : Shape) h.1 start 1 = s := by
    unfold Host.clampedStart; rw [h1]
    show (min (max (s : Int) 0) ((C - n : Nat) : Int)).toNat = s
    omega
  rw [Host.dynamicUpdateSlice_apply]
  have key : (∀ a : Fin 2, Host.clampedStart (⟨2, ![4096, C]⟩ : Shape) (⟨2, ![4096, n]⟩ : Shape) h.1 start a ≤ (ix2 i0 i1 a).val
      ∧ (ix2 i0 i1 a).val < Host.clampedStart (⟨2, ![4096, C]⟩ : Shape) (⟨2, ![4096, n]⟩ : Shape) h.1 start a + ![4096, n] a)
      ↔ s ≤ i1.val ∧ i1.val < s + n := by
    rw [Fin.forall_fin_two, c0, c1]
    have := i0.isLt
    show (0 ≤ i0.val ∧ i0.val < 0 + 4096) ∧ (s ≤ i1.val ∧ i1.val < s + n) ↔ _
    omega
  by_cases hin : s ≤ i1.val ∧ i1.val < s + n
  · rw [if_pos hin]
    refine (dif_pos (key.mpr hin)).trans (congrArg U (funext fun b => Fin.ext ?_))
    match b with
    | ⟨0, _⟩ =>
      show i0.val - Host.clampedStart (⟨2, ![4096, C]⟩ : Shape) (⟨2, ![4096, n]⟩ : Shape) h.1 start 0 = i0.val
      rw [c0]; rfl
    | ⟨1, _⟩ =>
      show i1.val - Host.clampedStart (⟨2, ![4096, C]⟩ : Shape) (⟨2, ![4096, n]⟩ : Shape) h.1 start 1 = (i1.val - s) % n
      rw [c1, Nat.mod_eq_of_lt (by omega)]
  · rw [if_neg hin]
    exact dif_neg (fun h' => hin (key.mp h'))

/-- A sum over two axes of one element each is that element. -/
theorem reduce_ones (h : (⟨3, ![1, 1, 1024]⟩ : Shape).ReducesTo [0, 1] (⟨1, ![1024]⟩ : Shape)) (v : (⟨3, ![1, 1, 1024]⟩ : Shape).Idx → EReal)
    (init : EReal) (l : Fin 1024) : Ideal.hostReduceAdd h v init (ix1 l) = init + v (ix3 0 0 l) := by
  unfold Ideal.hostReduceAdd
  refine congrArg (init + ·) ?_
  refine Finset.sum_eq_single (ix3 0 0 l) (fun i hi hne => (hne ?_).elim) (fun hne => (hne ?_).elim)
  · have e := congrArg Fin.val (congrFun (Finset.mem_filter.mp hi).2 0)
    rw [Shape.ReducesTo.drop_apply_val_of_eq h i 0 2] at e
    funext a
    match a with
    | ⟨0, _⟩ => exact Fin.ext (by have := (i 0).isLt; change (i 0).val < 1 at this; show (i 0).val = 0; omega)
    | ⟨1, _⟩ => exact Fin.ext (by have := (i 1).isLt; change (i 1).val < 1 at this; show (i 1).val = 0; omega)
    | ⟨2, _⟩ => exact Fin.ext e
  · refine Finset.mem_filter.mpr ⟨Finset.mem_univ _, funext fun b => Fin.ext ?_⟩
    match b with
    | ⟨0, _⟩ => exact Shape.ReducesTo.drop_apply_val_of_eq h (ix3 0 0 l) 0 2

end Cert.Conv4
-- ==== Proof.ConvGradB.lean ====
/-
  The gradient of the four-tap causal convolution and its gate, for the channels that become the input projection of the state: the gradient of
  the convolved columns, written into columns 4096 to 5119 of a wider array, and the gradients of the taps and the bias.
  The kernel takes blocks of 128 columns; the reference differentiates the plain text on whole arrays.
-/
module

public import proofs.«01_k».proof.Proof.Gen.ConvGradBIdeal.Value
public import proofs.«01_k».proof.Proof.Gen.ConvGradBRefIdeal.Run
public import proofs.«01_k».proof.Proof.Conv4
public import proofs.«01_k».proof.Proof.Gen.Pre_finite_ct_bc
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise
open Cert.ShortConv (later earlier)

namespace Cert.ConvGradBProof

section arrays
variable (A0 : (⟨2, ![4096, 12288]⟩ : Shape).Idx → EReal) (A1 : (⟨2, ![4096, 1024]⟩ : Shape).Idx → EReal) (A2 : (⟨2, ![4, 4096]⟩ : Shape).Idx → EReal) (A3 : (⟨2, ![1, 4096]⟩ : Shape).Idx → EReal)

/-- A convolved column. -/
def xcol (l : Fin 1024) (r : Fin 4096) : EReal := A0 (ix2 r ⟨4096 + l.val, by omega⟩)
/-- Its taps. -/
def taps (l : Fin 1024) (k : Fin 4) : EReal := A2 (ix2 k ⟨2048 + l.val, by omega⟩)
/-- Its bias. -/
def bias (l : Fin 1024) : EReal := A3 (ix2 0 ⟨2048 + l.val, by omega⟩)
/-- The convolution before its gate. -/
def pre (l : Fin 1024) (r : Fin 4096) : EReal := Conv4.conv (xcol A0 l) (taps A2 l) (bias A3 l) r
/-- The cotangent before the gate. -/
def dpre (l : Fin 1024) (r : Fin 4096) : EReal := Conv4.dSilu (A1 (ix2 r l)) (pre A0 A2 A3 l r)
/-- The gradient of the columns. -/
def dcol (l : Fin 1024) (r : Fin 4096) : EReal := Conv4.convT (dpre A0 A1 A2 A3 l) (taps A2 l) r
/-- The gradient of the taps. -/
def dtaps (l : Fin 1024) (k : Fin 4) : EReal := Conv4.tapGrad (xcol A0 l) (dpre A0 A1 A2 A3 l) k
/-- The gradient of the bias. -/
def dbias (l : Fin 1024) : EReal := ∑ r, dpre A0 A1 A2 A3 l r

end arrays

/-- The column of the gradient that column `j` of the wider array is. -/
def colOf (j : Fin 12288) : Fin 1024 := ⟨(j.val - 4096) % 1024, Nat.mod_lt _ (by decide)⟩

section kernel
open Cert.ConvGradBIdeal Cert.ConvGradBIdeal.Gen

variable (m : (ℓ : Loc nD τ sig) → Buf (Elt Ideal) ℓ) (ρ : Dev nD → PrngReg)

/-! ## A block: 128 columns -/

section block
variable (x0 x1 : Vec Ideal S4096x128 .bf16) (w : Vec Ideal S4x128 .f32) (b : Vec Ideal S1x128 .f32)

theorem pay6_apply (r : Fin 4096) (l : Fin 128) :
    k0_pay6 x0 w b (ix2 r l) = Conv4.conv (fun r => x0 (ix2 r l)) (fun k => w (ix2 k l)) (b (ix2 0 l)) r := by
  pointwise [k0_pay6, k0_pay4]
  rw [Conv4.down_mul (fun r => x0 (ix2 r l)) 3 (by omega), Conv4.down_mul (fun r => x0 (ix2 r l)) 2 (by omega),
    Conv4.down_mul (fun r => x0 (ix2 r l)) 1 (by omega)]
  rfl

theorem pay4_apply (r : Fin 4096) (l : Fin 128) : k0_pay4 x0 (ix2 r l) = x0 (ix2 r l) := by
  pointwise [k0_pay4]

/-- The convolution's cotangent. -/
theorem pay8_apply (r : Fin 4096) (l : Fin 128) : k0_pay8 (k0_pay5 x1) (k0_pay6 x0 w b) (k0_pay7 x0 w b) (ix2 r l)
    = Conv4.dSilu (x1 (ix2 r l)) (Conv4.conv (fun r => x0 (ix2 r l)) (fun k => w (ix2 k l)) (b (ix2 0 l)) r) := by
  rw [← pay6_apply]
  pointwise [k0_pay8, k0_pay7, k0_pay5]
  rw [zero_sub]
  rfl

variable (v4 v5 v38 v40 q v74 : FVec Ideal S4096x128 .f32) (v65 : FVec Ideal S4x128 .f32) (v84 : FVec Ideal S1x128 .f32)

theorem pay9_apply (k : Fin 4) (l : Fin 128) : k0_pay9 v4 v5 v38 v40 (ix2 k l)
    = if k.val = 3 then Conv4.tapGrad (fun r => v4 (ix2 r l)) (fun r => k0_pay8 v5 v38 v40 (ix2 r l)) 3 else 0 := by
  pointwise [k0_pay9]
  rw [ShortConv.select_eq k.val 3 (by omega) (by omega)]
  refine if_congr Iff.rfl (Finset.sum_congr rfl fun x _ => ?_) rfl
  exact congrArg _ (Conv4.later_zero (fun r => v4 (ix2 r l)) x).symm

theorem pay10_apply (r : Fin 4096) (l : Fin 128) : k0_pay10 w v5 (iota .tc S4096x128 32 [0] iota_S4096x128_d0_w32) v38 v40 (ix2 r l)
    = k0_pay8 v5 v38 v40 (ix2 r l) * w (ix2 3 l) + earlier 3 (fun r => k0_pay8 v5 v38 v40 (ix2 r l)) r * w (ix2 0 l) := by
  unfold k0_pay10
  generalize k0_pay8 v5 v38 v40 = q
  rw [← Conv4.up_apply 4093#32 4093#32 3 (by decide) (by decide) rfl rfl rotates_S4096x128_d0 q r l]
  generalize dynamicRotate 0 4093#32 none q rotates_S4096x128_d0 = A
  generalize 4093#32 = a
  pointwise

theorem pay14_apply (r : Fin 4096) (l : Fin 128) : k0_pay14 w (iota .tc S4096x128 32 [0] iota_S4096x128_d0_w32) q v74 (ix2 r l)
    = v74 (ix2 r l) + earlier 2 (fun r => q (ix2 r l)) r * w (ix2 1 l) + earlier 1 (fun r => q (ix2 r l)) r * w (ix2 2 l) := by
  unfold k0_pay14
  rw [← Conv4.up_apply 4094#32 4094#32 2 (by decide) (by decide) rfl rfl rotates_S4096x128_d0 q r l,
    ← Conv4.up_apply 4095#32 4095#32 1 (by decide) (by decide) rfl rfl rotates_S4096x128_d0 q r l]
  generalize dynamicRotate 0 4094#32 none q rotates_S4096x128_d0 = A
  generalize dynamicRotate 0 4095#32 none q rotates_S4096x128_d0 = B
  generalize 4094#32 = a
  generalize 4095#32 = b
  pointwise

/-- The input's gradient in a block. -/
theorem dx_apply (r : Fin 4096) (l : Fin 128) :
    k0_pay3 (k0_pay14 w (iota .tc S4096x128 32 [0] iota_S4096x128_d0_w32) (k0_pay8 v5 v38 v40)
      (k0_pay10 w v5 (iota .tc S4096x128 32 [0] iota_S4096x128_d0_w32) v38 v40)) (ix2 r l)
      = Conv4.convT (fun r => k0_pay8 v5 v38 v40 (ix2 r l)) (fun k => w (ix2 k l)) r := by
  pointwise [k0_pay3]
  rw [pay14_apply, pay10_apply]
  rfl

theorem pay12_apply (l : Fin 128) : k0_pay12 v4 v5 (iota .tc S4096x128 32 [0] iota_S4096x128_d0_w32) v38 v40 (ix2 0 l)
    = Conv4.tapGrad (fun r => v4 (ix2 r l)) (fun r => k0_pay8 v5 v38 v40 (ix2 r l)) 0 := by
  pointwise [k0_pay12]
  exact Finset.sum_congr rfl fun x _ => Conv4.mul_down (fun r => v4 (ix2 r l)) 3 (by omega) _ x

theorem rest_apply (k : Fin 4) (l : Fin 128) :
    k0_pay1 q (k0_pay13 v4 (iota .tc S4096x128 32 [0] iota_S4096x128_d0_w32) q (iota .tc S4x128 32 [0] iota_S4x128_d0_w32) v65 k0_pay11 v84
      (Scalar.ofBits .f32 0x00000000#32)) (k0_pay15 (iota .tc S4x128 32 [0] iota_S4x128_d0_w32)) (k0_pay16 (iota .tc S4096x128 32 [0] iota_S4096x128_d0_w32))
      (k0_pay17 v4) k0_pay18 (ix2 k l)
      = v65 (ix2 k l) + (if k.val = 0 then v84 (ix2 0 l) else 0)
        + (if k.val = 1 then Conv4.tapGrad (fun r => v4 (ix2 r l)) (fun r => q (ix2 r l)) 1 else 0)
        + (if k.val = 2 then Conv4.tapGrad (fun r => v4 (ix2 r l)) (fun r => q (ix2 r l)) 2 else 0) := by
  pointwise [k0_pay1, k0_pay13, k0_pay15, k0_pay16, k0_pay17, k0_pay18, k0_pay11]
  rw [ShortConv.select_eq k.val 0 (by omega) (by omega), ShortConv.select_eq k.val 1 (by omega) (by omega),
    ShortConv.select_eq k.val 2 (by omega) (by omega)]
  have e2 := Finset.sum_congr (s₁ := Finset.univ) rfl fun x _ => Conv4.mul_down (fun r => v4 (ix2 r l)) 2 (by omega) (q (ix2 x l)) x
  have e1 := Finset.sum_congr (s₁ := Finset.univ) rfl fun x _ => Conv4.mul_down (fun r => v4 (ix2 r l)) 1 (by omega) (q (ix2 x l)) x
  exact congrArg₂ (· + ·) (congrArg₂ (· + ·) rfl (if_congr Iff.rfl e2 rfl)) (if_congr Iff.rfl e1 rfl)

/-- The taps' gradient of a block. -/
theorem taps_apply (k : Fin 4) (l : Fin 128) :
    k0_pay1 (k0_pay8 v5 v38 v40) (k0_pay13 v4 (iota .tc S4096x128 32 [0] iota_S4096x128_d0_w32) (k0_pay8 v5 v38 v40)
      (iota .tc S4x128 32 [0] iota_S4x128_d0_w32) (k0_pay9 v4 v5 v38 v40) k0_pay11
      (k0_pay12 v4 v5 (iota .tc S4096x128 32 [0] iota_S4096x128_d0_w32) v38 v40)
      (Scalar.ofBits .f32 0x00000000#32)) (k0_pay15 (iota .tc S4x128 32 [0] iota_S4x128_d0_w32)) (k0_pay16 (iota .tc S4096x128 32 [0] iota_S4096x128_d0_w32))
      (k0_pay17 v4) k0_pay18 (ix2 k l)
      = Conv4.tapGrad (fun r => v4 (ix2 r l)) (fun r => k0_pay8 v5 v38 v40 (ix2 r l)) k := by
  rw [rest_apply, pay9_apply, pay12_apply]
  match k with
  | ⟨0, _⟩ => simp
  | ⟨1, _⟩ => simp
  | ⟨2, _⟩ => simp
  | ⟨3, _⟩ => simp

/-- The bias's gradient of a block. -/
theorem bias_apply (l : Fin 128) : k0_pay2 q (ix2 0 l) = ∑ r, q (ix2 r l) := by
  pointwise [k0_pay2]

end block

/-! ## The blocks against the arrays -/

theorem idx : ∀ t : Fin cfg0.N, win0_0.index t = ![0, 32 + t.val] ∧ win0_1.index t = ![0, t.val] ∧ win0_2.index t = ![0, 16 + t.val] ∧ win0_3.index t = ![0, 16 + t.val] ∧ win0_4.index t = ![0, 32 + t.val] ∧ win0_5.index t = ![0, t.val] ∧ win0_6.index t = ![0, t.val] :=
  (by decide +kernel : ∀ t : Fin grid0.N, _)

/-- The column of the whole arrays that column `l` of point `t`'s blocks is. -/
def colAt (t : Fin cfg0.N) (l : Fin 128) : Fin 1024 := ⟨t.val * 128 + l.val, by have := lt_of_lt_of_eq t.isLt N_0; omega⟩

section point
variable (c : Dev nD) (t : Fin cfg0.N) (l : Fin 128) (r : Fin 4096) (k : Fin 4)

theorem blk0 : iblk m c 0 t (ix2 r l) = xcol (m (c.tc.loc main_arg0)) (colAt t l) r := by
  unfold xcol colAt; blk_ext [iblk, V, idx t]
theorem blk1 : iblk m c 1 t (ix2 r l) = (show (⟨2, ![4096, 1024]⟩ : Shape).Idx → EReal from (m (c.tc.loc main_arg1))) (ix2 r (colAt t l)) := by
  unfold colAt; blk_ext [iblk, V, idx t]
theorem blk2 : iblk m c 2 t (ix2 k l) = taps (m (c.tc.loc main_arg2)) (colAt t l) k := by
  unfold taps colAt; blk_ext [iblk, V, idx t]
theorem blk3 : iblk m c 3 t (ix2 0 l) = bias (m (c.tc.loc main_arg3)) (colAt t l) := by
  unfold bias colAt; blk_ext [iblk, V, idx t]

theorem point8 : (k0_pay8 (k0_pay5 (iblk m c 1 t)) (k0_pay6 (iblk m c 0 t) (iblk m c 2 t) (iblk m c 3 t)) (k0_pay7 (iblk m c 0 t) (iblk m c 2 t) (iblk m c 3 t))) (ix2 r l) = dpre (m (c.tc.loc main_arg0)) (m (c.tc.loc main_arg1)) (m (c.tc.loc main_arg2)) (m (c.tc.loc main_arg3)) (colAt t l) r := by
  rw [pay8_apply]
  simp only [blk0, blk1, blk2, blk3]
  rfl

theorem point4 : k0_pay3 (k0_pay14 (iblk m c 2 t) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (k0_pay10 (iblk m c 2 t) (k0_pay5 (iblk m c 1 t)) (iota Kind.tc S4096x128 32 [0] iota_S4096x128_d0_w32)
      (k0_pay6 (iblk m c 0 t) (iblk m c 2 t) (iblk m c 3 t)) (k0_pay7 (iblk m c 0 t) (iblk m c 2 t) (iblk m c 3 t)))) (ix2 r l)
    = dcol (m (c.tc.loc main_arg0)) (m (c.tc.loc main_arg1)) (m (c.tc.loc main_arg2)) (m (c.tc.loc main_arg3)) (colAt t l) r := by
  rw [dx_apply]
  simp only [point8, blk2]
  rfl

theorem point5 : k0_pay1 (k0_pay8 (k0_pay5 (iblk m c 1 t)) (k0_pay6 (iblk m c 0 t) (iblk m c 2 t) (iblk m c 3 t)) (k0_pay7 (iblk m c 0 t) (iblk m c 2 t) (iblk m c 3 t))) (k0_pay13 (k0_pay4 (iblk m c 0 t)) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (iota Kind.tc S4x128 32 [0] iota_S4x128_d0_w32) (k0_pay9 (k0_pay4 (iblk m c 0 t)) (k0_pay5 (iblk m c 1 t)) (k0_pay6 (iblk m c 0 t) (iblk m c 2 t) (iblk m c 3 t)) (k0_pay7 (iblk m c 0 t) (iblk m c 2 t) (iblk m c 3 t))) k0_pay11
      (k0_pay12 (k0_pay4 (iblk m c 0 t)) (k0_pay5 (iblk m c 1 t)) (iota Kind.tc S4096x128 32 [0] iota_S4096x128_d0_w32) (k0_pay6 (iblk m c 0 t) (iblk m c 2 t) (iblk m c 3 t)) (k0_pay7 (iblk m c 0 t) (iblk m c 2 t) (iblk m c 3 t)))
      (Scalar.ofBits .f32 0x00000000#32)) (k0_pay15 (iota Kind.tc S4x128 32 [0] iota_S4x128_d0_w32)) (k0_pay16 (iota Kind.tc S4096x128 32 [0] iota_S4096x128_d0_w32)) (k0_pay17 (k0_pay4 (iblk m c 0 t))) k0_pay18 (ix2 k l)
    = dtaps (m (c.tc.loc main_arg0)) (m (c.tc.loc main_arg1)) (m (c.tc.loc main_arg2)) (m (c.tc.loc main_arg3)) (colAt t l) k := by
  rw [taps_apply]
  simp only [point8, pay4_apply, blk0]
  rfl

theorem point6 : k0_pay2 (k0_pay8 (k0_pay5 (iblk m c 1 t)) (k0_pay6 (iblk m c 0 t) (iblk m c 2 t) (iblk m c 3 t)) (k0_pay7 (iblk m c 0 t) (iblk m c 2 t) (iblk m c 3 t))) (ix2 0 l) = dbias (m (c.tc.loc main_arg0)) (m (c.tc.loc main_arg1)) (m (c.tc.loc main_arg2)) (m (c.tc.loc main_arg3)) (colAt t l) := by
  rw [bias_apply]
  simp only [point8]
  rfl

end point

theorem entry4 (c : Dev nD) : V m c main_v0_0 = m (c.tc.loc main_arg4) := by
  unfold V; after_results; try rfl

theorem colAt_eq_colOf (t : Fin cfg0.N) (l : Fin 128) (x : Fin 12288) (h : x.val = (32 + t.val) * 128 + l.val) : colAt t l = colOf x := by
  have ht : t.val < 8 := lt_of_lt_of_eq t.isLt N_0
  apply Fin.ext
  show t.val * 128 + l.val = (x.val - 4096) % 1024
  omega

/-- The written columns are the blocks 32 to 39. -/
theorem iff_128 (x : Nat) : 4096 ≤ x ∧ x < 5120 ↔ 32 ≤ x / 128 ∧ x / 128 < 40 := by omega

theorem wide4 (c : Dev nD) : (dats m 0 c).arrAt 4 cfg0.N = (fun i => if 4096 ≤ (i 1).val ∧ (i 1).val < 5120 then dcol (m (c.tc.loc main_arg0)) (m (c.tc.loc main_arg1)) (m (c.tc.loc main_arg2)) (m (c.tc.loc main_arg3)) (colOf (i 1)) (i 0) else V m c main_v0_0 i) := by
  refine (dats m 0 c).arrAt_eq_of_coversWhere 4 _ (fun β => 32 ≤ β 1 ∧ β 1 < 40) (by decide +kernel) (fun t hf y => ?_)
    (fun j => by blk_simp [Pipeline.Window.cell_apply]; exact iff_128 _)
  blk_simp
  rw [after0_4]
  simp only [outsAt0]
  frame_out
  idx_vars y
  refine (point4 m c t y1 y0).trans (congrArg₂ _ (colAt_eq_colOf t y1 _ ?_) (Fin.ext ?_)) <;> blk_simp [idx t]

theorem final4 (c : Dev nD) : (dats m 0 c).arrAt 4 cfg0.N = (fun i => if 4096 ≤ (i 1).val ∧ (i 1).val < 5120 then dcol (m (c.tc.loc main_arg0)) (m (c.tc.loc main_arg1)) (m (c.tc.loc main_arg2)) (m (c.tc.loc main_arg3)) (colOf (i 1)) (i 0) else m (c.tc.loc main_arg4) i) := by
  rw [wide4 m c, entry4 m c]
  rfl

theorem final5 (c : Dev nD) : (dats m 0 c).arrAt 5 cfg0.N = (fun i => dtaps (m (c.tc.loc main_arg0)) (m (c.tc.loc main_arg1)) (m (c.tc.loc main_arg2)) (m (c.tc.loc main_arg3)) (i 1) (i 0)) := by
  refine (dats m 0 c).arrAt_eq_of_covers 5 _ (by decide +kernel) fun t hf y => ?_
  blk_simp
  rw [after0_5]
  simp only [outsAt0]
  frame_out
  idx_vars y
  refine (point5 m c t y1 y0).trans (congrArg₂ _ (Fin.ext ?_) (Fin.ext ?_)) <;> (try unfold colAt) <;> blk_simp [idx t]
  all_goals (try dsimp only)
  all_goals omega

theorem final6 (c : Dev nD) : (dats m 0 c).arrAt 6 cfg0.N = (fun i => dbias (m (c.tc.loc main_arg0)) (m (c.tc.loc main_arg1)) (m (c.tc.loc main_arg2)) (m (c.tc.loc main_arg3)) (i 1)) := by
  refine (dats m 0 c).arrAt_eq_of_covers 6 _ (by decide +kernel) fun t hf y => ?_
  blk_simp
  rw [after0_6]
  simp only [outsAt0]
  frame_out
  idx_vars y
  obtain rfl : y0 = 0 := Subsingleton.elim _ _
  refine (point6 m c t y1).trans (congrArg _ (Fin.ext ?_)) <;> (try unfold colAt) <;> blk_simp [idx t]
  all_goals (try dsimp only)
  all_goals omega

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => if 4096 ≤ (i 1).val ∧ (i 1).val < 5120 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v0_1) = (fun i => dtaps (m (c.tc.loc main_arg0)) (m (c.tc.loc main_arg1)) (m (c.tc.loc main_arg2)) (m (c.tc.loc main_arg3)) (i 1) (i 0))
      ∧ r.2.mem (c.tc.loc main_v0_2) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final4 m c), (h c).2.1.trans (final5 m c), (h c).2.2.1.trans (final6 m c), (h c).2.2.2⟩)
    (Cert.ConvGradBIdeal.Value.run_blocks (F := Ideal) m ρ)

end kernel

/-! ## The reference -/

section reference
open Cert.ConvGradBRefIdeal Cert.ConvGradBRefIdeal.Gen

variable (m : (ℓ : Loc nD τ sig) → Buf (Elt Ideal) ℓ) (ρ : Dev nD → PrngReg)

/-- The columns with three zeros in front. -/
def padX (A0 : FVec Ideal S4096x12288 .bf16) : FVec Ideal S1x4099x1024 .f32 :=
  Value.fn_main_v6 (F := Ideal) ((broadcastInDim S1x3x1024 ![] bcast_S_S1x3x1024 (constant S_ .f32 0x00000000#32)) : FVec Ideal S1x3x1024 .f32) ((extf .f32 (broadcastInDim S1x4096x1024 ![1, 2] bcast_S4096x1024_S1x4096x1024_1_2 (extractStridedSlice S4096x1024 ![0, 4096] A0 slices_S4096x12288_S4096x1024_0_4096)) bitsLt_bf16_f32) : FVec Ideal S1x4096x1024 .f32)

/-- The convolution before its gate. -/
def preR (A0 : FVec Ideal S4096x12288 .bf16) (A2 : FVec Ideal S4x4096 .f32) (A3 : FVec Ideal S1x4096 .f32) : FVec Ideal S1x4096x1024 .f32 :=
  addf (addf (addf (addf (mulf (extractStridedSlice S1x4096x1024 ![0, 3, 0] (padX A0) slices_S1x4099x1024_S1x4096x1024_0_3_0) (broadcastInDim S1x4096x1024 ![0, 1, 2] bcast_S1x1x1024_S1x4096x1024_0_1_2 (broadcastInDim S1x1x1024 ![2] bcast_S1024_S1x1x1024_2 (shapeCast S1024 (extractStridedSlice S1x1024 ![3, 0] (extractStridedSlice S4x1024 ![0, 2048] A2 slices_S4x4096_S4x1024_0_2048) slices_S4x1024_S1x1024_3_0) shapeCasts_S1x1024_S1024)))) (mulf (extractStridedSlice S1x4096x1024 ![0, 0, 0] (padX A0) slices_S1x4099x1024_S1x4096x1024_0_0_0) (broadcastInDim S1x4096x1024 ![0, 1, 2] bcast_S1x1x1024_S1x4096x1024_0_1_2 (broadcastInDim S1x1x1024 ![2] bcast_S1024_S1x1x1024_2 (shapeCast S1024 (extractStridedSlice S1x1024 ![0, 0] (extractStridedSlice S4x1024 ![0, 2048] A2 slices_S4x4096_S4x1024_0_2048) slices_S4x1024_S1x1024_0_0) shapeCasts_S1x1024_S1024))))) (mulf (extractStridedSlice S1x4096x1024 ![0, 1, 0] (padX A0) slices_S1x4099x1024_S1x4096x1024_0_1_0) (broadcastInDim S1x4096x1024 ![0, 1, 2] bcast_S1x1x1024_S1x4096x1024_0_1_2 (broadcastInDim S1x1x1024 ![2] bcast_S1024_S1x1x1024_2 (shapeCast S1024 (extractStridedSlice S1x1024 ![1, 0] (extractStridedSlice S4x1024 ![0, 2048] A2 slices_S4x4096_S4x1024_0_2048) slices_S4x1024_S1x1024_1_0) shapeCasts_S1x1024_S1024))))) (mulf (extractStridedSlice S1x4096x1024 ![0, 2, 0] (padX A0) slices_S1x4099x1024_S1x4096x1024_0_2_0) (broadcastInDim S1x4096x1024 ![0, 1, 2] bcast_S1x1x1024_S1x4096x1024_0_1_2 (broadcastInDim S1x1x1024 ![2] bcast_S1024_S1x1x1024_2 (shapeCast S1024 (extractStridedSlice S1x1024 ![2, 0] (extractStridedSlice S4x1024 ![0, 2048] A2 slices_S4x4096_S4x1024_0_2048) slices_S4x1024_S1x1024_2_0) shapeCasts_S1x1024_S1024))))) (broadcastInDim S1x4096x1024 ![0, 1, 2] bcast_S1x1x1024_S1x4096x1024_0_1_2 (broadcastInDim S1x1x1024 ![1, 2] bcast_S1x1024_S1x1x1024_1_2 (extractStridedSlice S1x1024 ![0, 2048] A3 slices_S1x4096_S1x1024_0_2048)))

/-- The cotangent before the gate. -/
def dpreR (A0 : FVec Ideal S4096x12288 .bf16) (A1 : FVec Ideal S4096x1024 .bf16) (A2 : FVec Ideal S4x4096 .f32) (A3 : FVec Ideal S1x4096 .f32) : FVec Ideal S1x4096x1024 .f32 :=
  addf (mulf (extf .f32 (broadcastInDim S1x4096x1024 ![1, 2] bcast_S4096x1024_S1x4096x1024_1_2 A1) bitsLt_bf16_f32) (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3)))))) (mulf (mulf (preR A0 A2 A3) (extf .f32 (broadcastInDim S1x4096x1024 ![1, 2] bcast_S4096x1024_S1x4096x1024_1_2 A1) bitsLt_bf16_f32)) (mulf (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3))))) (subf ((broadcastInDim S1x4096x1024 ![] bcast_S_S1x4096x1024) (constant S_ .f32 0x3F800000#32)) (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3))))))))

/-- The bias's gradient. -/
def biasR (A0 : FVec Ideal S4096x12288 .bf16) (A1 : FVec Ideal S4096x1024 .bf16) (A2 : FVec Ideal S4x4096 .f32) (A3 : FVec Ideal S1x4096 .f32) : FVec Ideal S1x1024 .f32 :=
  broadcastInDim S1x1024 ![1] bcast_S1024_S1x1024_1 (Host.reduceAdd (shapeCast S1x1x1024 (Host.reduceAdd (dpreR A0 A1 A2 A3) (constant S_ .f32 0x00000000#32) reducesTo_S1x4096x1024_S1x1024_d1 h_S_) shapeCasts_S1x1024_S1x1x1024) (constant S_ .f32 0x00000000#32) reducesTo_S1x1x1024_S1024_d0_1 h_S_)

/-- The taps' gradient. -/
def tapsR (A0 : FVec Ideal S4096x12288 .bf16) (A1 : FVec Ideal S4096x1024 .bf16) (A2 : FVec Ideal S4x4096 .f32) (A3 : FVec Ideal S1x4096 .f32) : FVec Ideal S4x1024 .f32 :=
  addf (addf (addf (pad S4x1024 ![2, 0] ![1, 0] ![0, 0] (broadcastInDim S1x1024 ![1] bcast_S1024_S1x1024_1 (Host.reduceAdd (shapeCast S1x1x1024 (Host.reduceAdd (mulf (extractStridedSlice S1x4096x1024 ![0, 2, 0] (padX A0) slices_S1x4099x1024_S1x4096x1024_0_2_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_210_000 h_S_) (pad S4x1024 ![1, 0] ![2, 0] ![0, 0] (broadcastInDim S1x1024 ![1] bcast_S1024_S1x1024_1 (Host.reduceAdd (shapeCast S1x1x1024 (Host.reduceAdd (mulf (extractStridedSlice S1x4096x1024 ![0, 1, 0] (padX A0) slices_S1x4099x1024_S1x4096x1024_0_1_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast S1x1x1024 (Host.reduceAdd (mulf (extractStridedSlice S1x4096x1024 ![0, 0, 0] (padX A0) slices_S1x4099x1024_S1x4096x1024_0_0_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_030_000 h_S_)) (pad S4x1024 ![3, 0] ![0, 0] ![0, 0] (broadcastInDim S1x1024 ![1] bcast_S1024_S1x1024_1 (Host.reduceAdd (shapeCast S1x1x1024 (Host.reduceAdd (mulf (extractStridedSlice S1x4096x1024 ![0, 3, 0] (padX A0) slices_S1x4099x1024_S1x4096x1024_0_3_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_300_000 h_S_)

/-- The columns' gradient. -/
def colR (A0 : FVec Ideal S4096x12288 .bf16) (A1 : FVec Ideal S4096x1024 .bf16) (A2 : FVec Ideal S4x4096 .f32) (A3 : FVec Ideal S1x4096 .f32) : FVec Ideal S4096x1024 .bf16 :=
  truncf .bf16 (shapeCast S4096x1024 (extractStridedSlice S1x4096x1024 ![0, 3, 0] (addf (addf (addf (pad S1x4099x1024 ![0, 2, 0] ![0, 1, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![2, 0] (extractStridedSlice S4x1024 ![0, 2048] A2 slices_S4x4096_S4x1024_0_2048) slices_S4x1024_S1x1024_2_0) shapeCasts_S1x1024_S1024)))) (constant S_ .f32 0x00000000#32) pads_S1x4096x1024_S1x4099x1024_000_210_000 h_S_) (pad S1x4099x1024 ![0, 1, 0] ![0, 2, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![1, 0] (extractStridedSlice S4x1024 ![0, 2048] A2 slices_S4x4096_S4x1024_0_2048) slices_S4x1024_S1x1024_1_0) shapeCasts_S1x1024_S1024)))) (constant S_ .f32 0x00000000#32) pads_S1x4096x1024_S1x4099x1024_000_120_000 h_S_)) (pad S1x4099x1024 ![0, 0, 0] ![0, 3, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![0, 0] (extractStridedSlice S4x1024 ![0, 2048] A2 slices_S4x4096_S4x1024_0_2048) slices_S4x1024_S1x1024_0_0) shapeCasts_S1x1024_S1024)))) (constant S_ .f32 0x00000000#32) pads_S1x4096x1024_S1x4099x1024_000_030_000 h_S_)) (pad S1x4099x1024 ![0, 3, 0] ![0, 0, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![3, 0] (extractStridedSlice S4x1024 ![0, 2048] A2 slices_S4x4096_S4x1024_0_2048) slices_S4x1024_S1x1024_3_0) shapeCasts_S1x1024_S1024)))) (constant S_ .f32 0x00000000#32) pads_S1x4096x1024_S1x4099x1024_000_300_000 h_S_)) slices_S1x4099x1024_S1x4096x1024_0_3_0) shapeCasts_S1x4096x1024_S4096x1024) bitsLt_bf16_f32

section cuts
variable (A0 : FVec Ideal S4096x12288 .bf16) (A1 : FVec Ideal S4096x1024 .bf16) (A2 : FVec Ideal S4x4096 .f32) (A3 : FVec Ideal S1x4096 .f32)

theorem padX_apply (x : Fin 4099) (l : Fin 1024) : padX A0 (ix3 0 x l) = if h : x.val < 3 then 0 else xcol A0 l ⟨x.val - 3, by omega⟩ := by
  unfold padX
  pointwise [Value.fn_main_v6]
  rfl

theorem padX_at (j : Nat) (hj : j ≤ 3) (r : Fin 4096) (l : Fin 1024) (x : Fin 4099) (hx : x.val = j + r.val) :
    padX A0 (ix3 0 x l) = later (3 - j) (xcol A0 l) r := by
  obtain ⟨x, hx'⟩ := x
  simp only at hx
  subst hx
  rw [padX_apply]
  exact Conv4.padded (xcol A0 l) j hj r

theorem preR_apply (r : Fin 4096) (l : Fin 1024) : preR A0 A2 A3 (ix3 0 r l) = pre A0 A2 A3 l r := by
  have e3 := padX_at A0 3 (by omega) r l ⟨3 + r.val, by omega⟩ rfl
  have e2 := padX_at A0 2 (by omega) r l ⟨2 + r.val, by omega⟩ rfl
  have e1 := padX_at A0 1 (by omega) r l ⟨1 + r.val, by omega⟩ rfl
  have e0 := padX_at A0 0 (by omega) r l ⟨r.val, by omega⟩ (Nat.zero_add _).symm
  unfold preR
  generalize padX A0 = p at e0 e1 e2 e3 ⊢
  pointwise
  rw [e0, e1, e2, e3, Conv4.later_zero]
  rfl

theorem dpreR_apply (hfin : ∀ (r : Fin 4096) (l : Fin 1024), Finite.IsReal (A1 (ix2 r l))) (r : Fin 4096) (l : Fin 1024) :
    dpreR A0 A1 A2 A3 (ix3 0 r l) = dpre A0 A1 A2 A3 l r := by
  unfold dpreR dpre
  rw [← preR_apply]
  generalize preR A0 A2 A3 = p
  pointwise
  exact (Finite.gate_deriv (hfin r l) _).symm

theorem biasR_apply (l : Fin 1024) : biasR A0 A1 A2 A3 (ix2 0 l) = ∑ r, dpreR A0 A1 A2 A3 (ix3 0 r l) := by
  unfold biasR
  generalize dpreR A0 A1 A2 A3 = q
  pointwise [Conv4.reduce_ones]

theorem tap_sum (q : FVec Ideal S1x4096x1024 .f32) (l : Fin 1024) (j : Nat) (hj : j ≤ 3) (k : Fin 4) (hk : k.val = j)
    (f : Fin 4096 → Fin 4099) (hf : ∀ x, (f x).val = j + x.val) :
    ∑ x : Fin 4096, padX A0 (ix3 0 (f x) l) * q (ix3 0 x l) = Conv4.tapGrad (xcol A0 l) (fun r => q (ix3 0 r l)) k := by
  refine Finset.sum_congr rfl fun x _ => ?_
  rw [padX_at A0 j hj x l (f x) (hf x), mul_comm, hk]

theorem tapsR_apply (k : Fin 4) (l : Fin 1024) : tapsR A0 A1 A2 A3 (ix2 k l)
    = Conv4.tapGrad (xcol A0 l) (fun r => dpreR A0 A1 A2 A3 (ix3 0 r l)) k := by
  unfold tapsR
  generalize dpreR A0 A1 A2 A3 = q
  have e (k : Fin 4) (j : Nat) (hj : j ≤ 3) (hk : k.val = j) := tap_sum A0 q l j hj k hk
  generalize padX A0 = p at e ⊢
  pointwise [Conv4.reduce_ones]
  match k with
  | ⟨0, _⟩ =>
    rw [dif_neg (by simp), dif_neg (by simp), dif_pos (by simp), dif_neg (by simp), zero_add, zero_add, add_zero]
    exact e 0 0 (by omega) rfl (fun x => ⟨x.val, by omega⟩) (fun x => (Nat.zero_add _).symm)
  | ⟨1, _⟩ =>
    rw [dif_neg (by simp), dif_pos (by simp), dif_neg (by simp), dif_neg (by simp), zero_add, add_zero, add_zero]
    exact e 1 1 (by omega) rfl (fun x => ⟨1 + x.val, by omega⟩) (fun x => rfl)
  | ⟨2, _⟩ =>
    rw [dif_pos (by simp), dif_neg (by simp), dif_neg (by simp), dif_neg (by simp), add_zero, add_zero, add_zero]
    exact e 2 2 (by omega) rfl (fun x => ⟨2 + x.val, by omega⟩) (fun x => rfl)
  | ⟨3, _⟩ =>
    rw [dif_neg (by simp), dif_neg (by simp), dif_neg (by simp), dif_pos (by simp), zero_add, zero_add, zero_add]
    exact e 3 3 (by omega) rfl (fun x => ⟨3 + x.val, by omega⟩) (fun x => rfl)

theorem colR_apply (r : Fin 4096) (l : Fin 1024) : colR A0 A1 A2 A3 (ix2 r l)
    = Conv4.convT (fun r => dpreR A0 A1 A2 A3 (ix3 0 r l)) (taps A2 l) r := by
  unfold colR
  generalize dpreR A0 A1 A2 A3 = q
  pointwise
  exact Conv4.convT_ref (fun r => q (ix3 0 r l)) (taps A2 l) r

end cuts

variable (m : (ℓ : Loc nD τ sig) → Buf (Elt Ideal) ℓ) (ρ : Dev nD → PrngReg)

/-- The reference's run: where the cotangent is finite its results are the same, and it keeps its arguments. -/
theorem ref_run (hfin : ∀ (c : Dev nD) (r : Fin 4096) (l : Fin 1024), Finite.IsReal ((show (⟨2, ![4096, 1024]⟩ : Shape).Idx → EReal from (m (c.tc.loc main_arg1))) (ix2 r l))) :
    θ_run defs (onTc (τ := τ) (main (F := Ideal))) ⟨m, fun _ => 0, ρ⟩ fun r => ∀ c : Dev nD,
      r.2.mem (c.tc.loc main_v92) = (fun i => if 4096 ≤ (i 1).val ∧ (i 1).val < 5120 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v85) = (fun i => dtaps (m (c.tc.loc main_arg0)) (m (c.tc.loc main_arg1)) (m (c.tc.loc main_arg2)) (m (c.tc.loc main_arg3)) (i 1) (i 0))
      ∧ r.2.mem (c.tc.loc main_v45) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ⟨(h c).1.trans ?_, (h c).2.1.trans ?_, (h c).2.2.1.trans ?_, (h c).2.2.2⟩)
    (Cert.ConvGradBRefIdeal.Value.run (F := Ideal) m ρ)
  · clear h; funext i; idx_vars i
    unfold Value.res_main_v92
    rw [Conv4.update_apply 12288 1024 4096 _ _ _ rfl rfl (by omega) _ (by omega)]
    refine if_congr Iff.rfl ?_ rfl
    refine Eq.trans (b := colR (m (c.tc.loc main_arg0)) (m (c.tc.loc main_arg1)) (m (c.tc.loc main_arg2)) (m (c.tc.loc main_arg3)) (ix2 i0 (colOf i1))) rfl ?_
    rw [colR_apply]
    simp only [dpreR_apply _ _ _ _ (hfin c)]
    rfl
  · clear h; funext i; idx_vars i
    refine Eq.trans (b := tapsR (m (c.tc.loc main_arg0)) (m (c.tc.loc main_arg1)) (m (c.tc.loc main_arg2)) (m (c.tc.loc main_arg3)) (ix2 i0 i1)) rfl ?_
    rw [tapsR_apply]
    simp only [dpreR_apply _ _ _ _ (hfin c)]
    rfl
  · clear h; funext i; idx_vars i
    obtain rfl : i0 = 0 := Subsingleton.elim _ _
    refine Eq.trans (b := biasR (m (c.tc.loc main_arg0)) (m (c.tc.loc main_arg1)) (m (c.tc.loc main_arg2)) (m (c.tc.loc main_arg3)) (ix2 0 i1)) rfl ?_
    rw [biasR_apply]
    simp only [dpreR_apply _ _ _ _ (hfin c)]
    rfl

end reference

/-! ## The claims -/

/-- Under the precondition the cotangent is finite. -/
theorem isReal_ct (a0 a4 : FVec Ideal ⟨2, ![4096, 12288]⟩ .bf16) (a1 : FVec Ideal ⟨2, ![4096, 1024]⟩ .bf16) (a2 : FVec Ideal ⟨2, ![4, 4096]⟩ .f32)
    (a3 : FVec Ideal ⟨2, ![1, 4096]⟩ .f32) (h : Cert.Pre_finite_ct_bc.fn (F := Ideal) a0 a1 a2 a3 a4 = fun _ => 1#1) (r : Fin 4096) (l : Fin 1024) :
    Finite.IsReal (a1 (ix2 r l)) :=
  Finite.isReal_of_test (congrFun h (ix2 r l))

/-- The reference runs to its end and keeps its arguments. -/
theorem frame_ref : Cert.quiescent_ConvGradBRefIdeal := fun m ρ _ =>
  (θ_run Cert.ConvGradBRefIdeal.defs _ _).mono (fun r h => ⟨fun c => (h c).2.2.2,
      Idealize.ShloMosaic.sem_eq_zero_of_no_sems (by decide) r.2⟩)
    (Cert.ConvGradBRefIdeal.Value.run (F := Ideal) m ρ)

/-- Kernel and reference end with equal results where the cotangent is finite. -/
theorem algebraic : Cert.algebraic_ConvGradBIdeal_ConvGradBRefIdeal_pre_finite_ct_bc := by
  intro m g m' g' hpre hargs
  refine ⟨_, _, _, kernel_run m g, ?_⟩
  refine (θ_run _ _ _).mono (fun r h c => ?_) (ref_run m' g' fun c r l => ?_)
  · obtain ⟨a0, a1, a2, a3, a4⟩ := hargs c
    obtain ⟨h0, h1, h2, hk⟩ := h c
    rw [a0, a1, a2, a3, a4] at h0
    rw [a0, a1, a2, a3] at h1 h2
    exact ⟨h0, h1, h2, hk⟩
  · obtain ⟨a0, a1, a2, a3, a4⟩ := hargs c
    rw [a1]
    exact isReal_ct _ _ _ _ _ (hpre c) r l

end Cert.ConvGradBProof
end
-- ==== Proof.ConvGradC.lean ====
/-
  The gradient of the four-tap causal convolution and its gate, for the channels that read the state out: the gradient of
  the convolved columns, written into columns 5120 to 6143 of a wider array, and the gradients of the taps and the bias.
  The kernel takes blocks of 128 columns; the reference differentiates the plain text on whole arrays.
-/
module

public import proofs.«01_k».proof.Proof.Gen.ConvGradCIdeal.Value
public import proofs.«01_k».proof.Proof.Gen.ConvGradCRefIdeal.Run
public import proofs.«01_k».proof.Proof.Conv4
public import proofs.«01_k».proof.Proof.ConvGradB
public import proofs.«01_k».proof.Proof.Gen.Pre_finite_ct_bc
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise
open Cert.ShortConv (later earlier)

namespace Cert.ConvGradCProof

section arrays
variable (A0 : (⟨2, ![4096, 12288]⟩ : Shape).Idx → EReal) (A1 : (⟨2, ![4096, 1024]⟩ : Shape).Idx → EReal) (A2 : (⟨2, ![4, 4096]⟩ : Shape).Idx → EReal) (A3 : (⟨2, ![1, 4096]⟩ : Shape).Idx → EReal)

/-- A convolved column. -/
def xcol (l : Fin 1024) (r : Fin 4096) : EReal := A0 (ix2 r ⟨5120 + l.val, by omega⟩)
/-- Its taps. -/
def taps (l : Fin 1024) (k : Fin 4) : EReal := A2 (ix2 k ⟨3072 + l.val, by omega⟩)
/-- Its bias. -/
def bias (l : Fin 1024) : EReal := A3 (ix2 0 ⟨3072 + l.val, by omega⟩)
/-- The convolution before its gate. -/
def pre (l : Fin 1024) (r : Fin 4096) : EReal := Conv4.conv (xcol A0 l) (taps A2 l) (bias A3 l) r
/-- The cotangent before the gate. -/
def dpre (l : Fin 1024) (r : Fin 4096) : EReal := Conv4.dSilu (A1 (ix2 r l)) (pre A0 A2 A3 l r)
/-- The gradient of the columns. -/
def dcol (l : Fin 1024) (r : Fin 4096) : EReal := Conv4.convT (dpre A0 A1 A2 A3 l) (taps A2 l) r
/-- The gradient of the taps. -/
def dtaps (l : Fin 1024) (k : Fin 4) : EReal := Conv4.tapGrad (xcol A0 l) (dpre A0 A1 A2 A3 l) k
/-- The gradient of the bias. -/
def dbias (l : Fin 1024) : EReal := ∑ r, dpre A0 A1 A2 A3 l r

end arrays

/-- The column of the gradient that column `j` of the wider array is. -/
def colOf (j : Fin 12288) : Fin 1024 := ⟨(j.val - 5120) % 1024, Nat.mod_lt _ (by decide)⟩

section kernel
open Cert.ConvGradCIdeal Cert.ConvGradCIdeal.Gen

variable (m : (ℓ : Loc nD τ sig) → Buf (Elt Ideal) ℓ) (ρ : Dev nD → PrngReg)

/-! ## A block: 128 columns, as for the other channels -/

section block
variable (x0 x1 : Vec Ideal S4096x128 .bf16) (w : Vec Ideal S4x128 .f32) (b : Vec Ideal S1x128 .f32)
theorem pay4_apply (r : Fin 4096) (l : Fin 128) : k0_pay4 x0 (ix2 r l) = x0 (ix2 r l) :=
  ConvGradBProof.pay4_apply x0 r l

/-- The convolution's cotangent. -/
theorem pay8_apply (r : Fin 4096) (l : Fin 128) : k0_pay8 (k0_pay5 x1) (k0_pay6 x0 w b) (k0_pay7 x0 w b) (ix2 r l)
    = Conv4.dSilu (x1 (ix2 r l)) (Conv4.conv (fun r => x0 (ix2 r l)) (fun k => w (ix2 k l)) (b (ix2 0 l)) r) :=
  ConvGradBProof.pay8_apply x0 x1 w b r l

variable (v4 v5 v38 v40 q : FVec Ideal S4096x128 .f32)

/-- The input's gradient in a block. -/
theorem dx_apply (r : Fin 4096) (l : Fin 128) :
    k0_pay3 (k0_pay14 w (iota .tc S4096x128 32 [0] iota_S4096x128_d0_w32) (k0_pay8 v5 v38 v40)
      (k0_pay10 w v5 (iota .tc S4096x128 32 [0] iota_S4096x128_d0_w32) v38 v40)) (ix2 r l)
      = Conv4.convT (fun r => k0_pay8 v5 v38 v40 (ix2 r l)) (fun k => w (ix2 k l)) r :=
  ConvGradBProof.dx_apply w v5 v38 v40 r l

/-- The taps' gradient of a block. -/
theorem taps_apply (k : Fin 4) (l : Fin 128) :
    k0_pay1 (k0_pay8 v5 v38 v40) (k0_pay13 v4 (iota .tc S4096x128 32 [0] iota_S4096x128_d0_w32) (k0_pay8 v5 v38 v40)
      (iota .tc S4x128 32 [0] iota_S4x128_d0_w32) (k0_pay9 v4 v5 v38 v40) k0_pay11
      (k0_pay12 v4 v5 (iota .tc S4096x128 32 [0] iota_S4096x128_d0_w32) v38 v40)
      (Scalar.ofBits .f32 0x00000000#32)) (k0_pay15 (iota .tc S4x128 32 [0] iota_S4x128_d0_w32)) (k0_pay16 (iota .tc S4096x128 32 [0] iota_S4096x128_d0_w32))
      (k0_pay17 v4) k0_pay18 (ix2 k l)
      = Conv4.tapGrad (fun r => v4 (ix2 r l)) (fun r => k0_pay8 v5 v38 v40 (ix2 r l)) k :=
  ConvGradBProof.taps_apply v4 v5 v38 v40 k l

/-- The bias's gradient of a block. -/
theorem bias_apply (l : Fin 128) : k0_pay2 q (ix2 0 l) = ∑ r, q (ix2 r l) :=
  ConvGradBProof.bias_apply q l

end block

/-! ## The blocks against the arrays -/

theorem idx : ∀ t : Fin cfg0.N, win0_0.index t = ![0, 40 + t.val] ∧ win0_1.index t = ![0, t.val] ∧ win0_2.index t = ![0, 24 + t.val] ∧ win0_3.index t = ![0, 24 + t.val] ∧ win0_4.index t = ![0, 40 + t.val] ∧ win0_5.index t = ![0, t.val] ∧ win0_6.index t = ![0, t.val] :=
  (by decide +kernel : ∀ t : Fin grid0.N, _)

/-- The column of the whole arrays that column `l` of point `t`'s blocks is. -/
def colAt (t : Fin cfg0.N) (l : Fin 128) : Fin 1024 := ⟨t.val * 128 + l.val, by have := lt_of_lt_of_eq t.isLt N_0; omega⟩

section point
variable (c : Dev nD) (t : Fin cfg0.N) (l : Fin 128) (r : Fin 4096) (k : Fin 4)

theorem blk0 : iblk m c 0 t (ix2 r l) = xcol (m (c.tc.loc main_arg0)) (colAt t l) r := by
  unfold xcol colAt; blk_ext [iblk, V, idx t]
theorem blk1 : iblk m c 1 t (ix2 r l) = (show (⟨2, ![4096, 1024]⟩ : Shape).Idx → EReal from (m (c.tc.loc main_arg1))) (ix2 r (colAt t l)) := by
  unfold colAt; blk_ext [iblk, V, idx t]
theorem blk2 : iblk m c 2 t (ix2 k l) = taps (m (c.tc.loc main_arg2)) (colAt t l) k := by
  unfold taps colAt; blk_ext [iblk, V, idx t]
theorem blk3 : iblk m c 3 t (ix2 0 l) = bias (m (c.tc.loc main_arg3)) (colAt t l) := by
  unfold bias colAt; blk_ext [iblk, V, idx t]

theorem point8 : (k0_pay8 (k0_pay5 (iblk m c 1 t)) (k0_pay6 (iblk m c 0 t) (iblk m c 2 t) (iblk m c 3 t)) (k0_pay7 (iblk m c 0 t) (iblk m c 2 t) (iblk m c 3 t))) (ix2 r l) = dpre (m (c.tc.loc main_arg0)) (m (c.tc.loc main_arg1)) (m (c.tc.loc main_arg2)) (m (c.tc.loc main_arg3)) (colAt t l) r := by
  rw [pay8_apply]
  simp only [blk0, blk1, blk2, blk3]
  rfl

theorem point4 : k0_pay3 (k0_pay14 (iblk m c 2 t) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (k0_pay10 (iblk m c 2 t) (k0_pay5 (iblk m c 1 t)) (iota Kind.tc S4096x128 32 [0] iota_S4096x128_d0_w32)
      (k0_pay6 (iblk m c 0 t) (iblk m c 2 t) (iblk m c 3 t)) (k0_pay7 (iblk m c 0 t) (iblk m c 2 t) (iblk m c 3 t)))) (ix2 r l)
    = dcol (m (c.tc.loc main_arg0)) (m (c.tc.loc main_arg1)) (m (c.tc.loc main_arg2)) (m (c.tc.loc main_arg3)) (colAt t l) r := by
  rw [dx_apply]
  simp only [point8, blk2]
  rfl

theorem point5 : k0_pay1 (k0_pay8 (k0_pay5 (iblk m c 1 t)) (k0_pay6 (iblk m c 0 t) (iblk m c 2 t) (iblk m c 3 t)) (k0_pay7 (iblk m c 0 t) (iblk m c 2 t) (iblk m c 3 t))) (k0_pay13 (k0_pay4 (iblk m c 0 t)) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (iota Kind.tc S4x128 32 [0] iota_S4x128_d0_w32) (k0_pay9 (k0_pay4 (iblk m c 0 t)) (k0_pay5 (iblk m c 1 t)) (k0_pay6 (iblk m c 0 t) (iblk m c 2 t) (iblk m c 3 t)) (k0_pay7 (iblk m c 0 t) (iblk m c 2 t) (iblk m c 3 t))) k0_pay11
      (k0_pay12 (k0_pay4 (iblk m c 0 t)) (k0_pay5 (iblk m c 1 t)) (iota Kind.tc S4096x128 32 [0] iota_S4096x128_d0_w32) (k0_pay6 (iblk m c 0 t) (iblk m c 2 t) (iblk m c 3 t)) (k0_pay7 (iblk m c 0 t) (iblk m c 2 t) (iblk m c 3 t)))
      (Scalar.ofBits .f32 0x00000000#32)) (k0_pay15 (iota Kind.tc S4x128 32 [0] iota_S4x128_d0_w32)) (k0_pay16 (iota Kind.tc S4096x128 32 [0] iota_S4096x128_d0_w32)) (k0_pay17 (k0_pay4 (iblk m c 0 t))) k0_pay18 (ix2 k l)
    = dtaps (m (c.tc.loc main_arg0)) (m (c.tc.loc main_arg1)) (m (c.tc.loc main_arg2)) (m (c.tc.loc main_arg3)) (colAt t l) k := by
  rw [taps_apply]
  simp only [point8, pay4_apply, blk0]
  rfl

theorem point6 : k0_pay2 (k0_pay8 (k0_pay5 (iblk m c 1 t)) (k0_pay6 (iblk m c 0 t) (iblk m c 2 t) (iblk m c 3 t)) (k0_pay7 (iblk m c 0 t) (iblk m c 2 t) (iblk m c 3 t))) (ix2 0 l) = dbias (m (c.tc.loc main_arg0)) (m (c.tc.loc main_arg1)) (m (c.tc.loc main_arg2)) (m (c.tc.loc main_arg3)) (colAt t l) := by
  rw [bias_apply]
  simp only [point8]
  rfl

end point

theorem entry4 (c : Dev nD) : V m c main_v0_0 = m (c.tc.loc main_arg4) := by
  unfold V; after_results; try rfl

theorem colAt_eq_colOf (t : Fin cfg0.N) (l : Fin 128) (x : Fin 12288) (h : x.val = (40 + t.val) * 128 + l.val) : colAt t l = colOf x := by
  have ht : t.val < 8 := lt_of_lt_of_eq t.isLt N_0
  apply Fin.ext
  show t.val * 128 + l.val = (x.val - 5120) % 1024
  omega

/-- The written columns are the blocks 40 to 47. -/
theorem iff_128 (x : Nat) : 5120 ≤ x ∧ x < 6144 ↔ 40 ≤ x / 128 ∧ x / 128 < 48 := by omega

theorem wide4 (c : Dev nD) : (dats m 0 c).arrAt 4 cfg0.N = (fun i => if 5120 ≤ (i 1).val ∧ (i 1).val < 6144 then dcol (m (c.tc.loc main_arg0)) (m (c.tc.loc main_arg1)) (m (c.tc.loc main_arg2)) (m (c.tc.loc main_arg3)) (colOf (i 1)) (i 0) else V m c main_v0_0 i) := by
  refine (dats m 0 c).arrAt_eq_of_coversWhere 4 _ (fun β => 40 ≤ β 1 ∧ β 1 < 48) (by decide +kernel) (fun t hf y => ?_)
    (fun j => by blk_simp [Pipeline.Window.cell_apply]; exact iff_128 _)
  blk_simp
  rw [after0_4]
  simp only [outsAt0]
  frame_out
  idx_vars y
  refine (point4 m c t y1 y0).trans (congrArg₂ _ (colAt_eq_colOf t y1 _ ?_) (Fin.ext ?_)) <;> blk_simp [idx t]

theorem final4 (c : Dev nD) : (dats m 0 c).arrAt 4 cfg0.N = (fun i => if 5120 ≤ (i 1).val ∧ (i 1).val < 6144 then dcol (m (c.tc.loc main_arg0)) (m (c.tc.loc main_arg1)) (m (c.tc.loc main_arg2)) (m (c.tc.loc main_arg3)) (colOf (i 1)) (i 0) else m (c.tc.loc main_arg4) i) := by
  rw [wide4 m c, entry4 m c]
  rfl

theorem final5 (c : Dev nD) : (dats m 0 c).arrAt 5 cfg0.N = (fun i => dtaps (m (c.tc.loc main_arg0)) (m (c.tc.loc main_arg1)) (m (c.tc.loc main_arg2)) (m (c.tc.loc main_arg3)) (i 1) (i 0)) := by
  refine (dats m 0 c).arrAt_eq_of_covers 5 _ (by decide +kernel) fun t hf y => ?_
  blk_simp
  rw [after0_5]
  simp only [outsAt0]
  frame_out
  idx_vars y
  refine (point5 m c t y1 y0).trans (congrArg₂ _ (Fin.ext ?_) (Fin.ext ?_)) <;> (try unfold colAt) <;> blk_simp [idx t]
  all_goals (try dsimp only)
  all_goals omega

theorem final6 (c : Dev nD) : (dats m 0 c).arrAt 6 cfg0.N = (fun i => dbias (m (c.tc.loc main_arg0)) (m (c.tc.loc main_arg1)) (m (c.tc.loc main_arg2)) (m (c.tc.loc main_arg3)) (i 1)) := by
  refine (dats m 0 c).arrAt_eq_of_covers 6 _ (by decide +kernel) fun t hf y => ?_
  blk_simp
  rw [after0_6]
  simp only [outsAt0]
  frame_out
  idx_vars y
  obtain rfl : y0 = 0 := Subsingleton.elim _ _
  refine (point6 m c t y1).trans (congrArg _ (Fin.ext ?_)) <;> (try unfold colAt) <;> blk_simp [idx t]
  all_goals (try dsimp only)
  all_goals omega

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => if 5120 ≤ (i 1).val ∧ (i 1).val < 6144 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v0_1) = (fun i => dtaps (m (c.tc.loc main_arg0)) (m (c.tc.loc main_arg1)) (m (c.tc.loc main_arg2)) (m (c.tc.loc main_arg3)) (i 1) (i 0))
      ∧ r.2.mem (c.tc.loc main_v0_2) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final4 m c), (h c).2.1.trans (final5 m c), (h c).2.2.1.trans (final6 m c), (h c).2.2.2⟩)
    (Cert.ConvGradCIdeal.Value.run_blocks (F := Ideal) m ρ)

end kernel

/-! ## The reference -/

section reference
open Cert.ConvGradCRefIdeal Cert.ConvGradCRefIdeal.Gen

variable (m : (ℓ : Loc nD τ sig) → Buf (Elt Ideal) ℓ) (ρ : Dev nD → PrngReg)

/-- The columns with three zeros in front. -/
def padX (A0 : FVec Ideal S4096x12288 .bf16) : FVec Ideal S1x4099x1024 .f32 :=
  Value.fn_main_v6 (F := Ideal) ((broadcastInDim S1x3x1024 ![] bcast_S_S1x3x1024 (constant S_ .f32 0x00000000#32)) : FVec Ideal S1x3x1024 .f32) ((extf .f32 (broadcastInDim S1x4096x1024 ![1, 2] bcast_S4096x1024_S1x4096x1024_1_2 (extractStridedSlice S4096x1024 ![0, 5120] A0 slices_S4096x12288_S4096x1024_0_5120)) bitsLt_bf16_f32) : FVec Ideal S1x4096x1024 .f32)

/-- The convolution before its gate. -/
def preR (A0 : FVec Ideal S4096x12288 .bf16) (A2 : FVec Ideal S4x4096 .f32) (A3 : FVec Ideal S1x4096 .f32) : FVec Ideal S1x4096x1024 .f32 :=
  addf (addf (addf (addf (mulf (extractStridedSlice S1x4096x1024 ![0, 3, 0] (padX A0) slices_S1x4099x1024_S1x4096x1024_0_3_0) (broadcastInDim S1x4096x1024 ![0, 1, 2] bcast_S1x1x1024_S1x4096x1024_0_1_2 (broadcastInDim S1x1x1024 ![2] bcast_S1024_S1x1x1024_2 (shapeCast S1024 (extractStridedSlice S1x1024 ![3, 0] (extractStridedSlice S4x1024 ![0, 3072] A2 slices_S4x4096_S4x1024_0_3072) slices_S4x1024_S1x1024_3_0) shapeCasts_S1x1024_S1024)))) (mulf (extractStridedSlice S1x4096x1024 ![0, 0, 0] (padX A0) slices_S1x4099x1024_S1x4096x1024_0_0_0) (broadcastInDim S1x4096x1024 ![0, 1, 2] bcast_S1x1x1024_S1x4096x1024_0_1_2 (broadcastInDim S1x1x1024 ![2] bcast_S1024_S1x1x1024_2 (shapeCast S1024 (extractStridedSlice S1x1024 ![0, 0] (extractStridedSlice S4x1024 ![0, 3072] A2 slices_S4x4096_S4x1024_0_3072) slices_S4x1024_S1x1024_0_0) shapeCasts_S1x1024_S1024))))) (mulf (extractStridedSlice S1x4096x1024 ![0, 1, 0] (padX A0) slices_S1x4099x1024_S1x4096x1024_0_1_0) (broadcastInDim S1x4096x1024 ![0, 1, 2] bcast_S1x1x1024_S1x4096x1024_0_1_2 (broadcastInDim S1x1x1024 ![2] bcast_S1024_S1x1x1024_2 (shapeCast S1024 (extractStridedSlice S1x1024 ![1, 0] (extractStridedSlice S4x1024 ![0, 3072] A2 slices_S4x4096_S4x1024_0_3072) slices_S4x1024_S1x1024_1_0) shapeCasts_S1x1024_S1024))))) (mulf (extractStridedSlice S1x4096x1024 ![0, 2, 0] (padX A0) slices_S1x4099x1024_S1x4096x1024_0_2_0) (broadcastInDim S1x4096x1024 ![0, 1, 2] bcast_S1x1x1024_S1x4096x1024_0_1_2 (broadcastInDim S1x1x1024 ![2] bcast_S1024_S1x1x1024_2 (shapeCast S1024 (extractStridedSlice S1x1024 ![2, 0] (extractStridedSlice S4x1024 ![0, 3072] A2 slices_S4x4096_S4x1024_0_3072) slices_S4x1024_S1x1024_2_0) shapeCasts_S1x1024_S1024))))) (broadcastInDim S1x4096x1024 ![0, 1, 2] bcast_S1x1x1024_S1x4096x1024_0_1_2 (broadcastInDim S1x1x1024 ![1, 2] bcast_S1x1024_S1x1x1024_1_2 (extractStridedSlice S1x1024 ![0, 3072] A3 slices_S1x4096_S1x1024_0_3072)))

/-- The cotangent before the gate. -/
def dpreR (A0 : FVec Ideal S4096x12288 .bf16) (A1 : FVec Ideal S4096x1024 .bf16) (A2 : FVec Ideal S4x4096 .f32) (A3 : FVec Ideal S1x4096 .f32) : FVec Ideal S1x4096x1024 .f32 :=
  addf (mulf (extf .f32 (broadcastInDim S1x4096x1024 ![1, 2] bcast_S4096x1024_S1x4096x1024_1_2 A1) bitsLt_bf16_f32) (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3)))))) (mulf (mulf (preR A0 A2 A3) (extf .f32 (broadcastInDim S1x4096x1024 ![1, 2] bcast_S4096x1024_S1x4096x1024_1_2 A1) bitsLt_bf16_f32)) (mulf (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3))))) (subf ((broadcastInDim S1x4096x1024 ![] bcast_S_S1x4096x1024) (constant S_ .f32 0x3F800000#32)) (Host.divf ((broadcastInDim S1x4096x1024 ![] bcast_S_S1x4096x1024) (constant S_ .f32 0x3F800000#32)) (addf ((broadcastInDim S1x4096x1024 ![] bcast_S_S1x4096x1024) (constant S_ .f32 0x3F800000#32)) (Host.exp (Host.negf (preR A0 A2 A3))))))))

/-- The bias's gradient. -/
def biasR (A0 : FVec Ideal S4096x12288 .bf16) (A1 : FVec Ideal S4096x1024 .bf16) (A2 : FVec Ideal S4x4096 .f32) (A3 : FVec Ideal S1x4096 .f32) : FVec Ideal S1x1024 .f32 :=
  broadcastInDim S1x1024 ![1] bcast_S1024_S1x1024_1 (Host.reduceAdd (shapeCast S1x1x1024 (Host.reduceAdd (dpreR A0 A1 A2 A3) (constant S_ .f32 0x00000000#32) reducesTo_S1x4096x1024_S1x1024_d1 h_S_) shapeCasts_S1x1024_S1x1x1024) (constant S_ .f32 0x00000000#32) reducesTo_S1x1x1024_S1024_d0_1 h_S_)

/-- The taps' gradient. -/
def tapsR (A0 : FVec Ideal S4096x12288 .bf16) (A1 : FVec Ideal S4096x1024 .bf16) (A2 : FVec Ideal S4x4096 .f32) (A3 : FVec Ideal S1x4096 .f32) : FVec Ideal S4x1024 .f32 :=
  addf (addf (addf (pad S4x1024 ![2, 0] ![1, 0] ![0, 0] (broadcastInDim S1x1024 ![1] bcast_S1024_S1x1024_1 (Host.reduceAdd (shapeCast S1x1x1024 (Host.reduceAdd (mulf (extractStridedSlice S1x4096x1024 ![0, 2, 0] (padX A0) slices_S1x4099x1024_S1x4096x1024_0_2_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_210_000 h_S_) (pad S4x1024 ![1, 0] ![2, 0] ![0, 0] (broadcastInDim S1x1024 ![1] bcast_S1024_S1x1024_1 (Host.reduceAdd (shapeCast S1x1x1024 (Host.reduceAdd (mulf (extractStridedSlice S1x4096x1024 ![0, 1, 0] (padX A0) slices_S1x4099x1024_S1x4096x1024_0_1_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast S1x1x1024 (Host.reduceAdd (mulf (extractStridedSlice S1x4096x1024 ![0, 0, 0] (padX A0) slices_S1x4099x1024_S1x4096x1024_0_0_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_030_000 h_S_)) (pad S4x1024 ![3, 0] ![0, 0] ![0, 0] (broadcastInDim S1x1024 ![1] bcast_S1024_S1x1024_1 (Host.reduceAdd (shapeCast S1x1x1024 (Host.reduceAdd (mulf (extractStridedSlice S1x4096x1024 ![0, 3, 0] (padX A0) slices_S1x4099x1024_S1x4096x1024_0_3_0) (dpreR A0 A1 A2 A3)) (constant S_ .f32 0x00000000#32) reducesTo_S1x4096x1024_S1x1024_d1 h_S_) shapeCasts_S1x1024_S1x1x1024) (constant S_ .f32 0x00000000#32) reducesTo_S1x1x1024_S1024_d0_1 h_S_)) (constant S_ .f32 0x00000000#32) pads_S1x1024_S4x1024_300_000 h_S_)

/-- The columns' gradient. -/
def colR (A0 : FVec Ideal S4096x12288 .bf16) (A1 : FVec Ideal S4096x1024 .bf16) (A2 : FVec Ideal S4x4096 .f32) (A3 : FVec Ideal S1x4096 .f32) : FVec Ideal S4096x1024 .bf16 :=
  truncf .bf16 (shapeCast S4096x1024 (extractStridedSlice S1x4096x1024 ![0, 3, 0] (addf (addf (addf (pad S1x4099x1024 ![0, 2, 0] ![0, 1, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![2, 0] (extractStridedSlice S4x1024 ![0, 3072] A2 slices_S4x4096_S4x1024_0_3072) slices_S4x1024_S1x1024_2_0) shapeCasts_S1x1024_S1024)))) (constant S_ .f32 0x00000000#32) pads_S1x4096x1024_S1x4099x1024_000_210_000 h_S_) (pad S1x4099x1024 ![0, 1, 0] ![0, 2, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![1, 0] (extractStridedSlice S4x1024 ![0, 3072] A2 slices_S4x4096_S4x1024_0_3072) slices_S4x1024_S1x1024_1_0) shapeCasts_S1x1024_S1024)))) (constant S_ .f32 0x00000000#32) pads_S1x4096x1024_S1x4099x1024_000_120_000 h_S_)) (pad S1x4099x1024 ![0, 0, 0] ![0, 3, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![0, 0] (extractStridedSlice S4x1024 ![0, 3072] A2 slices_S4x4096_S4x1024_0_3072) slices_S4x1024_S1x1024_0_0) shapeCasts_S1x1024_S1024)))) (constant S_ .f32 0x00000000#32) pads_S1x4096x1024_S1x4099x1024_000_030_000 h_S_)) (pad S1x4099x1024 ![0, 3, 0] ![0, 0, 0] ![0, 0, 0] (mulf (dpreR A0 A1 A2 A3) (broadcastInDim S1x4096x1024 ![0, 1, 2] bcast_S1x1x1024_S1x4096x1024_0_1_2 (broadcastInDim S1x1x1024 ![2] bcast_S1024_S1x1x1024_2 (shapeCast S1024 (extractStridedSlice S1x1024 ![3, 0] (extractStridedSlice S4x1024 ![0, 3072] A2 slices_S4x4096_S4x1024_0_3072) slices_S4x1024_S1x1024_3_0) shapeCasts_S1x1024_S1024)))) (constant S_ .f32 0x00000000#32) pads_S1x4096x1024_S1x4099x1024_000_300_000 h_S_)) slices_S1x4099x1024_S1x4096x1024_0_3_0) shapeCasts_S1x4096x1024_S4096x1024) bitsLt_bf16_f32

section cuts
variable (A0 : FVec Ideal S4096x12288 .bf16) (A1 : FVec Ideal S4096x1024 .bf16) (A2 : FVec Ideal S4x4096 .f32) (A3 : FVec Ideal S1x4096 .f32)

theorem padX_apply (x : Fin 4099) (l : Fin 1024) : padX A0 (ix3 0 x l) = if h : x.val < 3 then 0 else xcol A0 l ⟨x.val - 3, by omega⟩ := by
  unfold padX
  pointwise [Value.fn_main_v6]
  rfl

theorem padX_at (j : Nat) (hj : j ≤ 3) (r : Fin 4096) (l : Fin 1024) (x : Fin 4099) (hx : x.val = j + r.val) :
    padX A0 (ix3 0 x l) = later (3 - j) (xcol A0 l) r := by
  obtain ⟨x, hx'⟩ := x
  simp only at hx
  subst hx
  rw [padX_apply]
  exact Conv4.padded (xcol A0 l) j hj r

theorem preR_apply (r : Fin 4096) (l : Fin 1024) : preR A0 A2 A3 (ix3 0 r l) = pre A0 A2 A3 l r := by
  have e3 := padX_at A0 3 (by omega) r l ⟨3 + r.val, by omega⟩ rfl
  have e2 := padX_at A0 2 (by omega) r l ⟨2 + r.val, by omega⟩ rfl
  have e1 := padX_at A0 1 (by omega) r l ⟨1 + r.val, by omega⟩ rfl
  have e0 := padX_at A0 0 (by omega) r l ⟨r.val, by omega⟩ (Nat.zero_add _).symm
  unfold preR
  generalize padX A0 = p at e0 e1 e2 e3 ⊢
  pointwise
  rw [e0, e1, e2, e3, Conv4.later_zero]
  rfl

theorem dpreR_apply (hfin : ∀ (r : Fin 4096) (l : Fin 1024), Finite.IsReal (A1 (ix2 r l))) (r : Fin 4096) (l : Fin 1024) :
    dpreR A0 A1 A2 A3 (ix3 0 r l) = dpre A0 A1 A2 A3 l r := by
  unfold dpreR dpre
  rw [← preR_apply]
  generalize preR A0 A2 A3 = p
  pointwise
  exact (Finite.gate_deriv (hfin r l) _).symm

theorem biasR_apply (l : Fin 1024) : biasR A0 A1 A2 A3 (ix2 0 l) = ∑ r, dpreR A0 A1 A2 A3 (ix3 0 r l) := by
  unfold biasR
  generalize dpreR A0 A1 A2 A3 = q
  pointwise [Conv4.reduce_ones]

theorem tap_sum (q : FVec Ideal S1x4096x1024 .f32) (l : Fin 1024) (j : Nat) (hj : j ≤ 3) (k : Fin 4) (hk : k.val = j)
    (f : Fin 4096 → Fin 4099) (hf : ∀ x, (f x).val = j + x.val) :
    ∑ x : Fin 4096, padX A0 (ix3 0 (f x) l) * q (ix3 0 x l) = Conv4.tapGrad (xcol A0 l) (fun r => q (ix3 0 r l)) k := by
  refine Finset.sum_congr rfl fun x _ => ?_
  rw [padX_at A0 j hj x l (f x) (hf x), mul_comm, hk]

theorem tapsR_apply (k : Fin 4) (l : Fin 1024) : tapsR A0 A1 A2 A3 (ix2 k l)
    = Conv4.tapGrad (xcol A0 l) (fun r => dpreR A0 A1 A2 A3 (ix3 0 r l)) k := by
  unfold tapsR
  generalize dpreR A0 A1 A2 A3 = q
  have e (k : Fin 4) (j : Nat) (hj : j ≤ 3) (hk : k.val = j) := tap_sum A0 q l j hj k hk
  generalize padX A0 = p at e ⊢
  pointwise [Conv4.reduce_ones]
  match k with
  | ⟨0, _⟩ =>
    rw [dif_neg (by simp), dif_neg (by simp), dif_pos (by simp), dif_neg (by simp), zero_add, zero_add, add_zero]
    exact e 0 0 (by omega) rfl (fun x => ⟨x.val, by omega⟩) (fun x => (Nat.zero_add _).symm)
  | ⟨1, _⟩ =>
    rw [dif_neg (by simp), dif_pos (by simp), dif_neg (by simp), dif_neg (by simp), zero_add, add_zero, add_zero]
    exact e 1 1 (by omega) rfl (fun x => ⟨1 + x.val, by omega⟩) (fun x => rfl)
  | ⟨2, _⟩ =>
    rw [dif_pos (by simp), dif_neg (by simp), dif_neg (by simp), dif_neg (by simp), add_zero, add_zero, add_zero]
    exact e 2 2 (by omega) rfl (fun x => ⟨2 + x.val, by omega⟩) (fun x => rfl)
  | ⟨3, _⟩ =>
    rw [dif_neg (by simp), dif_neg (by simp), dif_neg (by simp), dif_pos (by simp), zero_add, zero_add, zero_add]
    exact e 3 3 (by omega) rfl (fun x => ⟨3 + x.val, by omega⟩) (fun x => rfl)

theorem colR_apply (r : Fin 4096) (l : Fin 1024) : colR A0 A1 A2 A3 (ix2 r l)
    = Conv4.convT (fun r => dpreR A0 A1 A2 A3 (ix3 0 r l)) (taps A2 l) r := by
  unfold colR
  generalize dpreR A0 A1 A2 A3 = q
  pointwise
  exact Conv4.convT_ref (fun r => q (ix3 0 r l)) (taps A2 l) r

end cuts

variable (m : (ℓ : Loc nD τ sig) → Buf (Elt Ideal) ℓ) (ρ : Dev nD → PrngReg)

/-- The reference's run: where the cotangent is finite its results are the same, and it keeps its arguments. -/
theorem ref_run (hfin : ∀ (c : Dev nD) (r : Fin 4096) (l : Fin 1024), Finite.IsReal ((show (⟨2, ![4096, 1024]⟩ : Shape).Idx → EReal from (m (c.tc.loc main_arg1))) (ix2 r l))) :
    θ_run defs (onTc (τ := τ) (main (F := Ideal))) ⟨m, fun _ => 0, ρ⟩ fun r => ∀ c : Dev nD,
      r.2.mem (c.tc.loc main_v92) = (fun i => if 5120 ≤ (i 1).val ∧ (i 1).val < 6144 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v85) = (fun i => dtaps (m (c.tc.loc main_arg0)) (m (c.tc.loc main_arg1)) (m (c.tc.loc main_arg2)) (m (c.tc.loc main_arg3)) (i 1) (i 0))
      ∧ r.2.mem (c.tc.loc main_v45) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ⟨(h c).1.trans ?_, (h c).2.1.trans ?_, (h c).2.2.1.trans ?_, (h c).2.2.2⟩)
    (Cert.ConvGradCRefIdeal.Value.run (F := Ideal) m ρ)
  · clear h; funext i; idx_vars i
    unfold Value.res_main_v92
    rw [Conv4.update_apply 12288 1024 5120 _ _ _ rfl rfl (by omega) _ (by omega)]
    refine if_congr Iff.rfl ?_ rfl
    refine Eq.trans (b := colR (m (c.tc.loc main_arg0)) (m (c.tc.loc main_arg1)) (m (c.tc.loc main_arg2)) (m (c.tc.loc main_arg3)) (ix2 i0 (colOf i1))) rfl ?_
    rw [colR_apply]
    simp only [dpreR_apply _ _ _ _ (hfin c)]
    rfl
  · clear h; funext i; idx_vars i
    refine Eq.trans (b := tapsR (m (c.tc.loc main_arg0)) (m (c.tc.loc main_arg1)) (m (c.tc.loc main_arg2)) (m (c.tc.loc main_arg3)) (ix2 i0 i1)) rfl ?_
    rw [tapsR_apply]
    simp only [dpreR_apply _ _ _ _ (hfin c)]
    rfl
  · clear h; funext i; idx_vars i
    obtain rfl : i0 = 0 := Subsingleton.elim _ _
    refine Eq.trans (b := biasR (m (c.tc.loc main_arg0)) (m (c.tc.loc main_arg1)) (m (c.tc.loc main_arg2)) (m (c.tc.loc main_arg3)) (ix2 0 i1)) rfl ?_
    rw [biasR_apply]
    simp only [dpreR_apply _ _ _ _ (hfin c)]
    rfl

end reference

/-! ## The claims -/

/-- Under the precondition the cotangent is finite. -/
theorem isReal_ct (a0 a4 : FVec Ideal ⟨2, ![4096, 12288]⟩ .bf16) (a1 : FVec Ideal ⟨2, ![4096, 1024]⟩ .bf16) (a2 : FVec Ideal ⟨2, ![4, 4096]⟩ .f32)
    (a3 : FVec Ideal ⟨2, ![1, 4096]⟩ .f32) (h : Cert.Pre_finite_ct_bc.fn (F := Ideal) a0 a1 a2 a3 a4 = fun _ => 1#1) (r : Fin 4096) (l : Fin 1024) :
    Finite.IsReal (a1 (ix2 r l)) :=
  Finite.isReal_of_test (congrFun h (ix2 r l))

/-- The reference runs to its end and keeps its arguments. -/
theorem frame_ref : Cert.quiescent_ConvGradCRefIdeal := fun m ρ _ =>
  (θ_run Cert.ConvGradCRefIdeal.defs _ _).mono (fun r h => ⟨fun c => (h c).2.2.2,
      Idealize.ShloMosaic.sem_eq_zero_of_no_sems (by decide) r.2⟩)
    (Cert.ConvGradCRefIdeal.Value.run (F := Ideal) m ρ)

/-- Kernel and reference end with equal results where the cotangent is finite. -/
theorem algebraic : Cert.algebraic_ConvGradCIdeal_ConvGradCRefIdeal_pre_finite_ct_bc := by
  intro m g m' g' hpre hargs
  refine ⟨_, _, _, kernel_run m g, ?_⟩
  refine (θ_run _ _ _).mono (fun r h c => ?_) (ref_run m' g' fun c r l => ?_)
  · obtain ⟨a0, a1, a2, a3, a4⟩ := hargs c
    obtain ⟨h0, h1, h2, hk⟩ := h c
    rw [a0, a1, a2, a3, a4] at h0
    rw [a0, a1, a2, a3] at h1 h2
    exact ⟨h0, h1, h2, hk⟩
  · obtain ⟨a0, a1, a2, a3, a4⟩ := hargs c
    rw [a1]
    exact isReal_ct _ _ _ _ _ (hpre c) r l

end Cert.ConvGradCProof
end
-- ==== Proof.ConvGradX.lean ====
/-
  The gradient of the four-tap causal convolution and its gate, for the channels of the state-space input: the gradient of
  the convolved columns, written into columns 2048 to 4095 of a wider array, and the gradients of the taps and the bias.
  The kernel takes blocks of 128 columns; the reference differentiates the plain text on whole arrays.
-/
module

public import proofs.«01_k».proof.Proof.Gen.ConvGradXIdeal.Value
public import proofs.«01_k».proof.Proof.Gen.ConvGradXRefIdeal.Run
public import proofs.«01_k».proof.Proof.Conv4
public import proofs.«01_k».proof.Proof.ConvGradB
public import proofs.«01_k».proof.Proof.Gen.Pre_finite_ct
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise
open Cert.ShortConv (later earlier)

namespace Cert.ConvGradXProof

section arrays
variable (A0 : (⟨2, ![4096, 12288]⟩ : Shape).Idx → EReal) (A1 : (⟨2, ![4096, 2048]⟩ : Shape).Idx → EReal) (A2 : (⟨2, ![4, 4096]⟩ : Shape).Idx → EReal) (A3 : (⟨2, ![1, 4096]⟩ : Shape).Idx → EReal)

/-- A convolved column. -/
def xcol (l : Fin 2048) (r : Fin 4096) : EReal := A0 (ix2 r ⟨2048 + l.val, by omega⟩)
/-- Its taps. -/
def taps (l : Fin 2048) (k : Fin 4) : EReal := A2 (ix2 k ⟨l.val, by omega⟩)
/-- Its bias. -/
def bias (l : Fin 2048) : EReal := A3 (ix2 0 ⟨l.val, by omega⟩)
/-- The convolution before its gate. -/
def pre (l : Fin 2048) (r : Fin 4096) : EReal := Conv4.conv (xcol A0 l) (taps A2 l) (bias A3 l) r
/-- The cotangent before the gate. -/
def dpre (l : Fin 2048) (r : Fin 4096) : EReal := Conv4.dSilu (A1 (ix2 r l)) (pre A0 A2 A3 l r)
/-- The gradient of the columns. -/
def dcol (l : Fin 2048) (r : Fin 4096) : EReal := Conv4.convT (dpre A0 A1 A2 A3 l) (taps A2 l) r
/-- The gradient of the taps. -/
def dtaps (l : Fin 2048) (k : Fin 4) : EReal := Conv4.tapGrad (xcol A0 l) (dpre A0 A1 A2 A3 l) k
/-- The gradient of the bias. -/
def dbias (l : Fin 2048) : EReal := ∑ r, dpre A0 A1 A2 A3 l r

end arrays

/-- The column of the gradient that column `j` of the wider array is. -/
def colOf (j : Fin 12288) : Fin 2048 := ⟨(j.val - 2048) % 2048, Nat.mod_lt _ (by decide)⟩

section kernel
open Cert.ConvGradXIdeal Cert.ConvGradXIdeal.Gen

variable (m : (ℓ : Loc nD τ sig) → Buf (Elt Ideal) ℓ) (ρ : Dev nD → PrngReg)

/-! ## A block: 128 columns, as for the other channels -/

section block
variable (x0 x1 : Vec Ideal S4096x128 .bf16) (w : Vec Ideal S4x128 .f32) (b : Vec Ideal S1x128 .f32)
theorem pay4_apply (r : Fin 4096) (l : Fin 128) : k0_pay4 x0 (ix2 r l) = x0 (ix2 r l) :=
  ConvGradBProof.pay4_apply x0 r l

/-- The convolution's cotangent. -/
theorem pay8_apply (r : Fin 4096) (l : Fin 128) : k0_pay8 (k0_pay5 x1) (k0_pay6 x0 w b) (k0_pay7 x0 w b) (ix2 r l)
    = Conv4.dSilu (x1 (ix2 r l)) (Conv4.conv (fun r => x0 (ix2 r l)) (fun k => w (ix2 k l)) (b (ix2 0 l)) r) :=
  ConvGradBProof.pay8_apply x0 x1 w b r l

variable (v4 v5 v38 v40 q : FVec Ideal S4096x128 .f32)

/-- The input's gradient in a block. -/
theorem dx_apply (r : Fin 4096) (l : Fin 128) :
    k0_pay3 (k0_pay14 w (iota .tc S4096x128 32 [0] iota_S4096x128_d0_w32) (k0_pay8 v5 v38 v40)
      (k0_pay10 w v5 (iota .tc S4096x128 32 [0] iota_S4096x128_d0_w32) v38 v40)) (ix2 r l)
      = Conv4.convT (fun r => k0_pay8 v5 v38 v40 (ix2 r l)) (fun k => w (ix2 k l)) r :=
  ConvGradBProof.dx_apply w v5 v38 v40 r l

/-- The taps' gradient of a block. -/
theorem taps_apply (k : Fin 4) (l : Fin 128) :
    k0_pay1 (k0_pay8 v5 v38 v40) (k0_pay13 v4 (iota .tc S4096x128 32 [0] iota_S4096x128_d0_w32) (k0_pay8 v5 v38 v40)
      (iota .tc S4x128 32 [0] iota_S4x128_d0_w32) (k0_pay9 v4 v5 v38 v40) k0_pay11
      (k0_pay12 v4 v5 (iota .tc S4096x128 32 [0] iota_S4096x128_d0_w32) v38 v40)
      (Scalar.ofBits .f32 0x00000000#32)) (k0_pay15 (iota .tc S4x128 32 [0] iota_S4x128_d0_w32)) (k0_pay16 (iota .tc S4096x128 32 [0] iota_S4096x128_d0_w32))
      (k0_pay17 v4) k0_pay18 (ix2 k l)
      = Conv4.tapGrad (fun r => v4 (ix2 r l)) (fun r => k0_pay8 v5 v38 v40 (ix2 r l)) k :=
  ConvGradBProof.taps_apply v4 v5 v38 v40 k l

/-- The bias's gradient of a block. -/
theorem bias_apply (l : Fin 128) : k0_pay2 q (ix2 0 l) = ∑ r, q (ix2 r l) :=
  ConvGradBProof.bias_apply q l

end block

/-! ## The blocks against the arrays -/

theorem idx : ∀ t : Fin cfg0.N, win0_0.index t = ![0, 16 + t.val] ∧ win0_1.index t = ![0, t.val] ∧ win0_2.index t = ![0, t.val] ∧ win0_3.index t = ![0, t.val] ∧ win0_4.index t = ![0, 16 + t.val] ∧ win0_5.index t = ![0, t.val] ∧ win0_6.index t = ![0, t.val] :=
  (by decide +kernel : ∀ t : Fin grid0.N, _)

/-- The column of the whole arrays that column `l` of point `t`'s blocks is. -/
def colAt (t : Fin cfg0.N) (l : Fin 128) : Fin 2048 := ⟨t.val * 128 + l.val, by have := lt_of_lt_of_eq t.isLt N_0; omega⟩

section point
variable (c : Dev nD) (t : Fin cfg0.N) (l : Fin 128) (r : Fin 4096) (k : Fin 4)

theorem blk0 : iblk m c 0 t (ix2 r l) = xcol (m (c.tc.loc main_arg0)) (colAt t l) r := by
  unfold xcol colAt; blk_ext [iblk, V, idx t]
theorem blk1 : iblk m c 1 t (ix2 r l) = (show (⟨2, ![4096, 2048]⟩ : Shape).Idx → EReal from (m (c.tc.loc main_arg1))) (ix2 r (colAt t l)) := by
  unfold colAt; blk_ext [iblk, V, idx t]
theorem blk2 : iblk m c 2 t (ix2 k l) = taps (m (c.tc.loc main_arg2)) (colAt t l) k := by
  unfold taps colAt; blk_ext [iblk, V, idx t]
theorem blk3 : iblk m c 3 t (ix2 0 l) = bias (m (c.tc.loc main_arg3)) (colAt t l) := by
  unfold bias colAt; blk_ext [iblk, V, idx t]

theorem point8 : (k0_pay8 (k0_pay5 (iblk m c 1 t)) (k0_pay6 (iblk m c 0 t) (iblk m c 2 t) (iblk m c 3 t)) (k0_pay7 (iblk m c 0 t) (iblk m c 2 t) (iblk m c 3 t))) (ix2 r l) = dpre (m (c.tc.loc main_arg0)) (m (c.tc.loc main_arg1)) (m (c.tc.loc main_arg2)) (m (c.tc.loc main_arg3)) (colAt t l) r := by
  rw [pay8_apply]
  simp only [blk0, blk1, blk2, blk3]
  rfl

theorem point4 : k0_pay3 (k0_pay14 (iblk m c 2 t) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (k0_pay10 (iblk m c 2 t) (k0_pay5 (iblk m c 1 t)) (iota Kind.tc S4096x128 32 [0] iota_S4096x128_d0_w32)
      (k0_pay6 (iblk m c 0 t) (iblk m c 2 t) (iblk m c 3 t)) (k0_pay7 (iblk m c 0 t) (iblk m c 2 t) (iblk m c 3 t)))) (ix2 r l)
    = dcol (m (c.tc.loc main_arg0)) (m (c.tc.loc main_arg1)) (m (c.tc.loc main_arg2)) (m (c.tc.loc main_arg3)) (colAt t l) r := by
  rw [dx_apply]
  simp only [point8, blk2]
  rfl

theorem point5 : k0_pay1 (k0_pay8 (k0_pay5 (iblk m c 1 t)) (k0_pay6 (iblk m c 0 t) (iblk m c 2 t) (iblk m c 3 t)) (k0_pay7 (iblk m c 0 t) (iblk m c 2 t) (iblk m c 3 t))) (k0_pay13 (k0_pay4 (iblk m c 0 t)) (iota Kind.tc S4096x128 32 [0] iota_S4096x128_d0_w32) (k0_pay8 (k0_pay5 (iblk m c 1 t)) (k0_pay6 (iblk m c 0 t) (iblk m c 2 t) (iblk m c 3 t)) (k0_pay7 (iblk m c 0 t) (iblk m c 2 t) (iblk m c 3 t))) (iota Kind.tc S4x128 32 [0] iota_S4x128_d0_w32) (k0_pay9 (k0_pay4 (iblk m c 0 t)) (k0_pay5 (iblk m c 1 t)) (k0_pay6 (iblk m c 0 t) (iblk m c 2 t) (iblk m c 3 t)) (k0_pay7 (iblk m c 0 t) (iblk m c 2 t) (iblk m c 3 t))) k0_pay11
      (k0_pay12 (k0_pay4 (iblk m c 0 t)) (k0_pay5 (iblk m c 1 t)) (iota Kind.tc S4096x128 32 [0] iota_S4096x128_d0_w32) (k0_pay6 (iblk m c 0 t) (iblk m c 2 t) (iblk m c 3 t)) (k0_pay7 (iblk m c 0 t) (iblk m c 2 t) (iblk m c 3 t)))
      (Scalar.ofBits .f32 0x00000000#32)) (k0_pay15 (iota Kind.tc S4x128 32 [0] iota_S4x128_d0_w32)) (k0_pay16 (iota Kind.tc S4096x128 32 [0] iota_S4096x128_d0_w32)) (k0_pay17 (k0_pay4 (iblk m c 0 t))) k0_pay18 (ix2 k l)
    = dtaps (m (c.tc.loc main_arg0)) (m (c.tc.loc main_arg1)) (m (c.tc.loc main_arg2)) (m (c.tc.loc main_arg3)) (colAt t l) k := by
  rw [taps_apply]
  simp only [point8, pay4_apply, blk0]
  rfl

theorem point6 : k0_pay2 (k0_pay8 (k0_pay5 (iblk m c 1 t)) (k0_pay6 (iblk m c 0 t) (iblk m c 2 t) (iblk m c 3 t)) (k0_pay7 (iblk m c 0 t) (iblk m c 2 t) (iblk m c 3 t))) (ix2 0 l) = dbias (m (c.tc.loc main_arg0)) (m (c.tc.loc main_arg1)) (m (c.tc.loc main_arg2)) (m (c.tc.loc main_arg3)) (colAt t l) := by
  rw [bias_apply]
  simp only [point8]
  rfl

end point

theorem entry4 (c : Dev nD) : V m c main_v0_0 = m (c.tc.loc main_arg4) := by
  unfold V; after_results; try rfl

theorem colAt_eq_colOf (t : Fin cfg0.N) (l : Fin 128) (x : Fin 12288) (h : x.val = (16 + t.val) * 128 + l.val) : colAt t l = colOf x := by
  have ht : t.val < 16 := lt_of_lt_of_eq t.isLt N_0
  apply Fin.ext
  show t.val * 128 + l.val = (x.val - 2048) % 2048
  omega

/-- The written columns are the blocks 16 to 31. -/
theorem iff_128 (x : Nat) : 2048 ≤ x ∧ x < 4096 ↔ 16 ≤ x / 128 ∧ x / 128 < 32 := by omega

theorem wide4 (c : Dev nD) : (dats m 0 c).arrAt 4 cfg0.N = (fun i => if 2048 ≤ (i 1).val ∧ (i 1).val < 4096 then dcol (m (c.tc.loc main_arg0)) (m (c.tc.loc main_arg1)) (m (c.tc.loc main_arg2)) (m (c.tc.loc main_arg3)) (colOf (i 1)) (i 0) else V m c main_v0_0 i) := by
  refine (dats m 0 c).arrAt_eq_of_coversWhere 4 _ (fun β => 16 ≤ β 1 ∧ β 1 < 32) (by decide +kernel) (fun t hf y => ?_)
    (fun j => by blk_simp [Pipeline.Window.cell_apply]; exact iff_128 _)
  blk_simp
  rw [after0_4]
  simp only [outsAt0]
  frame_out
  idx_vars y
  refine (point4 m c t y1 y0).trans (congrArg₂ _ (colAt_eq_colOf t y1 _ ?_) (Fin.ext ?_)) <;> blk_simp [idx t]

theorem final4 (c : Dev nD) : (dats m 0 c).arrAt 4 cfg0.N = (fun i => if 2048 ≤ (i 1).val ∧ (i 1).val < 4096 then dcol (m (c.tc.loc main_arg0)) (m (c.tc.loc main_arg1)) (m (c.tc.loc main_arg2)) (m (c.tc.loc main_arg3)) (colOf (i 1)) (i 0) else m (c.tc.loc main_arg4) i) := by
  rw [wide4 m c, entry4 m c]
  rfl

theorem final5 (c : Dev nD) : (dats m 0 c).arrAt 5 cfg0.N = (fun i => dtaps (m (c.tc.loc main_arg0)) (m (c.tc.loc main_arg1)) (m (c.tc.loc main_arg2)) (m (c.tc.loc main_arg3)) (i 1) (i 0)) := by
  refine (dats m 0 c).arrAt_eq_of_covers 5 _ (by decide +kernel) fun t hf y => ?_
  blk_simp
  rw [after0_5]
  simp only [outsAt0]
  frame_out
  idx_vars y
  refine (point5 m c t y1 y0).trans (congrArg₂ _ (Fin.ext ?_) (Fin.ext ?_)) <;> (try unfold colAt) <;> blk_simp [idx t]
  all_goals (try dsimp only)
  all_goals omega

theorem final6 (c : Dev nD) : (dats m 0 c).arrAt 6 cfg0.N = (fun i => dbias (m (c.tc.loc main_arg0)) (m (c.tc.loc main_arg1)) (m (c.tc.loc main_arg2)) (m (c.tc.loc main_arg3)) (i 1)) := by
  refine (dats m 0 c).arrAt_eq_of_covers 6 _ (by decide +kernel) fun t hf y => ?_
  blk_simp
  rw [after0_6]
  simp only [outsAt0]
  frame_out
  idx_vars y
  obtain rfl : y0 = 0 := Subsingleton.elim _ _
  refine (point6 m c t y1).trans (congrArg _ (Fin.ext ?_)) <;> (try unfold colAt) <;> blk_simp [idx t]
  all_goals (try dsimp only)
  all_goals omega

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => if 2048 ≤ (i 1).val ∧ (i 1).val < 4096 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v0_1) = (fun i => dtaps (m (c.tc.loc main_arg0)) (m (c.tc.loc main_arg1)) (m (c.tc.loc main_arg2)) (m (c.tc.loc main_arg3)) (i 1) (i 0))
      ∧ r.2.mem (c.tc.loc main_v0_2) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans (final4 m c), (h c).2.1.trans (final5 m c), (h c).2.2.1.trans (final6 m c), (h c).2.2.2⟩)
    (Cert.ConvGradXIdeal.Value.run_blocks (F := Ideal) m ρ)

end kernel

/-! ## The reference -/

section reference
open Cert.ConvGradXRefIdeal Cert.ConvGradXRefIdeal.Gen

variable (m : (ℓ : Loc nD τ sig) → Buf (Elt Ideal) ℓ) (ρ : Dev nD → PrngReg)

/-- The columns with three zeros in front. -/
def padX (A0 : FVec Ideal S4096x12288 .bf16) : FVec Ideal S1x4099x2048 .f32 :=
  Value.fn_main_v6 (F := Ideal) ((broadcastInDim S1x3x2048 ![] bcast_S_S1x3x2048 (constant S_ .f32 0x00000000#32)) : FVec Ideal S1x3x2048 .f32) ((extf .f32 (broadcastInDim S1x4096x2048 ![1, 2] bcast_S4096x2048_S1x4096x2048_1_2 (extractStridedSlice S4096x2048 ![0, 2048] A0 slices_S4096x12288_S4096x2048_0_2048)) bitsLt_bf16_f32) : FVec Ideal S1x4096x2048 .f32)

/-- The convolution before its gate. -/
def preR (A0 : FVec Ideal S4096x12288 .bf16) (A2 : FVec Ideal S4x4096 .f32) (A3 : FVec Ideal S1x4096 .f32) : FVec Ideal S1x4096x2048 .f32 :=
  addf (addf (addf (addf (mulf (extractStridedSlice S1x4096x2048 ![0, 3, 0] (padX A0) slices_S1x4099x2048_S1x4096x2048_0_3_0) (broadcastInDim S1x4096x2048 ![0, 1, 2] bcast_S1x1x2048_S1x4096x2048_0_1_2 (broadcastInDim S1x1x2048 ![2] bcast_S2048_S1x1x2048_2 (shapeCast S2048 (extractStridedSlice S1x2048 ![3, 0] (extractStridedSlice S4x2048 ![0, 0] A2 slices_S4x4096_S4x2048_0_0) slices_S4x2048_S1x2048_3_0) shapeCasts_S1x2048_S2048)))) (mulf (extractStridedSlice S1x4096x2048 ![0, 0, 0] (padX A0) slices_S1x4099x2048_S1x4096x2048_0_0_0) (broadcastInDim S1x4096x2048 ![0, 1, 2] bcast_S1x1x2048_S1x4096x2048_0_1_2 (broadcastInDim S1x1x2048 ![2] bcast_S2048_S1x1x2048_2 (shapeCast S2048 (extractStridedSlice S1x2048 ![0, 0] (extractStridedSlice S4x2048 ![0, 0] A2 slices_S4x4096_S4x2048_0_0) slices_S4x2048_S1x2048_0_0) shapeCasts_S1x2048_S2048))))) (mulf (extractStridedSlice S1x4096x2048 ![0, 1, 0] (padX A0) slices_S1x4099x2048_S1x4096x2048_0_1_0) (broadcastInDim S1x4096x2048 ![0, 1, 2] bcast_S1x1x2048_S1x4096x2048_0_1_2 (broadcastInDim S1x1x2048 ![2] bcast_S2048_S1x1x2048_2 (shapeCast S2048 (extractStridedSlice S1x2048 ![1, 0] (extractStridedSlice S4x2048 ![0, 0] A2 slices_S4x4096_S4x2048_0_0) slices_S4x2048_S1x2048_1_0) shapeCasts_S1x2048_S2048))))) (mulf (extractStridedSlice S1x4096x2048 ![0, 2, 0] (padX A0) slices_S1x4099x2048_S1x4096x2048_0_2_0) (broadcastInDim S1x4096x2048 ![0, 1, 2] bcast_S1x1x2048_S1x4096x2048_0_1_2 (broadcastInDim S1x1x2048 ![2] bcast_S2048_S1x1x2048_2 (shapeCast S2048 (extractStridedSlice S1x2048 ![2, 0] (extractStridedSlice S4x2048 ![0, 0] A2 slices_S4x4096_S4x2048_0_0) slices_S4x2048_S1x2048_2_0) shapeCasts_S1x2048_S2048))))) (broadcastInDim S1x4096x2048 ![0, 1, 2] bcast_S1x1x2048_S1x4096x2048_0_1_2 (broadcastInDim S1x1x2048 ![1, 2] bcast_S1x2048_S1x1x2048_1_2 (extractStridedSlice S1x2048 ![0, 0] A3 slices_S1x4096_S1x2048_0_0)))

/-- The cotangent before the gate. -/
def dpreR (A0 : FVec Ideal S4096x12288 .bf16) (A1 : FVec Ideal S4096x2048 .bf16) (A2 : FVec Ideal S4x4096 .f32) (A3 : FVec Ideal S1x4096 .f32) : FVec Ideal S1x4096x2048 .f32 :=
  addf (mulf (extf .f32 (broadcastInDim S1x4096x2048 ![1, 2] bcast_S4096x2048_S1x4096x2048_1_2 A1) bitsLt_bf16_f32) (Host.divf ((broadcastInDim S1x4096x2048 ![] bcast_S_S1x4096x2048) (constant S_ .f32 0x3F800000#32)) (addf ((broadcastInDim S1x4096x2048 ![] bcast_S_S1x4096x2048) (constant S_ .f32 0x3F800000#32)) (Host.exp (Host.negf (preR A0 A2 A3)))))) (mulf (mulf (preR A0 A2 A3) (extf .f32 (broadcastInDim S1x4096x2048 ![1, 2] bcast_S4096x2048_S1x4096x2048_1_2 A1) bitsLt_bf16_f32)) (mulf (Host.divf ((broadcastInDim S1x4096x2048 ![] bcast_S_S1x4096x2048) (constant S_ .f32 0x3F800000#32)) (addf ((broadcastInDim S1x4096x2048 ![] bcast_S_S1x4096x2048) (constant S_ .f32 0x3F800000#32)) (Host.exp (Host.negf (preR A0 A2 A3))))) (subf ((broadcastInDim S1x4096x2048 ![] bcast_S_S1x4096x2048) (constant S_ .f32 0x3F800000#32)) (Host.divf ((broadcastInDim S1x4096x2048 ![] bcast_S_S1x4096x2048) (constant S_ .f32 0x3F800000#32)) (addf ((broadcastInDim S1x4096x2048 ![] bcast_S_S1x4096x2048) (constant S_ .f32 0x3F800000#32)) (Host.exp (Host.negf (preR A0 A2 A3))))))))

/-- The bias's gradient. -/
def biasR (A0 : FVec Ideal S4096x12288 .bf16) (A1 : FVec Ideal S4096x2048 .bf16) (A2 : FVec Ideal S4x4096 .f32) (A3 : FVec Ideal S1x4096 .f32) : FVec Ideal S1x2048 .f32 :=
  broadcastInDim S1x2048 ![1] bcast_S2048_S1x2048_1 (Host.reduceAdd (shapeCast S1x1x2048 (Host.reduceAdd (dpreR A0 A1 A2 A3) (constant S_ .f32 0x00000000#32) reducesTo_S1x4096x2048_S1x2048_d1 h_S_) shapeCasts_S1x2048_S1x1x2048) (constant S_ .f32 0x00000000#32) reducesTo_S1x1x2048_S2048_d0_1 h_S_)

/-- The taps' gradient. -/
def tapsR (A0 : FVec Ideal S4096x12288 .bf16) (A1 : FVec Ideal S4096x2048 .bf16) (A2 : FVec Ideal S4x4096 .f32) (A3 : FVec Ideal S1x4096 .f32) : FVec Ideal S4x2048 .f32 :=
  addf (addf (addf (pad S4x2048 ![2, 0] ![1, 0] ![0, 0] (broadcastInDim S1x2048 ![1] bcast_S2048_S1x2048_1 (Host.reduceAdd (shapeCast S1x1x2048 (Host.reduceAdd (mulf (extractStridedSlice S1x4096x2048 ![0, 2, 0] (padX A0) slices_S1x4099x2048_S1x4096x2048_0_2_0) (dpreR A0 A1 A2 A3)) (constant S_ .f32 0x00000000#32) reducesTo_S1x4096x2048_S1x2048_d1 h_S_) shapeCasts_S1x2048_S1x1x2048) (constant S_ .f32 0x00000000#32) reducesTo_S1x1x2048_S2048_d0_1 h_S_)) (constant S_ .f32 0x00000000#32) pads_S1x2048_S4x2048_210_000 h_S_) (pad S4x2048 ![1, 0] ![2, 0] ![0, 0] (broadcastInDim S1x2048 ![1] bcast_S2048_S1x2048_1 (Host.reduceAdd (shapeCast S1x1x2048 (Host.reduceAdd (mulf (extractStridedSlice S1x4096x2048 ![0, 1, 0] (padX A0) slices_S1x4099x2048_S1x4096x2048_0_1_0) (dpreR A0 A1 A2 A3)) (constant S_ .f32 0x00000000#32) reducesTo_S1x4096x2048_S1x2048_d1 h_S_) shapeCasts_S1x2048_S1x1x2048) (constant S_ .f32 0x00000000#32) reducesTo_S1x1x2048_S2048_d0_1 h_S_)) (constant S_ .f32 0x00000000#32) pads_S1x2048_S4x2048_120_000 h_S_)) (pad S4x2048 ![0, 0] ![3, 0] ![0, 0] (broadcastInDim S1x2048 ![1] bcast_S2048_S1x2048_1 (Host.reduceAdd (shapeCast S1x1x2048 (Host.reduceAdd (mulf (extractStridedSlice S1x4096x2048 ![0, 0, 0] (padX A0) slices_S1x4099x2048_S1x4096x2048_0_0_0) (dpreR A0 A1 A2 A3)) (constant S_ .f32 0x00000000#32) reducesTo_S1x4096x2048_S1x2048_d1 h_S_) shapeCasts_S1x2048_S1x1x2048) (constant S_ .f32 0x00000000#32) reducesTo_S1x1x2048_S2048_d0_1 h_S_)) (constant S_ .f32 0x00000000#32) pads_S1x2048_S4x2048_030_000 h_S_)) (pad S4x2048 ![3, 0] ![0, 0] ![0, 0] (broadcastInDim S1x2048 ![1] bcast_S2048_S1x2048_1 (Host.reduceAdd (shapeCast S1x1x2048 (Host.reduceAdd (mulf (extractStridedSlice S1x4096x2048 ![0, 3, 0] (padX A0) slices_S1x4099x2048_S1x4096x2048_0_3_0) (dpreR A0 A1 A2 A3)) (constant S_ .f32 0x00000000#32) reducesTo_S1x4096x2048_S1x2048_d1 h_S_) shapeCasts_S1x2048_S1x1x2048) (constant S_ .f32 0x00000000#32) reducesTo_S1x1x2048_S2048_d0_1 h_S_)) (constant S_ .f32 0x00000000#32) pads_S1x2048_S4x2048_300_000 h_S_)

/-- The columns' gradient. -/
def colR (A0 : FVec Ideal S4096x12288 .bf16) (A1 : FVec Ideal S4096x2048 .bf16) (A2 : FVec Ideal S4x4096 .f32) (A3 : FVec Ideal S1x4096 .f32) : FVec Ideal S4096x2048 .bf16 :=
  truncf .bf16 (shapeCast S4096x2048 (extractStridedSlice S1x4096x2048 ![0, 3, 0] (addf (addf (addf (pad S1x4099x2048 ![0, 2, 0] ![0, 1, 0] ![0, 0, 0] (mulf (dpreR A0 A1 A2 A3) (broadcastInDim S1x4096x2048 ![0, 1, 2] bcast_S1x1x2048_S1x4096x2048_0_1_2 (broadcastInDim S1x1x2048 ![2] bcast_S2048_S1x1x2048_2 (shapeCast S2048 (extractStridedSlice S1x2048 ![2, 0] (extractStridedSlice S4x2048 ![0, 0] A2 slices_S4x4096_S4x2048_0_0) slices_S4x2048_S1x2048_2_0) shapeCasts_S1x2048_S2048)))) (constant S_ .f32 0x00000000#32) pads_S1x4096x2048_S1x4099x2048_000_210_000 h_S_) (pad S1x4099x2048 ![0, 1, 0] ![0, 2, 0] ![0, 0, 0] (mulf (dpreR A0 A1 A2 A3) (broadcastInDim S1x4096x2048 ![0, 1, 2] bcast_S1x1x2048_S1x4096x2048_0_1_2 (broadcastInDim S1x1x2048 ![2] bcast_S2048_S1x1x2048_2 (shapeCast S2048 (extractStridedSlice S1x2048 ![1, 0] (extractStridedSlice S4x2048 ![0, 0] A2 slices_S4x4096_S4x2048_0_0) slices_S4x2048_S1x2048_1_0) shapeCasts_S1x2048_S2048)))) (constant S_ .f32 0x00000000#32) pads_S1x4096x2048_S1x4099x2048_000_120_000 h_S_)) (pad S1x4099x2048 ![0, 0, 0] ![0, 3, 0] ![0, 0, 0] (mulf (dpreR A0 A1 A2 A3) (broadcastInDim S1x4096x2048 ![0, 1, 2] bcast_S1x1x2048_S1x4096x2048_0_1_2 (broadcastInDim S1x1x2048 ![2] bcast_S2048_S1x1x2048_2 (shapeCast S2048 (extractStridedSlice S1x2048 ![0, 0] (extractStridedSlice S4x2048 ![0, 0] A2 slices_S4x4096_S4x2048_0_0) slices_S4x2048_S1x2048_0_0) shapeCasts_S1x2048_S2048)))) (constant S_ .f32 0x00000000#32) pads_S1x4096x2048_S1x4099x2048_000_030_000 h_S_)) (pad S1x4099x2048 ![0, 3, 0] ![0, 0, 0] ![0, 0, 0] (mulf (dpreR A0 A1 A2 A3) (broadcastInDim S1x4096x2048 ![0, 1, 2] bcast_S1x1x2048_S1x4096x2048_0_1_2 (broadcastInDim S1x1x2048 ![2] bcast_S2048_S1x1x2048_2 (shapeCast S2048 (extractStridedSlice S1x2048 ![3, 0] (extractStridedSlice S4x2048 ![0, 0] A2 slices_S4x4096_S4x2048_0_0) slices_S4x2048_S1x2048_3_0) shapeCasts_S1x2048_S2048)))) (constant S_ .f32 0x00000000#32) pads_S1x4096x2048_S1x4099x2048_000_300_000 h_S_)) slices_S1x4099x2048_S1x4096x2048_0_3_0) shapeCasts_S1x4096x2048_S4096x2048) bitsLt_bf16_f32

section cuts
variable (A0 : FVec Ideal S4096x12288 .bf16) (A1 : FVec Ideal S4096x2048 .bf16) (A2 : FVec Ideal S4x4096 .f32) (A3 : FVec Ideal S1x4096 .f32)

theorem padX_apply (x : Fin 4099) (l : Fin 2048) : padX A0 (ix3 0 x l) = if h : x.val < 3 then 0 else xcol A0 l ⟨x.val - 3, by omega⟩ := by
  unfold padX
  pointwise [Value.fn_main_v6]
  rfl

theorem padX_at (j : Nat) (hj : j ≤ 3) (r : Fin 4096) (l : Fin 2048) (x : Fin 4099) (hx : x.val = j + r.val) :
    padX A0 (ix3 0 x l) = later (3 - j) (xcol A0 l) r := by
  obtain ⟨x, hx'⟩ := x
  simp only at hx
  subst hx
  rw [padX_apply]
  exact Conv4.padded (xcol A0 l) j hj r

theorem preR_apply (r : Fin 4096) (l : Fin 2048) : preR A0 A2 A3 (ix3 0 r l) = pre A0 A2 A3 l r := by
  have e3 := padX_at A0 3 (by omega) r l ⟨3 + r.val, by omega⟩ rfl
  have e2 := padX_at A0 2 (by omega) r l ⟨2 + r.val, by omega⟩ rfl
  have e1 := padX_at A0 1 (by omega) r l ⟨1 + r.val, by omega⟩ rfl
  have e0 := padX_at A0 0 (by omega) r l ⟨r.val, by omega⟩ (Nat.zero_add _).symm
  unfold preR
  generalize padX A0 = p at e0 e1 e2 e3 ⊢
  pointwise
  rw [e0, e1, e2, e3, Conv4.later_zero]
  rfl

theorem dpreR_apply (hfin : ∀ (r : Fin 4096) (l : Fin 2048), Finite.IsReal (A1 (ix2 r l))) (r : Fin 4096) (l : Fin 2048) :
    dpreR A0 A1 A2 A3 (ix3 0 r l) = dpre A0 A1 A2 A3 l r := by
  unfold dpreR dpre
  rw [← preR_apply]
  generalize preR A0 A2 A3 = p
  pointwise
  exact (Finite.gate_deriv (hfin r l) _).symm

theorem biasR_apply (l : Fin 2048) : biasR A0 A1 A2 A3 (ix2 0 l) = ∑ r, dpreR A0 A1 A2 A3 (ix3 0 r l) := by
  unfold biasR
  generalize dpreR A0 A1 A2 A3 = q
  pointwise [ShortConv.reduce_ones]

theorem tap_sum (q : FVec Ideal S1x4096x2048 .f32) (l : Fin 2048) (j : Nat) (hj : j ≤ 3) (k : Fin 4) (hk : k.val = j)
    (f : Fin 4096 → Fin 4099) (hf : ∀ x, (f x).val = j + x.val) :
    ∑ x : Fin 4096, padX A0 (ix3 0 (f x) l) * q (ix3 0 x l) = Conv4.tapGrad (xcol A0 l) (fun r => q (ix3 0 r l)) k := by
  refine Finset.sum_congr rfl fun x _ => ?_
  rw [padX_at A0 j hj x l (f x) (hf x), mul_comm, hk]

theorem tapsR_apply (k : Fin 4) (l : Fin 2048) : tapsR A0 A1 A2 A3 (ix2 k l)
    = Conv4.tapGrad (xcol A0 l) (fun r => dpreR A0 A1 A2 A3 (ix3 0 r l)) k := by
  unfold tapsR
  generalize dpreR A0 A1 A2 A3 = q
  have e (k : Fin 4) (j : Nat) (hj : j ≤ 3) (hk : k.val = j) := tap_sum A0 q l j hj k hk
  generalize padX A0 = p at e ⊢
  pointwise [ShortConv.reduce_ones]
  match k with
  | ⟨0, _⟩ =>
    rw [dif_neg (by simp), dif_neg (by simp), dif_pos (by simp), dif_neg (by simp), zero_add, zero_add, add_zero]
    exact e 0 0 (by omega) rfl (fun x => ⟨x.val, by omega⟩) (fun x => (Nat.zero_add _).symm)
  | ⟨1, _⟩ =>
    rw [dif_neg (by simp), dif_pos (by simp), dif_neg (by simp), dif_neg (by simp), zero_add, add_zero, add_zero]
    exact e 1 1 (by omega) rfl (fun x => ⟨1 + x.val, by omega⟩) (fun x => rfl)
  | ⟨2, _⟩ =>
    rw [dif_pos (by simp), dif_neg (by simp), dif_neg (by simp), dif_neg (by simp), add_zero, add_zero, add_zero]
    exact e 2 2 (by omega) rfl (fun x => ⟨2 + x.val, by omega⟩) (fun x => rfl)
  | ⟨3, _⟩ =>
    rw [dif_neg (by simp), dif_neg (by simp), dif_neg (by simp), dif_pos (by simp), zero_add, zero_add, zero_add]
    exact e 3 3 (by omega) rfl (fun x => ⟨3 + x.val, by omega⟩) (fun x => rfl)

theorem colR_apply (r : Fin 4096) (l : Fin 2048) : colR A0 A1 A2 A3 (ix2 r l)
    = Conv4.convT (fun r => dpreR A0 A1 A2 A3 (ix3 0 r l)) (taps A2 l) r := by
  unfold colR
  generalize dpreR A0 A1 A2 A3 = q
  pointwise
  exact Conv4.convT_ref (fun r => q (ix3 0 r l)) (taps A2 l) r

end cuts

variable (m : (ℓ : Loc nD τ sig) → Buf (Elt Ideal) ℓ) (ρ : Dev nD → PrngReg)

/-- The reference's run: where the cotangent is finite its results are the same, and it keeps its arguments. -/
theorem ref_run (hfin : ∀ (c : Dev nD) (r : Fin 4096) (l : Fin 2048), Finite.IsReal ((show (⟨2, ![4096, 2048]⟩ : Shape).Idx → EReal from (m (c.tc.loc main_arg1))) (ix2 r l))) :
    θ_run defs (onTc (τ := τ) (main (F := Ideal))) ⟨m, fun _ => 0, ρ⟩ fun r => ∀ c : Dev nD,
      r.2.mem (c.tc.loc main_v92) = (fun i => if 2048 ≤ (i 1).val ∧ (i 1).val < 4096 then dcol (m (c.tc.loc main_arg0)) (m (c.tc.loc main_arg1)) (m (c.tc.loc main_arg2)) (m (c.tc.loc main_arg3)) (colOf (i 1)) (i 0) else m (c.tc.loc main_arg4) i)
      ∧ r.2.mem (c.tc.loc main_v85) = (fun i => dtaps (m (c.tc.loc main_arg0)) (m (c.tc.loc main_arg1)) (m (c.tc.loc main_arg2)) (m (c.tc.loc main_arg3)) (i 1) (i 0))
      ∧ r.2.mem (c.tc.loc main_v45) = (fun i => dbias (m (c.tc.loc main_arg0)) (m (c.tc.loc main_arg1)) (m (c.tc.loc main_arg2)) (m (c.tc.loc main_arg3)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ⟨(h c).1.trans ?_, (h c).2.1.trans ?_, (h c).2.2.1.trans ?_, (h c).2.2.2⟩)
    (Cert.ConvGradXRefIdeal.Value.run (F := Ideal) m ρ)
  · clear h; funext i; idx_vars i
    unfold Value.res_main_v92
    rw [Conv4.update_apply 12288 2048 2048 _ _ _ rfl rfl (by omega) _ (by omega)]
    refine if_congr Iff.rfl ?_ rfl
    refine Eq.trans (b := colR (m (c.tc.loc main_arg0)) (m (c.tc.loc main_arg1)) (m (c.tc.loc main_arg2)) (m (c.tc.loc main_arg3)) (ix2 i0 (colOf i1))) rfl ?_
    rw [colR_apply]
    simp only [dpreR_apply _ _ _ _ (hfin c)]
    rfl
  · clear h; funext i; idx_vars i
    refine Eq.trans (b := tapsR (m (c.tc.loc main_arg0)) (m (c.tc.loc main_arg1)) (m (c.tc.loc main_arg2)) (m (c.tc.loc main_arg3)) (ix2 i0 i1)) rfl ?_
    rw [tapsR_apply]
    simp only [dpreR_apply _ _ _ _ (hfin c)]
    rfl
  · clear h; funext i; idx_vars i
    obtain rfl : i0 = 0 := Subsingleton.elim _ _
    refine Eq.trans (b := biasR (m (c.tc.loc main_arg0)) (m (c.tc.loc main_arg1)) (m (c.tc.loc main_arg2)) (m (c.tc.loc main_arg3)) (ix2 0 i1)) rfl ?_
    rw [biasR_apply]
    simp only [dpreR_apply _ _ _ _ (hfin c)]
    rfl

end reference

/-! ## The claims -/

/-- Under the precondition the cotangent is finite. -/
theorem isReal_ct (a0 a4 : FVec Ideal ⟨2, ![4096, 12288]⟩ .bf16) (a1 : FVec Ideal ⟨2, ![4096, 2048]⟩ .bf16) (a2 : FVec Ideal ⟨2, ![4, 4096]⟩ .f32)
    (a3 : FVec Ideal ⟨2, ![1, 4096]⟩ .f32) (h : Cert.Pre_finite_ct.fn (F := Ideal) a0 a1 a2 a3 a4 = fun _ => 1#1) (r : Fin 4096) (l : Fin 2048) :
    Finite.IsReal (a1 (ix2 r l)) :=
  Finite.isReal_of_test (congrFun h (ix2 r l))

/-- The reference runs to its end and keeps its arguments. -/
theorem frame_ref : Cert.quiescent_ConvGradXRefIdeal := fun m ρ _ =>
  (θ_run Cert.ConvGradXRefIdeal.defs _ _).mono (fun r h => ⟨fun c => (h c).2.2.2,
      Idealize.ShloMosaic.sem_eq_zero_of_no_sems (by decide) r.2⟩)
    (Cert.ConvGradXRefIdeal.Value.run (F := Ideal) m ρ)

/-- Kernel and reference end with equal results where the cotangent is finite. -/
theorem algebraic : Cert.algebraic_ConvGradXIdeal_ConvGradXRefIdeal_pre_finite_ct := by
  intro m g m' g' hpre hargs
  refine ⟨_, _, _, kernel_run m g, ?_⟩
  refine (θ_run _ _ _).mono (fun r h c => ?_) (ref_run m' g' fun c r l => ?_)
  · obtain ⟨a0, a1, a2, a3, a4⟩ := hargs c
    obtain ⟨h0, h1, h2, hk⟩ := h c
    rw [a0, a1, a2, a3, a4] at h0
    rw [a0, a1, a2, a3] at h1 h2
    exact ⟨h0, h1, h2, hk⟩
  · obtain ⟨a0, a1, a2, a3, a4⟩ := hargs c
    rw [a1]
    exact isReal_ct _ _ _ _ _ (hpre c) r l

end Cert.ConvGradXProof
end
-- ==== Proof.Sums.lean ====
/-
Sums over a contraction cut into blocks.
-/
module

public import Idealize.ShloMosaic.Lib.Pointwise

@[expose] public section

namespace Cert.Sums

/-- A sum over `n + n` positions is the sum over the first half and the sum over the second. -/
theorem halves {N : ℕ} (n : ℕ) (hN : N = n + n) (f : Fin N → EReal) :
    (∑ k : Fin n, f ⟨k.val, by omega⟩) + ∑ k : Fin n, f ⟨n + k.val, by omega⟩ = ∑ k, f k := by
  subst hN
  rw [Fin.sum_univ_add]
  rfl

/-- A sum over `J` blocks of `n` positions, each block's sum written over the naturals, is the sum over all positions. -/
theorem blocks {N : ℕ} (J n : ℕ) (hN : N = J * n) (f : Fin N → EReal) :
    (∑ s ∈ Finset.range J, ∑ k : Fin n, if h : s * n + k.val < N then f ⟨s * n + k.val, h⟩ else 0) = ∑ k, f k := by
  subst hN
  rw [Finset.sum_range fun s => ∑ k : Fin n, if h : s * n + k.val < J * n then f ⟨s * n + k.val, h⟩ else 0]
  refine Eq.trans ?_ (finProdFinEquiv.sum_comp f)
  rw [Fintype.sum_prod_type]
  refine Finset.sum_congr rfl fun s _ => Finset.sum_congr rfl fun k _ => ?_
  have h : s.val * n + k.val < J * n := by
    have h1 : (s.val + 1) * n ≤ J * n := Nat.mul_le_mul_right n s.isLt
    rw [Nat.succ_mul] at h1
    omega
  rw [dif_pos h]
  exact congrArg f (Fin.ext (by simp [finProdFinEquiv, Nat.mul_comm, Nat.add_comm]))

end Cert.Sums

end
-- ==== Proof.DownGrad.lean ====
/-
The gradient in the down projection's weights: the product of the transposed activations with the cotangent, accumulated
over two halves of the 4096 positions.
-/
module

public import proofs.«01_k».proof.Proof.Gen.DownGradIdeal.Value
public import proofs.«01_k».proof.Proof.Gen.DownGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.DownGradProof

/-- The result at row `r` and column `l`, from the arguments. -/
def val (A0 : (⟨2, ![4096, 5632]⟩ : Shape).Idx → EReal) (A1 : (⟨2, ![4096, 2048]⟩ : Shape).Idx → EReal)
    (r : Fin 5632) (l : Fin 2048) : EReal :=
  (∑ k : Fin 4096, A0 (ix2 k r) * A1 (ix2 k l))

section kernel
open Cert.DownGradIdeal Cert.DownGradIdeal.Gen

variable (m : (ℓ : Loc nD τ sig) → Buf (Elt Ideal) ℓ) (ρ : Dev nD → PrngReg)

/-! ## What one block step computes -/

theorem first_apply (x0 : Vec Ideal S2048x1408 .bf16) (x1 : Vec Ideal S2048x1024 .bf16) (r : Fin 1408) (l : Fin 1024) :
    k0_pay2 x0 x1 (ix2 r l) = ∑ k : Fin 2048, x0 (ix2 k r) * x1 (ix2 k l) := by
  pointwise [k0_pay2, k0_pay1]

theorem last_apply (x0 : Vec Ideal S2048x1408 .bf16) (x1 : Vec Ideal S2048x1024 .bf16) (a : Vec Ideal S1408x1024 .f32) (r : Fin 1408) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2048) (r : Fin 1408) :
    iblk m c 0 t (ix2 k r) = m (c.tc.loc main_arg0) (ix2 ⟨t.val % 2 * 2048 + k.val, by omega⟩ ⟨t.val / 4 * 1408 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1408) (l : Fin 1024) :
    (outsAt0 m c t.val t.isLt).2 (ix2 r l)
      = ∑ k : Fin 2048, (show Vec Ideal S2048x1408 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1408) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1408 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 16 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.DownGradIdeal.Value.run_blocks (F := Ideal) m ρ)

end kernel

/-! ## The reference -/

section reference
open Cert.DownGradRefIdeal Cert.DownGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v6)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.DownGradRefIdeal.Value.run (F := Ideal) m ρ)
  clear h; funext i; idx_vars i; clean_types; pointwise
  exact Finset.sum_congr rfl fun k _ => mul_comm _ _

end reference

/-! ## The claims -/

/-- The reference runs to its end and keeps its arguments. -/
theorem frame_ref : Cert.quiescent_DownGradRefIdeal := fun m ρ _ =>
  (θ_run Cert.DownGradRefIdeal.defs _ _).mono (fun r h => ⟨fun c => (h c).2,
      Idealize.ShloMosaic.sem_eq_zero_of_no_sems (by decide) r.2⟩)
    (Cert.DownGradRefIdeal.Value.run (F := Ideal) m ρ)

/-- Kernel and reference end with equal results. -/
theorem algebraic : Cert.algebraic_DownGradIdeal_DownGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.DownGradProof

end
-- ==== Proof.FfnDown.lean ====
/-
The down projection with the residual: the activations times the weights, accumulated over two halves of the 5632
channels, plus the residual.
-/
module

public import proofs.«01_k».proof.Proof.Gen.FfnDownIdeal.Value
public import proofs.«01_k».proof.Proof.Gen.FfnDownRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.FfnDownProof

/-- The result at row `r` and column `l`, from the arguments. -/
def val (A0 : (⟨2, ![4096, 5632]⟩ : Shape).Idx → EReal) (A1 : (⟨2, ![5632, 2048]⟩ : Shape).Idx → EReal) (A2 : (⟨2, ![4096, 2048]⟩ : Shape).Idx → EReal)
    (r : Fin 4096) (l : Fin 2048) : EReal :=
  (∑ k : Fin 5632, A0 (ix2 r k) * A1 (ix2 k l)) + A2 (ix2 r l)

section kernel
open Cert.FfnDownIdeal Cert.FfnDownIdeal.Gen

variable (m : (ℓ : Loc nD τ sig) → Buf (Elt Ideal) ℓ) (ρ : Dev nD → PrngReg)

/-! ## What one block step computes -/

theorem first_apply (x0 : Vec Ideal S1024x2816 .bf16) (x1 : Vec Ideal S2816x1024 .bf16) (r : Fin 1024) (l : Fin 1024) :
    k0_pay2 x0 x1 (ix2 r l) = ∑ k : Fin 2816, x0 (ix2 r k) * x1 (ix2 k l) := by
  pointwise [k0_pay2, k0_pay1]

theorem last_apply (x0 : Vec Ideal S1024x2816 .bf16) (x1 : Vec Ideal S2816x1024 .bf16) (a : Vec Ideal S1024x1024 .f32) (e : Vec Ideal S1024x1024 .f32) (r : Fin 1024) (l : Fin 1024) :
    k0_pay4 x0 x1 a e (ix2 r l) = a (ix2 r l) + (∑ k : Fin 2816, x0 (ix2 r k) * x1 (ix2 k l)) + e (ix2 r l) := by
  pointwise [k0_pay4, k0_pay1]

/-! ## The blocks of each grid point -/

theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

theorem blk0 (c : Dev nD) (t : Fin cfg0.N) (k : Fin 2816) (r : Fin 1024) :
    iblk m c 0 t (ix2 r k) = m (c.tc.loc main_arg0) (ix2 ⟨t.val / 4 * 1024 + r.val, by have := lt_of_lt_of_eq t.isLt N_0; omega⟩ ⟨t.val % 2 * 2816 + k.val, by omega⟩) := by
  blk_ext [iblk, V, idx t]

/-- The weights as the call reads them. -/
theorem weights (c : Dev nD) (k : Fin 5632) (l : Fin 2048) :
    V m c main_v0 (ix2 k l) = m (c.tc.loc main_arg1) (ix2 k l) := by
  unfold V; after_results; pointwise

theorem blk1 (c : Dev nD) (t : Fin cfg0.N) (k : Fin 2816) (l : Fin 1024) :
    iblk m c 1 t (ix2 k l) = m (c.tc.loc main_arg1) (ix2 ⟨t.val % 2 * 2816 + k.val, by omega⟩ ⟨t.val / 2 % 2 * 1024 + l.val, by have := lt_of_lt_of_eq t.isLt N_0; omega⟩) := by
  refine Eq.trans ?_ (weights m c ⟨t.val % 2 * 2816 + k.val, by omega⟩ ⟨t.val / 2 % 2 * 1024 + l.val, by have := lt_of_lt_of_eq t.isLt N_0; omega⟩)
  blk_ext [iblk, idx t]

theorem blk2 (c : Dev nD) (t : Fin cfg0.N) (r : Fin 1024) (l : Fin 1024) :
    iblk m c 2 t (ix2 r l) = m (c.tc.loc main_arg2) (ix2 ⟨t.val / 4 * 1024 + r.val, by have := lt_of_lt_of_eq t.isLt N_0; omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2816, (show Vec Ideal S1024x2816 .bf16 from iblk m c 0 t) (ix2 r k)
          * (show Vec Ideal S2816x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2)) (iblk m c 2 t)
      (ix2 r l) = val (m (c.tc.loc main_arg0)) (m (c.tc.loc main_arg1)) (m (c.tc.loc main_arg2)) ⟨t.val / 4 * 1024 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine congrArg₂ (· + ·) ?_ (blk2 m c t r l)
  refine Eq.trans ?_ (Sums.halves (n := 2816) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 3 cfg0.N = fun i => val (m (c.tc.loc main_arg0)) (m (c.tc.loc main_arg1)) (m (c.tc.loc main_arg2)) (i 0) (i 1) := by
  refine (dats m 0 c).arrAt_eq_of_covers 3 _ (by decide +kernel) fun t hf y => ?_
  have h1 : t.val % 2 = 1 := (flush0_3 t).mp hf
  have hN : t.val < 16 := lt_of_lt_of_eq t.isLt N_0
  blk_simp
  rw [after0_3, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩)
    (Cert.FfnDownIdeal.Value.run_blocks (F := Ideal) m ρ)

end kernel

/-! ## The reference -/

section reference
open Cert.FfnDownRefIdeal Cert.FfnDownRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.FfnDownRefIdeal.Value.run (F := Ideal) m ρ)
  clear h; funext i; idx_vars i; clean_types; pointwise
  exact add_comm _ _

end reference

/-! ## The claims -/

/-- The reference runs to its end and keeps its arguments. -/
theorem frame_ref : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

/-- Kernel and reference end with equal results. -/
theorem algebraic : Cert.algebraic_FfnDownIdeal_FfnDownRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.FfnDownProof

end
-- ==== Proof.FfnGate.lean ====
/-
The gate projection: the normed input times the weights.
-/
module

public import proofs.«01_k».proof.Proof.Gen.FfnGateIdeal.Value
public import proofs.«01_k».proof.Proof.Gen.FfnGateRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.FfnGateProof

/-- The result at row `r` and column `l`, from the arguments. -/
def val (A0 : (⟨2, ![4096, 2048]⟩ : Shape).Idx → EReal) (A1 : (⟨2, ![2048, 5632]⟩ : Shape).Idx → EReal)
    (r : Fin 4096) (l : Fin 5632) : EReal :=
  (∑ k : Fin 2048, A0 (ix2 r k) * A1 (ix2 k l))

section kernel
open Cert.FfnGateIdeal Cert.FfnGateIdeal.Gen

variable (m : (ℓ : Loc nD τ sig) → Buf (Elt Ideal) ℓ) (ρ : Dev nD → PrngReg)

/-! ## What one block step computes -/

theorem pay_apply (x0 : Vec Ideal S1024x2048 .bf16) (x1 : Vec Ideal S1408x2048 .bf16) (r : Fin 1024) (l : Fin 1408) :
    k0_pay1 x0 x1 (ix2 r l) = ∑ k : Fin 2048, x0 (ix2 r k) * x1 (ix2 l k) := by
  pointwise [k0_pay1]

/-! ## The blocks of each grid point -/

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 4 * 1024 + r.val, by have := lt_of_lt_of_eq t.isLt N_0; omega⟩ k) := by
  blk_ext [iblk, V, idx t]

/-- The weights as the call reads them. -/
theorem weights (c : Dev nD) (k : Fin 2048) (l : Fin 5632) :
    V m c main_v1 (ix2 l k) = m (c.tc.loc main_arg1) (ix2 k l) := by
  unfold V; after_results; pointwise

theorem blk1 (c : Dev nD) (t : Fin cfg0.N) (k : Fin 2048) (l : Fin 1408) :
    iblk m c 1 t (ix2 l k) = m (c.tc.loc main_arg1) (ix2 k ⟨t.val % 4 * 1408 + l.val, by have := lt_of_lt_of_eq t.isLt N_0; omega⟩) := by
  refine Eq.trans ?_ (weights m c k ⟨t.val % 4 * 1408 + l.val, by have := lt_of_lt_of_eq t.isLt N_0; omega⟩)
  blk_ext [iblk, idx t]

/-! ## The result -/

theorem point (c : Dev nD) (t : Fin cfg0.N) (r : Fin 1024) (l : Fin 1408) :
    k0_pay1 (F := Ideal) (iblk m c 0 t) (iblk m c 1 t) (ix2 r l) = val (m (c.tc.loc main_arg0)) (m (c.tc.loc main_arg1)) ⟨t.val / 4 * 1024 + r.val, by have := lt_of_lt_of_eq t.isLt N_0; omega⟩ ⟨t.val % 4 * 1408 + l.val, by have := lt_of_lt_of_eq t.isLt N_0; omega⟩ := by
  rw [pay_apply]
  exact Finset.sum_congr rfl fun k _ => congrArg₂ (· * ·) (blk0 m c t k r) (blk1 m c t k l)

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 16 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.FfnGateIdeal.Value.run_blocks (F := Ideal) m ρ)

end kernel

/-! ## The reference -/

section reference
open Cert.FfnGateRefIdeal Cert.FfnGateRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.FfnGateRefIdeal.Value.run (F := Ideal) m ρ)
  clear h; funext i; idx_vars i; clean_types; pointwise
  rfl

end reference

/-! ## The claims -/

/-- The reference runs to its end and keeps its arguments. -/
theorem frame_ref : Cert.quiescent_FfnGateRefIdeal := fun m ρ _ =>
  (θ_run Cert.FfnGateRefIdeal.defs _ _).mono (fun r h => ⟨fun c => (h c).2,
      Idealize.ShloMosaic.sem_eq_zero_of_no_sems (by decide) r.2⟩)
    (Cert.FfnGateRefIdeal.Value.run (F := Ideal) m ρ)

/-- Kernel and reference end with equal results. -/
theorem algebraic : Cert.algebraic_FfnGateIdeal_FfnGateRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.FfnGateProof

end
-- ==== Proof.FfnUp.lean ====
/-
The up projection and the gated activations: the normed input times the weights, and that product times the gate's
output times its logistic function.
-/
module

public import proofs.«01_k».proof.Proof.Gen.FfnUpIdeal.Value
public import proofs.«01_k».proof.Proof.Gen.FfnUpRefIdeal.Run
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.FfnUpProof

/-- The up projection at row `r` and column `l`. -/
def up (A0 : (⟨2, ![4096, 2048]⟩ : Shape).Idx → EReal) (A1 : (⟨2, ![2048, 5632]⟩ : Shape).Idx → EReal)
    (r : Fin 4096) (l : Fin 5632) : EReal :=
  ∑ k : Fin 2048, A0 (ix2 r k) * A1 (ix2 k l)

/-- The gated activations at row `r` and column `l`. -/
def act (A0 : (⟨2, ![4096, 2048]⟩ : Shape).Idx → EReal) (A1 : (⟨2, ![2048, 5632]⟩ : Shape).Idx → EReal)
    (A2 : (⟨2, ![4096, 5632]⟩ : Shape).Idx → EReal) (r : Fin 4096) (l : Fin 5632) : EReal :=
  A2 (ix2 r l) * Ideal.div 1 (1 + Ideal.exp (-A2 (ix2 r l))) * up A0 A1 r l

section kernel
open Cert.FfnUpIdeal Cert.FfnUpIdeal.Gen

variable (m : (ℓ : Loc nD τ sig) → Buf (Elt Ideal) ℓ) (ρ : Dev nD → PrngReg)

/-! ## What one block step computes -/

theorem up_apply (x0 : Vec Ideal S1024x2048 .bf16) (x1 : Vec Ideal S512x2048 .bf16) (r : Fin 1024) (l : Fin 512) :
    k0_pay2 x0 x1 (ix2 r l) = ∑ k : Fin 2048, x0 (ix2 r k) * x1 (ix2 l k) := by
  pointwise [k0_pay2, k0_pay1]

theorem act_apply (x0 : Vec Ideal S1024x2048 .bf16) (x1 : Vec Ideal S512x2048 .bf16) (g : Vec Ideal S1024x512 .bf16)
    (r : Fin 1024) (l : Fin 512) :
    k0_pay3 x0 x1 g (ix2 r l) = g (ix2 r l) * Ideal.div 1 (1 + Ideal.exp (-g (ix2 r l)))
      * ∑ k : Fin 2048, x0 (ix2 r k) * x1 (ix2 l k) := by
  pointwise [k0_pay3, k0_pay1]
  rw [zero_sub]

/-! ## The blocks of each grid point -/

theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 11 * 1024 + r.val, by have := lt_of_lt_of_eq t.isLt N_0; omega⟩ k) := by
  blk_ext [iblk, V, idx t]

/-- The weights as the call reads them. -/
theorem weights (c : Dev nD) (k : Fin 2048) (l : Fin 5632) :
    V m c main_v1 (ix2 l k) = m (c.tc.loc main_arg1) (ix2 k l) := by
  unfold V; after_results; pointwise

theorem blk1 (c : Dev nD) (t : Fin cfg0.N) (k : Fin 2048) (l : Fin 512) :
    iblk m c 1 t (ix2 l k) = m (c.tc.loc main_arg1) (ix2 k ⟨t.val % 11 * 512 + l.val, by omega⟩) := by
  refine Eq.trans ?_ (weights m c k ⟨t.val % 11 * 512 + l.val, by omega⟩)
  blk_ext [iblk, idx t]

theorem blk2 (c : Dev nD) (t : Fin cfg0.N) (r : Fin 1024) (l : Fin 512) :
    iblk m c 2 t (ix2 r l) = m (c.tc.loc main_arg2) (ix2 ⟨t.val / 11 * 1024 + r.val, by have := lt_of_lt_of_eq t.isLt N_0; omega⟩ ⟨t.val % 11 * 512 + l.val, by omega⟩) := by
  blk_ext [iblk, V, idx t]

/-! ## The results -/

theorem point3 (c : Dev nD) (t : Fin cfg0.N) (r : Fin 1024) (l : Fin 512) :
    k0_pay2 (F := Ideal) (iblk m c 0 t) (iblk m c 1 t) (ix2 r l) = up (m (c.tc.loc main_arg0)) (m (c.tc.loc main_arg1)) ⟨t.val / 11 * 1024 + r.val, by have := lt_of_lt_of_eq t.isLt N_0; omega⟩ ⟨t.val % 11 * 512 + l.val, by omega⟩ := by
  rw [up_apply]
  exact Finset.sum_congr rfl fun k _ => congrArg₂ (· * ·) (blk0 m c t k r) (blk1 m c t k l)

theorem point4 (c : Dev nD) (t : Fin cfg0.N) (r : Fin 1024) (l : Fin 512) :
    k0_pay3 (F := Ideal) (iblk m c 0 t) (iblk m c 1 t) (iblk m c 2 t) (ix2 r l) = act (m (c.tc.loc main_arg0)) (m (c.tc.loc main_arg1)) (m (c.tc.loc main_arg2)) ⟨t.val / 11 * 1024 + r.val, by have := lt_of_lt_of_eq t.isLt N_0; omega⟩ ⟨t.val % 11 * 512 + l.val, by omega⟩ := by
  rw [act_apply]
  refine congrArg₂ (· * ·) ?_ (Finset.sum_congr rfl fun k _ => congrArg₂ (· * ·) (blk0 m c t k r) (blk1 m c t k l))
  exact congrArg (fun z : EReal => z * Ideal.div 1 (1 + Ideal.exp (-z))) (blk2 m c t r l)

theorem final3 (c : Dev nD) : (dats m 0 c).arrAt 3 cfg0.N = fun i => up (m (c.tc.loc main_arg0)) (m (c.tc.loc main_arg1)) (i 0) (i 1) := by
  refine (dats m 0 c).arrAt_eq_of_covers 3 _ (by decide +kernel) fun t hf y => ?_
  have hN : t.val < 44 := lt_of_lt_of_eq t.isLt N_0
  blk_simp
  rw [after0_3]
  frame_out
  idx_vars y
  refine (point3 m c t y0 y1).trans (congrArg₂ _ (Fin.ext ?_) (Fin.ext ?_)) <;> blk_simp [idx t]

theorem final4 (c : Dev nD) : (dats m 0 c).arrAt 4 cfg0.N = fun i => act (m (c.tc.loc main_arg0)) (m (c.tc.loc main_arg1)) (m (c.tc.loc main_arg2)) (i 0) (i 1) := by
  refine (dats m 0 c).arrAt_eq_of_covers 4 _ (by decide +kernel) fun t hf y => ?_
  have hN : t.val < 44 := lt_of_lt_of_eq t.isLt N_0
  blk_simp
  rw [after0_4]
  frame_out
  idx_vars y
  refine (point4 m c t y0 y1).trans (congrArg₂ _ (Fin.ext ?_) (Fin.ext ?_)) <;> blk_simp [idx t]

/-- The kernel's run: its results are `up` and `act` of the arguments, which it keeps. -/
theorem kernel_run : θ_run defs (onTc (τ := τ) (main (F := Ideal))) ⟨m, fun _ => 0, ρ⟩ fun r => ∀ c : Dev nD,
      r.2.mem (c.tc.loc main_v2_0) = (fun i => up (m (c.tc.loc main_arg0)) (m (c.tc.loc main_arg1)) (i 0) (i 1))
      ∧ r.2.mem (c.tc.loc main_v2_1) = (fun i => act (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final3 m c), (h c).2.1.trans (final4 m c), (h c).2.2⟩)
    (Cert.FfnUpIdeal.Value.run_blocks (F := Ideal) m ρ)

end kernel

/-! ## The reference -/

section reference
open Cert.FfnUpRefIdeal Cert.FfnUpRefIdeal.Gen

variable (m : (ℓ : Loc nD τ sig) → Buf (Elt Ideal) ℓ) (ρ : Dev nD → PrngReg)

/-- The reference's run: its results are `up` and `act` of the arguments, which it keeps. -/
theorem ref_run : θ_run defs (onTc (τ := τ) (main (F := Ideal))) ⟨m, fun _ => 0, ρ⟩ fun r => ∀ c : Dev nD,
      r.2.mem (c.tc.loc main_v2) = (fun i => up (m (c.tc.loc main_arg0)) (m (c.tc.loc main_arg1)) (i 0) (i 1))
      ∧ r.2.mem (c.tc.loc main_v6) = (fun i => act (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2.1.trans ?_, (h c).2.2⟩)
    (Cert.FfnUpRefIdeal.Value.run (F := Ideal) m ρ)
  · clear h; funext i; idx_vars i; clean_types; pointwise
    rfl
  · clear h; funext i; idx_vars i; clean_types; pointwise
    rfl

end reference

/-! ## The claims -/

/-- The reference runs to its end and keeps its arguments. -/
theorem frame_ref : Cert.quiescent_FfnUpRefIdeal := fun m ρ _ =>
  (θ_run Cert.FfnUpRefIdeal.defs _ _).mono (fun r h => ⟨fun c => (h c).2.2,
      Idealize.ShloMosaic.sem_eq_zero_of_no_sems (by decide) r.2⟩)
    (Cert.FfnUpRefIdeal.Value.run (F := Ideal) m ρ)

/-- Kernel and reference end with equal results. -/
theorem algebraic : Cert.algebraic_FfnUpIdeal_FfnUpRefIdeal := by
  intro m g m' g' _ hargs
  refine ⟨_, _, kernel_run m g, ?_⟩
  refine (θ_run _ _ _).mono (fun r h c => ?_) (ref_run m' g')
  obtain ⟨a0, a1, a2⟩ := hargs c
  obtain ⟨h0, h1, hk⟩ := h c
  rw [a0, a1] at h0
  rw [a0, a1, a2] at h1
  exact ⟨h0, h1, hk⟩

end Cert.FfnUpProof

end
-- ==== Proof.GateGrad.lean ====
/-
The gradient in the gate projection's weights: the product of the transposed cotangent with the normed input, accumulated
over two halves of the 4096 positions.
-/
module

public import proofs.«01_k».proof.Proof.Gen.GateGradIdeal.Value
public import proofs.«01_k».proof.Proof.Gen.GateGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.GateGradProof

/-- The result at row `r` and column `l`, from the arguments. -/
def val (A0 : (⟨2, ![4096, 5632]⟩ : Shape).Idx → EReal) (A1 : (⟨2, ![4096, 2048]⟩ : Shape).Idx → EReal)
    (r : Fin 5632) (l : Fin 2048) : EReal :=
  (∑ k : Fin 4096, A0 (ix2 k r) * A1 (ix2 k l))

section kernel
open Cert.GateGradIdeal Cert.GateGradIdeal.Gen

variable (m : (ℓ : Loc nD τ sig) → Buf (Elt Ideal) ℓ) (ρ : Dev nD → PrngReg)

/-! ## What one block step computes -/

theorem first_apply (x0 : Vec Ideal S2048x1408 .bf16) (x1 : Vec Ideal S2048x1024 .bf16) (r : Fin 1408) (l : Fin 1024) :
    k0_pay2 x0 x1 (ix2 r l) = ∑ k : Fin 2048, x0 (ix2 k r) * x1 (ix2 k l) := by
  pointwise [k0_pay2, k0_pay1]

theorem last_apply (x0 : Vec Ideal S2048x1408 .bf16) (x1 : Vec Ideal S2048x1024 .bf16) (a : Vec Ideal S1408x1024 .f32) (r : Fin 1408) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2048) (r : Fin 1408) :
    iblk m c 0 t (ix2 k r) = m (c.tc.loc main_arg0) (ix2 ⟨t.val % 2 * 2048 + k.val, by omega⟩ ⟨t.val / 4 * 1408 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1408) (l : Fin 1024) :
    (outsAt0 m c t.val t.isLt).2 (ix2 r l)
      = ∑ k : Fin 2048, (show Vec Ideal S2048x1408 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1408) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1408 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 16 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.GateGradIdeal.Value.run_blocks (F := Ideal) m ρ)

end kernel

/-! ## The reference -/

section reference
open Cert.GateGradRefIdeal Cert.GateGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v7)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.GateGradRefIdeal.Value.run (F := Ideal) m ρ)
  clear h; funext i; idx_vars i; clean_types; pointwise
  rfl

end reference

/-! ## The claims -/

/-- The reference runs to its end and keeps its arguments. -/
theorem frame_ref : Cert.quiescent_GateGradRefIdeal := fun m ρ _ =>
  (θ_run Cert.GateGradRefIdeal.defs _ _).mono (fun r h => ⟨fun c => (h c).2,
      Idealize.ShloMosaic.sem_eq_zero_of_no_sems (by decide) r.2⟩)
    (Cert.GateGradRefIdeal.Value.run (F := Ideal) m ρ)

/-- Kernel and reference end with equal results. -/
theorem algebraic : Cert.algebraic_GateGradIdeal_GateGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.GateGradProof

end
-- ==== Proof.Rms.lean ====
/-
Root-mean-square normalisation of one row and its gradient, over the extended reals.  The constants are the words the two
programs write: 2048, the small number added under the root, and minus one half.
-/
module

public import proofs.«01_k».proof.Defs
public import Idealize.ShloMosaic.Lib.Pointwise

@[expose] public section

noncomputable section

open Idealize.ShloMosaic

namespace Cert.Rms

/-- The mean of a row's squares, plus the small number. -/
def den (x : Fin 2048 → EReal) : EReal :=
  Ideal.div (∑ k, x k * x k) (Ideal.ofBits .f32 0x45000000#32) + Ideal.ofBits .f32 0x3727C5AC#32

/-- A row over its root mean square, at one place. -/
def unit (x : Fin 2048 → EReal) (l : Fin 2048) : EReal := x l * Ideal.rsqrt (den x)

/-- What the cotangent `v` says of the mean of squares: the factor of the row in its gradient. -/
def corr (x v : Fin 2048 → EReal) : EReal :=
  Ideal.div ((∑ k, x k * v k) * (Ideal.ofBits .f32 0xBF000000#32 * Ideal.div (Ideal.rsqrt (den x)) (den x)))
    (Ideal.ofBits .f32 0x45000000#32)

/-- The gradient of the row under the cotangent `v` of its normalised values, at one place. -/
def back (x v : Fin 2048 → EReal) (l : Fin 2048) : EReal :=
  v l * Ideal.rsqrt (den x) + x l * corr x v + corr x v * x l

end Cert.Rms

end
-- ==== Proof.GateNorm.lean ====
/-
The gated normalisation after the scan: the scan's result times the swished gate, every row over its root mean square,
times the weight.
-/
module

public import proofs.«01_k».proof.Proof.Gen.GateNormIdeal.Frame
public import proofs.«01_k».proof.Proof.Gen.GateNormRefIdeal.Run
public import proofs.«01_k».proof.Proof.Rms
public import proofs.«01_k».proof.Proof.Finite
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.GateNormProof

/-- The gated value of the row `r` at column `l`. -/
def gated (A0 : (⟨2, ![4096, 2048]⟩ : Shape).Idx → EReal) (A1 : (⟨2, ![4096, 12288]⟩ : Shape).Idx → EReal) (r : Fin 4096) (l : Fin 2048) : EReal :=
  A0 (ix2 r l) * (A1 (ix2 r ⟨l.val, by omega⟩) * Finite.logistic (A1 (ix2 r ⟨l.val, by omega⟩)))

/-- The normalised row `r`, at column `l`. -/
def val (A0 : (⟨2, ![4096, 2048]⟩ : Shape).Idx → EReal) (A1 : (⟨2, ![4096, 12288]⟩ : Shape).Idx → EReal) (A2 : (⟨2, ![1, 2048]⟩ : Shape).Idx → EReal) (r : Fin 4096) (l : Fin 2048) : EReal :=
  Rms.unit (gated A0 A1 r) l * A2 (ix2 0 l)

section kernel
open Cert.GateNormIdeal Cert.GateNormIdeal.Gen

variable (m : (ℓ : Loc nD τ sig) → Buf (Elt Ideal) ℓ) (ρ : Dev nD → PrngReg)

theorem val_apply (x : Vec Ideal S512x2048 .f32) (z : Vec Ideal S512x2048 .bf16) (g : Vec Ideal S1x2048 .f32) (r : Fin 512) (l : Fin 2048) :
    k0_pay1 x z g (ix2 r l)
      = Rms.unit (fun k => x (ix2 r k) * (z (ix2 r k) * Finite.logistic (z (ix2 r k)))) l * g (ix2 0 l) := by
  pointwise [k0_pay1]
  simp only [zero_sub]
  rfl

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem blk0 (c : Dev nD) (t : Fin cfg0.N) (r : Fin 512) (l : Fin 2048) :
    iblk m c 0 t (ix2 r l) = m (c.tc.loc main_arg0) (ix2 ⟨t.val * 512 + r.val, by have := lt_of_lt_of_eq t.isLt N_0; omega⟩ l) := by
  blk_ext [iblk, V, idx t]

theorem blk1 (c : Dev nD) (t : Fin cfg0.N) (r : Fin 512) (l : Fin 2048) :
    iblk m c 1 t (ix2 r l) = m (c.tc.loc main_arg1) (ix2 ⟨t.val * 512 + r.val, by have := lt_of_lt_of_eq t.isLt N_0; omega⟩ ⟨l.val, by omega⟩) := by
  blk_ext [iblk, V, idx t]

theorem blk2 (c : Dev nD) (t : Fin cfg0.N) (l : Fin 2048) :
    iblk m c 2 t (ix2 0 l) = m (c.tc.loc main_arg2) (ix2 0 l) := by
  blk_ext [iblk, V, idx t]

theorem point (c : Dev nD) (t : Fin cfg0.N) (r : Fin 512) (l : Fin 2048) :
    k0_pay1 (F := Ideal) (iblk m c 0 t) (iblk m c 1 t) (iblk m c 2 t) (ix2 r l) = val (m (c.tc.loc main_arg0)) (m (c.tc.loc main_arg1)) (m (c.tc.loc main_arg2)) ⟨t.val * 512 + r.val, by have := lt_of_lt_of_eq t.isLt N_0; omega⟩ l := by
  refine (val_apply _ _ _ _ _).trans ?_
  refine congrArg₂ (fun (a : Fin 2048 → EReal) (b : EReal) => Rms.unit a l * b) (funext fun j => ?_) (blk2 m c t l)
  exact congrArg₂ (fun (a b : EReal) => a * (b * Finite.logistic b)) (blk0 m c t r j) (blk1 m c t r j)

theorem col_eq (l : Fin 2048) : (⟨l.val % 2048, Nat.mod_lt _ (by decide)⟩ : Fin 2048) = l :=
  Fin.ext (Nat.mod_eq_of_lt l.isLt)

theorem first_cols (x : Nat) : x < 2048 ↔ x / 2048 < 1 := by omega

/-- What the call leaves in its result: the normalised rows in the first 2048 columns, the rest as it was. -/
theorem final3 (c : Dev nD) : (dats m 0 c).arrAt 3 cfg0.N
    = fun i => if (i 1).val < 2048 then val (m (c.tc.loc main_arg0)) (m (c.tc.loc main_arg1)) (m (c.tc.loc main_arg2)) (i 0) ⟨(i 1).val % 2048, Nat.mod_lt _ (by decide)⟩ else V m c main_v0 i := by
  refine (dats m 0 c).arrAt_eq_of_coversWhere 3 _ (fun β => β 1 < 1) (by decide +kernel) (fun t hf y => ?_)
    (fun j => by blk_simp [Pipeline.Window.cell_apply]; exact first_cols _)
  have hN : t.val < 8 := lt_of_lt_of_eq t.isLt N_0
  blk_simp
  rw [after0_3]
  frame_out
  idx_vars y
  refine (point m c t y0 y1).trans (congrArg₂ _ (Fin.ext ?_) (Fin.ext ?_)) <;> blk_simp [idx t]
  exact (Nat.mod_eq_of_lt y1.isLt).symm

/-- What the lines after the call leave in the result: the first 2048 columns of what the call wrote. -/
theorem cut_v1 (c : Dev nD) :
    Pipeline.afterTail₀ cfgs (dats m) 0 (V0 m) [hostOps1] c main_v1 = fun i => val (m (c.tc.loc main_arg0)) (m (c.tc.loc main_arg1)) (m (c.tc.loc main_arg2)) (i 0) (i 1) := by
  have e := Pipeline.withArrays_arr spec0 launch0.win.arr_inj c (V0 m c) (fun w => (dats m 0 c).arrAt w cfg0.N) 3
  unfold Pipeline.afterTail₀
  after_results
  funext i
  idx_vars i
  refine (congrArg (fun q => extractStridedSlice S4096x2048 ![0, 0] q slices_S4096x4096_S4096x2048_0_0 (ix2 i0 i1)) (e.trans (final3 m c))).trans ?_
  clear e
  pointwise
  exact congrArg (val (m (c.tc.loc main_arg0)) (m (c.tc.loc main_arg1)) (m (c.tc.loc main_arg2)) i0) (col_eq i1)

/-- The kernel's run: its result is the value named above, and it keeps its arguments. -/
theorem kernel_run : θ_run defs (onTc (τ := τ) (main (F := Ideal))) ⟨m, fun _ => 0, ρ⟩ fun r => ∀ c : Dev nD,
      r.2.mem (c.tc.loc main_v1) = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨((h.1 c).2 main_v1 (Pipeline.mem_restRefs_of main_v1 (by decide) (by decide))).trans (cut_v1 m c), h.2 c⟩)
    (θ_run_and (run_main m ρ) (unchanged m ρ))

end kernel

/-! ## The reference -/

section reference
open Cert.GateNormRefIdeal Cert.GateNormRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v18) = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.GateNormRefIdeal.Value.run (F := Ideal) m ρ)
  · clear h; funext i; idx_vars i; clean_types; pointwise
    rfl

end reference

/-! ## The claims -/

/-- The reference runs to its end and keeps its arguments. -/
theorem frame_ref : Cert.quiescent_GateNormRefIdeal := fun m ρ _ =>
  (θ_run Cert.GateNormRefIdeal.defs _ _).mono (fun r h => ⟨fun c => (h c).2,
      Idealize.ShloMosaic.sem_eq_zero_of_no_sems (by decide) r.2⟩)
    (Cert.GateNormRefIdeal.Value.run (F := Ideal) m ρ)

/-- Kernel and reference end with equal results. -/
theorem algebraic : Cert.algebraic_GateNormIdeal_GateNormRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.GateNormProof

end
-- ==== Proof.GateNormGrad.lean ====
/-
The gradient of the gated normalisation after the scan: of the scan's result, of the gate, and of the weight, which the
kernel adds up over sixteen blocks of rows.
-/
module

public import proofs.«01_k».proof.Proof.Gen.GateNormGradIdeal.Frame
public import proofs.«01_k».proof.Proof.Gen.GateNormGradRefIdeal.Run
public import proofs.«01_k».proof.Proof.Rms
public import proofs.«01_k».proof.Proof.Sums
public import proofs.«01_k».proof.Proof.Finite
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.GateNormGradProof

/-- The swished gate, from the column `l` of the projection's row `r`. -/
def gate (A1 : (⟨2, ![4096, 12288]⟩ : Shape).Idx → EReal) (r : Fin 4096) (l : Fin 2048) : EReal :=
  A1 (ix2 r ⟨l.val, by omega⟩) * Finite.logistic (A1 (ix2 r ⟨l.val, by omega⟩))

/-- The gated value of the row `r` at column `l`. -/
def gated (A0 : (⟨2, ![4096, 2048]⟩ : Shape).Idx → EReal) (A1 : (⟨2, ![4096, 12288]⟩ : Shape).Idx → EReal) (r : Fin 4096) (l : Fin 2048) : EReal :=
  A0 (ix2 r l) * gate A1 r l

/-- The gradient of the gated row `r` at column `l`. -/
def dgated (A0 : (⟨2, ![4096, 2048]⟩ : Shape).Idx → EReal) (A1 : (⟨2, ![4096, 12288]⟩ : Shape).Idx → EReal) (A2 : (⟨2, ![4096, 4096]⟩ : Shape).Idx → EReal) (A3 : (⟨2, ![1, 2048]⟩ : Shape).Idx → EReal) (r : Fin 4096) (l : Fin 2048) : EReal :=
  Rms.back (gated A0 A1 r) (fun k => A2 (ix2 r ⟨k.val, by omega⟩) * A3 (ix2 0 k)) l

/-- The gradient of the scan's result. -/
def dy (A0 : (⟨2, ![4096, 2048]⟩ : Shape).Idx → EReal) (A1 : (⟨2, ![4096, 12288]⟩ : Shape).Idx → EReal) (A2 : (⟨2, ![4096, 4096]⟩ : Shape).Idx → EReal) (A3 : (⟨2, ![1, 2048]⟩ : Shape).Idx → EReal) (r : Fin 4096) (l : Fin 2048) : EReal :=
  dgated A0 A1 A2 A3 r l * gate A1 r l

/-- The gradient of the gate: through the gate itself, and through its logistic. -/
def dz (A0 : (⟨2, ![4096, 2048]⟩ : Shape).Idx → EReal) (A1 : (⟨2, ![4096, 12288]⟩ : Shape).Idx → EReal) (A2 : (⟨2, ![4096, 4096]⟩ : Shape).Idx → EReal) (A3 : (⟨2, ![1, 2048]⟩ : Shape).Idx → EReal) (r : Fin 4096) (l : Fin 2048) : EReal :=
  A0 (ix2 r l) * dgated A0 A1 A2 A3 r l * Finite.logistic (A1 (ix2 r ⟨l.val, by omega⟩))
    + A1 (ix2 r ⟨l.val, by omega⟩) * (A0 (ix2 r l) * dgated A0 A1 A2 A3 r l)
      * (Finite.logistic (A1 (ix2 r ⟨l.val, by omega⟩)) * (1 - Finite.logistic (A1 (ix2 r ⟨l.val, by omega⟩))))

/-- What the row `r` adds to the weight's gradient at column `l`. -/
def term (A0 : (⟨2, ![4096, 2048]⟩ : Shape).Idx → EReal) (A1 : (⟨2, ![4096, 12288]⟩ : Shape).Idx → EReal) (A2 : (⟨2, ![4096, 4096]⟩ : Shape).Idx → EReal) (l : Fin 2048) (r : Fin 4096) : EReal :=
  Rms.unit (gated A0 A1 r) l * A2 (ix2 r ⟨l.val, by omega⟩)

/-- The weight's gradient at column `l`. -/
def dg (A0 : (⟨2, ![4096, 2048]⟩ : Shape).Idx → EReal) (A1 : (⟨2, ![4096, 12288]⟩ : Shape).Idx → EReal) (A2 : (⟨2, ![4096, 4096]⟩ : Shape).Idx → EReal) (l : Fin 2048) : EReal := ∑ r, term A0 A1 A2 l r

/-- What the `s`-th block of 256 rows adds to the weight's gradient. -/
def part (A0 : (⟨2, ![4096, 2048]⟩ : Shape).Idx → EReal) (A1 : (⟨2, ![4096, 12288]⟩ : Shape).Idx → EReal) (A2 : (⟨2, ![4096, 4096]⟩ : Shape).Idx → EReal) (l : Fin 2048) (s : ℕ) : EReal :=
  ∑ k : Fin 256, if h : s * 256 + k.val < 4096 then term A0 A1 A2 l ⟨s * 256 + k.val, h⟩ else 0

/-- The logistic's derivative written with the exponential is the one written with the logistic, times any factor. -/
theorem swish_deriv (x z : EReal) :
    -(-(x * Ideal.div 1 ((1 + Ideal.exp (-z)) * (1 + Ideal.exp (-z)))) * Ideal.exp (-z))
      = x * (Finite.logistic z * (1 - Finite.logistic z)) := by
  rw [EReal.neg_mul, neg_neg, mul_assoc]
  refine congrArg (x * ·) ?_
  induction z using EReal.rec with
  | bot =>
    have e : Ideal.exp (-(⊥ : EReal)) = ⊤ := rfl
    have a : (1 : EReal) + ⊤ = ⊤ := rfl
    have d : Ideal.div 1 ⊤ = 0 := by simp [Ideal.div]
    unfold Finite.logistic
    rw [e, a, EReal.top_mul_top, d, zero_mul, zero_mul]
  | top =>
    have e : Ideal.exp (-(⊤ : EReal)) = 0 := rfl
    have d : Ideal.div 1 1 = 1 := by simp [Ideal.div]
    have a : (1 : EReal) - 1 = 0 := by rw [← EReal.coe_one, ← EReal.coe_sub, sub_self, EReal.coe_zero]
    unfold Finite.logistic
    rw [e, add_zero, d, a, mul_zero, mul_zero]
  | coe z =>
    have h : (1 : ℝ) + Real.exp (-z) ≠ 0 := by positivity
    have e : Ideal.exp (-(z : EReal)) = ((Real.exp (-z) : ℝ) : EReal) := by
      rw [← EReal.coe_neg]; rfl
    rw [Finite.logistic_coe, e, ← EReal.coe_one, ← EReal.coe_add, ← EReal.coe_mul, Ideal.div_coe (mul_ne_zero h h),
      ← EReal.coe_mul, ← EReal.coe_sub, ← EReal.coe_mul, ← EReal.coe_mul]
    congr 1
    field_simp
    ring

section kernel
open Cert.GateNormGradIdeal Cert.GateNormGradIdeal.Gen

variable (m : (ℓ : Loc nD τ sig) → Buf (Elt Ideal) ℓ) (ρ : Dev nD → PrngReg)

/-! ## What one grid step computes -/

/-- A block's gated value. -/
abbrev bg (x : Vec Ideal S256x2048 .f32) (z : Vec Ideal S256x2048 .bf16) (r : Fin 256) (k : Fin 2048) : EReal :=
  x (ix2 r k) * (z (ix2 r k) * Finite.logistic (z (ix2 r k)))

theorem gate_apply (z : Vec Ideal S256x2048 .bf16) (r : Fin 256) (l : Fin 2048) :
    k0_pay11 z (ix2 r l) = z (ix2 r l) * Finite.logistic (z (ix2 r l)) := by
  pointwise [k0_pay11, k0_pay9, k0_pay8, k0_pay7, k0_pay6]
  simp only [zero_sub]
  rfl

theorem gated_apply (x : Vec Ideal S256x2048 .f32) (z : Vec Ideal S256x2048 .bf16) (r : Fin 256) (l : Fin 2048) :
    k0_pay12 x z (ix2 r l) = bg x z r l := by
  pointwise [k0_pay12]
  exact congrArg _ (gate_apply z r l)

theorem den_apply (x : Vec Ideal S256x2048 .f32) (z : Vec Ideal S256x2048 .bf16) (r : Fin 256) :
    k0_pay13 x z (ix2 r 0) = Rms.den (bg x z r) := by
  rw [show bg x z r = fun k => k0_pay12 x z (ix2 r k) from funext fun k => (gated_apply x z r k).symm]
  unfold k0_pay13
  generalize k0_pay12 x z = q
  pointwise
  rfl

theorem back_apply (x : Vec Ideal S256x2048 .f32) (z d : Vec Ideal S256x2048 .bf16) (g : Vec Ideal S1x2048 .f32) (r : Fin 256) (l : Fin 2048) :
    k0_pay1 (k0_pay12 x z) (k0_pay15 x z) (k0_pay19 x z d g) (k0_pay20 x z d g) (ix2 r l)
      = Rms.back (bg x z r) (fun k => d (ix2 r k) * g (ix2 0 k)) l := by
  unfold Rms.back Rms.corr
  rw [← den_apply x z r]
  simp only [← gated_apply x z r]
  unfold k0_pay15 k0_pay19 k0_pay20 k0_pay14
  generalize k0_pay13 x z = p
  generalize k0_pay12 x z = q
  pointwise [k0_pay1, k0_pay18, k0_pay16]
  simp only [Fin.sum_univ_one]

theorem dy_apply (x : Vec Ideal S256x2048 .f32) (z d : Vec Ideal S256x2048 .bf16) (g : Vec Ideal S1x2048 .f32) (r : Fin 256) (l : Fin 2048) :
    k0_pay2 (k0_pay11 z) (k0_pay12 x z) (k0_pay15 x z) (k0_pay19 x z d g) (k0_pay20 x z d g) (ix2 r l)
      = Rms.back (bg x z r) (fun k => d (ix2 r k) * g (ix2 0 k)) l * (z (ix2 r l) * Finite.logistic (z (ix2 r l))) := by
  unfold k0_pay2
  exact congrArg₂ (· * ·) (back_apply x z d g r l) (gate_apply z r l)

theorem dz_apply (x : Vec Ideal S256x2048 .f32) (z d : Vec Ideal S256x2048 .bf16) (g : Vec Ideal S1x2048 .f32) (r : Fin 256) (l : Fin 2048) :
    k0_pay3 x (k0_pay6 z) (k0_pay7 z) (k0_pay9 z) (k0_pay10 z) (k0_pay12 x z) (k0_pay15 x z) (k0_pay19 x z d g) (k0_pay20 x z d g) (ix2 r l)
      = x (ix2 r l) * Rms.back (bg x z r) (fun k => d (ix2 r k) * g (ix2 0 k)) l * Finite.logistic (z (ix2 r l))
        + z (ix2 r l) * (x (ix2 r l) * Rms.back (bg x z r) (fun k => d (ix2 r k) * g (ix2 0 k)) l)
          * (Finite.logistic (z (ix2 r l)) * (1 - Finite.logistic (z (ix2 r l)))) := by
  rw [← back_apply x z d g r l]
  unfold k0_pay3
  generalize k0_pay1 (k0_pay12 x z) (k0_pay15 x z) (k0_pay19 x z d g) (k0_pay20 x z d g) = q
  pointwise [k0_pay6, k0_pay7, k0_pay8, k0_pay9, k0_pay10]
  simp only [zero_sub, mul_one]
  exact congrArg₂ (· + ·) rfl (swish_deriv _ _)

theorem dg_apply (x : Vec Ideal S256x2048 .f32) (z d : Vec Ideal S256x2048 .bf16) (g : Vec Ideal S1x2048 .f32) (l : Fin 2048) :
    k0_pay5 (k0_pay17 x z d) g (ix2 0 l)
      = g (ix2 0 l) + ∑ k, Rms.unit (bg x z k) l * d (ix2 k l) := by
  unfold Rms.unit
  simp only [← den_apply x z, ← gated_apply x z]
  unfold k0_pay17 k0_pay14
  generalize k0_pay13 x z = p
  generalize k0_pay12 x z = q
  pointwise [k0_pay5, k0_pay16]

theorem zero_apply (l : Fin 2048) : k0_pay4 (F := Ideal) (ix2 0 l) = 0 := by
  pointwise [k0_pay4]

/-! ## The blocks of each grid point -/

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem blk0 (c : Dev nD) (t : Fin cfg0.N) (r : Fin 256) (l : Fin 2048) :
    iblk m c 0 t (ix2 r l) = m (c.tc.loc main_arg0) (ix2 ⟨t.val * 256 + r.val, by have := lt_of_lt_of_eq t.isLt N_0; omega⟩ l) := by
  blk_ext [iblk, V, idx t]

theorem blk1 (c : Dev nD) (t : Fin cfg0.N) (r : Fin 256) (l : Fin 2048) :
    iblk m c 1 t (ix2 r l) = m (c.tc.loc main_arg1) (ix2 ⟨t.val * 256 + r.val, by have := lt_of_lt_of_eq t.isLt N_0; omega⟩ ⟨l.val, by omega⟩) := by
  blk_ext [iblk, V, idx t]

theorem blk2 (c : Dev nD) (t : Fin cfg0.N) (r : Fin 256) (l : Fin 2048) :
    iblk m c 2 t (ix2 r l) = m (c.tc.loc main_arg2) (ix2 ⟨t.val * 256 + r.val, by have := lt_of_lt_of_eq t.isLt N_0; omega⟩ ⟨l.val, by omega⟩) := by
  blk_ext [iblk, V, idx t]

theorem blk3 (c : Dev nD) (t : Fin cfg0.N) (l : Fin 2048) :
    iblk m c 3 t (ix2 0 l) = m (c.tc.loc main_arg3) (ix2 0 l) := by
  blk_ext [iblk, V, idx t]

/-! ## The results -/

theorem bg_eq (c : Dev nD) (t : Fin cfg0.N) (r : Fin 256) :
    bg (iblk m c 0 t) (iblk m c 1 t) r = gated (m (c.tc.loc main_arg0)) (m (c.tc.loc main_arg1)) ⟨t.val * 256 + r.val, by have := lt_of_lt_of_eq t.isLt N_0; omega⟩ :=
  funext fun k => congrArg₂ (fun (a b : EReal) => a * (b * Finite.logistic b)) (blk0 m c t r k) (blk1 m c t r k)

theorem back_eq (c : Dev nD) (t : Fin cfg0.N) (r : Fin 256) (l : Fin 2048) :
    Rms.back (bg (iblk m c 0 t) (iblk m c 1 t) r) (fun k => (show EReal from iblk m c 2 t (ix2 r k)) * (show EReal from iblk m c 3 t (ix2 0 k))) l
      = dgated (m (c.tc.loc main_arg0)) (m (c.tc.loc main_arg1)) (m (c.tc.loc main_arg2)) (m (c.tc.loc main_arg3)) ⟨t.val * 256 + r.val, by have := lt_of_lt_of_eq t.isLt N_0; omega⟩ l :=
  congrArg₂ (fun a b => Rms.back a b l) (bg_eq m c t r)
    (funext fun k => congrArg₂ (fun (a b : EReal) => a * b) (blk2 m c t r k) (blk3 m c t k))

theorem part_eq (c : Dev nD) (t : Fin cfg0.N) (l : Fin 2048) :
    (∑ k, Rms.unit (bg (iblk m c 0 t) (iblk m c 1 t) k) l * iblk m c 2 t (ix2 k l)) = part (m (c.tc.loc main_arg0)) (m (c.tc.loc main_arg1)) (m (c.tc.loc main_arg2)) l t.val := by
  have hN : t.val < 16 := lt_of_lt_of_eq t.isLt N_0
  unfold part
  refine Finset.sum_congr rfl fun k _ => ?_
  rw [dif_pos (show t.val * 256 + k.val < 4096 by omega)]
  exact congrArg₂ (fun (a : Fin 2048 → EReal) (b : EReal) => Rms.unit a l * b) (bg_eq m c t k) (blk2 m c t k l)

theorem sum_apply (c : Dev nD) (l : Fin 2048) : ∀ (n : ℕ) (t : Fin cfg0.N), t.val = n →
    (outsAt0 m c t.val t.isLt).2.2 (ix2 0 l) = ∑ s ∈ Finset.range (n + 1), part (m (c.tc.loc main_arg0)) (m (c.tc.loc main_arg1)) (m (c.tc.loc main_arg2)) l s
  | 0, t, h => by
    rw [outsAt0_A m c t (by omega)]
    dsimp only
    frame_out
    refine (dg_apply _ _ _ _ _).trans ?_
    rw [zero_apply, zero_add, Finset.sum_range_one]
    exact (part_eq m c t l).trans (by rw [h])
  | n + 1, t, h => by
    have hN : t.val < 16 := lt_of_lt_of_eq t.isLt N_0
    have hp : t.val - 1 < cfg0.N := lt_of_le_of_lt (Nat.sub_le _ _) t.isLt
    rw [outsAt0_B m c t (by omega)]
    dsimp only
    frame_out
    refine (dg_apply _ _ _ _ _).trans ?_
    rw [Finset.sum_range_succ]
    refine congrArg₂ (· + ·) ((sum_apply c l n ⟨t.val - 1, hp⟩ (by dsimp only; omega))) ((part_eq m c t l).trans ?_)
    rw [h]

theorem point4 (c : Dev nD) (t : Fin cfg0.N) (r : Fin 256) (l : Fin 2048) :
    k0_pay2 (F := Ideal) (k0_pay11 (iblk m c 1 t)) (k0_pay12 (iblk m c 0 t) (iblk m c 1 t)) (k0_pay15 (iblk m c 0 t) (iblk m c 1 t)) (k0_pay19 (iblk m c 0 t) (iblk m c 1 t) (iblk m c 2 t) (iblk m c 3 t)) (k0_pay20 (iblk m c 0 t) (iblk m c 1 t) (iblk m c 2 t) (iblk m c 3 t)) (ix2 r l) = dy (m (c.tc.loc main_arg0)) (m (c.tc.loc main_arg1)) (m (c.tc.loc main_arg2)) (m (c.tc.loc main_arg3)) ⟨t.val * 256 + r.val, by have := lt_of_lt_of_eq t.isLt N_0; omega⟩ l := by
  refine (dy_apply _ _ _ _ _ _).trans ?_
  exact congrArg₂ (fun (a b : EReal) => a * (b * Finite.logistic b)) (back_eq m c t r l) (blk1 m c t r l)

theorem point5 (c : Dev nD) (t : Fin cfg0.N) (r : Fin 256) (l : Fin 2048) :
    k0_pay3 (F := Ideal) (iblk m c 0 t) (k0_pay6 (iblk m c 1 t)) (k0_pay7 (iblk m c 1 t)) (k0_pay9 (iblk m c 1 t)) (k0_pay10 (iblk m c 1 t)) (k0_pay12 (iblk m c 0 t) (iblk m c 1 t)) (k0_pay15 (iblk m c 0 t) (iblk m c 1 t)) (k0_pay19 (iblk m c 0 t) (iblk m c 1 t) (iblk m c 2 t) (iblk m c 3 t)) (k0_pay20 (iblk m c 0 t) (iblk m c 1 t) (iblk m c 2 t) (iblk m c 3 t)) (ix2 r l) = dz (m (c.tc.loc main_arg0)) (m (c.tc.loc main_arg1)) (m (c.tc.loc main_arg2)) (m (c.tc.loc main_arg3)) ⟨t.val * 256 + r.val, by have := lt_of_lt_of_eq t.isLt N_0; omega⟩ l := by
  refine (dz_apply _ _ _ _ _ _).trans ?_
  rw [back_eq m c t r l]
  exact congrArg₂ (fun (a b : EReal) => a * dgated (m (c.tc.loc main_arg0)) (m (c.tc.loc main_arg1)) (m (c.tc.loc main_arg2)) (m (c.tc.loc main_arg3)) ⟨t.val * 256 + r.val, by have := lt_of_lt_of_eq t.isLt N_0; omega⟩ l * Finite.logistic b
    + b * (a * dgated (m (c.tc.loc main_arg0)) (m (c.tc.loc main_arg1)) (m (c.tc.loc main_arg2)) (m (c.tc.loc main_arg3)) ⟨t.val * 256 + r.val, by have := lt_of_lt_of_eq t.isLt N_0; omega⟩ l) * (Finite.logistic b * (1 - Finite.logistic b))) (blk0 m c t r l) (blk1 m c t r l)

theorem out4 (c : Dev nD) (t : Fin cfg0.N) (r : Fin 256) (l : Fin 2048) :
    (outsAt0 m c t.val t.isLt).1 (ix2 r l) = dy (m (c.tc.loc main_arg0)) (m (c.tc.loc main_arg1)) (m (c.tc.loc main_arg2)) (m (c.tc.loc main_arg3)) ⟨t.val * 256 + r.val, by have := lt_of_lt_of_eq t.isLt N_0; omega⟩ l := by
  by_cases h : t.val % 16 = 0
  · rw [outsAt0_A m c t h]
    dsimp only
    frame_out
    exact point4 m c t r l
  · rw [outsAt0_B m c t h]
    dsimp only
    frame_out
    exact point4 m c t r l

theorem out5 (c : Dev nD) (t : Fin cfg0.N) (r : Fin 256) (l : Fin 2048) :
    (outsAt0 m c t.val t.isLt).2.1 (ix2 r l) = dz (m (c.tc.loc main_arg0)) (m (c.tc.loc main_arg1)) (m (c.tc.loc main_arg2)) (m (c.tc.loc main_arg3)) ⟨t.val * 256 + r.val, by have := lt_of_lt_of_eq t.isLt N_0; omega⟩ l := by
  by_cases h : t.val % 16 = 0
  · rw [outsAt0_A m c t h]
    dsimp only
    frame_out
    exact point5 m c t r l
  · rw [outsAt0_B m c t h]
    dsimp only
    frame_out
    exact point5 m c t r l

theorem final4 (c : Dev nD) : (dats m 0 c).arrAt 4 cfg0.N = fun i => dy (m (c.tc.loc main_arg0)) (m (c.tc.loc main_arg1)) (m (c.tc.loc main_arg2)) (m (c.tc.loc main_arg3)) (i 0) (i 1) := by
  refine (dats m 0 c).arrAt_eq_of_covers 4 _ (by decide +kernel) fun t hf y => ?_
  have hN : t.val < 16 := lt_of_lt_of_eq t.isLt N_0
  blk_simp
  rw [after0_4]
  idx_vars y
  refine (out4 m c t y0 y1).trans (congrArg₂ _ (Fin.ext ?_) (Fin.ext ?_)) <;> blk_simp [idx t]

theorem col_eq (l : Fin 2048) : (⟨l.val % 2048, Nat.mod_lt _ (by decide)⟩ : Fin 2048) = l :=
  Fin.ext (Nat.mod_eq_of_lt l.isLt)

theorem first_cols (x : Nat) : x < 2048 ↔ x / 2048 < 1 := by omega

/-- What the call leaves in the gradient of the projection: the gate's gradient in the first 2048 columns, the rest as it was. -/
theorem final5 (c : Dev nD) : (dats m 0 c).arrAt 5 cfg0.N
    = fun i => if (i 1).val < 2048 then dz (m (c.tc.loc main_arg0)) (m (c.tc.loc main_arg1)) (m (c.tc.loc main_arg2)) (m (c.tc.loc main_arg3)) (i 0) ⟨(i 1).val % 2048, Nat.mod_lt _ (by decide)⟩ else V m c main_v0_1 i := by
  refine (dats m 0 c).arrAt_eq_of_coversWhere 5 _ (fun β => β 1 < 1) (by decide +kernel) (fun t hf y => ?_)
    (fun j => by blk_simp [Pipeline.Window.cell_apply]; exact first_cols _)
  have hN : t.val < 16 := lt_of_lt_of_eq t.isLt N_0
  blk_simp
  rw [after0_5]
  idx_vars y
  refine (out5 m c t y0 y1).trans (congrArg₂ _ (Fin.ext ?_) (Fin.ext ?_)) <;> blk_simp [idx t]
  exact (Nat.mod_eq_of_lt y1.isLt).symm

/-- What the lines after the call leave in the result: the first 2048 columns of what the call wrote. -/
theorem cut_v1 (c : Dev nD) :
    Pipeline.afterTail₀ cfgs (dats m) 0 (V0 m) [hostOps1] c main_v1 = fun i => dz (m (c.tc.loc main_arg0)) (m (c.tc.loc main_arg1)) (m (c.tc.loc main_arg2)) (m (c.tc.loc main_arg3)) (i 0) (i 1) := by
  have e := Pipeline.withArrays_arr spec0 launch0.win.arr_inj c (V0 m c) (fun w => (dats m 0 c).arrAt w cfg0.N) 5
  unfold Pipeline.afterTail₀
  after_results
  funext i
  idx_vars i
  refine (congrArg (fun q => extractStridedSlice S4096x2048 ![0, 0] q slices_S4096x12288_S4096x2048_0_0 (ix2 i0 i1)) (e.trans (final5 m c))).trans ?_
  clear e
  pointwise
  exact congrArg (dz (m (c.tc.loc main_arg0)) (m (c.tc.loc main_arg1)) (m (c.tc.loc main_arg2)) (m (c.tc.loc main_arg3)) i0) (col_eq i1)

theorem total (c : Dev nD) (t : Fin cfg0.N) (h : t.val = 15) (l : Fin 2048) :
    (outsAt0 m c t.val t.isLt).2.2 (ix2 0 l) = dg (m (c.tc.loc main_arg0)) (m (c.tc.loc main_arg1)) (m (c.tc.loc main_arg2)) l :=
  (sum_apply m c l 15 t h).trans (Sums.blocks 16 256 rfl _)

theorem final6 (c : Dev nD) : (dats m 0 c).arrAt 6 cfg0.N = fun i => dg (m (c.tc.loc main_arg0)) (m (c.tc.loc main_arg1)) (m (c.tc.loc main_arg2)) (i 1) := by
  refine (dats m 0 c).arrAt_eq_of_covers 6 _ (by decide +kernel) fun t hf y => ?_
  have hN : t.val < 16 := lt_of_lt_of_eq t.isLt N_0
  have h1 : t.val % 16 = 15 := (flush0_6 t).mp hf
  blk_simp
  rw [after0_6]
  idx_vars y
  refine (congrArg _ (congrArg₂ ix2 (Fin.ext (by omega)) rfl)).trans ((total m c t (by omega) y1).trans (congrArg _ (Fin.ext ?_))) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => dy (m (c.tc.loc main_arg0)) (m (c.tc.loc main_arg1)) (m (c.tc.loc main_arg2)) (m (c.tc.loc main_arg3)) (i 0) (i 1))
      ∧ r.2.mem (c.tc.loc main_v1) = (fun i => dz (m (c.tc.loc main_arg0)) (m (c.tc.loc main_arg1)) (m (c.tc.loc main_arg2)) (m (c.tc.loc main_arg3)) (i 0) (i 1))
      ∧ r.2.mem (c.tc.loc main_v0_2) = (fun i => dg (m (c.tc.loc main_arg0)) (m (c.tc.loc main_arg1)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h.1 c).1 4).trans (final4 m c),
      ((h.1 c).2 main_v1 (Pipeline.mem_restRefs_of main_v1 (by decide) (by decide))).trans (cut_v1 m c),
      ((h.1 c).1 6).trans (final6 m c), h.2 c⟩)
    (θ_run_and (run_main m ρ) (unchanged m ρ))

end kernel

/-! ## The reference -/

section reference
open Cert.GateNormGradRefIdeal Cert.GateNormGradRefIdeal.Gen

variable (m : (ℓ : Loc nD τ sig) → Buf (Elt Ideal) ℓ) (ρ : Dev nD → PrngReg)

/-- The reference's logistic of the gate. -/
def refSig (A1 : FVec Ideal S4096x12288 .bf16) : FVec Ideal S4096x2048 .f32 :=
  Host.divf ((broadcastInDim S4096x2048 ![] bcast_S_S4096x2048) (constant S_ .f32 0x3F800000#32)) (addf ((broadcastInDim S4096x2048 ![] bcast_S_S4096x2048) (constant S_ .f32 0x3F800000#32)) (Host.exp (Host.negf (extf .f32 (extractStridedSlice S4096x2048 ![0, 0] A1 slices_S4096x12288_S4096x2048_0_0) bitsLt_bf16_f32))))

/-- The reference's gated values. -/
def refGated (A0 : FVec Ideal S4096x2048 .f32) (A1 : FVec Ideal S4096x12288 .bf16) : FVec Ideal S4096x2048 .f32 :=
  mulf A0 (mulf (extf .f32 (extractStridedSlice S4096x2048 ![0, 0] A1 slices_S4096x12288_S4096x2048_0_0) bitsLt_bf16_f32) (refSig A1))

/-- The reference's mean of squares of every row, plus the small number. -/
def refDen (A0 : FVec Ideal S4096x2048 .f32) (A1 : FVec Ideal S4096x12288 .bf16) : FVec Ideal S4096x1 .f32 :=
  addf (Host.divf (broadcastInDim S4096x1 ![0] bcast_S4096_S4096x1_0 (Host.reduceAdd (mulf (refGated A0 A1) (refGated A0 A1)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))

/-- The reference's factor of every row in its gradient. -/
def refCorr (A0 : FVec Ideal S4096x2048 .f32) (A1 : FVec Ideal S4096x12288 .bf16) (A2 : FVec Ideal S4096x4096 .bf16) (A3 : FVec Ideal S1x2048 .f32) : FVec Ideal S4096 .f32 :=
  Host.reduceAdd (Host.divf (mulf (shapeCast S4096x1 (Host.reduceAdd (mulf (refGated A0 A1) (mulf (extf .f32 (extractStridedSlice S4096x2048 ![0, 0] A2 slices_S4096x4096_S4096x2048_0_0) bitsLt_bf16_f32) (broadcastInDim S4096x2048 ![0, 1] bcast_S1x2048_S4096x2048_0_1 (broadcastInDim S1x2048 ![1] bcast_S2048_S1x2048_1 (shapeCast S2048 A3 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (refDen A0 A1)) (refDen A0 A1)))) (broadcastInDim S4096x1 ![] bcast_S_S4096x1 (constant S_ .f32 0x45000000#32))) (constant S_ .f32 0x00000000#32) reducesTo_S4096x1_S4096_d1 h_S_

/-- The reference's gradient of the weight, before its shape is restored. -/
def refSum (A0 : FVec Ideal S4096x2048 .f32) (A1 : FVec Ideal S4096x12288 .bf16) (A2 : FVec Ideal S4096x4096 .bf16) : FVec Ideal S2048 .f32 :=
  Host.reduceAdd (mulf (mulf (refGated A0 A1) (broadcastInDim S4096x2048 ![0, 1] bcast_S4096x1_S4096x2048_0_1 (Host.rsqrt (refDen A0 A1)))) (extf .f32 (extractStridedSlice S4096x2048 ![0, 0] A2 slices_S4096x4096_S4096x2048_0_0) bitsLt_bf16_f32)) (constant S_ .f32 0x00000000#32) reducesTo_S4096x2048_S2048_d0 h_S_

/-- The reference's gradient of the gated values. -/
def refBack (A0 : FVec Ideal S4096x2048 .f32) (A1 : FVec Ideal S4096x12288 .bf16) (A2 : FVec Ideal S4096x4096 .bf16) (A3 : FVec Ideal S1x2048 .f32) : FVec Ideal S4096x2048 .f32 :=
  addf (addf (mulf (mulf (extf .f32 (extractStridedSlice S4096x2048 ![0, 0] A2 slices_S4096x4096_S4096x2048_0_0) bitsLt_bf16_f32) (broadcastInDim S4096x2048 ![0, 1] bcast_S1x2048_S4096x2048_0_1 (broadcastInDim S1x2048 ![1] bcast_S2048_S1x2048_1 (shapeCast S2048 A3 shapeCasts_S1x2048_S2048)))) (broadcastInDim S4096x2048 ![0, 1] bcast_S4096x1_S4096x2048_0_1 (Host.rsqrt (refDen A0 A1)))) (mulf (refGated A0 A1) (broadcastInDim S4096x2048 ![0] bcast_S4096_S4096x2048_0 (refCorr A0 A1 A2 A3)))) (mulf (broadcastInDim S4096x2048 ![0] bcast_S4096_S4096x2048_0 (refCorr A0 A1 A2 A3)) (refGated A0 A1))

theorem refSig_apply (A1 : FVec Ideal S4096x12288 .bf16) (r : Fin 4096) (l : Fin 2048) :
    refSig A1 (ix2 r l) = Finite.logistic (A1 (ix2 r ⟨l.val, by omega⟩)) := by
  pointwise [refSig]
  rfl

theorem refGated_apply (A0 : FVec Ideal S4096x2048 .f32) (A1 : FVec Ideal S4096x12288 .bf16) (r : Fin 4096) (l : Fin 2048) : refGated A0 A1 (ix2 r l) = gated A0 A1 r l := by
  unfold refGated gated gate
  rw [← refSig_apply A1 r l]
  generalize refSig A1 = d
  pointwise

theorem refDen_apply (A0 : FVec Ideal S4096x2048 .f32) (A1 : FVec Ideal S4096x12288 .bf16) (r : Fin 4096) : refDen A0 A1 (ix2 r 0) = Rms.den (gated A0 A1 r) := by
  rw [show gated A0 A1 r = fun k => refGated A0 A1 (ix2 r k) from funext fun k => (refGated_apply A0 A1 r k).symm]
  unfold refDen
  generalize refGated A0 A1 = d
  pointwise
  rfl

theorem refCorr_apply (A0 : FVec Ideal S4096x2048 .f32) (A1 : FVec Ideal S4096x12288 .bf16) (A2 : FVec Ideal S4096x4096 .bf16) (A3 : FVec Ideal S1x2048 .f32) (r : Fin 4096) :
    refCorr A0 A1 A2 A3 (ix1 r) = Rms.corr (gated A0 A1 r) (fun k => A2 (ix2 r ⟨k.val, by omega⟩) * A3 (ix2 0 k)) := by
  unfold refCorr Rms.corr
  rw [← refDen_apply A0 A1 r]
  simp only [← refGated_apply A0 A1 r]
  generalize refDen A0 A1 = d
  generalize refGated A0 A1 = e
  pointwise
  simp only [Fin.sum_univ_one]

theorem refSum_apply (A0 : FVec Ideal S4096x2048 .f32) (A1 : FVec Ideal S4096x12288 .bf16) (A2 : FVec Ideal S4096x4096 .bf16) (l : Fin 2048) : refSum A0 A1 A2 (ix1 l) = dg A0 A1 A2 l := by
  have h : ∀ r, term A0 A1 A2 l r = refGated A0 A1 (ix2 r l) * Ideal.rsqrt (refDen A0 A1 (ix2 r 0)) * A2 (ix2 r ⟨l.val, by omega⟩) := fun r => by
    rw [refDen_apply, refGated_apply]; rfl
  unfold refSum dg
  rw [Finset.sum_congr rfl fun r _ => h r]
  generalize refDen A0 A1 = d
  generalize refGated A0 A1 = e
  pointwise

theorem refBack_apply (A0 : FVec Ideal S4096x2048 .f32) (A1 : FVec Ideal S4096x12288 .bf16) (A2 : FVec Ideal S4096x4096 .bf16) (A3 : FVec Ideal S1x2048 .f32) (r : Fin 4096) (l : Fin 2048) : refBack A0 A1 A2 A3 (ix2 r l) = dgated A0 A1 A2 A3 r l := by
  unfold dgated Rms.back
  rw [← refDen_apply A0 A1 r, ← refCorr_apply A0 A1 A2 A3 r, ← refGated_apply A0 A1 r l]
  unfold refBack
  generalize refDen A0 A1 = d
  generalize refCorr A0 A1 A2 A3 = e
  generalize refGated A0 A1 = q
  pointwise

theorem ref_dy (A0 : FVec Ideal S4096x2048 .f32) (A1 : FVec Ideal S4096x12288 .bf16) (A2 : FVec Ideal S4096x4096 .bf16) (A3 : FVec Ideal S1x2048 .f32) (r : Fin 4096) (l : Fin 2048) :
    ((mulf (refBack A0 A1 A2 A3) (mulf (extf .f32 (extractStridedSlice S4096x2048 ![0, 0] A1 slices_S4096x12288_S4096x2048_0_0) bitsLt_bf16_f32) (refSig A1))) : FVec Ideal S4096x2048 .f32) (ix2 r l) = dy A0 A1 A2 A3 r l := by
  unfold dy gate
  rw [← refBack_apply A0 A1 A2 A3 r l, ← refSig_apply A1 r l]
  generalize refBack A0 A1 A2 A3 = d
  generalize refSig A1 = e
  pointwise

theorem ref_dz (A0 : FVec Ideal S4096x2048 .f32) (A1 : FVec Ideal S4096x12288 .bf16) (A2 : FVec Ideal S4096x4096 .bf16) (A3 : FVec Ideal S1x2048 .f32) (r : Fin 4096) (l : Fin 2048) :
    ((truncf .bf16 (addf (mulf (mulf A0 (refBack A0 A1 A2 A3)) (refSig A1)) (mulf (mulf (extf .f32 (extractStridedSlice S4096x2048 ![0, 0] A1 slices_S4096x12288_S4096x2048_0_0) bitsLt_bf16_f32) (mulf A0 (refBack A0 A1 A2 A3))) (mulf (refSig A1) (subf ((broadcastInDim S4096x2048 ![] bcast_S_S4096x2048) (constant S_ .f32 0x3F800000#32)) (refSig A1))))) bitsLt_bf16_f32) : FVec Ideal S4096x2048 .bf16) (ix2 r l) = dz A0 A1 A2 A3 r l := by
  unfold dz
  rw [← refBack_apply A0 A1 A2 A3 r l, ← refSig_apply A1 r l]
  generalize refBack A0 A1 A2 A3 = d
  generalize refSig A1 = e
  pointwise

theorem ref_dg (A0 : FVec Ideal S4096x2048 .f32) (A1 : FVec Ideal S4096x12288 .bf16) (A2 : FVec Ideal S4096x4096 .bf16) (l : Fin 2048) :
    ((broadcastInDim S1x2048 ![1] bcast_S2048_S1x2048_1 (Host.reduceAdd (shapeCast S1x2048 (refSum A0 A1 A2) shapeCasts_S2048_S1x2048) (constant S_ .f32 0x00000000#32) reducesTo_S1x2048_S2048_d0 h_S_)) : FVec Ideal S1x2048 .f32) (ix2 0 l) = dg A0 A1 A2 l := by
  rw [← refSum_apply A0 A1 A2 l]
  generalize refSum A0 A1 A2 = e
  pointwise
  simp only [Fin.sum_univ_one]

/-- The reference's run: the same results. -/
theorem ref_run : θ_run defs (onTc (τ := τ) (main (F := Ideal))) ⟨m, fun _ => 0, ρ⟩ fun r => ∀ c : Dev nD,
      r.2.mem (c.tc.loc main_v45) = (fun i => dy (m (c.tc.loc main_arg0)) (m (c.tc.loc main_arg1)) (m (c.tc.loc main_arg2)) (m (c.tc.loc main_arg3)) (i 0) (i 1))
      ∧ r.2.mem (c.tc.loc main_v47) = (fun i => dz (m (c.tc.loc main_arg0)) (m (c.tc.loc main_arg1)) (m (c.tc.loc main_arg2)) (m (c.tc.loc main_arg3)) (i 0) (i 1))
      ∧ r.2.mem (c.tc.loc main_v43) = (fun i => dg (m (c.tc.loc main_arg0)) (m (c.tc.loc main_arg1)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_, (h c).2.2.2⟩)
    (Cert.GateNormGradRefIdeal.Value.run (F := Ideal) m ρ)
  · clear h; funext i; idx_vars i; exact ref_dy (m (c.tc.loc main_arg0)) (m (c.tc.loc main_arg1)) (m (c.tc.loc main_arg2)) (m (c.tc.loc main_arg3)) i0 i1
  · clear h; funext i; idx_vars i; exact ref_dz (m (c.tc.loc main_arg0)) (m (c.tc.loc main_arg1)) (m (c.tc.loc main_arg2)) (m (c.tc.loc main_arg3)) i0 i1
  · clear h; funext i; idx_vars i; exact (congrArg _ (congrArg₂ ix2 (Fin.ext (by omega)) rfl)).trans (ref_dg (m (c.tc.loc main_arg0)) (m (c.tc.loc main_arg1)) (m (c.tc.loc main_arg2)) i1)

end reference

/-! ## The claims -/

/-- The reference runs to its end and keeps its arguments. -/
theorem frame_ref : Cert.quiescent_GateNormGradRefIdeal := fun m ρ _ =>
  (θ_run Cert.GateNormGradRefIdeal.defs _ _).mono (fun r h => ⟨fun c => (h c).2.2.2,
      Idealize.ShloMosaic.sem_eq_zero_of_no_sems (by decide) r.2⟩)
    (Cert.GateNormGradRefIdeal.Value.run (F := Ideal) m ρ)

/-- Kernel and reference end with equal results. -/
theorem algebraic : Cert.algebraic_GateNormGradIdeal_GateNormGradRefIdeal := by
  intro m g m' g' _ hargs
  refine ⟨_, _, _, kernel_run m g, ?_⟩
  refine (θ_run _ _ _).mono (fun r h c => ?_) (ref_run m' g')
  obtain ⟨a0, a1, a2, a3⟩ := hargs c
  obtain ⟨h0, h1, h2, hk⟩ := h c
  rw [a0, a1, a2, a3] at h0
  rw [a0, a1, a2, a3] at h1
  rw [a0, a1, a2] at h2
  exact ⟨h0, h1, h2, hk⟩

end Cert.GateNormGradProof

end
-- ==== Proof.GateUpGrad.lean ====
/-
The gradients in the gate's and the up projection's outputs: the cotangent times the transposed weights of the down
projection, then the derivative of the gated activations. The kernel writes the gate's derivative as one product, the
reference as a sum of two; they agree where that product of the cotangent is finite.
-/
module

public import proofs.«01_k».proof.Proof.Gen.GateUpGradIdeal.Value
public import proofs.«01_k».proof.Proof.Gen.GateUpGradRefIdeal.Run
public import proofs.«01_k».proof.Proof.Gen.Pre_finite_cotangent
public import proofs.«01_k».proof.Proof.Finite
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.GateUpGradProof

/-- The gradient in the activations. -/
def dact (A0 : (⟨2, ![4096, 2048]⟩ : Shape).Idx → EReal) (A1 : (⟨2, ![5632, 2048]⟩ : Shape).Idx → EReal)
    (r : Fin 4096) (l : Fin 5632) : EReal :=
  ∑ k : Fin 2048, A0 (ix2 r k) * A1 (ix2 l k)

/-- The gradient in the gate's output. -/
def gate (A0 : (⟨2, ![4096, 2048]⟩ : Shape).Idx → EReal) (A1 : (⟨2, ![5632, 2048]⟩ : Shape).Idx → EReal)
    (A2 A3 : (⟨2, ![4096, 5632]⟩ : Shape).Idx → EReal) (r : Fin 4096) (l : Fin 5632) : EReal :=
  dact A0 A1 r l * A3 (ix2 r l) * (Finite.logistic (A2 (ix2 r l))
    * (1 + A2 (ix2 r l) * (1 - Finite.logistic (A2 (ix2 r l)))))

/-- The gradient in the up projection's output. -/
def upg (A0 : (⟨2, ![4096, 2048]⟩ : Shape).Idx → EReal) (A1 : (⟨2, ![5632, 2048]⟩ : Shape).Idx → EReal)
    (A2 : (⟨2, ![4096, 5632]⟩ : Shape).Idx → EReal) (r : Fin 4096) (l : Fin 5632) : EReal :=
  dact A0 A1 r l * A2 (ix2 r l) * Finite.logistic (A2 (ix2 r l))

section kernel
open Cert.GateUpGradIdeal Cert.GateUpGradIdeal.Gen

variable (m : (ℓ : Loc nD τ sig) → Buf (Elt Ideal) ℓ) (ρ : Dev nD → PrngReg)

/-! ## What one block step computes -/

theorem gate_apply (x0 : Vec Ideal S1024x2048 .bf16) (x1 : Vec Ideal S512x2048 .bf16) (g u : Vec Ideal S1024x512 .bf16)
    (r : Fin 1024) (l : Fin 512) :
    k0_pay4 x0 x1 g u (ix2 r l) = (∑ k : Fin 2048, x0 (ix2 r k) * x1 (ix2 l k)) * u (ix2 r l)
      * (Finite.logistic (g (ix2 r l)) * (1 + g (ix2 r l) * (1 - Finite.logistic (g (ix2 r l))))) := by
  pointwise [k0_pay1, k0_pay2, k0_pay3, k0_pay4]
  rw [zero_sub]
  rfl

theorem upg_apply (x0 : Vec Ideal S1024x2048 .bf16) (x1 : Vec Ideal S512x2048 .bf16) (g : Vec Ideal S1024x512 .bf16)
    (r : Fin 1024) (l : Fin 512) :
    k0_pay5 x0 x1 g (ix2 r l) = (∑ k : Fin 2048, x0 (ix2 r k) * x1 (ix2 l k)) * g (ix2 r l)
      * Finite.logistic (g (ix2 r l)) := by
  pointwise [k0_pay1, k0_pay2, k0_pay3, k0_pay5]
  rw [zero_sub]
  rfl

/-! ## The blocks of each grid point -/

theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 11 * 1024 + r.val, by have := lt_of_lt_of_eq t.isLt N_0; omega⟩ k) := by
  blk_ext [iblk, V, idx t]

/-- The weights as the call reads them. -/
theorem weights (c : Dev nD) (k : Fin 2048) (l : Fin 5632) :
    V m c main_v0 (ix2 l k) = m (c.tc.loc main_arg1) (ix2 l k) := by
  unfold V; after_results; pointwise

theorem blk1 (c : Dev nD) (t : Fin cfg0.N) (k : Fin 2048) (l : Fin 512) :
    iblk m c 1 t (ix2 l k) = m (c.tc.loc main_arg1) (ix2 ⟨t.val % 11 * 512 + l.val, by omega⟩ k) := by
  refine Eq.trans ?_ (weights m c k ⟨t.val % 11 * 512 + l.val, by omega⟩)
  blk_ext [iblk, idx t]

theorem blk2 (c : Dev nD) (t : Fin cfg0.N) (r : Fin 1024) (l : Fin 512) :
    iblk m c 2 t (ix2 r l) = m (c.tc.loc main_arg2) (ix2 ⟨t.val / 11 * 1024 + r.val, by have := lt_of_lt_of_eq t.isLt N_0; omega⟩ ⟨t.val % 11 * 512 + l.val, by omega⟩) := by
  blk_ext [iblk, V, idx t]

theorem blk3 (c : Dev nD) (t : Fin cfg0.N) (r : Fin 1024) (l : Fin 512) :
    iblk m c 3 t (ix2 r l) = m (c.tc.loc main_arg3) (ix2 ⟨t.val / 11 * 1024 + r.val, by have := lt_of_lt_of_eq t.isLt N_0; omega⟩ ⟨t.val % 11 * 512 + l.val, by omega⟩) := by
  blk_ext [iblk, V, idx t]

/-! ## The results -/

theorem point4 (c : Dev nD) (t : Fin cfg0.N) (r : Fin 1024) (l : Fin 512) :
    k0_pay4 (F := Ideal) (iblk m c 0 t) (iblk m c 1 t) (iblk m c 2 t) (iblk m c 3 t) (ix2 r l)
      = gate (m (c.tc.loc main_arg0)) (m (c.tc.loc main_arg1)) (m (c.tc.loc main_arg2)) (m (c.tc.loc main_arg3)) ⟨t.val / 11 * 1024 + r.val, by have := lt_of_lt_of_eq t.isLt N_0; omega⟩ ⟨t.val % 11 * 512 + l.val, by omega⟩ := by
  rw [gate_apply]
  refine congrArg₂ (· * ·) (congrArg₂ (· * ·)
    (Finset.sum_congr rfl fun k _ => congrArg₂ (· * ·) (blk0 m c t k r) (blk1 m c t k l)) (blk3 m c t r l)) ?_
  exact congrArg (fun z : EReal => Finite.logistic z * (1 + z * (1 - Finite.logistic z))) (blk2 m c t r l)

theorem point5 (c : Dev nD) (t : Fin cfg0.N) (r : Fin 1024) (l : Fin 512) :
    k0_pay5 (F := Ideal) (iblk m c 0 t) (iblk m c 1 t) (iblk m c 2 t) (ix2 r l) = upg (m (c.tc.loc main_arg0)) (m (c.tc.loc main_arg1)) (m (c.tc.loc main_arg2)) ⟨t.val / 11 * 1024 + r.val, by have := lt_of_lt_of_eq t.isLt N_0; omega⟩ ⟨t.val % 11 * 512 + l.val, by omega⟩ := by
  rw [upg_apply]
  refine congrArg₂ (· * ·) (congrArg₂ (· * ·)
    (Finset.sum_congr rfl fun k _ => congrArg₂ (· * ·) (blk0 m c t k r) (blk1 m c t k l)) (blk2 m c t r l)) ?_
  exact congrArg Finite.logistic (blk2 m c t r l)

theorem final4 (c : Dev nD) : (dats m 0 c).arrAt 4 cfg0.N = fun i => gate (m (c.tc.loc main_arg0)) (m (c.tc.loc main_arg1)) (m (c.tc.loc main_arg2)) (m (c.tc.loc main_arg3)) (i 0) (i 1) := by
  refine (dats m 0 c).arrAt_eq_of_covers 4 _ (by decide +kernel) fun t hf y => ?_
  have hN : t.val < 44 := lt_of_lt_of_eq t.isLt N_0
  blk_simp
  rw [after0_4]
  frame_out
  idx_vars y
  refine (point4 m c t y0 y1).trans (congrArg₂ _ (Fin.ext ?_) (Fin.ext ?_)) <;> blk_simp [idx t]

theorem final5 (c : Dev nD) : (dats m 0 c).arrAt 5 cfg0.N = fun i => upg (m (c.tc.loc main_arg0)) (m (c.tc.loc main_arg1)) (m (c.tc.loc main_arg2)) (i 0) (i 1) := by
  refine (dats m 0 c).arrAt_eq_of_covers 5 _ (by decide +kernel) fun t hf y => ?_
  have hN : t.val < 44 := lt_of_lt_of_eq t.isLt N_0
  blk_simp
  rw [after0_5]
  frame_out
  idx_vars y
  refine (point5 m c t y0 y1).trans (congrArg₂ _ (Fin.ext ?_) (Fin.ext ?_)) <;> blk_simp [idx t]

/-- The kernel's run: its results are `gate` and `upg` of the arguments, which it keeps. -/
theorem kernel_run : θ_run defs (onTc (τ := τ) (main (F := Ideal))) ⟨m, fun _ => 0, ρ⟩ fun r => ∀ c : Dev nD,
      r.2.mem (c.tc.loc main_v1_0) = (fun i => gate (m (c.tc.loc main_arg0)) (m (c.tc.loc main_arg1)) (m (c.tc.loc main_arg2)) (m (c.tc.loc main_arg3)) (i 0) (i 1))
      ∧ r.2.mem (c.tc.loc main_v1_1) = (fun i => upg (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c), (h c).2.2⟩)
    (Cert.GateUpGradIdeal.Value.run_blocks (F := Ideal) m ρ)

end kernel

/-! ## The precondition, element by element -/

section finite
open Cert.Pre_finite_cotangent

/-- Under the precondition the gradient in the activations times the up projection's output is a real number. -/
theorem isReal_dact (a0 : FVec Ideal S4096x2048 .bf16) (a1 : FVec Ideal S5632x2048 .f32) (a2 a3 : FVec Ideal S4096x5632 .bf16)
    (h : Cert.Pre_finite_cotangent.fn (F := Ideal) a0 a1 a2 a3 = fun _ => 1#1) (r : Fin 4096) (l : Fin 5632) :
    Finite.IsReal (dact a0 a1 r l * a3 (ix2 r l)) := by
  have h0 := congrFun h (fun i => i.elim0)
  refine Finite.IsReal.mul (Finite.IsReal.sum _ _ fun k _ => Finite.IsReal.mul ?_ ?_) ?_
  · exact Finite.isReal_of_test (Finite.all_apply _ _ _ _ _ (Finite.andi_left (Finite.andi_left h0)) (ix2 r k))
  · exact Finite.isReal_of_test (Finite.all_apply _ _ _ _ _ (Finite.andi_right (Finite.andi_left h0)) (ix2 l k))
  · exact Finite.isReal_of_test (Finite.all_apply _ _ _ _ _ (Finite.andi_right h0) (ix2 r l))

end finite

/-! ## The reference -/

section reference
open Cert.GateUpGradRefIdeal Cert.GateUpGradRefIdeal.Gen

variable (m : (ℓ : Loc nD τ sig) → Buf (Elt Ideal) ℓ) (ρ : Dev nD → PrngReg)

/-- The reference's run: where the cotangent is finite its results are `gate` and `upg` of the arguments, which it keeps. -/
theorem ref_run (hfin : ∀ (c : Dev nD) (r : Fin 4096) (l : Fin 5632), Finite.IsReal
      (dact (m (c.tc.loc main_arg0)) (m (c.tc.loc main_arg1)) r l * (show (⟨2, ![4096, 5632]⟩ : Shape).Idx → EReal from m (c.tc.loc main_arg3)) (ix2 r l))) :
    θ_run defs (onTc (τ := τ) (main (F := Ideal))) ⟨m, fun _ => 0, ρ⟩ fun r => ∀ c : Dev nD,
      r.2.mem (c.tc.loc main_v10) = (fun i => gate (m (c.tc.loc main_arg0)) (m (c.tc.loc main_arg1)) (m (c.tc.loc main_arg2)) (m (c.tc.loc main_arg3)) (i 0) (i 1))
      ∧ r.2.mem (c.tc.loc main_v11) = (fun i => upg (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2⟩)
    (Cert.GateUpGradRefIdeal.Value.run (F := Ideal) m ρ)
  · clear h; funext i; idx_vars i; clean_types; pointwise
    exact (Finite.gate_deriv (hfin c i0 i1) _).symm
  · clear h; funext i; idx_vars i; clean_types; pointwise
    refine Eq.trans (mul_comm _ _) ?_
    exact (mul_assoc _ _ _).symm

end reference

/-! ## The claims -/

/-- The reference runs to its end and keeps its arguments. -/
theorem frame_ref : Cert.quiescent_GateUpGradRefIdeal := fun m ρ _ =>
  (θ_run Cert.GateUpGradRefIdeal.defs _ _).mono (fun r h => ⟨fun c => (h c).2.2,
      Idealize.ShloMosaic.sem_eq_zero_of_no_sems (by decide) r.2⟩)
    (Cert.GateUpGradRefIdeal.Value.run (F := Ideal) m ρ)

/-- Kernel and reference end with equal results where the cotangent is finite. -/
theorem algebraic : Cert.algebraic_GateUpGradIdeal_GateUpGradRefIdeal_pre_finite_cotangent := by
  intro m g m' g' hpre hargs
  refine ⟨_, _, kernel_run m g, ?_⟩
  refine (θ_run _ _ _).mono (fun r h c => ?_) (ref_run m' g' fun c r l => ?_)
  · obtain ⟨a0, a1, a2, a3⟩ := hargs c
    obtain ⟨h0, h1, hk⟩ := h c
    rw [a0, a1, a2, a3] at h0
    rw [a0, a1, a2] at h1
    exact ⟨h0, h1, hk⟩
  · obtain ⟨a0, a1, a2, a3⟩ := hargs c
    rw [a0, a1, a3]
    exact isReal_dact _ _ _ _ (hpre c) r l

end Cert.GateUpGradProof

end
-- ==== Proof.InDtGrad.lean ====
/-
The gradient in the step sizes' columns of the input projection's weights: the product of the transposed cotangent with
the normed input, accumulated over two halves of the 4096 positions.
-/
module

public import proofs.«01_k».proof.Proof.Gen.InDtGradIdeal.Value
public import proofs.«01_k».proof.Proof.Gen.InDtGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.InDtGradProof

/-- The result at row `r` and column `l`, from the arguments. -/
def val (A0 : (⟨2, ![4096, 128]⟩ : Shape).Idx → EReal) (A1 : (⟨2, ![4096, 2048]⟩ : Shape).Idx → EReal)
    (r : Fin 128) (l : Fin 2048) : EReal :=
  (∑ k : Fin 4096, A0 (ix2 k r) * A1 (ix2 k l))

section kernel
open Cert.InDtGradIdeal Cert.InDtGradIdeal.Gen

variable (m : (ℓ : Loc nD τ sig) → Buf (Elt Ideal) ℓ) (ρ : Dev nD → PrngReg)

/-! ## What one block step computes -/

theorem first_apply (x0 : Vec Ideal S2048x128 .bf16) (x1 : Vec Ideal S2048x1024 .bf16) (r : Fin 128) (l : Fin 1024) :
    k0_pay2 x0 x1 (ix2 r l) = ∑ k : Fin 2048, x0 (ix2 k r) * x1 (ix2 k l) := by
  pointwise [k0_pay2, k0_pay1]

theorem last_apply (x0 : Vec Ideal S2048x128 .bf16) (x1 : Vec Ideal S2048x1024 .bf16) (a : Vec Ideal S128x1024 .f32) (r : Fin 128) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, 0] ∧ win0_1.index t = ![t.val % 2, t.val / 2 % 2] ∧ win0_2.index t = ![0, t.val / 2 % 2] :=
  (by decide +kernel : ∀ t : Fin grid0.N, _)

theorem blk0 (c : Dev nD) (t : Fin cfg0.N) (k : Fin 2048) (r : Fin 128) :
    iblk m c 0 t (ix2 k r) = m (c.tc.loc main_arg0) (ix2 ⟨t.val % 2 * 2048 + k.val, by omega⟩ ⟨0 * 128 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 128) (l : Fin 1024) :
    (outsAt0 m c t.val t.isLt).2 (ix2 r l)
      = ∑ k : Fin 2048, (show Vec Ideal S2048x128 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 128) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨0 * 128 + r.val, by have := lt_of_lt_of_eq t.isLt N_0; omega⟩ ⟨t.val / 2 % 2 * 1024 + l.val, by have := lt_of_lt_of_eq t.isLt N_0; omega⟩ := by
  have hN : t.val < 4 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 4 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.InDtGradIdeal.Value.run_blocks (F := Ideal) m ρ)

end kernel

/-! ## The reference -/

section reference
open Cert.InDtGradRefIdeal Cert.InDtGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v4)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.InDtGradRefIdeal.Value.run (F := Ideal) m ρ)
  clear h; funext i; idx_vars i; clean_types; pointwise
  rfl

end reference

/-! ## The claims -/

/-- The reference runs to its end and keeps its arguments. -/
theorem frame_ref : Cert.quiescent_InDtGradRefIdeal := fun m ρ _ =>
  (θ_run Cert.InDtGradRefIdeal.defs _ _).mono (fun r h => ⟨fun c => (h c).2,
      Idealize.ShloMosaic.sem_eq_zero_of_no_sems (by decide) r.2⟩)
    (Cert.InDtGradRefIdeal.Value.run (F := Ideal) m ρ)

/-- Kernel and reference end with equal results. -/
theorem algebraic : Cert.algebraic_InDtGradIdeal_InDtGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.InDtGradProof

end
-- ==== Proof.InGrad.lean ====
/-
The gradient in the input projection's weights (without the step sizes' columns): the product of the transposed cotangent
with the normed input, accumulated over two halves of the 4096 positions.
-/
module

public import proofs.«01_k».proof.Proof.Gen.InGradIdeal.Value
public import proofs.«01_k».proof.Proof.Gen.InGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.InGradProof

/-- The result at row `r` and column `l`, from the arguments. -/
def val (A0 : (⟨2, ![4096, 12288]⟩ : Shape).Idx → EReal) (A1 : (⟨2, ![4096, 2048]⟩ : Shape).Idx → EReal)
    (r : Fin 12288) (l : Fin 2048) : EReal :=
  (∑ k : Fin 4096, A0 (ix2 k r) * A1 (ix2 k l))

section kernel
open Cert.InGradIdeal Cert.InGradIdeal.Gen

variable (m : (ℓ : Loc nD τ sig) → Buf (Elt Ideal) ℓ) (ρ : Dev nD → PrngReg)

/-! ## What one block step computes -/

theorem first_apply (x0 : Vec Ideal S2048x1024 .bf16) (x1 : Vec Ideal S2048x1024 .bf16) (r : Fin 1024) (l : Fin 1024) :
    k0_pay2 x0 x1 (ix2 r l) = ∑ k : Fin 2048, x0 (ix2 k r) * x1 (ix2 k l) := by
  pointwise [k0_pay2, k0_pay1]

theorem last_apply (x0 : Vec Ideal S2048x1024 .bf16) (x1 : Vec Ideal S2048x1024 .bf16) (a : Vec Ideal S1024x1024 .f32) (r : Fin 1024) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2048) (r : Fin 1024) :
    iblk m c 0 t (ix2 k r) = m (c.tc.loc main_arg0) (ix2 ⟨t.val % 2 * 2048 + k.val, by omega⟩ ⟨t.val / 4 * 1024 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2048, (show Vec Ideal S2048x1024 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1024 + r.val, by have := lt_of_lt_of_eq t.isLt N_0; omega⟩ ⟨t.val / 2 % 2 * 1024 + l.val, by have := lt_of_lt_of_eq t.isLt N_0; omega⟩ := by
  have hN : t.val < 48 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 48 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.InGradIdeal.Value.run_blocks (F := Ideal) m ρ)

end kernel

/-! ## The reference -/

section reference
open Cert.InGradRefIdeal Cert.InGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v7)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.InGradRefIdeal.Value.run (F := Ideal) m ρ)
  clear h; funext i; idx_vars i; clean_types; pointwise
  rfl

end reference

/-! ## The claims -/

/-- The reference runs to its end and keeps its arguments. -/
theorem frame_ref : Cert.quiescent_InGradRefIdeal := fun m ρ _ =>
  (θ_run Cert.InGradRefIdeal.defs _ _).mono (fun r h => ⟨fun c => (h c).2,
      Idealize.ShloMosaic.sem_eq_zero_of_no_sems (by decide) r.2⟩)
    (Cert.InGradRefIdeal.Value.run (F := Ideal) m ρ)

/-- Kernel and reference end with equal results. -/
theorem algebraic : Cert.algebraic_InGradIdeal_InGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.InGradProof

end
-- ==== Proof.Words.lean ====
/-
The constants of the loss head as extended reals, and the two facts they are needed for: a share of a squared error's
gradient written twice, and a sum of squares with its factor inside or outside.
-/
module

public import proofs.«01_k».proof.Proof.Finite
public import proofs.«01_k».proof.Defs
public import Idealize.ShloMosaic.Lib.Pointwise

@[expose] public section

noncomputable section

open Idealize.ShloMosaic

namespace Cert.Words

/-- One half. -/
theorem half : Ideal.ofBits .f32 0x3F000000#32 = (((1 : ℝ) / 2 : ℝ) : EReal) := by
  simp [Ideal.ofBits, Ideal.ieee, -EReal.coe_mul]; norm_num

/-- Two. -/
theorem two : Ideal.ofBits .f32 0x40000000#32 = ((2 : ℝ) : EReal) := by
  simp [Ideal.ofBits, Ideal.ieee, -EReal.coe_mul]; norm_num

/-- The length of a row. -/
theorem width : Ideal.ofBits .f32 0x45000000#32 = ((2048 : ℝ) : EReal) := by
  simp [Ideal.ofBits, Ideal.ieee, -EReal.coe_mul]; norm_num

/-- The weight of one squared error. -/
theorem weight : Ideal.ofBits .f32 0x39800000#32 = (((1 : ℝ) / 4096 : ℝ) : EReal) := by
  simp [Ideal.ofBits, Ideal.ieee, -EReal.coe_mul]; norm_num

/-- Half over the length of a row is the weight. -/
theorem half_width : Ideal.div (Ideal.ofBits .f32 0x3F000000#32) (Ideal.ofBits .f32 0x45000000#32)
    = Ideal.ofBits .f32 0x39800000#32 := by
  rw [half, width, weight, Ideal.div_coe (by norm_num), ← EReal.coe_mul]
  norm_num

/-- Twice a value is the value added to itself. -/
theorem two_mul (x : EReal) : Ideal.ofBits .f32 0x40000000#32 * x = x + x := by
  rw [two, show ((2 : ℝ) : EReal) = ((1 : ℝ) : EReal) + ((1 : ℝ) : EReal) by rw [← EReal.coe_add]; norm_num,
    EReal.coe_one, EReal.right_distrib_of_nonneg zero_le_one zero_le_one, one_mul]

/-- A square is not negative. -/
theorem sq_nonneg (x : EReal) : 0 ≤ x * x :=
  EReal.mul_nonneg_iff.mpr ((le_total 0 x).imp (fun h => ⟨h, h⟩) fun h => ⟨h, h⟩)

/-- A factor goes into a sum of terms that are not negative. -/
theorem mul_sum {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, ← ih]
    exact EReal.left_distrib_of_nonneg (hf a) (Finset.sum_nonneg fun i _ => hf i)

/-- Half of the mean of a sum is the sum times the weight. -/
theorem half_mean (x : EReal) :
    Ideal.ofBits .f32 0x3F000000#32 * Ideal.div x (Ideal.ofBits .f32 0x45000000#32) = Ideal.ofBits .f32 0x39800000#32 * x := by
  rw [half, width, weight, Ideal.div_coe (by norm_num), mul_left_comm, ← EReal.coe_mul, mul_comm]
  norm_num

end Cert.Words

end
-- ==== Proof.LossHead.lean ====
/-
The loss head: the final normalisation, the mean squared error of every row against its target, and their gradient.  The
loss and the weight's gradient are added up over sixteen blocks of rows.
-/
module

public import proofs.«01_k».proof.Proof.Gen.LossHeadIdeal.Value
public import proofs.«01_k».proof.Proof.Gen.LossHeadRefIdeal.Run
public import proofs.«01_k».proof.Proof.Rms
public import proofs.«01_k».proof.Proof.Sums
public import proofs.«01_k».proof.Proof.Words
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.LossHeadProof

/-- The error of the row `r` at column `l`. -/
def err (A0 A1 : (⟨2, ![4096, 2048]⟩ : Shape).Idx → EReal) (A2 : (⟨2, ![1, 2048]⟩ : Shape).Idx → EReal) (r : Fin 4096) (l : Fin 2048) : EReal :=
  Rms.unit (fun k => A0 (ix2 r k)) l * A2 (ix2 0 l) - A1 (ix2 r l)

/-- The cotangent of the normalised row: the error's two equal shares, each times the weight of one squared error. -/
def ct (A0 A1 : (⟨2, ![4096, 2048]⟩ : Shape).Idx → EReal) (A2 : (⟨2, ![1, 2048]⟩ : Shape).Idx → EReal) (r : Fin 4096) (l : Fin 2048) : EReal :=
  err A0 A1 A2 r l * Ideal.ofBits .f32 0x39800000#32 + Ideal.ofBits .f32 0x39800000#32 * err A0 A1 A2 r l

/-- The gradient of the row `r` at column `l`. -/
def dh (A0 A1 : (⟨2, ![4096, 2048]⟩ : Shape).Idx → EReal) (A2 : (⟨2, ![1, 2048]⟩ : Shape).Idx → EReal) (r : Fin 4096) (l : Fin 2048) : EReal := Rms.back (fun k => A0 (ix2 r k)) (fun k => ct A0 A1 A2 r k * A2 (ix2 0 k)) l

/-- The row `r`'s sum of squared errors. -/
def squares (A0 A1 : (⟨2, ![4096, 2048]⟩ : Shape).Idx → EReal) (A2 : (⟨2, ![1, 2048]⟩ : Shape).Idx → EReal) (r : Fin 4096) : EReal := ∑ k, err A0 A1 A2 r k * err A0 A1 A2 r k

/-- The loss. -/
def loss (A0 A1 : (⟨2, ![4096, 2048]⟩ : Shape).Idx → EReal) (A2 : (⟨2, ![1, 2048]⟩ : Shape).Idx → EReal) : EReal := ∑ r, Ideal.ofBits .f32 0x39800000#32 * squares A0 A1 A2 r

/-- What the row `r` adds to the weight's gradient at column `l`. -/
def term (A0 A1 : (⟨2, ![4096, 2048]⟩ : Shape).Idx → EReal) (A2 : (⟨2, ![1, 2048]⟩ : Shape).Idx → EReal) (l : Fin 2048) (r : Fin 4096) : EReal :=
  Rms.unit (fun k => A0 (ix2 r k)) l * ct A0 A1 A2 r l

/-- The weight's gradient at column `l`. -/
def dg (A0 A1 : (⟨2, ![4096, 2048]⟩ : Shape).Idx → EReal) (A2 : (⟨2, ![1, 2048]⟩ : Shape).Idx → EReal) (l : Fin 2048) : EReal := ∑ r, term A0 A1 A2 l r

/-- A block of 256 rows' share of a sum over all rows. -/
def part (f : Fin 4096 → EReal) (s : ℕ) : EReal :=
  ∑ k : Fin 256, if h : s * 256 + k.val < 4096 then f ⟨s * 256 + k.val, h⟩ else 0

theorem squares_nonneg (A0 A1 : (⟨2, ![4096, 2048]⟩ : Shape).Idx → EReal) (A2 : (⟨2, ![1, 2048]⟩ : Shape).Idx → EReal) (r : Fin 4096) : 0 ≤ squares A0 A1 A2 r :=
  Finset.sum_nonneg fun _ _ => Words.sq_nonneg _

section kernel
open Cert.LossHeadIdeal Cert.LossHeadIdeal.Gen

variable (m : (ℓ : Loc nD τ sig) → Buf (Elt Ideal) ℓ) (ρ : Dev nD → PrngReg)

/-! ## What one grid step computes -/

theorem err_apply (x t : Vec Ideal S256x2048 .f32) (g : Vec Ideal S1x2048 .f32) (r : Fin 256) (l : Fin 2048) :
    k0_pay10 x t g (ix2 r l) = Rms.unit (fun k => x (ix2 r k)) l * g (ix2 0 l) - t (ix2 r l) := by
  pointwise [k0_pay10, k0_pay9, k0_pay8, k0_pay7]
  rfl

theorem ct_apply (x t : Vec Ideal S256x2048 .f32) (g : Vec Ideal S1x2048 .f32) (r : Fin 256) (l : Fin 2048) :
    k0_pay12 x t g (ix2 r l) = k0_pay10 x t g (ix2 r l) * Ideal.ofBits .f32 0x39800000#32 + Ideal.ofBits .f32 0x39800000#32 * k0_pay10 x t g (ix2 r l) := by
  unfold k0_pay12
  generalize k0_pay10 x t g = e
  pointwise

theorem loss_apply (x t : Vec Ideal S256x2048 .f32) (g : Vec Ideal S1x2048 .f32) (a : Vec Ideal S1x128 .f32) (l : Fin 128) :
    k0_pay5 (k0_pay11 x t g) a (ix2 0 l)
      = a (ix2 0 l) + Ideal.ofBits .f32 0x39800000#32 * ∑ r, ∑ k, k0_pay10 x t g (ix2 r k) * k0_pay10 x t g (ix2 r k) := by
  unfold k0_pay11
  generalize k0_pay10 x t g = e
  pointwise [k0_pay5]

theorem dg_apply (x t : Vec Ideal S256x2048 .f32) (g a : Vec Ideal S1x2048 .f32) (l : Fin 2048) :
    k0_pay6 (k0_pay13 x t g) a (ix2 0 l)
      = a (ix2 0 l) + ∑ r, Rms.unit (fun k => x (ix2 r k)) l * k0_pay12 x t g (ix2 r l) := by
  unfold k0_pay13
  generalize k0_pay12 x t g = e
  pointwise [k0_pay6, k0_pay9, k0_pay8, k0_pay7]
  rfl

theorem dh_apply (x t : Vec Ideal S256x2048 .f32) (g : Vec Ideal S1x2048 .f32) (r : Fin 256) (l : Fin 2048) :
    k0_pay1 x (k0_pay15 x t g) (k0_pay16 x t g) k0_pay17 (ix2 r l)
      = Rms.back (fun k => x (ix2 r k)) (fun k => k0_pay12 x t g (ix2 r k) * g (ix2 0 k)) l := by
  unfold k0_pay15 k0_pay16 k0_pay14
  generalize k0_pay12 x t g = e
  pointwise [k0_pay1, k0_pay17, k0_pay9, k0_pay8, k0_pay7]
  simp only [Fin.sum_univ_one]
  rfl

theorem loss_zero (l : Fin 128) : k0_pay3 (F := Ideal) (ix2 0 l) = 0 := by
  pointwise [k0_pay3]

theorem dg_zero (l : Fin 2048) : k0_pay4 (F := Ideal) (ix2 0 l) = 0 := by
  pointwise [k0_pay4]

/-! ## The blocks of each grid point -/

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

theorem blk0 (c : Dev nD) (t : Fin cfg0.N) (r : Fin 256) (l : Fin 2048) :
    iblk m c 0 t (ix2 r l) = m (c.tc.loc main_arg0) (ix2 ⟨t.val * 256 + r.val, by have := lt_of_lt_of_eq t.isLt N_0; omega⟩ l) := by
  blk_ext [iblk, V, idx t]

theorem blk1 (c : Dev nD) (t : Fin cfg0.N) (r : Fin 256) (l : Fin 2048) :
    iblk m c 1 t (ix2 r l) = m (c.tc.loc main_arg1) (ix2 ⟨t.val * 256 + r.val, by have := lt_of_lt_of_eq t.isLt N_0; omega⟩ l) := by
  blk_ext [iblk, V, idx t]

theorem blk2 (c : Dev nD) (t : Fin cfg0.N) (l : Fin 2048) :
    iblk m c 2 t (ix2 0 l) = m (c.tc.loc main_arg2) (ix2 0 l) := by
  blk_ext [iblk, V, idx t]

theorem err_eq (c : Dev nD) (t : Fin cfg0.N) (r : Fin 256) (l : Fin 2048) :
    k0_pay10 (F := Ideal) (iblk m c 0 t) (iblk m c 1 t) (iblk m c 2 t) (ix2 r l) = err (m (c.tc.loc main_arg0)) (m (c.tc.loc main_arg1)) (m (c.tc.loc main_arg2)) ⟨t.val * 256 + r.val, by have := lt_of_lt_of_eq t.isLt N_0; omega⟩ l := by
  refine (err_apply _ _ _ _ _).trans ?_
  exact congrArg₂ (fun a b : EReal => a - b)
    (congrArg₂ (fun (a : Fin 2048 → EReal) (b : EReal) => Rms.unit a l * b) (funext fun j => blk0 m c t r j) (blk2 m c t l)) (blk1 m c t r l)

theorem ct_eq (c : Dev nD) (t : Fin cfg0.N) (r : Fin 256) (l : Fin 2048) :
    k0_pay12 (F := Ideal) (iblk m c 0 t) (iblk m c 1 t) (iblk m c 2 t) (ix2 r l) = ct (m (c.tc.loc main_arg0)) (m (c.tc.loc main_arg1)) (m (c.tc.loc main_arg2)) ⟨t.val * 256 + r.val, by have := lt_of_lt_of_eq t.isLt N_0; omega⟩ l := by
  refine (ct_apply _ _ _ _ _).trans ?_
  rw [err_eq m c t r l]
  rfl

/-! ## The results -/

theorem loss_part (c : Dev nD) (t : Fin cfg0.N) :
    (Ideal.ofBits .f32 0x39800000#32 * ∑ r, ∑ k, k0_pay10 (F := Ideal) (iblk m c 0 t) (iblk m c 1 t) (iblk m c 2 t) (ix2 r k) * k0_pay10 (F := Ideal) (iblk m c 0 t) (iblk m c 1 t) (iblk m c 2 t) (ix2 r k))
      = part (fun r => Ideal.ofBits .f32 0x39800000#32 * squares (m (c.tc.loc main_arg0)) (m (c.tc.loc main_arg1)) (m (c.tc.loc main_arg2)) r) t.val := by
  have hN : t.val < 16 := lt_of_lt_of_eq t.isLt N_0
  have h : ∀ r : Fin 256, (∑ k, k0_pay10 (F := Ideal) (iblk m c 0 t) (iblk m c 1 t) (iblk m c 2 t) (ix2 r k) * k0_pay10 (F := Ideal) (iblk m c 0 t) (iblk m c 1 t) (iblk m c 2 t) (ix2 r k))
      = squares (m (c.tc.loc main_arg0)) (m (c.tc.loc main_arg1)) (m (c.tc.loc main_arg2)) ⟨t.val * 256 + r.val, by have := lt_of_lt_of_eq t.isLt N_0; omega⟩ := fun r =>
    Finset.sum_congr rfl fun k _ => congrArg₂ (fun a b : EReal => a * b) (err_eq m c t r k) (err_eq m c t r k)
  rw [Finset.sum_congr rfl fun r _ => h r, Words.mul_sum _ _ _ fun r => squares_nonneg _ _ _ _]
  unfold part
  refine Finset.sum_congr rfl fun k _ => ?_
  rw [dif_pos (show t.val * 256 + k.val < 4096 by omega)]

theorem dg_part (c : Dev nD) (t : Fin cfg0.N) (l : Fin 2048) :
    (∑ r, Rms.unit (fun j => iblk m c 0 t (ix2 r j)) l * k0_pay12 (F := Ideal) (iblk m c 0 t) (iblk m c 1 t) (iblk m c 2 t) (ix2 r l))
      = part (term (m (c.tc.loc main_arg0)) (m (c.tc.loc main_arg1)) (m (c.tc.loc main_arg2)) l) t.val := by
  have hN : t.val < 16 := lt_of_lt_of_eq t.isLt N_0
  unfold part
  refine Finset.sum_congr rfl fun k _ => ?_
  rw [dif_pos (show t.val * 256 + k.val < 4096 by omega)]
  exact congrArg₂ (fun (a : Fin 2048 → EReal) (b : EReal) => Rms.unit a l * b) (funext fun j => blk0 m c t k j) (ct_eq m c t k l)

theorem point (c : Dev nD) (t : Fin cfg0.N) (r : Fin 256) (l : Fin 2048) :
    k0_pay1 (F := Ideal) (iblk m c 0 t) (k0_pay15 (iblk m c 0 t) (iblk m c 1 t) (iblk m c 2 t))
      (k0_pay16 (iblk m c 0 t) (iblk m c 1 t) (iblk m c 2 t)) k0_pay17 (ix2 r l) = dh (m (c.tc.loc main_arg0)) (m (c.tc.loc main_arg1)) (m (c.tc.loc main_arg2)) ⟨t.val * 256 + r.val, by have := lt_of_lt_of_eq t.isLt N_0; omega⟩ l := by
  refine (dh_apply _ _ _ _ _).trans ?_
  exact congrArg₂ (fun a b => Rms.back a b l) (funext fun k => blk0 m c t r k)
    (funext fun k => congrArg₂ (· * ·) (ct_eq m c t r k) (blk2 m c t k))

theorem out3 (c : Dev nD) (t : Fin cfg0.N) (r : Fin 256) (l : Fin 2048) :
    (outsAt0 m c t.val t.isLt).1 (ix2 r l) = dh (m (c.tc.loc main_arg0)) (m (c.tc.loc main_arg1)) (m (c.tc.loc main_arg2)) ⟨t.val * 256 + r.val, by have := lt_of_lt_of_eq t.isLt N_0; omega⟩ l := by
  by_cases h : t.val % 16 = 0
  · rw [outsAt0_A m c t h]
    dsimp only
    frame_out
    exact point m c t r l
  · rw [outsAt0_B m c t h]
    dsimp only
    frame_out
    exact point m c t r l

theorem final3 (c : Dev nD) : (dats m 0 c).arrAt 3 cfg0.N = fun i => dh (m (c.tc.loc main_arg0)) (m (c.tc.loc main_arg1)) (m (c.tc.loc main_arg2)) (i 0) (i 1) := by
  refine (dats m 0 c).arrAt_eq_of_covers 3 _ (by decide +kernel) fun t hf y => ?_
  have hN : t.val < 16 := lt_of_lt_of_eq t.isLt N_0
  blk_simp
  rw [after0_3]
  idx_vars y
  refine (out3 m c t y0 y1).trans (congrArg₂ _ (Fin.ext ?_) (Fin.ext ?_)) <;> blk_simp [idx t]

theorem out4 (c : Dev nD) (t : Fin cfg0.N) (r : Fin 256) (l : Fin 2048) :
    (outsAt0 m c t.val t.isLt).2.1 (ix2 r l) = dh (m (c.tc.loc main_arg0)) (m (c.tc.loc main_arg1)) (m (c.tc.loc main_arg2)) ⟨t.val * 256 + r.val, by have := lt_of_lt_of_eq t.isLt N_0; omega⟩ l := by
  by_cases h : t.val % 16 = 0
  · rw [outsAt0_A m c t h]
    dsimp only
    frame_out
    exact point m c t r l
  · rw [outsAt0_B m c t h]
    dsimp only
    frame_out
    exact point m c t r l

theorem final4 (c : Dev nD) : (dats m 0 c).arrAt 4 cfg0.N = fun i => dh (m (c.tc.loc main_arg0)) (m (c.tc.loc main_arg1)) (m (c.tc.loc main_arg2)) (i 0) (i 1) := by
  refine (dats m 0 c).arrAt_eq_of_covers 4 _ (by decide +kernel) fun t hf y => ?_
  have hN : t.val < 16 := lt_of_lt_of_eq t.isLt N_0
  blk_simp
  rw [after0_4]
  idx_vars y
  refine (out4 m c t y0 y1).trans (congrArg₂ _ (Fin.ext ?_) (Fin.ext ?_)) <;> blk_simp [idx t]

theorem loss_sum (c : Dev nD) (l : Fin 128) : ∀ (n : ℕ) (t : Fin cfg0.N), t.val = n →
    (outsAt0 m c t.val t.isLt).2.2.1 (ix2 0 l) = ∑ s ∈ Finset.range (n + 1), part (fun r => Ideal.ofBits .f32 0x39800000#32 * squares (m (c.tc.loc main_arg0)) (m (c.tc.loc main_arg1)) (m (c.tc.loc main_arg2)) r) s
  | 0, t, h => by
    rw [outsAt0_A m c t (by omega)]
    dsimp only
    frame_out
    refine (loss_apply _ _ _ _ _).trans ?_
    rw [loss_zero, zero_add, Finset.sum_range_one]
    exact (loss_part m c t).trans (by rw [h])
  | n + 1, t, h => by
    have hN : t.val < 16 := lt_of_lt_of_eq t.isLt N_0
    have hp : t.val - 1 < cfg0.N := lt_of_le_of_lt (Nat.sub_le _ _) t.isLt
    rw [outsAt0_B m c t (by omega)]
    dsimp only
    frame_out
    refine (loss_apply _ _ _ _ _).trans ?_
    rw [Finset.sum_range_succ]
    refine congrArg₂ (· + ·) ((loss_sum c l n ⟨t.val - 1, hp⟩ (by dsimp only; omega))) ((loss_part m c t).trans ?_)
    rw [h]

theorem loss_total (c : Dev nD) (t : Fin cfg0.N) (h : t.val = 15) (l : Fin 128) :
    (outsAt0 m c t.val t.isLt).2.2.1 (ix2 0 l) = loss (m (c.tc.loc main_arg0)) (m (c.tc.loc main_arg1)) (m (c.tc.loc main_arg2)) :=
  (loss_sum m c l 15 t h).trans (Sums.blocks 16 256 rfl (fun r => Ideal.ofBits .f32 0x39800000#32 * squares (m (c.tc.loc main_arg0)) (m (c.tc.loc main_arg1)) (m (c.tc.loc main_arg2)) r))

theorem final5 (c : Dev nD) : (dats m 0 c).arrAt 5 cfg0.N = fun _ => loss (m (c.tc.loc main_arg0)) (m (c.tc.loc main_arg1)) (m (c.tc.loc main_arg2)) := by
  refine (dats m 0 c).arrAt_eq_of_covers 5 _ (by decide +kernel) fun t hf y => ?_
  have hN : t.val < 16 := lt_of_lt_of_eq t.isLt N_0
  have h1 : t.val % 16 = 15 := (flush0_5 t).mp hf
  blk_simp
  rw [after0_5]
  idx_vars y
  exact (congrArg _ (congrArg₂ ix2 (Fin.ext (by omega)) rfl)).trans (loss_total m c t (by omega) y1)

theorem dg_sum (c : Dev nD) (l : Fin 2048) : ∀ (n : ℕ) (t : Fin cfg0.N), t.val = n →
    (outsAt0 m c t.val t.isLt).2.2.2 (ix2 0 l) = ∑ s ∈ Finset.range (n + 1), part (term (m (c.tc.loc main_arg0)) (m (c.tc.loc main_arg1)) (m (c.tc.loc main_arg2)) l) s
  | 0, t, h => by
    rw [outsAt0_A m c t (by omega)]
    dsimp only
    frame_out
    refine (dg_apply _ _ _ _ _).trans ?_
    rw [dg_zero, zero_add, Finset.sum_range_one]
    exact (dg_part m c t l).trans (by rw [h])
  | n + 1, t, h => by
    have hN : t.val < 16 := lt_of_lt_of_eq t.isLt N_0
    have hp : t.val - 1 < cfg0.N := lt_of_le_of_lt (Nat.sub_le _ _) t.isLt
    rw [outsAt0_B m c t (by omega)]
    dsimp only
    frame_out
    refine (dg_apply _ _ _ _ _).trans ?_
    rw [Finset.sum_range_succ]
    refine congrArg₂ (· + ·) ((dg_sum c l n ⟨t.val - 1, hp⟩ (by dsimp only; omega))) ((dg_part m c t l).trans ?_)
    rw [h]

theorem dg_total (c : Dev nD) (t : Fin cfg0.N) (h : t.val = 15) (l : Fin 2048) :
    (outsAt0 m c t.val t.isLt).2.2.2 (ix2 0 l) = dg (m (c.tc.loc main_arg0)) (m (c.tc.loc main_arg1)) (m (c.tc.loc main_arg2)) l :=
  (dg_sum m c l 15 t h).trans (Sums.blocks 16 256 rfl (term (m (c.tc.loc main_arg0)) (m (c.tc.loc main_arg1)) (m (c.tc.loc main_arg2)) l))

theorem final6 (c : Dev nD) : (dats m 0 c).arrAt 6 cfg0.N = fun i => dg (m (c.tc.loc main_arg0)) (m (c.tc.loc main_arg1)) (m (c.tc.loc main_arg2)) (i 1) := by
  refine (dats m 0 c).arrAt_eq_of_covers 6 _ (by decide +kernel) fun t hf y => ?_
  have hN : t.val < 16 := lt_of_lt_of_eq t.isLt N_0
  have h1 : t.val % 16 = 15 := (flush0_6 t).mp hf
  blk_simp
  rw [after0_6]
  idx_vars y
  refine (congrArg _ (congrArg₂ ix2 (Fin.ext (by omega)) rfl)).trans ((dg_total m c t (by omega) y1).trans (congrArg _ (Fin.ext ?_))) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => dh (m (c.tc.loc main_arg0)) (m (c.tc.loc main_arg1)) (m (c.tc.loc main_arg2)) (i 0) (i 1))
      ∧ r.2.mem (c.tc.loc main_v0_1) = (fun i => dh (m (c.tc.loc main_arg0)) (m (c.tc.loc main_arg1)) (m (c.tc.loc main_arg2)) (i 0) (i 1))
      ∧ r.2.mem (c.tc.loc main_v0_2) = (fun _ => loss (m (c.tc.loc main_arg0)) (m (c.tc.loc main_arg1)) (m (c.tc.loc main_arg2)))
      ∧ r.2.mem (c.tc.loc main_v0_3) = (fun i => dg (m (c.tc.loc main_arg0)) (m (c.tc.loc main_arg1)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final3 m c), (h c).2.1.trans (final4 m c), (h c).2.2.1.trans (final5 m c), (h c).2.2.2.1.trans (final6 m c), (h c).2.2.2.2⟩)
    (Cert.LossHeadIdeal.Value.run_blocks (F := Ideal) m ρ)

end kernel

/-! ## The reference -/

section reference
open Cert.LossHeadRefIdeal Cert.LossHeadRefIdeal.Gen

variable (m : (ℓ : Loc nD τ sig) → Buf (Elt Ideal) ℓ) (ρ : Dev nD → PrngReg)

/-- The reference's mean of squares of every row, plus the small number. -/
def refDen (A0 : FVec Ideal S4096x2048 .f32) : FVec Ideal S4096x1 .f32 :=
  addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))

/-- The reference's errors. -/
def refErr (A0 : FVec Ideal S4096x2048 .f32) (A1 : FVec Ideal S4096x2048 .f32) (A2 : FVec Ideal S1x2048 .f32) : FVec Ideal S4096x2048 .f32 :=
  subf (mulf (mulf A0 (broadcastInDim S4096x2048 ![0, 1] bcast_S4096x1_S4096x2048_0_1 (Host.rsqrt (refDen A0)))) (broadcastInDim S4096x2048 ![0, 1] bcast_S1x2048_S4096x2048_0_1 (broadcastInDim S1x2048 ![1] bcast_S2048_S1x2048_1 (shapeCast S2048 A2 shapeCasts_S1x2048_S2048)))) A1

/-- The reference's cotangent of the normalised rows, before the weight. -/
def refCt (A0 : FVec Ideal S4096x2048 .f32) (A1 : FVec Ideal S4096x2048 .f32) (A2 : FVec Ideal S1x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (refErr A0 A1 A2))

/-- The reference's factor of every row in its gradient. -/
def refCorr (A0 : FVec Ideal S4096x2048 .f32) (A1 : FVec Ideal S4096x2048 .f32) (A2 : FVec Ideal S1x2048 .f32) : FVec Ideal S4096 .f32 :=
  Host.reduceAdd (Host.divf (mulf (shapeCast S4096x1 (Host.reduceAdd (mulf A0 (mulf (refCt A0 A1 A2) (broadcastInDim S4096x2048 ![0, 1] bcast_S1x2048_S4096x2048_0_1 (broadcastInDim S1x2048 ![1] bcast_S2048_S1x2048_1 (shapeCast S2048 A2 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (refDen A0)) (refDen A0)))) (broadcastInDim S4096x1 ![] bcast_S_S4096x1 (constant S_ .f32 0x45000000#32))) (constant S_ .f32 0x00000000#32) reducesTo_S4096x1_S4096_d1 h_S_

/-- The reference's gradient of the weight, before its shape is restored. -/
def refSum (A0 : FVec Ideal S4096x2048 .f32) (A1 : FVec Ideal S4096x2048 .f32) (A2 : FVec Ideal S1x2048 .f32) : FVec Ideal S2048 .f32 :=
  Host.reduceAdd (mulf (mulf A0 (broadcastInDim S4096x2048 ![0, 1] bcast_S4096x1_S4096x2048_0_1 (Host.rsqrt (refDen A0)))) (refCt A0 A1 A2)) (constant S_ .f32 0x00000000#32) reducesTo_S4096x2048_S2048_d0 h_S_

/-- The reference's sum of squared errors of every row. -/
def refSquares (A0 : FVec Ideal S4096x2048 .f32) (A1 : FVec Ideal S4096x2048 .f32) (A2 : FVec Ideal S1x2048 .f32) : FVec Ideal S4096 .f32 :=
  Host.reduceAdd (mulf (refErr A0 A1 A2) (refErr A0 A1 A2)) (constant S_ .f32 0x00000000#32) reducesTo_S4096x2048_S4096_d1 h_S_

theorem refDen_apply (A0 : FVec Ideal S4096x2048 .f32) (r : Fin 4096) :
    refDen A0 (ix2 r 0) = Rms.den (fun k => A0 (ix2 r k)) := by
  pointwise [refDen]
  rfl

theorem refErr_apply (A0 A1 : FVec Ideal S4096x2048 .f32) (A2 : FVec Ideal S1x2048 .f32) (r : Fin 4096) (l : Fin 2048) :
    refErr A0 A1 A2 (ix2 r l) = err A0 A1 A2 r l := by
  unfold refErr err Rms.unit
  rw [← refDen_apply A0 r]
  generalize refDen A0 = d
  pointwise

theorem refCt_apply (A0 A1 : FVec Ideal S4096x2048 .f32) (A2 : FVec Ideal S1x2048 .f32) (r : Fin 4096) (l : Fin 2048) :
    refCt A0 A1 A2 (ix2 r l) = ct A0 A1 A2 r l := by
  unfold refCt ct
  rw [← refErr_apply A0 A1 A2 r l]
  generalize refErr A0 A1 A2 = e
  pointwise
  rw [Words.half_width, Words.two_mul, mul_comm (e (ix2 r l)), ← Words.two_mul, ← Words.two_mul, mul_left_comm]

theorem refCorr_apply (A0 A1 : FVec Ideal S4096x2048 .f32) (A2 : FVec Ideal S1x2048 .f32) (r : Fin 4096) :
    refCorr A0 A1 A2 (ix1 r) = Rms.corr (fun k => A0 (ix2 r k)) (fun k => ct A0 A1 A2 r k * A2 (ix2 0 k)) := by
  unfold refCorr Rms.corr
  rw [← refDen_apply A0 r]
  simp only [← refCt_apply]
  generalize refDen A0 = d
  generalize refCt A0 A1 A2 = e
  pointwise
  simp only [Fin.sum_univ_one]

theorem refSum_apply (A0 A1 : FVec Ideal S4096x2048 .f32) (A2 : FVec Ideal S1x2048 .f32) (l : Fin 2048) :
    refSum A0 A1 A2 (ix1 l) = dg A0 A1 A2 l := by
  have h : ∀ r, term A0 A1 A2 l r = A0 (ix2 r l) * Ideal.rsqrt (refDen A0 (ix2 r 0)) * refCt A0 A1 A2 (ix2 r l) := fun r => by
    rw [refDen_apply, refCt_apply]; rfl
  unfold refSum dg
  rw [Finset.sum_congr rfl fun r _ => h r]
  generalize refDen A0 = d
  generalize refCt A0 A1 A2 = e
  pointwise

theorem refSquares_apply (A0 A1 : FVec Ideal S4096x2048 .f32) (A2 : FVec Ideal S1x2048 .f32) (r : Fin 4096) :
    refSquares A0 A1 A2 (ix1 r) = squares A0 A1 A2 r := by
  unfold refSquares squares
  simp only [← refErr_apply]
  generalize refErr A0 A1 A2 = e
  pointwise

theorem ref_dh (A0 A1 : FVec Ideal S4096x2048 .f32) (A2 : FVec Ideal S1x2048 .f32) (r : Fin 4096) (l : Fin 2048) :
    ((addf (addf (mulf (mulf (refCt A0 A1 A2) (broadcastInDim S4096x2048 ![0, 1] bcast_S1x2048_S4096x2048_0_1 (broadcastInDim S1x2048 ![1] bcast_S2048_S1x2048_1 (shapeCast S2048 A2 shapeCasts_S1x2048_S2048)))) (broadcastInDim S4096x2048 ![0, 1] bcast_S4096x1_S4096x2048_0_1 (Host.rsqrt (refDen A0)))) (mulf A0 (broadcastInDim S4096x2048 ![0] bcast_S4096_S4096x2048_0 (refCorr A0 A1 A2)))) (mulf (broadcastInDim S4096x2048 ![0] bcast_S4096_S4096x2048_0 (refCorr A0 A1 A2)) A0)) : FVec Ideal S4096x2048 .f32) (ix2 r l) = dh A0 A1 A2 r l := by
  unfold dh Rms.back
  rw [← refDen_apply A0 r, ← refCorr_apply A0 A1 A2 r]
  beta_reduce
  rw [← refCt_apply A0 A1 A2 r l]
  generalize refDen A0 = d
  generalize refCorr A0 A1 A2 = e
  generalize refCt A0 A1 A2 = u
  pointwise

theorem ref_loss (A0 A1 : FVec Ideal S4096x2048 .f32) (A2 : FVec Ideal S1x2048 .f32) (l : Fin 128) :
    ((broadcastInDim S1x128 ![] bcast_S_S1x128 (mulf (constant S_ .f32 0x3F000000#32) (Host.reduceAdd (Host.divf (refSquares A0 A1 A2) (broadcastInDim S4096 ![] bcast_S_S4096 (constant S_ .f32 0x45000000#32))) (constant S_ .f32 0x00000000#32) reducesTo_S4096_S_d0 h_S_))) : FVec Ideal S1x128 .f32) (ix2 0 l) = loss A0 A1 A2 := by
  have h : ∀ r, Ideal.ofBits .f32 0x39800000#32 * squares A0 A1 A2 r = Ideal.ofBits .f32 0x3F000000#32 * Ideal.div (refSquares A0 A1 A2 (ix1 r)) (Ideal.ofBits .f32 0x45000000#32) := fun r => by
    rw [refSquares_apply, Words.half_mean]
  have hd : ∀ r : Fin 4096, 0 ≤ Ideal.div (refSquares A0 A1 A2 (ix1 r)) (Ideal.ofBits .f32 0x45000000#32) := fun r => by
    rw [refSquares_apply, Words.width, Ideal.div_coe (by norm_num)]
    exact EReal.mul_nonneg (squares_nonneg _ _ _ _) (EReal.coe_nonneg.mpr (by norm_num))
  unfold loss
  rw [Finset.sum_congr rfl fun r _ => h r, ← Words.mul_sum _ _ _ hd]
  clear h hd
  generalize refSquares A0 A1 A2 = e
  pointwise

theorem ref_dg (A0 A1 : FVec Ideal S4096x2048 .f32) (A2 : FVec Ideal S1x2048 .f32) (l : Fin 2048) :
    ((broadcastInDim S1x2048 ![1] bcast_S2048_S1x2048_1 (Host.reduceAdd (shapeCast S1x2048 (refSum A0 A1 A2) shapeCasts_S2048_S1x2048) (constant S_ .f32 0x00000000#32) reducesTo_S1x2048_S2048_d0 h_S_)) : FVec Ideal S1x2048 .f32) (ix2 0 l) = dg A0 A1 A2 l := by
  rw [← refSum_apply A0 A1 A2 l]
  generalize refSum A0 A1 A2 = e
  pointwise
  simp only [Fin.sum_univ_one]

/-- The reference's run: the same results. -/
theorem ref_run : θ_run defs (onTc (τ := τ) (main (F := Ideal))) ⟨m, fun _ => 0, ρ⟩ fun r => ∀ c : Dev nD,
      r.2.mem (c.tc.loc main_v51) = (fun i => dh (m (c.tc.loc main_arg0)) (m (c.tc.loc main_arg1)) (m (c.tc.loc main_arg2)) (i 0) (i 1))
      ∧ r.2.mem (c.tc.loc main_v53) = (fun i => dh (m (c.tc.loc main_arg0)) (m (c.tc.loc main_arg1)) (m (c.tc.loc main_arg2)) (i 0) (i 1))
      ∧ r.2.mem (c.tc.loc main_v54) = (fun _ => loss (m (c.tc.loc main_arg0)) (m (c.tc.loc main_arg1)) (m (c.tc.loc main_arg2)))
      ∧ r.2.mem (c.tc.loc main_v52) = (fun i => dg (m (c.tc.loc main_arg0)) (m (c.tc.loc main_arg1)) (m (c.tc.loc main_arg2)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2.1.trans ?_, (h c).2.2.1.trans ?_, (h c).2.2.2.1.trans ?_, (h c).2.2.2.2⟩)
    (Cert.LossHeadRefIdeal.Value.run (F := Ideal) m ρ)
  · clear h; funext i; idx_vars i; exact ref_dh (m (c.tc.loc main_arg0)) (m (c.tc.loc main_arg1)) (m (c.tc.loc main_arg2)) i0 i1
  · clear h; funext i; idx_vars i; exact ref_dh (m (c.tc.loc main_arg0)) (m (c.tc.loc main_arg1)) (m (c.tc.loc main_arg2)) i0 i1
  · clear h; funext i; idx_vars i; exact (congrArg _ (congrArg₂ ix2 (Fin.ext (by omega)) rfl)).trans (ref_loss (m (c.tc.loc main_arg0)) (m (c.tc.loc main_arg1)) (m (c.tc.loc main_arg2)) i1)
  · clear h; funext i; idx_vars i; exact (congrArg _ (congrArg₂ ix2 (Fin.ext (by omega)) rfl)).trans (ref_dg (m (c.tc.loc main_arg0)) (m (c.tc.loc main_arg1)) (m (c.tc.loc main_arg2)) i1)

end reference

/-! ## The claims -/

/-- The reference runs to its end and keeps its arguments. -/
theorem frame_ref : Cert.quiescent_LossHeadRefIdeal := fun m ρ _ =>
  (θ_run Cert.LossHeadRefIdeal.defs _ _).mono (fun r h => ⟨fun c => (h c).2.2.2.2,
      Idealize.ShloMosaic.sem_eq_zero_of_no_sems (by decide) r.2⟩)
    (Cert.LossHeadRefIdeal.Value.run (F := Ideal) m ρ)

/-- Kernel and reference end with equal results. -/
theorem algebraic : Cert.algebraic_LossHeadIdeal_LossHeadRefIdeal := by
  intro m g m' g' _ hargs
  refine ⟨_, _, _, _, kernel_run m g, ?_⟩
  refine (θ_run _ _ _).mono (fun r h c => ?_) (ref_run m' g')
  obtain ⟨a0, a1, a2⟩ := hargs c
  obtain ⟨h0, h1, h2, h3, hk⟩ := h c
  rw [a0, a1, a2] at h0
  rw [a0, a1, a2] at h1
  rw [a0, a1, a2] at h2
  rw [a0, a1, a2] at h3
  exact ⟨h0, h1, h2, h3, hk⟩

end Cert.LossHeadProof

end
-- ==== Proof.MixGrad.lean ====
/-
The gradient in the mixed activations: the cotangent times the transposed weights of the output projection.
-/
module

public import proofs.«01_k».proof.Proof.Gen.MixGradIdeal.Value
public import proofs.«01_k».proof.Proof.Gen.MixGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.MixGradProof

/-- The result at row `r` and column `l`, from the arguments. -/
def val (A0 : (⟨2, ![4096, 2048]⟩ : Shape).Idx → EReal) (A1 : (⟨2, ![4096, 2048]⟩ : Shape).Idx → EReal)
    (r : Fin 4096) (l : Fin 4096) : EReal :=
  (∑ k : Fin 2048, A0 (ix2 r k) * A1 (ix2 l k))

section kernel
open Cert.MixGradIdeal Cert.MixGradIdeal.Gen

variable (m : (ℓ : Loc nD τ sig) → Buf (Elt Ideal) ℓ) (ρ : Dev nD → PrngReg)

/-! ## What one block step computes -/

theorem pay_apply (x0 : Vec Ideal S1024x2048 .bf16) (x1 : Vec Ideal S1024x2048 .bf16) (r : Fin 1024) (l : Fin 1024) :
    k0_pay1 x0 x1 (ix2 r l) = ∑ k : Fin 2048, x0 (ix2 r k) * x1 (ix2 l k) := by
  pointwise [k0_pay1]

/-! ## The blocks of each grid point -/

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 4 * 1024 + r.val, by have := lt_of_lt_of_eq t.isLt N_0; omega⟩ k) := by
  blk_ext [iblk, V, idx t]

/-- The weights as the call reads them. -/
theorem weights (c : Dev nD) (k : Fin 2048) (l : Fin 4096) :
    V m c main_v0 (ix2 l k) = m (c.tc.loc main_arg1) (ix2 l k) := by
  unfold V; after_results; pointwise

theorem blk1 (c : Dev nD) (t : Fin cfg0.N) (k : Fin 2048) (l : Fin 1024) :
    iblk m c 1 t (ix2 l k) = m (c.tc.loc main_arg1) (ix2 ⟨t.val % 4 * 1024 + l.val, by have := lt_of_lt_of_eq t.isLt N_0; omega⟩ k) := by
  refine Eq.trans ?_ (weights m c k ⟨t.val % 4 * 1024 + l.val, by have := lt_of_lt_of_eq t.isLt N_0; omega⟩)
  blk_ext [iblk, idx t]

/-! ## The result -/

theorem point (c : Dev nD) (t : Fin cfg0.N) (r : Fin 1024) (l : Fin 1024) :
    k0_pay1 (F := Ideal) (iblk m c 0 t) (iblk m c 1 t) (ix2 r l) = val (m (c.tc.loc main_arg0)) (m (c.tc.loc main_arg1)) ⟨t.val / 4 * 1024 + r.val, by have := lt_of_lt_of_eq t.isLt N_0; omega⟩ ⟨t.val % 4 * 1024 + l.val, by have := lt_of_lt_of_eq t.isLt N_0; omega⟩ := by
  rw [pay_apply]
  exact Finset.sum_congr rfl fun k _ => congrArg₂ (· * ·) (blk0 m c t k r) (blk1 m c t k l)

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 16 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.MixGradIdeal.Value.run_blocks (F := Ideal) m ρ)

end kernel

/-! ## The reference -/

section reference
open Cert.MixGradRefIdeal Cert.MixGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v4)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.MixGradRefIdeal.Value.run (F := Ideal) m ρ)
  clear h; funext i; idx_vars i; clean_types; pointwise
  rfl

end reference

/-! ## The claims -/

/-- The reference runs to its end and keeps its arguments. -/
theorem frame_ref : Cert.quiescent_MixGradRefIdeal := fun m ρ _ =>
  (θ_run Cert.MixGradRefIdeal.defs _ _).mono (fun r h => ⟨fun c => (h c).2,
      Idealize.ShloMosaic.sem_eq_zero_of_no_sems (by decide) r.2⟩)
    (Cert.MixGradRefIdeal.Value.run (F := Ideal) m ρ)

/-- Kernel and reference end with equal results. -/
theorem algebraic : Cert.algebraic_MixGradIdeal_MixGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.MixGradProof

end
-- ==== Proof.NormFfn.lean ====
/-
The root-mean-square normalisation before the feed-forward part: every row over its root mean square, times the weight.
-/
module

public import proofs.«01_k».proof.Proof.Gen.NormFfnIdeal.Value
public import proofs.«01_k».proof.Proof.Gen.NormFfnRefIdeal.Run
public import proofs.«01_k».proof.Proof.Rms
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.NormFfnProof

/-- The normalised row `r`, at column `l`. -/
def val (A0 : (⟨2, ![4096, 2048]⟩ : Shape).Idx → EReal) (A1 : (⟨2, ![1, 2048]⟩ : Shape).Idx → EReal) (r : Fin 4096) (l : Fin 2048) : EReal :=
  Rms.unit (fun k => A0 (ix2 r k)) l * A1 (ix2 0 l)

section kernel
open Cert.NormFfnIdeal Cert.NormFfnIdeal.Gen

variable (m : (ℓ : Loc nD τ sig) → Buf (Elt Ideal) ℓ) (ρ : Dev nD → PrngReg)

theorem val_apply (x : Vec Ideal S512x2048 .f32) (g : Vec Ideal S1x2048 .f32) (r : Fin 512) (l : Fin 2048) :
    k0_pay1 x g (ix2 r l) = Rms.unit (fun k => x (ix2 r k)) l * g (ix2 0 l) := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

theorem blk0 (c : Dev nD) (t : Fin cfg0.N) (r : Fin 512) (l : Fin 2048) :
    iblk m c 0 t (ix2 r l) = m (c.tc.loc main_arg0) (ix2 ⟨t.val * 512 + r.val, by have := lt_of_lt_of_eq t.isLt N_0; omega⟩ l) := by
  blk_ext [iblk, V, idx t]

theorem blk1 (c : Dev nD) (t : Fin cfg0.N) (l : Fin 2048) :
    iblk m c 1 t (ix2 0 l) = m (c.tc.loc main_arg1) (ix2 0 l) := by
  blk_ext [iblk, V, idx t]

theorem point (c : Dev nD) (t : Fin cfg0.N) (r : Fin 512) (l : Fin 2048) :
    k0_pay1 (F := Ideal) (iblk m c 0 t) (iblk m c 1 t) (ix2 r l) = val (m (c.tc.loc main_arg0)) (m (c.tc.loc main_arg1)) ⟨t.val * 512 + r.val, by have := lt_of_lt_of_eq t.isLt N_0; omega⟩ l := by
  refine (val_apply _ _ _ _).trans ?_
  exact congrArg₂ (fun (a : Fin 2048 → EReal) (b : EReal) => Rms.unit a l * b) (funext fun j => blk0 m c t r j) (blk1 m c t l)

theorem final2 (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 8 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0) = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final2 m c), (h c).2⟩)
    (Cert.NormFfnIdeal.Value.run_blocks (F := Ideal) m ρ)

end kernel

/-! ## The reference -/

section reference
open Cert.NormFfnRefIdeal Cert.NormFfnRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v14) = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.NormFfnRefIdeal.Value.run (F := Ideal) m ρ)
  · clear h; funext i; idx_vars i; clean_types; pointwise
    rfl

end reference

/-! ## The claims -/

/-- The reference runs to its end and keeps its arguments. -/
theorem frame_ref : Cert.quiescent_NormFfnRefIdeal := fun m ρ _ =>
  (θ_run Cert.NormFfnRefIdeal.defs _ _).mono (fun r h => ⟨fun c => (h c).2,
      Idealize.ShloMosaic.sem_eq_zero_of_no_sems (by decide) r.2⟩)
    (Cert.NormFfnRefIdeal.Value.run (F := Ideal) m ρ)

/-- Kernel and reference end with equal results. -/
theorem algebraic : Cert.algebraic_NormFfnIdeal_NormFfnRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.NormFfnProof

end
-- ==== Proof.NormFfnGrad.lean ====
/-
The gradient of the root-mean-square normalisation before the feed-forward part, with the residual's cotangent
added: the gradient of every row, and the weight's gradient, which the kernel adds up over sixteen blocks of rows.
-/
module

public import proofs.«01_k».proof.Proof.Gen.NormFfnGradIdeal.Value
public import proofs.«01_k».proof.Proof.Gen.NormFfnGradRefIdeal.Run
public import proofs.«01_k».proof.Proof.Rms
public import proofs.«01_k».proof.Proof.Sums
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.NormFfnGradProof

/-- The gradient of the row `r` at column `l`. -/
def dx (A0 A1 A2 : (⟨2, ![4096, 2048]⟩ : Shape).Idx → EReal) (A3 : (⟨2, ![1, 2048]⟩ : Shape).Idx → EReal) (r : Fin 4096) (l : Fin 2048) : EReal :=
  Rms.back (fun k => A0 (ix2 r k)) (fun k => A1 (ix2 r k) * A3 (ix2 0 k)) l + A2 (ix2 r l)

/-- What the row `r` adds to the weight's gradient at column `l`. -/
def term (A0 A1 : (⟨2, ![4096, 2048]⟩ : Shape).Idx → EReal) (l : Fin 2048) (r : Fin 4096) : EReal :=
  Rms.unit (fun k => A0 (ix2 r k)) l * A1 (ix2 r l)

/-- The weight's gradient at column `l`. -/
def dg (A0 A1 : (⟨2, ![4096, 2048]⟩ : Shape).Idx → EReal) (l : Fin 2048) : EReal := ∑ r, term A0 A1 l r

/-- What the `s`-th block of 256 rows adds to the weight's gradient. -/
def part (A0 A1 : (⟨2, ![4096, 2048]⟩ : Shape).Idx → EReal) (l : Fin 2048) (s : ℕ) : EReal :=
  ∑ k : Fin 256, if h : s * 256 + k.val < 4096 then term A0 A1 l ⟨s * 256 + k.val, h⟩ else 0

section kernel
open Cert.NormFfnGradIdeal Cert.NormFfnGradIdeal.Gen

variable (m : (ℓ : Loc nD τ sig) → Buf (Elt Ideal) ℓ) (ρ : Dev nD → PrngReg)

/-! ## What one grid step computes -/

theorem dx_apply (x0 x1 x2 : Vec Ideal S256x2048 .f32) (g : Vec Ideal S1x2048 .f32) (r : Fin 256) (l : Fin 2048) :
    k0_pay6 x0 x1 x2 g (ix2 r l)
      = Rms.back (fun k => x0 (ix2 r k)) (fun k => x1 (ix2 r k) * g (ix2 0 k)) l + x2 (ix2 r l) := by
  pointwise [k0_pay6, k0_pay4, k0_pay3]
  simp only [Fin.sum_univ_one]
  rfl

theorem dg_apply (x0 x1 : Vec Ideal S256x2048 .f32) (g : Vec Ideal S1x2048 .f32) (l : Fin 2048) :
    k0_pay2 (k0_pay5 x0 x1) g (ix2 0 l)
      = g (ix2 0 l) + ∑ k, Rms.unit (fun j => x0 (ix2 k j)) l * x1 (ix2 k l) := by
  pointwise [k0_pay2, k0_pay5, k0_pay4, k0_pay3]
  rfl

theorem zero_apply (l : Fin 2048) : k0_pay1 (F := Ideal) (ix2 0 l) = 0 := by
  pointwise [k0_pay1]

/-! ## The blocks of each grid point -/

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem blk0 (c : Dev nD) (t : Fin cfg0.N) (r : Fin 256) (l : Fin 2048) :
    iblk m c 0 t (ix2 r l) = m (c.tc.loc main_arg0) (ix2 ⟨t.val * 256 + r.val, by have := lt_of_lt_of_eq t.isLt N_0; omega⟩ l) := by
  blk_ext [iblk, V, idx t]

theorem blk1 (c : Dev nD) (t : Fin cfg0.N) (r : Fin 256) (l : Fin 2048) :
    iblk m c 1 t (ix2 r l) = m (c.tc.loc main_arg1) (ix2 ⟨t.val * 256 + r.val, by have := lt_of_lt_of_eq t.isLt N_0; omega⟩ l) := by
  blk_ext [iblk, V, idx t]

theorem blk2 (c : Dev nD) (t : Fin cfg0.N) (r : Fin 256) (l : Fin 2048) :
    iblk m c 2 t (ix2 r l) = m (c.tc.loc main_arg2) (ix2 ⟨t.val * 256 + r.val, by have := lt_of_lt_of_eq t.isLt N_0; omega⟩ l) := by
  blk_ext [iblk, V, idx t]

theorem blk3 (c : Dev nD) (t : Fin cfg0.N) (l : Fin 2048) :
    iblk m c 3 t (ix2 0 l) = m (c.tc.loc main_arg3) (ix2 0 l) := by
  blk_ext [iblk, V, idx t]

/-! ## The results -/

theorem part_eq (c : Dev nD) (t : Fin cfg0.N) (l : Fin 2048) :
    (∑ k, Rms.unit (fun j => iblk m c 0 t (ix2 k j)) l * iblk m c 1 t (ix2 k l)) = part (m (c.tc.loc main_arg0)) (m (c.tc.loc main_arg1)) l t.val := by
  have hN : t.val < 16 := lt_of_lt_of_eq t.isLt N_0
  unfold part
  refine Finset.sum_congr rfl fun k _ => ?_
  rw [dif_pos (show t.val * 256 + k.val < 4096 by omega)]
  exact congrArg₂ (fun (a : Fin 2048 → EReal) (b : EReal) => Rms.unit a l * b) (funext fun j => blk0 m c t k j) (blk1 m c t k l)

theorem sum_apply (c : Dev nD) (l : Fin 2048) : ∀ (n : ℕ) (t : Fin cfg0.N), t.val = n →
    (outsAt0 m c t.val t.isLt).2.2 (ix2 0 l) = ∑ s ∈ Finset.range (n + 1), part (m (c.tc.loc main_arg0)) (m (c.tc.loc main_arg1)) l s
  | 0, t, h => by
    rw [outsAt0_A m c t (by omega)]
    dsimp only
    frame_out
    refine (dg_apply _ _ _ _).trans ?_
    rw [zero_apply, zero_add, Finset.sum_range_one]
    exact (part_eq m c t l).trans (by rw [h])
  | n + 1, t, h => by
    have hN : t.val < 16 := lt_of_lt_of_eq t.isLt N_0
    have hp : t.val - 1 < cfg0.N := lt_of_le_of_lt (Nat.sub_le _ _) t.isLt
    rw [outsAt0_B m c t (by omega)]
    dsimp only
    frame_out
    refine (dg_apply _ _ _ _).trans ?_
    rw [Finset.sum_range_succ]
    refine congrArg₂ (· + ·) ((sum_apply c l n ⟨t.val - 1, hp⟩ (by dsimp only; omega))) ((part_eq m c t l).trans ?_)
    rw [h]

theorem point (c : Dev nD) (t : Fin cfg0.N) (r : Fin 256) (l : Fin 2048) :
    k0_pay6 (F := Ideal) (iblk m c 0 t) (iblk m c 1 t) (iblk m c 2 t) (iblk m c 3 t) (ix2 r l) = dx (m (c.tc.loc main_arg0)) (m (c.tc.loc main_arg1)) (m (c.tc.loc main_arg2)) (m (c.tc.loc main_arg3)) ⟨t.val * 256 + r.val, by have := lt_of_lt_of_eq t.isLt N_0; omega⟩ l := by
  refine (dx_apply _ _ _ _ _ _).trans ?_
  refine congrArg₂ (· + ·) ?_ (blk2 m c t r l)
  exact congrArg₂ (fun a b => Rms.back a b l) (funext fun k => blk0 m c t r k)
    (funext fun k => congrArg₂ (· * ·) (blk1 m c t r k) (blk3 m c t k))

theorem out4 (c : Dev nD) (t : Fin cfg0.N) (r : Fin 256) (l : Fin 2048) :
    (outsAt0 m c t.val t.isLt).1 (ix2 r l) = dx (m (c.tc.loc main_arg0)) (m (c.tc.loc main_arg1)) (m (c.tc.loc main_arg2)) (m (c.tc.loc main_arg3)) ⟨t.val * 256 + r.val, by have := lt_of_lt_of_eq t.isLt N_0; omega⟩ l := by
  by_cases h : t.val % 16 = 0
  · rw [outsAt0_A m c t h]
    dsimp only
    frame_out
    exact point m c t r l
  · rw [outsAt0_B m c t h]
    dsimp only
    frame_out
    exact point m c t r l

theorem final4 (c : Dev nD) : (dats m 0 c).arrAt 4 cfg0.N = fun i => dx (m (c.tc.loc main_arg0)) (m (c.tc.loc main_arg1)) (m (c.tc.loc main_arg2)) (m (c.tc.loc main_arg3)) (i 0) (i 1) := by
  refine (dats m 0 c).arrAt_eq_of_covers 4 _ (by decide +kernel) fun t hf y => ?_
  have hN : t.val < 16 := lt_of_lt_of_eq t.isLt N_0
  blk_simp
  rw [after0_4]
  idx_vars y
  refine (out4 m c t y0 y1).trans (congrArg₂ _ (Fin.ext ?_) (Fin.ext ?_)) <;> blk_simp [idx t]

theorem out5 (c : Dev nD) (t : Fin cfg0.N) (r : Fin 256) (l : Fin 2048) :
    (outsAt0 m c t.val t.isLt).2.1 (ix2 r l) = dx (m (c.tc.loc main_arg0)) (m (c.tc.loc main_arg1)) (m (c.tc.loc main_arg2)) (m (c.tc.loc main_arg3)) ⟨t.val * 256 + r.val, by have := lt_of_lt_of_eq t.isLt N_0; omega⟩ l := by
  by_cases h : t.val % 16 = 0
  · rw [outsAt0_A m c t h]
    dsimp only
    frame_out
    exact point m c t r l
  · rw [outsAt0_B m c t h]
    dsimp only
    frame_out
    exact point m c t r l

theorem final5 (c : Dev nD) : (dats m 0 c).arrAt 5 cfg0.N = fun i => dx (m (c.tc.loc main_arg0)) (m (c.tc.loc main_arg1)) (m (c.tc.loc main_arg2)) (m (c.tc.loc main_arg3)) (i 0) (i 1) := by
  refine (dats m 0 c).arrAt_eq_of_covers 5 _ (by decide +kernel) fun t hf y => ?_
  have hN : t.val < 16 := lt_of_lt_of_eq t.isLt N_0
  blk_simp
  rw [after0_5]
  idx_vars y
  refine (out5 m c t y0 y1).trans (congrArg₂ _ (Fin.ext ?_) (Fin.ext ?_)) <;> blk_simp [idx t]

theorem total (c : Dev nD) (t : Fin cfg0.N) (h : t.val = 15) (l : Fin 2048) :
    (outsAt0 m c t.val t.isLt).2.2 (ix2 0 l) = dg (m (c.tc.loc main_arg0)) (m (c.tc.loc main_arg1)) l :=
  (sum_apply m c l 15 t h).trans (Sums.blocks 16 256 rfl _)

theorem final6 (c : Dev nD) : (dats m 0 c).arrAt 6 cfg0.N = fun i => dg (m (c.tc.loc main_arg0)) (m (c.tc.loc main_arg1)) (i 1) := by
  refine (dats m 0 c).arrAt_eq_of_covers 6 _ (by decide +kernel) fun t hf y => ?_
  have hN : t.val < 16 := lt_of_lt_of_eq t.isLt N_0
  have h1 : t.val % 16 = 15 := (flush0_6 t).mp hf
  blk_simp
  rw [after0_6]
  idx_vars y
  refine (congrArg _ (congrArg₂ ix2 (Fin.ext (by omega)) rfl)).trans ((total m c t (by omega) y1).trans (congrArg _ (Fin.ext ?_))) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => dx (m (c.tc.loc main_arg0)) (m (c.tc.loc main_arg1)) (m (c.tc.loc main_arg2)) (m (c.tc.loc main_arg3)) (i 0) (i 1))
      ∧ r.2.mem (c.tc.loc main_v0_1) = (fun i => dx (m (c.tc.loc main_arg0)) (m (c.tc.loc main_arg1)) (m (c.tc.loc main_arg2)) (m (c.tc.loc main_arg3)) (i 0) (i 1))
      ∧ r.2.mem (c.tc.loc main_v0_2) = (fun i => dg (m (c.tc.loc main_arg0)) (m (c.tc.loc main_arg1)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c), (h c).2.2.1.trans (final6 m c), (h c).2.2.2⟩)
    (Cert.NormFfnGradIdeal.Value.run_blocks (F := Ideal) m ρ)

end kernel

/-! ## The reference -/

section reference
open Cert.NormFfnGradRefIdeal Cert.NormFfnGradRefIdeal.Gen

variable (m : (ℓ : Loc nD τ sig) → Buf (Elt Ideal) ℓ) (ρ : Dev nD → PrngReg)

/-- The reference's mean of squares of every row, plus the small number. -/
def refDen (A0 : FVec Ideal S4096x2048 .f32) : FVec Ideal S4096x1 .f32 :=
  addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))

/-- The reference's factor of every row in its gradient. -/
def refCorr (A0 : FVec Ideal S4096x2048 .f32) (A1 : FVec Ideal S4096x2048 .f32) (A3 : FVec Ideal S1x2048 .f32) : FVec Ideal S4096 .f32 :=
  Host.reduceAdd (Host.divf (mulf (shapeCast S4096x1 (Host.reduceAdd (mulf A0 (mulf A1 (broadcastInDim S4096x2048 ![0, 1] bcast_S1x2048_S4096x2048_0_1 (broadcastInDim S1x2048 ![1] bcast_S2048_S1x2048_1 (shapeCast S2048 A3 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (refDen A0)) (refDen A0)))) (broadcastInDim S4096x1 ![] bcast_S_S4096x1 (constant S_ .f32 0x45000000#32))) (constant S_ .f32 0x00000000#32) reducesTo_S4096x1_S4096_d1 h_S_

/-- The reference's gradient of the weight, before its shape is restored. -/
def refSum (A0 : FVec Ideal S4096x2048 .f32) (A1 : FVec Ideal S4096x2048 .f32) : FVec Ideal S2048 .f32 :=
  Host.reduceAdd (mulf (mulf A0 (broadcastInDim S4096x2048 ![0, 1] bcast_S4096x1_S4096x2048_0_1 (Host.rsqrt (refDen A0)))) A1) (constant S_ .f32 0x00000000#32) reducesTo_S4096x2048_S2048_d0 h_S_

theorem refDen_apply (A0 : FVec Ideal S4096x2048 .f32) (r : Fin 4096) :
    refDen A0 (ix2 r 0) = Rms.den (fun k => A0 (ix2 r k)) := by
  pointwise [refDen]
  rfl

theorem refCorr_apply (A0 A1 : FVec Ideal S4096x2048 .f32) (A3 : FVec Ideal S1x2048 .f32) (r : Fin 4096) :
    refCorr A0 A1 A3 (ix1 r) = Rms.corr (fun k => A0 (ix2 r k)) (fun k => A1 (ix2 r k) * A3 (ix2 0 k)) := by
  unfold refCorr Rms.corr
  rw [← refDen_apply A0 r]
  generalize refDen A0 = d
  pointwise
  simp only [Fin.sum_univ_one]

theorem refSum_apply (A0 A1 : FVec Ideal S4096x2048 .f32) (l : Fin 2048) : refSum A0 A1 (ix1 l) = dg A0 A1 l := by
  have h : ∀ r, term A0 A1 l r = A0 (ix2 r l) * Ideal.rsqrt (refDen A0 (ix2 r 0)) * A1 (ix2 r l) := fun r => by
    rw [refDen_apply]; rfl
  unfold refSum dg
  rw [Finset.sum_congr rfl fun r _ => h r]
  generalize refDen A0 = d
  pointwise

theorem ref_dx (A0 A1 A2 : FVec Ideal S4096x2048 .f32) (A3 : FVec Ideal S1x2048 .f32) (r : Fin 4096) (l : Fin 2048) :
    ((addf (addf (addf A2 (mulf (mulf A1 (broadcastInDim S4096x2048 ![0, 1] bcast_S1x2048_S4096x2048_0_1 (broadcastInDim S1x2048 ![1] bcast_S2048_S1x2048_1 (shapeCast S2048 A3 shapeCasts_S1x2048_S2048)))) (broadcastInDim S4096x2048 ![0, 1] bcast_S4096x1_S4096x2048_0_1 (Host.rsqrt (refDen A0))))) (mulf A0 (broadcastInDim S4096x2048 ![0] bcast_S4096_S4096x2048_0 (refCorr A0 A1 A3)))) (mulf (broadcastInDim S4096x2048 ![0] bcast_S4096_S4096x2048_0 (refCorr A0 A1 A3)) A0)) : FVec Ideal S4096x2048 .f32) (ix2 r l) = dx A0 A1 A2 A3 r l := by
  unfold dx Rms.back
  rw [← refDen_apply A0 r, ← refCorr_apply A0 A1 A3 r]
  generalize refDen A0 = d
  generalize refCorr A0 A1 A3 = e
  pointwise
  ac_rfl

theorem ref_dg (A0 A1 : FVec Ideal S4096x2048 .f32) (l : Fin 2048) :
    ((broadcastInDim S1x2048 ![1] bcast_S2048_S1x2048_1 (Host.reduceAdd (shapeCast S1x2048 (refSum A0 A1) shapeCasts_S2048_S1x2048) (constant S_ .f32 0x00000000#32) reducesTo_S1x2048_S2048_d0 h_S_)) : FVec Ideal S1x2048 .f32) (ix2 0 l) = dg A0 A1 l := by
  rw [← refSum_apply A0 A1 l]
  generalize refSum A0 A1 = e
  pointwise
  simp only [Fin.sum_univ_one]

/-- The reference's run: the same results. -/
theorem ref_run : θ_run defs (onTc (τ := τ) (main (F := Ideal))) ⟨m, fun _ => 0, ρ⟩ fun r => ∀ c : Dev nD,
      r.2.mem (c.tc.loc main_v37) = (fun i => dx (m (c.tc.loc main_arg0)) (m (c.tc.loc main_arg1)) (m (c.tc.loc main_arg2)) (m (c.tc.loc main_arg3)) (i 0) (i 1))
      ∧ r.2.mem (c.tc.loc main_v39) = (fun i => dx (m (c.tc.loc main_arg0)) (m (c.tc.loc main_arg1)) (m (c.tc.loc main_arg2)) (m (c.tc.loc main_arg3)) (i 0) (i 1))
      ∧ r.2.mem (c.tc.loc main_v38) = (fun i => dg (m (c.tc.loc main_arg0)) (m (c.tc.loc main_arg1)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2.1.trans ?_, (h c).2.2.2⟩)
    (Cert.NormFfnGradRefIdeal.Value.run (F := Ideal) m ρ)
  · clear h; funext i; idx_vars i; exact ref_dx (m (c.tc.loc main_arg0)) (m (c.tc.loc main_arg1)) (m (c.tc.loc main_arg2)) (m (c.tc.loc main_arg3)) i0 i1
  · clear h; funext i; idx_vars i; exact ref_dx (m (c.tc.loc main_arg0)) (m (c.tc.loc main_arg1)) (m (c.tc.loc main_arg2)) (m (c.tc.loc main_arg3)) i0 i1
  · clear h; funext i; idx_vars i; exact (congrArg _ (congrArg₂ ix2 (Fin.ext (by omega)) rfl)).trans (ref_dg (m (c.tc.loc main_arg0)) (m (c.tc.loc main_arg1)) i1)

end reference

/-! ## The claims -/

/-- The reference runs to its end and keeps its arguments. -/
theorem frame_ref : Cert.quiescent_NormFfnGradRefIdeal := fun m ρ _ =>
  (θ_run Cert.NormFfnGradRefIdeal.defs _ _).mono (fun r h => ⟨fun c => (h c).2.2.2,
      Idealize.ShloMosaic.sem_eq_zero_of_no_sems (by decide) r.2⟩)
    (Cert.NormFfnGradRefIdeal.Value.run (F := Ideal) m ρ)

/-- Kernel and reference end with equal results. -/
theorem algebraic : Cert.algebraic_NormFfnGradIdeal_NormFfnGradRefIdeal := by
  intro m g m' g' _ hargs
  refine ⟨_, _, _, kernel_run m g, ?_⟩
  refine (θ_run _ _ _).mono (fun r h c => ?_) (ref_run m' g')
  obtain ⟨a0, a1, a2, a3⟩ := hargs c
  obtain ⟨h0, h1, h2, hk⟩ := h c
  rw [a0, a1, a2, a3] at h0
  rw [a0, a1, a2, a3] at h1
  rw [a0, a1] at h2
  exact ⟨h0, h1, h2, hk⟩

end Cert.NormFfnGradProof

end
-- ==== Proof.NormMix.lean ====
/-
The root-mean-square normalisation before the state-space mixer: every row over its root mean square, times the weight.
-/
module

public import proofs.«01_k».proof.Proof.Gen.NormMixIdeal.Value
public import proofs.«01_k».proof.Proof.Gen.NormMixRefIdeal.Run
public import proofs.«01_k».proof.Proof.Rms
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.NormMixProof

/-- The normalised row `r`, at column `l`. -/
def val (A0 : (⟨2, ![4096, 2048]⟩ : Shape).Idx → EReal) (A1 : (⟨2, ![1, 2048]⟩ : Shape).Idx → EReal) (r : Fin 4096) (l : Fin 2048) : EReal :=
  Rms.unit (fun k => A0 (ix2 r k)) l * A1 (ix2 0 l)

section kernel
open Cert.NormMixIdeal Cert.NormMixIdeal.Gen

variable (m : (ℓ : Loc nD τ sig) → Buf (Elt Ideal) ℓ) (ρ : Dev nD → PrngReg)

theorem val_apply (x : Vec Ideal S512x2048 .f32) (g : Vec Ideal S1x2048 .f32) (r : Fin 512) (l : Fin 2048) :
    k0_pay1 x g (ix2 r l) = Rms.unit (fun k => x (ix2 r k)) l * g (ix2 0 l) := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

theorem blk0 (c : Dev nD) (t : Fin cfg0.N) (r : Fin 512) (l : Fin 2048) :
    iblk m c 0 t (ix2 r l) = m (c.tc.loc main_arg0) (ix2 ⟨t.val * 512 + r.val, by have := lt_of_lt_of_eq t.isLt N_0; omega⟩ l) := by
  blk_ext [iblk, V, idx t]

theorem blk1 (c : Dev nD) (t : Fin cfg0.N) (l : Fin 2048) :
    iblk m c 1 t (ix2 0 l) = m (c.tc.loc main_arg1) (ix2 0 l) := by
  blk_ext [iblk, V, idx t]

theorem point (c : Dev nD) (t : Fin cfg0.N) (r : Fin 512) (l : Fin 2048) :
    k0_pay1 (F := Ideal) (iblk m c 0 t) (iblk m c 1 t) (ix2 r l) = val (m (c.tc.loc main_arg0)) (m (c.tc.loc main_arg1)) ⟨t.val * 512 + r.val, by have := lt_of_lt_of_eq t.isLt N_0; omega⟩ l := by
  refine (val_apply _ _ _ _).trans ?_
  exact congrArg₂ (fun (a : Fin 2048 → EReal) (b : EReal) => Rms.unit a l * b) (funext fun j => blk0 m c t r j) (blk1 m c t l)

theorem final2 (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 8 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0) = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final2 m c), (h c).2⟩)
    (Cert.NormMixIdeal.Value.run_blocks (F := Ideal) m ρ)

end kernel

/-! ## The reference -/

section reference
open Cert.NormMixRefIdeal Cert.NormMixRefIdeal.Gen

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v14) = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.NormMixRefIdeal.Value.run (F := Ideal) m ρ)
  · clear h; funext i; idx_vars i; clean_types; pointwise
    rfl

end reference

/-! ## The claims -/

/-- The reference runs to its end and keeps its arguments. -/
theorem frame_ref : Cert.quiescent_NormMixRefIdeal := fun m ρ _ =>
  (θ_run Cert.NormMixRefIdeal.defs _ _).mono (fun r h => ⟨fun c => (h c).2,
      Idealize.ShloMosaic.sem_eq_zero_of_no_sems (by decide) r.2⟩)
    (Cert.NormMixRefIdeal.Value.run (F := Ideal) m ρ)

/-- Kernel and reference end with equal results. -/
theorem algebraic : Cert.algebraic_NormMixIdeal_NormMixRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.NormMixProof

end
-- ==== Proof.NormMixGrad.lean ====
/-
The gradient of the root-mean-square normalisation before the state-space mixer, with the residual's cotangent
added: the gradient of every row, and the weight's gradient, which the kernel adds up over sixteen blocks of rows.
-/
module

public import proofs.«01_k».proof.Proof.Gen.NormMixGradIdeal.Value
public import proofs.«01_k».proof.Proof.Gen.NormMixGradRefIdeal.Run
public import proofs.«01_k».proof.Proof.Rms
public import proofs.«01_k».proof.Proof.Sums
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.NormMixGradProof

/-- The gradient of the row `r` at column `l`. -/
def dx (A0 A1 A2 : (⟨2, ![4096, 2048]⟩ : Shape).Idx → EReal) (A3 : (⟨2, ![1, 2048]⟩ : Shape).Idx → EReal) (r : Fin 4096) (l : Fin 2048) : EReal :=
  Rms.back (fun k => A0 (ix2 r k)) (fun k => A1 (ix2 r k) * A3 (ix2 0 k)) l + A2 (ix2 r l)

/-- What the row `r` adds to the weight's gradient at column `l`. -/
def term (A0 A1 : (⟨2, ![4096, 2048]⟩ : Shape).Idx → EReal) (l : Fin 2048) (r : Fin 4096) : EReal :=
  Rms.unit (fun k => A0 (ix2 r k)) l * A1 (ix2 r l)

/-- The weight's gradient at column `l`. -/
def dg (A0 A1 : (⟨2, ![4096, 2048]⟩ : Shape).Idx → EReal) (l : Fin 2048) : EReal := ∑ r, term A0 A1 l r

/-- What the `s`-th block of 256 rows adds to the weight's gradient. -/
def part (A0 A1 : (⟨2, ![4096, 2048]⟩ : Shape).Idx → EReal) (l : Fin 2048) (s : ℕ) : EReal :=
  ∑ k : Fin 256, if h : s * 256 + k.val < 4096 then term A0 A1 l ⟨s * 256 + k.val, h⟩ else 0

section kernel
open Cert.NormMixGradIdeal Cert.NormMixGradIdeal.Gen

variable (m : (ℓ : Loc nD τ sig) → Buf (Elt Ideal) ℓ) (ρ : Dev nD → PrngReg)

/-! ## What one grid step computes -/

theorem dx_apply (x0 x1 x2 : Vec Ideal S256x2048 .f32) (g : Vec Ideal S1x2048 .f32) (r : Fin 256) (l : Fin 2048) :
    k0_pay6 x0 x1 x2 g (ix2 r l)
      = Rms.back (fun k => x0 (ix2 r k)) (fun k => x1 (ix2 r k) * g (ix2 0 k)) l + x2 (ix2 r l) := by
  pointwise [k0_pay6, k0_pay4, k0_pay3]
  simp only [Fin.sum_univ_one]
  rfl

theorem dg_apply (x0 x1 : Vec Ideal S256x2048 .f32) (g : Vec Ideal S1x2048 .f32) (l : Fin 2048) :
    k0_pay2 (k0_pay5 x0 x1) g (ix2 0 l)
      = g (ix2 0 l) + ∑ k, Rms.unit (fun j => x0 (ix2 k j)) l * x1 (ix2 k l) := by
  pointwise [k0_pay2, k0_pay5, k0_pay4, k0_pay3]
  rfl

theorem zero_apply (l : Fin 2048) : k0_pay1 (F := Ideal) (ix2 0 l) = 0 := by
  pointwise [k0_pay1]

/-! ## The blocks of each grid point -/

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

theorem blk0 (c : Dev nD) (t : Fin cfg0.N) (r : Fin 256) (l : Fin 2048) :
    iblk m c 0 t (ix2 r l) = m (c.tc.loc main_arg0) (ix2 ⟨t.val * 256 + r.val, by have := lt_of_lt_of_eq t.isLt N_0; omega⟩ l) := by
  blk_ext [iblk, V, idx t]

theorem blk1 (c : Dev nD) (t : Fin cfg0.N) (r : Fin 256) (l : Fin 2048) :
    iblk m c 1 t (ix2 r l) = m (c.tc.loc main_arg1) (ix2 ⟨t.val * 256 + r.val, by have := lt_of_lt_of_eq t.isLt N_0; omega⟩ l) := by
  blk_ext [iblk, V, idx t]

theorem blk2 (c : Dev nD) (t : Fin cfg0.N) (r : Fin 256) (l : Fin 2048) :
    iblk m c 2 t (ix2 r l) = m (c.tc.loc main_arg2) (ix2 ⟨t.val * 256 + r.val, by have := lt_of_lt_of_eq t.isLt N_0; omega⟩ l) := by
  blk_ext [iblk, V, idx t]

theorem blk3 (c : Dev nD) (t : Fin cfg0.N) (l : Fin 2048) :
    iblk m c 3 t (ix2 0 l) = m (c.tc.loc main_arg3) (ix2 0 l) := by
  blk_ext [iblk, V, idx t]

/-! ## The results -/

theorem part_eq (c : Dev nD) (t : Fin cfg0.N) (l : Fin 2048) :
    (∑ k, Rms.unit (fun j => iblk m c 0 t (ix2 k j)) l * iblk m c 1 t (ix2 k l)) = part (m (c.tc.loc main_arg0)) (m (c.tc.loc main_arg1)) l t.val := by
  have hN : t.val < 16 := lt_of_lt_of_eq t.isLt N_0
  unfold part
  refine Finset.sum_congr rfl fun k _ => ?_
  rw [dif_pos (show t.val * 256 + k.val < 4096 by omega)]
  exact congrArg₂ (fun (a : Fin 2048 → EReal) (b : EReal) => Rms.unit a l * b) (funext fun j => blk0 m c t k j) (blk1 m c t k l)

theorem sum_apply (c : Dev nD) (l : Fin 2048) : ∀ (n : ℕ) (t : Fin cfg0.N), t.val = n →
    (outsAt0 m c t.val t.isLt).2 (ix2 0 l) = ∑ s ∈ Finset.range (n + 1), part (m (c.tc.loc main_arg0)) (m (c.tc.loc main_arg1)) l s
  | 0, t, h => by
    rw [outsAt0_A m c t (by omega)]
    dsimp only
    frame_out
    refine (dg_apply _ _ _ _).trans ?_
    rw [zero_apply, zero_add, Finset.sum_range_one]
    exact (part_eq m c t l).trans (by rw [h])
  | n + 1, t, h => by
    have hN : t.val < 16 := lt_of_lt_of_eq t.isLt N_0
    have hp : t.val - 1 < cfg0.N := lt_of_le_of_lt (Nat.sub_le _ _) t.isLt
    rw [outsAt0_B m c t (by omega)]
    dsimp only
    frame_out
    refine (dg_apply _ _ _ _).trans ?_
    rw [Finset.sum_range_succ]
    refine congrArg₂ (· + ·) ((sum_apply c l n ⟨t.val - 1, hp⟩ (by dsimp only; omega))) ((part_eq m c t l).trans ?_)
    rw [h]

theorem point (c : Dev nD) (t : Fin cfg0.N) (r : Fin 256) (l : Fin 2048) :
    k0_pay6 (F := Ideal) (iblk m c 0 t) (iblk m c 1 t) (iblk m c 2 t) (iblk m c 3 t) (ix2 r l) = dx (m (c.tc.loc main_arg0)) (m (c.tc.loc main_arg1)) (m (c.tc.loc main_arg2)) (m (c.tc.loc main_arg3)) ⟨t.val * 256 + r.val, by have := lt_of_lt_of_eq t.isLt N_0; omega⟩ l := by
  refine (dx_apply _ _ _ _ _ _).trans ?_
  refine congrArg₂ (· + ·) ?_ (blk2 m c t r l)
  exact congrArg₂ (fun a b => Rms.back a b l) (funext fun k => blk0 m c t r k)
    (funext fun k => congrArg₂ (· * ·) (blk1 m c t r k) (blk3 m c t k))

theorem out4 (c : Dev nD) (t : Fin cfg0.N) (r : Fin 256) (l : Fin 2048) :
    (outsAt0 m c t.val t.isLt).1 (ix2 r l) = dx (m (c.tc.loc main_arg0)) (m (c.tc.loc main_arg1)) (m (c.tc.loc main_arg2)) (m (c.tc.loc main_arg3)) ⟨t.val * 256 + r.val, by have := lt_of_lt_of_eq t.isLt N_0; omega⟩ l := by
  by_cases h : t.val % 16 = 0
  · rw [outsAt0_A m c t h]
    dsimp only
    frame_out
    exact point m c t r l
  · rw [outsAt0_B m c t h]
    dsimp only
    frame_out
    exact point m c t r l

theorem final4 (c : Dev nD) : (dats m 0 c).arrAt 4 cfg0.N = fun i => dx (m (c.tc.loc main_arg0)) (m (c.tc.loc main_arg1)) (m (c.tc.loc main_arg2)) (m (c.tc.loc main_arg3)) (i 0) (i 1) := by
  refine (dats m 0 c).arrAt_eq_of_covers 4 _ (by decide +kernel) fun t hf y => ?_
  have hN : t.val < 16 := lt_of_lt_of_eq t.isLt N_0
  blk_simp
  rw [after0_4]
  idx_vars y
  refine (out4 m c t y0 y1).trans (congrArg₂ _ (Fin.ext ?_) (Fin.ext ?_)) <;> blk_simp [idx t]

theorem total (c : Dev nD) (t : Fin cfg0.N) (h : t.val = 15) (l : Fin 2048) :
    (outsAt0 m c t.val t.isLt).2 (ix2 0 l) = dg (m (c.tc.loc main_arg0)) (m (c.tc.loc main_arg1)) l :=
  (sum_apply m c l 15 t h).trans (Sums.blocks 16 256 rfl _)

theorem final5 (c : Dev nD) : (dats m 0 c).arrAt 5 cfg0.N = fun i => dg (m (c.tc.loc main_arg0)) (m (c.tc.loc main_arg1)) (i 1) := by
  refine (dats m 0 c).arrAt_eq_of_covers 5 _ (by decide +kernel) fun t hf y => ?_
  have hN : t.val < 16 := lt_of_lt_of_eq t.isLt N_0
  have h1 : t.val % 16 = 15 := (flush0_5 t).mp hf
  blk_simp
  rw [after0_5]
  idx_vars y
  refine (congrArg _ (congrArg₂ ix2 (Fin.ext (by omega)) rfl)).trans ((total m c t (by omega) y1).trans (congrArg _ (Fin.ext ?_))) <;> blk_simp [idx t]

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0_0) = (fun i => dx (m (c.tc.loc main_arg0)) (m (c.tc.loc main_arg1)) (m (c.tc.loc main_arg2)) (m (c.tc.loc main_arg3)) (i 0) (i 1))
      ∧ r.2.mem (c.tc.loc main_v0_1) = (fun i => dg (m (c.tc.loc main_arg0)) (m (c.tc.loc main_arg1)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (final4 m c), (h c).2.1.trans (final5 m c), (h c).2.2⟩)
    (Cert.NormMixGradIdeal.Value.run_blocks (F := Ideal) m ρ)

end kernel

/-! ## The reference -/

section reference
open Cert.NormMixGradRefIdeal Cert.NormMixGradRefIdeal.Gen

variable (m : (ℓ : Loc nD τ sig) → Buf (Elt Ideal) ℓ) (ρ : Dev nD → PrngReg)

/-- The reference's mean of squares of every row, plus the small number. -/
def refDen (A0 : FVec Ideal S4096x2048 .f32) : FVec Ideal S4096x1 .f32 :=
  addf (Host.divf (broadcastInDim S4096x1 ![0] bcast_S4096_S4096x1_0 (Host.reduceAdd (mulf A0 A0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))

/-- The reference's factor of every row in its gradient. -/
def refCorr (A0 : FVec Ideal S4096x2048 .f32) (A1 : FVec Ideal S4096x2048 .f32) (A3 : FVec Ideal S1x2048 .f32) : FVec Ideal S4096 .f32 :=
  Host.reduceAdd (Host.divf (mulf (shapeCast S4096x1 (Host.reduceAdd (mulf A0 (mulf A1 (broadcastInDim S4096x2048 ![0, 1] bcast_S1x2048_S4096x2048_0_1 (broadcastInDim S1x2048 ![1] bcast_S2048_S1x2048_1 (shapeCast S2048 A3 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (refDen A0)) (refDen A0)))) (broadcastInDim S4096x1 ![] bcast_S_S4096x1 (constant S_ .f32 0x45000000#32))) (constant S_ .f32 0x00000000#32) reducesTo_S4096x1_S4096_d1 h_S_

/-- The reference's gradient of the weight, before its shape is restored. -/
def refSum (A0 : FVec Ideal S4096x2048 .f32) (A1 : FVec Ideal S4096x2048 .f32) : FVec Ideal S2048 .f32 :=
  Host.reduceAdd (mulf (mulf A0 (broadcastInDim S4096x2048 ![0, 1] bcast_S4096x1_S4096x2048_0_1 (Host.rsqrt (refDen A0)))) A1) (constant S_ .f32 0x00000000#32) reducesTo_S4096x2048_S2048_d0 h_S_

theorem refDen_apply (A0 : FVec Ideal S4096x2048 .f32) (r : Fin 4096) :
    refDen A0 (ix2 r 0) = Rms.den (fun k => A0 (ix2 r k)) := by
  pointwise [refDen]
  rfl

theorem refCorr_apply (A0 A1 : FVec Ideal S4096x2048 .f32) (A3 : FVec Ideal S1x2048 .f32) (r : Fin 4096) :
    refCorr A0 A1 A3 (ix1 r) = Rms.corr (fun k => A0 (ix2 r k)) (fun k => A1 (ix2 r k) * A3 (ix2 0 k)) := by
  unfold refCorr Rms.corr
  rw [← refDen_apply A0 r]
  generalize refDen A0 = d
  pointwise
  simp only [Fin.sum_univ_one]

theorem refSum_apply (A0 A1 : FVec Ideal S4096x2048 .f32) (l : Fin 2048) : refSum A0 A1 (ix1 l) = dg A0 A1 l := by
  have h : ∀ r, term A0 A1 l r = A0 (ix2 r l) * Ideal.rsqrt (refDen A0 (ix2 r 0)) * A1 (ix2 r l) := fun r => by
    rw [refDen_apply]; rfl
  unfold refSum dg
  rw [Finset.sum_congr rfl fun r _ => h r]
  generalize refDen A0 = d
  pointwise

theorem ref_dx (A0 A1 A2 : FVec Ideal S4096x2048 .f32) (A3 : FVec Ideal S1x2048 .f32) (r : Fin 4096) (l : Fin 2048) :
    ((addf (addf (addf A2 (mulf (mulf A1 (broadcastInDim S4096x2048 ![0, 1] bcast_S1x2048_S4096x2048_0_1 (broadcastInDim S1x2048 ![1] bcast_S2048_S1x2048_1 (shapeCast S2048 A3 shapeCasts_S1x2048_S2048)))) (broadcastInDim S4096x2048 ![0, 1] bcast_S4096x1_S4096x2048_0_1 (Host.rsqrt (refDen A0))))) (mulf A0 (broadcastInDim S4096x2048 ![0] bcast_S4096_S4096x2048_0 (refCorr A0 A1 A3)))) (mulf (broadcastInDim S4096x2048 ![0] bcast_S4096_S4096x2048_0 (refCorr A0 A1 A3)) A0)) : FVec Ideal S4096x2048 .f32) (ix2 r l) = dx A0 A1 A2 A3 r l := by
  unfold dx Rms.back
  rw [← refDen_apply A0 r, ← refCorr_apply A0 A1 A3 r]
  generalize refDen A0 = d
  generalize refCorr A0 A1 A3 = e
  pointwise
  ac_rfl

theorem ref_dg (A0 A1 : FVec Ideal S4096x2048 .f32) (l : Fin 2048) :
    ((broadcastInDim S1x2048 ![1] bcast_S2048_S1x2048_1 (Host.reduceAdd (shapeCast S1x2048 (refSum A0 A1) shapeCasts_S2048_S1x2048) (constant S_ .f32 0x00000000#32) reducesTo_S1x2048_S2048_d0 h_S_)) : FVec Ideal S1x2048 .f32) (ix2 0 l) = dg A0 A1 l := by
  rw [← refSum_apply A0 A1 l]
  generalize refSum A0 A1 = e
  pointwise
  simp only [Fin.sum_univ_one]

/-- The reference's run: the same results. -/
theorem ref_run : θ_run defs (onTc (τ := τ) (main (F := Ideal))) ⟨m, fun _ => 0, ρ⟩ fun r => ∀ c : Dev nD,
      r.2.mem (c.tc.loc main_v37) = (fun i => dx (m (c.tc.loc main_arg0)) (m (c.tc.loc main_arg1)) (m (c.tc.loc main_arg2)) (m (c.tc.loc main_arg3)) (i 0) (i 1))
      ∧ r.2.mem (c.tc.loc main_v38) = (fun i => dg (m (c.tc.loc main_arg0)) (m (c.tc.loc main_arg1)) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ⟨(h c).1.trans ?_, (h c).2.1.trans ?_, (h c).2.2⟩)
    (Cert.NormMixGradRefIdeal.Value.run (F := Ideal) m ρ)
  · clear h; funext i; idx_vars i; exact ref_dx (m (c.tc.loc main_arg0)) (m (c.tc.loc main_arg1)) (m (c.tc.loc main_arg2)) (m (c.tc.loc main_arg3)) i0 i1
  · clear h; funext i; idx_vars i; exact (congrArg _ (congrArg₂ ix2 (Fin.ext (by omega)) rfl)).trans (ref_dg (m (c.tc.loc main_arg0)) (m (c.tc.loc main_arg1)) i1)

end reference

/-! ## The claims -/

/-- The reference runs to its end and keeps its arguments. -/
theorem frame_ref : Cert.quiescent_NormMixGradRefIdeal := fun m ρ _ =>
  (θ_run Cert.NormMixGradRefIdeal.defs _ _).mono (fun r h => ⟨fun c => (h c).2.2,
      Idealize.ShloMosaic.sem_eq_zero_of_no_sems (by decide) r.2⟩)
    (Cert.NormMixGradRefIdeal.Value.run (F := Ideal) m ρ)

/-- Kernel and reference end with equal results. -/
theorem algebraic : Cert.algebraic_NormMixGradIdeal_NormMixGradRefIdeal := by
  intro m g m' g' _ hargs
  refine ⟨_, _, kernel_run m g, ?_⟩
  refine (θ_run _ _ _).mono (fun r h c => ?_) (ref_run m' g')
  obtain ⟨a0, a1, a2, a3⟩ := hargs c
  obtain ⟨h0, h1, hk⟩ := h c
  rw [a0, a1, a2, a3] at h0
  rw [a0, a1] at h1
  exact ⟨h0, h1, hk⟩

end Cert.NormMixGradProof

end
-- ==== Proof.NormMixOut.lean ====
/-
The gradient in the mixer's normed input through the input projection, accumulated over six parts of the 12288 channels,
added to the one through the step sizes' columns.
-/
module

public import proofs.«01_k».proof.Proof.Gen.NormMixOutIdeal.Value
public import proofs.«01_k».proof.Proof.Gen.NormMixOutRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.NormMixOutProof

/-- The result at row `r` and column `l`, from the arguments. -/
def val (A0 : (⟨2, ![4096, 12288]⟩ : Shape).Idx → EReal) (A1 : (⟨2, ![2048, 12288]⟩ : Shape).Idx → EReal) (A2 : (⟨2, ![4096, 2048]⟩ : Shape).Idx → EReal)
    (r : Fin 4096) (l : Fin 2048) : EReal :=
  (∑ k : Fin 12288, A0 (ix2 r k) * A1 (ix2 l k)) + A2 (ix2 r l)

section kernel
open Cert.NormMixOutIdeal Cert.NormMixOutIdeal.Gen

variable (m : (ℓ : Loc nD τ sig) → Buf (Elt Ideal) ℓ) (ρ : Dev nD → PrngReg)

/-! ## What one block step computes -/

theorem first_apply (x0 : Vec Ideal S1024x2048 .bf16) (x1 : Vec Ideal S2048x1024 .bf16) (r : Fin 1024) (l : Fin 1024) :
    k0_pay2 x0 x1 (ix2 r l) = ∑ k : Fin 2048, x0 (ix2 r k) * x1 (ix2 k l) := by
  pointwise [k0_pay2, k0_pay1]

theorem last_apply (x0 : Vec Ideal S1024x2048 .bf16) (x1 : Vec Ideal S2048x1024 .bf16) (a : Vec Ideal S1024x1024 .f32) (e : Vec Ideal S1024x1024 .f32) (r : Fin 1024) (l : Fin 1024) :
    k0_pay4 x0 x1 a e (ix2 r l) = a (ix2 r l) + (∑ k : Fin 2048, x0 (ix2 r k) * x1 (ix2 k l)) + e (ix2 r l) := by
  pointwise [k0_pay4, k0_pay1]

theorem mid_apply (x0 : Vec Ideal S1024x2048 .bf16) (x1 : Vec Ideal S2048x1024 .bf16) (a : Vec Ideal S1024x1024 .f32) (r : Fin 1024) (l : Fin 1024) :
    k0_pay3 x0 x1 a (ix2 r l) = a (ix2 r l) + ∑ k : Fin 2048, x0 (ix2 r k) * x1 (ix2 k l) := by
  pointwise [k0_pay3, k0_pay1]

/-! ## The blocks of each grid point -/

theorem idx : ∀ t : Fin cfg0.N, win0_0.index t = ![t.val / 12, t.val % 6] ∧ win0_1.index t = ![t.val % 6, t.val / 6 % 2] ∧ win0_2.index t = ![t.val / 12, t.val / 6 % 2] ∧ win0_3.index t = ![t.val / 12, t.val / 6 % 2] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 12 * 1024 + r.val, by have := lt_of_lt_of_eq t.isLt N_0; omega⟩ ⟨t.val % 6 * 2048 + k.val, by omega⟩) := by
  blk_ext [iblk, V, idx t]

/-- The weights as the call reads them. -/
theorem weights (c : Dev nD) (k : Fin 12288) (l : Fin 2048) :
    V m c main_v1 (ix2 k l) = m (c.tc.loc main_arg1) (ix2 l k) := by
  unfold V; after_results; pointwise

theorem blk1 (c : Dev nD) (t : Fin cfg0.N) (k : Fin 2048) (l : Fin 1024) :
    iblk m c 1 t (ix2 k l) = m (c.tc.loc main_arg1) (ix2 ⟨t.val / 6 % 2 * 1024 + l.val, by have := lt_of_lt_of_eq t.isLt N_0; omega⟩ ⟨t.val % 6 * 2048 + k.val, by omega⟩) := by
  refine Eq.trans ?_ (weights m c ⟨t.val % 6 * 2048 + k.val, by omega⟩ ⟨t.val / 6 % 2 * 1024 + l.val, by have := lt_of_lt_of_eq t.isLt N_0; omega⟩)
  blk_ext [iblk, idx t]

theorem blk2 (c : Dev nD) (t : Fin cfg0.N) (r : Fin 1024) (l : Fin 1024) :
    iblk m c 2 t (ix2 r l) = m (c.tc.loc main_arg2) (ix2 ⟨t.val / 12 * 1024 + r.val, by have := lt_of_lt_of_eq t.isLt N_0; omega⟩ ⟨t.val / 6 % 2 * 1024 + l.val, by have := lt_of_lt_of_eq t.isLt N_0; omega⟩) := by
  blk_ext [iblk, V, idx t]

/-! ## The running sum, and the result -/

/-- One block's part of the contraction. -/
def part (A0 : (⟨2, ![4096, 12288]⟩ : Shape).Idx → EReal) (A1 : (⟨2, ![2048, 12288]⟩ : Shape).Idx → EReal) (r : Fin 4096) (l : Fin 2048) (s : ℕ) : EReal :=
  ∑ k : Fin 2048, if h : s * 2048 + k.val < 12288 then A0 (ix2 r ⟨s * 2048 + k.val, h⟩) * A1 (ix2 l ⟨s * 2048 + k.val, h⟩) else 0

theorem part_eq (c : Dev nD) (t : Fin cfg0.N) (r : Fin 1024) (l : Fin 1024) :
    (∑ k : Fin 2048, (show Vec Ideal S1024x2048 .bf16 from iblk m c 0 t) (ix2 r k)
          * (show Vec Ideal S2048x1024 .bf16 from iblk m c 1 t) (ix2 k l))
      = part (m (c.tc.loc main_arg0)) (m (c.tc.loc main_arg1)) ⟨t.val / 12 * 1024 + r.val, by have := lt_of_lt_of_eq t.isLt N_0; omega⟩ ⟨t.val / 6 % 2 * 1024 + l.val, by have := lt_of_lt_of_eq t.isLt N_0; omega⟩ (t.val % 6) := by
  refine Finset.sum_congr rfl fun k _ => ?_
  rw [dif_pos (show t.val % 6 * 2048 + k.val < 12288 by omega)]
  exact congrArg₂ (· * ·) (blk0 m c t k r) (blk1 m c t k l)

theorem scratch_apply (c : Dev nD) (r : Fin 1024) (l : Fin 1024) : ∀ (n : ℕ) (t : Fin cfg0.N), t.val % 6 = n → n < 5 →
    (outsAt0 m c t.val t.isLt).2 (ix2 r l)
      = ∑ s ∈ Finset.range (n + 1), part (m (c.tc.loc main_arg0)) (m (c.tc.loc main_arg1)) ⟨t.val / 12 * 1024 + r.val, by have := lt_of_lt_of_eq t.isLt N_0; omega⟩ ⟨t.val / 6 % 2 * 1024 + l.val, by have := lt_of_lt_of_eq t.isLt N_0; omega⟩ s
  | 0, t, h, _ => by
    rw [outsAt0_A m c t h (by omega) (by omega)]
    dsimp only
    frame_out
    refine (first_apply _ _ _ _).trans ((part_eq m c t r l).trans ?_)
    rw [h, Finset.sum_range_one]
  | n + 1, t, h, hn => by
    have hN : t.val < 48 := lt_of_lt_of_eq t.isLt N_0
    have hp : t.val - 1 < cfg0.N := lt_of_le_of_lt (Nat.sub_le _ _) t.isLt
    rw [outsAt0_B m c t (by omega) (by omega) (by omega)]
    dsimp only
    frame_out
    rw [mid_apply, read_unread_whole, Finset.sum_range_succ]
    refine congrArg₂ (· + ·) ((scratch_apply c r l n ⟨t.val - 1, hp⟩ (by dsimp only; omega) (by omega)).trans ?_) ((part_eq m c t r l).trans ?_)
    · refine Finset.sum_congr rfl fun s _ => ?_
      congr 1 <;> exact Fin.ext (by dsimp only <;> omega)
    · rw [h]

theorem point (c : Dev nD) (t : Fin cfg0.N) (h1 : t.val % 6 = 5) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2)) (iblk m c 2 t)
      (ix2 r l) = val (m (c.tc.loc main_arg0)) (m (c.tc.loc main_arg1)) (m (c.tc.loc main_arg2)) ⟨t.val / 12 * 1024 + r.val, by have := lt_of_lt_of_eq t.isLt N_0; omega⟩ ⟨t.val / 6 % 2 * 1024 + l.val, by have := lt_of_lt_of_eq t.isLt N_0; omega⟩ := by
  have hN : t.val < 48 := lt_of_lt_of_eq t.isLt N_0
  rw [last_apply, read_unread_whole]
  refine congrArg₂ (· + ·) ?_ (blk2 m c t r l)
  rw [scratch_apply m c r l 4 ⟨t.val - 1, hb⟩ (by dsimp only; omega) (by omega)]
  refine Eq.trans ?_ (Sums.blocks 6 2048 rfl _)
  rw [Finset.sum_range_succ _ 5]
  refine congrArg₂ (· + ·) ?_ ((part_eq m c t r l).trans ?_)
  · refine Finset.sum_congr rfl fun s _ => Finset.sum_congr rfl fun k _ => ?_
    split_ifs with h
    · exact congrArg₂ (· * ·) (congrArg _ (congrArg₂ ix2 (Fin.ext (by dsimp only <;> omega)) (Fin.ext (by dsimp only)))) (congrArg _ (congrArg₂ ix2 (Fin.ext (by dsimp only <;> omega)) (Fin.ext (by dsimp only))))
    · rfl
  · rw [h1]; rfl

theorem final (c : Dev nD) : (dats m 0 c).arrAt 3 cfg0.N = fun i => val (m (c.tc.loc main_arg0)) (m (c.tc.loc main_arg1)) (m (c.tc.loc main_arg2)) (i 0) (i 1) := by
  refine (dats m 0 c).arrAt_eq_of_covers 3 _ (by decide +kernel) fun t hf y => ?_
  have h1 : t.val % 6 = 5 := (flush0_3 t).mp hf
  have hN : t.val < 48 := lt_of_lt_of_eq t.isLt N_0
  blk_simp
  rw [after0_3, outsAt0_C m c t (by omega) (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩)
    (Cert.NormMixOutIdeal.Value.run_blocks (F := Ideal) m ρ)

end kernel

/-! ## The reference -/

section reference
open Cert.NormMixOutRefIdeal Cert.NormMixOutRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v4)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.NormMixOutRefIdeal.Value.run (F := Ideal) m ρ)
  clear h; funext i; idx_vars i; clean_types; pointwise
  rfl

end reference

/-! ## The claims -/

/-- The reference runs to its end and keeps its arguments. -/
theorem frame_ref : Cert.quiescent_NormMixOutRefIdeal := fun m ρ _ =>
  (θ_run Cert.NormMixOutRefIdeal.defs _ _).mono (fun r h => ⟨fun c => (h c).2,
      Idealize.ShloMosaic.sem_eq_zero_of_no_sems (by decide) r.2⟩)
    (Cert.NormMixOutRefIdeal.Value.run (F := Ideal) m ρ)

/-- Kernel and reference end with equal results. -/
theorem algebraic : Cert.algebraic_NormMixOutIdeal_NormMixOutRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.NormMixOutProof

end
-- ==== Proof.NormMixOutDt.lean ====
/-
The gradient in the mixer's normed input through the step sizes' columns of the input projection.
-/
module

public import proofs.«01_k».proof.Proof.Gen.NormMixOutDtIdeal.Value
public import proofs.«01_k».proof.Proof.Gen.NormMixOutDtRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.NormMixOutDtProof

/-- The result at row `r` and column `l`, from the arguments. -/
def val (A0 : (⟨2, ![4096, 128]⟩ : Shape).Idx → EReal) (A1 : (⟨2, ![128, 2048]⟩ : Shape).Idx → EReal)
    (r : Fin 4096) (l : Fin 2048) : EReal :=
  (∑ k : Fin 128, A0 (ix2 r k) * A1 (ix2 k l))

section kernel
open Cert.NormMixOutDtIdeal Cert.NormMixOutDtIdeal.Gen

variable (m : (ℓ : Loc nD τ sig) → Buf (Elt Ideal) ℓ) (ρ : Dev nD → PrngReg)

/-! ## What one block step computes -/

theorem pay_apply (x0 : Vec Ideal S1024x128 .bf16) (x1 : Vec Ideal S128x1024 .bf16) (r : Fin 1024) (l : Fin 1024) :
    k0_pay1 x0 x1 (ix2 r l) = ∑ k : Fin 128, x0 (ix2 r k) * x1 (ix2 k l) := by
  pointwise [k0_pay1]

/-! ## The blocks of each grid point -/

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem blk0 (c : Dev nD) (t : Fin cfg0.N) (k : Fin 128) (r : Fin 1024) :
    iblk m c 0 t (ix2 r k) = m (c.tc.loc main_arg0) (ix2 ⟨t.val / 2 * 1024 + r.val, by have := lt_of_lt_of_eq t.isLt N_0; omega⟩ k) := by
  blk_ext [iblk, V, idx t]

/-- The weights as the call reads them. -/
theorem weights (c : Dev nD) (k : Fin 128) (l : Fin 2048) :
    V m c main_v0 (ix2 k l) = m (c.tc.loc main_arg1) (ix2 k l) := by
  unfold V; after_results; pointwise

theorem blk1 (c : Dev nD) (t : Fin cfg0.N) (k : Fin 128) (l : Fin 1024) :
    iblk m c 1 t (ix2 k l) = m (c.tc.loc main_arg1) (ix2 k ⟨t.val % 2 * 1024 + l.val, by have := lt_of_lt_of_eq t.isLt N_0; omega⟩) := by
  refine Eq.trans ?_ (weights m c k ⟨t.val % 2 * 1024 + l.val, by have := lt_of_lt_of_eq t.isLt N_0; omega⟩)
  blk_ext [iblk, idx t]

/-! ## The result -/

theorem point (c : Dev nD) (t : Fin cfg0.N) (r : Fin 1024) (l : Fin 1024) :
    k0_pay1 (F := Ideal) (iblk m c 0 t) (iblk m c 1 t) (ix2 r l) = val (m (c.tc.loc main_arg0)) (m (c.tc.loc main_arg1)) ⟨t.val / 2 * 1024 + r.val, by have := lt_of_lt_of_eq t.isLt N_0; omega⟩ ⟨t.val % 2 * 1024 + l.val, by have := lt_of_lt_of_eq t.isLt N_0; omega⟩ := by
  rw [pay_apply]
  exact Finset.sum_congr rfl fun k _ => congrArg₂ (· * ·) (blk0 m c t k r) (blk1 m c t k l)

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 8 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.NormMixOutDtIdeal.Value.run_blocks (F := Ideal) m ρ)

end kernel

/-! ## The reference -/

section reference
open Cert.NormMixOutDtRefIdeal Cert.NormMixOutDtRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.NormMixOutDtRefIdeal.Value.run (F := Ideal) m ρ)
  clear h; funext i; idx_vars i; clean_types; pointwise
  rfl

end reference

/-! ## The claims -/

/-- The reference runs to its end and keeps its arguments. -/
theorem frame_ref : Cert.quiescent_NormMixOutDtRefIdeal := fun m ρ _ =>
  (θ_run Cert.NormMixOutDtRefIdeal.defs _ _).mono (fun r h => ⟨fun c => (h c).2,
      Idealize.ShloMosaic.sem_eq_zero_of_no_sems (by decide) r.2⟩)
    (Cert.NormMixOutDtRefIdeal.Value.run (F := Ideal) m ρ)

/-- Kernel and reference end with equal results. -/
theorem algebraic : Cert.algebraic_NormMixOutDtIdeal_NormMixOutDtRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.NormMixOutDtProof

end
-- ==== Proof.NormOutGate.lean ====
/-
The gradient in the normed input through the gate projection, accumulated over two halves of the 5632 channels.
-/
module

public import proofs.«01_k».proof.Proof.Gen.NormOutGateIdeal.Value
public import proofs.«01_k».proof.Proof.Gen.NormOutGateRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.NormOutGateProof

/-- The result at row `r` and column `l`, from the arguments. -/
def val (A0 : (⟨2, ![4096, 5632]⟩ : Shape).Idx → EReal) (A1 : (⟨2, ![2048, 5632]⟩ : Shape).Idx → EReal)
    (r : Fin 4096) (l : Fin 2048) : EReal :=
  (∑ k : Fin 5632, A0 (ix2 r k) * A1 (ix2 l k))

section kernel
open Cert.NormOutGateIdeal Cert.NormOutGateIdeal.Gen

variable (m : (ℓ : Loc nD τ sig) → Buf (Elt Ideal) ℓ) (ρ : Dev nD → PrngReg)

/-! ## What one block step computes -/

theorem first_apply (x0 : Vec Ideal S1024x2816 .bf16) (x1 : Vec Ideal S2816x1024 .bf16) (r : Fin 1024) (l : Fin 1024) :
    k0_pay2 x0 x1 (ix2 r l) = ∑ k : Fin 2816, x0 (ix2 r k) * x1 (ix2 k l) := by
  pointwise [k0_pay2, k0_pay1]

theorem last_apply (x0 : Vec Ideal S1024x2816 .bf16) (x1 : Vec Ideal S2816x1024 .bf16) (a : Vec Ideal S1024x1024 .f32) (r : Fin 1024) (l : Fin 1024) :
    k0_pay4 x0 x1 a (ix2 r l) = a (ix2 r l) + (∑ k : Fin 2816, x0 (ix2 r k) * x1 (ix2 k l)) := by
  pointwise [k0_pay4, k0_pay1]

/-! ## The blocks of each grid point -/

theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2816) (r : Fin 1024) :
    iblk m c 0 t (ix2 r k) = m (c.tc.loc main_arg0) (ix2 ⟨t.val / 4 * 1024 + r.val, by have := lt_of_lt_of_eq t.isLt N_0; omega⟩ ⟨t.val % 2 * 2816 + k.val, by omega⟩) := by
  blk_ext [iblk, V, idx t]

/-- The weights as the call reads them. -/
theorem weights (c : Dev nD) (k : Fin 5632) (l : Fin 2048) :
    V m c main_v1 (ix2 k l) = m (c.tc.loc main_arg1) (ix2 l k) := by
  unfold V; after_results; pointwise

theorem blk1 (c : Dev nD) (t : Fin cfg0.N) (k : Fin 2816) (l : Fin 1024) :
    iblk m c 1 t (ix2 k l) = m (c.tc.loc main_arg1) (ix2 ⟨t.val / 2 % 2 * 1024 + l.val, by have := lt_of_lt_of_eq t.isLt N_0; omega⟩ ⟨t.val % 2 * 2816 + k.val, by omega⟩) := by
  refine Eq.trans ?_ (weights m c ⟨t.val % 2 * 2816 + k.val, by omega⟩ ⟨t.val / 2 % 2 * 1024 + l.val, by have := lt_of_lt_of_eq t.isLt N_0; omega⟩)
  blk_ext [iblk, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2816, (show Vec Ideal S1024x2816 .bf16 from iblk m c 0 t) (ix2 r k)
          * (show Vec Ideal S2816x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1024 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine Eq.trans ?_ (Sums.halves (n := 2816) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 16 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.NormOutGateIdeal.Value.run_blocks (F := Ideal) m ρ)

end kernel

/-! ## The reference -/

section reference
open Cert.NormOutGateRefIdeal Cert.NormOutGateRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v3)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.NormOutGateRefIdeal.Value.run (F := Ideal) m ρ)
  clear h; funext i; idx_vars i; clean_types; pointwise
  rfl

end reference

/-! ## The claims -/

/-- The reference runs to its end and keeps its arguments. -/
theorem frame_ref : Cert.quiescent_NormOutGateRefIdeal := fun m ρ _ =>
  (θ_run Cert.NormOutGateRefIdeal.defs _ _).mono (fun r h => ⟨fun c => (h c).2,
      Idealize.ShloMosaic.sem_eq_zero_of_no_sems (by decide) r.2⟩)
    (Cert.NormOutGateRefIdeal.Value.run (F := Ideal) m ρ)

/-- Kernel and reference end with equal results. -/
theorem algebraic : Cert.algebraic_NormOutGateIdeal_NormOutGateRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.NormOutGateProof

end
-- ==== Proof.NormOutUp.lean ====
/-
The gradient in the normed input through the up projection, accumulated over two halves of the 5632 channels, added to
the one through the gate projection.
-/
module

public import proofs.«01_k».proof.Proof.Gen.NormOutUpIdeal.Value
public import proofs.«01_k».proof.Proof.Gen.NormOutUpRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.NormOutUpProof

/-- The result at row `r` and column `l`, from the arguments. -/
def val (A0 : (⟨2, ![4096, 5632]⟩ : Shape).Idx → EReal) (A1 : (⟨2, ![2048, 5632]⟩ : Shape).Idx → EReal) (A2 : (⟨2, ![4096, 2048]⟩ : Shape).Idx → EReal)
    (r : Fin 4096) (l : Fin 2048) : EReal :=
  (∑ k : Fin 5632, A0 (ix2 r k) * A1 (ix2 l k)) + A2 (ix2 r l)

section kernel
open Cert.NormOutUpIdeal Cert.NormOutUpIdeal.Gen

variable (m : (ℓ : Loc nD τ sig) → Buf (Elt Ideal) ℓ) (ρ : Dev nD → PrngReg)

/-! ## What one block step computes -/

theorem first_apply (x0 : Vec Ideal S1024x2816 .bf16) (x1 : Vec Ideal S2816x1024 .bf16) (r : Fin 1024) (l : Fin 1024) :
    k0_pay2 x0 x1 (ix2 r l) = ∑ k : Fin 2816, x0 (ix2 r k) * x1 (ix2 k l) := by
  pointwise [k0_pay2, k0_pay1]

theorem last_apply (x0 : Vec Ideal S1024x2816 .bf16) (x1 : Vec Ideal S2816x1024 .bf16) (a : Vec Ideal S1024x1024 .f32) (e : Vec Ideal S1024x1024 .f32) (r : Fin 1024) (l : Fin 1024) :
    k0_pay4 x0 x1 a e (ix2 r l) = a (ix2 r l) + (∑ k : Fin 2816, x0 (ix2 r k) * x1 (ix2 k l)) + e (ix2 r l) := by
  pointwise [k0_pay4, k0_pay1]

/-! ## The blocks of each grid point -/

theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

theorem blk0 (c : Dev nD) (t : Fin cfg0.N) (k : Fin 2816) (r : Fin 1024) :
    iblk m c 0 t (ix2 r k) = m (c.tc.loc main_arg0) (ix2 ⟨t.val / 4 * 1024 + r.val, by have := lt_of_lt_of_eq t.isLt N_0; omega⟩ ⟨t.val % 2 * 2816 + k.val, by omega⟩) := by
  blk_ext [iblk, V, idx t]

/-- The weights as the call reads them. -/
theorem weights (c : Dev nD) (k : Fin 5632) (l : Fin 2048) :
    V m c main_v1 (ix2 k l) = m (c.tc.loc main_arg1) (ix2 l k) := by
  unfold V; after_results; pointwise

theorem blk1 (c : Dev nD) (t : Fin cfg0.N) (k : Fin 2816) (l : Fin 1024) :
    iblk m c 1 t (ix2 k l) = m (c.tc.loc main_arg1) (ix2 ⟨t.val / 2 % 2 * 1024 + l.val, by have := lt_of_lt_of_eq t.isLt N_0; omega⟩ ⟨t.val % 2 * 2816 + k.val, by omega⟩) := by
  refine Eq.trans ?_ (weights m c ⟨t.val % 2 * 2816 + k.val, by omega⟩ ⟨t.val / 2 % 2 * 1024 + l.val, by have := lt_of_lt_of_eq t.isLt N_0; omega⟩)
  blk_ext [iblk, idx t]

theorem blk2 (c : Dev nD) (t : Fin cfg0.N) (r : Fin 1024) (l : Fin 1024) :
    iblk m c 2 t (ix2 r l) = m (c.tc.loc main_arg2) (ix2 ⟨t.val / 4 * 1024 + r.val, by have := lt_of_lt_of_eq t.isLt N_0; omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2816, (show Vec Ideal S1024x2816 .bf16 from iblk m c 0 t) (ix2 r k)
          * (show Vec Ideal S2816x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2)) (iblk m c 2 t)
      (ix2 r l) = val (m (c.tc.loc main_arg0)) (m (c.tc.loc main_arg1)) (m (c.tc.loc main_arg2)) ⟨t.val / 4 * 1024 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine congrArg₂ (· + ·) ?_ (blk2 m c t r l)
  refine Eq.trans ?_ (Sums.halves (n := 2816) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 3 cfg0.N = fun i => val (m (c.tc.loc main_arg0)) (m (c.tc.loc main_arg1)) (m (c.tc.loc main_arg2)) (i 0) (i 1) := by
  refine (dats m 0 c).arrAt_eq_of_covers 3 _ (by decide +kernel) fun t hf y => ?_
  have h1 : t.val % 2 = 1 := (flush0_3 t).mp hf
  have hN : t.val < 16 := lt_of_lt_of_eq t.isLt N_0
  blk_simp
  rw [after0_3, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩)
    (Cert.NormOutUpIdeal.Value.run_blocks (F := Ideal) m ρ)

end kernel

/-! ## The reference -/

section reference
open Cert.NormOutUpRefIdeal Cert.NormOutUpRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v4)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.NormOutUpRefIdeal.Value.run (F := Ideal) m ρ)
  clear h; funext i; idx_vars i; clean_types; pointwise
  rfl

end reference

/-! ## The claims -/

/-- The reference runs to its end and keeps its arguments. -/
theorem frame_ref : Cert.quiescent_NormOutUpRefIdeal := fun m ρ _ =>
  (θ_run Cert.NormOutUpRefIdeal.defs _ _).mono (fun r h => ⟨fun c => (h c).2,
      Idealize.ShloMosaic.sem_eq_zero_of_no_sems (by decide) r.2⟩)
    (Cert.NormOutUpRefIdeal.Value.run (F := Ideal) m ρ)

/-- Kernel and reference end with equal results. -/
theorem algebraic : Cert.algebraic_NormOutUpIdeal_NormOutUpRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.NormOutUpProof

end
-- ==== Proof.OutGrad.lean ====
/-
The gradient in the output projection's weights: the product of the transposed mixed activations with the cotangent,
accumulated over two halves of the 4096 positions.
-/
module

public import proofs.«01_k».proof.Proof.Gen.OutGradIdeal.Value
public import proofs.«01_k».proof.Proof.Gen.OutGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.OutGradProof

/-- The result at row `r` and column `l`, from the arguments. -/
def val (A0 : (⟨2, ![4096, 4096]⟩ : Shape).Idx → EReal) (A1 : (⟨2, ![4096, 2048]⟩ : Shape).Idx → EReal)
    (r : Fin 4096) (l : Fin 2048) : EReal :=
  (∑ k : Fin 4096, A0 (ix2 k r) * A1 (ix2 k l))

section kernel
open Cert.OutGradIdeal Cert.OutGradIdeal.Gen

variable (m : (ℓ : Loc nD τ sig) → Buf (Elt Ideal) ℓ) (ρ : Dev nD → PrngReg)

/-! ## What one block step computes -/

theorem first_apply (x0 : Vec Ideal S2048x1024 .bf16) (x1 : Vec Ideal S2048x1024 .bf16) (r : Fin 1024) (l : Fin 1024) :
    k0_pay2 x0 x1 (ix2 r l) = ∑ k : Fin 2048, x0 (ix2 k r) * x1 (ix2 k l) := by
  pointwise [k0_pay2, k0_pay1]

theorem last_apply (x0 : Vec Ideal S2048x1024 .bf16) (x1 : Vec Ideal S2048x1024 .bf16) (a : Vec Ideal S1024x1024 .f32) (r : Fin 1024) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2048) (r : Fin 1024) :
    iblk m c 0 t (ix2 k r) = m (c.tc.loc main_arg0) (ix2 ⟨t.val % 2 * 2048 + k.val, by omega⟩ ⟨t.val / 4 * 1024 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2048, (show Vec Ideal S2048x1024 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1024 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 16 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.OutGradIdeal.Value.run_blocks (F := Ideal) m ρ)

end kernel

/-! ## The reference -/

section reference
open Cert.OutGradRefIdeal Cert.OutGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v6)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.OutGradRefIdeal.Value.run (F := Ideal) m ρ)
  clear h; funext i; idx_vars i; clean_types; pointwise
  exact Finset.sum_congr rfl fun k _ => mul_comm _ _

end reference

/-! ## The claims -/

/-- The reference runs to its end and keeps its arguments. -/
theorem frame_ref : Cert.quiescent_OutGradRefIdeal := fun m ρ _ =>
  (θ_run Cert.OutGradRefIdeal.defs _ _).mono (fun r h => ⟨fun c => (h c).2,
      Idealize.ShloMosaic.sem_eq_zero_of_no_sems (by decide) r.2⟩)
    (Cert.OutGradRefIdeal.Value.run (F := Ideal) m ρ)

/-- Kernel and reference end with equal results. -/
theorem algebraic : Cert.algebraic_OutGradIdeal_OutGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.OutGradProof

end
-- ==== Proof.OutProj.lean ====
/-
The output projection with the residual: the mixed activations times the weights, accumulated over two halves of the
4096 channels, plus the residual.
-/
module

public import proofs.«01_k».proof.Proof.Gen.OutProjIdeal.Value
public import proofs.«01_k».proof.Proof.Gen.OutProjRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.OutProjProof

/-- The result at row `r` and column `l`, from the arguments. -/
def val (A0 : (⟨2, ![4096, 4096]⟩ : Shape).Idx → EReal) (A1 : (⟨2, ![4096, 2048]⟩ : Shape).Idx → EReal) (A2 : (⟨2, ![4096, 2048]⟩ : Shape).Idx → EReal)
    (r : Fin 4096) (l : Fin 2048) : EReal :=
  (∑ k : Fin 4096, A0 (ix2 r k) * A1 (ix2 k l)) + A2 (ix2 r l)

section kernel
open Cert.OutProjIdeal Cert.OutProjIdeal.Gen

variable (m : (ℓ : Loc nD τ sig) → Buf (Elt Ideal) ℓ) (ρ : Dev nD → PrngReg)

/-! ## What one block step computes -/

theorem first_apply (x0 : Vec Ideal S1024x2048 .bf16) (x1 : Vec Ideal S2048x1024 .bf16) (r : Fin 1024) (l : Fin 1024) :
    k0_pay2 x0 x1 (ix2 r l) = ∑ k : Fin 2048, x0 (ix2 r k) * x1 (ix2 k l) := by
  pointwise [k0_pay2, k0_pay1]

theorem last_apply (x0 : Vec Ideal S1024x2048 .bf16) (x1 : Vec Ideal S2048x1024 .bf16) (a : Vec Ideal S1024x1024 .f32) (e : Vec Ideal S1024x1024 .f32) (r : Fin 1024) (l : Fin 1024) :
    k0_pay4 x0 x1 a e (ix2 r l) = a (ix2 r l) + (∑ k : Fin 2048, x0 (ix2 r k) * x1 (ix2 k l)) + e (ix2 r l) := by
  pointwise [k0_pay4, k0_pay1]

/-! ## The blocks of each grid point -/

theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 4 * 1024 + r.val, by have := lt_of_lt_of_eq t.isLt N_0; omega⟩ ⟨t.val % 2 * 2048 + k.val, by omega⟩) := by
  blk_ext [iblk, V, idx t]

/-- The weights as the call reads them. -/
theorem weights (c : Dev nD) (k : Fin 4096) (l : Fin 2048) :
    V m c main_v0 (ix2 k l) = m (c.tc.loc main_arg1) (ix2 k l) := by
  unfold V; after_results; pointwise

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  refine Eq.trans ?_ (weights m c ⟨t.val % 2 * 2048 + k.val, by omega⟩ ⟨t.val / 2 % 2 * 1024 + l.val, by have := lt_of_lt_of_eq t.isLt N_0; omega⟩)
  blk_ext [iblk, idx t]

theorem blk2 (c : Dev nD) (t : Fin cfg0.N) (r : Fin 1024) (l : Fin 1024) :
    iblk m c 2 t (ix2 r l) = m (c.tc.loc main_arg2) (ix2 ⟨t.val / 4 * 1024 + r.val, by have := lt_of_lt_of_eq t.isLt N_0; omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1024) (l : Fin 1024) :
    (outsAt0 m c t.val t.isLt).2 (ix2 r l)
      = ∑ k : Fin 2048, (show Vec Ideal S1024x2048 .bf16 from iblk m c 0 t) (ix2 r k)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1024) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2)) (iblk m c 2 t)
      (ix2 r l) = val (m (c.tc.loc main_arg0)) (m (c.tc.loc main_arg1)) (m (c.tc.loc main_arg2)) ⟨t.val / 4 * 1024 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine congrArg₂ (· + ·) ?_ (blk2 m c t r l)
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 3 cfg0.N = fun i => val (m (c.tc.loc main_arg0)) (m (c.tc.loc main_arg1)) (m (c.tc.loc main_arg2)) (i 0) (i 1) := by
  refine (dats m 0 c).arrAt_eq_of_covers 3 _ (by decide +kernel) fun t hf y => ?_
  have h1 : t.val % 2 = 1 := (flush0_3 t).mp hf
  have hN : t.val < 16 := lt_of_lt_of_eq t.isLt N_0
  blk_simp
  rw [after0_3, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final m c), (h c).2⟩)
    (Cert.OutProjIdeal.Value.run_blocks (F := Ideal) m ρ)

end kernel

/-! ## The reference -/

section reference
open Cert.OutProjRefIdeal Cert.OutProjRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.OutProjRefIdeal.Value.run (F := Ideal) m ρ)
  clear h; funext i; idx_vars i; clean_types; pointwise
  exact add_comm _ _

end reference

/-! ## The claims -/

/-- The reference runs to its end and keeps its arguments. -/
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- Kernel and reference end with equal results. -/
theorem algebraic : Cert.algebraic_OutProjIdeal_OutProjRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.OutProjProof

end
-- ==== Proof.ProjDt.lean ====
/-
The input projection onto the step sizes' columns: the normed input times the weights.
-/
module

public import proofs.«01_k».proof.Proof.Gen.ProjDtIdeal.Value
public import proofs.«01_k».proof.Proof.Gen.ProjDtRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.ProjDtProof

/-- The result at row `r` and column `l`, from the arguments. -/
def val (A0 : (⟨2, ![4096, 2048]⟩ : Shape).Idx → EReal) (A1 : (⟨2, ![128, 2048]⟩ : Shape).Idx → EReal)
    (r : Fin 4096) (l : Fin 128) : EReal :=
  (∑ k : Fin 2048, A0 (ix2 r k) * A1 (ix2 l k))

section kernel
open Cert.ProjDtIdeal Cert.ProjDtIdeal.Gen

variable (m : (ℓ : Loc nD τ sig) → Buf (Elt Ideal) ℓ) (ρ : Dev nD → PrngReg)

/-! ## What one block step computes -/

theorem pay_apply (x0 : Vec Ideal S1024x2048 .bf16) (x1 : Vec Ideal S128x2048 .bf16) (r : Fin 1024) (l : Fin 128) :
    k0_pay1 x0 x1 (ix2 r l) = ∑ k : Fin 2048, x0 (ix2 r k) * x1 (ix2 l k) := by
  pointwise [k0_pay1]

/-! ## The blocks of each grid point -/

theorem idx : ∀ t : Fin cfg0.N, win0_0.index t = ![t.val / 1, 0] ∧ win0_1.index t = ![0, 0] ∧ win0_2.index t = ![t.val / 1, 0] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 1 * 1024 + r.val, by have := lt_of_lt_of_eq t.isLt N_0; omega⟩ k) := by
  blk_ext [iblk, V, idx t]

/-- The weights as the call reads them. -/
theorem weights (c : Dev nD) (k : Fin 2048) (l : Fin 128) :
    V m c main_v0 (ix2 l k) = m (c.tc.loc main_arg1) (ix2 l k) := by
  unfold V; after_results; pointwise

theorem blk1 (c : Dev nD) (t : Fin cfg0.N) (k : Fin 2048) (l : Fin 128) :
    iblk m c 1 t (ix2 l k) = m (c.tc.loc main_arg1) (ix2 ⟨0 * 128 + l.val, by have := lt_of_lt_of_eq t.isLt N_0; omega⟩ k) := by
  refine Eq.trans ?_ (weights m c k ⟨0 * 128 + l.val, by have := lt_of_lt_of_eq t.isLt N_0; omega⟩)
  blk_ext [iblk, idx t]

/-! ## The result -/

theorem point (c : Dev nD) (t : Fin cfg0.N) (r : Fin 1024) (l : Fin 128) :
    k0_pay1 (F := Ideal) (iblk m c 0 t) (iblk m c 1 t) (ix2 r l) = val (m (c.tc.loc main_arg0)) (m (c.tc.loc main_arg1)) ⟨t.val / 1 * 1024 + r.val, by have := lt_of_lt_of_eq t.isLt N_0; omega⟩ ⟨0 * 128 + l.val, by have := lt_of_lt_of_eq t.isLt N_0; omega⟩ := by
  rw [pay_apply]
  exact Finset.sum_congr rfl fun k _ => congrArg₂ (· * ·) (blk0 m c t k r) (blk1 m c t k l)

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 4 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.ProjDtIdeal.Value.run_blocks (F := Ideal) m ρ)

end kernel

/-! ## The reference -/

section reference
open Cert.ProjDtRefIdeal Cert.ProjDtRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v1)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.ProjDtRefIdeal.Value.run (F := Ideal) m ρ)
  clear h; funext i; idx_vars i; clean_types; pointwise
  rfl

end reference

/-! ## The claims -/

/-- The reference runs to its end and keeps its arguments. -/
theorem frame_ref : Cert.quiescent_ProjDtRefIdeal := fun m ρ _ =>
  (θ_run Cert.ProjDtRefIdeal.defs _ _).mono (fun r h => ⟨fun c => (h c).2,
      Idealize.ShloMosaic.sem_eq_zero_of_no_sems (by decide) r.2⟩)
    (Cert.ProjDtRefIdeal.Value.run (F := Ideal) m ρ)

/-- Kernel and reference end with equal results. -/
theorem algebraic : Cert.algebraic_ProjDtIdeal_ProjDtRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.ProjDtProof

end
-- ==== Proof.ProjMain.lean ====
/-
The input projection: the normed input times the weights (without the step sizes' columns).
-/
module

public import proofs.«01_k».proof.Proof.Gen.ProjMainIdeal.Value
public import proofs.«01_k».proof.Proof.Gen.ProjMainRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.ProjMainProof

/-- The result at row `r` and column `l`, from the arguments. -/
def val (A0 : (⟨2, ![4096, 2048]⟩ : Shape).Idx → EReal) (A1 : (⟨2, ![2048, 12288]⟩ : Shape).Idx → EReal)
    (r : Fin 4096) (l : Fin 12288) : EReal :=
  (∑ k : Fin 2048, A0 (ix2 r k) * A1 (ix2 k l))

section kernel
open Cert.ProjMainIdeal Cert.ProjMainIdeal.Gen

variable (m : (ℓ : Loc nD τ sig) → Buf (Elt Ideal) ℓ) (ρ : Dev nD → PrngReg)

/-! ## What one block step computes -/

theorem pay_apply (x0 : Vec Ideal S1024x2048 .bf16) (x1 : Vec Ideal S1024x2048 .bf16) (r : Fin 1024) (l : Fin 1024) :
    k0_pay1 x0 x1 (ix2 r l) = ∑ k : Fin 2048, x0 (ix2 r k) * x1 (ix2 l k) := by
  pointwise [k0_pay1]

/-! ## The blocks of each grid point -/

theorem idx : ∀ t : Fin cfg0.N, win0_0.index t = ![t.val / 12, 0] ∧ win0_1.index t = ![t.val % 12, 0] ∧ win0_2.index t = ![t.val / 12, t.val % 12] :=
  (by decide +kernel : ∀ t : Fin grid0.N, _)

theorem blk0 (c : Dev nD) (t : Fin cfg0.N) (k : Fin 2048) (r : Fin 1024) :
    iblk m c 0 t (ix2 r k) = m (c.tc.loc main_arg0) (ix2 ⟨t.val / 12 * 1024 + r.val, by have := lt_of_lt_of_eq t.isLt N_0; omega⟩ k) := by
  blk_ext [iblk, V, idx t]

/-- The weights as the call reads them. -/
theorem weights (c : Dev nD) (k : Fin 2048) (l : Fin 12288) :
    V m c main_v1 (ix2 l k) = m (c.tc.loc main_arg1) (ix2 k l) := by
  unfold V; after_results; pointwise

theorem blk1 (c : Dev nD) (t : Fin cfg0.N) (k : Fin 2048) (l : Fin 1024) :
    iblk m c 1 t (ix2 l k) = m (c.tc.loc main_arg1) (ix2 k ⟨t.val % 12 * 1024 + l.val, by have := lt_of_lt_of_eq t.isLt N_0; omega⟩) := by
  refine Eq.trans ?_ (weights m c k ⟨t.val % 12 * 1024 + l.val, by have := lt_of_lt_of_eq t.isLt N_0; omega⟩)
  blk_ext [iblk, idx t]

/-! ## The result -/

theorem point (c : Dev nD) (t : Fin cfg0.N) (r : Fin 1024) (l : Fin 1024) :
    k0_pay1 (F := Ideal) (iblk m c 0 t) (iblk m c 1 t) (ix2 r l) = val (m (c.tc.loc main_arg0)) (m (c.tc.loc main_arg1)) ⟨t.val / 12 * 1024 + r.val, by have := lt_of_lt_of_eq t.isLt N_0; omega⟩ ⟨t.val % 12 * 1024 + l.val, by have := lt_of_lt_of_eq t.isLt N_0; omega⟩ := by
  rw [pay_apply]
  exact Finset.sum_congr rfl fun k _ => congrArg₂ (· * ·) (blk0 m c t k r) (blk1 m c t k l)

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have hN : t.val < 48 := lt_of_lt_of_eq t.isLt N_0
  blk_simp
  rw [after0_2]
  frame_out
  idx_vars y
  refine (point m c t y0 y1).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.ProjMainIdeal.Value.run_blocks (F := Ideal) m ρ)

end kernel

/-! ## The reference -/

section reference
open Cert.ProjMainRefIdeal Cert.ProjMainRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v2)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.ProjMainRefIdeal.Value.run (F := Ideal) m ρ)
  clear h; funext i; idx_vars i; clean_types; pointwise
  rfl

end reference

/-! ## The claims -/

/-- The reference runs to its end and keeps its arguments. -/
theorem frame_ref : Cert.quiescent_ProjMainRefIdeal := fun m ρ _ =>
  (θ_run Cert.ProjMainRefIdeal.defs _ _).mono (fun r h => ⟨fun c => (h c).2,
      Idealize.ShloMosaic.sem_eq_zero_of_no_sems (by decide) r.2⟩)
    (Cert.ProjMainRefIdeal.Value.run (F := Ideal) m ρ)

/-- Kernel and reference end with equal results. -/
theorem algebraic : Cert.algebraic_ProjMainIdeal_ProjMainRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.ProjMainProof

end
-- ==== Proof.ShortConvFwd.lean ====
/-
  The short convolution `y = gb * conv(gc * u, w)`, three taps, written into columns 2048 to 4095 of a wider array: block
  of 128 columns by block against the plain text on whole arrays.
-/
module

public import proofs.«01_k».proof.Proof.Gen.ShortConvFwdIdeal.Value
public import proofs.«01_k».proof.Proof.Gen.ShortConvFwdRefIdeal.Run
public import proofs.«01_k».proof.Proof.Conv4
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise
open Cert.ShortConv (later earlier gateB gateC inp taps prod)

namespace Cert.ShortConvFwdProof

/-- The gated convolution at a column and a position. -/
def out (A0 : (⟨2, ![4096, 12288]⟩ : Shape).Idx → EReal) (A1 : (⟨2, ![3, 2048]⟩ : Shape).Idx → EReal) (l : Fin 2048) (r : Fin 4096) : EReal := gateB A0 l r * ShortConv.conv (prod A0 l) (taps A1 l) r

/-- The column of the result that column `j` of the wider array is. -/
def colOf (j : Fin 4096) : Fin 2048 := ⟨(j.val - 2048) % 2048, Nat.mod_lt _ (by decide)⟩

section kernel
open Cert.ShortConvFwdIdeal Cert.ShortConvFwdIdeal.Gen

variable (m : (ℓ : Loc nD τ sig) → Buf (Elt Ideal) ℓ) (ρ : Dev nD → PrngReg)

theorem pay1_apply (x0 x1 x2 : Vec Ideal S4096x128 .bf16) (w : Vec Ideal S3x128 .f32) (r : Fin 4096) (l : Fin 128) :
    k0_pay1 x0 x1 x2 w (ix2 r l)
      = x0 (ix2 r l) * ShortConv.conv (fun r => x1 (ix2 r l) * x2 (ix2 r l)) (fun k => w (ix2 k l)) r := by
  pointwise [k0_pay1]
  rw [Conv4.down_mul (fun r => x1 (ix2 r l) * x2 (ix2 r l)) 2 (by omega), Conv4.down_mul (fun r => x1 (ix2 r l) * x2 (ix2 r l)) 1 (by omega)]
  rfl

theorem idx : ∀ t : Fin cfg0.N, win0_0.index t = ![0, 48 + t.val] ∧ win0_1.index t = ![0, 64 + t.val] ∧ win0_2.index t = ![0, 80 + t.val] ∧ win0_3.index t = ![0, t.val] ∧ win0_4.index t = ![0, 16 + t.val] :=
  (by decide +kernel : ∀ t : Fin grid0.N, _)

/-- The column of the whole arrays that column `l` of point `t`'s blocks is. -/
def colAt (t : Fin cfg0.N) (l : Fin 128) : Fin 2048 := ⟨t.val * 128 + l.val, by have := lt_of_lt_of_eq t.isLt N_0; omega⟩

section point
variable (c : Dev nD) (t : Fin cfg0.N) (l : Fin 128) (r : Fin 4096) (k : Fin 3)

theorem blk0 : iblk m c 0 t (ix2 r l) = gateB (m (c.tc.loc main_arg0)) (colAt t l) r := by
  unfold gateB colAt; blk_ext [iblk, V, idx t]
theorem blk1 : iblk m c 1 t (ix2 r l) = gateC (m (c.tc.loc main_arg0)) (colAt t l) r := by
  unfold gateC colAt; blk_ext [iblk, V, idx t]
theorem blk2 : iblk m c 2 t (ix2 r l) = inp (m (c.tc.loc main_arg0)) (colAt t l) r := by
  unfold inp colAt; blk_ext [iblk, V, idx t]
theorem blk3 : iblk m c 3 t (ix2 k l) = taps (m (c.tc.loc main_arg1)) (colAt t l) k := by
  unfold taps colAt; blk_ext [iblk, V, idx t]

theorem point4 : k0_pay1 (iblk m c 0 t) (iblk m c 1 t) (iblk m c 2 t) (iblk m c 3 t) (ix2 r l) = out (m (c.tc.loc main_arg0)) (m (c.tc.loc main_arg1)) (colAt t l) r := by
  rw [pay1_apply]
  simp only [blk0, blk1, blk2, blk3]
  rfl

end point

theorem entry4 (c : Dev nD) : V m c main_v0 = m (c.tc.loc main_arg2) := by
  unfold V; after_results; try rfl

theorem colAt_eq_colOf (t : Fin cfg0.N) (l : Fin 128) (x : Fin 4096) (h : x.val = (16 + t.val) * 128 + l.val) : colAt t l = colOf x := by
  have ht : t.val < 16 := lt_of_lt_of_eq t.isLt N_0
  apply Fin.ext
  show t.val * 128 + l.val = (x.val - 2048) % 2048
  omega

/-- The written columns are the blocks 16 to 31. -/
theorem iff_128 (x : Nat) : 2048 ≤ x ∧ x < 4096 ↔ 16 ≤ x / 128 ∧ x / 128 < 32 := by omega

theorem wide4 (c : Dev nD) : (dats m 0 c).arrAt 4 cfg0.N = (fun i => if 2048 ≤ (i 1).val ∧ (i 1).val < 4096 then out (m (c.tc.loc main_arg0)) (m (c.tc.loc main_arg1)) (colOf (i 1)) (i 0) else V m c main_v0 i) := by
  refine (dats m 0 c).arrAt_eq_of_coversWhere 4 _ (fun β => 16 ≤ β 1 ∧ β 1 < 32) (by decide +kernel) (fun t hf y => ?_)
    (fun j => by blk_simp [Pipeline.Window.cell_apply]; exact iff_128 _)
  blk_simp
  rw [after0_4]
  simp only [outsAt0]
  frame_out
  idx_vars y
  refine (point4 m c t y1 y0).trans (congrArg₂ _ (colAt_eq_colOf t y1 _ ?_) (Fin.ext ?_)) <;> blk_simp [idx t]

theorem final4 (c : Dev nD) : (dats m 0 c).arrAt 4 cfg0.N = (fun i => if 2048 ≤ (i 1).val ∧ (i 1).val < 4096 then out (m (c.tc.loc main_arg0)) (m (c.tc.loc main_arg1)) (colOf (i 1)) (i 0) else m (c.tc.loc main_arg2) i) := by
  rw [wide4 m c, entry4 m c]
  rfl

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0) = (fun i => if 2048 ≤ (i 1).val ∧ (i 1).val < 4096 then out (m (c.tc.loc main_arg0)) (m (c.tc.loc main_arg1)) (colOf (i 1)) (i 0) else m (c.tc.loc main_arg2) i)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final4 m c), (h c).2⟩)
    (Cert.ShortConvFwdIdeal.Value.run_blocks (F := Ideal) m ρ)

end kernel

/-! ## The reference -/

section reference
open Cert.ShortConvFwdRefIdeal Cert.ShortConvFwdRefIdeal.Gen

variable (m : (ℓ : Loc nD τ sig) → Buf (Elt Ideal) ℓ) (ρ : Dev nD → PrngReg)

/-- The gated convolution. -/
def outR (A0 : FVec Ideal S4096x12288 .bf16) (A1 : FVec Ideal S3x2048 .f32) : FVec Ideal S4096x2048 .bf16 :=
  truncf .bf16 (shapeCast S4096x2048 (mulf (extf .f32 (broadcastInDim S1x4096x2048 ![1, 2] bcast_S4096x2048_S1x4096x2048_1_2 (extractStridedSlice S4096x2048 ![0, 6144] A0 slices_S4096x12288_S4096x2048_0_6144)) bitsLt_bf16_f32) (addf (addf (mulf (extractStridedSlice S1x4096x2048 ![0, 2, 0] (Value.fn_main_v11 (F := Ideal) ((broadcastInDim S1x2x2048 ![] bcast_S_S1x2x2048 (constant S_ .f32 0x00000000#32)) : FVec Ideal S1x2x2048 .f32) ((mulf (extf .f32 (broadcastInDim S1x4096x2048 ![1, 2] bcast_S4096x2048_S1x4096x2048_1_2 (extractStridedSlice S4096x2048 ![0, 8192] A0 slices_S4096x12288_S4096x2048_0_8192)) bitsLt_bf16_f32) (extf .f32 (broadcastInDim S1x4096x2048 ![1, 2] bcast_S4096x2048_S1x4096x2048_1_2 (extractStridedSlice S4096x2048 ![0, 10240] A0 slices_S4096x12288_S4096x2048_0_10240)) bitsLt_bf16_f32)) : FVec Ideal S1x4096x2048 .f32)) slices_S1x4098x2048_S1x4096x2048_0_2_0) (broadcastInDim S1x4096x2048 ![0, 1, 2] bcast_S1x1x2048_S1x4096x2048_0_1_2 (broadcastInDim S1x1x2048 ![2] bcast_S2048_S1x1x2048_2 (shapeCast S2048 (extractStridedSlice S1x2048 ![2, 0] A1 slices_S3x2048_S1x2048_2_0) shapeCasts_S1x2048_S2048)))) (mulf (extractStridedSlice S1x4096x2048 ![0, 0, 0] (Value.fn_main_v11 (F := Ideal) ((broadcastInDim S1x2x2048 ![] bcast_S_S1x2x2048 (constant S_ .f32 0x00000000#32)) : FVec Ideal S1x2x2048 .f32) ((mulf (extf .f32 (broadcastInDim S1x4096x2048 ![1, 2] bcast_S4096x2048_S1x4096x2048_1_2 (extractStridedSlice S4096x2048 ![0, 8192] A0 slices_S4096x12288_S4096x2048_0_8192)) bitsLt_bf16_f32) (extf .f32 (broadcastInDim S1x4096x2048 ![1, 2] bcast_S4096x2048_S1x4096x2048_1_2 (extractStridedSlice S4096x2048 ![0, 10240] A0 slices_S4096x12288_S4096x2048_0_10240)) bitsLt_bf16_f32)) : FVec Ideal S1x4096x2048 .f32)) slices_S1x4098x2048_S1x4096x2048_0_0_0) (broadcastInDim S1x4096x2048 ![0, 1, 2] bcast_S1x1x2048_S1x4096x2048_0_1_2 (broadcastInDim S1x1x2048 ![2] bcast_S2048_S1x1x2048_2 (shapeCast S2048 (extractStridedSlice S1x2048 ![0, 0] A1 slices_S3x2048_S1x2048_0_0) shapeCasts_S1x2048_S2048))))) (mulf (extractStridedSlice S1x4096x2048 ![0, 1, 0] (Value.fn_main_v11 (F := Ideal) ((broadcastInDim S1x2x2048 ![] bcast_S_S1x2x2048 (constant S_ .f32 0x00000000#32)) : FVec Ideal S1x2x2048 .f32) ((mulf (extf .f32 (broadcastInDim S1x4096x2048 ![1, 2] bcast_S4096x2048_S1x4096x2048_1_2 (extractStridedSlice S4096x2048 ![0, 8192] A0 slices_S4096x12288_S4096x2048_0_8192)) bitsLt_bf16_f32) (extf .f32 (broadcastInDim S1x4096x2048 ![1, 2] bcast_S4096x2048_S1x4096x2048_1_2 (extractStridedSlice S4096x2048 ![0, 10240] A0 slices_S4096x12288_S4096x2048_0_10240)) bitsLt_bf16_f32)) : FVec Ideal S1x4096x2048 .f32)) slices_S1x4098x2048_S1x4096x2048_0_1_0) (broadcastInDim S1x4096x2048 ![0, 1, 2] bcast_S1x1x2048_S1x4096x2048_0_1_2 (broadcastInDim S1x1x2048 ![2] bcast_S2048_S1x1x2048_2 (shapeCast S2048 (extractStridedSlice S1x2048 ![1, 0] A1 slices_S3x2048_S1x2048_1_0) shapeCasts_S1x2048_S2048)))))) shapeCasts_S1x4096x2048_S4096x2048) bitsLt_bf16_f32

theorem outR_apply (A0 : FVec Ideal S4096x12288 .bf16) (A1 : FVec Ideal S3x2048 .f32) (r : Fin 4096) (l : Fin 2048) :
    outR A0 A1 (ix2 r l) = out A0 A1 l r := by
  unfold outR
  pointwise [Value.fn_main_v11]
  exact ShortConv.gateB_ref (gateB A0 l r) (prod A0 l) (taps A1 l) r

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v35) = (fun i => if 2048 ≤ (i 1).val ∧ (i 1).val < 4096 then out (m (c.tc.loc main_arg0)) (m (c.tc.loc main_arg1)) (colOf (i 1)) (i 0) else m (c.tc.loc main_arg2) i)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.ShortConvFwdRefIdeal.Value.run (F := Ideal) m ρ)
  · clear h; funext i; idx_vars i
    rw [Conv4.update_apply 4096 2048 2048 _ _ _ rfl rfl (by omega) _ (by omega)]
    refine if_congr Iff.rfl ?_ rfl
    exact (show _ = outR (m (c.tc.loc main_arg0)) (m (c.tc.loc main_arg1)) (ix2 i0 (colOf i1)) from rfl).trans (outR_apply _ _ i0 (colOf i1))

end reference

/-! ## The claims -/

/-- The reference runs to its end and keeps its arguments. -/
theorem frame_ref : Cert.quiescent_ShortConvFwdRefIdeal := fun m ρ _ =>
  (θ_run Cert.ShortConvFwdRefIdeal.defs _ _).mono (fun r h => ⟨fun c => (h c).2,
      Idealize.ShloMosaic.sem_eq_zero_of_no_sems (by decide) r.2⟩)
    (Cert.ShortConvFwdRefIdeal.Value.run (F := Ideal) m ρ)

/-- Kernel and reference end with equal results. -/
theorem algebraic : Cert.algebraic_ShortConvFwdIdeal_ShortConvFwdRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.ShortConvFwdProof

end
-- ==== Proof.SsdDt.lean ====
/-
The step sizes of the state and the running sums of their decays over each chunk of 128 positions. The kernel splits the
decays into three parts before it sums them, which changes nothing where they are finite.
-/
module

public import proofs.«01_k».proof.Proof.Gen.SsdDtIdeal.Value
public import proofs.«01_k».proof.Proof.Gen.SsdDtRefIdeal.Run
public import proofs.«01_k».proof.Proof.Gen.Pre_finite_steps
public import proofs.«01_k».proof.Proof.Finite
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.SsdDtProof

/-- The softplus function, in the form that does not overflow. -/
def softplus (x : EReal) : EReal := max x 0 + Ideal.log (1 + Ideal.exp (-max x (-x)))

/-- One where the column is no later than the row, else zero. -/
def tri (i j : ℕ) : EReal := if j ≤ i then 1 else 0

section arrays
variable (A0 : (⟨2, ![4096, 128]⟩ : Shape).Idx → EReal) (A1 A2 : (⟨2, ![1, 32]⟩ : Shape).Idx → EReal)

/-- A row of 32 numbers, zero beyond them. -/
def padded (A : (⟨2, ![1, 32]⟩ : Shape).Idx → EReal) (l : Fin 128) : EReal :=
  if h : l.val < 32 then A (ix2 0 ⟨l.val, h⟩) else 0

/-- The step size at a position and head. -/
def step (r : Fin 4096) (l : Fin 128) : EReal := softplus (A0 (ix2 r l) + padded A1 l)

/-- The decay's exponent at a position and head. -/
def decay (r : Fin 4096) (l : Fin 128) : EReal := step A0 A1 r l * -Ideal.exp (padded A2 l)

/-- Its sum over the positions of the same chunk up to this one. -/
def total (r : Fin 4096) (l : Fin 128) : EReal :=
  ∑ k : Fin 128, tri (r.val % 128) k.val * decay A0 A1 A2 ⟨r.val / 128 * 128 + k.val, by omega⟩ l

/-- The same, a row to each of the 32 heads. -/
def totalT (l : Fin 32) (r : Fin 4096) : EReal := total A0 A1 A2 r ⟨l.val, by omega⟩

/-! ## Finite values -/

theorem isReal_softplus {x : EReal} (h : Finite.IsReal x) : Finite.IsReal (softplus x) := by
  obtain ⟨a, rfl⟩ := h.exists
  have e : softplus (a : EReal) = ((max a 0 + Real.log (1 + Real.exp (-max a (-a))) : ℝ) : EReal) := by
    unfold softplus
    rw [← EReal.coe_neg, ← EReal.coe_zero, ← EReal.coe_strictMono.monotone.map_max, ← EReal.coe_strictMono.monotone.map_max, ← EReal.coe_neg, Ideal.exp_coe, ← EReal.coe_one,
      ← EReal.coe_add, Ideal.log_coe, if_neg (not_le.mpr (by positivity)), ← EReal.coe_add]
  rw [e]
  exact Finite.IsReal.coe _

theorem isReal_padded {A : (⟨2, ![1, 32]⟩ : Shape).Idx → EReal} (h : ∀ l : Fin 32, Finite.IsReal (A (ix2 0 l))) (l : Fin 128) :
    Finite.IsReal (padded A l) := by
  unfold padded
  split
  · exact h _
  · exact Finite.IsReal.coe 0

variable {A0 A1 A2}

theorem isReal_decay (h0 : ∀ (r : Fin 4096) (l : Fin 128), Finite.IsReal (A0 (ix2 r l))) (h1 : ∀ l : Fin 32, Finite.IsReal (A1 (ix2 0 l)))
    (h2 : ∀ l : Fin 32, Finite.IsReal (A2 (ix2 0 l))) (r : Fin 4096) (l : Fin 128) : Finite.IsReal (decay A0 A1 A2 r l) := by
  refine (isReal_softplus ((h0 r l).add (isReal_padded h1 l))).mul ?_
  obtain ⟨a, e⟩ := (isReal_padded h2 l).exists
  rw [e, Ideal.exp_coe, ← EReal.coe_neg]
  exact Finite.IsReal.coe _

end arrays

theorem sub_self {v : EReal} (h : Finite.IsReal v) : v - v = 0 := EReal.sub_self h.1 h.2

/-- The three parts' products sum to the product of the whole. -/
theorem three {ι : Type} [Fintype ι] (t v : ι → EReal) (h : ∀ x, Finite.IsReal (v x)) :
    (∑ x, t x * (v x - v x - (v x - v x))) + (∑ x, t x * (v x - v x)) + ∑ x, t x * v x = ∑ x, t x * v x := by
  have e : ∀ x, t x * (v x - v x) = 0 := fun x => by rw [sub_self (h x), mul_zero]
  have e' : ∀ x, t x * (v x - v x - (v x - v x)) = 0 := fun x => by rw [sub_self (h x), sub_zero, mul_zero]
  simp only [e, e', Finset.sum_const_zero, zero_add]

theorem toInt_small (n : ℕ) (h : n < 128) : (BitVec.ofNat 32 n).toInt = n := by
  have e : (BitVec.ofNat 32 n).toNat = n := by rw [BitVec.toNat_ofNat]; omega
  rw [BitVec.toInt_eq_toNat_of_lt (by omega), e]

theorem word_zero : FloatOps.sitofp (F := Ideal) FTy.f32 (0#32 : BitVec 32) = (0 : EReal) := by
  show (((0#32 : BitVec 32).toInt : ℝ) : EReal) = 0
  simp

/-- A comparison of two small positions, by their signed words. -/
theorem sle_word (i j : ℕ) (hi : i < 128) (hj : j < 128) :
    Scalar.select (IntOp.cmpi CmpIPredicate.sle (BitVec.ofNat 32 j) (BitVec.ofNat 32 i)) (1 : EReal) 0 = tri i j := by
  have h : IntOp.cmpi CmpIPredicate.sle (BitVec.ofNat 32 j) (BitVec.ofNat 32 i) = BitVec.ofBool (decide (j ≤ i)) := by
    show BitVec.ofBool (BitVec.sle _ _) = _
    rw [BitVec.sle_eq_decide, toInt_small i hi, toInt_small j hj]
    simp
  rw [h]
  unfold tri
  by_cases hji : j ≤ i <;> simp [hji, Scalar.select]

theorem sge_word (i j : ℕ) (hi : i < 128) (hj : j < 128) (v : EReal) :
    Scalar.select (IntOp.cmpi CmpIPredicate.sge (IntOp.addi (BitVec.ofNat 32 i) 0#32) (BitVec.ofNat 32 j)) v 0 = tri i j * v := by
  have h : IntOp.cmpi CmpIPredicate.sge (IntOp.addi (BitVec.ofNat 32 i) 0#32) (BitVec.ofNat 32 j) = BitVec.ofBool (decide (j ≤ i)) := by
    show BitVec.ofBool (BitVec.sle _ (_ + 0#32)) = _
    rw [BitVec.add_zero, BitVec.sle_eq_decide, toInt_small i hi, toInt_small j hj]
    simp
  rw [h]
  unfold tri
  by_cases hji : j ≤ i <;> simp [hji, Scalar.select]

theorem padded_low (A : (⟨2, ![1, 32]⟩ : Shape).Idx → EReal) (l : Fin 32) (h : l.val < 128) : padded A ⟨l.val, h⟩ = A (ix2 0 l) :=
  dif_pos l.isLt

section kernel
open Cert.SsdDtIdeal Cert.SsdDtIdeal.Gen

variable (m : (ℓ : Loc nD τ sig) → Buf (Elt Ideal) ℓ) (ρ : Dev nD → PrngReg)

/-! ## What one block step computes -/

theorem step_apply (x0 : Vec Ideal S128x128 .f32) (x2 : Vec Ideal S1x128 .f32) (r l : Fin 128) :
    k0_pay6 x0 x2 (ix2 r l) = softplus (x0 (ix2 r l) + x2 (ix2 0 l)) := by
  pointwise [k0_pay6]
  rw [zero_sub]
  rfl

theorem stepT_apply (x1 : Vec Ideal S32x128 .f32) (x3 : Vec Ideal S32x1 .f32) (l : Fin 32) (r : Fin 128) :
    k0_pay7 x1 x3 (ix2 l r) = softplus (x1 (ix2 l r) + x3 (ix2 l 0)) := by
  pointwise [k0_pay7]
  rw [zero_sub]
  rfl

theorem tri_apply (r l : Fin 128) :
    k0_pay1 (F := Ideal) k0_pay8 (Scalar.ofBits .f32 0x00000000#32) k0_pay9 (ix2 r l) = tri r.val l.val := by
  pointwise [k0_pay8, k0_pay1, k0_pay9]
  exact sle_word _ _ r.isLt l.isLt

theorem total_apply (x4 : FVec Ideal S1x128 .f32) (d : FVec Ideal S128x128 .f32) (r l : Fin 128)
    (D : Fin 128 → EReal)
    (hD : ∀ k, d (ix2 k l) * -Ideal.exp (x4 (ix2 0 l)) = D k) (h : ∀ k, Finite.IsReal (D k)) :
    k0_pay2 (F := Ideal) (k0_pay4 x4) d k0_pay8 (Scalar.ofBits .f32 0x00000000#32) k0_pay9 (ix2 r l)
      = ∑ k : Fin 128, tri r.val k.val * D k := by
  simp only [← tri_apply]
  generalize hT : k0_pay1 (F := Ideal) k0_pay8 (Scalar.ofBits .f32 0x00000000#32) k0_pay9 = T
  unfold k0_pay2
  rw [hT]
  pointwise [k0_pay4]
  simp only [zero_sub, hD]
  exact three (fun k => T (ix2 r k)) _ h

theorem totalT_apply (x5 : FVec Ideal S32x1 .f32) (d : FVec Ideal S32x128 .f32) (l : Fin 32) (r : Fin 128)
    (D : Fin 128 → EReal)
    (hD : ∀ k, d (ix2 l k) * -Ideal.exp (x5 (ix2 l 0)) = D k) (h : ∀ k, Finite.IsReal (D k)) :
    k0_pay3 (F := Ideal) (k0_pay5 x5) d k0_pay8 (Scalar.ofBits .f32 0x00000000#32) k0_pay9 (ix2 l r)
      = ∑ k : Fin 128, tri r.val k.val * D k := by
  simp only [← tri_apply]
  generalize hT : k0_pay1 (F := Ideal) k0_pay8 (Scalar.ofBits .f32 0x00000000#32) k0_pay9 = T
  unfold k0_pay3
  rw [hT]
  pointwise [k0_pay5]
  simp only [zero_sub, hD, mul_comm _ (T _)]
  exact three (fun k => T (ix2 r k)) _ h

/-! ## The blocks of each grid point -/

theorem idx : ∀ t : Fin cfg0.N, win0_0.index t = ![t.val, 0] ∧ win0_1.index t = ![0, t.val] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![0, t.val] :=
  (by decide +kernel : ∀ t : Fin grid0.N, _)

/-- The position a row of a point's block stands for. -/
def at' (t : Fin cfg0.N) (r : Fin 128) : Fin 4096 := ⟨t.val * 128 + r.val, by have := lt_of_lt_of_eq t.isLt N_0; omega⟩

theorem blk0 (c : Dev nD) (t : Fin cfg0.N) (r l : Fin 128) :
    iblk m c 0 t (ix2 r l) = m (c.tc.loc main_arg0) (ix2 (at' t r) l) := by
  blk_ext [iblk, V, idx t, at']

theorem rows (c : Dev nD) (l : Fin 32) (r : Fin 4096) :
    V m c main_v5 (ix2 l r) = m (c.tc.loc main_arg0) (ix2 r ⟨l.val, by omega⟩) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  pointwise

theorem blk1 (c : Dev nD) (t : Fin cfg0.N) (l : Fin 32) (r : Fin 128) :
    iblk m c 1 t (ix2 l r) = m (c.tc.loc main_arg0) (ix2 (at' t r) ⟨l.val, by omega⟩) := by
  refine Eq.trans ?_ (rows m c l (at' t r))
  blk_ext [iblk, idx t, at']

theorem bias (c : Dev nD) (l : Fin 128) : V m c main_v0 (ix2 0 l) = padded (m (c.tc.loc main_arg1)) l := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  pointwise
  rw [word_zero]
  rfl

theorem blk2 (c : Dev nD) (t : Fin cfg0.N) (l : Fin 128) : iblk m c 2 t (ix2 0 l) = padded (m (c.tc.loc main_arg1)) l := by
  refine Eq.trans ?_ (bias m c l)
  blk_ext [iblk, idx t, at']

theorem biasT (c : Dev nD) (l : Fin 32) : V m c main_v1 (ix2 l 0) = m (c.tc.loc main_arg1) (ix2 0 l) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  pointwise

theorem blk3 (c : Dev nD) (t : Fin cfg0.N) (l : Fin 32) : iblk m c 3 t (ix2 l 0) = m (c.tc.loc main_arg1) (ix2 0 l) := by
  refine Eq.trans ?_ (biasT m c l)
  blk_ext [iblk, idx t, at']

theorem rate (c : Dev nD) (l : Fin 128) : V m c main_v2 (ix2 0 l) = padded (m (c.tc.loc main_arg2)) l := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  pointwise
  rw [word_zero]
  rfl

theorem blk4 (c : Dev nD) (t : Fin cfg0.N) (l : Fin 128) : iblk m c 4 t (ix2 0 l) = padded (m (c.tc.loc main_arg2)) l := by
  refine Eq.trans ?_ (rate m c l)
  blk_ext [iblk, idx t, at']

theorem rateT (c : Dev nD) (l : Fin 32) : V m c main_v3 (ix2 l 0) = m (c.tc.loc main_arg2) (ix2 0 l) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  pointwise

theorem blk5 (c : Dev nD) (t : Fin cfg0.N) (l : Fin 32) : iblk m c 5 t (ix2 l 0) = m (c.tc.loc main_arg2) (ix2 0 l) := by
  refine Eq.trans ?_ (rateT m c l)
  blk_ext [iblk, idx t, at']

/-! ## The results -/

theorem point6 (c : Dev nD) (t : Fin cfg0.N) (r l : Fin 128) :
    k0_pay6 (F := Ideal) (iblk m c 0 t) (iblk m c 2 t) (ix2 r l) = step (m (c.tc.loc main_arg0)) (m (c.tc.loc main_arg1)) (at' t r) l := by
  rw [step_apply, blk0, blk2]
  rfl

theorem point6T (c : Dev nD) (t : Fin cfg0.N) (l : Fin 32) (r : Fin 128) :
    k0_pay7 (F := Ideal) (iblk m c 1 t) (iblk m c 3 t) (ix2 l r) = step (m (c.tc.loc main_arg0)) (m (c.tc.loc main_arg1)) (at' t r) ⟨l.val, by omega⟩ := by
  rw [stepT_apply, blk1, blk3]
  unfold step
  rw [padded_low]

theorem final6 (c : Dev nD) : (dats m 0 c).arrAt 6 cfg0.N = fun i => step (m (c.tc.loc main_arg0)) (m (c.tc.loc main_arg1)) (i 0) (i 1) := by
  refine (dats m 0 c).arrAt_eq_of_covers 6 _ (by decide +kernel) fun t hf y => ?_
  have hN : t.val < 32 := lt_of_lt_of_eq t.isLt N_0
  blk_simp
  rw [after0_6]
  unfold_out out0_6
  frame_out
  idx_vars y
  refine (point6 m c t y0 y1).trans (congrArg₂ _ (Fin.ext ?_) (Fin.ext ?_)) <;> blk_simp [idx t, at']

section finite
variable (hfin : ∀ (c : Dev nD) (r : Fin 4096) (l : Fin 128), Finite.IsReal (decay (m (c.tc.loc main_arg0)) (m (c.tc.loc main_arg1)) (m (c.tc.loc main_arg2)) r l))
include hfin

omit hfin in
/-- A block's sums are the chunk's. -/
theorem sum_at (c : Dev nD) (t : Fin cfg0.N) (r l : Fin 128) :
    ∑ k : Fin 128, tri r.val k.val * decay (m (c.tc.loc main_arg0)) (m (c.tc.loc main_arg1)) (m (c.tc.loc main_arg2)) (at' t k) l = total (m (c.tc.loc main_arg0)) (m (c.tc.loc main_arg1)) (m (c.tc.loc main_arg2)) (at' t r) l := by
  unfold total
  refine Finset.sum_congr rfl fun k _ => congrArg₂ (· * ·) (congrArg (tri · k.val) ?_) (congrArg (decay (m (c.tc.loc main_arg0)) (m (c.tc.loc main_arg1)) (m (c.tc.loc main_arg2)) · l) (Fin.ext ?_))
  · show r.val = (t.val * 128 + r.val) % 128
    omega
  · show t.val * 128 + k.val = (t.val * 128 + r.val) / 128 * 128 + k.val
    omega

theorem point7 (c : Dev nD) (t : Fin cfg0.N) (r l : Fin 128) :
    k0_pay2 (F := Ideal) (k0_pay4 (iblk m c 4 t)) (k0_pay6 (iblk m c 0 t) (iblk m c 2 t)) k0_pay8 (Scalar.ofBits .f32 0x00000000#32) k0_pay9 (ix2 r l)
      = total (m (c.tc.loc main_arg0)) (m (c.tc.loc main_arg1)) (m (c.tc.loc main_arg2)) (at' t r) l := by
  refine (total_apply (iblk m c 4 t) _ r l (fun k => decay (m (c.tc.loc main_arg0)) (m (c.tc.loc main_arg1)) (m (c.tc.loc main_arg2)) (at' t k) l) (fun k => ?_) (fun k => hfin c _ _)).trans (sum_at m c t r l)
  rw [point6, blk4]
  rfl

theorem point8 (c : Dev nD) (t : Fin cfg0.N) (l : Fin 32) (r : Fin 128) :
    k0_pay3 (F := Ideal) (k0_pay5 (iblk m c 5 t)) (k0_pay7 (iblk m c 1 t) (iblk m c 3 t)) k0_pay8 (Scalar.ofBits .f32 0x00000000#32) k0_pay9 (ix2 l r)
      = totalT (m (c.tc.loc main_arg0)) (m (c.tc.loc main_arg1)) (m (c.tc.loc main_arg2)) l (at' t r) := by
  refine (totalT_apply (iblk m c 5 t) _ l r (fun k => decay (m (c.tc.loc main_arg0)) (m (c.tc.loc main_arg1)) (m (c.tc.loc main_arg2)) (at' t k) ⟨l.val, by omega⟩) (fun k => ?_)
    (fun k => hfin c _ _)).trans (sum_at m c t r ⟨l.val, by omega⟩)
  rw [point6T, blk5]
  unfold decay
  rw [padded_low]

theorem final7 (c : Dev nD) : (dats m 0 c).arrAt 7 cfg0.N = fun i => total (m (c.tc.loc main_arg0)) (m (c.tc.loc main_arg1)) (m (c.tc.loc main_arg2)) (i 0) (i 1) := by
  refine (dats m 0 c).arrAt_eq_of_covers 7 _ (by decide +kernel) fun t hf y => ?_
  have hN : t.val < 32 := lt_of_lt_of_eq t.isLt N_0
  blk_simp
  rw [after0_7]
  unfold_out out0_7
  frame_out
  idx_vars y
  refine (point7 m hfin c t y0 y1).trans (congrArg₂ _ (Fin.ext ?_) (Fin.ext ?_)) <;> blk_simp [idx t, at']

theorem final8 (c : Dev nD) : (dats m 0 c).arrAt 8 cfg0.N = fun i => totalT (m (c.tc.loc main_arg0)) (m (c.tc.loc main_arg1)) (m (c.tc.loc main_arg2)) (i 0) (i 1) := by
  refine (dats m 0 c).arrAt_eq_of_covers 8 _ (by decide +kernel) fun t hf y => ?_
  have hN : t.val < 32 := lt_of_lt_of_eq t.isLt N_0
  blk_simp
  rw [after0_8]
  unfold_out out0_8
  frame_out
  idx_vars y
  refine (point8 m hfin c t y0 y1).trans (congrArg₂ _ (Fin.ext ?_) (Fin.ext ?_)) <;> blk_simp [idx t, at']

/-- The kernel's run: where the decays are finite its results are the step sizes and the running sums, twice. -/
theorem kernel_run : θ_run defs (onTc (τ := τ) (main (F := Ideal))) ⟨m, fun _ => 0, ρ⟩ fun r => ∀ c : Dev nD,
      r.2.mem (c.tc.loc main_v6_0) = (fun i => step (m (c.tc.loc main_arg0)) (m (c.tc.loc main_arg1)) (i 0) (i 1))
      ∧ r.2.mem (c.tc.loc main_v6_1) = (fun i => total (m (c.tc.loc main_arg0)) (m (c.tc.loc main_arg1)) (m (c.tc.loc main_arg2)) (i 0) (i 1))
      ∧ r.2.mem (c.tc.loc main_v6_2) = (fun i => totalT (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final6 m c), (h c).2.1.trans (final7 m hfin c), (h c).2.2.1.trans (final8 m hfin c),
      (h c).2.2.2⟩) (Cert.SsdDtIdeal.Value.run_blocks (F := Ideal) m ρ)

end finite

end kernel

/-! ## The precondition, element by element -/

section finite
open Cert.Pre_finite_steps

/-- Under the precondition every decay is a real number. -/
theorem isReal_of_pre (a0 : FVec Ideal S4096x128 .f32) (a1 a2 : FVec Ideal S1x32 .f32)
    (h : Cert.Pre_finite_steps.fn (F := Ideal) a0 a1 a2 = fun _ => 1#1) (r : Fin 4096) (l : Fin 128) :
    Finite.IsReal (decay a0 a1 a2 r l) := by
  have h0 := congrFun h (fun i => i.elim0)
  refine isReal_decay (fun r l => ?_) (fun l => ?_) (fun l => ?_) r l
  · exact Finite.isReal_of_test (Finite.all_apply _ _ _ _ _ (Finite.andi_left (Finite.andi_left h0)) (ix2 r l))
  · exact Finite.isReal_of_test (Finite.all_apply _ _ _ _ _ (Finite.andi_right (Finite.andi_left h0)) (ix2 0 l))
  · exact Finite.isReal_of_test (Finite.all_apply _ _ _ _ _ (Finite.andi_right h0) (ix2 0 l))

end finite

/-! ## The reference -/

section reference
open Cert.SsdDtRefIdeal Cert.SsdDtRefIdeal.Gen
variable (m : (ℓ : Loc nD τ sig) → Buf (Elt Ideal) ℓ) (ρ : Dev nD → PrngReg)

/-- The reference's run: its results are the step sizes and the running sums, twice. -/
theorem ref_run :
    θ_run defs (onTc (τ := τ) (main (F := Ideal))) ⟨m, fun _ => 0, ρ⟩ fun r => ∀ c : Dev nD,
      r.2.mem (c.tc.loc main_v4) = (fun i => step (m (c.tc.loc main_arg0)) (m (c.tc.loc main_arg1)) (i 0) (i 1))
      ∧ r.2.mem (c.tc.loc main_v16) = (fun i => total (m (c.tc.loc main_arg0)) (m (c.tc.loc main_arg1)) (m (c.tc.loc main_arg2)) (i 0) (i 1))
      ∧ r.2.mem (c.tc.loc main_v18) = (fun i => totalT (m (c.tc.loc main_arg0)) (m (c.tc.loc main_arg1)) (m (c.tc.loc main_arg2)) (i 0) (i 1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2.1.trans ?_, (h c).2.2.1.trans ?_, (h c).2.2.2⟩)
    (Cert.SsdDtRefIdeal.Value.run (F := Ideal) m ρ)
  · clear h; funext i; idx_vars i; clean_types; pointwise
    rw [if_neg (by simp)]
    rfl
  · clear h; funext i; idx_vars i; clean_types; pointwise
    unfold total
    refine Finset.sum_congr rfl fun x _ => ?_
    rw [sge_word _ _ (by omega) x.isLt, if_neg (by simp)]
    rfl
  · clear h; funext i; idx_vars i; clean_types; pointwise
    unfold totalT total
    refine Finset.sum_congr rfl fun x _ => ?_
    rw [sge_word _ _ (by omega) x.isLt, if_neg (by simp)]
    unfold decay step
    rw [padded_low, padded_low]
    rfl

end reference

/-! ## The claims -/

/-- The reference runs to its end and keeps its arguments. -/
theorem frame_ref : Cert.quiescent_SsdDtRefIdeal := fun m ρ _ =>
  (θ_run Cert.SsdDtRefIdeal.defs _ _).mono (fun r h => ⟨fun c => (h c).2.2.2,
      Idealize.ShloMosaic.sem_eq_zero_of_no_sems (by decide) r.2⟩)
    (Cert.SsdDtRefIdeal.Value.run (F := Ideal) m ρ)

/-- Kernel and reference end with equal results where the arguments are finite. -/
theorem algebraic : Cert.algebraic_SsdDtIdeal_SsdDtRefIdeal_pre_finite_steps := by
  intro m g m' g' hpre hargs
  refine ⟨_, _, _, kernel_run m g fun c r l => isReal_of_pre _ _ _ (hpre c) r l, ?_⟩
  refine (θ_run _ _ _).mono (fun r h c => ?_) (ref_run m' g')
  obtain ⟨a0, a1, a2⟩ := hargs c
  obtain ⟨h0, h1, h2, hk⟩ := h c
  rw [a0, a1] at h0
  rw [a0, a1, a2] at h1 h2
  exact ⟨h0, h1, h2, hk⟩
end Cert.SsdDtProof

end
-- ==== Proof.SsmConv.lean ====
/-
  The four-tap causal convolution with bias and gate that the state-space branch applies to its 4096 channels, columns 2048
  to 6143 of the projections: block of 128 columns by block against the plain text on the whole array.
-/
module

public import proofs.«01_k».proof.Proof.Gen.SsmConvIdeal.Value
public import proofs.«01_k».proof.Proof.Gen.SsmConvRefIdeal.Run
public import proofs.«01_k».proof.Proof.Conv4
public import proofs.«01_k».proof.Defs
public import Idealize.ShloMosaic.Lib.Pointwise
public import Idealize.ShloMosaic.Lib.Affine
public import Idealize.ShloMosaic.Lib.Tactic.CleanTypes
public import Idealize.ShloMosaic.Lib.Pipeline.ValueKit

@[expose] public section

set_option maxRecDepth 16384

noncomputable section

open Idealize.ShloMosaic Idealize.ShloMosaic.TcCoe Idealize.SL.Sem Idealize.ShloMosaic.Pointwise
open Cert.ShortConv (later earlier)

namespace Cert.SsmConvProof

section arrays
variable (A0 : (⟨2, ![4096, 12288]⟩ : Shape).Idx → EReal) (A1 : (⟨2, ![4, 4096]⟩ : Shape).Idx → EReal) (A2 : (⟨2, ![1, 4096]⟩ : Shape).Idx → EReal)

/-- A column to convolve. -/
def xcol (l : Fin 4096) (r : Fin 4096) : EReal := A0 (ix2 r ⟨2048 + l.val, by omega⟩)
/-- The convolution before its gate. -/
def pre (l : Fin 4096) (r : Fin 4096) : EReal := Conv4.conv (xcol A0 l) (fun k => A1 (ix2 k l)) (A2 (ix2 0 l)) r
/-- The gated convolution. -/
def out (l : Fin 4096) (r : Fin 4096) : EReal := Conv4.silu (pre A0 A1 A2 l r)

end arrays

section kernel
open Cert.SsmConvIdeal Cert.SsmConvIdeal.Gen

variable (m : (ℓ : Loc nD τ sig) → Buf (Elt Ideal) ℓ) (ρ : Dev nD → PrngReg)

theorem pay2_apply (x0 : Vec Ideal S4096x128 .bf16) (w : Vec Ideal S4x128 .f32) (b : Vec Ideal S1x128 .f32) (r : Fin 4096) (l : Fin 128) :
    k0_pay2 x0 w b (ix2 r l) = Conv4.conv (fun r => x0 (ix2 r l)) (fun k => w (ix2 k l)) (b (ix2 0 l)) r := by
  pointwise [k0_pay2]
  rw [Conv4.down_mul (fun r => x0 (ix2 r l)) 3 (by omega), Conv4.down_mul (fun r => x0 (ix2 r l)) 2 (by omega),
    Conv4.down_mul (fun r => x0 (ix2 r l)) 1 (by omega)]
  rfl

theorem pay1_apply (x0 : Vec Ideal S4096x128 .bf16) (w : Vec Ideal S4x128 .f32) (b : Vec Ideal S1x128 .f32) (r : Fin 4096) (l : Fin 128) :
    k0_pay1 (k0_pay2 x0 w b) (k0_pay3 x0 w b) (ix2 r l)
      = Conv4.silu (Conv4.conv (fun r => x0 (ix2 r l)) (fun k => w (ix2 k l)) (b (ix2 0 l)) r) := by
  rw [← pay2_apply]
  pointwise [k0_pay1, k0_pay3]
  rw [zero_sub]
  rfl

theorem idx : ∀ t : Fin cfg0.N, win0_0.index t = ![0, 16 + t.val] ∧ win0_1.index t = ![0, t.val] ∧ win0_2.index t = ![0, t.val] ∧ win0_3.index t = ![0, t.val] :=
  (by decide +kernel : ∀ t : Fin grid0.N, _)

/-- The column of the whole arrays that column `l` of point `t`'s blocks is. -/
def colAt (t : Fin cfg0.N) (l : Fin 128) : Fin 4096 := ⟨t.val * 128 + l.val, by have := lt_of_lt_of_eq t.isLt N_0; omega⟩

section point
variable (c : Dev nD) (t : Fin cfg0.N) (l : Fin 128) (r : Fin 4096) (k : Fin 4)

theorem blk0 : iblk m c 0 t (ix2 r l) = xcol (m (c.tc.loc main_arg0)) (colAt t l) r := by
  unfold xcol colAt; blk_ext [iblk, V, idx t]
theorem blk1 : iblk m c 1 t (ix2 k l) = (show (⟨2, ![4, 4096]⟩ : Shape).Idx → EReal from (m (c.tc.loc main_arg1))) (ix2 k (colAt t l)) := by
  unfold colAt; blk_ext [iblk, V, idx t]
theorem blk2 : iblk m c 2 t (ix2 0 l) = (show (⟨2, ![1, 4096]⟩ : Shape).Idx → EReal from (m (c.tc.loc main_arg2))) (ix2 0 (colAt t l)) := by
  unfold colAt; blk_ext [iblk, V, idx t]

theorem point3 : k0_pay1 (k0_pay2 (iblk m c 0 t) (iblk m c 1 t) (iblk m c 2 t)) (k0_pay3 (iblk m c 0 t) (iblk m c 1 t) (iblk m c 2 t)) (ix2 r l)
    = out (m (c.tc.loc main_arg0)) (m (c.tc.loc main_arg1)) (m (c.tc.loc main_arg2)) (colAt t l) r := by
  rw [pay1_apply]
  simp only [blk0, blk1, blk2]
  rfl

end point

theorem final3 (c : Dev nD) : (dats m 0 c).arrAt 3 cfg0.N = (fun i => out (m (c.tc.loc main_arg0)) (m (c.tc.loc main_arg1)) (m (c.tc.loc main_arg2)) (i 1) (i 0)) := by
  refine (dats m 0 c).arrAt_eq_of_covers 3 _ (by decide +kernel) fun t hf y => ?_
  blk_simp
  rw [after0_3]
  frame_out
  idx_vars y
  refine (point3 m c t y1 y0).trans (congrArg₂ _ (Fin.ext ?_) (Fin.ext ?_)) <;> (try unfold colAt) <;> blk_simp [idx t]
  all_goals (try dsimp only)
  all_goals omega

/-- The kernel's run: its results are the values named above, and it keeps its arguments. -/
theorem kernel_run : θ_run defs (onTc (τ := τ) (main (F := Ideal))) ⟨m, fun _ => 0, ρ⟩ fun r => ∀ c : Dev nD,
      r.2.mem (c.tc.loc main_v0) = (fun i => out (m (c.tc.loc main_arg0)) (m (c.tc.loc main_arg1)) (m (c.tc.loc main_arg2)) (i 1) (i 0))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (final3 m c), (h c).2⟩)
    (Cert.SsmConvIdeal.Value.run_blocks (F := Ideal) m ρ)

end kernel

/-! ## The reference -/

section reference
open Cert.SsmConvRefIdeal Cert.SsmConvRefIdeal.Gen

variable (m : (ℓ : Loc nD τ sig) → Buf (Elt Ideal) ℓ) (ρ : Dev nD → PrngReg)

/-- The columns with three zeros in front. -/
def padX (A0 : FVec Ideal S4096x12288 .bf16) : FVec Ideal S1x4099x4096 .f32 :=
  Value.fn_main_v4 (F := Ideal) ((broadcastInDim S1x3x4096 ![] bcast_S_S1x3x4096 (constant S_ .f32 0x00000000#32)) : FVec Ideal S1x3x4096 .f32) ((extf .f32 (broadcastInDim S1x4096x4096 ![1, 2] bcast_S4096x4096_S1x4096x4096_1_2 (extractStridedSlice S4096x4096 ![0, 2048] A0 slices_S4096x12288_S4096x4096_0_2048)) bitsLt_bf16_f32) : FVec Ideal S1x4096x4096 .f32)

/-- The convolution before its gate. -/
def preR (A0 : FVec Ideal S4096x12288 .bf16) (A1 : FVec Ideal S4x4096 .f32) (A2 : FVec Ideal S1x4096 .f32) : FVec Ideal S1x4096x4096 .f32 :=
  addf (addf (addf (addf (mulf (extractStridedSlice S1x4096x4096 ![0, 3, 0] (padX A0) slices_S1x4099x4096_S1x4096x4096_0_3_0) (broadcastInDim S1x4096x4096 ![0, 1, 2] bcast_S1x1x4096_S1x4096x4096_0_1_2 (broadcastInDim S1x1x4096 ![2] bcast_S4096_S1x1x4096_2 (shapeCast S4096 (extractStridedSlice S1x4096 ![3, 0] A1 slices_S4x4096_S1x4096_3_0) shapeCasts_S1x4096_S4096)))) (mulf (extractStridedSlice S1x4096x4096 ![0, 0, 0] (padX A0) slices_S1x4099x4096_S1x4096x4096_0_0_0) (broadcastInDim S1x4096x4096 ![0, 1, 2] bcast_S1x1x4096_S1x4096x4096_0_1_2 (broadcastInDim S1x1x4096 ![2] bcast_S4096_S1x1x4096_2 (shapeCast S4096 (extractStridedSlice S1x4096 ![0, 0] A1 slices_S4x4096_S1x4096_0_0) shapeCasts_S1x4096_S4096))))) (mulf (extractStridedSlice S1x4096x4096 ![0, 1, 0] (padX A0) slices_S1x4099x4096_S1x4096x4096_0_1_0) (broadcastInDim S1x4096x4096 ![0, 1, 2] bcast_S1x1x4096_S1x4096x4096_0_1_2 (broadcastInDim S1x1x4096 ![2] bcast_S4096_S1x1x4096_2 (shapeCast S4096 (extractStridedSlice S1x4096 ![1, 0] A1 slices_S4x4096_S1x4096_1_0) shapeCasts_S1x4096_S4096))))) (mulf (extractStridedSlice S1x4096x4096 ![0, 2, 0] (padX A0) slices_S1x4099x4096_S1x4096x4096_0_2_0) (broadcastInDim S1x4096x4096 ![0, 1, 2] bcast_S1x1x4096_S1x4096x4096_0_1_2 (broadcastInDim S1x1x4096 ![2] bcast_S4096_S1x1x4096_2 (shapeCast S4096 (extractStridedSlice S1x4096 ![2, 0] A1 slices_S4x4096_S1x4096_2_0) shapeCasts_S1x4096_S4096))))) (broadcastInDim S1x4096x4096 ![0, 1, 2] bcast_S1x1x4096_S1x4096x4096_0_1_2 (broadcastInDim S1x1x4096 ![1, 2] bcast_S1x4096_S1x1x4096_1_2 A2))

/-- The gated convolution. -/
def outR (A0 : FVec Ideal S4096x12288 .bf16) (A1 : FVec Ideal S4x4096 .f32) (A2 : FVec Ideal S1x4096 .f32) : FVec Ideal S4096x4096 .bf16 :=
  truncf .bf16 (shapeCast S4096x4096 (mulf (preR A0 A1 A2) (Host.divf ((broadcastInDim S1x4096x4096 ![] bcast_S_S1x4096x4096) (constant S_ .f32 0x3F800000#32)) (addf ((broadcastInDim S1x4096x4096 ![] bcast_S_S1x4096x4096) (constant S_ .f32 0x3F800000#32)) (Host.exp (Host.negf (preR A0 A1 A2)))))) shapeCasts_S1x4096x4096_S4096x4096) bitsLt_bf16_f32

section cuts
variable (A0 : FVec Ideal S4096x12288 .bf16) (A1 : FVec Ideal S4x4096 .f32) (A2 : FVec Ideal S1x4096 .f32)

theorem padX_apply (x : Fin 4099) (l : Fin 4096) : padX A0 (ix3 0 x l) = if h : x.val < 3 then 0 else xcol A0 l ⟨x.val - 3, by omega⟩ := by
  unfold padX
  pointwise [Value.fn_main_v4]
  rfl

theorem padX_at (j : Nat) (hj : j ≤ 3) (r : Fin 4096) (l : Fin 4096) (x : Fin 4099) (hx : x.val = j + r.val) :
    padX A0 (ix3 0 x l) = later (3 - j) (xcol A0 l) r := by
  obtain ⟨x, hx'⟩ := x
  simp only at hx
  subst hx
  rw [padX_apply]
  exact Conv4.padded (xcol A0 l) j hj r

theorem preR_apply (r : Fin 4096) (l : Fin 4096) : preR A0 A1 A2 (ix3 0 r l) = pre A0 A1 A2 l r := by
  have e3 := padX_at A0 3 (by omega) r l ⟨3 + r.val, by omega⟩ rfl
  have e2 := padX_at A0 2 (by omega) r l ⟨2 + r.val, by omega⟩ rfl
  have e1 := padX_at A0 1 (by omega) r l ⟨1 + r.val, by omega⟩ rfl
  have e0 := padX_at A0 0 (by omega) r l ⟨r.val, by omega⟩ (Nat.zero_add _).symm
  unfold preR
  generalize padX A0 = p at e0 e1 e2 e3 ⊢
  pointwise
  rw [e0, e1, e2, e3, Conv4.later_zero]
  rfl

theorem outR_apply (r : Fin 4096) (l : Fin 4096) : outR A0 A1 A2 (ix2 r l) = out A0 A1 A2 l r := by
  unfold outR out
  rw [← preR_apply]
  generalize preR A0 A1 A2 = p
  pointwise
  rfl

end cuts

variable (m : (ℓ : Loc nD τ sig) → Buf (Elt Ideal) ℓ) (ρ : Dev nD → PrngReg)

/-- The reference's run: the same results. -/
theorem ref_run : θ_run defs (onTc (τ := τ) (main (F := Ideal))) ⟨m, fun _ => 0, ρ⟩ fun r => ∀ c : Dev nD,
      r.2.mem (c.tc.loc main_v37) = (fun i => out (m (c.tc.loc main_arg0)) (m (c.tc.loc main_arg1)) (m (c.tc.loc main_arg2)) (i 1) (i 0))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ⟨(h c).1.trans ?_, (h c).2⟩)
    (Cert.SsmConvRefIdeal.Value.run (F := Ideal) m ρ)
  · clear h; funext i; idx_vars i; exact (show _ = outR (m (c.tc.loc main_arg0)) (m (c.tc.loc main_arg1)) (m (c.tc.loc main_arg2)) (ix2 i0 i1) from rfl).trans (outR_apply _ _ _ i0 i1)

end reference

/-! ## The claims -/

/-- The reference runs to its end and keeps its arguments. -/
theorem frame_ref : Cert.quiescent_SsmConvRefIdeal := fun m ρ _ =>
  (θ_run Cert.SsmConvRefIdeal.defs _ _).mono (fun r h => ⟨fun c => (h c).2,
      Idealize.ShloMosaic.sem_eq_zero_of_no_sems (by decide) r.2⟩)
    (Cert.SsmConvRefIdeal.Value.run (F := Ideal) m ρ)

/-- Kernel and reference end with equal results. -/
theorem algebraic : Cert.algebraic_SsmConvIdeal_SsmConvRefIdeal := by
  intro m g m' g' _ hargs
  refine ⟨_, kernel_run m g, ?_⟩
  refine (θ_run _ _ _).mono (fun r h c => ?_) (ref_run m' g')
  obtain ⟨a0, a1, a2⟩ := hargs c
  obtain ⟨h0, hk⟩ := h c
  rw [a0, a1, a2] at h0
  exact ⟨h0, hk⟩

end Cert.SsmConvProof

end
-- ==== Proof.UpGrad.lean ====
/-
The gradient in the up projection's weights: the product of the transposed cotangent with the normed input, accumulated
over two halves of the 4096 positions.
-/
module

public import proofs.«01_k».proof.Proof.Gen.UpGradIdeal.Value
public import proofs.«01_k».proof.Proof.Gen.UpGradRefIdeal.Run
public import proofs.«01_k».proof.Defs
public import proofs.«01_k».proof.Proof.Sums
public import Idealize.ShloMosaic.Lib.Pointwise
public import Idealize.ShloMosaic.Lib.Affine
public import Idealize.ShloMosaic.Lib.Tactic.CleanTypes
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.UpGradProof

/-- The result at row `r` and column `l`, from the arguments. -/
def val (A0 : (⟨2, ![4096, 5632]⟩ : Shape).Idx → EReal) (A1 : (⟨2, ![4096, 2048]⟩ : Shape).Idx → EReal)
    (r : Fin 5632) (l : Fin 2048) : EReal :=
  (∑ k : Fin 4096, A0 (ix2 k r) * A1 (ix2 k l))

section kernel
open Cert.UpGradIdeal Cert.UpGradIdeal.Gen

variable (m : (ℓ : Loc nD τ sig) → Buf (Elt Ideal) ℓ) (ρ : Dev nD → PrngReg)

/-! ## What one block step computes -/

theorem first_apply (x0 : Vec Ideal S2048x1408 .bf16) (x1 : Vec Ideal S2048x1024 .bf16) (r : Fin 1408) (l : Fin 1024) :
    k0_pay2 x0 x1 (ix2 r l) = ∑ k : Fin 2048, x0 (ix2 k r) * x1 (ix2 k l) := by
  pointwise [k0_pay2, k0_pay1]

theorem last_apply (x0 : Vec Ideal S2048x1408 .bf16) (x1 : Vec Ideal S2048x1024 .bf16) (a : Vec Ideal S1408x1024 .f32) (r : Fin 1408) (l : Fin 1024) :
    k0_pay4 x0 x1 a (ix2 r l) = a (ix2 r l) + (∑ k : Fin 2048, x0 (ix2 k r) * x1 (ix2 k l)) := by
  pointwise [k0_pay4, k0_pay1]

/-! ## The blocks of each grid point -/

theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

theorem blk0 (c : Dev nD) (t : Fin cfg0.N) (k : Fin 2048) (r : Fin 1408) :
    iblk m c 0 t (ix2 k r) = m (c.tc.loc main_arg0) (ix2 ⟨t.val % 2 * 2048 + k.val, by omega⟩ ⟨t.val / 4 * 1408 + r.val, by have := lt_of_lt_of_eq t.isLt N_0; omega⟩) := by
  blk_ext [iblk, V, idx t]

theorem blk1 (c : Dev nD) (t : Fin cfg0.N) (k : Fin 2048) (l : Fin 1024) :
    iblk m c 1 t (ix2 k l) = m (c.tc.loc main_arg1) (ix2 ⟨t.val % 2 * 2048 + k.val, by omega⟩ ⟨t.val / 2 % 2 * 1024 + l.val, by have := lt_of_lt_of_eq t.isLt N_0; omega⟩) := by
  blk_ext [iblk, V, idx t]

/-! ## The running sum, and the result -/

theorem scratch_apply (c : Dev nD) (t : Fin cfg0.N) (h0 : t.val % 2 = 0) (r : Fin 1408) (l : Fin 1024) :
    (outsAt0 m c t.val t.isLt).2 (ix2 r l)
      = ∑ k : Fin 2048, (show Vec Ideal S2048x1408 .bf16 from iblk m c 0 t) (ix2 k r)
          * (show Vec Ideal S2048x1024 .bf16 from iblk m c 1 t) (ix2 k l) := by
  rw [outsAt0_A m c t h0 (by omega)]
  dsimp only
  frame_out
  exact first_apply _ _ _ _

theorem point (c : Dev nD) (t : Fin cfg0.N) (h1 : t.val % 2 = 1) (r : Fin 1408) (l : Fin 1024) (hb) :
    k0_pay4 (F := Ideal) (iblk m c 0 t) (iblk m c 1 t)
      (View.read (Elt Ideal) (View.whole cc0_scratch0) ((Memref.isWhole_whole (cc0_scratch0)).unread (outsAt0 m c (t.val - 1) hb).2))
      (ix2 r l) = val (m (c.tc.loc main_arg0)) (m (c.tc.loc main_arg1)) ⟨t.val / 4 * 1408 + r.val, by have := lt_of_lt_of_eq t.isLt N_0; omega⟩ ⟨t.val / 2 % 2 * 1024 + l.val, by have := lt_of_lt_of_eq t.isLt N_0; omega⟩ := by
  have hN : t.val < 16 := lt_of_lt_of_eq t.isLt N_0
  rw [last_apply, read_unread_whole, scratch_apply m c ⟨t.val - 1, hb⟩ (by dsimp only; omega)]
  refine Eq.trans ?_ (Sums.halves (n := 2048) rfl _)
  refine congrArg₂ (· + ·) (Finset.sum_congr rfl fun k _ => ?_) (Finset.sum_congr rfl fun k _ => ?_)
  · refine congrArg₂ (· * ·) ((blk0 m c _ k r).trans ?_) ((blk1 m c _ k l).trans ?_) <;>
      exact congrArg _ (congrArg₂ ix2 (Fin.ext (by dsimp only <;> omega)) (Fin.ext (by dsimp only <;> omega)))
  · refine congrArg₂ (· * ·) ((blk0 m c _ k r).trans ?_) ((blk1 m c _ k l).trans ?_) <;>
      exact congrArg _ (congrArg₂ ix2 (Fin.ext (by dsimp only <;> omega)) (Fin.ext (by dsimp only <;> omega)))

theorem final (c : Dev nD) : (dats m 0 c).arrAt 2 cfg0.N = fun i => val (m (c.tc.loc main_arg0)) (m (c.tc.loc main_arg1)) (i 0) (i 1) := by
  refine (dats m 0 c).arrAt_eq_of_covers 2 _ (by decide +kernel) fun t hf y => ?_
  have h1 : t.val % 2 = 1 := (flush0_2 t).mp hf
  have hN : t.val < 16 := lt_of_lt_of_eq t.isLt N_0
  blk_simp
  rw [after0_2, outsAt0_B m c t (by omega) h1]
  dsimp only
  frame_out
  idx_vars y
  refine (point m c t h1 y0 y1 _).trans (congrArg₂ _ (Fin.ext ?_) (Fin.ext ?_)) <;> blk_simp [idx t]

/-- The kernel's run: its result is `val` of the arguments, which it keeps. -/
theorem kernel_run : θ_run defs (onTc (τ := τ) (main (F := Ideal))) ⟨m, fun _ => 0, ρ⟩ fun r => ∀ c : Dev nD,
      r.2.mem (c.tc.loc main_v0)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) :=
  (θ_run defs _ _).mono (fun r h c => ⟨(h c).1.trans (final m c), (h c).2⟩)
    (Cert.UpGradIdeal.Value.run_blocks (F := Ideal) m ρ)

end kernel

/-! ## The reference -/

section reference
open Cert.UpGradRefIdeal Cert.UpGradRefIdeal.Gen

variable (m : (ℓ : Loc nD τ sig) → Buf (Elt Ideal) ℓ) (ρ : Dev nD → PrngReg)

/-- The reference's run: its result is `val` of the arguments, which it keeps. -/
theorem ref_run : θ_run defs (onTc (τ := τ) (main (F := Ideal))) ⟨m, fun _ => 0, ρ⟩ fun r => ∀ c : Dev nD,
      r.2.mem (c.tc.loc main_v7)
        = (fun i => val (m (c.tc.loc main_arg0)) (m (c.tc.loc main_arg1)) (i 0) (i 1))
      ∧ r.2.mem (c.tc.loc main_arg0) = m (c.tc.loc main_arg0)
      ∧ r.2.mem (c.tc.loc main_arg1) = m (c.tc.loc main_arg1) := by
  refine (θ_run defs _ _).mono (fun r h c => ⟨(h c).1.trans ?_, (h c).2⟩)
    (Cert.UpGradRefIdeal.Value.run (F := Ideal) m ρ)
  clear h; funext i; idx_vars i; clean_types; pointwise
  rfl

end reference

/-! ## The claims -/

/-- The reference runs to its end and keeps its arguments. -/
theorem frame_ref : Cert.quiescent_UpGradRefIdeal := fun m ρ _ =>
  (θ_run Cert.UpGradRefIdeal.defs _ _).mono (fun r h => ⟨fun c => (h c).2,
      Idealize.ShloMosaic.sem_eq_zero_of_no_sems (by decide) r.2⟩)
    (Cert.UpGradRefIdeal.Value.run (F := Ideal) m ρ)

/-- Kernel and reference end with equal results. -/
theorem algebraic : Cert.algebraic_UpGradIdeal_UpGradRefIdeal := by
  intro m g m' g' _ hargs
  refine ⟨_, kernel_run m g, ?_⟩
  refine (θ_run _ _ _).mono (fun r h c => ?_) (ref_run m' g')
  obtain ⟨a0, a1⟩ := hargs c
  obtain ⟨h0, hk⟩ := h c
  rw [a0, a1] at h0
  exact ⟨h0, hk⟩

end Cert.UpGradProof

end
-- ==== Proof.lean ====
/-
The proof of the claims of this directory, put together from the modules beside it: each call of the
training step has its own module, in which its frame, the value of its results and the value of the
reference's results are proved.
-/
module

public import proofs.«01_k».proof.Proof.Gen.KernelIdeal.Value
public import proofs.«01_k».proof.Proof.Gen.ReferenceIdeal.Run
public import proofs.«01_k».proof.Proof.Gen.DownGradIdeal.Value
public import proofs.«01_k».proof.Proof.Gen.DownGradRefIdeal.Run
public import proofs.«01_k».proof.Proof.Gen.GateUpGradIdeal.Value
public import proofs.«01_k».proof.Proof.Gen.GateUpGradRefIdeal.Run
public import proofs.«01_k».proof.Proof.Gen.ProjMainIdeal.Value
public import proofs.«01_k».proof.Proof.Gen.ProjMainRefIdeal.Run
public import proofs.«01_k».proof.Proof.Gen.InGradIdeal.Value
public import proofs.«01_k».proof.Proof.Gen.InGradRefIdeal.Run
public import proofs.«01_k».proof.Proof.Gen.NormMixOutIdeal.Value
public import proofs.«01_k».proof.Proof.Gen.NormMixOutRefIdeal.Run
public import proofs.«01_k».proof.Proof.Gen.OutProjIdeal.Value
public import proofs.«01_k».proof.Proof.Gen.OutProjRefIdeal.Run
public import proofs.«01_k».proof.Proof.Gen.MixGradIdeal.Value
public import proofs.«01_k».proof.Proof.Gen.MixGradRefIdeal.Run
public import proofs.«01_k».proof.Proof.Gen.OutGradIdeal.Value
public import proofs.«01_k».proof.Proof.Gen.OutGradRefIdeal.Run
public import proofs.«01_k».proof.Proof.Gen.FfnGateIdeal.Value
public import proofs.«01_k».proof.Proof.Gen.FfnGateRefIdeal.Run
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run
public import proofs.«01_k».proof.Proof.Gen.NormOutGateIdeal.Value
public import proofs.«01_k».proof.Proof.Gen.NormOutGateRefIdeal.Run
public import proofs.«01_k».proof.Proof.Gen.NormOutUpIdeal.Value
public import proofs.«01_k».proof.Proof.Gen.NormOutUpRefIdeal.Run
public import proofs.«01_k».proof.Proof.Gen.GateGradIdeal.Value
public import proofs.«01_k».proof.Proof.Gen.GateGradRefIdeal.Run
public import proofs.«01_k».proof.Proof.Gen.UpGradIdeal.Value
public import proofs.«01_k».proof.Proof.Gen.UpGradRefIdeal.Run
public import proofs.«01_k».proof.Proof.Gen.NormMixIdeal.Value
public import proofs.«01_k».proof.Proof.Gen.NormMixRefIdeal.Run
public import proofs.«01_k».proof.Proof.Gen.NormFfnIdeal.Value
public import proofs.«01_k».proof.Proof.Gen.NormFfnRefIdeal.Run
public import proofs.«01_k».proof.Proof.Gen.NormMixGradIdeal.Value
public import proofs.«01_k».proof.Proof.Gen.NormMixGradRefIdeal.Run
public import proofs.«01_k».proof.Proof.Gen.NormFfnGradIdeal.Value
public import proofs.«01_k».proof.Proof.Gen.NormFfnGradRefIdeal.Run
public import proofs.«01_k».proof.Proof.Gen.LossHeadIdeal.Value
public import proofs.«01_k».proof.Proof.Gen.LossHeadRefIdeal.Run
public import proofs.«01_k».proof.Proof.Gen.ProjDtIdeal.Value
public import proofs.«01_k».proof.Proof.Gen.ProjDtRefIdeal.Run
public import proofs.«01_k».proof.Proof.Gen.InDtGradIdeal.Value
public import proofs.«01_k».proof.Proof.Gen.InDtGradRefIdeal.Run
public import proofs.«01_k».proof.Proof.Gen.NormMixOutDtIdeal.Value
public import proofs.«01_k».proof.Proof.Gen.NormMixOutDtRefIdeal.Run
public import proofs.«01_k».proof.Proof.Gen.SsmConvIdeal.Value
public import proofs.«01_k».proof.Proof.Gen.SsmConvRefIdeal.Run
public import proofs.«01_k».proof.Proof.Gen.ShortConvFwdIdeal.Value
public import proofs.«01_k».proof.Proof.Gen.ShortConvFwdRefIdeal.Run
public import proofs.«01_k».proof.Proof.Gen.ConvGradXIdeal.Value
public import proofs.«01_k».proof.Proof.Gen.ConvGradXRefIdeal.Run
public import proofs.«01_k».proof.Proof.Gen.ConvGradBIdeal.Value
public import proofs.«01_k».proof.Proof.Gen.ConvGradBRefIdeal.Run
public import proofs.«01_k».proof.Proof.Gen.ConvGradCIdeal.Value
public import proofs.«01_k».proof.Proof.Gen.ConvGradCRefIdeal.Run
public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamFfnIdeal.Value
public import proofs.«01_k».proof.Proof.Gen.AdamFfnRefIdeal.Run
public import proofs.«01_k».proof.Proof.Gen.AdamSmallIdeal.Value
public import proofs.«01_k».proof.Proof.Gen.AdamSmallRefIdeal.Run
public import proofs.«01_k».proof.Proof.Gen.GateNormRefIdeal.Run
public import proofs.«01_k».proof.Proof.Gen.GateNormGradRefIdeal.Run
public import proofs.«01_k».proof.Proof.Gen.SsdDtIdeal.Value
public import proofs.«01_k».proof.Proof.Gen.SsdDtRefIdeal.Run
public import proofs.«01_k».proof.Defs
public import proofs.«01_k».proof.Proof.SsdFwdFrame
public import proofs.«01_k».proof.Proof.SsdFwdIdealFrame
public import proofs.«01_k».proof.Proof.SsdBwdFrame
public import proofs.«01_k».proof.Proof.SsdBwdIdealFrame
public import proofs.«01_k».proof.Proof.AdamFfn
public import proofs.«01_k».proof.Proof.AdamIn
public import proofs.«01_k».proof.Proof.AdamOut
public import proofs.«01_k».proof.Proof.AdamSmall
public import proofs.«01_k».proof.Proof.ConvGradB
public import proofs.«01_k».proof.Proof.ConvGradC
public import proofs.«01_k».proof.Proof.ConvGradX
public import proofs.«01_k».proof.Proof.DownGrad
public import proofs.«01_k».proof.Proof.FfnDown
public import proofs.«01_k».proof.Proof.FfnGate
public import proofs.«01_k».proof.Proof.FfnUp
public import proofs.«01_k».proof.Proof.GateGrad
public import proofs.«01_k».proof.Proof.GateNorm
public import proofs.«01_k».proof.Proof.GateNormGrad
public import proofs.«01_k».proof.Proof.GateUpGrad
public import proofs.«01_k».proof.Proof.InDtGrad
public import proofs.«01_k».proof.Proof.InGrad
public import proofs.«01_k».proof.Proof.LossHead
public import proofs.«01_k».proof.Proof.MixGrad
public import proofs.«01_k».proof.Proof.NormFfn
public import proofs.«01_k».proof.Proof.NormFfnGrad
public import proofs.«01_k».proof.Proof.NormMix
public import proofs.«01_k».proof.Proof.NormMixGrad
public import proofs.«01_k».proof.Proof.NormMixOut
public import proofs.«01_k».proof.Proof.NormMixOutDt
public import proofs.«01_k».proof.Proof.NormOutGate
public import proofs.«01_k».proof.Proof.NormOutUp
public import proofs.«01_k».proof.Proof.OutGrad
public import proofs.«01_k».proof.Proof.OutProj
public import proofs.«01_k».proof.Proof.ProjDt
public import proofs.«01_k».proof.Proof.ProjMain
public import proofs.«01_k».proof.Proof.ShortConvFwd
public import proofs.«01_k».proof.Proof.ShortConvRef
public import proofs.«01_k».proof.Proof.SsdDt
public import proofs.«01_k».proof.Proof.SsmConv
public import proofs.«01_k».proof.Proof.UpGrad
public import proofs.«01_k».proof.Proof.Gen.Kernel.Frame
public import proofs.«01_k».proof.Proof.Gen.DownGrad.Frame
public import proofs.«01_k».proof.Proof.Gen.GateUpGrad.Frame
public import proofs.«01_k».proof.Proof.Gen.ProjMain.Frame
public import proofs.«01_k».proof.Proof.Gen.InGrad.Frame
public import proofs.«01_k».proof.Proof.Gen.NormMixOut.Frame
public import proofs.«01_k».proof.Proof.Gen.OutProj.Frame
public import proofs.«01_k».proof.Proof.Gen.MixGrad.Frame
public import proofs.«01_k».proof.Proof.Gen.OutGrad.Frame
public import proofs.«01_k».proof.Proof.Gen.FfnGate.Frame
public import proofs.«01_k».proof.Proof.Gen.FfnUp.Frame
public import proofs.«01_k».proof.Proof.Gen.FfnDown.Frame
public import proofs.«01_k».proof.Proof.Gen.NormOutGate.Frame
public import proofs.«01_k».proof.Proof.Gen.NormOutUp.Frame
public import proofs.«01_k».proof.Proof.Gen.GateGrad.Frame
public import proofs.«01_k».proof.Proof.Gen.UpGrad.Frame
public import proofs.«01_k».proof.Proof.Gen.NormMix.Frame
public import proofs.«01_k».proof.Proof.Gen.NormFfn.Frame
public import proofs.«01_k».proof.Proof.Gen.NormMixGrad.Frame
public import proofs.«01_k».proof.Proof.Gen.NormFfnGrad.Frame
public import proofs.«01_k».proof.Proof.Gen.LossHead.Frame
public import proofs.«01_k».proof.Proof.Gen.ProjDt.Frame
public import proofs.«01_k».proof.Proof.Gen.InDtGrad.Frame
public import proofs.«01_k».proof.Proof.Gen.NormMixOutDt.Frame
public import proofs.«01_k».proof.Proof.Gen.SsmConv.Frame
public import proofs.«01_k».proof.Proof.Gen.ShortConvFwd.Frame
public import proofs.«01_k».proof.Proof.Gen.ConvGradX.Frame
public import proofs.«01_k».proof.Proof.Gen.ConvGradB.Frame
public import proofs.«01_k».proof.Proof.Gen.ConvGradC.Frame
public import proofs.«01_k».proof.Proof.Gen.AdamIn.Frame
public import proofs.«01_k».proof.Proof.Gen.AdamOut.Frame
public import proofs.«01_k».proof.Proof.Gen.AdamFfn.Frame
public import proofs.«01_k».proof.Proof.Gen.AdamSmall.Frame
public import proofs.«01_k».proof.Proof.Gen.GateNorm.Frame
public import proofs.«01_k».proof.Proof.Gen.GateNormIdeal.Frame
public import proofs.«01_k».proof.Proof.Gen.GateNormGrad.Frame
public import proofs.«01_k».proof.Proof.Gen.GateNormGradIdeal.Frame
public import proofs.«01_k».proof.Proof.Gen.SsdFwd.Frame
public import proofs.«01_k».proof.Proof.Gen.SsdFwdIdeal.Frame
public import proofs.«01_k».proof.Proof.Gen.SsdBwd.Frame
public import proofs.«01_k».proof.Proof.Gen.SsdBwdIdeal.Frame
public import proofs.«01_k».proof.Proof.Gen.SsdDt.Frame
public import proofs.«01_k».proof.Proof.Gen.Pre_finite_cotangent
public import proofs.«01_k».proof.Proof.Gen.Pre_finite_ct
public import proofs.«01_k».proof.Proof.Gen.Pre_finite_ct_bc
public import proofs.«01_k».proof.Proof.Gen.Pre_finite_steps
public import Idealize.ShloMosaic.Adequacy
public import Idealize.ShloMosaic.Init

@[expose] public section

namespace Cert.Proof

open Idealize.ShloMosaic

/-- All the claims, under the generated witnesses of the programs' side conditions. -/
theorem claim : Cert.Claim := ⟨
  Cert.Kernel.Gen.facts,
  Cert.KernelIdeal.Gen.facts,
  Cert.ReferenceIdeal.Gen.facts,
  Cert.DownGrad.Gen.facts,
  Cert.DownGradIdeal.Gen.facts,
  Cert.DownGradRefIdeal.Gen.facts,
  Cert.GateUpGrad.Gen.facts,
  Cert.GateUpGradIdeal.Gen.facts,
  Cert.GateUpGradRefIdeal.Gen.facts,
  Cert.ProjMain.Gen.facts,
  Cert.ProjMainIdeal.Gen.facts,
  Cert.ProjMainRefIdeal.Gen.facts,
  Cert.InGrad.Gen.facts,
  Cert.InGradIdeal.Gen.facts,
  Cert.InGradRefIdeal.Gen.facts,
  Cert.NormMixOut.Gen.facts,
  Cert.NormMixOutIdeal.Gen.facts,
  Cert.NormMixOutRefIdeal.Gen.facts,
  Cert.OutProj.Gen.facts,
  Cert.OutProjIdeal.Gen.facts,
  Cert.OutProjRefIdeal.Gen.facts,
  Cert.MixGrad.Gen.facts,
  Cert.MixGradIdeal.Gen.facts,
  Cert.MixGradRefIdeal.Gen.facts,
  Cert.OutGrad.Gen.facts,
  Cert.OutGradIdeal.Gen.facts,
  Cert.OutGradRefIdeal.Gen.facts,
  Cert.FfnGate.Gen.facts,
  Cert.FfnGateIdeal.Gen.facts,
  Cert.FfnGateRefIdeal.Gen.facts,
  Cert.FfnUp.Gen.facts,
  Cert.FfnUpIdeal.Gen.facts,
  Cert.FfnUpRefIdeal.Gen.facts,
  Cert.FfnDown.Gen.facts,
  Cert.FfnDownIdeal.Gen.facts,
  Cert.FfnDownRefIdeal.Gen.facts,
  Cert.NormOutGate.Gen.facts,
  Cert.NormOutGateIdeal.Gen.facts,
  Cert.NormOutGateRefIdeal.Gen.facts,
  Cert.NormOutUp.Gen.facts,
  Cert.NormOutUpIdeal.Gen.facts,
  Cert.NormOutUpRefIdeal.Gen.facts,
  Cert.GateGrad.Gen.facts,
  Cert.GateGradIdeal.Gen.facts,
  Cert.GateGradRefIdeal.Gen.facts,
  Cert.UpGrad.Gen.facts,
  Cert.UpGradIdeal.Gen.facts,
  Cert.UpGradRefIdeal.Gen.facts,
  Cert.NormMix.Gen.facts,
  Cert.NormMixIdeal.Gen.facts,
  Cert.NormMixRefIdeal.Gen.facts,
  Cert.NormFfn.Gen.facts,
  Cert.NormFfnIdeal.Gen.facts,
  Cert.NormFfnRefIdeal.Gen.facts,
  Cert.NormMixGrad.Gen.facts,
  Cert.NormMixGradIdeal.Gen.facts,
  Cert.NormMixGradRefIdeal.Gen.facts,
  Cert.NormFfnGrad.Gen.facts,
  Cert.NormFfnGradIdeal.Gen.facts,
  Cert.NormFfnGradRefIdeal.Gen.facts,
  Cert.LossHead.Gen.facts,
  Cert.LossHeadIdeal.Gen.facts,
  Cert.LossHeadRefIdeal.Gen.facts,
  Cert.ProjDt.Gen.facts,
  Cert.ProjDtIdeal.Gen.facts,
  Cert.ProjDtRefIdeal.Gen.facts,
  Cert.InDtGrad.Gen.facts,
  Cert.InDtGradIdeal.Gen.facts,
  Cert.InDtGradRefIdeal.Gen.facts,
  Cert.NormMixOutDt.Gen.facts,
  Cert.NormMixOutDtIdeal.Gen.facts,
  Cert.NormMixOutDtRefIdeal.Gen.facts,
  Cert.SsmConv.Gen.facts,
  Cert.SsmConvIdeal.Gen.facts,
  Cert.SsmConvRefIdeal.Gen.facts,
  Cert.ShortConvFwd.Gen.facts,
  Cert.ShortConvFwdIdeal.Gen.facts,
  Cert.ShortConvFwdRefIdeal.Gen.facts,
  Cert.ConvGradX.Gen.facts,
  Cert.ConvGradXIdeal.Gen.facts,
  Cert.ConvGradXRefIdeal.Gen.facts,
  Cert.ConvGradB.Gen.facts,
  Cert.ConvGradBIdeal.Gen.facts,
  Cert.ConvGradBRefIdeal.Gen.facts,
  Cert.ConvGradC.Gen.facts,
  Cert.ConvGradCIdeal.Gen.facts,
  Cert.ConvGradCRefIdeal.Gen.facts,
  Cert.AdamIn.Gen.facts,
  Cert.AdamInIdeal.Gen.facts,
  Cert.AdamInRefIdeal.Gen.facts,
  Cert.AdamOut.Gen.facts,
  Cert.AdamOutIdeal.Gen.facts,
  Cert.AdamOutRefIdeal.Gen.facts,
  Cert.AdamFfn.Gen.facts,
  Cert.AdamFfnIdeal.Gen.facts,
  Cert.AdamFfnRefIdeal.Gen.facts,
  Cert.AdamSmall.Gen.facts,
  Cert.AdamSmallIdeal.Gen.facts,
  Cert.AdamSmallRefIdeal.Gen.facts,
  Cert.GateNorm.Gen.facts,
  Cert.GateNormIdeal.Gen.facts,
  Cert.GateNormRefIdeal.Gen.facts,
  Cert.GateNormGrad.Gen.facts,
  Cert.GateNormGradIdeal.Gen.facts,
  Cert.GateNormGradRefIdeal.Gen.facts,
  Cert.SsdFwd.Gen.facts,
  Cert.SsdFwdIdeal.Gen.facts,
  Cert.SsdBwd.Gen.facts,
  Cert.SsdBwdIdeal.Gen.facts,
  Cert.SsdDt.Gen.facts,
  Cert.SsdDtIdeal.Gen.facts,
  Cert.SsdDtRefIdeal.Gen.facts,
  Cert.Pre_finite_cotangent.Gen.facts,
  Cert.Pre_finite_ct.Gen.facts,
  Cert.Pre_finite_ct_bc.Gen.facts,
  Cert.Pre_finite_steps.Gen.facts,
  fun m ρ _ => Cert.Kernel.Gen.frame m ρ,
  fun m ρ _ => Cert.KernelIdeal.Gen.frame m ρ,
  Cert.ShortConv.frame_ref,
  fun m ρ _ => Cert.DownGrad.Gen.frame m ρ,
  fun m ρ _ => Cert.DownGradIdeal.Gen.frame m ρ,
  Cert.DownGradProof.frame_ref,
  fun m ρ _ => Cert.GateUpGrad.Gen.frame m ρ,
  fun m ρ _ => Cert.GateUpGradIdeal.Gen.frame m ρ,
  fun m ρ _ => Cert.GateUpGradIdeal.Gen.frame m ρ,
  Cert.GateUpGradProof.frame_ref,
  fun m ρ _ => Cert.GateUpGradProof.frame_ref m ρ trivial,
  fun m ρ _ => Cert.ProjMain.Gen.frame m ρ,
  fun m ρ _ => Cert.ProjMainIdeal.Gen.frame m ρ,
  Cert.ProjMainProof.frame_ref,
  fun m ρ _ => Cert.InGrad.Gen.frame m ρ,
  fun m ρ _ => Cert.InGradIdeal.Gen.frame m ρ,
  Cert.InGradProof.frame_ref,
  fun m ρ _ => Cert.NormMixOut.Gen.frame m ρ,
  fun m ρ _ => Cert.NormMixOutIdeal.Gen.frame m ρ,
  Cert.NormMixOutProof.frame_ref,
  fun m ρ _ => Cert.OutProj.Gen.frame m ρ,
  fun m ρ _ => Cert.OutProjIdeal.Gen.frame m ρ,
  Cert.OutProjProof.frame_ref,
  fun m ρ _ => Cert.MixGrad.Gen.frame m ρ,
  fun m ρ _ => Cert.MixGradIdeal.Gen.frame m ρ,
  Cert.MixGradProof.frame_ref,
  fun m ρ _ => Cert.OutGrad.Gen.frame m ρ,
  fun m ρ _ => Cert.OutGradIdeal.Gen.frame m ρ,
  Cert.OutGradProof.frame_ref,
  fun m ρ _ => Cert.FfnGate.Gen.frame m ρ,
  fun m ρ _ => Cert.FfnGateIdeal.Gen.frame m ρ,
  Cert.FfnGateProof.frame_ref,
  fun m ρ _ => Cert.FfnUp.Gen.frame m ρ,
  fun m ρ _ => Cert.FfnUpIdeal.Gen.frame m ρ,
  Cert.FfnUpProof.frame_ref,
  fun m ρ _ => Cert.FfnDown.Gen.frame m ρ,
  fun m ρ _ => Cert.FfnDownIdeal.Gen.frame m ρ,
  Cert.FfnDownProof.frame_ref,
  fun m ρ _ => Cert.NormOutGate.Gen.frame m ρ,
  fun m ρ _ => Cert.NormOutGateIdeal.Gen.frame m ρ,
  Cert.NormOutGateProof.frame_ref,
  fun m ρ _ => Cert.NormOutUp.Gen.frame m ρ,
  fun m ρ _ => Cert.NormOutUpIdeal.Gen.frame m ρ,
  Cert.NormOutUpProof.frame_ref,
  fun m ρ _ => Cert.GateGrad.Gen.frame m ρ,
  fun m ρ _ => Cert.GateGradIdeal.Gen.frame m ρ,
  Cert.GateGradProof.frame_ref,
  fun m ρ _ => Cert.UpGrad.Gen.frame m ρ,
  fun m ρ _ => Cert.UpGradIdeal.Gen.frame m ρ,
  Cert.UpGradProof.frame_ref,
  fun m ρ _ => Cert.NormMix.Gen.frame m ρ,
  fun m ρ _ => Cert.NormMixIdeal.Gen.frame m ρ,
  Cert.NormMixProof.frame_ref,
  fun m ρ _ => Cert.NormFfn.Gen.frame m ρ,
  fun m ρ _ => Cert.NormFfnIdeal.Gen.frame m ρ,
  Cert.NormFfnProof.frame_ref,
  fun m ρ _ => Cert.NormMixGrad.Gen.frame m ρ,
  fun m ρ _ => Cert.NormMixGradIdeal.Gen.frame m ρ,
  Cert.NormMixGradProof.frame_ref,
  fun m ρ _ => Cert.NormFfnGrad.Gen.frame m ρ,
  fun m ρ _ => Cert.NormFfnGradIdeal.Gen.frame m ρ,
  Cert.NormFfnGradProof.frame_ref,
  fun m ρ _ => Cert.LossHead.Gen.frame m ρ,
  fun m ρ _ => Cert.LossHeadIdeal.Gen.frame m ρ,
  Cert.LossHeadProof.frame_ref,
  fun m ρ _ => Cert.ProjDt.Gen.frame m ρ,
  fun m ρ _ => Cert.ProjDtIdeal.Gen.frame m ρ,
  Cert.ProjDtProof.frame_ref,
  fun m ρ _ => Cert.InDtGrad.Gen.frame m ρ,
  fun m ρ _ => Cert.InDtGradIdeal.Gen.frame m ρ,
  Cert.InDtGradProof.frame_ref,
  fun m ρ _ => Cert.NormMixOutDt.Gen.frame m ρ,
  fun m ρ _ => Cert.NormMixOutDtIdeal.Gen.frame m ρ,
  Cert.NormMixOutDtProof.frame_ref,
  fun m ρ _ => Cert.SsmConv.Gen.frame m ρ,
  fun m ρ _ => Cert.SsmConvIdeal.Gen.frame m ρ,
  Cert.SsmConvProof.frame_ref,
  fun m ρ _ => Cert.ShortConvFwd.Gen.frame m ρ,
  fun m ρ _ => Cert.ShortConvFwdIdeal.Gen.frame m ρ,
  Cert.ShortConvFwdProof.frame_ref,
  fun m ρ _ => Cert.ConvGradX.Gen.frame m ρ,
  fun m ρ _ => Cert.ConvGradXIdeal.Gen.frame m ρ,
  fun m ρ _ => Cert.ConvGradXIdeal.Gen.frame m ρ,
  Cert.ConvGradXProof.frame_ref,
  fun m ρ _ => Cert.ConvGradXProof.frame_ref m ρ trivial,
  fun m ρ _ => Cert.ConvGradB.Gen.frame m ρ,
  fun m ρ _ => Cert.ConvGradBIdeal.Gen.frame m ρ,
  fun m ρ _ => Cert.ConvGradBIdeal.Gen.frame m ρ,
  Cert.ConvGradBProof.frame_ref,
  fun m ρ _ => Cert.ConvGradBProof.frame_ref m ρ trivial,
  fun m ρ _ => Cert.ConvGradC.Gen.frame m ρ,
  fun m ρ _ => Cert.ConvGradCIdeal.Gen.frame m ρ,
  fun m ρ _ => Cert.ConvGradCIdeal.Gen.frame m ρ,
  Cert.ConvGradCProof.frame_ref,
  fun m ρ _ => Cert.ConvGradCProof.frame_ref m ρ trivial,
  fun m ρ _ => Cert.AdamIn.Gen.frame m ρ,
  fun m ρ _ => Cert.AdamInIdeal.Gen.frame m ρ,
  Cert.AdamInProof.frame_ref,
  fun m ρ _ => Cert.AdamOut.Gen.frame m ρ,
  fun m ρ _ => Cert.AdamOutIdeal.Gen.frame m ρ,
  Cert.AdamOutProof.frame_ref,
  fun m ρ _ => Cert.AdamFfn.Gen.frame m ρ,
  fun m ρ _ => Cert.AdamFfnIdeal.Gen.frame m ρ,
  Cert.AdamFfnProof.frame_ref,
  fun m ρ _ => Cert.AdamSmall.Gen.frame m ρ,
  fun m ρ _ => Cert.AdamSmallIdeal.Gen.frame m ρ,
  Cert.AdamSmallProof.frame_ref,
  fun m ρ _ => Cert.GateNorm.Gen.frame m ρ,
  fun m ρ _ => Cert.GateNormIdeal.Gen.frame m ρ,
  Cert.GateNormProof.frame_ref,
  fun m ρ _ => Cert.GateNormGrad.Gen.frame m ρ,
  fun m ρ _ => Cert.GateNormGradIdeal.Gen.frame m ρ,
  Cert.GateNormGradProof.frame_ref,
  fun m ρ _ => Cert.SsdFwdFrame.frame m ρ,
  fun m ρ _ => Cert.SsdFwdIdealFrame.frame m ρ,
  fun m ρ _ => Cert.SsdBwdFrame.frame m ρ,
  fun m ρ _ => Cert.SsdBwdIdealFrame.frame m ρ,
  fun m ρ _ => Cert.SsdDt.Gen.frame m ρ,
  fun m ρ _ => Cert.SsdDtIdeal.Gen.frame m ρ,
  fun m ρ _ => Cert.SsdDtIdeal.Gen.frame m ρ,
  Cert.SsdDtProof.frame_ref,
  fun m ρ _ => Cert.SsdDtProof.frame_ref m ρ trivial,
  trivial,
  Cert.ShortConv.algebraic,
  trivial,
  Cert.DownGradProof.algebraic,
  trivial,
  Cert.GateUpGradProof.algebraic,
  trivial,
  Cert.ProjMainProof.algebraic,
  trivial,
  Cert.InGradProof.algebraic,
  trivial,
  Cert.NormMixOutProof.algebraic,
  trivial,
  Cert.OutProjProof.algebraic,
  trivial,
  Cert.MixGradProof.algebraic,
  trivial,
  Cert.OutGradProof.algebraic,
  trivial,
  Cert.FfnGateProof.algebraic,
  trivial,
  Cert.FfnUpProof.algebraic,
  trivial,
  Cert.FfnDownProof.algebraic,
  trivial,
  Cert.NormOutGateProof.algebraic,
  trivial,
  Cert.NormOutUpProof.algebraic,
  trivial,
  Cert.GateGradProof.algebraic,
  trivial,
  Cert.UpGradProof.algebraic,
  trivial,
  Cert.NormMixProof.algebraic,
  trivial,
  Cert.NormFfnProof.algebraic,
  trivial,
  Cert.NormMixGradProof.algebraic,
  trivial,
  Cert.NormFfnGradProof.algebraic,
  trivial,
  Cert.LossHeadProof.algebraic,
  trivial,
  Cert.ProjDtProof.algebraic,
  trivial,
  Cert.InDtGradProof.algebraic,
  trivial,
  Cert.NormMixOutDtProof.algebraic,
  trivial,
  Cert.SsmConvProof.algebraic,
  trivial,
  Cert.ShortConvFwdProof.algebraic,
  trivial,
  Cert.ConvGradXProof.algebraic,
  trivial,
  Cert.ConvGradBProof.algebraic,
  trivial,
  Cert.ConvGradCProof.algebraic,
  trivial,
  Cert.AdamInProof.algebraic,
  trivial,
  Cert.AdamOutProof.algebraic,
  trivial,
  Cert.AdamFfnProof.algebraic,
  trivial,
  Cert.AdamSmallProof.algebraic,
  trivial,
  Cert.GateNormProof.algebraic,
  trivial,
  Cert.GateNormGradProof.algebraic,
  IdealRules.named_const.statement Cert.SsdFwdIdeal.κ "mask" .f32 0xF149F2CA#32 ⊥ rfl,
  IdealRules.named_const.statement Cert.SsdBwdIdeal.κ "mask" .f32 0xF149F2CA#32 ⊥ rfl,
  trivial,
  Cert.SsdDtProof.algebraic⟩

end Cert.Proof

end
